-- ==== Defs.lean ====
def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6))) = (fun _ => 1#1)

def Pre_Band0DqKernel (m : (ℓ : Loc Cert.Band0DqKernel.nD Cert.Band0DqKernel.τ Cert.Band0DqKernel.sig) → Buf (Elt Bits) ℓ) : Prop :=
  True

def Pre_Band0DqKernelIdeal (m : (ℓ : Loc Cert.Band0DqKernelIdeal.nD Cert.Band0DqKernelIdeal.τ Cert.Band0DqKernelIdeal.sig) → Buf (Elt Ideal) ℓ) : Prop :=
  True

def Pre_Band0DqKernelIdeal_band_finite [hPre_band_finite : Cert.Pre_band_finite.Facts] (m : (ℓ : Loc Cert.Band0DqKernelIdeal.nD Cert.Band0DqKernelIdeal.τ Cert.Band0DqKernelIdeal.sig) → Buf (Elt Ideal) ℓ) : Prop :=
  ∀ c : Dev Cert.Band0DqKernelIdeal.nD,
    (Cert.Pre_band_finite.fn (F := Ideal) (m ((c.tc : Thread Cert.Band0DqKernelIdeal.nD Cert.Band0DqKernelIdeal.τ).loc Cert.Band0DqKernelIdeal.main_arg0)) (m ((c.tc : Thread Cert.Band0DqKernelIdeal.nD Cert.Band0DqKernelIdeal.τ).loc Cert.Band0DqKernelIdeal.main_arg1)) (m ((c.tc : Thread Cert.Band0DqKernelIdeal.nD Cert.Band0DqKernelIdeal.τ).loc Cert.Band0DqKernelIdeal.main_arg2)) (m ((c.tc : Thread Cert.Band0DqKernelIdeal.nD Cert.Band0DqKernelIdeal.τ).loc Cert.Band0DqKernelIdeal.main_arg3)) (m ((c.tc : Thread Cert.Band0DqKernelIdeal.nD Cert.Band0DqKernelIdeal.τ).loc Cert.Band0DqKernelIdeal.main_arg4))) = (fun _ => 1#1)

def Pre_Band0DqReferenceIdeal (m : (ℓ : Loc Cert.Band0DqReferenceIdeal.nD Cert.Band0DqReferenceIdeal.τ Cert.Band0DqReferenceIdeal.sig) → Buf (Elt Ideal) ℓ) : Prop :=
  True

def Pre_Band0DqReferenceIdeal_band_finite [hPre_band_finite : Cert.Pre_band_finite.Facts] (m : (ℓ : Loc Cert.Band0DqReferenceIdeal.nD Cert.Band0DqReferenceIdeal.τ Cert.Band0DqReferenceIdeal.sig) → Buf (Elt Ideal) ℓ) : Prop :=
  ∀ c : Dev Cert.Band0DqReferenceIdeal.nD,
    (Cert.Pre_band_finite.fn (F := Ideal) (m ((c.tc : Thread Cert.Band0DqReferenceIdeal.nD Cert.Band0DqReferenceIdeal.τ).loc Cert.Band0DqReferenceIdeal.main_arg0)) (m ((c.tc : Thread Cert.Band0DqReferenceIdeal.nD Cert.Band0DqReferenceIdeal.τ).loc Cert.Band0DqReferenceIdeal.main_arg1)) (m ((c.tc : Thread Cert.Band0DqReferenceIdeal.nD Cert.Band0DqReferenceIdeal.τ).loc Cert.Band0DqReferenceIdeal.main_arg2)) (m ((c.tc : Thread Cert.Band0DqReferenceIdeal.nD Cert.Band0DqReferenceIdeal.τ).loc Cert.Band0DqReferenceIdeal.main_arg3)) (m ((c.tc : Thread Cert.Band0DqReferenceIdeal.nD Cert.Band0DqReferenceIdeal.τ).loc Cert.Band0DqReferenceIdeal.main_arg4))) = (fun _ => 1#1)

def Pre_Band0DkvKernel (m : (ℓ : Loc Cert.Band0DkvKernel.nD Cert.Band0DkvKernel.τ Cert.Band0DkvKernel.sig) → Buf (Elt Bits) ℓ) : Prop :=
  True

def Pre_Band0DkvKernelIdeal (m : (ℓ : Loc Cert.Band0DkvKernelIdeal.nD Cert.Band0DkvKernelIdeal.τ Cert.Band0DkvKernelIdeal.sig) → Buf (Elt Ideal) ℓ) : Prop :=
  True

def Pre_Band0DkvKernelIdeal_band_finite [hPre_band_finite : Cert.Pre_band_finite.Facts] (m : (ℓ : Loc Cert.Band0DkvKernelIdeal.nD Cert.Band0DkvKernelIdeal.τ Cert.Band0DkvKernelIdeal.sig) → Buf (Elt Ideal) ℓ) : Prop :=
  ∀ c : Dev Cert.Band0DkvKernelIdeal.nD,
    (Cert.Pre_band_finite.fn (F := Ideal) (m ((c.tc : Thread Cert.Band0DkvKernelIdeal.nD Cert.Band0DkvKernelIdeal.τ).loc Cert.Band0DkvKernelIdeal.main_arg0)) (m ((c.tc : Thread Cert.Band0DkvKernelIdeal.nD Cert.Band0DkvKernelIdeal.τ).loc Cert.Band0DkvKernelIdeal.main_arg1)) (m ((c.tc : Thread Cert.Band0DkvKernelIdeal.nD Cert.Band0DkvKernelIdeal.τ).loc Cert.Band0DkvKernelIdeal.main_arg2)) (m ((c.tc : Thread Cert.Band0DkvKernelIdeal.nD Cert.Band0DkvKernelIdeal.τ).loc Cert.Band0DkvKernelIdeal.main_arg3)) (m ((c.tc : Thread Cert.Band0DkvKernelIdeal.nD Cert.Band0DkvKernelIdeal.τ).loc Cert.Band0DkvKernelIdeal.main_arg4))) = (fun _ => 1#1)

def Pre_Band0DkvReferenceIdeal (m : (ℓ : Loc Cert.Band0DkvReferenceIdeal.nD Cert.Band0DkvReferenceIdeal.τ Cert.Band0DkvReferenceIdeal.sig) → Buf (Elt Ideal) ℓ) : Prop :=
  True

def Pre_Band0DkvReferenceIdeal_band_finite [hPre_band_finite : Cert.Pre_band_finite.Facts] (m : (ℓ : Loc Cert.Band0DkvReferenceIdeal.nD Cert.Band0DkvReferenceIdeal.τ Cert.Band0DkvReferenceIdeal.sig) → Buf (Elt Ideal) ℓ) : Prop :=
  ∀ c : Dev Cert.Band0DkvReferenceIdeal.nD,
    (Cert.Pre_band_finite.fn (F := Ideal) (m ((c.tc : Thread Cert.Band0DkvReferenceIdeal.nD Cert.Band0DkvReferenceIdeal.τ).loc Cert.Band0DkvReferenceIdeal.main_arg0)) (m ((c.tc : Thread Cert.Band0DkvReferenceIdeal.nD Cert.Band0DkvReferenceIdeal.τ).loc Cert.Band0DkvReferenceIdeal.main_arg1)) (m ((c.tc : Thread Cert.Band0DkvReferenceIdeal.nD Cert.Band0DkvReferenceIdeal.τ).loc Cert.Band0DkvReferenceIdeal.main_arg2)) (m ((c.tc : Thread Cert.Band0DkvReferenceIdeal.nD Cert.Band0DkvReferenceIdeal.τ).loc Cert.Band0DkvReferenceIdeal.main_arg3)) (m ((c.tc : Thread Cert.Band0DkvReferenceIdeal.nD Cert.Band0DkvReferenceIdeal.τ).loc Cert.Band0DkvReferenceIdeal.main_arg4))) = (fun _ => 1#1)

def Pre_Band1DqKernel (m : (ℓ : Loc Cert.Band1DqKernel.nD Cert.Band1DqKernel.τ Cert.Band1DqKernel.sig) → Buf (Elt Bits) ℓ) : Prop :=
  True

def Pre_Band1DqKernelIdeal (m : (ℓ : Loc Cert.Band1DqKernelIdeal.nD Cert.Band1DqKernelIdeal.τ Cert.Band1DqKernelIdeal.sig) → Buf (Elt Ideal) ℓ) : Prop :=
  True

def Pre_Band1DqKernelIdeal_band_finite [hPre_band_finite : Cert.Pre_band_finite.Facts] (m : (ℓ : Loc Cert.Band1DqKernelIdeal.nD Cert.Band1DqKernelIdeal.τ Cert.Band1DqKernelIdeal.sig) → Buf (Elt Ideal) ℓ) : Prop :=
  ∀ c : Dev Cert.Band1DqKernelIdeal.nD,
    (Cert.Pre_band_finite.fn (F := Ideal) (m ((c.tc : Thread Cert.Band1DqKernelIdeal.nD Cert.Band1DqKernelIdeal.τ).loc Cert.Band1DqKernelIdeal.main_arg0)) (m ((c.tc : Thread Cert.Band1DqKernelIdeal.nD Cert.Band1DqKernelIdeal.τ).loc Cert.Band1DqKernelIdeal.main_arg1)) (m ((c.tc : Thread Cert.Band1DqKernelIdeal.nD Cert.Band1DqKernelIdeal.τ).loc Cert.Band1DqKernelIdeal.main_arg2)) (m ((c.tc : Thread Cert.Band1DqKernelIdeal.nD Cert.Band1DqKernelIdeal.τ).loc Cert.Band1DqKernelIdeal.main_arg3)) (m ((c.tc : Thread Cert.Band1DqKernelIdeal.nD Cert.Band1DqKernelIdeal.τ).loc Cert.Band1DqKernelIdeal.main_arg4))) = (fun _ => 1#1)

def Pre_Band1DqReferenceIdeal (m : (ℓ : Loc Cert.Band1DqReferenceIdeal.nD Cert.Band1DqReferenceIdeal.τ Cert.Band1DqReferenceIdeal.sig) → Buf (Elt Ideal) ℓ) : Prop :=
  True

def Pre_Band1DqReferenceIdeal_band_finite [hPre_band_finite : Cert.Pre_band_finite.Facts] (m : (ℓ : Loc Cert.Band1DqReferenceIdeal.nD Cert.Band1DqReferenceIdeal.τ Cert.Band1DqReferenceIdeal.sig) → Buf (Elt Ideal) ℓ) : Prop :=
  ∀ c : Dev Cert.Band1DqReferenceIdeal.nD,
    (Cert.Pre_band_finite.fn (F := Ideal) (m ((c.tc : Thread Cert.Band1DqReferenceIdeal.nD Cert.Band1DqReferenceIdeal.τ).loc Cert.Band1DqReferenceIdeal.main_arg0)) (m ((c.tc : Thread Cert.Band1DqReferenceIdeal.nD Cert.Band1DqReferenceIdeal.τ).loc Cert.Band1DqReferenceIdeal.main_arg1)) (m ((c.tc : Thread Cert.Band1DqReferenceIdeal.nD Cert.Band1DqReferenceIdeal.τ).loc Cert.Band1DqReferenceIdeal.main_arg2)) (m ((c.tc : Thread Cert.Band1DqReferenceIdeal.nD Cert.Band1DqReferenceIdeal.τ).loc Cert.Band1DqReferenceIdeal.main_arg3)) (m ((c.tc : Thread Cert.Band1DqReferenceIdeal.nD Cert.Band1DqReferenceIdeal.τ).loc Cert.Band1DqReferenceIdeal.main_arg4))) = (fun _ => 1#1)

def Pre_Band1DkvKernel (m : (ℓ : Loc Cert.Band1DkvKernel.nD Cert.Band1DkvKernel.τ Cert.Band1DkvKernel.sig) → Buf (Elt Bits) ℓ) : Prop :=
  True

def Pre_Band1DkvKernelIdeal (m : (ℓ : Loc Cert.Band1DkvKernelIdeal.nD Cert.Band1DkvKernelIdeal.τ Cert.Band1DkvKernelIdeal.sig) → Buf (Elt Ideal) ℓ) : Prop :=
  True

def Pre_Band1DkvKernelIdeal_band_finite [hPre_band_finite : Cert.Pre_band_finite.Facts] (m : (ℓ : Loc Cert.Band1DkvKernelIdeal.nD Cert.Band1DkvKernelIdeal.τ Cert.Band1DkvKernelIdeal.sig) → Buf (Elt Ideal) ℓ) : Prop :=
  ∀ c : Dev Cert.Band1DkvKernelIdeal.nD,
    (Cert.Pre_band_finite.fn (F := Ideal) (m ((c.tc : Thread Cert.Band1DkvKernelIdeal.nD Cert.Band1DkvKernelIdeal.τ).loc Cert.Band1DkvKernelIdeal.main_arg0)) (m ((c.tc : Thread Cert.Band1DkvKernelIdeal.nD Cert.Band1DkvKernelIdeal.τ).loc Cert.Band1DkvKernelIdeal.main_arg1)) (m ((c.tc : Thread Cert.Band1DkvKernelIdeal.nD Cert.Band1DkvKernelIdeal.τ).loc Cert.Band1DkvKernelIdeal.main_arg2)) (m ((c.tc : Thread Cert.Band1DkvKernelIdeal.nD Cert.Band1DkvKernelIdeal.τ).loc Cert.Band1DkvKernelIdeal.main_arg3)) (m ((c.tc : Thread Cert.Band1DkvKernelIdeal.nD Cert.Band1DkvKernelIdeal.τ).loc Cert.Band1DkvKernelIdeal.main_arg4))) = (fun _ => 1#1)

def Pre_Band1DkvReferenceIdeal (m : (ℓ : Loc Cert.Band1DkvReferenceIdeal.nD Cert.Band1DkvReferenceIdeal.τ Cert.Band1DkvReferenceIdeal.sig) → Buf (Elt Ideal) ℓ) : Prop :=
  True

def Pre_Band1DkvReferenceIdeal_band_finite [hPre_band_finite : Cert.Pre_band_finite.Facts] (m : (ℓ : Loc Cert.Band1DkvReferenceIdeal.nD Cert.Band1DkvReferenceIdeal.τ Cert.Band1DkvReferenceIdeal.sig) → Buf (Elt Ideal) ℓ) : Prop :=
  ∀ c : Dev Cert.Band1DkvReferenceIdeal.nD,
    (Cert.Pre_band_finite.fn (F := Ideal) (m ((c.tc : Thread Cert.Band1DkvReferenceIdeal.nD Cert.Band1DkvReferenceIdeal.τ).loc Cert.Band1DkvReferenceIdeal.main_arg0)) (m ((c.tc : Thread Cert.Band1DkvReferenceIdeal.nD Cert.Band1DkvReferenceIdeal.τ).loc Cert.Band1DkvReferenceIdeal.main_arg1)) (m ((c.tc : Thread Cert.Band1DkvReferenceIdeal.nD Cert.Band1DkvReferenceIdeal.τ).loc Cert.Band1DkvReferenceIdeal.main_arg2)) (m ((c.tc : Thread Cert.Band1DkvReferenceIdeal.nD Cert.Band1DkvReferenceIdeal.τ).loc Cert.Band1DkvReferenceIdeal.main_arg3)) (m ((c.tc : Thread Cert.Band1DkvReferenceIdeal.nD Cert.Band1DkvReferenceIdeal.τ).loc Cert.Band1DkvReferenceIdeal.main_arg4))) = (fun _ => 1#1)

def Pre_Band2DqKernel (m : (ℓ : Loc Cert.Band2DqKernel.nD Cert.Band2DqKernel.τ Cert.Band2DqKernel.sig) → Buf (Elt Bits) ℓ) : Prop :=
  True

def Pre_Band2DqKernelIdeal (m : (ℓ : Loc Cert.Band2DqKernelIdeal.nD Cert.Band2DqKernelIdeal.τ Cert.Band2DqKernelIdeal.sig) → Buf (Elt Ideal) ℓ) : Prop :=
  True

def Pre_Band2DqKernelIdeal_band_finite [hPre_band_finite : Cert.Pre_band_finite.Facts] (m : (ℓ : Loc Cert.Band2DqKernelIdeal.nD Cert.Band2DqKernelIdeal.τ Cert.Band2DqKernelIdeal.sig) → Buf (Elt Ideal) ℓ) : Prop :=
  ∀ c : Dev Cert.Band2DqKernelIdeal.nD,
    (Cert.Pre_band_finite.fn (F := Ideal) (m ((c.tc : Thread Cert.Band2DqKernelIdeal.nD Cert.Band2DqKernelIdeal.τ).loc Cert.Band2DqKernelIdeal.main_arg0)) (m ((c.tc : Thread Cert.Band2DqKernelIdeal.nD Cert.Band2DqKernelIdeal.τ).loc Cert.Band2DqKernelIdeal.main_arg1)) (m ((c.tc : Thread Cert.Band2DqKernelIdeal.nD Cert.Band2DqKernelIdeal.τ).loc Cert.Band2DqKernelIdeal.main_arg2)) (m ((c.tc : Thread Cert.Band2DqKernelIdeal.nD Cert.Band2DqKernelIdeal.τ).loc Cert.Band2DqKernelIdeal.main_arg3)) (m ((c.tc : Thread Cert.Band2DqKernelIdeal.nD Cert.Band2DqKernelIdeal.τ).loc Cert.Band2DqKernelIdeal.main_arg4))) = (fun _ => 1#1)

def Pre_Band2DqReferenceIdeal (m : (ℓ : Loc Cert.Band2DqReferenceIdeal.nD Cert.Band2DqReferenceIdeal.τ Cert.Band2DqReferenceIdeal.sig) → Buf (Elt Ideal) ℓ) : Prop :=
  True

def Pre_Band2DqReferenceIdeal_band_finite [hPre_band_finite : Cert.Pre_band_finite.Facts] (m : (ℓ : Loc Cert.Band2DqReferenceIdeal.nD Cert.Band2DqReferenceIdeal.τ Cert.Band2DqReferenceIdeal.sig) → Buf (Elt Ideal) ℓ) : Prop :=
  ∀ c : Dev Cert.Band2DqReferenceIdeal.nD,
    (Cert.Pre_band_finite.fn (F := Ideal) (m ((c.tc : Thread Cert.Band2DqReferenceIdeal.nD Cert.Band2DqReferenceIdeal.τ).loc Cert.Band2DqReferenceIdeal.main_arg0)) (m ((c.tc : Thread Cert.Band2DqReferenceIdeal.nD Cert.Band2DqReferenceIdeal.τ).loc Cert.Band2DqReferenceIdeal.main_arg1)) (m ((c.tc : Thread Cert.Band2DqReferenceIdeal.nD Cert.Band2DqReferenceIdeal.τ).loc Cert.Band2DqReferenceIdeal.main_arg2)) (m ((c.tc : Thread Cert.Band2DqReferenceIdeal.nD Cert.Band2DqReferenceIdeal.τ).loc Cert.Band2DqReferenceIdeal.main_arg3)) (m ((c.tc : Thread Cert.Band2DqReferenceIdeal.nD Cert.Band2DqReferenceIdeal.τ).loc Cert.Band2DqReferenceIdeal.main_arg4))) = (fun _ => 1#1)

def Pre_Band2DkvKernel (m : (ℓ : Loc Cert.Band2DkvKernel.nD Cert.Band2DkvKernel.τ Cert.Band2DkvKernel.sig) → Buf (Elt Bits) ℓ) : Prop :=
  True

def Pre_Band2DkvKernelIdeal (m : (ℓ : Loc Cert.Band2DkvKernelIdeal.nD Cert.Band2DkvKernelIdeal.τ Cert.Band2DkvKernelIdeal.sig) → Buf (Elt Ideal) ℓ) : Prop :=
  True

def Pre_Band2DkvKernelIdeal_band_finite [hPre_band_finite : Cert.Pre_band_finite.Facts] (m : (ℓ : Loc Cert.Band2DkvKernelIdeal.nD Cert.Band2DkvKernelIdeal.τ Cert.Band2DkvKernelIdeal.sig) → Buf (Elt Ideal) ℓ) : Prop :=
  ∀ c : Dev Cert.Band2DkvKernelIdeal.nD,
    (Cert.Pre_band_finite.fn (F := Ideal) (m ((c.tc : Thread Cert.Band2DkvKernelIdeal.nD Cert.Band2DkvKernelIdeal.τ).loc Cert.Band2DkvKernelIdeal.main_arg0)) (m ((c.tc : Thread Cert.Band2DkvKernelIdeal.nD Cert.Band2DkvKernelIdeal.τ).loc Cert.Band2DkvKernelIdeal.main_arg1)) (m ((c.tc : Thread Cert.Band2DkvKernelIdeal.nD Cert.Band2DkvKernelIdeal.τ).loc Cert.Band2DkvKernelIdeal.main_arg2)) (m ((c.tc : Thread Cert.Band2DkvKernelIdeal.nD Cert.Band2DkvKernelIdeal.τ).loc Cert.Band2DkvKernelIdeal.main_arg3)) (m ((c.tc : Thread Cert.Band2DkvKernelIdeal.nD Cert.Band2DkvKernelIdeal.τ).loc Cert.Band2DkvKernelIdeal.main_arg4))) = (fun _ => 1#1)

def Pre_Band2DkvReferenceIdeal (m : (ℓ : Loc Cert.Band2DkvReferenceIdeal.nD Cert.Band2DkvReferenceIdeal.τ Cert.Band2DkvReferenceIdeal.sig) → Buf (Elt Ideal) ℓ) : Prop :=
  True

def Pre_Band2DkvReferenceIdeal_band_finite [hPre_band_finite : Cert.Pre_band_finite.Facts] (m : (ℓ : Loc Cert.Band2DkvReferenceIdeal.nD Cert.Band2DkvReferenceIdeal.τ Cert.Band2DkvReferenceIdeal.sig) → Buf (Elt Ideal) ℓ) : Prop :=
  ∀ c : Dev Cert.Band2DkvReferenceIdeal.nD,
    (Cert.Pre_band_finite.fn (F := Ideal) (m ((c.tc : Thread Cert.Band2DkvReferenceIdeal.nD Cert.Band2DkvReferenceIdeal.τ).loc Cert.Band2DkvReferenceIdeal.main_arg0)) (m ((c.tc : Thread Cert.Band2DkvReferenceIdeal.nD Cert.Band2DkvReferenceIdeal.τ).loc Cert.Band2DkvReferenceIdeal.main_arg1)) (m ((c.tc : Thread Cert.Band2DkvReferenceIdeal.nD Cert.Band2DkvReferenceIdeal.τ).loc Cert.Band2DkvReferenceIdeal.main_arg2)) (m ((c.tc : Thread Cert.Band2DkvReferenceIdeal.nD Cert.Band2DkvReferenceIdeal.τ).loc Cert.Band2DkvReferenceIdeal.main_arg3)) (m ((c.tc : Thread Cert.Band2DkvReferenceIdeal.nD Cert.Band2DkvReferenceIdeal.τ).loc Cert.Band2DkvReferenceIdeal.main_arg4))) = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_mem_finite [hPre_mem_finite : Cert.Pre_mem_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_ln_finite [hPre_ln_finite : Cert.Pre_ln_finite.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_ln_finite.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_ln_finite [hPre_ln_finite : Cert.Pre_ln_finite.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_ln_finite.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3))) = (fun _ => 1#1)

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MemFwdKernel (m : (ℓ : Loc Cert.MemFwdKernel.nD Cert.MemFwdKernel.τ Cert.MemFwdKernel.sig) → Buf (Elt Bits) ℓ) : Prop :=
  True

def Pre_MemFwdKernelIdeal (m : (ℓ : Loc Cert.MemFwdKernelIdeal.nD Cert.MemFwdKernelIdeal.τ Cert.MemFwdKernelIdeal.sig) → Buf (Elt Ideal) ℓ) : Prop :=
  True

def Pre_MemFwdKernelIdeal_memfwd_finite [hPre_memfwd_finite : Cert.Pre_memfwd_finite.Facts] (m : (ℓ : Loc Cert.MemFwdKernelIdeal.nD Cert.MemFwdKernelIdeal.τ Cert.MemFwdKernelIdeal.sig) → Buf (Elt Ideal) ℓ) : Prop :=
  ∀ c : Dev Cert.MemFwdKernelIdeal.nD,
    (Cert.Pre_memfwd_finite.fn (F := Ideal) (m ((c.tc : Thread Cert.MemFwdKernelIdeal.nD Cert.MemFwdKernelIdeal.τ).loc Cert.MemFwdKernelIdeal.main_arg0)) (m ((c.tc : Thread Cert.MemFwdKernelIdeal.nD Cert.MemFwdKernelIdeal.τ).loc Cert.MemFwdKernelIdeal.main_arg1))) = (fun _ => 1#1)

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_MemFwdReferenceIdeal_memfwd_finite [hPre_memfwd_finite : Cert.Pre_memfwd_finite.Facts] (m : (ℓ : Loc Cert.MemFwdReferenceIdeal.nD Cert.MemFwdReferenceIdeal.τ Cert.MemFwdReferenceIdeal.sig) → Buf (Elt Ideal) ℓ) : Prop :=
  ∀ c : Dev Cert.MemFwdReferenceIdeal.nD,
    (Cert.Pre_memfwd_finite.fn (F := Ideal) (m ((c.tc : Thread Cert.MemFwdReferenceIdeal.nD Cert.MemFwdReferenceIdeal.τ).loc Cert.MemFwdReferenceIdeal.main_arg0)) (m ((c.tc : Thread Cert.MemFwdReferenceIdeal.nD Cert.MemFwdReferenceIdeal.τ).loc Cert.MemFwdReferenceIdeal.main_arg1))) = (fun _ => 1#1)

def Pre_CombineKernel (m : (ℓ : Loc Cert.CombineKernel.nD Cert.CombineKernel.τ Cert.CombineKernel.sig) → Buf (Elt Bits) ℓ) : Prop :=
  True

def Pre_CombineKernelIdeal (m : (ℓ : Loc Cert.CombineKernelIdeal.nD Cert.CombineKernelIdeal.τ Cert.CombineKernelIdeal.sig) → Buf (Elt Ideal) ℓ) : Prop :=
  True

def Pre_CombineKernelIdeal_combine_finite [hPre_combine_finite : Cert.Pre_combine_finite.Facts] (m : (ℓ : Loc Cert.CombineKernelIdeal.nD Cert.CombineKernelIdeal.τ Cert.CombineKernelIdeal.sig) → Buf (Elt Ideal) ℓ) : Prop :=
  ∀ c : Dev Cert.CombineKernelIdeal.nD,
    (Cert.Pre_combine_finite.fn (F := Ideal) (m ((c.tc : Thread Cert.CombineKernelIdeal.nD Cert.CombineKernelIdeal.τ).loc Cert.CombineKernelIdeal.main_arg0)) (m ((c.tc : Thread Cert.CombineKernelIdeal.nD Cert.CombineKernelIdeal.τ).loc Cert.CombineKernelIdeal.main_arg1)) (m ((c.tc : Thread Cert.CombineKernelIdeal.nD Cert.CombineKernelIdeal.τ).loc Cert.CombineKernelIdeal.main_arg2)) (m ((c.tc : Thread Cert.CombineKernelIdeal.nD Cert.CombineKernelIdeal.τ).loc Cert.CombineKernelIdeal.main_arg3)) (m ((c.tc : Thread Cert.CombineKernelIdeal.nD Cert.CombineKernelIdeal.τ).loc Cert.CombineKernelIdeal.main_arg4)) (m ((c.tc : Thread Cert.CombineKernelIdeal.nD Cert.CombineKernelIdeal.τ).loc Cert.CombineKernelIdeal.main_arg5))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_combine_finite [hPre_combine_finite : Cert.Pre_combine_finite.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_combine_finite.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5))) = (fun _ => 1#1)

def Pre_Band0FwdKernel (m : (ℓ : Loc Cert.Band0FwdKernel.nD Cert.Band0FwdKernel.τ Cert.Band0FwdKernel.sig) → Buf (Elt Bits) ℓ) : Prop :=
  True

def Pre_Band0FwdKernelIdeal (m : (ℓ : Loc Cert.Band0FwdKernelIdeal.nD Cert.Band0FwdKernelIdeal.τ Cert.Band0FwdKernelIdeal.sig) → Buf (Elt Ideal) ℓ) : Prop :=
  True

def Pre_Band0FwdKernelIdeal_bandfwd_finite [hPre_bandfwd_finite : Cert.Pre_bandfwd_finite.Facts] (m : (ℓ : Loc Cert.Band0FwdKernelIdeal.nD Cert.Band0FwdKernelIdeal.τ Cert.Band0FwdKernelIdeal.sig) → Buf (Elt Ideal) ℓ) : Prop :=
  ∀ c : Dev Cert.Band0FwdKernelIdeal.nD,
    (Cert.Pre_bandfwd_finite.fn (F := Ideal) (m ((c.tc : Thread Cert.Band0FwdKernelIdeal.nD Cert.Band0FwdKernelIdeal.τ).loc Cert.Band0FwdKernelIdeal.main_arg0)) (m ((c.tc : Thread Cert.Band0FwdKernelIdeal.nD Cert.Band0FwdKernelIdeal.τ).loc Cert.Band0FwdKernelIdeal.main_arg1)) (m ((c.tc : Thread Cert.Band0FwdKernelIdeal.nD Cert.Band0FwdKernelIdeal.τ).loc Cert.Band0FwdKernelIdeal.main_arg2)) (m ((c.tc : Thread Cert.Band0FwdKernelIdeal.nD Cert.Band0FwdKernelIdeal.τ).loc Cert.Band0FwdKernelIdeal.main_arg3))) = (fun _ => 1#1)

def Pre_Band0FwdReferenceIdeal (m : (ℓ : Loc Cert.Band0FwdReferenceIdeal.nD Cert.Band0FwdReferenceIdeal.τ Cert.Band0FwdReferenceIdeal.sig) → Buf (Elt Ideal) ℓ) : Prop :=
  True

def Pre_Band0FwdReferenceIdeal_bandfwd_finite [hPre_bandfwd_finite : Cert.Pre_bandfwd_finite.Facts] (m : (ℓ : Loc Cert.Band0FwdReferenceIdeal.nD Cert.Band0FwdReferenceIdeal.τ Cert.Band0FwdReferenceIdeal.sig) → Buf (Elt Ideal) ℓ) : Prop :=
  ∀ c : Dev Cert.Band0FwdReferenceIdeal.nD,
    (Cert.Pre_bandfwd_finite.fn (F := Ideal) (m ((c.tc : Thread Cert.Band0FwdReferenceIdeal.nD Cert.Band0FwdReferenceIdeal.τ).loc Cert.Band0FwdReferenceIdeal.main_arg0)) (m ((c.tc : Thread Cert.Band0FwdReferenceIdeal.nD Cert.Band0FwdReferenceIdeal.τ).loc Cert.Band0FwdReferenceIdeal.main_arg1)) (m ((c.tc : Thread Cert.Band0FwdReferenceIdeal.nD Cert.Band0FwdReferenceIdeal.τ).loc Cert.Band0FwdReferenceIdeal.main_arg2)) (m ((c.tc : Thread Cert.Band0FwdReferenceIdeal.nD Cert.Band0FwdReferenceIdeal.τ).loc Cert.Band0FwdReferenceIdeal.main_arg3))) = (fun _ => 1#1)

def Pre_Band1FwdKernel (m : (ℓ : Loc Cert.Band1FwdKernel.nD Cert.Band1FwdKernel.τ Cert.Band1FwdKernel.sig) → Buf (Elt Bits) ℓ) : Prop :=
  True

def Pre_Band1FwdKernelIdeal (m : (ℓ : Loc Cert.Band1FwdKernelIdeal.nD Cert.Band1FwdKernelIdeal.τ Cert.Band1FwdKernelIdeal.sig) → Buf (Elt Ideal) ℓ) : Prop :=
  True

def Pre_Band1FwdKernelIdeal_bandfwd_finite [hPre_bandfwd_finite : Cert.Pre_bandfwd_finite.Facts] (m : (ℓ : Loc Cert.Band1FwdKernelIdeal.nD Cert.Band1FwdKernelIdeal.τ Cert.Band1FwdKernelIdeal.sig) → Buf (Elt Ideal) ℓ) : Prop :=
  ∀ c : Dev Cert.Band1FwdKernelIdeal.nD,
    (Cert.Pre_bandfwd_finite.fn (F := Ideal) (m ((c.tc : Thread Cert.Band1FwdKernelIdeal.nD Cert.Band1FwdKernelIdeal.τ).loc Cert.Band1FwdKernelIdeal.main_arg0)) (m ((c.tc : Thread Cert.Band1FwdKernelIdeal.nD Cert.Band1FwdKernelIdeal.τ).loc Cert.Band1FwdKernelIdeal.main_arg1)) (m ((c.tc : Thread Cert.Band1FwdKernelIdeal.nD Cert.Band1FwdKernelIdeal.τ).loc Cert.Band1FwdKernelIdeal.main_arg2)) (m ((c.tc : Thread Cert.Band1FwdKernelIdeal.nD Cert.Band1FwdKernelIdeal.τ).loc Cert.Band1FwdKernelIdeal.main_arg3))) = (fun _ => 1#1)

def Pre_Band1FwdReferenceIdeal (m : (ℓ : Loc Cert.Band1FwdReferenceIdeal.nD Cert.Band1FwdReferenceIdeal.τ Cert.Band1FwdReferenceIdeal.sig) → Buf (Elt Ideal) ℓ) : Prop :=
  True

def Pre_Band1FwdReferenceIdeal_bandfwd_finite [hPre_bandfwd_finite : Cert.Pre_bandfwd_finite.Facts] (m : (ℓ : Loc Cert.Band1FwdReferenceIdeal.nD Cert.Band1FwdReferenceIdeal.τ Cert.Band1FwdReferenceIdeal.sig) → Buf (Elt Ideal) ℓ) : Prop :=
  ∀ c : Dev Cert.Band1FwdReferenceIdeal.nD,
    (Cert.Pre_bandfwd_finite.fn (F := Ideal) (m ((c.tc : Thread Cert.Band1FwdReferenceIdeal.nD Cert.Band1FwdReferenceIdeal.τ).loc Cert.Band1FwdReferenceIdeal.main_arg0)) (m ((c.tc : Thread Cert.Band1FwdReferenceIdeal.nD Cert.Band1FwdReferenceIdeal.τ).loc Cert.Band1FwdReferenceIdeal.main_arg1)) (m ((c.tc : Thread Cert.Band1FwdReferenceIdeal.nD Cert.Band1FwdReferenceIdeal.τ).loc Cert.Band1FwdReferenceIdeal.main_arg2)) (m ((c.tc : Thread Cert.Band1FwdReferenceIdeal.nD Cert.Band1FwdReferenceIdeal.τ).loc Cert.Band1FwdReferenceIdeal.main_arg3))) = (fun _ => 1#1)

def Pre_Band2FwdKernel (m : (ℓ : Loc Cert.Band2FwdKernel.nD Cert.Band2FwdKernel.τ Cert.Band2FwdKernel.sig) → Buf (Elt Bits) ℓ) : Prop :=
  True

def Pre_Band2FwdKernelIdeal (m : (ℓ : Loc Cert.Band2FwdKernelIdeal.nD Cert.Band2FwdKernelIdeal.τ Cert.Band2FwdKernelIdeal.sig) → Buf (Elt Ideal) ℓ) : Prop :=
  True

def Pre_Band2FwdKernelIdeal_bandfwd_finite [hPre_bandfwd_finite : Cert.Pre_bandfwd_finite.Facts] (m : (ℓ : Loc Cert.Band2FwdKernelIdeal.nD Cert.Band2FwdKernelIdeal.τ Cert.Band2FwdKernelIdeal.sig) → Buf (Elt Ideal) ℓ) : Prop :=
  ∀ c : Dev Cert.Band2FwdKernelIdeal.nD,
    (Cert.Pre_bandfwd_finite.fn (F := Ideal) (m ((c.tc : Thread Cert.Band2FwdKernelIdeal.nD Cert.Band2FwdKernelIdeal.τ).loc Cert.Band2FwdKernelIdeal.main_arg0)) (m ((c.tc : Thread Cert.Band2FwdKernelIdeal.nD Cert.Band2FwdKernelIdeal.τ).loc Cert.Band2FwdKernelIdeal.main_arg1)) (m ((c.tc : Thread Cert.Band2FwdKernelIdeal.nD Cert.Band2FwdKernelIdeal.τ).loc Cert.Band2FwdKernelIdeal.main_arg2)) (m ((c.tc : Thread Cert.Band2FwdKernelIdeal.nD Cert.Band2FwdKernelIdeal.τ).loc Cert.Band2FwdKernelIdeal.main_arg3))) = (fun _ => 1#1)

def Pre_Band2FwdReferenceIdeal (m : (ℓ : Loc Cert.Band2FwdReferenceIdeal.nD Cert.Band2FwdReferenceIdeal.τ Cert.Band2FwdReferenceIdeal.sig) → Buf (Elt Ideal) ℓ) : Prop :=
  True

def Pre_Band2FwdReferenceIdeal_bandfwd_finite [hPre_bandfwd_finite : Cert.Pre_bandfwd_finite.Facts] (m : (ℓ : Loc Cert.Band2FwdReferenceIdeal.nD Cert.Band2FwdReferenceIdeal.τ Cert.Band2FwdReferenceIdeal.sig) → Buf (Elt Ideal) ℓ) : Prop :=
  ∀ c : Dev Cert.Band2FwdReferenceIdeal.nD,
    (Cert.Pre_bandfwd_finite.fn (F := Ideal) (m ((c.tc : Thread Cert.Band2FwdReferenceIdeal.nD Cert.Band2FwdReferenceIdeal.τ).loc Cert.Band2FwdReferenceIdeal.main_arg0)) (m ((c.tc : Thread Cert.Band2FwdReferenceIdeal.nD Cert.Band2FwdReferenceIdeal.τ).loc Cert.Band2FwdReferenceIdeal.main_arg1)) (m ((c.tc : Thread Cert.Band2FwdReferenceIdeal.nD Cert.Band2FwdReferenceIdeal.τ).loc Cert.Band2FwdReferenceIdeal.main_arg2)) (m ((c.tc : Thread Cert.Band2FwdReferenceIdeal.nD Cert.Band2FwdReferenceIdeal.τ).loc Cert.Band2FwdReferenceIdeal.main_arg3))) = (fun _ => 1#1)

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_AOutKernel (m : (ℓ : Loc Cert.AOutKernel.nD Cert.AOutKernel.τ Cert.AOutKernel.sig) → Buf (Elt Bits) ℓ) : Prop :=
  True

def Pre_AOutKernelIdeal (m : (ℓ : Loc Cert.AOutKernelIdeal.nD Cert.AOutKernelIdeal.τ Cert.AOutKernelIdeal.sig) → Buf (Elt Ideal) ℓ) : Prop :=
  True

def Pre_AOutReferenceIdeal (m : (ℓ : Loc Cert.AOutReferenceIdeal.nD Cert.AOutReferenceIdeal.τ Cert.AOutReferenceIdeal.sig) → Buf (Elt Ideal) ℓ) : Prop :=
  True

def Pre_BOutKernel (m : (ℓ : Loc Cert.BOutKernel.nD Cert.BOutKernel.τ Cert.BOutKernel.sig) → Buf (Elt Bits) ℓ) : Prop :=
  True

def Pre_BOutKernelIdeal (m : (ℓ : Loc Cert.BOutKernelIdeal.nD Cert.BOutKernelIdeal.τ Cert.BOutKernelIdeal.sig) → Buf (Elt Ideal) ℓ) : Prop :=
  True

def Pre_BOutReferenceIdeal (m : (ℓ : Loc Cert.BOutReferenceIdeal.nD Cert.BOutReferenceIdeal.τ Cert.BOutReferenceIdeal.sig) → Buf (Elt Ideal) ℓ) : Prop :=
  True

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6))
      ∧ r.2.sem = fun _ => 0)

def quiescent_Band0DqKernel [hBand0DqKernel : Cert.Band0DqKernel.Facts] : Prop :=
  ∀ (m : (ℓ : Loc Cert.Band0DqKernel.nD Cert.Band0DqKernel.τ Cert.Band0DqKernel.sig) → Buf (Elt Bits) ℓ) (g : Dev Cert.Band0DqKernel.nD → PrngReg), Pre_Band0DqKernel m →
    θ_run (Cert.Band0DqKernel.defs (F := Bits)) (onTc (τ := Cert.Band0DqKernel.τ) (Cert.Band0DqKernel.main (F := Bits))) ⟨m, fun _ => 0, g⟩ (fun r => (∀ c : Dev Cert.Band0DqKernel.nD,
      r.2.mem ((c.tc : Thread Cert.Band0DqKernel.nD Cert.Band0DqKernel.τ).loc Cert.Band0DqKernel.main_arg0) = m ((c.tc : Thread Cert.Band0DqKernel.nD Cert.Band0DqKernel.τ).loc Cert.Band0DqKernel.main_arg0)
      ∧ r.2.mem ((c.tc : Thread Cert.Band0DqKernel.nD Cert.Band0DqKernel.τ).loc Cert.Band0DqKernel.main_arg1) = m ((c.tc : Thread Cert.Band0DqKernel.nD Cert.Band0DqKernel.τ).loc Cert.Band0DqKernel.main_arg1)
      ∧ r.2.mem ((c.tc : Thread Cert.Band0DqKernel.nD Cert.Band0DqKernel.τ).loc Cert.Band0DqKernel.main_arg2) = m ((c.tc : Thread Cert.Band0DqKernel.nD Cert.Band0DqKernel.τ).loc Cert.Band0DqKernel.main_arg2)
      ∧ r.2.mem ((c.tc : Thread Cert.Band0DqKernel.nD Cert.Band0DqKernel.τ).loc Cert.Band0DqKernel.main_arg3) = m ((c.tc : Thread Cert.Band0DqKernel.nD Cert.Band0DqKernel.τ).loc Cert.Band0DqKernel.main_arg3)
      ∧ r.2.mem ((c.tc : Thread Cert.Band0DqKernel.nD Cert.Band0DqKernel.τ).loc Cert.Band0DqKernel.main_arg4) = m ((c.tc : Thread Cert.Band0DqKernel.nD Cert.Band0DqKernel.τ).loc Cert.Band0DqKernel.main_arg4))
      ∧ r.2.sem = fun _ => 0)

def quiescent_Band0DqKernelIdeal [hBand0DqKernelIdeal : Cert.Band0DqKernelIdeal.Facts] : Prop :=
  ∀ (m : (ℓ : Loc Cert.Band0DqKernelIdeal.nD Cert.Band0DqKernelIdeal.τ Cert.Band0DqKernelIdeal.sig) → Buf (Elt Ideal) ℓ) (g : Dev Cert.Band0DqKernelIdeal.nD → PrngReg), Pre_Band0DqKernelIdeal m →
    θ_run (Cert.Band0DqKernelIdeal.defs (F := Ideal)) (onTc (τ := Cert.Band0DqKernelIdeal.τ) (Cert.Band0DqKernelIdeal.main (F := Ideal))) ⟨m, fun _ => 0, g⟩ (fun r => (∀ c : Dev Cert.Band0DqKernelIdeal.nD,
      r.2.mem ((c.tc : Thread Cert.Band0DqKernelIdeal.nD Cert.Band0DqKernelIdeal.τ).loc Cert.Band0DqKernelIdeal.main_arg0) = m ((c.tc : Thread Cert.Band0DqKernelIdeal.nD Cert.Band0DqKernelIdeal.τ).loc Cert.Band0DqKernelIdeal.main_arg0)
      ∧ r.2.mem ((c.tc : Thread Cert.Band0DqKernelIdeal.nD Cert.Band0DqKernelIdeal.τ).loc Cert.Band0DqKernelIdeal.main_arg1) = m ((c.tc : Thread Cert.Band0DqKernelIdeal.nD Cert.Band0DqKernelIdeal.τ).loc Cert.Band0DqKernelIdeal.main_arg1)
      ∧ r.2.mem ((c.tc : Thread Cert.Band0DqKernelIdeal.nD Cert.Band0DqKernelIdeal.τ).loc Cert.Band0DqKernelIdeal.main_arg2) = m ((c.tc : Thread Cert.Band0DqKernelIdeal.nD Cert.Band0DqKernelIdeal.τ).loc Cert.Band0DqKernelIdeal.main_arg2)
      ∧ r.2.mem ((c.tc : Thread Cert.Band0DqKernelIdeal.nD Cert.Band0DqKernelIdeal.τ).loc Cert.Band0DqKernelIdeal.main_arg3) = m ((c.tc : Thread Cert.Band0DqKernelIdeal.nD Cert.Band0DqKernelIdeal.τ).loc Cert.Band0DqKernelIdeal.main_arg3)
      ∧ r.2.mem ((c.tc : Thread Cert.Band0DqKernelIdeal.nD Cert.Band0DqKernelIdeal.τ).loc Cert.Band0DqKernelIdeal.main_arg4) = m ((c.tc : Thread Cert.Band0DqKernelIdeal.nD Cert.Band0DqKernelIdeal.τ).loc Cert.Band0DqKernelIdeal.main_arg4))
      ∧ r.2.sem = fun _ => 0)

def quiescent_Band0DqKernelIdeal_pre_band_finite [hBand0DqKernelIdeal : Cert.Band0DqKernelIdeal.Facts] [hPre_band_finite : Cert.Pre_band_finite.Facts] : Prop :=
  ∀ (m : (ℓ : Loc Cert.Band0DqKernelIdeal.nD Cert.Band0DqKernelIdeal.τ Cert.Band0DqKernelIdeal.sig) → Buf (Elt Ideal) ℓ) (g : Dev Cert.Band0DqKernelIdeal.nD → PrngReg), Pre_Band0DqKernelIdeal_band_finite m →
    θ_run (Cert.Band0DqKernelIdeal.defs (F := Ideal)) (onTc (τ := Cert.Band0DqKernelIdeal.τ) (Cert.Band0DqKernelIdeal.main (F := Ideal))) ⟨m, fun _ => 0, g⟩ (fun r => (∀ c : Dev Cert.Band0DqKernelIdeal.nD,
      r.2.mem ((c.tc : Thread Cert.Band0DqKernelIdeal.nD Cert.Band0DqKernelIdeal.τ).loc Cert.Band0DqKernelIdeal.main_arg0) = m ((c.tc : Thread Cert.Band0DqKernelIdeal.nD Cert.Band0DqKernelIdeal.τ).loc Cert.Band0DqKernelIdeal.main_arg0)
      ∧ r.2.mem ((c.tc : Thread Cert.Band0DqKernelIdeal.nD Cert.Band0DqKernelIdeal.τ).loc Cert.Band0DqKernelIdeal.main_arg1) = m ((c.tc : Thread Cert.Band0DqKernelIdeal.nD Cert.Band0DqKernelIdeal.τ).loc Cert.Band0DqKernelIdeal.main_arg1)
      ∧ r.2.mem ((c.tc : Thread Cert.Band0DqKernelIdeal.nD Cert.Band0DqKernelIdeal.τ).loc Cert.Band0DqKernelIdeal.main_arg2) = m ((c.tc : Thread Cert.Band0DqKernelIdeal.nD Cert.Band0DqKernelIdeal.τ).loc Cert.Band0DqKernelIdeal.main_arg2)
      ∧ r.2.mem ((c.tc : Thread Cert.Band0DqKernelIdeal.nD Cert.Band0DqKernelIdeal.τ).loc Cert.Band0DqKernelIdeal.main_arg3) = m ((c.tc : Thread Cert.Band0DqKernelIdeal.nD Cert.Band0DqKernelIdeal.τ).loc Cert.Band0DqKernelIdeal.main_arg3)
      ∧ r.2.mem ((c.tc : Thread Cert.Band0DqKernelIdeal.nD Cert.Band0DqKernelIdeal.τ).loc Cert.Band0DqKernelIdeal.main_arg4) = m ((c.tc : Thread Cert.Band0DqKernelIdeal.nD Cert.Band0DqKernelIdeal.τ).loc Cert.Band0DqKernelIdeal.main_arg4))
      ∧ r.2.sem = fun _ => 0)

def quiescent_Band0DqReferenceIdeal [hBand0DqReferenceIdeal : Cert.Band0DqReferenceIdeal.Facts] : Prop :=
  ∀ (m : (ℓ : Loc Cert.Band0DqReferenceIdeal.nD Cert.Band0DqReferenceIdeal.τ Cert.Band0DqReferenceIdeal.sig) → Buf (Elt Ideal) ℓ) (g : Dev Cert.Band0DqReferenceIdeal.nD → PrngReg), Pre_Band0DqReferenceIdeal m →
    θ_run (Cert.Band0DqReferenceIdeal.defs (F := Ideal)) (onTc (τ := Cert.Band0DqReferenceIdeal.τ) (Cert.Band0DqReferenceIdeal.main (F := Ideal))) ⟨m, fun _ => 0, g⟩ (fun r => (∀ c : Dev Cert.Band0DqReferenceIdeal.nD,
      r.2.mem ((c.tc : Thread Cert.Band0DqReferenceIdeal.nD Cert.Band0DqReferenceIdeal.τ).loc Cert.Band0DqReferenceIdeal.main_arg0) = m ((c.tc : Thread Cert.Band0DqReferenceIdeal.nD Cert.Band0DqReferenceIdeal.τ).loc Cert.Band0DqReferenceIdeal.main_arg0)
      ∧ r.2.mem ((c.tc : Thread Cert.Band0DqReferenceIdeal.nD Cert.Band0DqReferenceIdeal.τ).loc Cert.Band0DqReferenceIdeal.main_arg1) = m ((c.tc : Thread Cert.Band0DqReferenceIdeal.nD Cert.Band0DqReferenceIdeal.τ).loc Cert.Band0DqReferenceIdeal.main_arg1)
      ∧ r.2.mem ((c.tc : Thread Cert.Band0DqReferenceIdeal.nD Cert.Band0DqReferenceIdeal.τ).loc Cert.Band0DqReferenceIdeal.main_arg2) = m ((c.tc : Thread Cert.Band0DqReferenceIdeal.nD Cert.Band0DqReferenceIdeal.τ).loc Cert.Band0DqReferenceIdeal.main_arg2)
      ∧ r.2.mem ((c.tc : Thread Cert.Band0DqReferenceIdeal.nD Cert.Band0DqReferenceIdeal.τ).loc Cert.Band0DqReferenceIdeal.main_arg3) = m ((c.tc : Thread Cert.Band0DqReferenceIdeal.nD Cert.Band0DqReferenceIdeal.τ).loc Cert.Band0DqReferenceIdeal.main_arg3)
      ∧ r.2.mem ((c.tc : Thread Cert.Band0DqReferenceIdeal.nD Cert.Band0DqReferenceIdeal.τ).loc Cert.Band0DqReferenceIdeal.main_arg4) = m ((c.tc : Thread Cert.Band0DqReferenceIdeal.nD Cert.Band0DqReferenceIdeal.τ).loc Cert.Band0DqReferenceIdeal.main_arg4))
      ∧ r.2.sem = fun _ => 0)

def quiescent_Band0DqReferenceIdeal_pre_band_finite [hBand0DqReferenceIdeal : Cert.Band0DqReferenceIdeal.Facts] [hPre_band_finite : Cert.Pre_band_finite.Facts] : Prop :=
  ∀ (m : (ℓ : Loc Cert.Band0DqReferenceIdeal.nD Cert.Band0DqReferenceIdeal.τ Cert.Band0DqReferenceIdeal.sig) → Buf (Elt Ideal) ℓ) (g : Dev Cert.Band0DqReferenceIdeal.nD → PrngReg), Pre_Band0DqReferenceIdeal_band_finite m →
    θ_run (Cert.Band0DqReferenceIdeal.defs (F := Ideal)) (onTc (τ := Cert.Band0DqReferenceIdeal.τ) (Cert.Band0DqReferenceIdeal.main (F := Ideal))) ⟨m, fun _ => 0, g⟩ (fun r => (∀ c : Dev Cert.Band0DqReferenceIdeal.nD,
      r.2.mem ((c.tc : Thread Cert.Band0DqReferenceIdeal.nD Cert.Band0DqReferenceIdeal.τ).loc Cert.Band0DqReferenceIdeal.main_arg0) = m ((c.tc : Thread Cert.Band0DqReferenceIdeal.nD Cert.Band0DqReferenceIdeal.τ).loc Cert.Band0DqReferenceIdeal.main_arg0)
      ∧ r.2.mem ((c.tc : Thread Cert.Band0DqReferenceIdeal.nD Cert.Band0DqReferenceIdeal.τ).loc Cert.Band0DqReferenceIdeal.main_arg1) = m ((c.tc : Thread Cert.Band0DqReferenceIdeal.nD Cert.Band0DqReferenceIdeal.τ).loc Cert.Band0DqReferenceIdeal.main_arg1)
      ∧ r.2.mem ((c.tc : Thread Cert.Band0DqReferenceIdeal.nD Cert.Band0DqReferenceIdeal.τ).loc Cert.Band0DqReferenceIdeal.main_arg2) = m ((c.tc : Thread Cert.Band0DqReferenceIdeal.nD Cert.Band0DqReferenceIdeal.τ).loc Cert.Band0DqReferenceIdeal.main_arg2)
      ∧ r.2.mem ((c.tc : Thread Cert.Band0DqReferenceIdeal.nD Cert.Band0DqReferenceIdeal.τ).loc Cert.Band0DqReferenceIdeal.main_arg3) = m ((c.tc : Thread Cert.Band0DqReferenceIdeal.nD Cert.Band0DqReferenceIdeal.τ).loc Cert.Band0DqReferenceIdeal.main_arg3)
      ∧ r.2.mem ((c.tc : Thread Cert.Band0DqReferenceIdeal.nD Cert.Band0DqReferenceIdeal.τ).loc Cert.Band0DqReferenceIdeal.main_arg4) = m ((c.tc : Thread Cert.Band0DqReferenceIdeal.nD Cert.Band0DqReferenceIdeal.τ).loc Cert.Band0DqReferenceIdeal.main_arg4))
      ∧ r.2.sem = fun _ => 0)

def quiescent_Band0DkvKernel [hBand0DkvKernel : Cert.Band0DkvKernel.Facts] : Prop :=
  ∀ (m : (ℓ : Loc Cert.Band0DkvKernel.nD Cert.Band0DkvKernel.τ Cert.Band0DkvKernel.sig) → Buf (Elt Bits) ℓ) (g : Dev Cert.Band0DkvKernel.nD → PrngReg), Pre_Band0DkvKernel m →
    θ_run (Cert.Band0DkvKernel.defs (F := Bits)) (onTc (τ := Cert.Band0DkvKernel.τ) (Cert.Band0DkvKernel.main (F := Bits))) ⟨m, fun _ => 0, g⟩ (fun r => (∀ c : Dev Cert.Band0DkvKernel.nD,
      r.2.mem ((c.tc : Thread Cert.Band0DkvKernel.nD Cert.Band0DkvKernel.τ).loc Cert.Band0DkvKernel.main_arg0) = m ((c.tc : Thread Cert.Band0DkvKernel.nD Cert.Band0DkvKernel.τ).loc Cert.Band0DkvKernel.main_arg0)
      ∧ r.2.mem ((c.tc : Thread Cert.Band0DkvKernel.nD Cert.Band0DkvKernel.τ).loc Cert.Band0DkvKernel.main_arg1) = m ((c.tc : Thread Cert.Band0DkvKernel.nD Cert.Band0DkvKernel.τ).loc Cert.Band0DkvKernel.main_arg1)
      ∧ r.2.mem ((c.tc : Thread Cert.Band0DkvKernel.nD Cert.Band0DkvKernel.τ).loc Cert.Band0DkvKernel.main_arg2) = m ((c.tc : Thread Cert.Band0DkvKernel.nD Cert.Band0DkvKernel.τ).loc Cert.Band0DkvKernel.main_arg2)
      ∧ r.2.mem ((c.tc : Thread Cert.Band0DkvKernel.nD Cert.Band0DkvKernel.τ).loc Cert.Band0DkvKernel.main_arg3) = m ((c.tc : Thread Cert.Band0DkvKernel.nD Cert.Band0DkvKernel.τ).loc Cert.Band0DkvKernel.main_arg3)
      ∧ r.2.mem ((c.tc : Thread Cert.Band0DkvKernel.nD Cert.Band0DkvKernel.τ).loc Cert.Band0DkvKernel.main_arg4) = m ((c.tc : Thread Cert.Band0DkvKernel.nD Cert.Band0DkvKernel.τ).loc Cert.Band0DkvKernel.main_arg4))
      ∧ r.2.sem = fun _ => 0)

def quiescent_Band0DkvKernelIdeal [hBand0DkvKernelIdeal : Cert.Band0DkvKernelIdeal.Facts] : Prop :=
  ∀ (m : (ℓ : Loc Cert.Band0DkvKernelIdeal.nD Cert.Band0DkvKernelIdeal.τ Cert.Band0DkvKernelIdeal.sig) → Buf (Elt Ideal) ℓ) (g : Dev Cert.Band0DkvKernelIdeal.nD → PrngReg), Pre_Band0DkvKernelIdeal m →
    θ_run (Cert.Band0DkvKernelIdeal.defs (F := Ideal)) (onTc (τ := Cert.Band0DkvKernelIdeal.τ) (Cert.Band0DkvKernelIdeal.main (F := Ideal))) ⟨m, fun _ => 0, g⟩ (fun r => (∀ c : Dev Cert.Band0DkvKernelIdeal.nD,
      r.2.mem ((c.tc : Thread Cert.Band0DkvKernelIdeal.nD Cert.Band0DkvKernelIdeal.τ).loc Cert.Band0DkvKernelIdeal.main_arg0) = m ((c.tc : Thread Cert.Band0DkvKernelIdeal.nD Cert.Band0DkvKernelIdeal.τ).loc Cert.Band0DkvKernelIdeal.main_arg0)
      ∧ r.2.mem ((c.tc : Thread Cert.Band0DkvKernelIdeal.nD Cert.Band0DkvKernelIdeal.τ).loc Cert.Band0DkvKernelIdeal.main_arg1) = m ((c.tc : Thread Cert.Band0DkvKernelIdeal.nD Cert.Band0DkvKernelIdeal.τ).loc Cert.Band0DkvKernelIdeal.main_arg1)
      ∧ r.2.mem ((c.tc : Thread Cert.Band0DkvKernelIdeal.nD Cert.Band0DkvKernelIdeal.τ).loc Cert.Band0DkvKernelIdeal.main_arg2) = m ((c.tc : Thread Cert.Band0DkvKernelIdeal.nD Cert.Band0DkvKernelIdeal.τ).loc Cert.Band0DkvKernelIdeal.main_arg2)
      ∧ r.2.mem ((c.tc : Thread Cert.Band0DkvKernelIdeal.nD Cert.Band0DkvKernelIdeal.τ).loc Cert.Band0DkvKernelIdeal.main_arg3) = m ((c.tc : Thread Cert.Band0DkvKernelIdeal.nD Cert.Band0DkvKernelIdeal.τ).loc Cert.Band0DkvKernelIdeal.main_arg3)
      ∧ r.2.mem ((c.tc : Thread Cert.Band0DkvKernelIdeal.nD Cert.Band0DkvKernelIdeal.τ).loc Cert.Band0DkvKernelIdeal.main_arg4) = m ((c.tc : Thread Cert.Band0DkvKernelIdeal.nD Cert.Band0DkvKernelIdeal.τ).loc Cert.Band0DkvKernelIdeal.main_arg4))
      ∧ r.2.sem = fun _ => 0)

def quiescent_Band0DkvKernelIdeal_pre_band_finite [hBand0DkvKernelIdeal : Cert.Band0DkvKernelIdeal.Facts] [hPre_band_finite : Cert.Pre_band_finite.Facts] : Prop :=
  ∀ (m : (ℓ : Loc Cert.Band0DkvKernelIdeal.nD Cert.Band0DkvKernelIdeal.τ Cert.Band0DkvKernelIdeal.sig) → Buf (Elt Ideal) ℓ) (g : Dev Cert.Band0DkvKernelIdeal.nD → PrngReg), Pre_Band0DkvKernelIdeal_band_finite m →
    θ_run (Cert.Band0DkvKernelIdeal.defs (F := Ideal)) (onTc (τ := Cert.Band0DkvKernelIdeal.τ) (Cert.Band0DkvKernelIdeal.main (F := Ideal))) ⟨m, fun _ => 0, g⟩ (fun r => (∀ c : Dev Cert.Band0DkvKernelIdeal.nD,
      r.2.mem ((c.tc : Thread Cert.Band0DkvKernelIdeal.nD Cert.Band0DkvKernelIdeal.τ).loc Cert.Band0DkvKernelIdeal.main_arg0) = m ((c.tc : Thread Cert.Band0DkvKernelIdeal.nD Cert.Band0DkvKernelIdeal.τ).loc Cert.Band0DkvKernelIdeal.main_arg0)
      ∧ r.2.mem ((c.tc : Thread Cert.Band0DkvKernelIdeal.nD Cert.Band0DkvKernelIdeal.τ).loc Cert.Band0DkvKernelIdeal.main_arg1) = m ((c.tc : Thread Cert.Band0DkvKernelIdeal.nD Cert.Band0DkvKernelIdeal.τ).loc Cert.Band0DkvKernelIdeal.main_arg1)
      ∧ r.2.mem ((c.tc : Thread Cert.Band0DkvKernelIdeal.nD Cert.Band0DkvKernelIdeal.τ).loc Cert.Band0DkvKernelIdeal.main_arg2) = m ((c.tc : Thread Cert.Band0DkvKernelIdeal.nD Cert.Band0DkvKernelIdeal.τ).loc Cert.Band0DkvKernelIdeal.main_arg2)
      ∧ r.2.mem ((c.tc : Thread Cert.Band0DkvKernelIdeal.nD Cert.Band0DkvKernelIdeal.τ).loc Cert.Band0DkvKernelIdeal.main_arg3) = m ((c.tc : Thread Cert.Band0DkvKernelIdeal.nD Cert.Band0DkvKernelIdeal.τ).loc Cert.Band0DkvKernelIdeal.main_arg3)
      ∧ r.2.mem ((c.tc : Thread Cert.Band0DkvKernelIdeal.nD Cert.Band0DkvKernelIdeal.τ).loc Cert.Band0DkvKernelIdeal.main_arg4) = m ((c.tc : Thread Cert.Band0DkvKernelIdeal.nD Cert.Band0DkvKernelIdeal.τ).loc Cert.Band0DkvKernelIdeal.main_arg4))
      ∧ r.2.sem = fun _ => 0)

def quiescent_Band0DkvReferenceIdeal [hBand0DkvReferenceIdeal : Cert.Band0DkvReferenceIdeal.Facts] : Prop :=
  ∀ (m : (ℓ : Loc Cert.Band0DkvReferenceIdeal.nD Cert.Band0DkvReferenceIdeal.τ Cert.Band0DkvReferenceIdeal.sig) → Buf (Elt Ideal) ℓ) (g : Dev Cert.Band0DkvReferenceIdeal.nD → PrngReg), Pre_Band0DkvReferenceIdeal m →
    θ_run (Cert.Band0DkvReferenceIdeal.defs (F := Ideal)) (onTc (τ := Cert.Band0DkvReferenceIdeal.τ) (Cert.Band0DkvReferenceIdeal.main (F := Ideal))) ⟨m, fun _ => 0, g⟩ (fun r => (∀ c : Dev Cert.Band0DkvReferenceIdeal.nD,
      r.2.mem ((c.tc : Thread Cert.Band0DkvReferenceIdeal.nD Cert.Band0DkvReferenceIdeal.τ).loc Cert.Band0DkvReferenceIdeal.main_arg0) = m ((c.tc : Thread Cert.Band0DkvReferenceIdeal.nD Cert.Band0DkvReferenceIdeal.τ).loc Cert.Band0DkvReferenceIdeal.main_arg0)
      ∧ r.2.mem ((c.tc : Thread Cert.Band0DkvReferenceIdeal.nD Cert.Band0DkvReferenceIdeal.τ).loc Cert.Band0DkvReferenceIdeal.main_arg1) = m ((c.tc : Thread Cert.Band0DkvReferenceIdeal.nD Cert.Band0DkvReferenceIdeal.τ).loc Cert.Band0DkvReferenceIdeal.main_arg1)
      ∧ r.2.mem ((c.tc : Thread Cert.Band0DkvReferenceIdeal.nD Cert.Band0DkvReferenceIdeal.τ).loc Cert.Band0DkvReferenceIdeal.main_arg2) = m ((c.tc : Thread Cert.Band0DkvReferenceIdeal.nD Cert.Band0DkvReferenceIdeal.τ).loc Cert.Band0DkvReferenceIdeal.main_arg2)
      ∧ r.2.mem ((c.tc : Thread Cert.Band0DkvReferenceIdeal.nD Cert.Band0DkvReferenceIdeal.τ).loc Cert.Band0DkvReferenceIdeal.main_arg3) = m ((c.tc : Thread Cert.Band0DkvReferenceIdeal.nD Cert.Band0DkvReferenceIdeal.τ).loc Cert.Band0DkvReferenceIdeal.main_arg3)
      ∧ r.2.mem ((c.tc : Thread Cert.Band0DkvReferenceIdeal.nD Cert.Band0DkvReferenceIdeal.τ).loc Cert.Band0DkvReferenceIdeal.main_arg4) = m ((c.tc : Thread Cert.Band0DkvReferenceIdeal.nD Cert.Band0DkvReferenceIdeal.τ).loc Cert.Band0DkvReferenceIdeal.main_arg4))
      ∧ r.2.sem = fun _ => 0)

def quiescent_Band0DkvReferenceIdeal_pre_band_finite [hBand0DkvReferenceIdeal : Cert.Band0DkvReferenceIdeal.Facts] [hPre_band_finite : Cert.Pre_band_finite.Facts] : Prop :=
  ∀ (m : (ℓ : Loc Cert.Band0DkvReferenceIdeal.nD Cert.Band0DkvReferenceIdeal.τ Cert.Band0DkvReferenceIdeal.sig) → Buf (Elt Ideal) ℓ) (g : Dev Cert.Band0DkvReferenceIdeal.nD → PrngReg), Pre_Band0DkvReferenceIdeal_band_finite m →
    θ_run (Cert.Band0DkvReferenceIdeal.defs (F := Ideal)) (onTc (τ := Cert.Band0DkvReferenceIdeal.τ) (Cert.Band0DkvReferenceIdeal.main (F := Ideal))) ⟨m, fun _ => 0, g⟩ (fun r => (∀ c : Dev Cert.Band0DkvReferenceIdeal.nD,
      r.2.mem ((c.tc : Thread Cert.Band0DkvReferenceIdeal.nD Cert.Band0DkvReferenceIdeal.τ).loc Cert.Band0DkvReferenceIdeal.main_arg0) = m ((c.tc : Thread Cert.Band0DkvReferenceIdeal.nD Cert.Band0DkvReferenceIdeal.τ).loc Cert.Band0DkvReferenceIdeal.main_arg0)
      ∧ r.2.mem ((c.tc : Thread Cert.Band0DkvReferenceIdeal.nD Cert.Band0DkvReferenceIdeal.τ).loc Cert.Band0DkvReferenceIdeal.main_arg1) = m ((c.tc : Thread Cert.Band0DkvReferenceIdeal.nD Cert.Band0DkvReferenceIdeal.τ).loc Cert.Band0DkvReferenceIdeal.main_arg1)
      ∧ r.2.mem ((c.tc : Thread Cert.Band0DkvReferenceIdeal.nD Cert.Band0DkvReferenceIdeal.τ).loc Cert.Band0DkvReferenceIdeal.main_arg2) = m ((c.tc : Thread Cert.Band0DkvReferenceIdeal.nD Cert.Band0DkvReferenceIdeal.τ).loc Cert.Band0DkvReferenceIdeal.main_arg2)
      ∧ r.2.mem ((c.tc : Thread Cert.Band0DkvReferenceIdeal.nD Cert.Band0DkvReferenceIdeal.τ).loc Cert.Band0DkvReferenceIdeal.main_arg3) = m ((c.tc : Thread Cert.Band0DkvReferenceIdeal.nD Cert.Band0DkvReferenceIdeal.τ).loc Cert.Band0DkvReferenceIdeal.main_arg3)
      ∧ r.2.mem ((c.tc : Thread Cert.Band0DkvReferenceIdeal.nD Cert.Band0DkvReferenceIdeal.τ).loc Cert.Band0DkvReferenceIdeal.main_arg4) = m ((c.tc : Thread Cert.Band0DkvReferenceIdeal.nD Cert.Band0DkvReferenceIdeal.τ).loc Cert.Band0DkvReferenceIdeal.main_arg4))
      ∧ r.2.sem = fun _ => 0)

def quiescent_Band1DqKernel [hBand1DqKernel : Cert.Band1DqKernel.Facts] : Prop :=
  ∀ (m : (ℓ : Loc Cert.Band1DqKernel.nD Cert.Band1DqKernel.τ Cert.Band1DqKernel.sig) → Buf (Elt Bits) ℓ) (g : Dev Cert.Band1DqKernel.nD → PrngReg), Pre_Band1DqKernel m →
    θ_run (Cert.Band1DqKernel.defs (F := Bits)) (onTc (τ := Cert.Band1DqKernel.τ) (Cert.Band1DqKernel.main (F := Bits))) ⟨m, fun _ => 0, g⟩ (fun r => (∀ c : Dev Cert.Band1DqKernel.nD,
      r.2.mem ((c.tc : Thread Cert.Band1DqKernel.nD Cert.Band1DqKernel.τ).loc Cert.Band1DqKernel.main_arg0) = m ((c.tc : Thread Cert.Band1DqKernel.nD Cert.Band1DqKernel.τ).loc Cert.Band1DqKernel.main_arg0)
      ∧ r.2.mem ((c.tc : Thread Cert.Band1DqKernel.nD Cert.Band1DqKernel.τ).loc Cert.Band1DqKernel.main_arg1) = m ((c.tc : Thread Cert.Band1DqKernel.nD Cert.Band1DqKernel.τ).loc Cert.Band1DqKernel.main_arg1)
      ∧ r.2.mem ((c.tc : Thread Cert.Band1DqKernel.nD Cert.Band1DqKernel.τ).loc Cert.Band1DqKernel.main_arg2) = m ((c.tc : Thread Cert.Band1DqKernel.nD Cert.Band1DqKernel.τ).loc Cert.Band1DqKernel.main_arg2)
      ∧ r.2.mem ((c.tc : Thread Cert.Band1DqKernel.nD Cert.Band1DqKernel.τ).loc Cert.Band1DqKernel.main_arg3) = m ((c.tc : Thread Cert.Band1DqKernel.nD Cert.Band1DqKernel.τ).loc Cert.Band1DqKernel.main_arg3)
      ∧ r.2.mem ((c.tc : Thread Cert.Band1DqKernel.nD Cert.Band1DqKernel.τ).loc Cert.Band1DqKernel.main_arg4) = m ((c.tc : Thread Cert.Band1DqKernel.nD Cert.Band1DqKernel.τ).loc Cert.Band1DqKernel.main_arg4))
      ∧ r.2.sem = fun _ => 0)

def quiescent_Band1DqKernelIdeal [hBand1DqKernelIdeal : Cert.Band1DqKernelIdeal.Facts] : Prop :=
  ∀ (m : (ℓ : Loc Cert.Band1DqKernelIdeal.nD Cert.Band1DqKernelIdeal.τ Cert.Band1DqKernelIdeal.sig) → Buf (Elt Ideal) ℓ) (g : Dev Cert.Band1DqKernelIdeal.nD → PrngReg), Pre_Band1DqKernelIdeal m →
    θ_run (Cert.Band1DqKernelIdeal.defs (F := Ideal)) (onTc (τ := Cert.Band1DqKernelIdeal.τ) (Cert.Band1DqKernelIdeal.main (F := Ideal))) ⟨m, fun _ => 0, g⟩ (fun r => (∀ c : Dev Cert.Band1DqKernelIdeal.nD,
      r.2.mem ((c.tc : Thread Cert.Band1DqKernelIdeal.nD Cert.Band1DqKernelIdeal.τ).loc Cert.Band1DqKernelIdeal.main_arg0) = m ((c.tc : Thread Cert.Band1DqKernelIdeal.nD Cert.Band1DqKernelIdeal.τ).loc Cert.Band1DqKernelIdeal.main_arg0)
      ∧ r.2.mem ((c.tc : Thread Cert.Band1DqKernelIdeal.nD Cert.Band1DqKernelIdeal.τ).loc Cert.Band1DqKernelIdeal.main_arg1) = m ((c.tc : Thread Cert.Band1DqKernelIdeal.nD Cert.Band1DqKernelIdeal.τ).loc Cert.Band1DqKernelIdeal.main_arg1)
      ∧ r.2.mem ((c.tc : Thread Cert.Band1DqKernelIdeal.nD Cert.Band1DqKernelIdeal.τ).loc Cert.Band1DqKernelIdeal.main_arg2) = m ((c.tc : Thread Cert.Band1DqKernelIdeal.nD Cert.Band1DqKernelIdeal.τ).loc Cert.Band1DqKernelIdeal.main_arg2)
      ∧ r.2.mem ((c.tc : Thread Cert.Band1DqKernelIdeal.nD Cert.Band1DqKernelIdeal.τ).loc Cert.Band1DqKernelIdeal.main_arg3) = m ((c.tc : Thread Cert.Band1DqKernelIdeal.nD Cert.Band1DqKernelIdeal.τ).loc Cert.Band1DqKernelIdeal.main_arg3)
      ∧ r.2.mem ((c.tc : Thread Cert.Band1DqKernelIdeal.nD Cert.Band1DqKernelIdeal.τ).loc Cert.Band1DqKernelIdeal.main_arg4) = m ((c.tc : Thread Cert.Band1DqKernelIdeal.nD Cert.Band1DqKernelIdeal.τ).loc Cert.Band1DqKernelIdeal.main_arg4))
      ∧ r.2.sem = fun _ => 0)

def quiescent_Band1DqKernelIdeal_pre_band_finite [hBand1DqKernelIdeal : Cert.Band1DqKernelIdeal.Facts] [hPre_band_finite : Cert.Pre_band_finite.Facts] : Prop :=
  ∀ (m : (ℓ : Loc Cert.Band1DqKernelIdeal.nD Cert.Band1DqKernelIdeal.τ Cert.Band1DqKernelIdeal.sig) → Buf (Elt Ideal) ℓ) (g : Dev Cert.Band1DqKernelIdeal.nD → PrngReg), Pre_Band1DqKernelIdeal_band_finite m →
    θ_run (Cert.Band1DqKernelIdeal.defs (F := Ideal)) (onTc (τ := Cert.Band1DqKernelIdeal.τ) (Cert.Band1DqKernelIdeal.main (F := Ideal))) ⟨m, fun _ => 0, g⟩ (fun r => (∀ c : Dev Cert.Band1DqKernelIdeal.nD,
      r.2.mem ((c.tc : Thread Cert.Band1DqKernelIdeal.nD Cert.Band1DqKernelIdeal.τ).loc Cert.Band1DqKernelIdeal.main_arg0) = m ((c.tc : Thread Cert.Band1DqKernelIdeal.nD Cert.Band1DqKernelIdeal.τ).loc Cert.Band1DqKernelIdeal.main_arg0)
      ∧ r.2.mem ((c.tc : Thread Cert.Band1DqKernelIdeal.nD Cert.Band1DqKernelIdeal.τ).loc Cert.Band1DqKernelIdeal.main_arg1) = m ((c.tc : Thread Cert.Band1DqKernelIdeal.nD Cert.Band1DqKernelIdeal.τ).loc Cert.Band1DqKernelIdeal.main_arg1)
      ∧ r.2.mem ((c.tc : Thread Cert.Band1DqKernelIdeal.nD Cert.Band1DqKernelIdeal.τ).loc Cert.Band1DqKernelIdeal.main_arg2) = m ((c.tc : Thread Cert.Band1DqKernelIdeal.nD Cert.Band1DqKernelIdeal.τ).loc Cert.Band1DqKernelIdeal.main_arg2)
      ∧ r.2.mem ((c.tc : Thread Cert.Band1DqKernelIdeal.nD Cert.Band1DqKernelIdeal.τ).loc Cert.Band1DqKernelIdeal.main_arg3) = m ((c.tc : Thread Cert.Band1DqKernelIdeal.nD Cert.Band1DqKernelIdeal.τ).loc Cert.Band1DqKernelIdeal.main_arg3)
      ∧ r.2.mem ((c.tc : Thread Cert.Band1DqKernelIdeal.nD Cert.Band1DqKernelIdeal.τ).loc Cert.Band1DqKernelIdeal.main_arg4) = m ((c.tc : Thread Cert.Band1DqKernelIdeal.nD Cert.Band1DqKernelIdeal.τ).loc Cert.Band1DqKernelIdeal.main_arg4))
      ∧ r.2.sem = fun _ => 0)

def quiescent_Band1DqReferenceIdeal [hBand1DqReferenceIdeal : Cert.Band1DqReferenceIdeal.Facts] : Prop :=
  ∀ (m : (ℓ : Loc Cert.Band1DqReferenceIdeal.nD Cert.Band1DqReferenceIdeal.τ Cert.Band1DqReferenceIdeal.sig) → Buf (Elt Ideal) ℓ) (g : Dev Cert.Band1DqReferenceIdeal.nD → PrngReg), Pre_Band1DqReferenceIdeal m →
    θ_run (Cert.Band1DqReferenceIdeal.defs (F := Ideal)) (onTc (τ := Cert.Band1DqReferenceIdeal.τ) (Cert.Band1DqReferenceIdeal.main (F := Ideal))) ⟨m, fun _ => 0, g⟩ (fun r => (∀ c : Dev Cert.Band1DqReferenceIdeal.nD,
      r.2.mem ((c.tc : Thread Cert.Band1DqReferenceIdeal.nD Cert.Band1DqReferenceIdeal.τ).loc Cert.Band1DqReferenceIdeal.main_arg0) = m ((c.tc : Thread Cert.Band1DqReferenceIdeal.nD Cert.Band1DqReferenceIdeal.τ).loc Cert.Band1DqReferenceIdeal.main_arg0)
      ∧ r.2.mem ((c.tc : Thread Cert.Band1DqReferenceIdeal.nD Cert.Band1DqReferenceIdeal.τ).loc Cert.Band1DqReferenceIdeal.main_arg1) = m ((c.tc : Thread Cert.Band1DqReferenceIdeal.nD Cert.Band1DqReferenceIdeal.τ).loc Cert.Band1DqReferenceIdeal.main_arg1)
      ∧ r.2.mem ((c.tc : Thread Cert.Band1DqReferenceIdeal.nD Cert.Band1DqReferenceIdeal.τ).loc Cert.Band1DqReferenceIdeal.main_arg2) = m ((c.tc : Thread Cert.Band1DqReferenceIdeal.nD Cert.Band1DqReferenceIdeal.τ).loc Cert.Band1DqReferenceIdeal.main_arg2)
      ∧ r.2.mem ((c.tc : Thread Cert.Band1DqReferenceIdeal.nD Cert.Band1DqReferenceIdeal.τ).loc Cert.Band1DqReferenceIdeal.main_arg3) = m ((c.tc : Thread Cert.Band1DqReferenceIdeal.nD Cert.Band1DqReferenceIdeal.τ).loc Cert.Band1DqReferenceIdeal.main_arg3)
      ∧ r.2.mem ((c.tc : Thread Cert.Band1DqReferenceIdeal.nD Cert.Band1DqReferenceIdeal.τ).loc Cert.Band1DqReferenceIdeal.main_arg4) = m ((c.tc : Thread Cert.Band1DqReferenceIdeal.nD Cert.Band1DqReferenceIdeal.τ).loc Cert.Band1DqReferenceIdeal.main_arg4))
      ∧ r.2.sem = fun _ => 0)

def quiescent_Band1DqReferenceIdeal_pre_band_finite [hBand1DqReferenceIdeal : Cert.Band1DqReferenceIdeal.Facts] [hPre_band_finite : Cert.Pre_band_finite.Facts] : Prop :=
  ∀ (m : (ℓ : Loc Cert.Band1DqReferenceIdeal.nD Cert.Band1DqReferenceIdeal.τ Cert.Band1DqReferenceIdeal.sig) → Buf (Elt Ideal) ℓ) (g : Dev Cert.Band1DqReferenceIdeal.nD → PrngReg), Pre_Band1DqReferenceIdeal_band_finite m →
    θ_run (Cert.Band1DqReferenceIdeal.defs (F := Ideal)) (onTc (τ := Cert.Band1DqReferenceIdeal.τ) (Cert.Band1DqReferenceIdeal.main (F := Ideal))) ⟨m, fun _ => 0, g⟩ (fun r => (∀ c : Dev Cert.Band1DqReferenceIdeal.nD,
      r.2.mem ((c.tc : Thread Cert.Band1DqReferenceIdeal.nD Cert.Band1DqReferenceIdeal.τ).loc Cert.Band1DqReferenceIdeal.main_arg0) = m ((c.tc : Thread Cert.Band1DqReferenceIdeal.nD Cert.Band1DqReferenceIdeal.τ).loc Cert.Band1DqReferenceIdeal.main_arg0)
      ∧ r.2.mem ((c.tc : Thread Cert.Band1DqReferenceIdeal.nD Cert.Band1DqReferenceIdeal.τ).loc Cert.Band1DqReferenceIdeal.main_arg1) = m ((c.tc : Thread Cert.Band1DqReferenceIdeal.nD Cert.Band1DqReferenceIdeal.τ).loc Cert.Band1DqReferenceIdeal.main_arg1)
      ∧ r.2.mem ((c.tc : Thread Cert.Band1DqReferenceIdeal.nD Cert.Band1DqReferenceIdeal.τ).loc Cert.Band1DqReferenceIdeal.main_arg2) = m ((c.tc : Thread Cert.Band1DqReferenceIdeal.nD Cert.Band1DqReferenceIdeal.τ).loc Cert.Band1DqReferenceIdeal.main_arg2)
      ∧ r.2.mem ((c.tc : Thread Cert.Band1DqReferenceIdeal.nD Cert.Band1DqReferenceIdeal.τ).loc Cert.Band1DqReferenceIdeal.main_arg3) = m ((c.tc : Thread Cert.Band1DqReferenceIdeal.nD Cert.Band1DqReferenceIdeal.τ).loc Cert.Band1DqReferenceIdeal.main_arg3)
      ∧ r.2.mem ((c.tc : Thread Cert.Band1DqReferenceIdeal.nD Cert.Band1DqReferenceIdeal.τ).loc Cert.Band1DqReferenceIdeal.main_arg4) = m ((c.tc : Thread Cert.Band1DqReferenceIdeal.nD Cert.Band1DqReferenceIdeal.τ).loc Cert.Band1DqReferenceIdeal.main_arg4))
      ∧ r.2.sem = fun _ => 0)

def quiescent_Band1DkvKernel [hBand1DkvKernel : Cert.Band1DkvKernel.Facts] : Prop :=
  ∀ (m : (ℓ : Loc Cert.Band1DkvKernel.nD Cert.Band1DkvKernel.τ Cert.Band1DkvKernel.sig) → Buf (Elt Bits) ℓ) (g : Dev Cert.Band1DkvKernel.nD → PrngReg), Pre_Band1DkvKernel m →
    θ_run (Cert.Band1DkvKernel.defs (F := Bits)) (onTc (τ := Cert.Band1DkvKernel.τ) (Cert.Band1DkvKernel.main (F := Bits))) ⟨m, fun _ => 0, g⟩ (fun r => (∀ c : Dev Cert.Band1DkvKernel.nD,
      r.2.mem ((c.tc : Thread Cert.Band1DkvKernel.nD Cert.Band1DkvKernel.τ).loc Cert.Band1DkvKernel.main_arg0) = m ((c.tc : Thread Cert.Band1DkvKernel.nD Cert.Band1DkvKernel.τ).loc Cert.Band1DkvKernel.main_arg0)
      ∧ r.2.mem ((c.tc : Thread Cert.Band1DkvKernel.nD Cert.Band1DkvKernel.τ).loc Cert.Band1DkvKernel.main_arg1) = m ((c.tc : Thread Cert.Band1DkvKernel.nD Cert.Band1DkvKernel.τ).loc Cert.Band1DkvKernel.main_arg1)
      ∧ r.2.mem ((c.tc : Thread Cert.Band1DkvKernel.nD Cert.Band1DkvKernel.τ).loc Cert.Band1DkvKernel.main_arg2) = m ((c.tc : Thread Cert.Band1DkvKernel.nD Cert.Band1DkvKernel.τ).loc Cert.Band1DkvKernel.main_arg2)
      ∧ r.2.mem ((c.tc : Thread Cert.Band1DkvKernel.nD Cert.Band1DkvKernel.τ).loc Cert.Band1DkvKernel.main_arg3) = m ((c.tc : Thread Cert.Band1DkvKernel.nD Cert.Band1DkvKernel.τ).loc Cert.Band1DkvKernel.main_arg3)
      ∧ r.2.mem ((c.tc : Thread Cert.Band1DkvKernel.nD Cert.Band1DkvKernel.τ).loc Cert.Band1DkvKernel.main_arg4) = m ((c.tc : Thread Cert.Band1DkvKernel.nD Cert.Band1DkvKernel.τ).loc Cert.Band1DkvKernel.main_arg4))
      ∧ r.2.sem = fun _ => 0)

def quiescent_Band1DkvKernelIdeal [hBand1DkvKernelIdeal : Cert.Band1DkvKernelIdeal.Facts] : Prop :=
  ∀ (m : (ℓ : Loc Cert.Band1DkvKernelIdeal.nD Cert.Band1DkvKernelIdeal.τ Cert.Band1DkvKernelIdeal.sig) → Buf (Elt Ideal) ℓ) (g : Dev Cert.Band1DkvKernelIdeal.nD → PrngReg), Pre_Band1DkvKernelIdeal m →
    θ_run (Cert.Band1DkvKernelIdeal.defs (F := Ideal)) (onTc (τ := Cert.Band1DkvKernelIdeal.τ) (Cert.Band1DkvKernelIdeal.main (F := Ideal))) ⟨m, fun _ => 0, g⟩ (fun r => (∀ c : Dev Cert.Band1DkvKernelIdeal.nD,
      r.2.mem ((c.tc : Thread Cert.Band1DkvKernelIdeal.nD Cert.Band1DkvKernelIdeal.τ).loc Cert.Band1DkvKernelIdeal.main_arg0) = m ((c.tc : Thread Cert.Band1DkvKernelIdeal.nD Cert.Band1DkvKernelIdeal.τ).loc Cert.Band1DkvKernelIdeal.main_arg0)
      ∧ r.2.mem ((c.tc : Thread Cert.Band1DkvKernelIdeal.nD Cert.Band1DkvKernelIdeal.τ).loc Cert.Band1DkvKernelIdeal.main_arg1) = m ((c.tc : Thread Cert.Band1DkvKernelIdeal.nD Cert.Band1DkvKernelIdeal.τ).loc Cert.Band1DkvKernelIdeal.main_arg1)
      ∧ r.2.mem ((c.tc : Thread Cert.Band1DkvKernelIdeal.nD Cert.Band1DkvKernelIdeal.τ).loc Cert.Band1DkvKernelIdeal.main_arg2) = m ((c.tc : Thread Cert.Band1DkvKernelIdeal.nD Cert.Band1DkvKernelIdeal.τ).loc Cert.Band1DkvKernelIdeal.main_arg2)
      ∧ r.2.mem ((c.tc : Thread Cert.Band1DkvKernelIdeal.nD Cert.Band1DkvKernelIdeal.τ).loc Cert.Band1DkvKernelIdeal.main_arg3) = m ((c.tc : Thread Cert.Band1DkvKernelIdeal.nD Cert.Band1DkvKernelIdeal.τ).loc Cert.Band1DkvKernelIdeal.main_arg3)
      ∧ r.2.mem ((c.tc : Thread Cert.Band1DkvKernelIdeal.nD Cert.Band1DkvKernelIdeal.τ).loc Cert.Band1DkvKernelIdeal.main_arg4) = m ((c.tc : Thread Cert.Band1DkvKernelIdeal.nD Cert.Band1DkvKernelIdeal.τ).loc Cert.Band1DkvKernelIdeal.main_arg4))
      ∧ r.2.sem = fun _ => 0)

def quiescent_Band1DkvKernelIdeal_pre_band_finite [hBand1DkvKernelIdeal : Cert.Band1DkvKernelIdeal.Facts] [hPre_band_finite : Cert.Pre_band_finite.Facts] : Prop :=
  ∀ (m : (ℓ : Loc Cert.Band1DkvKernelIdeal.nD Cert.Band1DkvKernelIdeal.τ Cert.Band1DkvKernelIdeal.sig) → Buf (Elt Ideal) ℓ) (g : Dev Cert.Band1DkvKernelIdeal.nD → PrngReg), Pre_Band1DkvKernelIdeal_band_finite m →
    θ_run (Cert.Band1DkvKernelIdeal.defs (F := Ideal)) (onTc (τ := Cert.Band1DkvKernelIdeal.τ) (Cert.Band1DkvKernelIdeal.main (F := Ideal))) ⟨m, fun _ => 0, g⟩ (fun r => (∀ c : Dev Cert.Band1DkvKernelIdeal.nD,
      r.2.mem ((c.tc : Thread Cert.Band1DkvKernelIdeal.nD Cert.Band1DkvKernelIdeal.τ).loc Cert.Band1DkvKernelIdeal.main_arg0) = m ((c.tc : Thread Cert.Band1DkvKernelIdeal.nD Cert.Band1DkvKernelIdeal.τ).loc Cert.Band1DkvKernelIdeal.main_arg0)
      ∧ r.2.mem ((c.tc : Thread Cert.Band1DkvKernelIdeal.nD Cert.Band1DkvKernelIdeal.τ).loc Cert.Band1DkvKernelIdeal.main_arg1) = m ((c.tc : Thread Cert.Band1DkvKernelIdeal.nD Cert.Band1DkvKernelIdeal.τ).loc Cert.Band1DkvKernelIdeal.main_arg1)
      ∧ r.2.mem ((c.tc : Thread Cert.Band1DkvKernelIdeal.nD Cert.Band1DkvKernelIdeal.τ).loc Cert.Band1DkvKernelIdeal.main_arg2) = m ((c.tc : Thread Cert.Band1DkvKernelIdeal.nD Cert.Band1DkvKernelIdeal.τ).loc Cert.Band1DkvKernelIdeal.main_arg2)
      ∧ r.2.mem ((c.tc : Thread Cert.Band1DkvKernelIdeal.nD Cert.Band1DkvKernelIdeal.τ).loc Cert.Band1DkvKernelIdeal.main_arg3) = m ((c.tc : Thread Cert.Band1DkvKernelIdeal.nD Cert.Band1DkvKernelIdeal.τ).loc Cert.Band1DkvKernelIdeal.main_arg3)
      ∧ r.2.mem ((c.tc : Thread Cert.Band1DkvKernelIdeal.nD Cert.Band1DkvKernelIdeal.τ).loc Cert.Band1DkvKernelIdeal.main_arg4) = m ((c.tc : Thread Cert.Band1DkvKernelIdeal.nD Cert.Band1DkvKernelIdeal.τ).loc Cert.Band1DkvKernelIdeal.main_arg4))
      ∧ r.2.sem = fun _ => 0)

def quiescent_Band1DkvReferenceIdeal [hBand1DkvReferenceIdeal : Cert.Band1DkvReferenceIdeal.Facts] : Prop :=
  ∀ (m : (ℓ : Loc Cert.Band1DkvReferenceIdeal.nD Cert.Band1DkvReferenceIdeal.τ Cert.Band1DkvReferenceIdeal.sig) → Buf (Elt Ideal) ℓ) (g : Dev Cert.Band1DkvReferenceIdeal.nD → PrngReg), Pre_Band1DkvReferenceIdeal m →
    θ_run (Cert.Band1DkvReferenceIdeal.defs (F := Ideal)) (onTc (τ := Cert.Band1DkvReferenceIdeal.τ) (Cert.Band1DkvReferenceIdeal.main (F := Ideal))) ⟨m, fun _ => 0, g⟩ (fun r => (∀ c : Dev Cert.Band1DkvReferenceIdeal.nD,
      r.2.mem ((c.tc : Thread Cert.Band1DkvReferenceIdeal.nD Cert.Band1DkvReferenceIdeal.τ).loc Cert.Band1DkvReferenceIdeal.main_arg0) = m ((c.tc : Thread Cert.Band1DkvReferenceIdeal.nD Cert.Band1DkvReferenceIdeal.τ).loc Cert.Band1DkvReferenceIdeal.main_arg0)
      ∧ r.2.mem ((c.tc : Thread Cert.Band1DkvReferenceIdeal.nD Cert.Band1DkvReferenceIdeal.τ).loc Cert.Band1DkvReferenceIdeal.main_arg1) = m ((c.tc : Thread Cert.Band1DkvReferenceIdeal.nD Cert.Band1DkvReferenceIdeal.τ).loc Cert.Band1DkvReferenceIdeal.main_arg1)
      ∧ r.2.mem ((c.tc : Thread Cert.Band1DkvReferenceIdeal.nD Cert.Band1DkvReferenceIdeal.τ).loc Cert.Band1DkvReferenceIdeal.main_arg2) = m ((c.tc : Thread Cert.Band1DkvReferenceIdeal.nD Cert.Band1DkvReferenceIdeal.τ).loc Cert.Band1DkvReferenceIdeal.main_arg2)
      ∧ r.2.mem ((c.tc : Thread Cert.Band1DkvReferenceIdeal.nD Cert.Band1DkvReferenceIdeal.τ).loc Cert.Band1DkvReferenceIdeal.main_arg3) = m ((c.tc : Thread Cert.Band1DkvReferenceIdeal.nD Cert.Band1DkvReferenceIdeal.τ).loc Cert.Band1DkvReferenceIdeal.main_arg3)
      ∧ r.2.mem ((c.tc : Thread Cert.Band1DkvReferenceIdeal.nD Cert.Band1DkvReferenceIdeal.τ).loc Cert.Band1DkvReferenceIdeal.main_arg4) = m ((c.tc : Thread Cert.Band1DkvReferenceIdeal.nD Cert.Band1DkvReferenceIdeal.τ).loc Cert.Band1DkvReferenceIdeal.main_arg4))
      ∧ r.2.sem = fun _ => 0)

def quiescent_Band1DkvReferenceIdeal_pre_band_finite [hBand1DkvReferenceIdeal : Cert.Band1DkvReferenceIdeal.Facts] [hPre_band_finite : Cert.Pre_band_finite.Facts] : Prop :=
  ∀ (m : (ℓ : Loc Cert.Band1DkvReferenceIdeal.nD Cert.Band1DkvReferenceIdeal.τ Cert.Band1DkvReferenceIdeal.sig) → Buf (Elt Ideal) ℓ) (g : Dev Cert.Band1DkvReferenceIdeal.nD → PrngReg), Pre_Band1DkvReferenceIdeal_band_finite m →
    θ_run (Cert.Band1DkvReferenceIdeal.defs (F := Ideal)) (onTc (τ := Cert.Band1DkvReferenceIdeal.τ) (Cert.Band1DkvReferenceIdeal.main (F := Ideal))) ⟨m, fun _ => 0, g⟩ (fun r => (∀ c : Dev Cert.Band1DkvReferenceIdeal.nD,
      r.2.mem ((c.tc : Thread Cert.Band1DkvReferenceIdeal.nD Cert.Band1DkvReferenceIdeal.τ).loc Cert.Band1DkvReferenceIdeal.main_arg0) = m ((c.tc : Thread Cert.Band1DkvReferenceIdeal.nD Cert.Band1DkvReferenceIdeal.τ).loc Cert.Band1DkvReferenceIdeal.main_arg0)
      ∧ r.2.mem ((c.tc : Thread Cert.Band1DkvReferenceIdeal.nD Cert.Band1DkvReferenceIdeal.τ).loc Cert.Band1DkvReferenceIdeal.main_arg1) = m ((c.tc : Thread Cert.Band1DkvReferenceIdeal.nD Cert.Band1DkvReferenceIdeal.τ).loc Cert.Band1DkvReferenceIdeal.main_arg1)
      ∧ r.2.mem ((c.tc : Thread Cert.Band1DkvReferenceIdeal.nD Cert.Band1DkvReferenceIdeal.τ).loc Cert.Band1DkvReferenceIdeal.main_arg2) = m ((c.tc : Thread Cert.Band1DkvReferenceIdeal.nD Cert.Band1DkvReferenceIdeal.τ).loc Cert.Band1DkvReferenceIdeal.main_arg2)
      ∧ r.2.mem ((c.tc : Thread Cert.Band1DkvReferenceIdeal.nD Cert.Band1DkvReferenceIdeal.τ).loc Cert.Band1DkvReferenceIdeal.main_arg3) = m ((c.tc : Thread Cert.Band1DkvReferenceIdeal.nD Cert.Band1DkvReferenceIdeal.τ).loc Cert.Band1DkvReferenceIdeal.main_arg3)
      ∧ r.2.mem ((c.tc : Thread Cert.Band1DkvReferenceIdeal.nD Cert.Band1DkvReferenceIdeal.τ).loc Cert.Band1DkvReferenceIdeal.main_arg4) = m ((c.tc : Thread Cert.Band1DkvReferenceIdeal.nD Cert.Band1DkvReferenceIdeal.τ).loc Cert.Band1DkvReferenceIdeal.main_arg4))
      ∧ r.2.sem = fun _ => 0)

def quiescent_Band2DqKernel [hBand2DqKernel : Cert.Band2DqKernel.Facts] : Prop :=
  ∀ (m : (ℓ : Loc Cert.Band2DqKernel.nD Cert.Band2DqKernel.τ Cert.Band2DqKernel.sig) → Buf (Elt Bits) ℓ) (g : Dev Cert.Band2DqKernel.nD → PrngReg), Pre_Band2DqKernel m →
    θ_run (Cert.Band2DqKernel.defs (F := Bits)) (onTc (τ := Cert.Band2DqKernel.τ) (Cert.Band2DqKernel.main (F := Bits))) ⟨m, fun _ => 0, g⟩ (fun r => (∀ c : Dev Cert.Band2DqKernel.nD,
      r.2.mem ((c.tc : Thread Cert.Band2DqKernel.nD Cert.Band2DqKernel.τ).loc Cert.Band2DqKernel.main_arg0) = m ((c.tc : Thread Cert.Band2DqKernel.nD Cert.Band2DqKernel.τ).loc Cert.Band2DqKernel.main_arg0)
      ∧ r.2.mem ((c.tc : Thread Cert.Band2DqKernel.nD Cert.Band2DqKernel.τ).loc Cert.Band2DqKernel.main_arg1) = m ((c.tc : Thread Cert.Band2DqKernel.nD Cert.Band2DqKernel.τ).loc Cert.Band2DqKernel.main_arg1)
      ∧ r.2.mem ((c.tc : Thread Cert.Band2DqKernel.nD Cert.Band2DqKernel.τ).loc Cert.Band2DqKernel.main_arg2) = m ((c.tc : Thread Cert.Band2DqKernel.nD Cert.Band2DqKernel.τ).loc Cert.Band2DqKernel.main_arg2)
      ∧ r.2.mem ((c.tc : Thread Cert.Band2DqKernel.nD Cert.Band2DqKernel.τ).loc Cert.Band2DqKernel.main_arg3) = m ((c.tc : Thread Cert.Band2DqKernel.nD Cert.Band2DqKernel.τ).loc Cert.Band2DqKernel.main_arg3)
      ∧ r.2.mem ((c.tc : Thread Cert.Band2DqKernel.nD Cert.Band2DqKernel.τ).loc Cert.Band2DqKernel.main_arg4) = m ((c.tc : Thread Cert.Band2DqKernel.nD Cert.Band2DqKernel.τ).loc Cert.Band2DqKernel.main_arg4))
      ∧ r.2.sem = fun _ => 0)

def quiescent_Band2DqKernelIdeal [hBand2DqKernelIdeal : Cert.Band2DqKernelIdeal.Facts] : Prop :=
  ∀ (m : (ℓ : Loc Cert.Band2DqKernelIdeal.nD Cert.Band2DqKernelIdeal.τ Cert.Band2DqKernelIdeal.sig) → Buf (Elt Ideal) ℓ) (g : Dev Cert.Band2DqKernelIdeal.nD → PrngReg), Pre_Band2DqKernelIdeal m →
    θ_run (Cert.Band2DqKernelIdeal.defs (F := Ideal)) (onTc (τ := Cert.Band2DqKernelIdeal.τ) (Cert.Band2DqKernelIdeal.main (F := Ideal))) ⟨m, fun _ => 0, g⟩ (fun r => (∀ c : Dev Cert.Band2DqKernelIdeal.nD,
      r.2.mem ((c.tc : Thread Cert.Band2DqKernelIdeal.nD Cert.Band2DqKernelIdeal.τ).loc Cert.Band2DqKernelIdeal.main_arg0) = m ((c.tc : Thread Cert.Band2DqKernelIdeal.nD Cert.Band2DqKernelIdeal.τ).loc Cert.Band2DqKernelIdeal.main_arg0)
      ∧ r.2.mem ((c.tc : Thread Cert.Band2DqKernelIdeal.nD Cert.Band2DqKernelIdeal.τ).loc Cert.Band2DqKernelIdeal.main_arg1) = m ((c.tc : Thread Cert.Band2DqKernelIdeal.nD Cert.Band2DqKernelIdeal.τ).loc Cert.Band2DqKernelIdeal.main_arg1)
      ∧ r.2.mem ((c.tc : Thread Cert.Band2DqKernelIdeal.nD Cert.Band2DqKernelIdeal.τ).loc Cert.Band2DqKernelIdeal.main_arg2) = m ((c.tc : Thread Cert.Band2DqKernelIdeal.nD Cert.Band2DqKernelIdeal.τ).loc Cert.Band2DqKernelIdeal.main_arg2)
      ∧ r.2.mem ((c.tc : Thread Cert.Band2DqKernelIdeal.nD Cert.Band2DqKernelIdeal.τ).loc Cert.Band2DqKernelIdeal.main_arg3) = m ((c.tc : Thread Cert.Band2DqKernelIdeal.nD Cert.Band2DqKernelIdeal.τ).loc Cert.Band2DqKernelIdeal.main_arg3)
      ∧ r.2.mem ((c.tc : Thread Cert.Band2DqKernelIdeal.nD Cert.Band2DqKernelIdeal.τ).loc Cert.Band2DqKernelIdeal.main_arg4) = m ((c.tc : Thread Cert.Band2DqKernelIdeal.nD Cert.Band2DqKernelIdeal.τ).loc Cert.Band2DqKernelIdeal.main_arg4))
      ∧ r.2.sem = fun _ => 0)

def quiescent_Band2DqKernelIdeal_pre_band_finite [hBand2DqKernelIdeal : Cert.Band2DqKernelIdeal.Facts] [hPre_band_finite : Cert.Pre_band_finite.Facts] : Prop :=
  ∀ (m : (ℓ : Loc Cert.Band2DqKernelIdeal.nD Cert.Band2DqKernelIdeal.τ Cert.Band2DqKernelIdeal.sig) → Buf (Elt Ideal) ℓ) (g : Dev Cert.Band2DqKernelIdeal.nD → PrngReg), Pre_Band2DqKernelIdeal_band_finite m →
    θ_run (Cert.Band2DqKernelIdeal.defs (F := Ideal)) (onTc (τ := Cert.Band2DqKernelIdeal.τ) (Cert.Band2DqKernelIdeal.main (F := Ideal))) ⟨m, fun _ => 0, g⟩ (fun r => (∀ c : Dev Cert.Band2DqKernelIdeal.nD,
      r.2.mem ((c.tc : Thread Cert.Band2DqKernelIdeal.nD Cert.Band2DqKernelIdeal.τ).loc Cert.Band2DqKernelIdeal.main_arg0) = m ((c.tc : Thread Cert.Band2DqKernelIdeal.nD Cert.Band2DqKernelIdeal.τ).loc Cert.Band2DqKernelIdeal.main_arg0)
      ∧ r.2.mem ((c.tc : Thread Cert.Band2DqKernelIdeal.nD Cert.Band2DqKernelIdeal.τ).loc Cert.Band2DqKernelIdeal.main_arg1) = m ((c.tc : Thread Cert.Band2DqKernelIdeal.nD Cert.Band2DqKernelIdeal.τ).loc Cert.Band2DqKernelIdeal.main_arg1)
      ∧ r.2.mem ((c.tc : Thread Cert.Band2DqKernelIdeal.nD Cert.Band2DqKernelIdeal.τ).loc Cert.Band2DqKernelIdeal.main_arg2) = m ((c.tc : Thread Cert.Band2DqKernelIdeal.nD Cert.Band2DqKernelIdeal.τ).loc Cert.Band2DqKernelIdeal.main_arg2)
      ∧ r.2.mem ((c.tc : Thread Cert.Band2DqKernelIdeal.nD Cert.Band2DqKernelIdeal.τ).loc Cert.Band2DqKernelIdeal.main_arg3) = m ((c.tc : Thread Cert.Band2DqKernelIdeal.nD Cert.Band2DqKernelIdeal.τ).loc Cert.Band2DqKernelIdeal.main_arg3)
      ∧ r.2.mem ((c.tc : Thread Cert.Band2DqKernelIdeal.nD Cert.Band2DqKernelIdeal.τ).loc Cert.Band2DqKernelIdeal.main_arg4) = m ((c.tc : Thread Cert.Band2DqKernelIdeal.nD Cert.Band2DqKernelIdeal.τ).loc Cert.Band2DqKernelIdeal.main_arg4))
      ∧ r.2.sem = fun _ => 0)

def quiescent_Band2DqReferenceIdeal [hBand2DqReferenceIdeal : Cert.Band2DqReferenceIdeal.Facts] : Prop :=
  ∀ (m : (ℓ : Loc Cert.Band2DqReferenceIdeal.nD Cert.Band2DqReferenceIdeal.τ Cert.Band2DqReferenceIdeal.sig) → Buf (Elt Ideal) ℓ) (g : Dev Cert.Band2DqReferenceIdeal.nD → PrngReg), Pre_Band2DqReferenceIdeal m →
    θ_run (Cert.Band2DqReferenceIdeal.defs (F := Ideal)) (onTc (τ := Cert.Band2DqReferenceIdeal.τ) (Cert.Band2DqReferenceIdeal.main (F := Ideal))) ⟨m, fun _ => 0, g⟩ (fun r => (∀ c : Dev Cert.Band2DqReferenceIdeal.nD,
      r.2.mem ((c.tc : Thread Cert.Band2DqReferenceIdeal.nD Cert.Band2DqReferenceIdeal.τ).loc Cert.Band2DqReferenceIdeal.main_arg0) = m ((c.tc : Thread Cert.Band2DqReferenceIdeal.nD Cert.Band2DqReferenceIdeal.τ).loc Cert.Band2DqReferenceIdeal.main_arg0)
      ∧ r.2.mem ((c.tc : Thread Cert.Band2DqReferenceIdeal.nD Cert.Band2DqReferenceIdeal.τ).loc Cert.Band2DqReferenceIdeal.main_arg1) = m ((c.tc : Thread Cert.Band2DqReferenceIdeal.nD Cert.Band2DqReferenceIdeal.τ).loc Cert.Band2DqReferenceIdeal.main_arg1)
      ∧ r.2.mem ((c.tc : Thread Cert.Band2DqReferenceIdeal.nD Cert.Band2DqReferenceIdeal.τ).loc Cert.Band2DqReferenceIdeal.main_arg2) = m ((c.tc : Thread Cert.Band2DqReferenceIdeal.nD Cert.Band2DqReferenceIdeal.τ).loc Cert.Band2DqReferenceIdeal.main_arg2)
      ∧ r.2.mem ((c.tc : Thread Cert.Band2DqReferenceIdeal.nD Cert.Band2DqReferenceIdeal.τ).loc Cert.Band2DqReferenceIdeal.main_arg3) = m ((c.tc : Thread Cert.Band2DqReferenceIdeal.nD Cert.Band2DqReferenceIdeal.τ).loc Cert.Band2DqReferenceIdeal.main_arg3)
      ∧ r.2.mem ((c.tc : Thread Cert.Band2DqReferenceIdeal.nD Cert.Band2DqReferenceIdeal.τ).loc Cert.Band2DqReferenceIdeal.main_arg4) = m ((c.tc : Thread Cert.Band2DqReferenceIdeal.nD Cert.Band2DqReferenceIdeal.τ).loc Cert.Band2DqReferenceIdeal.main_arg4))
      ∧ r.2.sem = fun _ => 0)

def quiescent_Band2DqReferenceIdeal_pre_band_finite [hBand2DqReferenceIdeal : Cert.Band2DqReferenceIdeal.Facts] [hPre_band_finite : Cert.Pre_band_finite.Facts] : Prop :=
  ∀ (m : (ℓ : Loc Cert.Band2DqReferenceIdeal.nD Cert.Band2DqReferenceIdeal.τ Cert.Band2DqReferenceIdeal.sig) → Buf (Elt Ideal) ℓ) (g : Dev Cert.Band2DqReferenceIdeal.nD → PrngReg), Pre_Band2DqReferenceIdeal_band_finite m →
    θ_run (Cert.Band2DqReferenceIdeal.defs (F := Ideal)) (onTc (τ := Cert.Band2DqReferenceIdeal.τ) (Cert.Band2DqReferenceIdeal.main (F := Ideal))) ⟨m, fun _ => 0, g⟩ (fun r => (∀ c : Dev Cert.Band2DqReferenceIdeal.nD,
      r.2.mem ((c.tc : Thread Cert.Band2DqReferenceIdeal.nD Cert.Band2DqReferenceIdeal.τ).loc Cert.Band2DqReferenceIdeal.main_arg0) = m ((c.tc : Thread Cert.Band2DqReferenceIdeal.nD Cert.Band2DqReferenceIdeal.τ).loc Cert.Band2DqReferenceIdeal.main_arg0)
      ∧ r.2.mem ((c.tc : Thread Cert.Band2DqReferenceIdeal.nD Cert.Band2DqReferenceIdeal.τ).loc Cert.Band2DqReferenceIdeal.main_arg1) = m ((c.tc : Thread Cert.Band2DqReferenceIdeal.nD Cert.Band2DqReferenceIdeal.τ).loc Cert.Band2DqReferenceIdeal.main_arg1)
      ∧ r.2.mem ((c.tc : Thread Cert.Band2DqReferenceIdeal.nD Cert.Band2DqReferenceIdeal.τ).loc Cert.Band2DqReferenceIdeal.main_arg2) = m ((c.tc : Thread Cert.Band2DqReferenceIdeal.nD Cert.Band2DqReferenceIdeal.τ).loc Cert.Band2DqReferenceIdeal.main_arg2)
      ∧ r.2.mem ((c.tc : Thread Cert.Band2DqReferenceIdeal.nD Cert.Band2DqReferenceIdeal.τ).loc Cert.Band2DqReferenceIdeal.main_arg3) = m ((c.tc : Thread Cert.Band2DqReferenceIdeal.nD Cert.Band2DqReferenceIdeal.τ).loc Cert.Band2DqReferenceIdeal.main_arg3)
      ∧ r.2.mem ((c.tc : Thread Cert.Band2DqReferenceIdeal.nD Cert.Band2DqReferenceIdeal.τ).loc Cert.Band2DqReferenceIdeal.main_arg4) = m ((c.tc : Thread Cert.Band2DqReferenceIdeal.nD Cert.Band2DqReferenceIdeal.τ).loc Cert.Band2DqReferenceIdeal.main_arg4))
      ∧ r.2.sem = fun _ => 0)

def quiescent_Band2DkvKernel [hBand2DkvKernel : Cert.Band2DkvKernel.Facts] : Prop :=
  ∀ (m : (ℓ : Loc Cert.Band2DkvKernel.nD Cert.Band2DkvKernel.τ Cert.Band2DkvKernel.sig) → Buf (Elt Bits) ℓ) (g : Dev Cert.Band2DkvKernel.nD → PrngReg), Pre_Band2DkvKernel m →
    θ_run (Cert.Band2DkvKernel.defs (F := Bits)) (onTc (τ := Cert.Band2DkvKernel.τ) (Cert.Band2DkvKernel.main (F := Bits))) ⟨m, fun _ => 0, g⟩ (fun r => (∀ c : Dev Cert.Band2DkvKernel.nD,
      r.2.mem ((c.tc : Thread Cert.Band2DkvKernel.nD Cert.Band2DkvKernel.τ).loc Cert.Band2DkvKernel.main_arg0) = m ((c.tc : Thread Cert.Band2DkvKernel.nD Cert.Band2DkvKernel.τ).loc Cert.Band2DkvKernel.main_arg0)
      ∧ r.2.mem ((c.tc : Thread Cert.Band2DkvKernel.nD Cert.Band2DkvKernel.τ).loc Cert.Band2DkvKernel.main_arg1) = m ((c.tc : Thread Cert.Band2DkvKernel.nD Cert.Band2DkvKernel.τ).loc Cert.Band2DkvKernel.main_arg1)
      ∧ r.2.mem ((c.tc : Thread Cert.Band2DkvKernel.nD Cert.Band2DkvKernel.τ).loc Cert.Band2DkvKernel.main_arg2) = m ((c.tc : Thread Cert.Band2DkvKernel.nD Cert.Band2DkvKernel.τ).loc Cert.Band2DkvKernel.main_arg2)
      ∧ r.2.mem ((c.tc : Thread Cert.Band2DkvKernel.nD Cert.Band2DkvKernel.τ).loc Cert.Band2DkvKernel.main_arg3) = m ((c.tc : Thread Cert.Band2DkvKernel.nD Cert.Band2DkvKernel.τ).loc Cert.Band2DkvKernel.main_arg3)
      ∧ r.2.mem ((c.tc : Thread Cert.Band2DkvKernel.nD Cert.Band2DkvKernel.τ).loc Cert.Band2DkvKernel.main_arg4) = m ((c.tc : Thread Cert.Band2DkvKernel.nD Cert.Band2DkvKernel.τ).loc Cert.Band2DkvKernel.main_arg4))
      ∧ r.2.sem = fun _ => 0)

def quiescent_Band2DkvKernelIdeal [hBand2DkvKernelIdeal : Cert.Band2DkvKernelIdeal.Facts] : Prop :=
  ∀ (m : (ℓ : Loc Cert.Band2DkvKernelIdeal.nD Cert.Band2DkvKernelIdeal.τ Cert.Band2DkvKernelIdeal.sig) → Buf (Elt Ideal) ℓ) (g : Dev Cert.Band2DkvKernelIdeal.nD → PrngReg), Pre_Band2DkvKernelIdeal m →
    θ_run (Cert.Band2DkvKernelIdeal.defs (F := Ideal)) (onTc (τ := Cert.Band2DkvKernelIdeal.τ) (Cert.Band2DkvKernelIdeal.main (F := Ideal))) ⟨m, fun _ => 0, g⟩ (fun r => (∀ c : Dev Cert.Band2DkvKernelIdeal.nD,
      r.2.mem ((c.tc : Thread Cert.Band2DkvKernelIdeal.nD Cert.Band2DkvKernelIdeal.τ).loc Cert.Band2DkvKernelIdeal.main_arg0) = m ((c.tc : Thread Cert.Band2DkvKernelIdeal.nD Cert.Band2DkvKernelIdeal.τ).loc Cert.Band2DkvKernelIdeal.main_arg0)
      ∧ r.2.mem ((c.tc : Thread Cert.Band2DkvKernelIdeal.nD Cert.Band2DkvKernelIdeal.τ).loc Cert.Band2DkvKernelIdeal.main_arg1) = m ((c.tc : Thread Cert.Band2DkvKernelIdeal.nD Cert.Band2DkvKernelIdeal.τ).loc Cert.Band2DkvKernelIdeal.main_arg1)
      ∧ r.2.mem ((c.tc : Thread Cert.Band2DkvKernelIdeal.nD Cert.Band2DkvKernelIdeal.τ).loc Cert.Band2DkvKernelIdeal.main_arg2) = m ((c.tc : Thread Cert.Band2DkvKernelIdeal.nD Cert.Band2DkvKernelIdeal.τ).loc Cert.Band2DkvKernelIdeal.main_arg2)
      ∧ r.2.mem ((c.tc : Thread Cert.Band2DkvKernelIdeal.nD Cert.Band2DkvKernelIdeal.τ).loc Cert.Band2DkvKernelIdeal.main_arg3) = m ((c.tc : Thread Cert.Band2DkvKernelIdeal.nD Cert.Band2DkvKernelIdeal.τ).loc Cert.Band2DkvKernelIdeal.main_arg3)
      ∧ r.2.mem ((c.tc : Thread Cert.Band2DkvKernelIdeal.nD Cert.Band2DkvKernelIdeal.τ).loc Cert.Band2DkvKernelIdeal.main_arg4) = m ((c.tc : Thread Cert.Band2DkvKernelIdeal.nD Cert.Band2DkvKernelIdeal.τ).loc Cert.Band2DkvKernelIdeal.main_arg4))
      ∧ r.2.sem = fun _ => 0)

def quiescent_Band2DkvKernelIdeal_pre_band_finite [hBand2DkvKernelIdeal : Cert.Band2DkvKernelIdeal.Facts] [hPre_band_finite : Cert.Pre_band_finite.Facts] : Prop :=
  ∀ (m : (ℓ : Loc Cert.Band2DkvKernelIdeal.nD Cert.Band2DkvKernelIdeal.τ Cert.Band2DkvKernelIdeal.sig) → Buf (Elt Ideal) ℓ) (g : Dev Cert.Band2DkvKernelIdeal.nD → PrngReg), Pre_Band2DkvKernelIdeal_band_finite m →
    θ_run (Cert.Band2DkvKernelIdeal.defs (F := Ideal)) (onTc (τ := Cert.Band2DkvKernelIdeal.τ) (Cert.Band2DkvKernelIdeal.main (F := Ideal))) ⟨m, fun _ => 0, g⟩ (fun r => (∀ c : Dev Cert.Band2DkvKernelIdeal.nD,
      r.2.mem ((c.tc : Thread Cert.Band2DkvKernelIdeal.nD Cert.Band2DkvKernelIdeal.τ).loc Cert.Band2DkvKernelIdeal.main_arg0) = m ((c.tc : Thread Cert.Band2DkvKernelIdeal.nD Cert.Band2DkvKernelIdeal.τ).loc Cert.Band2DkvKernelIdeal.main_arg0)
      ∧ r.2.mem ((c.tc : Thread Cert.Band2DkvKernelIdeal.nD Cert.Band2DkvKernelIdeal.τ).loc Cert.Band2DkvKernelIdeal.main_arg1) = m ((c.tc : Thread Cert.Band2DkvKernelIdeal.nD Cert.Band2DkvKernelIdeal.τ).loc Cert.Band2DkvKernelIdeal.main_arg1)
      ∧ r.2.mem ((c.tc : Thread Cert.Band2DkvKernelIdeal.nD Cert.Band2DkvKernelIdeal.τ).loc Cert.Band2DkvKernelIdeal.main_arg2) = m ((c.tc : Thread Cert.Band2DkvKernelIdeal.nD Cert.Band2DkvKernelIdeal.τ).loc Cert.Band2DkvKernelIdeal.main_arg2)
      ∧ r.2.mem ((c.tc : Thread Cert.Band2DkvKernelIdeal.nD Cert.Band2DkvKernelIdeal.τ).loc Cert.Band2DkvKernelIdeal.main_arg3) = m ((c.tc : Thread Cert.Band2DkvKernelIdeal.nD Cert.Band2DkvKernelIdeal.τ).loc Cert.Band2DkvKernelIdeal.main_arg3)
      ∧ r.2.mem ((c.tc : Thread Cert.Band2DkvKernelIdeal.nD Cert.Band2DkvKernelIdeal.τ).loc Cert.Band2DkvKernelIdeal.main_arg4) = m ((c.tc : Thread Cert.Band2DkvKernelIdeal.nD Cert.Band2DkvKernelIdeal.τ).loc Cert.Band2DkvKernelIdeal.main_arg4))
      ∧ r.2.sem = fun _ => 0)

def quiescent_Band2DkvReferenceIdeal [hBand2DkvReferenceIdeal : Cert.Band2DkvReferenceIdeal.Facts] : Prop :=
  ∀ (m : (ℓ : Loc Cert.Band2DkvReferenceIdeal.nD Cert.Band2DkvReferenceIdeal.τ Cert.Band2DkvReferenceIdeal.sig) → Buf (Elt Ideal) ℓ) (g : Dev Cert.Band2DkvReferenceIdeal.nD → PrngReg), Pre_Band2DkvReferenceIdeal m →
    θ_run (Cert.Band2DkvReferenceIdeal.defs (F := Ideal)) (onTc (τ := Cert.Band2DkvReferenceIdeal.τ) (Cert.Band2DkvReferenceIdeal.main (F := Ideal))) ⟨m, fun _ => 0, g⟩ (fun r => (∀ c : Dev Cert.Band2DkvReferenceIdeal.nD,
      r.2.mem ((c.tc : Thread Cert.Band2DkvReferenceIdeal.nD Cert.Band2DkvReferenceIdeal.τ).loc Cert.Band2DkvReferenceIdeal.main_arg0) = m ((c.tc : Thread Cert.Band2DkvReferenceIdeal.nD Cert.Band2DkvReferenceIdeal.τ).loc Cert.Band2DkvReferenceIdeal.main_arg0)
      ∧ r.2.mem ((c.tc : Thread Cert.Band2DkvReferenceIdeal.nD Cert.Band2DkvReferenceIdeal.τ).loc Cert.Band2DkvReferenceIdeal.main_arg1) = m ((c.tc : Thread Cert.Band2DkvReferenceIdeal.nD Cert.Band2DkvReferenceIdeal.τ).loc Cert.Band2DkvReferenceIdeal.main_arg1)
      ∧ r.2.mem ((c.tc : Thread Cert.Band2DkvReferenceIdeal.nD Cert.Band2DkvReferenceIdeal.τ).loc Cert.Band2DkvReferenceIdeal.main_arg2) = m ((c.tc : Thread Cert.Band2DkvReferenceIdeal.nD Cert.Band2DkvReferenceIdeal.τ).loc Cert.Band2DkvReferenceIdeal.main_arg2)
      ∧ r.2.mem ((c.tc : Thread Cert.Band2DkvReferenceIdeal.nD Cert.Band2DkvReferenceIdeal.τ).loc Cert.Band2DkvReferenceIdeal.main_arg3) = m ((c.tc : Thread Cert.Band2DkvReferenceIdeal.nD Cert.Band2DkvReferenceIdeal.τ).loc Cert.Band2DkvReferenceIdeal.main_arg3)
      ∧ r.2.mem ((c.tc : Thread Cert.Band2DkvReferenceIdeal.nD Cert.Band2DkvReferenceIdeal.τ).loc Cert.Band2DkvReferenceIdeal.main_arg4) = m ((c.tc : Thread Cert.Band2DkvReferenceIdeal.nD Cert.Band2DkvReferenceIdeal.τ).loc Cert.Band2DkvReferenceIdeal.main_arg4))
      ∧ r.2.sem = fun _ => 0)

def quiescent_Band2DkvReferenceIdeal_pre_band_finite [hBand2DkvReferenceIdeal : Cert.Band2DkvReferenceIdeal.Facts] [hPre_band_finite : Cert.Pre_band_finite.Facts] : Prop :=
  ∀ (m : (ℓ : Loc Cert.Band2DkvReferenceIdeal.nD Cert.Band2DkvReferenceIdeal.τ Cert.Band2DkvReferenceIdeal.sig) → Buf (Elt Ideal) ℓ) (g : Dev Cert.Band2DkvReferenceIdeal.nD → PrngReg), Pre_Band2DkvReferenceIdeal_band_finite m →
    θ_run (Cert.Band2DkvReferenceIdeal.defs (F := Ideal)) (onTc (τ := Cert.Band2DkvReferenceIdeal.τ) (Cert.Band2DkvReferenceIdeal.main (F := Ideal))) ⟨m, fun _ => 0, g⟩ (fun r => (∀ c : Dev Cert.Band2DkvReferenceIdeal.nD,
      r.2.mem ((c.tc : Thread Cert.Band2DkvReferenceIdeal.nD Cert.Band2DkvReferenceIdeal.τ).loc Cert.Band2DkvReferenceIdeal.main_arg0) = m ((c.tc : Thread Cert.Band2DkvReferenceIdeal.nD Cert.Band2DkvReferenceIdeal.τ).loc Cert.Band2DkvReferenceIdeal.main_arg0)
      ∧ r.2.mem ((c.tc : Thread Cert.Band2DkvReferenceIdeal.nD Cert.Band2DkvReferenceIdeal.τ).loc Cert.Band2DkvReferenceIdeal.main_arg1) = m ((c.tc : Thread Cert.Band2DkvReferenceIdeal.nD Cert.Band2DkvReferenceIdeal.τ).loc Cert.Band2DkvReferenceIdeal.main_arg1)
      ∧ r.2.mem ((c.tc : Thread Cert.Band2DkvReferenceIdeal.nD Cert.Band2DkvReferenceIdeal.τ).loc Cert.Band2DkvReferenceIdeal.main_arg2) = m ((c.tc : Thread Cert.Band2DkvReferenceIdeal.nD Cert.Band2DkvReferenceIdeal.τ).loc Cert.Band2DkvReferenceIdeal.main_arg2)
      ∧ r.2.mem ((c.tc : Thread Cert.Band2DkvReferenceIdeal.nD Cert.Band2DkvReferenceIdeal.τ).loc Cert.Band2DkvReferenceIdeal.main_arg3) = m ((c.tc : Thread Cert.Band2DkvReferenceIdeal.nD Cert.Band2DkvReferenceIdeal.τ).loc Cert.Band2DkvReferenceIdeal.main_arg3)
      ∧ r.2.mem ((c.tc : Thread Cert.Band2DkvReferenceIdeal.nD Cert.Band2DkvReferenceIdeal.τ).loc Cert.Band2DkvReferenceIdeal.main_arg4) = m ((c.tc : Thread Cert.Band2DkvReferenceIdeal.nD Cert.Band2DkvReferenceIdeal.τ).loc Cert.Band2DkvReferenceIdeal.main_arg4))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemKernelIdeal_pre_mem_finite [hMemKernelIdeal : Cert.MemKernelIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_mem_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnKernelIdeal_pre_ln_finite [hLnKernelIdeal : Cert.LnKernelIdeal.Facts] [hPre_ln_finite : Cert.Pre_ln_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_ln_finite m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_LnReferenceIdeal_pre_ln_finite [hLnReferenceIdeal : Cert.LnReferenceIdeal.Facts] [hPre_ln_finite : Cert.Pre_ln_finite.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_ln_finite m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1)
      ∧ r.2.mem ((c.tc : Thread Cert.RopeKernel.nD Cert.RopeKernel.τ).loc Cert.RopeKernel.main_arg2) = m ((c.tc : Thread Cert.RopeKernel.nD Cert.RopeKernel.τ).loc Cert.RopeKernel.main_arg2)
      ∧ r.2.mem ((c.tc : Thread Cert.RopeKernel.nD Cert.RopeKernel.τ).loc Cert.RopeKernel.main_arg3) = m ((c.tc : Thread Cert.RopeKernel.nD Cert.RopeKernel.τ).loc Cert.RopeKernel.main_arg3)
      ∧ r.2.mem ((c.tc : Thread Cert.RopeKernel.nD Cert.RopeKernel.τ).loc Cert.RopeKernel.main_arg4) = m ((c.tc : Thread Cert.RopeKernel.nD Cert.RopeKernel.τ).loc Cert.RopeKernel.main_arg4)
      ∧ r.2.mem ((c.tc : Thread Cert.RopeKernel.nD Cert.RopeKernel.τ).loc Cert.RopeKernel.main_arg5) = m ((c.tc : Thread Cert.RopeKernel.nD Cert.RopeKernel.τ).loc Cert.RopeKernel.main_arg5)
      ∧ r.2.mem ((c.tc : Thread Cert.RopeKernel.nD Cert.RopeKernel.τ).loc Cert.RopeKernel.main_arg6) = m ((c.tc : Thread Cert.RopeKernel.nD Cert.RopeKernel.τ).loc Cert.RopeKernel.main_arg6)
      ∧ r.2.mem ((c.tc : Thread Cert.RopeKernel.nD Cert.RopeKernel.τ).loc Cert.RopeKernel.main_arg7) = m ((c.tc : Thread Cert.RopeKernel.nD Cert.RopeKernel.τ).loc Cert.RopeKernel.main_arg7)
      ∧ r.2.mem ((c.tc : Thread Cert.RopeKernel.nD Cert.RopeKernel.τ).loc Cert.RopeKernel.main_arg8) = m ((c.tc : Thread Cert.RopeKernel.nD Cert.RopeKernel.τ).loc Cert.RopeKernel.main_arg8)
      ∧ r.2.mem ((c.tc : Thread Cert.RopeKernel.nD Cert.RopeKernel.τ).loc Cert.RopeKernel.main_arg9) = m ((c.tc : Thread Cert.RopeKernel.nD Cert.RopeKernel.τ).loc Cert.RopeKernel.main_arg9))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
      ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
      ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
      ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6)
      ∧ r.2.mem ((c.tc : Thread Cert.RopeKernelIdeal.nD Cert.RopeKernelIdeal.τ).loc Cert.RopeKernelIdeal.main_arg7) = m ((c.tc : Thread Cert.RopeKernelIdeal.nD Cert.RopeKernelIdeal.τ).loc Cert.RopeKernelIdeal.main_arg7)
      ∧ r.2.mem ((c.tc : Thread Cert.RopeKernelIdeal.nD Cert.RopeKernelIdeal.τ).loc Cert.RopeKernelIdeal.main_arg8) = m ((c.tc : Thread Cert.RopeKernelIdeal.nD Cert.RopeKernelIdeal.τ).loc Cert.RopeKernelIdeal.main_arg8)
      ∧ r.2.mem ((c.tc : Thread Cert.RopeKernelIdeal.nD Cert.RopeKernelIdeal.τ).loc Cert.RopeKernelIdeal.main_arg9) = m ((c.tc : Thread Cert.RopeKernelIdeal.nD Cert.RopeKernelIdeal.τ).loc Cert.RopeKernelIdeal.main_arg9))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5)
      ∧ r.2.mem ((c.tc : Thread Cert.RopeReferenceIdeal.nD Cert.RopeReferenceIdeal.τ).loc Cert.RopeReferenceIdeal.main_arg6) = m ((c.tc : Thread Cert.RopeReferenceIdeal.nD Cert.RopeReferenceIdeal.τ).loc Cert.RopeReferenceIdeal.main_arg6)
      ∧ r.2.mem ((c.tc : Thread Cert.RopeReferenceIdeal.nD Cert.RopeReferenceIdeal.τ).loc Cert.RopeReferenceIdeal.main_arg7) = m ((c.tc : Thread Cert.RopeReferenceIdeal.nD Cert.RopeReferenceIdeal.τ).loc Cert.RopeReferenceIdeal.main_arg7)
      ∧ r.2.mem ((c.tc : Thread Cert.RopeReferenceIdeal.nD Cert.RopeReferenceIdeal.τ).loc Cert.RopeReferenceIdeal.main_arg8) = m ((c.tc : Thread Cert.RopeReferenceIdeal.nD Cert.RopeReferenceIdeal.τ).loc Cert.RopeReferenceIdeal.main_arg8)
      ∧ r.2.mem ((c.tc : Thread Cert.RopeReferenceIdeal.nD Cert.RopeReferenceIdeal.τ).loc Cert.RopeReferenceIdeal.main_arg9) = m ((c.tc : Thread Cert.RopeReferenceIdeal.nD Cert.RopeReferenceIdeal.τ).loc Cert.RopeReferenceIdeal.main_arg9))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_MemFwdKernel [hMemFwdKernel : Cert.MemFwdKernel.Facts] : Prop :=
  ∀ (m : (ℓ : Loc Cert.MemFwdKernel.nD Cert.MemFwdKernel.τ Cert.MemFwdKernel.sig) → Buf (Elt Bits) ℓ) (g : Dev Cert.MemFwdKernel.nD → PrngReg), Pre_MemFwdKernel m →
    θ_run (Cert.MemFwdKernel.defs (F := Bits)) (onTc (τ := Cert.MemFwdKernel.τ) (Cert.MemFwdKernel.main (F := Bits))) ⟨m, fun _ => 0, g⟩ (fun r => (∀ c : Dev Cert.MemFwdKernel.nD,
      r.2.mem ((c.tc : Thread Cert.MemFwdKernel.nD Cert.MemFwdKernel.τ).loc Cert.MemFwdKernel.main_arg0) = m ((c.tc : Thread Cert.MemFwdKernel.nD Cert.MemFwdKernel.τ).loc Cert.MemFwdKernel.main_arg0)
      ∧ r.2.mem ((c.tc : Thread Cert.MemFwdKernel.nD Cert.MemFwdKernel.τ).loc Cert.MemFwdKernel.main_arg1) = m ((c.tc : Thread Cert.MemFwdKernel.nD Cert.MemFwdKernel.τ).loc Cert.MemFwdKernel.main_arg1))
      ∧ r.2.sem = fun _ => 0)

def quiescent_MemFwdKernelIdeal [hMemFwdKernelIdeal : Cert.MemFwdKernelIdeal.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg), Pre_MemFwdKernelIdeal m →
    θ_run (Cert.MemFwdKernelIdeal.defs (F := Ideal)) (onTc (τ := Cert.MemFwdKernelIdeal.τ) (Cert.MemFwdKernelIdeal.main (F := Ideal))) ⟨m, fun _ => 0, g⟩ (fun r => (∀ c : Dev Cert.MemFwdKernelIdeal.nD,
      r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
      ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1))
      ∧ r.2.sem = fun _ => 0)

def quiescent_MemFwdKernelIdeal_pre_memfwd_finite [hMemFwdKernelIdeal : Cert.MemFwdKernelIdeal.Facts] [hPre_memfwd_finite : Cert.Pre_memfwd_finite.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg), Pre_MemFwdKernelIdeal_memfwd_finite m →
    θ_run (Cert.MemFwdKernelIdeal.defs (F := Ideal)) (onTc (τ := Cert.MemFwdKernelIdeal.τ) (Cert.MemFwdKernelIdeal.main (F := Ideal))) ⟨m, fun _ => 0, g⟩ (fun r => (∀ c : Dev Cert.MemFwdKernelIdeal.nD,
      r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
      ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1))
      ∧ r.2.sem = fun _ => 0)

def quiescent_MemFwdReferenceIdeal_pre_memfwd_finite [hMemFwdReferenceIdeal : Cert.MemFwdReferenceIdeal.Facts] [hPre_memfwd_finite : Cert.Pre_memfwd_finite.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal_memfwd_finite m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1))
      ∧ r.2.sem = fun _ => 0)

def quiescent_CombineKernel [hCombineKernel : Cert.CombineKernel.Facts] : Prop :=
  ∀ (m : (ℓ : Loc Cert.CombineKernel.nD Cert.CombineKernel.τ Cert.CombineKernel.sig) → Buf (Elt Bits) ℓ) (g : Dev Cert.CombineKernel.nD → PrngReg), Pre_CombineKernel m →
    θ_run (Cert.CombineKernel.defs (F := Bits)) (onTc (τ := Cert.CombineKernel.τ) (Cert.CombineKernel.main (F := Bits))) ⟨m, fun _ => 0, g⟩ (fun r => (∀ c : Dev Cert.CombineKernel.nD,
      r.2.mem ((c.tc : Thread Cert.CombineKernel.nD Cert.CombineKernel.τ).loc Cert.CombineKernel.main_arg0) = m ((c.tc : Thread Cert.CombineKernel.nD Cert.CombineKernel.τ).loc Cert.CombineKernel.main_arg0)
      ∧ r.2.mem ((c.tc : Thread Cert.CombineKernel.nD Cert.CombineKernel.τ).loc Cert.CombineKernel.main_arg1) = m ((c.tc : Thread Cert.CombineKernel.nD Cert.CombineKernel.τ).loc Cert.CombineKernel.main_arg1)
      ∧ r.2.mem ((c.tc : Thread Cert.CombineKernel.nD Cert.CombineKernel.τ).loc Cert.CombineKernel.main_arg2) = m ((c.tc : Thread Cert.CombineKernel.nD Cert.CombineKernel.τ).loc Cert.CombineKernel.main_arg2)
      ∧ r.2.mem ((c.tc : Thread Cert.CombineKernel.nD Cert.CombineKernel.τ).loc Cert.CombineKernel.main_arg3) = m ((c.tc : Thread Cert.CombineKernel.nD Cert.CombineKernel.τ).loc Cert.CombineKernel.main_arg3)
      ∧ r.2.mem ((c.tc : Thread Cert.CombineKernel.nD Cert.CombineKernel.τ).loc Cert.CombineKernel.main_arg4) = m ((c.tc : Thread Cert.CombineKernel.nD Cert.CombineKernel.τ).loc Cert.CombineKernel.main_arg4)
      ∧ r.2.mem ((c.tc : Thread Cert.CombineKernel.nD Cert.CombineKernel.τ).loc Cert.CombineKernel.main_arg5) = m ((c.tc : Thread Cert.CombineKernel.nD Cert.CombineKernel.τ).loc Cert.CombineKernel.main_arg5))
      ∧ r.2.sem = fun _ => 0)

def quiescent_CombineKernelIdeal [hCombineKernelIdeal : Cert.CombineKernelIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
      ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
      ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
      ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ r.2.sem = fun _ => 0)

def quiescent_CombineKernelIdeal_pre_combine_finite [hCombineKernelIdeal : Cert.CombineKernelIdeal.Facts] [hPre_combine_finite : Cert.Pre_combine_finite.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal_combine_finite m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
      ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
      ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
      ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_CombineReferenceIdeal_pre_combine_finite [hCombineReferenceIdeal : Cert.CombineReferenceIdeal.Facts] [hPre_combine_finite : Cert.Pre_combine_finite.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_combine_finite m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_Band0FwdKernel [hBand0FwdKernel : Cert.Band0FwdKernel.Facts] : Prop :=
  ∀ (m : (ℓ : Loc Cert.Band0FwdKernel.nD Cert.Band0FwdKernel.τ Cert.Band0FwdKernel.sig) → Buf (Elt Bits) ℓ) (g : Dev Cert.Band0FwdKernel.nD → PrngReg), Pre_Band0FwdKernel m →
    θ_run (Cert.Band0FwdKernel.defs (F := Bits)) (onTc (τ := Cert.Band0FwdKernel.τ) (Cert.Band0FwdKernel.main (F := Bits))) ⟨m, fun _ => 0, g⟩ (fun r => (∀ c : Dev Cert.Band0FwdKernel.nD,
      r.2.mem ((c.tc : Thread Cert.Band0FwdKernel.nD Cert.Band0FwdKernel.τ).loc Cert.Band0FwdKernel.main_arg0) = m ((c.tc : Thread Cert.Band0FwdKernel.nD Cert.Band0FwdKernel.τ).loc Cert.Band0FwdKernel.main_arg0)
      ∧ r.2.mem ((c.tc : Thread Cert.Band0FwdKernel.nD Cert.Band0FwdKernel.τ).loc Cert.Band0FwdKernel.main_arg1) = m ((c.tc : Thread Cert.Band0FwdKernel.nD Cert.Band0FwdKernel.τ).loc Cert.Band0FwdKernel.main_arg1)
      ∧ r.2.mem ((c.tc : Thread Cert.Band0FwdKernel.nD Cert.Band0FwdKernel.τ).loc Cert.Band0FwdKernel.main_arg2) = m ((c.tc : Thread Cert.Band0FwdKernel.nD Cert.Band0FwdKernel.τ).loc Cert.Band0FwdKernel.main_arg2)
      ∧ r.2.mem ((c.tc : Thread Cert.Band0FwdKernel.nD Cert.Band0FwdKernel.τ).loc Cert.Band0FwdKernel.main_arg3) = m ((c.tc : Thread Cert.Band0FwdKernel.nD Cert.Band0FwdKernel.τ).loc Cert.Band0FwdKernel.main_arg3))
      ∧ r.2.sem = fun _ => 0)

def quiescent_Band0FwdKernelIdeal [hBand0FwdKernelIdeal : Cert.Band0FwdKernelIdeal.Facts] : Prop :=
  ∀ (m : (ℓ : Loc Cert.Band0FwdKernelIdeal.nD Cert.Band0FwdKernelIdeal.τ Cert.Band0FwdKernelIdeal.sig) → Buf (Elt Ideal) ℓ) (g : Dev Cert.Band0FwdKernelIdeal.nD → PrngReg), Pre_Band0FwdKernelIdeal m →
    θ_run (Cert.Band0FwdKernelIdeal.defs (F := Ideal)) (onTc (τ := Cert.Band0FwdKernelIdeal.τ) (Cert.Band0FwdKernelIdeal.main (F := Ideal))) ⟨m, fun _ => 0, g⟩ (fun r => (∀ c : Dev Cert.Band0FwdKernelIdeal.nD,
      r.2.mem ((c.tc : Thread Cert.Band0FwdKernelIdeal.nD Cert.Band0FwdKernelIdeal.τ).loc Cert.Band0FwdKernelIdeal.main_arg0) = m ((c.tc : Thread Cert.Band0FwdKernelIdeal.nD Cert.Band0FwdKernelIdeal.τ).loc Cert.Band0FwdKernelIdeal.main_arg0)
      ∧ r.2.mem ((c.tc : Thread Cert.Band0FwdKernelIdeal.nD Cert.Band0FwdKernelIdeal.τ).loc Cert.Band0FwdKernelIdeal.main_arg1) = m ((c.tc : Thread Cert.Band0FwdKernelIdeal.nD Cert.Band0FwdKernelIdeal.τ).loc Cert.Band0FwdKernelIdeal.main_arg1)
      ∧ r.2.mem ((c.tc : Thread Cert.Band0FwdKernelIdeal.nD Cert.Band0FwdKernelIdeal.τ).loc Cert.Band0FwdKernelIdeal.main_arg2) = m ((c.tc : Thread Cert.Band0FwdKernelIdeal.nD Cert.Band0FwdKernelIdeal.τ).loc Cert.Band0FwdKernelIdeal.main_arg2)
      ∧ r.2.mem ((c.tc : Thread Cert.Band0FwdKernelIdeal.nD Cert.Band0FwdKernelIdeal.τ).loc Cert.Band0FwdKernelIdeal.main_arg3) = m ((c.tc : Thread Cert.Band0FwdKernelIdeal.nD Cert.Band0FwdKernelIdeal.τ).loc Cert.Band0FwdKernelIdeal.main_arg3))
      ∧ r.2.sem = fun _ => 0)

def quiescent_Band0FwdKernelIdeal_pre_bandfwd_finite [hBand0FwdKernelIdeal : Cert.Band0FwdKernelIdeal.Facts] [hPre_bandfwd_finite : Cert.Pre_bandfwd_finite.Facts] : Prop :=
  ∀ (m : (ℓ : Loc Cert.Band0FwdKernelIdeal.nD Cert.Band0FwdKernelIdeal.τ Cert.Band0FwdKernelIdeal.sig) → Buf (Elt Ideal) ℓ) (g : Dev Cert.Band0FwdKernelIdeal.nD → PrngReg), Pre_Band0FwdKernelIdeal_bandfwd_finite m →
    θ_run (Cert.Band0FwdKernelIdeal.defs (F := Ideal)) (onTc (τ := Cert.Band0FwdKernelIdeal.τ) (Cert.Band0FwdKernelIdeal.main (F := Ideal))) ⟨m, fun _ => 0, g⟩ (fun r => (∀ c : Dev Cert.Band0FwdKernelIdeal.nD,
      r.2.mem ((c.tc : Thread Cert.Band0FwdKernelIdeal.nD Cert.Band0FwdKernelIdeal.τ).loc Cert.Band0FwdKernelIdeal.main_arg0) = m ((c.tc : Thread Cert.Band0FwdKernelIdeal.nD Cert.Band0FwdKernelIdeal.τ).loc Cert.Band0FwdKernelIdeal.main_arg0)
      ∧ r.2.mem ((c.tc : Thread Cert.Band0FwdKernelIdeal.nD Cert.Band0FwdKernelIdeal.τ).loc Cert.Band0FwdKernelIdeal.main_arg1) = m ((c.tc : Thread Cert.Band0FwdKernelIdeal.nD Cert.Band0FwdKernelIdeal.τ).loc Cert.Band0FwdKernelIdeal.main_arg1)
      ∧ r.2.mem ((c.tc : Thread Cert.Band0FwdKernelIdeal.nD Cert.Band0FwdKernelIdeal.τ).loc Cert.Band0FwdKernelIdeal.main_arg2) = m ((c.tc : Thread Cert.Band0FwdKernelIdeal.nD Cert.Band0FwdKernelIdeal.τ).loc Cert.Band0FwdKernelIdeal.main_arg2)
      ∧ r.2.mem ((c.tc : Thread Cert.Band0FwdKernelIdeal.nD Cert.Band0FwdKernelIdeal.τ).loc Cert.Band0FwdKernelIdeal.main_arg3) = m ((c.tc : Thread Cert.Band0FwdKernelIdeal.nD Cert.Band0FwdKernelIdeal.τ).loc Cert.Band0FwdKernelIdeal.main_arg3))
      ∧ r.2.sem = fun _ => 0)

def quiescent_Band0FwdReferenceIdeal [hBand0FwdReferenceIdeal : Cert.Band0FwdReferenceIdeal.Facts] : Prop :=
  ∀ (m : (ℓ : Loc Cert.Band0FwdReferenceIdeal.nD Cert.Band0FwdReferenceIdeal.τ Cert.Band0FwdReferenceIdeal.sig) → Buf (Elt Ideal) ℓ) (g : Dev Cert.Band0FwdReferenceIdeal.nD → PrngReg), Pre_Band0FwdReferenceIdeal m →
    θ_run (Cert.Band0FwdReferenceIdeal.defs (F := Ideal)) (onTc (τ := Cert.Band0FwdReferenceIdeal.τ) (Cert.Band0FwdReferenceIdeal.main (F := Ideal))) ⟨m, fun _ => 0, g⟩ (fun r => (∀ c : Dev Cert.Band0FwdReferenceIdeal.nD,
      r.2.mem ((c.tc : Thread Cert.Band0FwdReferenceIdeal.nD Cert.Band0FwdReferenceIdeal.τ).loc Cert.Band0FwdReferenceIdeal.main_arg0) = m ((c.tc : Thread Cert.Band0FwdReferenceIdeal.nD Cert.Band0FwdReferenceIdeal.τ).loc Cert.Band0FwdReferenceIdeal.main_arg0)
      ∧ r.2.mem ((c.tc : Thread Cert.Band0FwdReferenceIdeal.nD Cert.Band0FwdReferenceIdeal.τ).loc Cert.Band0FwdReferenceIdeal.main_arg1) = m ((c.tc : Thread Cert.Band0FwdReferenceIdeal.nD Cert.Band0FwdReferenceIdeal.τ).loc Cert.Band0FwdReferenceIdeal.main_arg1)
      ∧ r.2.mem ((c.tc : Thread Cert.Band0FwdReferenceIdeal.nD Cert.Band0FwdReferenceIdeal.τ).loc Cert.Band0FwdReferenceIdeal.main_arg2) = m ((c.tc : Thread Cert.Band0FwdReferenceIdeal.nD Cert.Band0FwdReferenceIdeal.τ).loc Cert.Band0FwdReferenceIdeal.main_arg2)
      ∧ r.2.mem ((c.tc : Thread Cert.Band0FwdReferenceIdeal.nD Cert.Band0FwdReferenceIdeal.τ).loc Cert.Band0FwdReferenceIdeal.main_arg3) = m ((c.tc : Thread Cert.Band0FwdReferenceIdeal.nD Cert.Band0FwdReferenceIdeal.τ).loc Cert.Band0FwdReferenceIdeal.main_arg3))
      ∧ r.2.sem = fun _ => 0)

def quiescent_Band0FwdReferenceIdeal_pre_bandfwd_finite [hBand0FwdReferenceIdeal : Cert.Band0FwdReferenceIdeal.Facts] [hPre_bandfwd_finite : Cert.Pre_bandfwd_finite.Facts] : Prop :=
  ∀ (m : (ℓ : Loc Cert.Band0FwdReferenceIdeal.nD Cert.Band0FwdReferenceIdeal.τ Cert.Band0FwdReferenceIdeal.sig) → Buf (Elt Ideal) ℓ) (g : Dev Cert.Band0FwdReferenceIdeal.nD → PrngReg), Pre_Band0FwdReferenceIdeal_bandfwd_finite m →
    θ_run (Cert.Band0FwdReferenceIdeal.defs (F := Ideal)) (onTc (τ := Cert.Band0FwdReferenceIdeal.τ) (Cert.Band0FwdReferenceIdeal.main (F := Ideal))) ⟨m, fun _ => 0, g⟩ (fun r => (∀ c : Dev Cert.Band0FwdReferenceIdeal.nD,
      r.2.mem ((c.tc : Thread Cert.Band0FwdReferenceIdeal.nD Cert.Band0FwdReferenceIdeal.τ).loc Cert.Band0FwdReferenceIdeal.main_arg0) = m ((c.tc : Thread Cert.Band0FwdReferenceIdeal.nD Cert.Band0FwdReferenceIdeal.τ).loc Cert.Band0FwdReferenceIdeal.main_arg0)
      ∧ r.2.mem ((c.tc : Thread Cert.Band0FwdReferenceIdeal.nD Cert.Band0FwdReferenceIdeal.τ).loc Cert.Band0FwdReferenceIdeal.main_arg1) = m ((c.tc : Thread Cert.Band0FwdReferenceIdeal.nD Cert.Band0FwdReferenceIdeal.τ).loc Cert.Band0FwdReferenceIdeal.main_arg1)
      ∧ r.2.mem ((c.tc : Thread Cert.Band0FwdReferenceIdeal.nD Cert.Band0FwdReferenceIdeal.τ).loc Cert.Band0FwdReferenceIdeal.main_arg2) = m ((c.tc : Thread Cert.Band0FwdReferenceIdeal.nD Cert.Band0FwdReferenceIdeal.τ).loc Cert.Band0FwdReferenceIdeal.main_arg2)
      ∧ r.2.mem ((c.tc : Thread Cert.Band0FwdReferenceIdeal.nD Cert.Band0FwdReferenceIdeal.τ).loc Cert.Band0FwdReferenceIdeal.main_arg3) = m ((c.tc : Thread Cert.Band0FwdReferenceIdeal.nD Cert.Band0FwdReferenceIdeal.τ).loc Cert.Band0FwdReferenceIdeal.main_arg3))
      ∧ r.2.sem = fun _ => 0)

def quiescent_Band1FwdKernel [hBand1FwdKernel : Cert.Band1FwdKernel.Facts] : Prop :=
  ∀ (m : (ℓ : Loc Cert.Band1FwdKernel.nD Cert.Band1FwdKernel.τ Cert.Band1FwdKernel.sig) → Buf (Elt Bits) ℓ) (g : Dev Cert.Band1FwdKernel.nD → PrngReg), Pre_Band1FwdKernel m →
    θ_run (Cert.Band1FwdKernel.defs (F := Bits)) (onTc (τ := Cert.Band1FwdKernel.τ) (Cert.Band1FwdKernel.main (F := Bits))) ⟨m, fun _ => 0, g⟩ (fun r => (∀ c : Dev Cert.Band1FwdKernel.nD,
      r.2.mem ((c.tc : Thread Cert.Band1FwdKernel.nD Cert.Band1FwdKernel.τ).loc Cert.Band1FwdKernel.main_arg0) = m ((c.tc : Thread Cert.Band1FwdKernel.nD Cert.Band1FwdKernel.τ).loc Cert.Band1FwdKernel.main_arg0)
      ∧ r.2.mem ((c.tc : Thread Cert.Band1FwdKernel.nD Cert.Band1FwdKernel.τ).loc Cert.Band1FwdKernel.main_arg1) = m ((c.tc : Thread Cert.Band1FwdKernel.nD Cert.Band1FwdKernel.τ).loc Cert.Band1FwdKernel.main_arg1)
      ∧ r.2.mem ((c.tc : Thread Cert.Band1FwdKernel.nD Cert.Band1FwdKernel.τ).loc Cert.Band1FwdKernel.main_arg2) = m ((c.tc : Thread Cert.Band1FwdKernel.nD Cert.Band1FwdKernel.τ).loc Cert.Band1FwdKernel.main_arg2)
      ∧ r.2.mem ((c.tc : Thread Cert.Band1FwdKernel.nD Cert.Band1FwdKernel.τ).loc Cert.Band1FwdKernel.main_arg3) = m ((c.tc : Thread Cert.Band1FwdKernel.nD Cert.Band1FwdKernel.τ).loc Cert.Band1FwdKernel.main_arg3))
      ∧ r.2.sem = fun _ => 0)

def quiescent_Band1FwdKernelIdeal [hBand1FwdKernelIdeal : Cert.Band1FwdKernelIdeal.Facts] : Prop :=
  ∀ (m : (ℓ : Loc Cert.Band1FwdKernelIdeal.nD Cert.Band1FwdKernelIdeal.τ Cert.Band1FwdKernelIdeal.sig) → Buf (Elt Ideal) ℓ) (g : Dev Cert.Band1FwdKernelIdeal.nD → PrngReg), Pre_Band1FwdKernelIdeal m →
    θ_run (Cert.Band1FwdKernelIdeal.defs (F := Ideal)) (onTc (τ := Cert.Band1FwdKernelIdeal.τ) (Cert.Band1FwdKernelIdeal.main (F := Ideal))) ⟨m, fun _ => 0, g⟩ (fun r => (∀ c : Dev Cert.Band1FwdKernelIdeal.nD,
      r.2.mem ((c.tc : Thread Cert.Band1FwdKernelIdeal.nD Cert.Band1FwdKernelIdeal.τ).loc Cert.Band1FwdKernelIdeal.main_arg0) = m ((c.tc : Thread Cert.Band1FwdKernelIdeal.nD Cert.Band1FwdKernelIdeal.τ).loc Cert.Band1FwdKernelIdeal.main_arg0)
      ∧ r.2.mem ((c.tc : Thread Cert.Band1FwdKernelIdeal.nD Cert.Band1FwdKernelIdeal.τ).loc Cert.Band1FwdKernelIdeal.main_arg1) = m ((c.tc : Thread Cert.Band1FwdKernelIdeal.nD Cert.Band1FwdKernelIdeal.τ).loc Cert.Band1FwdKernelIdeal.main_arg1)
      ∧ r.2.mem ((c.tc : Thread Cert.Band1FwdKernelIdeal.nD Cert.Band1FwdKernelIdeal.τ).loc Cert.Band1FwdKernelIdeal.main_arg2) = m ((c.tc : Thread Cert.Band1FwdKernelIdeal.nD Cert.Band1FwdKernelIdeal.τ).loc Cert.Band1FwdKernelIdeal.main_arg2)
      ∧ r.2.mem ((c.tc : Thread Cert.Band1FwdKernelIdeal.nD Cert.Band1FwdKernelIdeal.τ).loc Cert.Band1FwdKernelIdeal.main_arg3) = m ((c.tc : Thread Cert.Band1FwdKernelIdeal.nD Cert.Band1FwdKernelIdeal.τ).loc Cert.Band1FwdKernelIdeal.main_arg3))
      ∧ r.2.sem = fun _ => 0)

def quiescent_Band1FwdKernelIdeal_pre_bandfwd_finite [hBand1FwdKernelIdeal : Cert.Band1FwdKernelIdeal.Facts] [hPre_bandfwd_finite : Cert.Pre_bandfwd_finite.Facts] : Prop :=
  ∀ (m : (ℓ : Loc Cert.Band1FwdKernelIdeal.nD Cert.Band1FwdKernelIdeal.τ Cert.Band1FwdKernelIdeal.sig) → Buf (Elt Ideal) ℓ) (g : Dev Cert.Band1FwdKernelIdeal.nD → PrngReg), Pre_Band1FwdKernelIdeal_bandfwd_finite m →
    θ_run (Cert.Band1FwdKernelIdeal.defs (F := Ideal)) (onTc (τ := Cert.Band1FwdKernelIdeal.τ) (Cert.Band1FwdKernelIdeal.main (F := Ideal))) ⟨m, fun _ => 0, g⟩ (fun r => (∀ c : Dev Cert.Band1FwdKernelIdeal.nD,
      r.2.mem ((c.tc : Thread Cert.Band1FwdKernelIdeal.nD Cert.Band1FwdKernelIdeal.τ).loc Cert.Band1FwdKernelIdeal.main_arg0) = m ((c.tc : Thread Cert.Band1FwdKernelIdeal.nD Cert.Band1FwdKernelIdeal.τ).loc Cert.Band1FwdKernelIdeal.main_arg0)
      ∧ r.2.mem ((c.tc : Thread Cert.Band1FwdKernelIdeal.nD Cert.Band1FwdKernelIdeal.τ).loc Cert.Band1FwdKernelIdeal.main_arg1) = m ((c.tc : Thread Cert.Band1FwdKernelIdeal.nD Cert.Band1FwdKernelIdeal.τ).loc Cert.Band1FwdKernelIdeal.main_arg1)
      ∧ r.2.mem ((c.tc : Thread Cert.Band1FwdKernelIdeal.nD Cert.Band1FwdKernelIdeal.τ).loc Cert.Band1FwdKernelIdeal.main_arg2) = m ((c.tc : Thread Cert.Band1FwdKernelIdeal.nD Cert.Band1FwdKernelIdeal.τ).loc Cert.Band1FwdKernelIdeal.main_arg2)
      ∧ r.2.mem ((c.tc : Thread Cert.Band1FwdKernelIdeal.nD Cert.Band1FwdKernelIdeal.τ).loc Cert.Band1FwdKernelIdeal.main_arg3) = m ((c.tc : Thread Cert.Band1FwdKernelIdeal.nD Cert.Band1FwdKernelIdeal.τ).loc Cert.Band1FwdKernelIdeal.main_arg3))
      ∧ r.2.sem = fun _ => 0)

def quiescent_Band1FwdReferenceIdeal [hBand1FwdReferenceIdeal : Cert.Band1FwdReferenceIdeal.Facts] : Prop :=
  ∀ (m : (ℓ : Loc Cert.Band1FwdReferenceIdeal.nD Cert.Band1FwdReferenceIdeal.τ Cert.Band1FwdReferenceIdeal.sig) → Buf (Elt Ideal) ℓ) (g : Dev Cert.Band1FwdReferenceIdeal.nD → PrngReg), Pre_Band1FwdReferenceIdeal m →
    θ_run (Cert.Band1FwdReferenceIdeal.defs (F := Ideal)) (onTc (τ := Cert.Band1FwdReferenceIdeal.τ) (Cert.Band1FwdReferenceIdeal.main (F := Ideal))) ⟨m, fun _ => 0, g⟩ (fun r => (∀ c : Dev Cert.Band1FwdReferenceIdeal.nD,
      r.2.mem ((c.tc : Thread Cert.Band1FwdReferenceIdeal.nD Cert.Band1FwdReferenceIdeal.τ).loc Cert.Band1FwdReferenceIdeal.main_arg0) = m ((c.tc : Thread Cert.Band1FwdReferenceIdeal.nD Cert.Band1FwdReferenceIdeal.τ).loc Cert.Band1FwdReferenceIdeal.main_arg0)
      ∧ r.2.mem ((c.tc : Thread Cert.Band1FwdReferenceIdeal.nD Cert.Band1FwdReferenceIdeal.τ).loc Cert.Band1FwdReferenceIdeal.main_arg1) = m ((c.tc : Thread Cert.Band1FwdReferenceIdeal.nD Cert.Band1FwdReferenceIdeal.τ).loc Cert.Band1FwdReferenceIdeal.main_arg1)
      ∧ r.2.mem ((c.tc : Thread Cert.Band1FwdReferenceIdeal.nD Cert.Band1FwdReferenceIdeal.τ).loc Cert.Band1FwdReferenceIdeal.main_arg2) = m ((c.tc : Thread Cert.Band1FwdReferenceIdeal.nD Cert.Band1FwdReferenceIdeal.τ).loc Cert.Band1FwdReferenceIdeal.main_arg2)
      ∧ r.2.mem ((c.tc : Thread Cert.Band1FwdReferenceIdeal.nD Cert.Band1FwdReferenceIdeal.τ).loc Cert.Band1FwdReferenceIdeal.main_arg3) = m ((c.tc : Thread Cert.Band1FwdReferenceIdeal.nD Cert.Band1FwdReferenceIdeal.τ).loc Cert.Band1FwdReferenceIdeal.main_arg3))
      ∧ r.2.sem = fun _ => 0)

def quiescent_Band1FwdReferenceIdeal_pre_bandfwd_finite [hBand1FwdReferenceIdeal : Cert.Band1FwdReferenceIdeal.Facts] [hPre_bandfwd_finite : Cert.Pre_bandfwd_finite.Facts] : Prop :=
  ∀ (m : (ℓ : Loc Cert.Band1FwdReferenceIdeal.nD Cert.Band1FwdReferenceIdeal.τ Cert.Band1FwdReferenceIdeal.sig) → Buf (Elt Ideal) ℓ) (g : Dev Cert.Band1FwdReferenceIdeal.nD → PrngReg), Pre_Band1FwdReferenceIdeal_bandfwd_finite m →
    θ_run (Cert.Band1FwdReferenceIdeal.defs (F := Ideal)) (onTc (τ := Cert.Band1FwdReferenceIdeal.τ) (Cert.Band1FwdReferenceIdeal.main (F := Ideal))) ⟨m, fun _ => 0, g⟩ (fun r => (∀ c : Dev Cert.Band1FwdReferenceIdeal.nD,
      r.2.mem ((c.tc : Thread Cert.Band1FwdReferenceIdeal.nD Cert.Band1FwdReferenceIdeal.τ).loc Cert.Band1FwdReferenceIdeal.main_arg0) = m ((c.tc : Thread Cert.Band1FwdReferenceIdeal.nD Cert.Band1FwdReferenceIdeal.τ).loc Cert.Band1FwdReferenceIdeal.main_arg0)
      ∧ r.2.mem ((c.tc : Thread Cert.Band1FwdReferenceIdeal.nD Cert.Band1FwdReferenceIdeal.τ).loc Cert.Band1FwdReferenceIdeal.main_arg1) = m ((c.tc : Thread Cert.Band1FwdReferenceIdeal.nD Cert.Band1FwdReferenceIdeal.τ).loc Cert.Band1FwdReferenceIdeal.main_arg1)
      ∧ r.2.mem ((c.tc : Thread Cert.Band1FwdReferenceIdeal.nD Cert.Band1FwdReferenceIdeal.τ).loc Cert.Band1FwdReferenceIdeal.main_arg2) = m ((c.tc : Thread Cert.Band1FwdReferenceIdeal.nD Cert.Band1FwdReferenceIdeal.τ).loc Cert.Band1FwdReferenceIdeal.main_arg2)
      ∧ r.2.mem ((c.tc : Thread Cert.Band1FwdReferenceIdeal.nD Cert.Band1FwdReferenceIdeal.τ).loc Cert.Band1FwdReferenceIdeal.main_arg3) = m ((c.tc : Thread Cert.Band1FwdReferenceIdeal.nD Cert.Band1FwdReferenceIdeal.τ).loc Cert.Band1FwdReferenceIdeal.main_arg3))
      ∧ r.2.sem = fun _ => 0)

def quiescent_Band2FwdKernel [hBand2FwdKernel : Cert.Band2FwdKernel.Facts] : Prop :=
  ∀ (m : (ℓ : Loc Cert.Band2FwdKernel.nD Cert.Band2FwdKernel.τ Cert.Band2FwdKernel.sig) → Buf (Elt Bits) ℓ) (g : Dev Cert.Band2FwdKernel.nD → PrngReg), Pre_Band2FwdKernel m →
    θ_run (Cert.Band2FwdKernel.defs (F := Bits)) (onTc (τ := Cert.Band2FwdKernel.τ) (Cert.Band2FwdKernel.main (F := Bits))) ⟨m, fun _ => 0, g⟩ (fun r => (∀ c : Dev Cert.Band2FwdKernel.nD,
      r.2.mem ((c.tc : Thread Cert.Band2FwdKernel.nD Cert.Band2FwdKernel.τ).loc Cert.Band2FwdKernel.main_arg0) = m ((c.tc : Thread Cert.Band2FwdKernel.nD Cert.Band2FwdKernel.τ).loc Cert.Band2FwdKernel.main_arg0)
      ∧ r.2.mem ((c.tc : Thread Cert.Band2FwdKernel.nD Cert.Band2FwdKernel.τ).loc Cert.Band2FwdKernel.main_arg1) = m ((c.tc : Thread Cert.Band2FwdKernel.nD Cert.Band2FwdKernel.τ).loc Cert.Band2FwdKernel.main_arg1)
      ∧ r.2.mem ((c.tc : Thread Cert.Band2FwdKernel.nD Cert.Band2FwdKernel.τ).loc Cert.Band2FwdKernel.main_arg2) = m ((c.tc : Thread Cert.Band2FwdKernel.nD Cert.Band2FwdKernel.τ).loc Cert.Band2FwdKernel.main_arg2)
      ∧ r.2.mem ((c.tc : Thread Cert.Band2FwdKernel.nD Cert.Band2FwdKernel.τ).loc Cert.Band2FwdKernel.main_arg3) = m ((c.tc : Thread Cert.Band2FwdKernel.nD Cert.Band2FwdKernel.τ).loc Cert.Band2FwdKernel.main_arg3))
      ∧ r.2.sem = fun _ => 0)

def quiescent_Band2FwdKernelIdeal [hBand2FwdKernelIdeal : Cert.Band2FwdKernelIdeal.Facts] : Prop :=
  ∀ (m : (ℓ : Loc Cert.Band2FwdKernelIdeal.nD Cert.Band2FwdKernelIdeal.τ Cert.Band2FwdKernelIdeal.sig) → Buf (Elt Ideal) ℓ) (g : Dev Cert.Band2FwdKernelIdeal.nD → PrngReg), Pre_Band2FwdKernelIdeal m →
    θ_run (Cert.Band2FwdKernelIdeal.defs (F := Ideal)) (onTc (τ := Cert.Band2FwdKernelIdeal.τ) (Cert.Band2FwdKernelIdeal.main (F := Ideal))) ⟨m, fun _ => 0, g⟩ (fun r => (∀ c : Dev Cert.Band2FwdKernelIdeal.nD,
      r.2.mem ((c.tc : Thread Cert.Band2FwdKernelIdeal.nD Cert.Band2FwdKernelIdeal.τ).loc Cert.Band2FwdKernelIdeal.main_arg0) = m ((c.tc : Thread Cert.Band2FwdKernelIdeal.nD Cert.Band2FwdKernelIdeal.τ).loc Cert.Band2FwdKernelIdeal.main_arg0)
      ∧ r.2.mem ((c.tc : Thread Cert.Band2FwdKernelIdeal.nD Cert.Band2FwdKernelIdeal.τ).loc Cert.Band2FwdKernelIdeal.main_arg1) = m ((c.tc : Thread Cert.Band2FwdKernelIdeal.nD Cert.Band2FwdKernelIdeal.τ).loc Cert.Band2FwdKernelIdeal.main_arg1)
      ∧ r.2.mem ((c.tc : Thread Cert.Band2FwdKernelIdeal.nD Cert.Band2FwdKernelIdeal.τ).loc Cert.Band2FwdKernelIdeal.main_arg2) = m ((c.tc : Thread Cert.Band2FwdKernelIdeal.nD Cert.Band2FwdKernelIdeal.τ).loc Cert.Band2FwdKernelIdeal.main_arg2)
      ∧ r.2.mem ((c.tc : Thread Cert.Band2FwdKernelIdeal.nD Cert.Band2FwdKernelIdeal.τ).loc Cert.Band2FwdKernelIdeal.main_arg3) = m ((c.tc : Thread Cert.Band2FwdKernelIdeal.nD Cert.Band2FwdKernelIdeal.τ).loc Cert.Band2FwdKernelIdeal.main_arg3))
      ∧ r.2.sem = fun _ => 0)

def quiescent_Band2FwdKernelIdeal_pre_bandfwd_finite [hBand2FwdKernelIdeal : Cert.Band2FwdKernelIdeal.Facts] [hPre_bandfwd_finite : Cert.Pre_bandfwd_finite.Facts] : Prop :=
  ∀ (m : (ℓ : Loc Cert.Band2FwdKernelIdeal.nD Cert.Band2FwdKernelIdeal.τ Cert.Band2FwdKernelIdeal.sig) → Buf (Elt Ideal) ℓ) (g : Dev Cert.Band2FwdKernelIdeal.nD → PrngReg), Pre_Band2FwdKernelIdeal_bandfwd_finite m →
    θ_run (Cert.Band2FwdKernelIdeal.defs (F := Ideal)) (onTc (τ := Cert.Band2FwdKernelIdeal.τ) (Cert.Band2FwdKernelIdeal.main (F := Ideal))) ⟨m, fun _ => 0, g⟩ (fun r => (∀ c : Dev Cert.Band2FwdKernelIdeal.nD,
      r.2.mem ((c.tc : Thread Cert.Band2FwdKernelIdeal.nD Cert.Band2FwdKernelIdeal.τ).loc Cert.Band2FwdKernelIdeal.main_arg0) = m ((c.tc : Thread Cert.Band2FwdKernelIdeal.nD Cert.Band2FwdKernelIdeal.τ).loc Cert.Band2FwdKernelIdeal.main_arg0)
      ∧ r.2.mem ((c.tc : Thread Cert.Band2FwdKernelIdeal.nD Cert.Band2FwdKernelIdeal.τ).loc Cert.Band2FwdKernelIdeal.main_arg1) = m ((c.tc : Thread Cert.Band2FwdKernelIdeal.nD Cert.Band2FwdKernelIdeal.τ).loc Cert.Band2FwdKernelIdeal.main_arg1)
      ∧ r.2.mem ((c.tc : Thread Cert.Band2FwdKernelIdeal.nD Cert.Band2FwdKernelIdeal.τ).loc Cert.Band2FwdKernelIdeal.main_arg2) = m ((c.tc : Thread Cert.Band2FwdKernelIdeal.nD Cert.Band2FwdKernelIdeal.τ).loc Cert.Band2FwdKernelIdeal.main_arg2)
      ∧ r.2.mem ((c.tc : Thread Cert.Band2FwdKernelIdeal.nD Cert.Band2FwdKernelIdeal.τ).loc Cert.Band2FwdKernelIdeal.main_arg3) = m ((c.tc : Thread Cert.Band2FwdKernelIdeal.nD Cert.Band2FwdKernelIdeal.τ).loc Cert.Band2FwdKernelIdeal.main_arg3))
      ∧ r.2.sem = fun _ => 0)

def quiescent_Band2FwdReferenceIdeal [hBand2FwdReferenceIdeal : Cert.Band2FwdReferenceIdeal.Facts] : Prop :=
  ∀ (m : (ℓ : Loc Cert.Band2FwdReferenceIdeal.nD Cert.Band2FwdReferenceIdeal.τ Cert.Band2FwdReferenceIdeal.sig) → Buf (Elt Ideal) ℓ) (g : Dev Cert.Band2FwdReferenceIdeal.nD → PrngReg), Pre_Band2FwdReferenceIdeal m →
    θ_run (Cert.Band2FwdReferenceIdeal.defs (F := Ideal)) (onTc (τ := Cert.Band2FwdReferenceIdeal.τ) (Cert.Band2FwdReferenceIdeal.main (F := Ideal))) ⟨m, fun _ => 0, g⟩ (fun r => (∀ c : Dev Cert.Band2FwdReferenceIdeal.nD,
      r.2.mem ((c.tc : Thread Cert.Band2FwdReferenceIdeal.nD Cert.Band2FwdReferenceIdeal.τ).loc Cert.Band2FwdReferenceIdeal.main_arg0) = m ((c.tc : Thread Cert.Band2FwdReferenceIdeal.nD Cert.Band2FwdReferenceIdeal.τ).loc Cert.Band2FwdReferenceIdeal.main_arg0)
      ∧ r.2.mem ((c.tc : Thread Cert.Band2FwdReferenceIdeal.nD Cert.Band2FwdReferenceIdeal.τ).loc Cert.Band2FwdReferenceIdeal.main_arg1) = m ((c.tc : Thread Cert.Band2FwdReferenceIdeal.nD Cert.Band2FwdReferenceIdeal.τ).loc Cert.Band2FwdReferenceIdeal.main_arg1)
      ∧ r.2.mem ((c.tc : Thread Cert.Band2FwdReferenceIdeal.nD Cert.Band2FwdReferenceIdeal.τ).loc Cert.Band2FwdReferenceIdeal.main_arg2) = m ((c.tc : Thread Cert.Band2FwdReferenceIdeal.nD Cert.Band2FwdReferenceIdeal.τ).loc Cert.Band2FwdReferenceIdeal.main_arg2)
      ∧ r.2.mem ((c.tc : Thread Cert.Band2FwdReferenceIdeal.nD Cert.Band2FwdReferenceIdeal.τ).loc Cert.Band2FwdReferenceIdeal.main_arg3) = m ((c.tc : Thread Cert.Band2FwdReferenceIdeal.nD Cert.Band2FwdReferenceIdeal.τ).loc Cert.Band2FwdReferenceIdeal.main_arg3))
      ∧ r.2.sem = fun _ => 0)

def quiescent_Band2FwdReferenceIdeal_pre_bandfwd_finite [hBand2FwdReferenceIdeal : Cert.Band2FwdReferenceIdeal.Facts] [hPre_bandfwd_finite : Cert.Pre_bandfwd_finite.Facts] : Prop :=
  ∀ (m : (ℓ : Loc Cert.Band2FwdReferenceIdeal.nD Cert.Band2FwdReferenceIdeal.τ Cert.Band2FwdReferenceIdeal.sig) → Buf (Elt Ideal) ℓ) (g : Dev Cert.Band2FwdReferenceIdeal.nD → PrngReg), Pre_Band2FwdReferenceIdeal_bandfwd_finite m →
    θ_run (Cert.Band2FwdReferenceIdeal.defs (F := Ideal)) (onTc (τ := Cert.Band2FwdReferenceIdeal.τ) (Cert.Band2FwdReferenceIdeal.main (F := Ideal))) ⟨m, fun _ => 0, g⟩ (fun r => (∀ c : Dev Cert.Band2FwdReferenceIdeal.nD,
      r.2.mem ((c.tc : Thread Cert.Band2FwdReferenceIdeal.nD Cert.Band2FwdReferenceIdeal.τ).loc Cert.Band2FwdReferenceIdeal.main_arg0) = m ((c.tc : Thread Cert.Band2FwdReferenceIdeal.nD Cert.Band2FwdReferenceIdeal.τ).loc Cert.Band2FwdReferenceIdeal.main_arg0)
      ∧ r.2.mem ((c.tc : Thread Cert.Band2FwdReferenceIdeal.nD Cert.Band2FwdReferenceIdeal.τ).loc Cert.Band2FwdReferenceIdeal.main_arg1) = m ((c.tc : Thread Cert.Band2FwdReferenceIdeal.nD Cert.Band2FwdReferenceIdeal.τ).loc Cert.Band2FwdReferenceIdeal.main_arg1)
      ∧ r.2.mem ((c.tc : Thread Cert.Band2FwdReferenceIdeal.nD Cert.Band2FwdReferenceIdeal.τ).loc Cert.Band2FwdReferenceIdeal.main_arg2) = m ((c.tc : Thread Cert.Band2FwdReferenceIdeal.nD Cert.Band2FwdReferenceIdeal.τ).loc Cert.Band2FwdReferenceIdeal.main_arg2)
      ∧ r.2.mem ((c.tc : Thread Cert.Band2FwdReferenceIdeal.nD Cert.Band2FwdReferenceIdeal.τ).loc Cert.Band2FwdReferenceIdeal.main_arg3) = m ((c.tc : Thread Cert.Band2FwdReferenceIdeal.nD Cert.Band2FwdReferenceIdeal.τ).loc Cert.Band2FwdReferenceIdeal.main_arg3))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_AOutKernel [hAOutKernel : Cert.AOutKernel.Facts] : Prop :=
  ∀ (m : (ℓ : Loc Cert.AOutKernel.nD Cert.AOutKernel.τ Cert.AOutKernel.sig) → Buf (Elt Bits) ℓ) (g : Dev Cert.AOutKernel.nD → PrngReg), Pre_AOutKernel m →
    θ_run (Cert.AOutKernel.defs (F := Bits)) (onTc (τ := Cert.AOutKernel.τ) (Cert.AOutKernel.main (F := Bits))) ⟨m, fun _ => 0, g⟩ (fun r => (∀ c : Dev Cert.AOutKernel.nD,
      r.2.mem ((c.tc : Thread Cert.AOutKernel.nD Cert.AOutKernel.τ).loc Cert.AOutKernel.main_arg0) = m ((c.tc : Thread Cert.AOutKernel.nD Cert.AOutKernel.τ).loc Cert.AOutKernel.main_arg0)
      ∧ r.2.mem ((c.tc : Thread Cert.AOutKernel.nD Cert.AOutKernel.τ).loc Cert.AOutKernel.main_arg1) = m ((c.tc : Thread Cert.AOutKernel.nD Cert.AOutKernel.τ).loc Cert.AOutKernel.main_arg1)
      ∧ r.2.mem ((c.tc : Thread Cert.AOutKernel.nD Cert.AOutKernel.τ).loc Cert.AOutKernel.main_arg2) = m ((c.tc : Thread Cert.AOutKernel.nD Cert.AOutKernel.τ).loc Cert.AOutKernel.main_arg2)
      ∧ r.2.mem ((c.tc : Thread Cert.AOutKernel.nD Cert.AOutKernel.τ).loc Cert.AOutKernel.main_arg3) = m ((c.tc : Thread Cert.AOutKernel.nD Cert.AOutKernel.τ).loc Cert.AOutKernel.main_arg3)
      ∧ r.2.mem ((c.tc : Thread Cert.AOutKernel.nD Cert.AOutKernel.τ).loc Cert.AOutKernel.main_arg4) = m ((c.tc : Thread Cert.AOutKernel.nD Cert.AOutKernel.τ).loc Cert.AOutKernel.main_arg4))
      ∧ r.2.sem = fun _ => 0)

def quiescent_AOutKernelIdeal [hAOutKernelIdeal : Cert.AOutKernelIdeal.Facts] : Prop :=
  ∀ (m : (ℓ : Loc Cert.AOutKernelIdeal.nD Cert.AOutKernelIdeal.τ Cert.AOutKernelIdeal.sig) → Buf (Elt Ideal) ℓ) (g : Dev Cert.AOutKernelIdeal.nD → PrngReg), Pre_AOutKernelIdeal m →
    θ_run (Cert.AOutKernelIdeal.defs (F := Ideal)) (onTc (τ := Cert.AOutKernelIdeal.τ) (Cert.AOutKernelIdeal.main (F := Ideal))) ⟨m, fun _ => 0, g⟩ (fun r => (∀ c : Dev Cert.AOutKernelIdeal.nD,
      r.2.mem ((c.tc : Thread Cert.AOutKernelIdeal.nD Cert.AOutKernelIdeal.τ).loc Cert.AOutKernelIdeal.main_arg0) = m ((c.tc : Thread Cert.AOutKernelIdeal.nD Cert.AOutKernelIdeal.τ).loc Cert.AOutKernelIdeal.main_arg0)
      ∧ r.2.mem ((c.tc : Thread Cert.AOutKernelIdeal.nD Cert.AOutKernelIdeal.τ).loc Cert.AOutKernelIdeal.main_arg1) = m ((c.tc : Thread Cert.AOutKernelIdeal.nD Cert.AOutKernelIdeal.τ).loc Cert.AOutKernelIdeal.main_arg1)
      ∧ r.2.mem ((c.tc : Thread Cert.AOutKernelIdeal.nD Cert.AOutKernelIdeal.τ).loc Cert.AOutKernelIdeal.main_arg2) = m ((c.tc : Thread Cert.AOutKernelIdeal.nD Cert.AOutKernelIdeal.τ).loc Cert.AOutKernelIdeal.main_arg2)
      ∧ r.2.mem ((c.tc : Thread Cert.AOutKernelIdeal.nD Cert.AOutKernelIdeal.τ).loc Cert.AOutKernelIdeal.main_arg3) = m ((c.tc : Thread Cert.AOutKernelIdeal.nD Cert.AOutKernelIdeal.τ).loc Cert.AOutKernelIdeal.main_arg3)
      ∧ r.2.mem ((c.tc : Thread Cert.AOutKernelIdeal.nD Cert.AOutKernelIdeal.τ).loc Cert.AOutKernelIdeal.main_arg4) = m ((c.tc : Thread Cert.AOutKernelIdeal.nD Cert.AOutKernelIdeal.τ).loc Cert.AOutKernelIdeal.main_arg4))
      ∧ r.2.sem = fun _ => 0)

def quiescent_AOutReferenceIdeal [hAOutReferenceIdeal : Cert.AOutReferenceIdeal.Facts] : Prop :=
  ∀ (m : (ℓ : Loc Cert.AOutReferenceIdeal.nD Cert.AOutReferenceIdeal.τ Cert.AOutReferenceIdeal.sig) → Buf (Elt Ideal) ℓ) (g : Dev Cert.AOutReferenceIdeal.nD → PrngReg), Pre_AOutReferenceIdeal m →
    θ_run (Cert.AOutReferenceIdeal.defs (F := Ideal)) (onTc (τ := Cert.AOutReferenceIdeal.τ) (Cert.AOutReferenceIdeal.main (F := Ideal))) ⟨m, fun _ => 0, g⟩ (fun r => (∀ c : Dev Cert.AOutReferenceIdeal.nD,
      r.2.mem ((c.tc : Thread Cert.AOutReferenceIdeal.nD Cert.AOutReferenceIdeal.τ).loc Cert.AOutReferenceIdeal.main_arg0) = m ((c.tc : Thread Cert.AOutReferenceIdeal.nD Cert.AOutReferenceIdeal.τ).loc Cert.AOutReferenceIdeal.main_arg0)
      ∧ r.2.mem ((c.tc : Thread Cert.AOutReferenceIdeal.nD Cert.AOutReferenceIdeal.τ).loc Cert.AOutReferenceIdeal.main_arg1) = m ((c.tc : Thread Cert.AOutReferenceIdeal.nD Cert.AOutReferenceIdeal.τ).loc Cert.AOutReferenceIdeal.main_arg1)
      ∧ r.2.mem ((c.tc : Thread Cert.AOutReferenceIdeal.nD Cert.AOutReferenceIdeal.τ).loc Cert.AOutReferenceIdeal.main_arg2) = m ((c.tc : Thread Cert.AOutReferenceIdeal.nD Cert.AOutReferenceIdeal.τ).loc Cert.AOutReferenceIdeal.main_arg2)
      ∧ r.2.mem ((c.tc : Thread Cert.AOutReferenceIdeal.nD Cert.AOutReferenceIdeal.τ).loc Cert.AOutReferenceIdeal.main_arg3) = m ((c.tc : Thread Cert.AOutReferenceIdeal.nD Cert.AOutReferenceIdeal.τ).loc Cert.AOutReferenceIdeal.main_arg3)
      ∧ r.2.mem ((c.tc : Thread Cert.AOutReferenceIdeal.nD Cert.AOutReferenceIdeal.τ).loc Cert.AOutReferenceIdeal.main_arg4) = m ((c.tc : Thread Cert.AOutReferenceIdeal.nD Cert.AOutReferenceIdeal.τ).loc Cert.AOutReferenceIdeal.main_arg4))
      ∧ r.2.sem = fun _ => 0)

def quiescent_BOutKernel [hBOutKernel : Cert.BOutKernel.Facts] : Prop :=
  ∀ (m : (ℓ : Loc Cert.BOutKernel.nD Cert.BOutKernel.τ Cert.BOutKernel.sig) → Buf (Elt Bits) ℓ) (g : Dev Cert.BOutKernel.nD → PrngReg), Pre_BOutKernel m →
    θ_run (Cert.BOutKernel.defs (F := Bits)) (onTc (τ := Cert.BOutKernel.τ) (Cert.BOutKernel.main (F := Bits))) ⟨m, fun _ => 0, g⟩ (fun r => (∀ c : Dev Cert.BOutKernel.nD,
      r.2.mem ((c.tc : Thread Cert.BOutKernel.nD Cert.BOutKernel.τ).loc Cert.BOutKernel.main_arg0) = m ((c.tc : Thread Cert.BOutKernel.nD Cert.BOutKernel.τ).loc Cert.BOutKernel.main_arg0)
      ∧ r.2.mem ((c.tc : Thread Cert.BOutKernel.nD Cert.BOutKernel.τ).loc Cert.BOutKernel.main_arg1) = m ((c.tc : Thread Cert.BOutKernel.nD Cert.BOutKernel.τ).loc Cert.BOutKernel.main_arg1)
      ∧ r.2.mem ((c.tc : Thread Cert.BOutKernel.nD Cert.BOutKernel.τ).loc Cert.BOutKernel.main_arg2) = m ((c.tc : Thread Cert.BOutKernel.nD Cert.BOutKernel.τ).loc Cert.BOutKernel.main_arg2)
      ∧ r.2.mem ((c.tc : Thread Cert.BOutKernel.nD Cert.BOutKernel.τ).loc Cert.BOutKernel.main_arg3) = m ((c.tc : Thread Cert.BOutKernel.nD Cert.BOutKernel.τ).loc Cert.BOutKernel.main_arg3)
      ∧ r.2.mem ((c.tc : Thread Cert.BOutKernel.nD Cert.BOutKernel.τ).loc Cert.BOutKernel.main_arg4) = m ((c.tc : Thread Cert.BOutKernel.nD Cert.BOutKernel.τ).loc Cert.BOutKernel.main_arg4))
      ∧ r.2.sem = fun _ => 0)

def quiescent_BOutKernelIdeal [hBOutKernelIdeal : Cert.BOutKernelIdeal.Facts] : Prop :=
  ∀ (m : (ℓ : Loc Cert.BOutKernelIdeal.nD Cert.BOutKernelIdeal.τ Cert.BOutKernelIdeal.sig) → Buf (Elt Ideal) ℓ) (g : Dev Cert.BOutKernelIdeal.nD → PrngReg), Pre_BOutKernelIdeal m →
    θ_run (Cert.BOutKernelIdeal.defs (F := Ideal)) (onTc (τ := Cert.BOutKernelIdeal.τ) (Cert.BOutKernelIdeal.main (F := Ideal))) ⟨m, fun _ => 0, g⟩ (fun r => (∀ c : Dev Cert.BOutKernelIdeal.nD,
      r.2.mem ((c.tc : Thread Cert.BOutKernelIdeal.nD Cert.BOutKernelIdeal.τ).loc Cert.BOutKernelIdeal.main_arg0) = m ((c.tc : Thread Cert.BOutKernelIdeal.nD Cert.BOutKernelIdeal.τ).loc Cert.BOutKernelIdeal.main_arg0)
      ∧ r.2.mem ((c.tc : Thread Cert.BOutKernelIdeal.nD Cert.BOutKernelIdeal.τ).loc Cert.BOutKernelIdeal.main_arg1) = m ((c.tc : Thread Cert.BOutKernelIdeal.nD Cert.BOutKernelIdeal.τ).loc Cert.BOutKernelIdeal.main_arg1)
      ∧ r.2.mem ((c.tc : Thread Cert.BOutKernelIdeal.nD Cert.BOutKernelIdeal.τ).loc Cert.BOutKernelIdeal.main_arg2) = m ((c.tc : Thread Cert.BOutKernelIdeal.nD Cert.BOutKernelIdeal.τ).loc Cert.BOutKernelIdeal.main_arg2)
      ∧ r.2.mem ((c.tc : Thread Cert.BOutKernelIdeal.nD Cert.BOutKernelIdeal.τ).loc Cert.BOutKernelIdeal.main_arg3) = m ((c.tc : Thread Cert.BOutKernelIdeal.nD Cert.BOutKernelIdeal.τ).loc Cert.BOutKernelIdeal.main_arg3)
      ∧ r.2.mem ((c.tc : Thread Cert.BOutKernelIdeal.nD Cert.BOutKernelIdeal.τ).loc Cert.BOutKernelIdeal.main_arg4) = m ((c.tc : Thread Cert.BOutKernelIdeal.nD Cert.BOutKernelIdeal.τ).loc Cert.BOutKernelIdeal.main_arg4))
      ∧ r.2.sem = fun _ => 0)

def quiescent_BOutReferenceIdeal [hBOutReferenceIdeal : Cert.BOutReferenceIdeal.Facts] : Prop :=
  ∀ (m : (ℓ : Loc Cert.BOutReferenceIdeal.nD Cert.BOutReferenceIdeal.τ Cert.BOutReferenceIdeal.sig) → Buf (Elt Ideal) ℓ) (g : Dev Cert.BOutReferenceIdeal.nD → PrngReg), Pre_BOutReferenceIdeal m →
    θ_run (Cert.BOutReferenceIdeal.defs (F := Ideal)) (onTc (τ := Cert.BOutReferenceIdeal.τ) (Cert.BOutReferenceIdeal.main (F := Ideal))) ⟨m, fun _ => 0, g⟩ (fun r => (∀ c : Dev Cert.BOutReferenceIdeal.nD,
      r.2.mem ((c.tc : Thread Cert.BOutReferenceIdeal.nD Cert.BOutReferenceIdeal.τ).loc Cert.BOutReferenceIdeal.main_arg0) = m ((c.tc : Thread Cert.BOutReferenceIdeal.nD Cert.BOutReferenceIdeal.τ).loc Cert.BOutReferenceIdeal.main_arg0)
      ∧ r.2.mem ((c.tc : Thread Cert.BOutReferenceIdeal.nD Cert.BOutReferenceIdeal.τ).loc Cert.BOutReferenceIdeal.main_arg1) = m ((c.tc : Thread Cert.BOutReferenceIdeal.nD Cert.BOutReferenceIdeal.τ).loc Cert.BOutReferenceIdeal.main_arg1)
      ∧ r.2.mem ((c.tc : Thread Cert.BOutReferenceIdeal.nD Cert.BOutReferenceIdeal.τ).loc Cert.BOutReferenceIdeal.main_arg2) = m ((c.tc : Thread Cert.BOutReferenceIdeal.nD Cert.BOutReferenceIdeal.τ).loc Cert.BOutReferenceIdeal.main_arg2)
      ∧ r.2.mem ((c.tc : Thread Cert.BOutReferenceIdeal.nD Cert.BOutReferenceIdeal.τ).loc Cert.BOutReferenceIdeal.main_arg3) = m ((c.tc : Thread Cert.BOutReferenceIdeal.nD Cert.BOutReferenceIdeal.τ).loc Cert.BOutReferenceIdeal.main_arg3)
      ∧ r.2.mem ((c.tc : Thread Cert.BOutReferenceIdeal.nD Cert.BOutReferenceIdeal.τ).loc Cert.BOutReferenceIdeal.main_arg4) = m ((c.tc : Thread Cert.BOutReferenceIdeal.nD Cert.BOutReferenceIdeal.τ).loc Cert.BOutReferenceIdeal.main_arg4))
      ∧ r.2.sem = fun _ => 0)

def preserves_FoxKernel_FoxKernelIdeal : Prop :=
  IdealRules.named_const.Statement Cert.FoxKernelIdeal.κ "mask" .f32 0xF149F2CA#32 ⊥

def algebraic_FoxKernelIdeal_FoxReferenceIdeal_on_decay_lanes_pre_fox_finite [hFoxKernelIdeal : Cert.FoxKernelIdeal.Facts] [hFoxReferenceIdeal : Cert.FoxReferenceIdeal.Facts] [hPre_fox_finite : Cert.Pre_fox_finite.Facts] [hOn_decay_lanes : Cert.On_decay_lanes.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v107_0)) (v1 : (c : Dev Cert.FoxKernelIdeal.nD) → Buf (Elt Ideal) ((c.tc : Thread Cert.FoxKernelIdeal.nD Cert.FoxKernelIdeal.τ).loc Cert.FoxKernelIdeal.main_v107_1)) (v2 : (c : Dev Cert.FoxKernelIdeal.nD) → Buf (Elt Ideal) ((c.tc : Thread Cert.FoxKernelIdeal.nD Cert.FoxKernelIdeal.τ).loc Cert.FoxKernelIdeal.main_v107_2)) (v3 : (c : Dev Cert.FoxKernelIdeal.nD) → Buf (Elt Ideal) ((c.tc : Thread Cert.FoxKernelIdeal.nD Cert.FoxKernelIdeal.τ).loc Cert.FoxKernelIdeal.main_v107_3)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 i = 1#1 → r.2.mem ((c.tc : Thread Cert.FoxKernelIdeal.nD Cert.FoxKernelIdeal.τ).loc Cert.FoxKernelIdeal.main_v107_0) i = v0 c i)
          ∧ (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 i = 1#1 → r.2.mem ((c.tc : Thread Cert.FoxKernelIdeal.nD Cert.FoxKernelIdeal.τ).loc Cert.FoxKernelIdeal.main_v107_1) i = v1 c i)
          ∧ (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 i = 1#1 → r.2.mem ((c.tc : Thread Cert.FoxKernelIdeal.nD Cert.FoxKernelIdeal.τ).loc Cert.FoxKernelIdeal.main_v107_2) i = v2 c i)
          ∧ (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2 i = 1#1 → r.2.mem ((c.tc : Thread Cert.FoxKernelIdeal.nD Cert.FoxKernelIdeal.τ).loc Cert.FoxKernelIdeal.main_v107_3) i = v3 c i)
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 i = 1#1 → r.2.mem ((c.tc : Thread Cert.FoxReferenceIdeal.nD Cert.FoxReferenceIdeal.τ).loc Cert.FoxReferenceIdeal.main_v85) i = v0 c i)
          ∧ (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 i = 1#1 → r.2.mem ((c.tc : Thread Cert.FoxReferenceIdeal.nD Cert.FoxReferenceIdeal.τ).loc Cert.FoxReferenceIdeal.main_v58) i = v1 c i)
          ∧ (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 i = 1#1 → r.2.mem ((c.tc : Thread Cert.FoxReferenceIdeal.nD Cert.FoxReferenceIdeal.τ).loc Cert.FoxReferenceIdeal.main_v89) i = v2 c i)
          ∧ (∀ i : (⟨2, ![4096, 768]⟩ : Shape).Idx, (Cert.On_decay_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2 i = 1#1 → r.2.mem ((c.tc : Thread Cert.FoxReferenceIdeal.nD Cert.FoxReferenceIdeal.τ).loc Cert.FoxReferenceIdeal.main_v86) i = v3 c i)
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)) →
    ∃ (v0 : (c : Dev Cert.GateKernelIdeal.nD) → Buf (Elt Ideal) ((c.tc : Thread Cert.GateKernelIdeal.nD Cert.GateKernelIdeal.τ).loc Cert.GateKernelIdeal.main_v5_0)) (v1 : (c : Dev Cert.GateKernelIdeal.nD) → Buf (Elt Ideal) ((c.tc : Thread Cert.GateKernelIdeal.nD Cert.GateKernelIdeal.τ).loc Cert.GateKernelIdeal.main_v5_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v5_0) = v0 c
          ∧ r.2.mem ((c.tc : Thread Cert.GateKernelIdeal.nD Cert.GateKernelIdeal.τ).loc Cert.GateKernelIdeal.main_v5_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v26) = v0 c
          ∧ r.2.mem ((c.tc : Thread Cert.GateReferenceIdeal.nD Cert.GateReferenceIdeal.τ).loc Cert.GateReferenceIdeal.main_v29) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6))

def preserves_Band0DqKernel_Band0DqKernelIdeal : Prop :=
  IdealRules.named_const.Statement Cert.Band0DqKernelIdeal.κ "mask" .f32 0xF149F2CA#32 ⊥

def algebraic_Band0DqKernelIdeal_Band0DqReferenceIdeal_pre_band_finite [hBand0DqKernelIdeal : Cert.Band0DqKernelIdeal.Facts] [hBand0DqReferenceIdeal : Cert.Band0DqReferenceIdeal.Facts] [hPre_band_finite : Cert.Pre_band_finite.Facts] : Prop :=
  ∀ (m : (ℓ : Loc Cert.Band0DqKernelIdeal.nD Cert.Band0DqKernelIdeal.τ Cert.Band0DqKernelIdeal.sig) → Buf (Elt Ideal) ℓ) (g : Dev Cert.Band0DqKernelIdeal.nD → PrngReg)
    (m' : (ℓ : Loc Cert.Band0DqReferenceIdeal.nD Cert.Band0DqReferenceIdeal.τ Cert.Band0DqReferenceIdeal.sig) → Buf (Elt Ideal) ℓ) (g' : Dev Cert.Band0DqReferenceIdeal.nD → PrngReg), Pre_Band0DqKernelIdeal_band_finite m →
    (∀ c : Dev Cert.Band0DqKernelIdeal.nD,
      m' ((c.tc : Thread Cert.Band0DqReferenceIdeal.nD Cert.Band0DqReferenceIdeal.τ).loc Cert.Band0DqReferenceIdeal.main_arg0) = m ((c.tc : Thread Cert.Band0DqKernelIdeal.nD Cert.Band0DqKernelIdeal.τ).loc Cert.Band0DqKernelIdeal.main_arg0)
      ∧ m' ((c.tc : Thread Cert.Band0DqReferenceIdeal.nD Cert.Band0DqReferenceIdeal.τ).loc Cert.Band0DqReferenceIdeal.main_arg1) = m ((c.tc : Thread Cert.Band0DqKernelIdeal.nD Cert.Band0DqKernelIdeal.τ).loc Cert.Band0DqKernelIdeal.main_arg1)
      ∧ m' ((c.tc : Thread Cert.Band0DqReferenceIdeal.nD Cert.Band0DqReferenceIdeal.τ).loc Cert.Band0DqReferenceIdeal.main_arg2) = m ((c.tc : Thread Cert.Band0DqKernelIdeal.nD Cert.Band0DqKernelIdeal.τ).loc Cert.Band0DqKernelIdeal.main_arg2)
      ∧ m' ((c.tc : Thread Cert.Band0DqReferenceIdeal.nD Cert.Band0DqReferenceIdeal.τ).loc Cert.Band0DqReferenceIdeal.main_arg3) = m ((c.tc : Thread Cert.Band0DqKernelIdeal.nD Cert.Band0DqKernelIdeal.τ).loc Cert.Band0DqKernelIdeal.main_arg3)
      ∧ m' ((c.tc : Thread Cert.Band0DqReferenceIdeal.nD Cert.Band0DqReferenceIdeal.τ).loc Cert.Band0DqReferenceIdeal.main_arg4) = m ((c.tc : Thread Cert.Band0DqKernelIdeal.nD Cert.Band0DqKernelIdeal.τ).loc Cert.Band0DqKernelIdeal.main_arg4)) →
    ∃ (v0 : (c : Dev Cert.Band0DqKernelIdeal.nD) → Buf (Elt Ideal) ((c.tc : Thread Cert.Band0DqKernelIdeal.nD Cert.Band0DqKernelIdeal.τ).loc Cert.Band0DqKernelIdeal.main_v81)),
      θ_run (Cert.Band0DqKernelIdeal.defs (F := Ideal)) (onTc (τ := Cert.Band0DqKernelIdeal.τ) (Cert.Band0DqKernelIdeal.main (F := Ideal))) ⟨m, fun _ => 0, g⟩ (fun r => ∀ c : Dev Cert.Band0DqKernelIdeal.nD,
          r.2.mem ((c.tc : Thread Cert.Band0DqKernelIdeal.nD Cert.Band0DqKernelIdeal.τ).loc Cert.Band0DqKernelIdeal.main_v81) = v0 c
          ∧ r.2.mem ((c.tc : Thread Cert.Band0DqKernelIdeal.nD Cert.Band0DqKernelIdeal.τ).loc Cert.Band0DqKernelIdeal.main_arg0) = m ((c.tc : Thread Cert.Band0DqKernelIdeal.nD Cert.Band0DqKernelIdeal.τ).loc Cert.Band0DqKernelIdeal.main_arg0)
          ∧ r.2.mem ((c.tc : Thread Cert.Band0DqKernelIdeal.nD Cert.Band0DqKernelIdeal.τ).loc Cert.Band0DqKernelIdeal.main_arg1) = m ((c.tc : Thread Cert.Band0DqKernelIdeal.nD Cert.Band0DqKernelIdeal.τ).loc Cert.Band0DqKernelIdeal.main_arg1)
          ∧ r.2.mem ((c.tc : Thread Cert.Band0DqKernelIdeal.nD Cert.Band0DqKernelIdeal.τ).loc Cert.Band0DqKernelIdeal.main_arg2) = m ((c.tc : Thread Cert.Band0DqKernelIdeal.nD Cert.Band0DqKernelIdeal.τ).loc Cert.Band0DqKernelIdeal.main_arg2)
          ∧ r.2.mem ((c.tc : Thread Cert.Band0DqKernelIdeal.nD Cert.Band0DqKernelIdeal.τ).loc Cert.Band0DqKernelIdeal.main_arg3) = m ((c.tc : Thread Cert.Band0DqKernelIdeal.nD Cert.Band0DqKernelIdeal.τ).loc Cert.Band0DqKernelIdeal.main_arg3)
          ∧ r.2.mem ((c.tc : Thread Cert.Band0DqKernelIdeal.nD Cert.Band0DqKernelIdeal.τ).loc Cert.Band0DqKernelIdeal.main_arg4) = m ((c.tc : Thread Cert.Band0DqKernelIdeal.nD Cert.Band0DqKernelIdeal.τ).loc Cert.Band0DqKernelIdeal.main_arg4))
      ∧ θ_run (Cert.Band0DqReferenceIdeal.defs (F := Ideal)) (onTc (τ := Cert.Band0DqReferenceIdeal.τ) (Cert.Band0DqReferenceIdeal.main (F := Ideal))) ⟨m', fun _ => 0, g'⟩ (fun r => ∀ c : Dev Cert.Band0DqReferenceIdeal.nD,
          r.2.mem ((c.tc : Thread Cert.Band0DqReferenceIdeal.nD Cert.Band0DqReferenceIdeal.τ).loc Cert.Band0DqReferenceIdeal.main_v135) = v0 c
          ∧ r.2.mem ((c.tc : Thread Cert.Band0DqReferenceIdeal.nD Cert.Band0DqReferenceIdeal.τ).loc Cert.Band0DqReferenceIdeal.main_arg0) = m' ((c.tc : Thread Cert.Band0DqReferenceIdeal.nD Cert.Band0DqReferenceIdeal.τ).loc Cert.Band0DqReferenceIdeal.main_arg0)
          ∧ r.2.mem ((c.tc : Thread Cert.Band0DqReferenceIdeal.nD Cert.Band0DqReferenceIdeal.τ).loc Cert.Band0DqReferenceIdeal.main_arg1) = m' ((c.tc : Thread Cert.Band0DqReferenceIdeal.nD Cert.Band0DqReferenceIdeal.τ).loc Cert.Band0DqReferenceIdeal.main_arg1)
          ∧ r.2.mem ((c.tc : Thread Cert.Band0DqReferenceIdeal.nD Cert.Band0DqReferenceIdeal.τ).loc Cert.Band0DqReferenceIdeal.main_arg2) = m' ((c.tc : Thread Cert.Band0DqReferenceIdeal.nD Cert.Band0DqReferenceIdeal.τ).loc Cert.Band0DqReferenceIdeal.main_arg2)
          ∧ r.2.mem ((c.tc : Thread Cert.Band0DqReferenceIdeal.nD Cert.Band0DqReferenceIdeal.τ).loc Cert.Band0DqReferenceIdeal.main_arg3) = m' ((c.tc : Thread Cert.Band0DqReferenceIdeal.nD Cert.Band0DqReferenceIdeal.τ).loc Cert.Band0DqReferenceIdeal.main_arg3)
          ∧ r.2.mem ((c.tc : Thread Cert.Band0DqReferenceIdeal.nD Cert.Band0DqReferenceIdeal.τ).loc Cert.Band0DqReferenceIdeal.main_arg4) = m' ((c.tc : Thread Cert.Band0DqReferenceIdeal.nD Cert.Band0DqReferenceIdeal.τ).loc Cert.Band0DqReferenceIdeal.main_arg4))

def preserves_Band0DkvKernel_Band0DkvKernelIdeal : Prop :=
  IdealRules.named_const.Statement Cert.Band0DkvKernelIdeal.κ "mask" .f32 0xF149F2CA#32 ⊥

def algebraic_Band0DkvKernelIdeal_Band0DkvReferenceIdeal_pre_band_finite [hBand0DkvKernelIdeal : Cert.Band0DkvKernelIdeal.Facts] [hBand0DkvReferenceIdeal : Cert.Band0DkvReferenceIdeal.Facts] [hPre_band_finite : Cert.Pre_band_finite.Facts] : Prop :=
  ∀ (m : (ℓ : Loc Cert.Band0DkvKernelIdeal.nD Cert.Band0DkvKernelIdeal.τ Cert.Band0DkvKernelIdeal.sig) → Buf (Elt Ideal) ℓ) (g : Dev Cert.Band0DkvKernelIdeal.nD → PrngReg)
    (m' : (ℓ : Loc Cert.Band0DkvReferenceIdeal.nD Cert.Band0DkvReferenceIdeal.τ Cert.Band0DkvReferenceIdeal.sig) → Buf (Elt Ideal) ℓ) (g' : Dev Cert.Band0DkvReferenceIdeal.nD → PrngReg), Pre_Band0DkvKernelIdeal_band_finite m →
    (∀ c : Dev Cert.Band0DkvKernelIdeal.nD,
      m' ((c.tc : Thread Cert.Band0DkvReferenceIdeal.nD Cert.Band0DkvReferenceIdeal.τ).loc Cert.Band0DkvReferenceIdeal.main_arg0) = m ((c.tc : Thread Cert.Band0DkvKernelIdeal.nD Cert.Band0DkvKernelIdeal.τ).loc Cert.Band0DkvKernelIdeal.main_arg0)
      ∧ m' ((c.tc : Thread Cert.Band0DkvReferenceIdeal.nD Cert.Band0DkvReferenceIdeal.τ).loc Cert.Band0DkvReferenceIdeal.main_arg1) = m ((c.tc : Thread Cert.Band0DkvKernelIdeal.nD Cert.Band0DkvKernelIdeal.τ).loc Cert.Band0DkvKernelIdeal.main_arg1)
      ∧ m' ((c.tc : Thread Cert.Band0DkvReferenceIdeal.nD Cert.Band0DkvReferenceIdeal.τ).loc Cert.Band0DkvReferenceIdeal.main_arg2) = m ((c.tc : Thread Cert.Band0DkvKernelIdeal.nD Cert.Band0DkvKernelIdeal.τ).loc Cert.Band0DkvKernelIdeal.main_arg2)
      ∧ m' ((c.tc : Thread Cert.Band0DkvReferenceIdeal.nD Cert.Band0DkvReferenceIdeal.τ).loc Cert.Band0DkvReferenceIdeal.main_arg3) = m ((c.tc : Thread Cert.Band0DkvKernelIdeal.nD Cert.Band0DkvKernelIdeal.τ).loc Cert.Band0DkvKernelIdeal.main_arg3)
      ∧ m' ((c.tc : Thread Cert.Band0DkvReferenceIdeal.nD Cert.Band0DkvReferenceIdeal.τ).loc Cert.Band0DkvReferenceIdeal.main_arg4) = m ((c.tc : Thread Cert.Band0DkvKernelIdeal.nD Cert.Band0DkvKernelIdeal.τ).loc Cert.Band0DkvKernelIdeal.main_arg4)) →
    ∃ (v0 : (c : Dev Cert.Band0DkvKernelIdeal.nD) → Buf (Elt Ideal) ((c.tc : Thread Cert.Band0DkvKernelIdeal.nD Cert.Band0DkvKernelIdeal.τ).loc Cert.Band0DkvKernelIdeal.main_v81_0)) (v1 : (c : Dev Cert.Band0DkvKernelIdeal.nD) → Buf (Elt Ideal) ((c.tc : Thread Cert.Band0DkvKernelIdeal.nD Cert.Band0DkvKernelIdeal.τ).loc Cert.Band0DkvKernelIdeal.main_v81_1)),
      θ_run (Cert.Band0DkvKernelIdeal.defs (F := Ideal)) (onTc (τ := Cert.Band0DkvKernelIdeal.τ) (Cert.Band0DkvKernelIdeal.main (F := Ideal))) ⟨m, fun _ => 0, g⟩ (fun r => ∀ c : Dev Cert.Band0DkvKernelIdeal.nD,
          r.2.mem ((c.tc : Thread Cert.Band0DkvKernelIdeal.nD Cert.Band0DkvKernelIdeal.τ).loc Cert.Band0DkvKernelIdeal.main_v81_0) = v0 c
          ∧ r.2.mem ((c.tc : Thread Cert.Band0DkvKernelIdeal.nD Cert.Band0DkvKernelIdeal.τ).loc Cert.Band0DkvKernelIdeal.main_v81_1) = v1 c
          ∧ r.2.mem ((c.tc : Thread Cert.Band0DkvKernelIdeal.nD Cert.Band0DkvKernelIdeal.τ).loc Cert.Band0DkvKernelIdeal.main_arg0) = m ((c.tc : Thread Cert.Band0DkvKernelIdeal.nD Cert.Band0DkvKernelIdeal.τ).loc Cert.Band0DkvKernelIdeal.main_arg0)
          ∧ r.2.mem ((c.tc : Thread Cert.Band0DkvKernelIdeal.nD Cert.Band0DkvKernelIdeal.τ).loc Cert.Band0DkvKernelIdeal.main_arg1) = m ((c.tc : Thread Cert.Band0DkvKernelIdeal.nD Cert.Band0DkvKernelIdeal.τ).loc Cert.Band0DkvKernelIdeal.main_arg1)
          ∧ r.2.mem ((c.tc : Thread Cert.Band0DkvKernelIdeal.nD Cert.Band0DkvKernelIdeal.τ).loc Cert.Band0DkvKernelIdeal.main_arg2) = m ((c.tc : Thread Cert.Band0DkvKernelIdeal.nD Cert.Band0DkvKernelIdeal.τ).loc Cert.Band0DkvKernelIdeal.main_arg2)
          ∧ r.2.mem ((c.tc : Thread Cert.Band0DkvKernelIdeal.nD Cert.Band0DkvKernelIdeal.τ).loc Cert.Band0DkvKernelIdeal.main_arg3) = m ((c.tc : Thread Cert.Band0DkvKernelIdeal.nD Cert.Band0DkvKernelIdeal.τ).loc Cert.Band0DkvKernelIdeal.main_arg3)
          ∧ r.2.mem ((c.tc : Thread Cert.Band0DkvKernelIdeal.nD Cert.Band0DkvKernelIdeal.τ).loc Cert.Band0DkvKernelIdeal.main_arg4) = m ((c.tc : Thread Cert.Band0DkvKernelIdeal.nD Cert.Band0DkvKernelIdeal.τ).loc Cert.Band0DkvKernelIdeal.main_arg4))
      ∧ θ_run (Cert.Band0DkvReferenceIdeal.defs (F := Ideal)) (onTc (τ := Cert.Band0DkvReferenceIdeal.τ) (Cert.Band0DkvReferenceIdeal.main (F := Ideal))) ⟨m', fun _ => 0, g'⟩ (fun r => ∀ c : Dev Cert.Band0DkvReferenceIdeal.nD,
          r.2.mem ((c.tc : Thread Cert.Band0DkvReferenceIdeal.nD Cert.Band0DkvReferenceIdeal.τ).loc Cert.Band0DkvReferenceIdeal.main_v135) = v0 c
          ∧ r.2.mem ((c.tc : Thread Cert.Band0DkvReferenceIdeal.nD Cert.Band0DkvReferenceIdeal.τ).loc Cert.Band0DkvReferenceIdeal.main_v136) = v1 c
          ∧ r.2.mem ((c.tc : Thread Cert.Band0DkvReferenceIdeal.nD Cert.Band0DkvReferenceIdeal.τ).loc Cert.Band0DkvReferenceIdeal.main_arg0) = m' ((c.tc : Thread Cert.Band0DkvReferenceIdeal.nD Cert.Band0DkvReferenceIdeal.τ).loc Cert.Band0DkvReferenceIdeal.main_arg0)
          ∧ r.2.mem ((c.tc : Thread Cert.Band0DkvReferenceIdeal.nD Cert.Band0DkvReferenceIdeal.τ).loc Cert.Band0DkvReferenceIdeal.main_arg1) = m' ((c.tc : Thread Cert.Band0DkvReferenceIdeal.nD Cert.Band0DkvReferenceIdeal.τ).loc Cert.Band0DkvReferenceIdeal.main_arg1)
          ∧ r.2.mem ((c.tc : Thread Cert.Band0DkvReferenceIdeal.nD Cert.Band0DkvReferenceIdeal.τ).loc Cert.Band0DkvReferenceIdeal.main_arg2) = m' ((c.tc : Thread Cert.Band0DkvReferenceIdeal.nD Cert.Band0DkvReferenceIdeal.τ).loc Cert.Band0DkvReferenceIdeal.main_arg2)
          ∧ r.2.mem ((c.tc : Thread Cert.Band0DkvReferenceIdeal.nD Cert.Band0DkvReferenceIdeal.τ).loc Cert.Band0DkvReferenceIdeal.main_arg3) = m' ((c.tc : Thread Cert.Band0DkvReferenceIdeal.nD Cert.Band0DkvReferenceIdeal.τ).loc Cert.Band0DkvReferenceIdeal.main_arg3)
          ∧ r.2.mem ((c.tc : Thread Cert.Band0DkvReferenceIdeal.nD Cert.Band0DkvReferenceIdeal.τ).loc Cert.Band0DkvReferenceIdeal.main_arg4) = m' ((c.tc : Thread Cert.Band0DkvReferenceIdeal.nD Cert.Band0DkvReferenceIdeal.τ).loc Cert.Band0DkvReferenceIdeal.main_arg4))

def preserves_Band1DqKernel_Band1DqKernelIdeal : Prop :=
  IdealRules.named_const.Statement Cert.Band1DqKernelIdeal.κ "mask" .f32 0xF149F2CA#32 ⊥

def algebraic_Band1DqKernelIdeal_Band1DqReferenceIdeal_pre_band_finite [hBand1DqKernelIdeal : Cert.Band1DqKernelIdeal.Facts] [hBand1DqReferenceIdeal : Cert.Band1DqReferenceIdeal.Facts] [hPre_band_finite : Cert.Pre_band_finite.Facts] : Prop :=
  ∀ (m : (ℓ : Loc Cert.Band1DqKernelIdeal.nD Cert.Band1DqKernelIdeal.τ Cert.Band1DqKernelIdeal.sig) → Buf (Elt Ideal) ℓ) (g : Dev Cert.Band1DqKernelIdeal.nD → PrngReg)
    (m' : (ℓ : Loc Cert.Band1DqReferenceIdeal.nD Cert.Band1DqReferenceIdeal.τ Cert.Band1DqReferenceIdeal.sig) → Buf (Elt Ideal) ℓ) (g' : Dev Cert.Band1DqReferenceIdeal.nD → PrngReg), Pre_Band1DqKernelIdeal_band_finite m →
    (∀ c : Dev Cert.Band1DqKernelIdeal.nD,
      m' ((c.tc : Thread Cert.Band1DqReferenceIdeal.nD Cert.Band1DqReferenceIdeal.τ).loc Cert.Band1DqReferenceIdeal.main_arg0) = m ((c.tc : Thread Cert.Band1DqKernelIdeal.nD Cert.Band1DqKernelIdeal.τ).loc Cert.Band1DqKernelIdeal.main_arg0)
      ∧ m' ((c.tc : Thread Cert.Band1DqReferenceIdeal.nD Cert.Band1DqReferenceIdeal.τ).loc Cert.Band1DqReferenceIdeal.main_arg1) = m ((c.tc : Thread Cert.Band1DqKernelIdeal.nD Cert.Band1DqKernelIdeal.τ).loc Cert.Band1DqKernelIdeal.main_arg1)
      ∧ m' ((c.tc : Thread Cert.Band1DqReferenceIdeal.nD Cert.Band1DqReferenceIdeal.τ).loc Cert.Band1DqReferenceIdeal.main_arg2) = m ((c.tc : Thread Cert.Band1DqKernelIdeal.nD Cert.Band1DqKernelIdeal.τ).loc Cert.Band1DqKernelIdeal.main_arg2)
      ∧ m' ((c.tc : Thread Cert.Band1DqReferenceIdeal.nD Cert.Band1DqReferenceIdeal.τ).loc Cert.Band1DqReferenceIdeal.main_arg3) = m ((c.tc : Thread Cert.Band1DqKernelIdeal.nD Cert.Band1DqKernelIdeal.τ).loc Cert.Band1DqKernelIdeal.main_arg3)
      ∧ m' ((c.tc : Thread Cert.Band1DqReferenceIdeal.nD Cert.Band1DqReferenceIdeal.τ).loc Cert.Band1DqReferenceIdeal.main_arg4) = m ((c.tc : Thread Cert.Band1DqKernelIdeal.nD Cert.Band1DqKernelIdeal.τ).loc Cert.Band1DqKernelIdeal.main_arg4)) →
    ∃ (v0 : (c : Dev Cert.Band1DqKernelIdeal.nD) → Buf (Elt Ideal) ((c.tc : Thread Cert.Band1DqKernelIdeal.nD Cert.Band1DqKernelIdeal.τ).loc Cert.Band1DqKernelIdeal.main_v85)),
      θ_run (Cert.Band1DqKernelIdeal.defs (F := Ideal)) (onTc (τ := Cert.Band1DqKernelIdeal.τ) (Cert.Band1DqKernelIdeal.main (F := Ideal))) ⟨m, fun _ => 0, g⟩ (fun r => ∀ c : Dev Cert.Band1DqKernelIdeal.nD,
          r.2.mem ((c.tc : Thread Cert.Band1DqKernelIdeal.nD Cert.Band1DqKernelIdeal.τ).loc Cert.Band1DqKernelIdeal.main_v85) = v0 c
          ∧ r.2.mem ((c.tc : Thread Cert.Band1DqKernelIdeal.nD Cert.Band1DqKernelIdeal.τ).loc Cert.Band1DqKernelIdeal.main_arg0) = m ((c.tc : Thread Cert.Band1DqKernelIdeal.nD Cert.Band1DqKernelIdeal.τ).loc Cert.Band1DqKernelIdeal.main_arg0)
          ∧ r.2.mem ((c.tc : Thread Cert.Band1DqKernelIdeal.nD Cert.Band1DqKernelIdeal.τ).loc Cert.Band1DqKernelIdeal.main_arg1) = m ((c.tc : Thread Cert.Band1DqKernelIdeal.nD Cert.Band1DqKernelIdeal.τ).loc Cert.Band1DqKernelIdeal.main_arg1)
          ∧ r.2.mem ((c.tc : Thread Cert.Band1DqKernelIdeal.nD Cert.Band1DqKernelIdeal.τ).loc Cert.Band1DqKernelIdeal.main_arg2) = m ((c.tc : Thread Cert.Band1DqKernelIdeal.nD Cert.Band1DqKernelIdeal.τ).loc Cert.Band1DqKernelIdeal.main_arg2)
          ∧ r.2.mem ((c.tc : Thread Cert.Band1DqKernelIdeal.nD Cert.Band1DqKernelIdeal.τ).loc Cert.Band1DqKernelIdeal.main_arg3) = m ((c.tc : Thread Cert.Band1DqKernelIdeal.nD Cert.Band1DqKernelIdeal.τ).loc Cert.Band1DqKernelIdeal.main_arg3)
          ∧ r.2.mem ((c.tc : Thread Cert.Band1DqKernelIdeal.nD Cert.Band1DqKernelIdeal.τ).loc Cert.Band1DqKernelIdeal.main_arg4) = m ((c.tc : Thread Cert.Band1DqKernelIdeal.nD Cert.Band1DqKernelIdeal.τ).loc Cert.Band1DqKernelIdeal.main_arg4))
      ∧ θ_run (Cert.Band1DqReferenceIdeal.defs (F := Ideal)) (onTc (τ := Cert.Band1DqReferenceIdeal.τ) (Cert.Band1DqReferenceIdeal.main (F := Ideal))) ⟨m', fun _ => 0, g'⟩ (fun r => ∀ c : Dev Cert.Band1DqReferenceIdeal.nD,
          r.2.mem ((c.tc : Thread Cert.Band1DqReferenceIdeal.nD Cert.Band1DqReferenceIdeal.τ).loc Cert.Band1DqReferenceIdeal.main_v136) = v0 c
          ∧ r.2.mem ((c.tc : Thread Cert.Band1DqReferenceIdeal.nD Cert.Band1DqReferenceIdeal.τ).loc Cert.Band1DqReferenceIdeal.main_arg0) = m' ((c.tc : Thread Cert.Band1DqReferenceIdeal.nD Cert.Band1DqReferenceIdeal.τ).loc Cert.Band1DqReferenceIdeal.main_arg0)
          ∧ r.2.mem ((c.tc : Thread Cert.Band1DqReferenceIdeal.nD Cert.Band1DqReferenceIdeal.τ).loc Cert.Band1DqReferenceIdeal.main_arg1) = m' ((c.tc : Thread Cert.Band1DqReferenceIdeal.nD Cert.Band1DqReferenceIdeal.τ).loc Cert.Band1DqReferenceIdeal.main_arg1)
          ∧ r.2.mem ((c.tc : Thread Cert.Band1DqReferenceIdeal.nD Cert.Band1DqReferenceIdeal.τ).loc Cert.Band1DqReferenceIdeal.main_arg2) = m' ((c.tc : Thread Cert.Band1DqReferenceIdeal.nD Cert.Band1DqReferenceIdeal.τ).loc Cert.Band1DqReferenceIdeal.main_arg2)
          ∧ r.2.mem ((c.tc : Thread Cert.Band1DqReferenceIdeal.nD Cert.Band1DqReferenceIdeal.τ).loc Cert.Band1DqReferenceIdeal.main_arg3) = m' ((c.tc : Thread Cert.Band1DqReferenceIdeal.nD Cert.Band1DqReferenceIdeal.τ).loc Cert.Band1DqReferenceIdeal.main_arg3)
          ∧ r.2.mem ((c.tc : Thread Cert.Band1DqReferenceIdeal.nD Cert.Band1DqReferenceIdeal.τ).loc Cert.Band1DqReferenceIdeal.main_arg4) = m' ((c.tc : Thread Cert.Band1DqReferenceIdeal.nD Cert.Band1DqReferenceIdeal.τ).loc Cert.Band1DqReferenceIdeal.main_arg4))

def preserves_Band1DkvKernel_Band1DkvKernelIdeal : Prop :=
  IdealRules.named_const.Statement Cert.Band1DkvKernelIdeal.κ "mask" .f32 0xF149F2CA#32 ⊥

def algebraic_Band1DkvKernelIdeal_Band1DkvReferenceIdeal_pre_band_finite [hBand1DkvKernelIdeal : Cert.Band1DkvKernelIdeal.Facts] [hBand1DkvReferenceIdeal : Cert.Band1DkvReferenceIdeal.Facts] [hPre_band_finite : Cert.Pre_band_finite.Facts] : Prop :=
  ∀ (m : (ℓ : Loc Cert.Band1DkvKernelIdeal.nD Cert.Band1DkvKernelIdeal.τ Cert.Band1DkvKernelIdeal.sig) → Buf (Elt Ideal) ℓ) (g : Dev Cert.Band1DkvKernelIdeal.nD → PrngReg)
    (m' : (ℓ : Loc Cert.Band1DkvReferenceIdeal.nD Cert.Band1DkvReferenceIdeal.τ Cert.Band1DkvReferenceIdeal.sig) → Buf (Elt Ideal) ℓ) (g' : Dev Cert.Band1DkvReferenceIdeal.nD → PrngReg), Pre_Band1DkvKernelIdeal_band_finite m →
    (∀ c : Dev Cert.Band1DkvKernelIdeal.nD,
      m' ((c.tc : Thread Cert.Band1DkvReferenceIdeal.nD Cert.Band1DkvReferenceIdeal.τ).loc Cert.Band1DkvReferenceIdeal.main_arg0) = m ((c.tc : Thread Cert.Band1DkvKernelIdeal.nD Cert.Band1DkvKernelIdeal.τ).loc Cert.Band1DkvKernelIdeal.main_arg0)
      ∧ m' ((c.tc : Thread Cert.Band1DkvReferenceIdeal.nD Cert.Band1DkvReferenceIdeal.τ).loc Cert.Band1DkvReferenceIdeal.main_arg1) = m ((c.tc : Thread Cert.Band1DkvKernelIdeal.nD Cert.Band1DkvKernelIdeal.τ).loc Cert.Band1DkvKernelIdeal.main_arg1)
      ∧ m' ((c.tc : Thread Cert.Band1DkvReferenceIdeal.nD Cert.Band1DkvReferenceIdeal.τ).loc Cert.Band1DkvReferenceIdeal.main_arg2) = m ((c.tc : Thread Cert.Band1DkvKernelIdeal.nD Cert.Band1DkvKernelIdeal.τ).loc Cert.Band1DkvKernelIdeal.main_arg2)
      ∧ m' ((c.tc : Thread Cert.Band1DkvReferenceIdeal.nD Cert.Band1DkvReferenceIdeal.τ).loc Cert.Band1DkvReferenceIdeal.main_arg3) = m ((c.tc : Thread Cert.Band1DkvKernelIdeal.nD Cert.Band1DkvKernelIdeal.τ).loc Cert.Band1DkvKernelIdeal.main_arg3)
      ∧ m' ((c.tc : Thread Cert.Band1DkvReferenceIdeal.nD Cert.Band1DkvReferenceIdeal.τ).loc Cert.Band1DkvReferenceIdeal.main_arg4) = m ((c.tc : Thread Cert.Band1DkvKernelIdeal.nD Cert.Band1DkvKernelIdeal.τ).loc Cert.Band1DkvKernelIdeal.main_arg4)) →
    ∃ (v0 : (c : Dev Cert.Band1DkvKernelIdeal.nD) → Buf (Elt Ideal) ((c.tc : Thread Cert.Band1DkvKernelIdeal.nD Cert.Band1DkvKernelIdeal.τ).loc Cert.Band1DkvKernelIdeal.main_v85_0)) (v1 : (c : Dev Cert.Band1DkvKernelIdeal.nD) → Buf (Elt Ideal) ((c.tc : Thread Cert.Band1DkvKernelIdeal.nD Cert.Band1DkvKernelIdeal.τ).loc Cert.Band1DkvKernelIdeal.main_v85_1)),
      θ_run (Cert.Band1DkvKernelIdeal.defs (F := Ideal)) (onTc (τ := Cert.Band1DkvKernelIdeal.τ) (Cert.Band1DkvKernelIdeal.main (F := Ideal))) ⟨m, fun _ => 0, g⟩ (fun r => ∀ c : Dev Cert.Band1DkvKernelIdeal.nD,
          r.2.mem ((c.tc : Thread Cert.Band1DkvKernelIdeal.nD Cert.Band1DkvKernelIdeal.τ).loc Cert.Band1DkvKernelIdeal.main_v85_0) = v0 c
          ∧ r.2.mem ((c.tc : Thread Cert.Band1DkvKernelIdeal.nD Cert.Band1DkvKernelIdeal.τ).loc Cert.Band1DkvKernelIdeal.main_v85_1) = v1 c
          ∧ r.2.mem ((c.tc : Thread Cert.Band1DkvKernelIdeal.nD Cert.Band1DkvKernelIdeal.τ).loc Cert.Band1DkvKernelIdeal.main_arg0) = m ((c.tc : Thread Cert.Band1DkvKernelIdeal.nD Cert.Band1DkvKernelIdeal.τ).loc Cert.Band1DkvKernelIdeal.main_arg0)
          ∧ r.2.mem ((c.tc : Thread Cert.Band1DkvKernelIdeal.nD Cert.Band1DkvKernelIdeal.τ).loc Cert.Band1DkvKernelIdeal.main_arg1) = m ((c.tc : Thread Cert.Band1DkvKernelIdeal.nD Cert.Band1DkvKernelIdeal.τ).loc Cert.Band1DkvKernelIdeal.main_arg1)
          ∧ r.2.mem ((c.tc : Thread Cert.Band1DkvKernelIdeal.nD Cert.Band1DkvKernelIdeal.τ).loc Cert.Band1DkvKernelIdeal.main_arg2) = m ((c.tc : Thread Cert.Band1DkvKernelIdeal.nD Cert.Band1DkvKernelIdeal.τ).loc Cert.Band1DkvKernelIdeal.main_arg2)
          ∧ r.2.mem ((c.tc : Thread Cert.Band1DkvKernelIdeal.nD Cert.Band1DkvKernelIdeal.τ).loc Cert.Band1DkvKernelIdeal.main_arg3) = m ((c.tc : Thread Cert.Band1DkvKernelIdeal.nD Cert.Band1DkvKernelIdeal.τ).loc Cert.Band1DkvKernelIdeal.main_arg3)
          ∧ r.2.mem ((c.tc : Thread Cert.Band1DkvKernelIdeal.nD Cert.Band1DkvKernelIdeal.τ).loc Cert.Band1DkvKernelIdeal.main_arg4) = m ((c.tc : Thread Cert.Band1DkvKernelIdeal.nD Cert.Band1DkvKernelIdeal.τ).loc Cert.Band1DkvKernelIdeal.main_arg4))
      ∧ θ_run (Cert.Band1DkvReferenceIdeal.defs (F := Ideal)) (onTc (τ := Cert.Band1DkvReferenceIdeal.τ) (Cert.Band1DkvReferenceIdeal.main (F := Ideal))) ⟨m', fun _ => 0, g'⟩ (fun r => ∀ c : Dev Cert.Band1DkvReferenceIdeal.nD,
          r.2.mem ((c.tc : Thread Cert.Band1DkvReferenceIdeal.nD Cert.Band1DkvReferenceIdeal.τ).loc Cert.Band1DkvReferenceIdeal.main_v136) = v0 c
          ∧ r.2.mem ((c.tc : Thread Cert.Band1DkvReferenceIdeal.nD Cert.Band1DkvReferenceIdeal.τ).loc Cert.Band1DkvReferenceIdeal.main_v138) = v1 c
          ∧ r.2.mem ((c.tc : Thread Cert.Band1DkvReferenceIdeal.nD Cert.Band1DkvReferenceIdeal.τ).loc Cert.Band1DkvReferenceIdeal.main_arg0) = m' ((c.tc : Thread Cert.Band1DkvReferenceIdeal.nD Cert.Band1DkvReferenceIdeal.τ).loc Cert.Band1DkvReferenceIdeal.main_arg0)
          ∧ r.2.mem ((c.tc : Thread Cert.Band1DkvReferenceIdeal.nD Cert.Band1DkvReferenceIdeal.τ).loc Cert.Band1DkvReferenceIdeal.main_arg1) = m' ((c.tc : Thread Cert.Band1DkvReferenceIdeal.nD Cert.Band1DkvReferenceIdeal.τ).loc Cert.Band1DkvReferenceIdeal.main_arg1)
          ∧ r.2.mem ((c.tc : Thread Cert.Band1DkvReferenceIdeal.nD Cert.Band1DkvReferenceIdeal.τ).loc Cert.Band1DkvReferenceIdeal.main_arg2) = m' ((c.tc : Thread Cert.Band1DkvReferenceIdeal.nD Cert.Band1DkvReferenceIdeal.τ).loc Cert.Band1DkvReferenceIdeal.main_arg2)
          ∧ r.2.mem ((c.tc : Thread Cert.Band1DkvReferenceIdeal.nD Cert.Band1DkvReferenceIdeal.τ).loc Cert.Band1DkvReferenceIdeal.main_arg3) = m' ((c.tc : Thread Cert.Band1DkvReferenceIdeal.nD Cert.Band1DkvReferenceIdeal.τ).loc Cert.Band1DkvReferenceIdeal.main_arg3)
          ∧ r.2.mem ((c.tc : Thread Cert.Band1DkvReferenceIdeal.nD Cert.Band1DkvReferenceIdeal.τ).loc Cert.Band1DkvReferenceIdeal.main_arg4) = m' ((c.tc : Thread Cert.Band1DkvReferenceIdeal.nD Cert.Band1DkvReferenceIdeal.τ).loc Cert.Band1DkvReferenceIdeal.main_arg4))

def preserves_Band2DqKernel_Band2DqKernelIdeal : Prop :=
  IdealRules.named_const.Statement Cert.Band2DqKernelIdeal.κ "mask" .f32 0xF149F2CA#32 ⊥

def algebraic_Band2DqKernelIdeal_Band2DqReferenceIdeal_pre_band_finite [hBand2DqKernelIdeal : Cert.Band2DqKernelIdeal.Facts] [hBand2DqReferenceIdeal : Cert.Band2DqReferenceIdeal.Facts] [hPre_band_finite : Cert.Pre_band_finite.Facts] : Prop :=
  ∀ (m : (ℓ : Loc Cert.Band2DqKernelIdeal.nD Cert.Band2DqKernelIdeal.τ Cert.Band2DqKernelIdeal.sig) → Buf (Elt Ideal) ℓ) (g : Dev Cert.Band2DqKernelIdeal.nD → PrngReg)
    (m' : (ℓ : Loc Cert.Band2DqReferenceIdeal.nD Cert.Band2DqReferenceIdeal.τ Cert.Band2DqReferenceIdeal.sig) → Buf (Elt Ideal) ℓ) (g' : Dev Cert.Band2DqReferenceIdeal.nD → PrngReg), Pre_Band2DqKernelIdeal_band_finite m →
    (∀ c : Dev Cert.Band2DqKernelIdeal.nD,
      m' ((c.tc : Thread Cert.Band2DqReferenceIdeal.nD Cert.Band2DqReferenceIdeal.τ).loc Cert.Band2DqReferenceIdeal.main_arg0) = m ((c.tc : Thread Cert.Band2DqKernelIdeal.nD Cert.Band2DqKernelIdeal.τ).loc Cert.Band2DqKernelIdeal.main_arg0)
      ∧ m' ((c.tc : Thread Cert.Band2DqReferenceIdeal.nD Cert.Band2DqReferenceIdeal.τ).loc Cert.Band2DqReferenceIdeal.main_arg1) = m ((c.tc : Thread Cert.Band2DqKernelIdeal.nD Cert.Band2DqKernelIdeal.τ).loc Cert.Band2DqKernelIdeal.main_arg1)
      ∧ m' ((c.tc : Thread Cert.Band2DqReferenceIdeal.nD Cert.Band2DqReferenceIdeal.τ).loc Cert.Band2DqReferenceIdeal.main_arg2) = m ((c.tc : Thread Cert.Band2DqKernelIdeal.nD Cert.Band2DqKernelIdeal.τ).loc Cert.Band2DqKernelIdeal.main_arg2)
      ∧ m' ((c.tc : Thread Cert.Band2DqReferenceIdeal.nD Cert.Band2DqReferenceIdeal.τ).loc Cert.Band2DqReferenceIdeal.main_arg3) = m ((c.tc : Thread Cert.Band2DqKernelIdeal.nD Cert.Band2DqKernelIdeal.τ).loc Cert.Band2DqKernelIdeal.main_arg3)
      ∧ m' ((c.tc : Thread Cert.Band2DqReferenceIdeal.nD Cert.Band2DqReferenceIdeal.τ).loc Cert.Band2DqReferenceIdeal.main_arg4) = m ((c.tc : Thread Cert.Band2DqKernelIdeal.nD Cert.Band2DqKernelIdeal.τ).loc Cert.Band2DqKernelIdeal.main_arg4)) →
    ∃ (v0 : (c : Dev Cert.Band2DqKernelIdeal.nD) → Buf (Elt Ideal) ((c.tc : Thread Cert.Band2DqKernelIdeal.nD Cert.Band2DqKernelIdeal.τ).loc Cert.Band2DqKernelIdeal.main_v85)),
      θ_run (Cert.Band2DqKernelIdeal.defs (F := Ideal)) (onTc (τ := Cert.Band2DqKernelIdeal.τ) (Cert.Band2DqKernelIdeal.main (F := Ideal))) ⟨m, fun _ => 0, g⟩ (fun r => ∀ c : Dev Cert.Band2DqKernelIdeal.nD,
          r.2.mem ((c.tc : Thread Cert.Band2DqKernelIdeal.nD Cert.Band2DqKernelIdeal.τ).loc Cert.Band2DqKernelIdeal.main_v85) = v0 c
          ∧ r.2.mem ((c.tc : Thread Cert.Band2DqKernelIdeal.nD Cert.Band2DqKernelIdeal.τ).loc Cert.Band2DqKernelIdeal.main_arg0) = m ((c.tc : Thread Cert.Band2DqKernelIdeal.nD Cert.Band2DqKernelIdeal.τ).loc Cert.Band2DqKernelIdeal.main_arg0)
          ∧ r.2.mem ((c.tc : Thread Cert.Band2DqKernelIdeal.nD Cert.Band2DqKernelIdeal.τ).loc Cert.Band2DqKernelIdeal.main_arg1) = m ((c.tc : Thread Cert.Band2DqKernelIdeal.nD Cert.Band2DqKernelIdeal.τ).loc Cert.Band2DqKernelIdeal.main_arg1)
          ∧ r.2.mem ((c.tc : Thread Cert.Band2DqKernelIdeal.nD Cert.Band2DqKernelIdeal.τ).loc Cert.Band2DqKernelIdeal.main_arg2) = m ((c.tc : Thread Cert.Band2DqKernelIdeal.nD Cert.Band2DqKernelIdeal.τ).loc Cert.Band2DqKernelIdeal.main_arg2)
          ∧ r.2.mem ((c.tc : Thread Cert.Band2DqKernelIdeal.nD Cert.Band2DqKernelIdeal.τ).loc Cert.Band2DqKernelIdeal.main_arg3) = m ((c.tc : Thread Cert.Band2DqKernelIdeal.nD Cert.Band2DqKernelIdeal.τ).loc Cert.Band2DqKernelIdeal.main_arg3)
          ∧ r.2.mem ((c.tc : Thread Cert.Band2DqKernelIdeal.nD Cert.Band2DqKernelIdeal.τ).loc Cert.Band2DqKernelIdeal.main_arg4) = m ((c.tc : Thread Cert.Band2DqKernelIdeal.nD Cert.Band2DqKernelIdeal.τ).loc Cert.Band2DqKernelIdeal.main_arg4))
      ∧ θ_run (Cert.Band2DqReferenceIdeal.defs (F := Ideal)) (onTc (τ := Cert.Band2DqReferenceIdeal.τ) (Cert.Band2DqReferenceIdeal.main (F := Ideal))) ⟨m', fun _ => 0, g'⟩ (fun r => ∀ c : Dev Cert.Band2DqReferenceIdeal.nD,
          r.2.mem ((c.tc : Thread Cert.Band2DqReferenceIdeal.nD Cert.Band2DqReferenceIdeal.τ).loc Cert.Band2DqReferenceIdeal.main_v136) = v0 c
          ∧ r.2.mem ((c.tc : Thread Cert.Band2DqReferenceIdeal.nD Cert.Band2DqReferenceIdeal.τ).loc Cert.Band2DqReferenceIdeal.main_arg0) = m' ((c.tc : Thread Cert.Band2DqReferenceIdeal.nD Cert.Band2DqReferenceIdeal.τ).loc Cert.Band2DqReferenceIdeal.main_arg0)
          ∧ r.2.mem ((c.tc : Thread Cert.Band2DqReferenceIdeal.nD Cert.Band2DqReferenceIdeal.τ).loc Cert.Band2DqReferenceIdeal.main_arg1) = m' ((c.tc : Thread Cert.Band2DqReferenceIdeal.nD Cert.Band2DqReferenceIdeal.τ).loc Cert.Band2DqReferenceIdeal.main_arg1)
          ∧ r.2.mem ((c.tc : Thread Cert.Band2DqReferenceIdeal.nD Cert.Band2DqReferenceIdeal.τ).loc Cert.Band2DqReferenceIdeal.main_arg2) = m' ((c.tc : Thread Cert.Band2DqReferenceIdeal.nD Cert.Band2DqReferenceIdeal.τ).loc Cert.Band2DqReferenceIdeal.main_arg2)
          ∧ r.2.mem ((c.tc : Thread Cert.Band2DqReferenceIdeal.nD Cert.Band2DqReferenceIdeal.τ).loc Cert.Band2DqReferenceIdeal.main_arg3) = m' ((c.tc : Thread Cert.Band2DqReferenceIdeal.nD Cert.Band2DqReferenceIdeal.τ).loc Cert.Band2DqReferenceIdeal.main_arg3)
          ∧ r.2.mem ((c.tc : Thread Cert.Band2DqReferenceIdeal.nD Cert.Band2DqReferenceIdeal.τ).loc Cert.Band2DqReferenceIdeal.main_arg4) = m' ((c.tc : Thread Cert.Band2DqReferenceIdeal.nD Cert.Band2DqReferenceIdeal.τ).loc Cert.Band2DqReferenceIdeal.main_arg4))

def preserves_Band2DkvKernel_Band2DkvKernelIdeal : Prop :=
  IdealRules.named_const.Statement Cert.Band2DkvKernelIdeal.κ "mask" .f32 0xF149F2CA#32 ⊥

def algebraic_Band2DkvKernelIdeal_Band2DkvReferenceIdeal_pre_band_finite [hBand2DkvKernelIdeal : Cert.Band2DkvKernelIdeal.Facts] [hBand2DkvReferenceIdeal : Cert.Band2DkvReferenceIdeal.Facts] [hPre_band_finite : Cert.Pre_band_finite.Facts] : Prop :=
  ∀ (m : (ℓ : Loc Cert.Band2DkvKernelIdeal.nD Cert.Band2DkvKernelIdeal.τ Cert.Band2DkvKernelIdeal.sig) → Buf (Elt Ideal) ℓ) (g : Dev Cert.Band2DkvKernelIdeal.nD → PrngReg)
    (m' : (ℓ : Loc Cert.Band2DkvReferenceIdeal.nD Cert.Band2DkvReferenceIdeal.τ Cert.Band2DkvReferenceIdeal.sig) → Buf (Elt Ideal) ℓ) (g' : Dev Cert.Band2DkvReferenceIdeal.nD → PrngReg), Pre_Band2DkvKernelIdeal_band_finite m →
    (∀ c : Dev Cert.Band2DkvKernelIdeal.nD,
      m' ((c.tc : Thread Cert.Band2DkvReferenceIdeal.nD Cert.Band2DkvReferenceIdeal.τ).loc Cert.Band2DkvReferenceIdeal.main_arg0) = m ((c.tc : Thread Cert.Band2DkvKernelIdeal.nD Cert.Band2DkvKernelIdeal.τ).loc Cert.Band2DkvKernelIdeal.main_arg0)
      ∧ m' ((c.tc : Thread Cert.Band2DkvReferenceIdeal.nD Cert.Band2DkvReferenceIdeal.τ).loc Cert.Band2DkvReferenceIdeal.main_arg1) = m ((c.tc : Thread Cert.Band2DkvKernelIdeal.nD Cert.Band2DkvKernelIdeal.τ).loc Cert.Band2DkvKernelIdeal.main_arg1)
      ∧ m' ((c.tc : Thread Cert.Band2DkvReferenceIdeal.nD Cert.Band2DkvReferenceIdeal.τ).loc Cert.Band2DkvReferenceIdeal.main_arg2) = m ((c.tc : Thread Cert.Band2DkvKernelIdeal.nD Cert.Band2DkvKernelIdeal.τ).loc Cert.Band2DkvKernelIdeal.main_arg2)
      ∧ m' ((c.tc : Thread Cert.Band2DkvReferenceIdeal.nD Cert.Band2DkvReferenceIdeal.τ).loc Cert.Band2DkvReferenceIdeal.main_arg3) = m ((c.tc : Thread Cert.Band2DkvKernelIdeal.nD Cert.Band2DkvKernelIdeal.τ).loc Cert.Band2DkvKernelIdeal.main_arg3)
      ∧ m' ((c.tc : Thread Cert.Band2DkvReferenceIdeal.nD Cert.Band2DkvReferenceIdeal.τ).loc Cert.Band2DkvReferenceIdeal.main_arg4) = m ((c.tc : Thread Cert.Band2DkvKernelIdeal.nD Cert.Band2DkvKernelIdeal.τ).loc Cert.Band2DkvKernelIdeal.main_arg4)) →
    ∃ (v0 : (c : Dev Cert.Band2DkvKernelIdeal.nD) → Buf (Elt Ideal) ((c.tc : Thread Cert.Band2DkvKernelIdeal.nD Cert.Band2DkvKernelIdeal.τ).loc Cert.Band2DkvKernelIdeal.main_v85_0)) (v1 : (c : Dev Cert.Band2DkvKernelIdeal.nD) → Buf (Elt Ideal) ((c.tc : Thread Cert.Band2DkvKernelIdeal.nD Cert.Band2DkvKernelIdeal.τ).loc Cert.Band2DkvKernelIdeal.main_v85_1)),
      θ_run (Cert.Band2DkvKernelIdeal.defs (F := Ideal)) (onTc (τ := Cert.Band2DkvKernelIdeal.τ) (Cert.Band2DkvKernelIdeal.main (F := Ideal))) ⟨m, fun _ => 0, g⟩ (fun r => ∀ c : Dev Cert.Band2DkvKernelIdeal.nD,
          r.2.mem ((c.tc : Thread Cert.Band2DkvKernelIdeal.nD Cert.Band2DkvKernelIdeal.τ).loc Cert.Band2DkvKernelIdeal.main_v85_0) = v0 c
          ∧ r.2.mem ((c.tc : Thread Cert.Band2DkvKernelIdeal.nD Cert.Band2DkvKernelIdeal.τ).loc Cert.Band2DkvKernelIdeal.main_v85_1) = v1 c
          ∧ r.2.mem ((c.tc : Thread Cert.Band2DkvKernelIdeal.nD Cert.Band2DkvKernelIdeal.τ).loc Cert.Band2DkvKernelIdeal.main_arg0) = m ((c.tc : Thread Cert.Band2DkvKernelIdeal.nD Cert.Band2DkvKernelIdeal.τ).loc Cert.Band2DkvKernelIdeal.main_arg0)
          ∧ r.2.mem ((c.tc : Thread Cert.Band2DkvKernelIdeal.nD Cert.Band2DkvKernelIdeal.τ).loc Cert.Band2DkvKernelIdeal.main_arg1) = m ((c.tc : Thread Cert.Band2DkvKernelIdeal.nD Cert.Band2DkvKernelIdeal.τ).loc Cert.Band2DkvKernelIdeal.main_arg1)
          ∧ r.2.mem ((c.tc : Thread Cert.Band2DkvKernelIdeal.nD Cert.Band2DkvKernelIdeal.τ).loc Cert.Band2DkvKernelIdeal.main_arg2) = m ((c.tc : Thread Cert.Band2DkvKernelIdeal.nD Cert.Band2DkvKernelIdeal.τ).loc Cert.Band2DkvKernelIdeal.main_arg2)
          ∧ r.2.mem ((c.tc : Thread Cert.Band2DkvKernelIdeal.nD Cert.Band2DkvKernelIdeal.τ).loc Cert.Band2DkvKernelIdeal.main_arg3) = m ((c.tc : Thread Cert.Band2DkvKernelIdeal.nD Cert.Band2DkvKernelIdeal.τ).loc Cert.Band2DkvKernelIdeal.main_arg3)
          ∧ r.2.mem ((c.tc : Thread Cert.Band2DkvKernelIdeal.nD Cert.Band2DkvKernelIdeal.τ).loc Cert.Band2DkvKernelIdeal.main_arg4) = m ((c.tc : Thread Cert.Band2DkvKernelIdeal.nD Cert.Band2DkvKernelIdeal.τ).loc Cert.Band2DkvKernelIdeal.main_arg4))
      ∧ θ_run (Cert.Band2DkvReferenceIdeal.defs (F := Ideal)) (onTc (τ := Cert.Band2DkvReferenceIdeal.τ) (Cert.Band2DkvReferenceIdeal.main (F := Ideal))) ⟨m', fun _ => 0, g'⟩ (fun r => ∀ c : Dev Cert.Band2DkvReferenceIdeal.nD,
          r.2.mem ((c.tc : Thread Cert.Band2DkvReferenceIdeal.nD Cert.Band2DkvReferenceIdeal.τ).loc Cert.Band2DkvReferenceIdeal.main_v136) = v0 c
          ∧ r.2.mem ((c.tc : Thread Cert.Band2DkvReferenceIdeal.nD Cert.Band2DkvReferenceIdeal.τ).loc Cert.Band2DkvReferenceIdeal.main_v138) = v1 c
          ∧ r.2.mem ((c.tc : Thread Cert.Band2DkvReferenceIdeal.nD Cert.Band2DkvReferenceIdeal.τ).loc Cert.Band2DkvReferenceIdeal.main_arg0) = m' ((c.tc : Thread Cert.Band2DkvReferenceIdeal.nD Cert.Band2DkvReferenceIdeal.τ).loc Cert.Band2DkvReferenceIdeal.main_arg0)
          ∧ r.2.mem ((c.tc : Thread Cert.Band2DkvReferenceIdeal.nD Cert.Band2DkvReferenceIdeal.τ).loc Cert.Band2DkvReferenceIdeal.main_arg1) = m' ((c.tc : Thread Cert.Band2DkvReferenceIdeal.nD Cert.Band2DkvReferenceIdeal.τ).loc Cert.Band2DkvReferenceIdeal.main_arg1)
          ∧ r.2.mem ((c.tc : Thread Cert.Band2DkvReferenceIdeal.nD Cert.Band2DkvReferenceIdeal.τ).loc Cert.Band2DkvReferenceIdeal.main_arg2) = m' ((c.tc : Thread Cert.Band2DkvReferenceIdeal.nD Cert.Band2DkvReferenceIdeal.τ).loc Cert.Band2DkvReferenceIdeal.main_arg2)
          ∧ r.2.mem ((c.tc : Thread Cert.Band2DkvReferenceIdeal.nD Cert.Band2DkvReferenceIdeal.τ).loc Cert.Band2DkvReferenceIdeal.main_arg3) = m' ((c.tc : Thread Cert.Band2DkvReferenceIdeal.nD Cert.Band2DkvReferenceIdeal.τ).loc Cert.Band2DkvReferenceIdeal.main_arg3)
          ∧ r.2.mem ((c.tc : Thread Cert.Band2DkvReferenceIdeal.nD Cert.Band2DkvReferenceIdeal.τ).loc Cert.Band2DkvReferenceIdeal.main_arg4) = m' ((c.tc : Thread Cert.Band2DkvReferenceIdeal.nD Cert.Band2DkvReferenceIdeal.τ).loc Cert.Band2DkvReferenceIdeal.main_arg4))

def preserves_MemKernel_MemKernelIdeal : Prop :=
  True

def algebraic_MemKernelIdeal_MemReferenceIdeal_pre_mem_finite [hMemKernelIdeal : Cert.MemKernelIdeal.Facts] [hMemReferenceIdeal : Cert.MemReferenceIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_mem_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v35_0)) (v1 : (c : Dev Cert.MemKernelIdeal.nD) → Buf (Elt Ideal) ((c.tc : Thread Cert.MemKernelIdeal.nD Cert.MemKernelIdeal.τ).loc Cert.MemKernelIdeal.main_v35_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v35_0) = v0 c
          ∧ r.2.mem ((c.tc : Thread Cert.MemKernelIdeal.nD Cert.MemKernelIdeal.τ).loc Cert.MemKernelIdeal.main_v35_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v63) = v0 c
          ∧ r.2.mem ((c.tc : Thread Cert.MemReferenceIdeal.nD Cert.MemReferenceIdeal.τ).loc Cert.MemReferenceIdeal.main_v62) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v19_0)) (v1 : (c : Dev Cert.FfnKernelIdeal.nD) → Buf (Elt Ideal) ((c.tc : Thread Cert.FfnKernelIdeal.nD Cert.FfnKernelIdeal.τ).loc Cert.FfnKernelIdeal.main_v19_1)) (v2 : (c : Dev Cert.FfnKernelIdeal.nD) → Buf (Elt Ideal) ((c.tc : Thread Cert.FfnKernelIdeal.nD Cert.FfnKernelIdeal.τ).loc Cert.FfnKernelIdeal.main_v19_2)) (v3 : (c : Dev Cert.FfnKernelIdeal.nD) → Buf (Elt Ideal) ((c.tc : Thread Cert.FfnKernelIdeal.nD Cert.FfnKernelIdeal.τ).loc Cert.FfnKernelIdeal.main_v19_3)) (v4 : (c : Dev Cert.FfnKernelIdeal.nD) → Buf (Elt Ideal) ((c.tc : Thread Cert.FfnKernelIdeal.nD Cert.FfnKernelIdeal.τ).loc Cert.FfnKernelIdeal.main_v19_4)) (v5 : (c : Dev Cert.FfnKernelIdeal.nD) → Buf (Elt Ideal) ((c.tc : Thread Cert.FfnKernelIdeal.nD Cert.FfnKernelIdeal.τ).loc Cert.FfnKernelIdeal.main_v19_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v19_0) = v0 c
          ∧ r.2.mem ((c.tc : Thread Cert.FfnKernelIdeal.nD Cert.FfnKernelIdeal.τ).loc Cert.FfnKernelIdeal.main_v19_1) = v1 c
          ∧ r.2.mem ((c.tc : Thread Cert.FfnKernelIdeal.nD Cert.FfnKernelIdeal.τ).loc Cert.FfnKernelIdeal.main_v19_2) = v2 c
          ∧ r.2.mem ((c.tc : Thread Cert.FfnKernelIdeal.nD Cert.FfnKernelIdeal.τ).loc Cert.FfnKernelIdeal.main_v19_3) = v3 c
          ∧ r.2.mem ((c.tc : Thread Cert.FfnKernelIdeal.nD Cert.FfnKernelIdeal.τ).loc Cert.FfnKernelIdeal.main_v19_4) = v4 c
          ∧ r.2.mem ((c.tc : Thread Cert.FfnKernelIdeal.nD Cert.FfnKernelIdeal.τ).loc Cert.FfnKernelIdeal.main_v19_5) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v91) = v0 c
          ∧ r.2.mem ((c.tc : Thread Cert.FfnReferenceIdeal.nD Cert.FfnReferenceIdeal.τ).loc Cert.FfnReferenceIdeal.main_v92) = v1 c
          ∧ r.2.mem ((c.tc : Thread Cert.FfnReferenceIdeal.nD Cert.FfnReferenceIdeal.τ).loc Cert.FfnReferenceIdeal.main_v90) = v2 c
          ∧ r.2.mem ((c.tc : Thread Cert.FfnReferenceIdeal.nD Cert.FfnReferenceIdeal.τ).loc Cert.FfnReferenceIdeal.main_v93) = v3 c
          ∧ r.2.mem ((c.tc : Thread Cert.FfnReferenceIdeal.nD Cert.FfnReferenceIdeal.τ).loc Cert.FfnReferenceIdeal.main_v94) = v4 c
          ∧ r.2.mem ((c.tc : Thread Cert.FfnReferenceIdeal.nD Cert.FfnReferenceIdeal.τ).loc Cert.FfnReferenceIdeal.main_v95) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_LnKernel_LnKernelIdeal : Prop :=
  True

def algebraic_LnKernelIdeal_LnReferenceIdeal_pre_ln_finite [hLnKernelIdeal : Cert.LnKernelIdeal.Facts] [hLnReferenceIdeal : Cert.LnReferenceIdeal.Facts] [hPre_ln_finite : Cert.Pre_ln_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_ln_finite m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)) →
    ∃ (v0 : (c : Dev Cert.LnKernelIdeal.nD) → Buf (Elt Ideal) ((c.tc : Thread Cert.LnKernelIdeal.nD Cert.LnKernelIdeal.τ).loc Cert.LnKernelIdeal.main_v1_0)) (v1 : (c : Dev Cert.LnKernelIdeal.nD) → Buf (Elt Ideal) ((c.tc : Thread Cert.LnKernelIdeal.nD Cert.LnKernelIdeal.τ).loc Cert.LnKernelIdeal.main_v1_1)) (v2 : (c : Dev Cert.LnKernelIdeal.nD) → Buf (Elt Ideal) ((c.tc : Thread Cert.LnKernelIdeal.nD Cert.LnKernelIdeal.τ).loc Cert.LnKernelIdeal.main_v1_2)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v1_0) = v0 c
          ∧ r.2.mem ((c.tc : Thread Cert.LnKernelIdeal.nD Cert.LnKernelIdeal.τ).loc Cert.LnKernelIdeal.main_v1_1) = v1 c
          ∧ r.2.mem ((c.tc : Thread Cert.LnKernelIdeal.nD Cert.LnKernelIdeal.τ).loc Cert.LnKernelIdeal.main_v1_2) = v2 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v62) = v0 c
          ∧ r.2.mem ((c.tc : Thread Cert.LnReferenceIdeal.nD Cert.LnReferenceIdeal.τ).loc Cert.LnReferenceIdeal.main_v63) = v1 c
          ∧ r.2.mem ((c.tc : Thread Cert.LnReferenceIdeal.nD Cert.LnReferenceIdeal.τ).loc Cert.LnReferenceIdeal.main_v64) = v2 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)
      ∧ m' ((c.tc : Thread Cert.RopeReferenceIdeal.nD Cert.RopeReferenceIdeal.τ).loc Cert.RopeReferenceIdeal.main_arg2) = m ((c.tc : Thread Cert.RopeKernelIdeal.nD Cert.RopeKernelIdeal.τ).loc Cert.RopeKernelIdeal.main_arg2)
      ∧ m' ((c.tc : Thread Cert.RopeReferenceIdeal.nD Cert.RopeReferenceIdeal.τ).loc Cert.RopeReferenceIdeal.main_arg3) = m ((c.tc : Thread Cert.RopeKernelIdeal.nD Cert.RopeKernelIdeal.τ).loc Cert.RopeKernelIdeal.main_arg3)
      ∧ m' ((c.tc : Thread Cert.RopeReferenceIdeal.nD Cert.RopeReferenceIdeal.τ).loc Cert.RopeReferenceIdeal.main_arg4) = m ((c.tc : Thread Cert.RopeKernelIdeal.nD Cert.RopeKernelIdeal.τ).loc Cert.RopeKernelIdeal.main_arg4)
      ∧ m' ((c.tc : Thread Cert.RopeReferenceIdeal.nD Cert.RopeReferenceIdeal.τ).loc Cert.RopeReferenceIdeal.main_arg5) = m ((c.tc : Thread Cert.RopeKernelIdeal.nD Cert.RopeKernelIdeal.τ).loc Cert.RopeKernelIdeal.main_arg5)
      ∧ m' ((c.tc : Thread Cert.RopeReferenceIdeal.nD Cert.RopeReferenceIdeal.τ).loc Cert.RopeReferenceIdeal.main_arg6) = m ((c.tc : Thread Cert.RopeKernelIdeal.nD Cert.RopeKernelIdeal.τ).loc Cert.RopeKernelIdeal.main_arg6)
      ∧ m' ((c.tc : Thread Cert.RopeReferenceIdeal.nD Cert.RopeReferenceIdeal.τ).loc Cert.RopeReferenceIdeal.main_arg7) = m ((c.tc : Thread Cert.RopeKernelIdeal.nD Cert.RopeKernelIdeal.τ).loc Cert.RopeKernelIdeal.main_arg7)
      ∧ m' ((c.tc : Thread Cert.RopeReferenceIdeal.nD Cert.RopeReferenceIdeal.τ).loc Cert.RopeReferenceIdeal.main_arg8) = m ((c.tc : Thread Cert.RopeKernelIdeal.nD Cert.RopeKernelIdeal.τ).loc Cert.RopeKernelIdeal.main_arg8)
      ∧ m' ((c.tc : Thread Cert.RopeReferenceIdeal.nD Cert.RopeReferenceIdeal.τ).loc Cert.RopeReferenceIdeal.main_arg9) = m ((c.tc : Thread Cert.RopeKernelIdeal.nD Cert.RopeKernelIdeal.τ).loc Cert.RopeKernelIdeal.main_arg9)) →
    ∃ (v0 : (c : Dev Cert.RopeKernelIdeal.nD) → Buf (Elt Ideal) ((c.tc : Thread Cert.RopeKernelIdeal.nD Cert.RopeKernelIdeal.τ).loc Cert.RopeKernelIdeal.main_v31)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v31) = v0 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
          ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
          ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
          ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
          ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
          ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6)
          ∧ r.2.mem ((c.tc : Thread Cert.RopeKernelIdeal.nD Cert.RopeKernelIdeal.τ).loc Cert.RopeKernelIdeal.main_arg7) = m ((c.tc : Thread Cert.RopeKernelIdeal.nD Cert.RopeKernelIdeal.τ).loc Cert.RopeKernelIdeal.main_arg7)
          ∧ r.2.mem ((c.tc : Thread Cert.RopeKernelIdeal.nD Cert.RopeKernelIdeal.τ).loc Cert.RopeKernelIdeal.main_arg8) = m ((c.tc : Thread Cert.RopeKernelIdeal.nD Cert.RopeKernelIdeal.τ).loc Cert.RopeKernelIdeal.main_arg8)
          ∧ r.2.mem ((c.tc : Thread Cert.RopeKernelIdeal.nD Cert.RopeKernelIdeal.τ).loc Cert.RopeKernelIdeal.main_arg9) = m ((c.tc : Thread Cert.RopeKernelIdeal.nD Cert.RopeKernelIdeal.τ).loc Cert.RopeKernelIdeal.main_arg9))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v153) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4)
          ∧ r.2.mem ((c.tc : Thread Cert.RopeReferenceIdeal.nD Cert.RopeReferenceIdeal.τ).loc Cert.RopeReferenceIdeal.main_arg5) = m' ((c.tc : Thread Cert.RopeReferenceIdeal.nD Cert.RopeReferenceIdeal.τ).loc Cert.RopeReferenceIdeal.main_arg5)
          ∧ r.2.mem ((c.tc : Thread Cert.RopeReferenceIdeal.nD Cert.RopeReferenceIdeal.τ).loc Cert.RopeReferenceIdeal.main_arg6) = m' ((c.tc : Thread Cert.RopeReferenceIdeal.nD Cert.RopeReferenceIdeal.τ).loc Cert.RopeReferenceIdeal.main_arg6)
          ∧ r.2.mem ((c.tc : Thread Cert.RopeReferenceIdeal.nD Cert.RopeReferenceIdeal.τ).loc Cert.RopeReferenceIdeal.main_arg7) = m' ((c.tc : Thread Cert.RopeReferenceIdeal.nD Cert.RopeReferenceIdeal.τ).loc Cert.RopeReferenceIdeal.main_arg7)
          ∧ r.2.mem ((c.tc : Thread Cert.RopeReferenceIdeal.nD Cert.RopeReferenceIdeal.τ).loc Cert.RopeReferenceIdeal.main_arg8) = m' ((c.tc : Thread Cert.RopeReferenceIdeal.nD Cert.RopeReferenceIdeal.τ).loc Cert.RopeReferenceIdeal.main_arg8)
          ∧ r.2.mem ((c.tc : Thread Cert.RopeReferenceIdeal.nD Cert.RopeReferenceIdeal.τ).loc Cert.RopeReferenceIdeal.main_arg9) = m' ((c.tc : Thread Cert.RopeReferenceIdeal.nD Cert.RopeReferenceIdeal.τ).loc Cert.RopeReferenceIdeal.main_arg9))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_MemFwdKernel_MemFwdKernelIdeal : Prop :=
  True

def algebraic_MemFwdKernelIdeal_MemFwdReferenceIdeal_pre_memfwd_finite [hMemFwdKernelIdeal : Cert.MemFwdKernelIdeal.Facts] [hMemFwdReferenceIdeal : Cert.MemFwdReferenceIdeal.Facts] [hPre_memfwd_finite : Cert.Pre_memfwd_finite.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdKernelIdeal_memfwd_finite m →
    (∀ c : Dev Cert.MemFwdKernelIdeal.nD,
      m' ((c.tc : Thread Cert.MemFwdReferenceIdeal.nD Cert.MemFwdReferenceIdeal.τ).loc Cert.MemFwdReferenceIdeal.main_arg0) = m ((c.tc : Thread Cert.MemFwdKernelIdeal.nD Cert.MemFwdKernelIdeal.τ).loc Cert.MemFwdKernelIdeal.main_arg0)
      ∧ m' ((c.tc : Thread Cert.MemFwdReferenceIdeal.nD Cert.MemFwdReferenceIdeal.τ).loc Cert.MemFwdReferenceIdeal.main_arg1) = m ((c.tc : Thread Cert.MemFwdKernelIdeal.nD Cert.MemFwdKernelIdeal.τ).loc Cert.MemFwdKernelIdeal.main_arg1)) →
    ∃ (v0 : (c : Dev Cert.MemFwdKernelIdeal.nD) → Buf (Elt Ideal) ((c.tc : Thread Cert.MemFwdKernelIdeal.nD Cert.MemFwdKernelIdeal.τ).loc Cert.MemFwdKernelIdeal.main_v4_0)) (v1 : (c : Dev Cert.MemFwdKernelIdeal.nD) → Buf (Elt Ideal) ((c.tc : Thread Cert.MemFwdKernelIdeal.nD Cert.MemFwdKernelIdeal.τ).loc Cert.MemFwdKernelIdeal.main_v4_1)),
      θ_run (Cert.MemFwdKernelIdeal.defs (F := Ideal)) (onTc (τ := Cert.MemFwdKernelIdeal.τ) (Cert.MemFwdKernelIdeal.main (F := Ideal))) ⟨m, fun _ => 0, g⟩ (fun r => ∀ c : Dev Cert.MemFwdKernelIdeal.nD,
          r.2.mem ((c.tc : Thread Cert.MemFwdKernelIdeal.nD Cert.MemFwdKernelIdeal.τ).loc Cert.MemFwdKernelIdeal.main_v4_0) = v0 c
          ∧ r.2.mem ((c.tc : Thread Cert.MemFwdKernelIdeal.nD Cert.MemFwdKernelIdeal.τ).loc Cert.MemFwdKernelIdeal.main_v4_1) = v1 c
          ∧ r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
          ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v37) = v0 c
          ∧ r.2.mem ((c.tc : Thread Cert.MemFwdReferenceIdeal.nD Cert.MemFwdReferenceIdeal.τ).loc Cert.MemFwdReferenceIdeal.main_v40) = v1 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1))

def preserves_CombineKernel_CombineKernelIdeal : Prop :=
  True

def algebraic_CombineKernelIdeal_CombineReferenceIdeal_pre_combine_finite [hCombineKernelIdeal : Cert.CombineKernelIdeal.Facts] [hCombineReferenceIdeal : Cert.CombineReferenceIdeal.Facts] [hPre_combine_finite : Cert.Pre_combine_finite.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineKernelIdeal_combine_finite m →
    (∀ c : Dev Cert.CombineKernelIdeal.nD,
      m' ((c.tc : Thread Cert.CombineReferenceIdeal.nD Cert.CombineReferenceIdeal.τ).loc Cert.CombineReferenceIdeal.main_arg0) = m ((c.tc : Thread Cert.CombineKernelIdeal.nD Cert.CombineKernelIdeal.τ).loc Cert.CombineKernelIdeal.main_arg0)
      ∧ m' ((c.tc : Thread Cert.CombineReferenceIdeal.nD Cert.CombineReferenceIdeal.τ).loc Cert.CombineReferenceIdeal.main_arg1) = m ((c.tc : Thread Cert.CombineKernelIdeal.nD Cert.CombineKernelIdeal.τ).loc Cert.CombineKernelIdeal.main_arg1)
      ∧ m' ((c.tc : Thread Cert.CombineReferenceIdeal.nD Cert.CombineReferenceIdeal.τ).loc Cert.CombineReferenceIdeal.main_arg2) = m ((c.tc : Thread Cert.CombineKernelIdeal.nD Cert.CombineKernelIdeal.τ).loc Cert.CombineKernelIdeal.main_arg2)
      ∧ m' ((c.tc : Thread Cert.CombineReferenceIdeal.nD Cert.CombineReferenceIdeal.τ).loc Cert.CombineReferenceIdeal.main_arg3) = m ((c.tc : Thread Cert.CombineKernelIdeal.nD Cert.CombineKernelIdeal.τ).loc Cert.CombineKernelIdeal.main_arg3)
      ∧ m' ((c.tc : Thread Cert.CombineReferenceIdeal.nD Cert.CombineReferenceIdeal.τ).loc Cert.CombineReferenceIdeal.main_arg4) = m ((c.tc : Thread Cert.CombineKernelIdeal.nD Cert.CombineKernelIdeal.τ).loc Cert.CombineKernelIdeal.main_arg4)
      ∧ m' ((c.tc : Thread Cert.CombineReferenceIdeal.nD Cert.CombineReferenceIdeal.τ).loc Cert.CombineReferenceIdeal.main_arg5) = m ((c.tc : Thread Cert.CombineKernelIdeal.nD Cert.CombineKernelIdeal.τ).loc Cert.CombineKernelIdeal.main_arg5)) →
    ∃ (v0 : (c : Dev Cert.CombineKernelIdeal.nD) → Buf (Elt Ideal) ((c.tc : Thread Cert.CombineKernelIdeal.nD Cert.CombineKernelIdeal.τ).loc Cert.CombineKernelIdeal.main_v6_0)) (v1 : (c : Dev Cert.CombineKernelIdeal.nD) → Buf (Elt Ideal) ((c.tc : Thread Cert.CombineKernelIdeal.nD Cert.CombineKernelIdeal.τ).loc Cert.CombineKernelIdeal.main_v6_1)),
      θ_run (Cert.CombineKernelIdeal.defs (F := Ideal)) (onTc (τ := Cert.CombineKernelIdeal.τ) (Cert.CombineKernelIdeal.main (F := Ideal))) ⟨m, fun _ => 0, g⟩ (fun r => ∀ c : Dev Cert.CombineKernelIdeal.nD,
          r.2.mem ((c.tc : Thread Cert.CombineKernelIdeal.nD Cert.CombineKernelIdeal.τ).loc Cert.CombineKernelIdeal.main_v6_0) = v0 c
          ∧ r.2.mem ((c.tc : Thread Cert.CombineKernelIdeal.nD Cert.CombineKernelIdeal.τ).loc Cert.CombineKernelIdeal.main_v6_1) = v1 c
          ∧ r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
          ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
          ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
          ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
          ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
          ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v34) = v0 c
          ∧ r.2.mem ((c.tc : Thread Cert.CombineReferenceIdeal.nD Cert.CombineReferenceIdeal.τ).loc Cert.CombineReferenceIdeal.main_v36) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_Band0FwdKernel_Band0FwdKernelIdeal : Prop :=
  IdealRules.named_const.Statement Cert.Band0FwdKernelIdeal.κ "mask" .f32 0xF149F2CA#32 ⊥

def algebraic_Band0FwdKernelIdeal_Band0FwdReferenceIdeal_pre_bandfwd_finite [hBand0FwdKernelIdeal : Cert.Band0FwdKernelIdeal.Facts] [hBand0FwdReferenceIdeal : Cert.Band0FwdReferenceIdeal.Facts] [hPre_bandfwd_finite : Cert.Pre_bandfwd_finite.Facts] : Prop :=
  ∀ (m : (ℓ : Loc Cert.Band0FwdKernelIdeal.nD Cert.Band0FwdKernelIdeal.τ Cert.Band0FwdKernelIdeal.sig) → Buf (Elt Ideal) ℓ) (g : Dev Cert.Band0FwdKernelIdeal.nD → PrngReg)
    (m' : (ℓ : Loc Cert.Band0FwdReferenceIdeal.nD Cert.Band0FwdReferenceIdeal.τ Cert.Band0FwdReferenceIdeal.sig) → Buf (Elt Ideal) ℓ) (g' : Dev Cert.Band0FwdReferenceIdeal.nD → PrngReg), Pre_Band0FwdKernelIdeal_bandfwd_finite m →
    (∀ c : Dev Cert.Band0FwdKernelIdeal.nD,
      m' ((c.tc : Thread Cert.Band0FwdReferenceIdeal.nD Cert.Band0FwdReferenceIdeal.τ).loc Cert.Band0FwdReferenceIdeal.main_arg0) = m ((c.tc : Thread Cert.Band0FwdKernelIdeal.nD Cert.Band0FwdKernelIdeal.τ).loc Cert.Band0FwdKernelIdeal.main_arg0)
      ∧ m' ((c.tc : Thread Cert.Band0FwdReferenceIdeal.nD Cert.Band0FwdReferenceIdeal.τ).loc Cert.Band0FwdReferenceIdeal.main_arg1) = m ((c.tc : Thread Cert.Band0FwdKernelIdeal.nD Cert.Band0FwdKernelIdeal.τ).loc Cert.Band0FwdKernelIdeal.main_arg1)
      ∧ m' ((c.tc : Thread Cert.Band0FwdReferenceIdeal.nD Cert.Band0FwdReferenceIdeal.τ).loc Cert.Band0FwdReferenceIdeal.main_arg2) = m ((c.tc : Thread Cert.Band0FwdKernelIdeal.nD Cert.Band0FwdKernelIdeal.τ).loc Cert.Band0FwdKernelIdeal.main_arg2)
      ∧ m' ((c.tc : Thread Cert.Band0FwdReferenceIdeal.nD Cert.Band0FwdReferenceIdeal.τ).loc Cert.Band0FwdReferenceIdeal.main_arg3) = m ((c.tc : Thread Cert.Band0FwdKernelIdeal.nD Cert.Band0FwdKernelIdeal.τ).loc Cert.Band0FwdKernelIdeal.main_arg3)) →
    ∃ (v0 : (c : Dev Cert.Band0FwdKernelIdeal.nD) → Buf (Elt Ideal) ((c.tc : Thread Cert.Band0FwdKernelIdeal.nD Cert.Band0FwdKernelIdeal.τ).loc Cert.Band0FwdKernelIdeal.main_v6_0)) (v1 : (c : Dev Cert.Band0FwdKernelIdeal.nD) → Buf (Elt Ideal) ((c.tc : Thread Cert.Band0FwdKernelIdeal.nD Cert.Band0FwdKernelIdeal.τ).loc Cert.Band0FwdKernelIdeal.main_v6_1)),
      θ_run (Cert.Band0FwdKernelIdeal.defs (F := Ideal)) (onTc (τ := Cert.Band0FwdKernelIdeal.τ) (Cert.Band0FwdKernelIdeal.main (F := Ideal))) ⟨m, fun _ => 0, g⟩ (fun r => ∀ c : Dev Cert.Band0FwdKernelIdeal.nD,
          r.2.mem ((c.tc : Thread Cert.Band0FwdKernelIdeal.nD Cert.Band0FwdKernelIdeal.τ).loc Cert.Band0FwdKernelIdeal.main_v6_0) = v0 c
          ∧ r.2.mem ((c.tc : Thread Cert.Band0FwdKernelIdeal.nD Cert.Band0FwdKernelIdeal.τ).loc Cert.Band0FwdKernelIdeal.main_v6_1) = v1 c
          ∧ r.2.mem ((c.tc : Thread Cert.Band0FwdKernelIdeal.nD Cert.Band0FwdKernelIdeal.τ).loc Cert.Band0FwdKernelIdeal.main_arg0) = m ((c.tc : Thread Cert.Band0FwdKernelIdeal.nD Cert.Band0FwdKernelIdeal.τ).loc Cert.Band0FwdKernelIdeal.main_arg0)
          ∧ r.2.mem ((c.tc : Thread Cert.Band0FwdKernelIdeal.nD Cert.Band0FwdKernelIdeal.τ).loc Cert.Band0FwdKernelIdeal.main_arg1) = m ((c.tc : Thread Cert.Band0FwdKernelIdeal.nD Cert.Band0FwdKernelIdeal.τ).loc Cert.Band0FwdKernelIdeal.main_arg1)
          ∧ r.2.mem ((c.tc : Thread Cert.Band0FwdKernelIdeal.nD Cert.Band0FwdKernelIdeal.τ).loc Cert.Band0FwdKernelIdeal.main_arg2) = m ((c.tc : Thread Cert.Band0FwdKernelIdeal.nD Cert.Band0FwdKernelIdeal.τ).loc Cert.Band0FwdKernelIdeal.main_arg2)
          ∧ r.2.mem ((c.tc : Thread Cert.Band0FwdKernelIdeal.nD Cert.Band0FwdKernelIdeal.τ).loc Cert.Band0FwdKernelIdeal.main_arg3) = m ((c.tc : Thread Cert.Band0FwdKernelIdeal.nD Cert.Band0FwdKernelIdeal.τ).loc Cert.Band0FwdKernelIdeal.main_arg3))
      ∧ θ_run (Cert.Band0FwdReferenceIdeal.defs (F := Ideal)) (onTc (τ := Cert.Band0FwdReferenceIdeal.τ) (Cert.Band0FwdReferenceIdeal.main (F := Ideal))) ⟨m', fun _ => 0, g'⟩ (fun r => ∀ c : Dev Cert.Band0FwdReferenceIdeal.nD,
          r.2.mem ((c.tc : Thread Cert.Band0FwdReferenceIdeal.nD Cert.Band0FwdReferenceIdeal.τ).loc Cert.Band0FwdReferenceIdeal.main_v53) = v0 c
          ∧ r.2.mem ((c.tc : Thread Cert.Band0FwdReferenceIdeal.nD Cert.Band0FwdReferenceIdeal.τ).loc Cert.Band0FwdReferenceIdeal.main_v54) = v1 c
          ∧ r.2.mem ((c.tc : Thread Cert.Band0FwdReferenceIdeal.nD Cert.Band0FwdReferenceIdeal.τ).loc Cert.Band0FwdReferenceIdeal.main_arg0) = m' ((c.tc : Thread Cert.Band0FwdReferenceIdeal.nD Cert.Band0FwdReferenceIdeal.τ).loc Cert.Band0FwdReferenceIdeal.main_arg0)
          ∧ r.2.mem ((c.tc : Thread Cert.Band0FwdReferenceIdeal.nD Cert.Band0FwdReferenceIdeal.τ).loc Cert.Band0FwdReferenceIdeal.main_arg1) = m' ((c.tc : Thread Cert.Band0FwdReferenceIdeal.nD Cert.Band0FwdReferenceIdeal.τ).loc Cert.Band0FwdReferenceIdeal.main_arg1)
          ∧ r.2.mem ((c.tc : Thread Cert.Band0FwdReferenceIdeal.nD Cert.Band0FwdReferenceIdeal.τ).loc Cert.Band0FwdReferenceIdeal.main_arg2) = m' ((c.tc : Thread Cert.Band0FwdReferenceIdeal.nD Cert.Band0FwdReferenceIdeal.τ).loc Cert.Band0FwdReferenceIdeal.main_arg2)
          ∧ r.2.mem ((c.tc : Thread Cert.Band0FwdReferenceIdeal.nD Cert.Band0FwdReferenceIdeal.τ).loc Cert.Band0FwdReferenceIdeal.main_arg3) = m' ((c.tc : Thread Cert.Band0FwdReferenceIdeal.nD Cert.Band0FwdReferenceIdeal.τ).loc Cert.Band0FwdReferenceIdeal.main_arg3))

def preserves_Band1FwdKernel_Band1FwdKernelIdeal : Prop :=
  IdealRules.named_const.Statement Cert.Band1FwdKernelIdeal.κ "mask" .f32 0xF149F2CA#32 ⊥

def algebraic_Band1FwdKernelIdeal_Band1FwdReferenceIdeal_pre_bandfwd_finite [hBand1FwdKernelIdeal : Cert.Band1FwdKernelIdeal.Facts] [hBand1FwdReferenceIdeal : Cert.Band1FwdReferenceIdeal.Facts] [hPre_bandfwd_finite : Cert.Pre_bandfwd_finite.Facts] : Prop :=
  ∀ (m : (ℓ : Loc Cert.Band1FwdKernelIdeal.nD Cert.Band1FwdKernelIdeal.τ Cert.Band1FwdKernelIdeal.sig) → Buf (Elt Ideal) ℓ) (g : Dev Cert.Band1FwdKernelIdeal.nD → PrngReg)
    (m' : (ℓ : Loc Cert.Band1FwdReferenceIdeal.nD Cert.Band1FwdReferenceIdeal.τ Cert.Band1FwdReferenceIdeal.sig) → Buf (Elt Ideal) ℓ) (g' : Dev Cert.Band1FwdReferenceIdeal.nD → PrngReg), Pre_Band1FwdKernelIdeal_bandfwd_finite m →
    (∀ c : Dev Cert.Band1FwdKernelIdeal.nD,
      m' ((c.tc : Thread Cert.Band1FwdReferenceIdeal.nD Cert.Band1FwdReferenceIdeal.τ).loc Cert.Band1FwdReferenceIdeal.main_arg0) = m ((c.tc : Thread Cert.Band1FwdKernelIdeal.nD Cert.Band1FwdKernelIdeal.τ).loc Cert.Band1FwdKernelIdeal.main_arg0)
      ∧ m' ((c.tc : Thread Cert.Band1FwdReferenceIdeal.nD Cert.Band1FwdReferenceIdeal.τ).loc Cert.Band1FwdReferenceIdeal.main_arg1) = m ((c.tc : Thread Cert.Band1FwdKernelIdeal.nD Cert.Band1FwdKernelIdeal.τ).loc Cert.Band1FwdKernelIdeal.main_arg1)
      ∧ m' ((c.tc : Thread Cert.Band1FwdReferenceIdeal.nD Cert.Band1FwdReferenceIdeal.τ).loc Cert.Band1FwdReferenceIdeal.main_arg2) = m ((c.tc : Thread Cert.Band1FwdKernelIdeal.nD Cert.Band1FwdKernelIdeal.τ).loc Cert.Band1FwdKernelIdeal.main_arg2)
      ∧ m' ((c.tc : Thread Cert.Band1FwdReferenceIdeal.nD Cert.Band1FwdReferenceIdeal.τ).loc Cert.Band1FwdReferenceIdeal.main_arg3) = m ((c.tc : Thread Cert.Band1FwdKernelIdeal.nD Cert.Band1FwdKernelIdeal.τ).loc Cert.Band1FwdKernelIdeal.main_arg3)) →
    ∃ (v0 : (c : Dev Cert.Band1FwdKernelIdeal.nD) → Buf (Elt Ideal) ((c.tc : Thread Cert.Band1FwdKernelIdeal.nD Cert.Band1FwdKernelIdeal.τ).loc Cert.Band1FwdKernelIdeal.main_v7_0)) (v1 : (c : Dev Cert.Band1FwdKernelIdeal.nD) → Buf (Elt Ideal) ((c.tc : Thread Cert.Band1FwdKernelIdeal.nD Cert.Band1FwdKernelIdeal.τ).loc Cert.Band1FwdKernelIdeal.main_v7_1)),
      θ_run (Cert.Band1FwdKernelIdeal.defs (F := Ideal)) (onTc (τ := Cert.Band1FwdKernelIdeal.τ) (Cert.Band1FwdKernelIdeal.main (F := Ideal))) ⟨m, fun _ => 0, g⟩ (fun r => ∀ c : Dev Cert.Band1FwdKernelIdeal.nD,
          r.2.mem ((c.tc : Thread Cert.Band1FwdKernelIdeal.nD Cert.Band1FwdKernelIdeal.τ).loc Cert.Band1FwdKernelIdeal.main_v7_0) = v0 c
          ∧ r.2.mem ((c.tc : Thread Cert.Band1FwdKernelIdeal.nD Cert.Band1FwdKernelIdeal.τ).loc Cert.Band1FwdKernelIdeal.main_v7_1) = v1 c
          ∧ r.2.mem ((c.tc : Thread Cert.Band1FwdKernelIdeal.nD Cert.Band1FwdKernelIdeal.τ).loc Cert.Band1FwdKernelIdeal.main_arg0) = m ((c.tc : Thread Cert.Band1FwdKernelIdeal.nD Cert.Band1FwdKernelIdeal.τ).loc Cert.Band1FwdKernelIdeal.main_arg0)
          ∧ r.2.mem ((c.tc : Thread Cert.Band1FwdKernelIdeal.nD Cert.Band1FwdKernelIdeal.τ).loc Cert.Band1FwdKernelIdeal.main_arg1) = m ((c.tc : Thread Cert.Band1FwdKernelIdeal.nD Cert.Band1FwdKernelIdeal.τ).loc Cert.Band1FwdKernelIdeal.main_arg1)
          ∧ r.2.mem ((c.tc : Thread Cert.Band1FwdKernelIdeal.nD Cert.Band1FwdKernelIdeal.τ).loc Cert.Band1FwdKernelIdeal.main_arg2) = m ((c.tc : Thread Cert.Band1FwdKernelIdeal.nD Cert.Band1FwdKernelIdeal.τ).loc Cert.Band1FwdKernelIdeal.main_arg2)
          ∧ r.2.mem ((c.tc : Thread Cert.Band1FwdKernelIdeal.nD Cert.Band1FwdKernelIdeal.τ).loc Cert.Band1FwdKernelIdeal.main_arg3) = m ((c.tc : Thread Cert.Band1FwdKernelIdeal.nD Cert.Band1FwdKernelIdeal.τ).loc Cert.Band1FwdKernelIdeal.main_arg3))
      ∧ θ_run (Cert.Band1FwdReferenceIdeal.defs (F := Ideal)) (onTc (τ := Cert.Band1FwdReferenceIdeal.τ) (Cert.Band1FwdReferenceIdeal.main (F := Ideal))) ⟨m', fun _ => 0, g'⟩ (fun r => ∀ c : Dev Cert.Band1FwdReferenceIdeal.nD,
          r.2.mem ((c.tc : Thread Cert.Band1FwdReferenceIdeal.nD Cert.Band1FwdReferenceIdeal.τ).loc Cert.Band1FwdReferenceIdeal.main_v54) = v0 c
          ∧ r.2.mem ((c.tc : Thread Cert.Band1FwdReferenceIdeal.nD Cert.Band1FwdReferenceIdeal.τ).loc Cert.Band1FwdReferenceIdeal.main_v56) = v1 c
          ∧ r.2.mem ((c.tc : Thread Cert.Band1FwdReferenceIdeal.nD Cert.Band1FwdReferenceIdeal.τ).loc Cert.Band1FwdReferenceIdeal.main_arg0) = m' ((c.tc : Thread Cert.Band1FwdReferenceIdeal.nD Cert.Band1FwdReferenceIdeal.τ).loc Cert.Band1FwdReferenceIdeal.main_arg0)
          ∧ r.2.mem ((c.tc : Thread Cert.Band1FwdReferenceIdeal.nD Cert.Band1FwdReferenceIdeal.τ).loc Cert.Band1FwdReferenceIdeal.main_arg1) = m' ((c.tc : Thread Cert.Band1FwdReferenceIdeal.nD Cert.Band1FwdReferenceIdeal.τ).loc Cert.Band1FwdReferenceIdeal.main_arg1)
          ∧ r.2.mem ((c.tc : Thread Cert.Band1FwdReferenceIdeal.nD Cert.Band1FwdReferenceIdeal.τ).loc Cert.Band1FwdReferenceIdeal.main_arg2) = m' ((c.tc : Thread Cert.Band1FwdReferenceIdeal.nD Cert.Band1FwdReferenceIdeal.τ).loc Cert.Band1FwdReferenceIdeal.main_arg2)
          ∧ r.2.mem ((c.tc : Thread Cert.Band1FwdReferenceIdeal.nD Cert.Band1FwdReferenceIdeal.τ).loc Cert.Band1FwdReferenceIdeal.main_arg3) = m' ((c.tc : Thread Cert.Band1FwdReferenceIdeal.nD Cert.Band1FwdReferenceIdeal.τ).loc Cert.Band1FwdReferenceIdeal.main_arg3))

def preserves_Band2FwdKernel_Band2FwdKernelIdeal : Prop :=
  IdealRules.named_const.Statement Cert.Band2FwdKernelIdeal.κ "mask" .f32 0xF149F2CA#32 ⊥

def algebraic_Band2FwdKernelIdeal_Band2FwdReferenceIdeal_pre_bandfwd_finite [hBand2FwdKernelIdeal : Cert.Band2FwdKernelIdeal.Facts] [hBand2FwdReferenceIdeal : Cert.Band2FwdReferenceIdeal.Facts] [hPre_bandfwd_finite : Cert.Pre_bandfwd_finite.Facts] : Prop :=
  ∀ (m : (ℓ : Loc Cert.Band2FwdKernelIdeal.nD Cert.Band2FwdKernelIdeal.τ Cert.Band2FwdKernelIdeal.sig) → Buf (Elt Ideal) ℓ) (g : Dev Cert.Band2FwdKernelIdeal.nD → PrngReg)
    (m' : (ℓ : Loc Cert.Band2FwdReferenceIdeal.nD Cert.Band2FwdReferenceIdeal.τ Cert.Band2FwdReferenceIdeal.sig) → Buf (Elt Ideal) ℓ) (g' : Dev Cert.Band2FwdReferenceIdeal.nD → PrngReg), Pre_Band2FwdKernelIdeal_bandfwd_finite m →
    (∀ c : Dev Cert.Band2FwdKernelIdeal.nD,
      m' ((c.tc : Thread Cert.Band2FwdReferenceIdeal.nD Cert.Band2FwdReferenceIdeal.τ).loc Cert.Band2FwdReferenceIdeal.main_arg0) = m ((c.tc : Thread Cert.Band2FwdKernelIdeal.nD Cert.Band2FwdKernelIdeal.τ).loc Cert.Band2FwdKernelIdeal.main_arg0)
      ∧ m' ((c.tc : Thread Cert.Band2FwdReferenceIdeal.nD Cert.Band2FwdReferenceIdeal.τ).loc Cert.Band2FwdReferenceIdeal.main_arg1) = m ((c.tc : Thread Cert.Band2FwdKernelIdeal.nD Cert.Band2FwdKernelIdeal.τ).loc Cert.Band2FwdKernelIdeal.main_arg1)
      ∧ m' ((c.tc : Thread Cert.Band2FwdReferenceIdeal.nD Cert.Band2FwdReferenceIdeal.τ).loc Cert.Band2FwdReferenceIdeal.main_arg2) = m ((c.tc : Thread Cert.Band2FwdKernelIdeal.nD Cert.Band2FwdKernelIdeal.τ).loc Cert.Band2FwdKernelIdeal.main_arg2)
      ∧ m' ((c.tc : Thread Cert.Band2FwdReferenceIdeal.nD Cert.Band2FwdReferenceIdeal.τ).loc Cert.Band2FwdReferenceIdeal.main_arg3) = m ((c.tc : Thread Cert.Band2FwdKernelIdeal.nD Cert.Band2FwdKernelIdeal.τ).loc Cert.Band2FwdKernelIdeal.main_arg3)) →
    ∃ (v0 : (c : Dev Cert.Band2FwdKernelIdeal.nD) → Buf (Elt Ideal) ((c.tc : Thread Cert.Band2FwdKernelIdeal.nD Cert.Band2FwdKernelIdeal.τ).loc Cert.Band2FwdKernelIdeal.main_v7_0)) (v1 : (c : Dev Cert.Band2FwdKernelIdeal.nD) → Buf (Elt Ideal) ((c.tc : Thread Cert.Band2FwdKernelIdeal.nD Cert.Band2FwdKernelIdeal.τ).loc Cert.Band2FwdKernelIdeal.main_v7_1)),
      θ_run (Cert.Band2FwdKernelIdeal.defs (F := Ideal)) (onTc (τ := Cert.Band2FwdKernelIdeal.τ) (Cert.Band2FwdKernelIdeal.main (F := Ideal))) ⟨m, fun _ => 0, g⟩ (fun r => ∀ c : Dev Cert.Band2FwdKernelIdeal.nD,
          r.2.mem ((c.tc : Thread Cert.Band2FwdKernelIdeal.nD Cert.Band2FwdKernelIdeal.τ).loc Cert.Band2FwdKernelIdeal.main_v7_0) = v0 c
          ∧ r.2.mem ((c.tc : Thread Cert.Band2FwdKernelIdeal.nD Cert.Band2FwdKernelIdeal.τ).loc Cert.Band2FwdKernelIdeal.main_v7_1) = v1 c
          ∧ r.2.mem ((c.tc : Thread Cert.Band2FwdKernelIdeal.nD Cert.Band2FwdKernelIdeal.τ).loc Cert.Band2FwdKernelIdeal.main_arg0) = m ((c.tc : Thread Cert.Band2FwdKernelIdeal.nD Cert.Band2FwdKernelIdeal.τ).loc Cert.Band2FwdKernelIdeal.main_arg0)
          ∧ r.2.mem ((c.tc : Thread Cert.Band2FwdKernelIdeal.nD Cert.Band2FwdKernelIdeal.τ).loc Cert.Band2FwdKernelIdeal.main_arg1) = m ((c.tc : Thread Cert.Band2FwdKernelIdeal.nD Cert.Band2FwdKernelIdeal.τ).loc Cert.Band2FwdKernelIdeal.main_arg1)
          ∧ r.2.mem ((c.tc : Thread Cert.Band2FwdKernelIdeal.nD Cert.Band2FwdKernelIdeal.τ).loc Cert.Band2FwdKernelIdeal.main_arg2) = m ((c.tc : Thread Cert.Band2FwdKernelIdeal.nD Cert.Band2FwdKernelIdeal.τ).loc Cert.Band2FwdKernelIdeal.main_arg2)
          ∧ r.2.mem ((c.tc : Thread Cert.Band2FwdKernelIdeal.nD Cert.Band2FwdKernelIdeal.τ).loc Cert.Band2FwdKernelIdeal.main_arg3) = m ((c.tc : Thread Cert.Band2FwdKernelIdeal.nD Cert.Band2FwdKernelIdeal.τ).loc Cert.Band2FwdKernelIdeal.main_arg3))
      ∧ θ_run (Cert.Band2FwdReferenceIdeal.defs (F := Ideal)) (onTc (τ := Cert.Band2FwdReferenceIdeal.τ) (Cert.Band2FwdReferenceIdeal.main (F := Ideal))) ⟨m', fun _ => 0, g'⟩ (fun r => ∀ c : Dev Cert.Band2FwdReferenceIdeal.nD,
          r.2.mem ((c.tc : Thread Cert.Band2FwdReferenceIdeal.nD Cert.Band2FwdReferenceIdeal.τ).loc Cert.Band2FwdReferenceIdeal.main_v54) = v0 c
          ∧ r.2.mem ((c.tc : Thread Cert.Band2FwdReferenceIdeal.nD Cert.Band2FwdReferenceIdeal.τ).loc Cert.Band2FwdReferenceIdeal.main_v56) = v1 c
          ∧ r.2.mem ((c.tc : Thread Cert.Band2FwdReferenceIdeal.nD Cert.Band2FwdReferenceIdeal.τ).loc Cert.Band2FwdReferenceIdeal.main_arg0) = m' ((c.tc : Thread Cert.Band2FwdReferenceIdeal.nD Cert.Band2FwdReferenceIdeal.τ).loc Cert.Band2FwdReferenceIdeal.main_arg0)
          ∧ r.2.mem ((c.tc : Thread Cert.Band2FwdReferenceIdeal.nD Cert.Band2FwdReferenceIdeal.τ).loc Cert.Band2FwdReferenceIdeal.main_arg1) = m' ((c.tc : Thread Cert.Band2FwdReferenceIdeal.nD Cert.Band2FwdReferenceIdeal.τ).loc Cert.Band2FwdReferenceIdeal.main_arg1)
          ∧ r.2.mem ((c.tc : Thread Cert.Band2FwdReferenceIdeal.nD Cert.Band2FwdReferenceIdeal.τ).loc Cert.Band2FwdReferenceIdeal.main_arg2) = m' ((c.tc : Thread Cert.Band2FwdReferenceIdeal.nD Cert.Band2FwdReferenceIdeal.τ).loc Cert.Band2FwdReferenceIdeal.main_arg2)
          ∧ r.2.mem ((c.tc : Thread Cert.Band2FwdReferenceIdeal.nD Cert.Band2FwdReferenceIdeal.τ).loc Cert.Band2FwdReferenceIdeal.main_arg3) = m' ((c.tc : Thread Cert.Band2FwdReferenceIdeal.nD Cert.Band2FwdReferenceIdeal.τ).loc Cert.Band2FwdReferenceIdeal.main_arg3))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v7_0)) (v1 : (c : Dev Cert.FfnFwdKernelIdeal.nD) → Buf (Elt Ideal) ((c.tc : Thread Cert.FfnFwdKernelIdeal.nD Cert.FfnFwdKernelIdeal.τ).loc Cert.FfnFwdKernelIdeal.main_v7_1)) (v2 : (c : Dev Cert.FfnFwdKernelIdeal.nD) → Buf (Elt Ideal) ((c.tc : Thread Cert.FfnFwdKernelIdeal.nD Cert.FfnFwdKernelIdeal.τ).loc Cert.FfnFwdKernelIdeal.main_v7_2)) (v3 : (c : Dev Cert.FfnFwdKernelIdeal.nD) → Buf (Elt Ideal) ((c.tc : Thread Cert.FfnFwdKernelIdeal.nD Cert.FfnFwdKernelIdeal.τ).loc Cert.FfnFwdKernelIdeal.main_v7_3)) (v4 : (c : Dev Cert.FfnFwdKernelIdeal.nD) → Buf (Elt Ideal) ((c.tc : Thread Cert.FfnFwdKernelIdeal.nD Cert.FfnFwdKernelIdeal.τ).loc Cert.FfnFwdKernelIdeal.main_v7_4)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v7_0) = v0 c
          ∧ r.2.mem ((c.tc : Thread Cert.FfnFwdKernelIdeal.nD Cert.FfnFwdKernelIdeal.τ).loc Cert.FfnFwdKernelIdeal.main_v7_1) = v1 c
          ∧ r.2.mem ((c.tc : Thread Cert.FfnFwdKernelIdeal.nD Cert.FfnFwdKernelIdeal.τ).loc Cert.FfnFwdKernelIdeal.main_v7_2) = v2 c
          ∧ r.2.mem ((c.tc : Thread Cert.FfnFwdKernelIdeal.nD Cert.FfnFwdKernelIdeal.τ).loc Cert.FfnFwdKernelIdeal.main_v7_3) = v3 c
          ∧ r.2.mem ((c.tc : Thread Cert.FfnFwdKernelIdeal.nD Cert.FfnFwdKernelIdeal.τ).loc Cert.FfnFwdKernelIdeal.main_v7_4) = v4 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v35) = v0 c
          ∧ r.2.mem ((c.tc : Thread Cert.FfnFwdReferenceIdeal.nD Cert.FfnFwdReferenceIdeal.τ).loc Cert.FfnFwdReferenceIdeal.main_v36) = v1 c
          ∧ r.2.mem ((c.tc : Thread Cert.FfnFwdReferenceIdeal.nD Cert.FfnFwdReferenceIdeal.τ).loc Cert.FfnFwdReferenceIdeal.main_v10) = v2 c
          ∧ r.2.mem ((c.tc : Thread Cert.FfnFwdReferenceIdeal.nD Cert.FfnFwdReferenceIdeal.τ).loc Cert.FfnFwdReferenceIdeal.main_v34) = v3 c
          ∧ r.2.mem ((c.tc : Thread Cert.FfnFwdReferenceIdeal.nD Cert.FfnFwdReferenceIdeal.τ).loc Cert.FfnFwdReferenceIdeal.main_v37) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_AOutKernel_AOutKernelIdeal : Prop :=
  True

def algebraic_AOutKernelIdeal_AOutReferenceIdeal [hAOutKernelIdeal : Cert.AOutKernelIdeal.Facts] [hAOutReferenceIdeal : Cert.AOutReferenceIdeal.Facts] : Prop :=
  ∀ (m : (ℓ : Loc Cert.AOutKernelIdeal.nD Cert.AOutKernelIdeal.τ Cert.AOutKernelIdeal.sig) → Buf (Elt Ideal) ℓ) (g : Dev Cert.AOutKernelIdeal.nD → PrngReg)
    (m' : (ℓ : Loc Cert.AOutReferenceIdeal.nD Cert.AOutReferenceIdeal.τ Cert.AOutReferenceIdeal.sig) → Buf (Elt Ideal) ℓ) (g' : Dev Cert.AOutReferenceIdeal.nD → PrngReg), Pre_AOutKernelIdeal m →
    (∀ c : Dev Cert.AOutKernelIdeal.nD,
      m' ((c.tc : Thread Cert.AOutReferenceIdeal.nD Cert.AOutReferenceIdeal.τ).loc Cert.AOutReferenceIdeal.main_arg0) = m ((c.tc : Thread Cert.AOutKernelIdeal.nD Cert.AOutKernelIdeal.τ).loc Cert.AOutKernelIdeal.main_arg0)
      ∧ m' ((c.tc : Thread Cert.AOutReferenceIdeal.nD Cert.AOutReferenceIdeal.τ).loc Cert.AOutReferenceIdeal.main_arg1) = m ((c.tc : Thread Cert.AOutKernelIdeal.nD Cert.AOutKernelIdeal.τ).loc Cert.AOutKernelIdeal.main_arg1)
      ∧ m' ((c.tc : Thread Cert.AOutReferenceIdeal.nD Cert.AOutReferenceIdeal.τ).loc Cert.AOutReferenceIdeal.main_arg2) = m ((c.tc : Thread Cert.AOutKernelIdeal.nD Cert.AOutKernelIdeal.τ).loc Cert.AOutKernelIdeal.main_arg2)
      ∧ m' ((c.tc : Thread Cert.AOutReferenceIdeal.nD Cert.AOutReferenceIdeal.τ).loc Cert.AOutReferenceIdeal.main_arg3) = m ((c.tc : Thread Cert.AOutKernelIdeal.nD Cert.AOutKernelIdeal.τ).loc Cert.AOutKernelIdeal.main_arg3)
      ∧ m' ((c.tc : Thread Cert.AOutReferenceIdeal.nD Cert.AOutReferenceIdeal.τ).loc Cert.AOutReferenceIdeal.main_arg4) = m ((c.tc : Thread Cert.AOutKernelIdeal.nD Cert.AOutKernelIdeal.τ).loc Cert.AOutKernelIdeal.main_arg4)) →
    ∃ (v0 : (c : Dev Cert.AOutKernelIdeal.nD) → Buf (Elt Ideal) ((c.tc : Thread Cert.AOutKernelIdeal.nD Cert.AOutKernelIdeal.τ).loc Cert.AOutKernelIdeal.main_v3_0)) (v1 : (c : Dev Cert.AOutKernelIdeal.nD) → Buf (Elt Ideal) ((c.tc : Thread Cert.AOutKernelIdeal.nD Cert.AOutKernelIdeal.τ).loc Cert.AOutKernelIdeal.main_v3_1)) (v2 : (c : Dev Cert.AOutKernelIdeal.nD) → Buf (Elt Ideal) ((c.tc : Thread Cert.AOutKernelIdeal.nD Cert.AOutKernelIdeal.τ).loc Cert.AOutKernelIdeal.main_v3_2)),
      θ_run (Cert.AOutKernelIdeal.defs (F := Ideal)) (onTc (τ := Cert.AOutKernelIdeal.τ) (Cert.AOutKernelIdeal.main (F := Ideal))) ⟨m, fun _ => 0, g⟩ (fun r => ∀ c : Dev Cert.AOutKernelIdeal.nD,
          r.2.mem ((c.tc : Thread Cert.AOutKernelIdeal.nD Cert.AOutKernelIdeal.τ).loc Cert.AOutKernelIdeal.main_v3_0) = v0 c
          ∧ r.2.mem ((c.tc : Thread Cert.AOutKernelIdeal.nD Cert.AOutKernelIdeal.τ).loc Cert.AOutKernelIdeal.main_v3_1) = v1 c
          ∧ r.2.mem ((c.tc : Thread Cert.AOutKernelIdeal.nD Cert.AOutKernelIdeal.τ).loc Cert.AOutKernelIdeal.main_v3_2) = v2 c
          ∧ r.2.mem ((c.tc : Thread Cert.AOutKernelIdeal.nD Cert.AOutKernelIdeal.τ).loc Cert.AOutKernelIdeal.main_arg0) = m ((c.tc : Thread Cert.AOutKernelIdeal.nD Cert.AOutKernelIdeal.τ).loc Cert.AOutKernelIdeal.main_arg0)
          ∧ r.2.mem ((c.tc : Thread Cert.AOutKernelIdeal.nD Cert.AOutKernelIdeal.τ).loc Cert.AOutKernelIdeal.main_arg1) = m ((c.tc : Thread Cert.AOutKernelIdeal.nD Cert.AOutKernelIdeal.τ).loc Cert.AOutKernelIdeal.main_arg1)
          ∧ r.2.mem ((c.tc : Thread Cert.AOutKernelIdeal.nD Cert.AOutKernelIdeal.τ).loc Cert.AOutKernelIdeal.main_arg2) = m ((c.tc : Thread Cert.AOutKernelIdeal.nD Cert.AOutKernelIdeal.τ).loc Cert.AOutKernelIdeal.main_arg2)
          ∧ r.2.mem ((c.tc : Thread Cert.AOutKernelIdeal.nD Cert.AOutKernelIdeal.τ).loc Cert.AOutKernelIdeal.main_arg3) = m ((c.tc : Thread Cert.AOutKernelIdeal.nD Cert.AOutKernelIdeal.τ).loc Cert.AOutKernelIdeal.main_arg3)
          ∧ r.2.mem ((c.tc : Thread Cert.AOutKernelIdeal.nD Cert.AOutKernelIdeal.τ).loc Cert.AOutKernelIdeal.main_arg4) = m ((c.tc : Thread Cert.AOutKernelIdeal.nD Cert.AOutKernelIdeal.τ).loc Cert.AOutKernelIdeal.main_arg4))
      ∧ θ_run (Cert.AOutReferenceIdeal.defs (F := Ideal)) (onTc (τ := Cert.AOutReferenceIdeal.τ) (Cert.AOutReferenceIdeal.main (F := Ideal))) ⟨m', fun _ => 0, g'⟩ (fun r => ∀ c : Dev Cert.AOutReferenceIdeal.nD,
          r.2.mem ((c.tc : Thread Cert.AOutReferenceIdeal.nD Cert.AOutReferenceIdeal.τ).loc Cert.AOutReferenceIdeal.main_v3) = v0 c
          ∧ r.2.mem ((c.tc : Thread Cert.AOutReferenceIdeal.nD Cert.AOutReferenceIdeal.τ).loc Cert.AOutReferenceIdeal.main_v27) = v1 c
          ∧ r.2.mem ((c.tc : Thread Cert.AOutReferenceIdeal.nD Cert.AOutReferenceIdeal.τ).loc Cert.AOutReferenceIdeal.main_v28) = v2 c
          ∧ r.2.mem ((c.tc : Thread Cert.AOutReferenceIdeal.nD Cert.AOutReferenceIdeal.τ).loc Cert.AOutReferenceIdeal.main_arg0) = m' ((c.tc : Thread Cert.AOutReferenceIdeal.nD Cert.AOutReferenceIdeal.τ).loc Cert.AOutReferenceIdeal.main_arg0)
          ∧ r.2.mem ((c.tc : Thread Cert.AOutReferenceIdeal.nD Cert.AOutReferenceIdeal.τ).loc Cert.AOutReferenceIdeal.main_arg1) = m' ((c.tc : Thread Cert.AOutReferenceIdeal.nD Cert.AOutReferenceIdeal.τ).loc Cert.AOutReferenceIdeal.main_arg1)
          ∧ r.2.mem ((c.tc : Thread Cert.AOutReferenceIdeal.nD Cert.AOutReferenceIdeal.τ).loc Cert.AOutReferenceIdeal.main_arg2) = m' ((c.tc : Thread Cert.AOutReferenceIdeal.nD Cert.AOutReferenceIdeal.τ).loc Cert.AOutReferenceIdeal.main_arg2)
          ∧ r.2.mem ((c.tc : Thread Cert.AOutReferenceIdeal.nD Cert.AOutReferenceIdeal.τ).loc Cert.AOutReferenceIdeal.main_arg3) = m' ((c.tc : Thread Cert.AOutReferenceIdeal.nD Cert.AOutReferenceIdeal.τ).loc Cert.AOutReferenceIdeal.main_arg3)
          ∧ r.2.mem ((c.tc : Thread Cert.AOutReferenceIdeal.nD Cert.AOutReferenceIdeal.τ).loc Cert.AOutReferenceIdeal.main_arg4) = m' ((c.tc : Thread Cert.AOutReferenceIdeal.nD Cert.AOutReferenceIdeal.τ).loc Cert.AOutReferenceIdeal.main_arg4))

def preserves_BOutKernel_BOutKernelIdeal : Prop :=
  True

def algebraic_BOutKernelIdeal_BOutReferenceIdeal [hBOutKernelIdeal : Cert.BOutKernelIdeal.Facts] [hBOutReferenceIdeal : Cert.BOutReferenceIdeal.Facts] : Prop :=
  ∀ (m : (ℓ : Loc Cert.BOutKernelIdeal.nD Cert.BOutKernelIdeal.τ Cert.BOutKernelIdeal.sig) → Buf (Elt Ideal) ℓ) (g : Dev Cert.BOutKernelIdeal.nD → PrngReg)
    (m' : (ℓ : Loc Cert.BOutReferenceIdeal.nD Cert.BOutReferenceIdeal.τ Cert.BOutReferenceIdeal.sig) → Buf (Elt Ideal) ℓ) (g' : Dev Cert.BOutReferenceIdeal.nD → PrngReg), Pre_BOutKernelIdeal m →
    (∀ c : Dev Cert.BOutKernelIdeal.nD,
      m' ((c.tc : Thread Cert.BOutReferenceIdeal.nD Cert.BOutReferenceIdeal.τ).loc Cert.BOutReferenceIdeal.main_arg0) = m ((c.tc : Thread Cert.BOutKernelIdeal.nD Cert.BOutKernelIdeal.τ).loc Cert.BOutKernelIdeal.main_arg0)
      ∧ m' ((c.tc : Thread Cert.BOutReferenceIdeal.nD Cert.BOutReferenceIdeal.τ).loc Cert.BOutReferenceIdeal.main_arg1) = m ((c.tc : Thread Cert.BOutKernelIdeal.nD Cert.BOutKernelIdeal.τ).loc Cert.BOutKernelIdeal.main_arg1)
      ∧ m' ((c.tc : Thread Cert.BOutReferenceIdeal.nD Cert.BOutReferenceIdeal.τ).loc Cert.BOutReferenceIdeal.main_arg2) = m ((c.tc : Thread Cert.BOutKernelIdeal.nD Cert.BOutKernelIdeal.τ).loc Cert.BOutKernelIdeal.main_arg2)
      ∧ m' ((c.tc : Thread Cert.BOutReferenceIdeal.nD Cert.BOutReferenceIdeal.τ).loc Cert.BOutReferenceIdeal.main_arg3) = m ((c.tc : Thread Cert.BOutKernelIdeal.nD Cert.BOutKernelIdeal.τ).loc Cert.BOutKernelIdeal.main_arg3)
      ∧ m' ((c.tc : Thread Cert.BOutReferenceIdeal.nD Cert.BOutReferenceIdeal.τ).loc Cert.BOutReferenceIdeal.main_arg4) = m ((c.tc : Thread Cert.BOutKernelIdeal.nD Cert.BOutKernelIdeal.τ).loc Cert.BOutKernelIdeal.main_arg4)) →
    ∃ (v0 : (c : Dev Cert.BOutKernelIdeal.nD) → Buf (Elt Ideal) ((c.tc : Thread Cert.BOutKernelIdeal.nD Cert.BOutKernelIdeal.τ).loc Cert.BOutKernelIdeal.main_v3_0)) (v1 : (c : Dev Cert.BOutKernelIdeal.nD) → Buf (Elt Ideal) ((c.tc : Thread Cert.BOutKernelIdeal.nD Cert.BOutKernelIdeal.τ).loc Cert.BOutKernelIdeal.main_v3_1)) (v2 : (c : Dev Cert.BOutKernelIdeal.nD) → Buf (Elt Ideal) ((c.tc : Thread Cert.BOutKernelIdeal.nD Cert.BOutKernelIdeal.τ).loc Cert.BOutKernelIdeal.main_v3_2)),
      θ_run (Cert.BOutKernelIdeal.defs (F := Ideal)) (onTc (τ := Cert.BOutKernelIdeal.τ) (Cert.BOutKernelIdeal.main (F := Ideal))) ⟨m, fun _ => 0, g⟩ (fun r => ∀ c : Dev Cert.BOutKernelIdeal.nD,
          r.2.mem ((c.tc : Thread Cert.BOutKernelIdeal.nD Cert.BOutKernelIdeal.τ).loc Cert.BOutKernelIdeal.main_v3_0) = v0 c
          ∧ r.2.mem ((c.tc : Thread Cert.BOutKernelIdeal.nD Cert.BOutKernelIdeal.τ).loc Cert.BOutKernelIdeal.main_v3_1) = v1 c
          ∧ r.2.mem ((c.tc : Thread Cert.BOutKernelIdeal.nD Cert.BOutKernelIdeal.τ).loc Cert.BOutKernelIdeal.main_v3_2) = v2 c
          ∧ r.2.mem ((c.tc : Thread Cert.BOutKernelIdeal.nD Cert.BOutKernelIdeal.τ).loc Cert.BOutKernelIdeal.main_arg0) = m ((c.tc : Thread Cert.BOutKernelIdeal.nD Cert.BOutKernelIdeal.τ).loc Cert.BOutKernelIdeal.main_arg0)
          ∧ r.2.mem ((c.tc : Thread Cert.BOutKernelIdeal.nD Cert.BOutKernelIdeal.τ).loc Cert.BOutKernelIdeal.main_arg1) = m ((c.tc : Thread Cert.BOutKernelIdeal.nD Cert.BOutKernelIdeal.τ).loc Cert.BOutKernelIdeal.main_arg1)
          ∧ r.2.mem ((c.tc : Thread Cert.BOutKernelIdeal.nD Cert.BOutKernelIdeal.τ).loc Cert.BOutKernelIdeal.main_arg2) = m ((c.tc : Thread Cert.BOutKernelIdeal.nD Cert.BOutKernelIdeal.τ).loc Cert.BOutKernelIdeal.main_arg2)
          ∧ r.2.mem ((c.tc : Thread Cert.BOutKernelIdeal.nD Cert.BOutKernelIdeal.τ).loc Cert.BOutKernelIdeal.main_arg3) = m ((c.tc : Thread Cert.BOutKernelIdeal.nD Cert.BOutKernelIdeal.τ).loc Cert.BOutKernelIdeal.main_arg3)
          ∧ r.2.mem ((c.tc : Thread Cert.BOutKernelIdeal.nD Cert.BOutKernelIdeal.τ).loc Cert.BOutKernelIdeal.main_arg4) = m ((c.tc : Thread Cert.BOutKernelIdeal.nD Cert.BOutKernelIdeal.τ).loc Cert.BOutKernelIdeal.main_arg4))
      ∧ θ_run (Cert.BOutReferenceIdeal.defs (F := Ideal)) (onTc (τ := Cert.BOutReferenceIdeal.τ) (Cert.BOutReferenceIdeal.main (F := Ideal))) ⟨m', fun _ => 0, g'⟩ (fun r => ∀ c : Dev Cert.BOutReferenceIdeal.nD,
          r.2.mem ((c.tc : Thread Cert.BOutReferenceIdeal.nD Cert.BOutReferenceIdeal.τ).loc Cert.BOutReferenceIdeal.main_v3) = v0 c
          ∧ r.2.mem ((c.tc : Thread Cert.BOutReferenceIdeal.nD Cert.BOutReferenceIdeal.τ).loc Cert.BOutReferenceIdeal.main_v27) = v1 c
          ∧ r.2.mem ((c.tc : Thread Cert.BOutReferenceIdeal.nD Cert.BOutReferenceIdeal.τ).loc Cert.BOutReferenceIdeal.main_v28) = v2 c
          ∧ r.2.mem ((c.tc : Thread Cert.BOutReferenceIdeal.nD Cert.BOutReferenceIdeal.τ).loc Cert.BOutReferenceIdeal.main_arg0) = m' ((c.tc : Thread Cert.BOutReferenceIdeal.nD Cert.BOutReferenceIdeal.τ).loc Cert.BOutReferenceIdeal.main_arg0)
          ∧ r.2.mem ((c.tc : Thread Cert.BOutReferenceIdeal.nD Cert.BOutReferenceIdeal.τ).loc Cert.BOutReferenceIdeal.main_arg1) = m' ((c.tc : Thread Cert.BOutReferenceIdeal.nD Cert.BOutReferenceIdeal.τ).loc Cert.BOutReferenceIdeal.main_arg1)
          ∧ r.2.mem ((c.tc : Thread Cert.BOutReferenceIdeal.nD Cert.BOutReferenceIdeal.τ).loc Cert.BOutReferenceIdeal.main_arg2) = m' ((c.tc : Thread Cert.BOutReferenceIdeal.nD Cert.BOutReferenceIdeal.τ).loc Cert.BOutReferenceIdeal.main_arg2)
          ∧ r.2.mem ((c.tc : Thread Cert.BOutReferenceIdeal.nD Cert.BOutReferenceIdeal.τ).loc Cert.BOutReferenceIdeal.main_arg3) = m' ((c.tc : Thread Cert.BOutReferenceIdeal.nD Cert.BOutReferenceIdeal.τ).loc Cert.BOutReferenceIdeal.main_arg3)
          ∧ r.2.mem ((c.tc : Thread Cert.BOutReferenceIdeal.nD Cert.BOutReferenceIdeal.τ).loc Cert.BOutReferenceIdeal.main_arg4) = m' ((c.tc : Thread Cert.BOutReferenceIdeal.nD Cert.BOutReferenceIdeal.τ).loc Cert.BOutReferenceIdeal.main_arg4))

def Claim : Prop :=
  ∃ (hFoxKernel : Cert.FoxKernel.Facts) (hFoxKernelIdeal : Cert.FoxKernelIdeal.Facts) (hFoxReferenceIdeal : Cert.FoxReferenceIdeal.Facts) (hGateKernel : Cert.GateKernel.Facts) (hGateKernelIdeal : Cert.GateKernelIdeal.Facts) (hGateReferenceIdeal : Cert.GateReferenceIdeal.Facts) (hBand0DqKernel : Cert.Band0DqKernel.Facts) (hBand0DqKernelIdeal : Cert.Band0DqKernelIdeal.Facts) (hBand0DqReferenceIdeal : Cert.Band0DqReferenceIdeal.Facts) (hBand0DkvKernel : Cert.Band0DkvKernel.Facts) (hBand0DkvKernelIdeal : Cert.Band0DkvKernelIdeal.Facts) (hBand0DkvReferenceIdeal : Cert.Band0DkvReferenceIdeal.Facts) (hBand1DqKernel : Cert.Band1DqKernel.Facts) (hBand1DqKernelIdeal : Cert.Band1DqKernelIdeal.Facts) (hBand1DqReferenceIdeal : Cert.Band1DqReferenceIdeal.Facts) (hBand1DkvKernel : Cert.Band1DkvKernel.Facts) (hBand1DkvKernelIdeal : Cert.Band1DkvKernelIdeal.Facts) (hBand1DkvReferenceIdeal : Cert.Band1DkvReferenceIdeal.Facts) (hBand2DqKernel : Cert.Band2DqKernel.Facts) (hBand2DqKernelIdeal : Cert.Band2DqKernelIdeal.Facts) (hBand2DqReferenceIdeal : Cert.Band2DqReferenceIdeal.Facts) (hBand2DkvKernel : Cert.Band2DkvKernel.Facts) (hBand2DkvKernelIdeal : Cert.Band2DkvKernelIdeal.Facts) (hBand2DkvReferenceIdeal : Cert.Band2DkvReferenceIdeal.Facts) (hMemKernel : Cert.MemKernel.Facts) (hMemKernelIdeal : Cert.MemKernelIdeal.Facts) (hMemReferenceIdeal : Cert.MemReferenceIdeal.Facts) (hFfnKernel : Cert.FfnKernel.Facts) (hFfnKernelIdeal : Cert.FfnKernelIdeal.Facts) (hFfnReferenceIdeal : Cert.FfnReferenceIdeal.Facts) (hLnKernel : Cert.LnKernel.Facts) (hLnKernelIdeal : Cert.LnKernelIdeal.Facts) (hLnReferenceIdeal : Cert.LnReferenceIdeal.Facts) (hRopeKernel : Cert.RopeKernel.Facts) (hRopeKernelIdeal : Cert.RopeKernelIdeal.Facts) (hRopeReferenceIdeal : Cert.RopeReferenceIdeal.Facts) (hLossKernel : Cert.LossKernel.Facts) (hLossKernelIdeal : Cert.LossKernelIdeal.Facts) (hLossReferenceIdeal : Cert.LossReferenceIdeal.Facts) (hMemFwdKernel : Cert.MemFwdKernel.Facts) (hMemFwdKernelIdeal : Cert.MemFwdKernelIdeal.Facts) (hMemFwdReferenceIdeal : Cert.MemFwdReferenceIdeal.Facts) (hCombineKernel : Cert.CombineKernel.Facts) (hCombineKernelIdeal : Cert.CombineKernelIdeal.Facts) (hCombineReferenceIdeal : Cert.CombineReferenceIdeal.Facts) (hBand0FwdKernel : Cert.Band0FwdKernel.Facts) (hBand0FwdKernelIdeal : Cert.Band0FwdKernelIdeal.Facts) (hBand0FwdReferenceIdeal : Cert.Band0FwdReferenceIdeal.Facts) (hBand1FwdKernel : Cert.Band1FwdKernel.Facts) (hBand1FwdKernelIdeal : Cert.Band1FwdKernelIdeal.Facts) (hBand1FwdReferenceIdeal : Cert.Band1FwdReferenceIdeal.Facts) (hBand2FwdKernel : Cert.Band2FwdKernel.Facts) (hBand2FwdKernelIdeal : Cert.Band2FwdKernelIdeal.Facts) (hBand2FwdReferenceIdeal : Cert.Band2FwdReferenceIdeal.Facts) (hFfnFwdKernel : Cert.FfnFwdKernel.Facts) (hFfnFwdKernelIdeal : Cert.FfnFwdKernelIdeal.Facts) (hFfnFwdReferenceIdeal : Cert.FfnFwdReferenceIdeal.Facts) (hAOutKernel : Cert.AOutKernel.Facts) (hAOutKernelIdeal : Cert.AOutKernelIdeal.Facts) (hAOutReferenceIdeal : Cert.AOutReferenceIdeal.Facts) (hBOutKernel : Cert.BOutKernel.Facts) (hBOutKernelIdeal : Cert.BOutKernelIdeal.Facts) (hBOutReferenceIdeal : Cert.BOutReferenceIdeal.Facts) (hPre_fox_finite : Cert.Pre_fox_finite.Facts) (hPre_gate_finite : Cert.Pre_gate_finite.Facts) (hPre_band_finite : Cert.Pre_band_finite.Facts) (hPre_mem_finite : Cert.Pre_mem_finite.Facts) (hPre_ffn_finite : Cert.Pre_ffn_finite.Facts) (hPre_ln_finite : Cert.Pre_ln_finite.Facts) (hPre_memfwd_finite : Cert.Pre_memfwd_finite.Facts) (hPre_combine_finite : Cert.Pre_combine_finite.Facts) (hPre_bandfwd_finite : Cert.Pre_bandfwd_finite.Facts) (hOn_decay_lanes : Cert.On_decay_lanes.Facts),
    quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_Band0DqKernel (hBand0DqKernel := hBand0DqKernel)
    ∧ quiescent_Band0DqKernelIdeal (hBand0DqKernelIdeal := hBand0DqKernelIdeal)
    ∧ quiescent_Band0DqKernelIdeal_pre_band_finite (hBand0DqKernelIdeal := hBand0DqKernelIdeal) (hPre_band_finite := hPre_band_finite)
    ∧ quiescent_Band0DqReferenceIdeal (hBand0DqReferenceIdeal := hBand0DqReferenceIdeal)
    ∧ quiescent_Band0DqReferenceIdeal_pre_band_finite (hBand0DqReferenceIdeal := hBand0DqReferenceIdeal) (hPre_band_finite := hPre_band_finite)
    ∧ quiescent_Band0DkvKernel (hBand0DkvKernel := hBand0DkvKernel)
    ∧ quiescent_Band0DkvKernelIdeal (hBand0DkvKernelIdeal := hBand0DkvKernelIdeal)
    ∧ quiescent_Band0DkvKernelIdeal_pre_band_finite (hBand0DkvKernelIdeal := hBand0DkvKernelIdeal) (hPre_band_finite := hPre_band_finite)
    ∧ quiescent_Band0DkvReferenceIdeal (hBand0DkvReferenceIdeal := hBand0DkvReferenceIdeal)
    ∧ quiescent_Band0DkvReferenceIdeal_pre_band_finite (hBand0DkvReferenceIdeal := hBand0DkvReferenceIdeal) (hPre_band_finite := hPre_band_finite)
    ∧ quiescent_Band1DqKernel (hBand1DqKernel := hBand1DqKernel)
    ∧ quiescent_Band1DqKernelIdeal (hBand1DqKernelIdeal := hBand1DqKernelIdeal)
    ∧ quiescent_Band1DqKernelIdeal_pre_band_finite (hBand1DqKernelIdeal := hBand1DqKernelIdeal) (hPre_band_finite := hPre_band_finite)
    ∧ quiescent_Band1DqReferenceIdeal (hBand1DqReferenceIdeal := hBand1DqReferenceIdeal)
    ∧ quiescent_Band1DqReferenceIdeal_pre_band_finite (hBand1DqReferenceIdeal := hBand1DqReferenceIdeal) (hPre_band_finite := hPre_band_finite)
    ∧ quiescent_Band1DkvKernel (hBand1DkvKernel := hBand1DkvKernel)
    ∧ quiescent_Band1DkvKernelIdeal (hBand1DkvKernelIdeal := hBand1DkvKernelIdeal)
    ∧ quiescent_Band1DkvKernelIdeal_pre_band_finite (hBand1DkvKernelIdeal := hBand1DkvKernelIdeal) (hPre_band_finite := hPre_band_finite)
    ∧ quiescent_Band1DkvReferenceIdeal (hBand1DkvReferenceIdeal := hBand1DkvReferenceIdeal)
    ∧ quiescent_Band1DkvReferenceIdeal_pre_band_finite (hBand1DkvReferenceIdeal := hBand1DkvReferenceIdeal) (hPre_band_finite := hPre_band_finite)
    ∧ quiescent_Band2DqKernel (hBand2DqKernel := hBand2DqKernel)
    ∧ quiescent_Band2DqKernelIdeal (hBand2DqKernelIdeal := hBand2DqKernelIdeal)
    ∧ quiescent_Band2DqKernelIdeal_pre_band_finite (hBand2DqKernelIdeal := hBand2DqKernelIdeal) (hPre_band_finite := hPre_band_finite)
    ∧ quiescent_Band2DqReferenceIdeal (hBand2DqReferenceIdeal := hBand2DqReferenceIdeal)
    ∧ quiescent_Band2DqReferenceIdeal_pre_band_finite (hBand2DqReferenceIdeal := hBand2DqReferenceIdeal) (hPre_band_finite := hPre_band_finite)
    ∧ quiescent_Band2DkvKernel (hBand2DkvKernel := hBand2DkvKernel)
    ∧ quiescent_Band2DkvKernelIdeal (hBand2DkvKernelIdeal := hBand2DkvKernelIdeal)
    ∧ quiescent_Band2DkvKernelIdeal_pre_band_finite (hBand2DkvKernelIdeal := hBand2DkvKernelIdeal) (hPre_band_finite := hPre_band_finite)
    ∧ quiescent_Band2DkvReferenceIdeal (hBand2DkvReferenceIdeal := hBand2DkvReferenceIdeal)
    ∧ quiescent_Band2DkvReferenceIdeal_pre_band_finite (hBand2DkvReferenceIdeal := hBand2DkvReferenceIdeal) (hPre_band_finite := hPre_band_finite)
    ∧ quiescent_MemKernel (hMemKernel := hMemKernel)
    ∧ quiescent_MemKernelIdeal (hMemKernelIdeal := hMemKernelIdeal)
    ∧ quiescent_MemKernelIdeal_pre_mem_finite (hMemKernelIdeal := hMemKernelIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_LnKernel (hLnKernel := hLnKernel)
    ∧ quiescent_LnKernelIdeal (hLnKernelIdeal := hLnKernelIdeal)
    ∧ quiescent_LnKernelIdeal_pre_ln_finite (hLnKernelIdeal := hLnKernelIdeal) (hPre_ln_finite := hPre_ln_finite)
    ∧ quiescent_LnReferenceIdeal (hLnReferenceIdeal := hLnReferenceIdeal)
    ∧ quiescent_LnReferenceIdeal_pre_ln_finite (hLnReferenceIdeal := hLnReferenceIdeal) (hPre_ln_finite := hPre_ln_finite)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MemFwdKernel (hMemFwdKernel := hMemFwdKernel)
    ∧ quiescent_MemFwdKernelIdeal (hMemFwdKernelIdeal := hMemFwdKernelIdeal)
    ∧ quiescent_MemFwdKernelIdeal_pre_memfwd_finite (hMemFwdKernelIdeal := hMemFwdKernelIdeal) (hPre_memfwd_finite := hPre_memfwd_finite)
    ∧ quiescent_MemFwdReferenceIdeal (hMemFwdReferenceIdeal := hMemFwdReferenceIdeal)
    ∧ quiescent_MemFwdReferenceIdeal_pre_memfwd_finite (hMemFwdReferenceIdeal := hMemFwdReferenceIdeal) (hPre_memfwd_finite := hPre_memfwd_finite)
    ∧ quiescent_CombineKernel (hCombineKernel := hCombineKernel)
    ∧ quiescent_CombineKernelIdeal (hCombineKernelIdeal := hCombineKernelIdeal)
    ∧ quiescent_CombineKernelIdeal_pre_combine_finite (hCombineKernelIdeal := hCombineKernelIdeal) (hPre_combine_finite := hPre_combine_finite)
    ∧ quiescent_CombineReferenceIdeal (hCombineReferenceIdeal := hCombineReferenceIdeal)
    ∧ quiescent_CombineReferenceIdeal_pre_combine_finite (hCombineReferenceIdeal := hCombineReferenceIdeal) (hPre_combine_finite := hPre_combine_finite)
    ∧ quiescent_Band0FwdKernel (hBand0FwdKernel := hBand0FwdKernel)
    ∧ quiescent_Band0FwdKernelIdeal (hBand0FwdKernelIdeal := hBand0FwdKernelIdeal)
    ∧ quiescent_Band0FwdKernelIdeal_pre_bandfwd_finite (hBand0FwdKernelIdeal := hBand0FwdKernelIdeal) (hPre_bandfwd_finite := hPre_bandfwd_finite)
    ∧ quiescent_Band0FwdReferenceIdeal (hBand0FwdReferenceIdeal := hBand0FwdReferenceIdeal)
    ∧ quiescent_Band0FwdReferenceIdeal_pre_bandfwd_finite (hBand0FwdReferenceIdeal := hBand0FwdReferenceIdeal) (hPre_bandfwd_finite := hPre_bandfwd_finite)
    ∧ quiescent_Band1FwdKernel (hBand1FwdKernel := hBand1FwdKernel)
    ∧ quiescent_Band1FwdKernelIdeal (hBand1FwdKernelIdeal := hBand1FwdKernelIdeal)
    ∧ quiescent_Band1FwdKernelIdeal_pre_bandfwd_finite (hBand1FwdKernelIdeal := hBand1FwdKernelIdeal) (hPre_bandfwd_finite := hPre_bandfwd_finite)
    ∧ quiescent_Band1FwdReferenceIdeal (hBand1FwdReferenceIdeal := hBand1FwdReferenceIdeal)
    ∧ quiescent_Band1FwdReferenceIdeal_pre_bandfwd_finite (hBand1FwdReferenceIdeal := hBand1FwdReferenceIdeal) (hPre_bandfwd_finite := hPre_bandfwd_finite)
    ∧ quiescent_Band2FwdKernel (hBand2FwdKernel := hBand2FwdKernel)
    ∧ quiescent_Band2FwdKernelIdeal (hBand2FwdKernelIdeal := hBand2FwdKernelIdeal)
    ∧ quiescent_Band2FwdKernelIdeal_pre_bandfwd_finite (hBand2FwdKernelIdeal := hBand2FwdKernelIdeal) (hPre_bandfwd_finite := hPre_bandfwd_finite)
    ∧ quiescent_Band2FwdReferenceIdeal (hBand2FwdReferenceIdeal := hBand2FwdReferenceIdeal)
    ∧ quiescent_Band2FwdReferenceIdeal_pre_bandfwd_finite (hBand2FwdReferenceIdeal := hBand2FwdReferenceIdeal) (hPre_bandfwd_finite := hPre_bandfwd_finite)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_AOutKernel (hAOutKernel := hAOutKernel)
    ∧ quiescent_AOutKernelIdeal (hAOutKernelIdeal := hAOutKernelIdeal)
    ∧ quiescent_AOutReferenceIdeal (hAOutReferenceIdeal := hAOutReferenceIdeal)
    ∧ quiescent_BOutKernel (hBOutKernel := hBOutKernel)
    ∧ quiescent_BOutKernelIdeal (hBOutKernelIdeal := hBOutKernelIdeal)
    ∧ quiescent_BOutReferenceIdeal (hBOutReferenceIdeal := hBOutReferenceIdeal)
    ∧ preserves_FoxKernel_FoxKernelIdeal
    ∧ algebraic_FoxKernelIdeal_FoxReferenceIdeal_on_decay_lanes_pre_fox_finite (hFoxKernelIdeal := hFoxKernelIdeal) (hFoxReferenceIdeal := hFoxReferenceIdeal) (hPre_fox_finite := hPre_fox_finite) (hOn_decay_lanes := hOn_decay_lanes)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_Band0DqKernel_Band0DqKernelIdeal
    ∧ algebraic_Band0DqKernelIdeal_Band0DqReferenceIdeal_pre_band_finite (hBand0DqKernelIdeal := hBand0DqKernelIdeal) (hBand0DqReferenceIdeal := hBand0DqReferenceIdeal) (hPre_band_finite := hPre_band_finite)
    ∧ preserves_Band0DkvKernel_Band0DkvKernelIdeal
    ∧ algebraic_Band0DkvKernelIdeal_Band0DkvReferenceIdeal_pre_band_finite (hBand0DkvKernelIdeal := hBand0DkvKernelIdeal) (hBand0DkvReferenceIdeal := hBand0DkvReferenceIdeal) (hPre_band_finite := hPre_band_finite)
    ∧ preserves_Band1DqKernel_Band1DqKernelIdeal
    ∧ algebraic_Band1DqKernelIdeal_Band1DqReferenceIdeal_pre_band_finite (hBand1DqKernelIdeal := hBand1DqKernelIdeal) (hBand1DqReferenceIdeal := hBand1DqReferenceIdeal) (hPre_band_finite := hPre_band_finite)
    ∧ preserves_Band1DkvKernel_Band1DkvKernelIdeal
    ∧ algebraic_Band1DkvKernelIdeal_Band1DkvReferenceIdeal_pre_band_finite (hBand1DkvKernelIdeal := hBand1DkvKernelIdeal) (hBand1DkvReferenceIdeal := hBand1DkvReferenceIdeal) (hPre_band_finite := hPre_band_finite)
    ∧ preserves_Band2DqKernel_Band2DqKernelIdeal
    ∧ algebraic_Band2DqKernelIdeal_Band2DqReferenceIdeal_pre_band_finite (hBand2DqKernelIdeal := hBand2DqKernelIdeal) (hBand2DqReferenceIdeal := hBand2DqReferenceIdeal) (hPre_band_finite := hPre_band_finite)
    ∧ preserves_Band2DkvKernel_Band2DkvKernelIdeal
    ∧ algebraic_Band2DkvKernelIdeal_Band2DkvReferenceIdeal_pre_band_finite (hBand2DkvKernelIdeal := hBand2DkvKernelIdeal) (hBand2DkvReferenceIdeal := hBand2DkvReferenceIdeal) (hPre_band_finite := hPre_band_finite)
    ∧ preserves_MemKernel_MemKernelIdeal
    ∧ algebraic_MemKernelIdeal_MemReferenceIdeal_pre_mem_finite (hMemKernelIdeal := hMemKernelIdeal) (hMemReferenceIdeal := hMemReferenceIdeal) (hPre_mem_finite := hPre_mem_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_LnKernel_LnKernelIdeal
    ∧ algebraic_LnKernelIdeal_LnReferenceIdeal_pre_ln_finite (hLnKernelIdeal := hLnKernelIdeal) (hLnReferenceIdeal := hLnReferenceIdeal) (hPre_ln_finite := hPre_ln_finite)
    ∧ preserves_RopeKernel_RopeKernelIdeal
    ∧ algebraic_RopeKernelIdeal_RopeReferenceIdeal (hRopeKernelIdeal := hRopeKernelIdeal) (hRopeReferenceIdeal := hRopeReferenceIdeal)
    ∧ preserves_LossKernel_LossKernelIdeal
    ∧ algebraic_LossKernelIdeal_LossReferenceIdeal (hLossKernelIdeal := hLossKernelIdeal) (hLossReferenceIdeal := hLossReferenceIdeal)
    ∧ preserves_MemFwdKernel_MemFwdKernelIdeal
    ∧ algebraic_MemFwdKernelIdeal_MemFwdReferenceIdeal_pre_memfwd_finite (hMemFwdKernelIdeal := hMemFwdKernelIdeal) (hMemFwdReferenceIdeal := hMemFwdReferenceIdeal) (hPre_memfwd_finite := hPre_memfwd_finite)
    ∧ preserves_CombineKernel_CombineKernelIdeal
    ∧ algebraic_CombineKernelIdeal_CombineReferenceIdeal_pre_combine_finite (hCombineKernelIdeal := hCombineKernelIdeal) (hCombineReferenceIdeal := hCombineReferenceIdeal) (hPre_combine_finite := hPre_combine_finite)
    ∧ preserves_Band0FwdKernel_Band0FwdKernelIdeal
    ∧ algebraic_Band0FwdKernelIdeal_Band0FwdReferenceIdeal_pre_bandfwd_finite (hBand0FwdKernelIdeal := hBand0FwdKernelIdeal) (hBand0FwdReferenceIdeal := hBand0FwdReferenceIdeal) (hPre_bandfwd_finite := hPre_bandfwd_finite)
    ∧ preserves_Band1FwdKernel_Band1FwdKernelIdeal
    ∧ algebraic_Band1FwdKernelIdeal_Band1FwdReferenceIdeal_pre_bandfwd_finite (hBand1FwdKernelIdeal := hBand1FwdKernelIdeal) (hBand1FwdReferenceIdeal := hBand1FwdReferenceIdeal) (hPre_bandfwd_finite := hPre_bandfwd_finite)
    ∧ preserves_Band2FwdKernel_Band2FwdKernelIdeal
    ∧ algebraic_Band2FwdKernelIdeal_Band2FwdReferenceIdeal_pre_bandfwd_finite (hBand2FwdKernelIdeal := hBand2FwdKernelIdeal) (hBand2FwdReferenceIdeal := hBand2FwdReferenceIdeal) (hPre_bandfwd_finite := hPre_bandfwd_finite)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_AOutKernel_AOutKernelIdeal
    ∧ algebraic_AOutKernelIdeal_AOutReferenceIdeal (hAOutKernelIdeal := hAOutKernelIdeal) (hAOutReferenceIdeal := hAOutReferenceIdeal)
    ∧ preserves_BOutKernel_BOutKernelIdeal
    ∧ algebraic_BOutKernelIdeal_BOutReferenceIdeal (hBOutKernelIdeal := hBOutKernelIdeal) (hBOutReferenceIdeal := hBOutReferenceIdeal)
-- ==== On_decay_lanes.lean ====
abbrev S4096x768 : Shape := ⟨2, ![4096, 768]⟩
abbrev S4096x12 : Shape := ⟨2, ![4096, 12]⟩
abbrev S_ : Shape := ⟨0, ![]⟩

class Facts : Prop where
  bcast_S_S4096x768 : S_.BroadcastsInDim S4096x768 (![] : Fin 0 → Fin S4096x768.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x768 32) (arg1 : IVec S_ 32) : IVec S4096x768 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4096x768 32 := broadcastInDim S4096x768 ![] bcast_S_S4096x768 v2
  let v4 : IVec S4096x768 32 := Host.remsi arg0 v3
  let c_1 : IVec S_ 32 := constantI S_ 32 0#32
  let v5 : IVec S4096x768 32 := broadcastInDim S4096x768 ![] bcast_S_S4096x768 c_1
  let v6 : IVec S4096x768 1 := cmpi .ne v4 v5
  let c_2 : IVec S_ 32 := constantI S_ 32 0#32
  let v7 : IVec S4096x768 32 := broadcastInDim S4096x768 ![] bcast_S_S4096x768 c_2
  let v8 : IVec S4096x768 1 := cmpi .slt v4 v7
  let c_3 : IVec S_ 32 := constantI S_ 32 0#32
  let v9 : IVec S_ 1 := cmpi .slt v2 c_3
  let v10 : IVec S4096x768 1 := broadcastInDim S4096x768 ![] bcast_S_S4096x768 v9
  let v11 : IVec S4096x768 1 := cmpi .ne v8 v10
  let v12 : IVec S4096x768 1 := andi v11 v6
  let v13 : IVec S4096x768 32 := broadcastInDim S4096x768 ![] bcast_S_S4096x768 v2
  let v14 : IVec S4096x768 32 := addi v4 v13
  let v15 : IVec S4096x768 32 := select v12 v14 v4
  v15

def fn {F : FTy → Type} [FloatOps F] (main_arg0 : FVec F S4096x768 .f32) (main_arg1 : FVec F S4096x768 .f32) (main_arg2 : FVec F S4096x768 .f32) (main_arg3 : FVec F S4096x12 .f32) (main_arg4 : FVec F S4096x768 .f32) : IVec S4096x768 1 × IVec S4096x768 1 × IVec S4096x768 1 × IVec S4096x768 1 :=
  let main_c : IVec S_ 1 := constantI S_ 1 1#1
  let main_v0 : IVec S4096x768 1 := broadcastInDim S4096x768 ![] bcast_S_S4096x768 main_c
  let main_v1 : IVec S4096x768 32 := iotaInDim S4096x768 32 1
  let main_c_0 : IVec S_ 32 := constantI S_ 32 64#32
  let main_v2 : IVec S4096x768 32 := fn_remainder (F := F) main_v1 main_c_0
  let main_c_1 : IVec S_ 32 := constantI S_ 32 3#32
  let main_v3 : IVec S4096x768 32 := broadcastInDim S4096x768 ![] bcast_S_S4096x768 main_c_1
  let main_v4 : IVec S4096x768 1 := cmpi .eq main_v2 main_v3
  (main_v0, main_v0, main_v4, main_v0)
-- ==== Pre_band_finite.lean ====
abbrev S4096x768 : Shape := ⟨2, ![4096, 768]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S4096x768 .f32) (main_arg1 : FVec F S4096x768 .f32) (main_arg2 : FVec F S4096x768 .f32) (main_arg3 : FVec F S4096x256 .f32) (main_arg4 : FVec F S4096x256 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S4096x256 .f32 := Host.absf main_arg4
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Pre_bandfwd_finite.lean ====
abbrev S4096x768 : Shape := ⟨2, ![4096, 768]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : FVec F S4096x768 .f32) (main_arg2 : FVec F S4096x768 .f32) (main_arg3 : FVec F S4096x256 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  main_v13
-- ==== Pre_combine_finite.lean ====
abbrev S4096x256 : Shape := ⟨2, ![4096, 256]⟩
abbrev S4096x4 : Shape := ⟨2, ![4096, 4]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_arg4 : FVec F S4096x4 .f32) (main_arg5 : FVec F S4096x4 .f32) (main_v13 : IVec S_ 1) (main_v16 : IVec S4096x4 1) : IVec S_ 1 :=
  let main_c_5 : IVec S_ 1 := constantI S_ 1 1#1
  let main_v17 : IVec S_ 1 := (fun x v => Host.reduce IntOp.andi x v reducesTo_S4096x4_S_d0_1 h_S_) main_v16 main_c_5
  let main_v18 : IVec S_ 1 := andi main_v13 main_v17
  let main_v19 : FVec F S4096x4 .f32 := Host.absf main_arg4
  let main_cst_6 : FVec F S_ .f32 := constant S_ .f32 0x7F800000#32
  let main_v20 : FVec F S4096x4 .f32 := broadcastInDim S4096x4 ![] bcast_S_S4096x4 main_cst_6
  let main_v21 : IVec S4096x4 1 := cmpf .olt main_v19 main_v20
  let main_c_7 : IVec S_ 1 := constantI S_ 1 1#1
  let main_v22 : IVec S_ 1 := (fun x v => Host.reduce IntOp.andi x v reducesTo_S4096x4_S_d0_1 h_S_) main_v21 main_c_7
  let main_v23 : IVec S_ 1 := andi main_v18 main_v22
  let main_v24 : FVec F S4096x4 .f32 := Host.absf main_arg5
  let main_cst_8 : FVec F S_ .f32 := constant S_ .f32 0x7F800000#32
  let main_v25 : FVec F S4096x4 .f32 := broadcastInDim S4096x4 ![] bcast_S_S4096x4 main_cst_8
  let main_v26 : IVec S4096x4 1 := cmpf .olt main_v24 main_v25
  let main_c_9 : IVec S_ 1 := constantI S_ 1 1#1
  let main_v27 : IVec S_ 1 := (fun x v => Host.reduce IntOp.andi x v reducesTo_S4096x4_S_d0_1 h_S_) main_v26 main_c_9
  let main_v28 : IVec S_ 1 := andi main_v23 main_v27
  main_v28

def fn {F : FTy → Type} [FloatOps F] (main_arg0 : FVec F S4096x256 .f32) (main_arg1 : FVec F S4096x256 .f32) (main_arg2 : FVec F S4096x256 .f32) (main_arg3 : FVec F S4096x4 .f32) (main_arg4 : FVec F S4096x4 .f32) (main_arg5 : FVec F S4096x4 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x4 .f32 := Host.absf main_arg3
  let main_cst_4 : FVec F S_ .f32 := constant S_ .f32 0x7F800000#32
  let main_v15 : FVec F S4096x4 .f32 := broadcastInDim S4096x4 ![] bcast_S_S4096x4 main_cst_4
  let main_v16 : IVec S4096x4 1 := cmpf .olt main_v14 main_v15
  fn_part1 (F := F) main_arg4 main_arg5 main_v13 main_v16
-- ==== Pre_ffn_finite.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x5632 .f32) (main_arg2 : FVec F S2816x1024 .f32) (main_arg3 : FVec F S1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_fox_finite.lean ====
abbrev S4096x768 : Shape := ⟨2, ![4096, 768]⟩
abbrev S4096x12 : Shape := ⟨2, ![4096, 12]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x12 : S_.BroadcastsInDim S4096x12 (![] : Fin 0 → Fin S4096x12.rank)
  reducesTo_S4096x12_S_d0_1 : S4096x12.ReducesTo [0, 1] S_

variable [Facts]

def fn_part1 {F : FTy → Type} [FloatOps F] (main_arg4 : FVec F S4096x768 .f32) (main_v13 : IVec S_ 1) (main_v16 : IVec S4096x12 1) : IVec S_ 1 :=
  let main_c_5 : IVec S_ 1 := constantI S_ 1 1#1
  let main_v17 : IVec S_ 1 := (fun x v => Host.reduce IntOp.andi x v reducesTo_S4096x12_S_d0_1 h_S_) main_v16 main_c_5
  let main_v18 : IVec S_ 1 := andi main_v13 main_v17
  let main_v19 : FVec F S4096x768 .f32 := Host.absf main_arg4
  let main_cst_6 : FVec F S_ .f32 := constant S_ .f32 0x7F800000#32
  let main_v20 : FVec F S4096x768 .f32 := broadcastInDim S4096x768 ![] bcast_S_S4096x768 main_cst_6
  let main_v21 : IVec S4096x768 1 := cmpf .olt main_v19 main_v20
  let main_c_7 : IVec S_ 1 := constantI S_ 1 1#1
  let main_v22 : IVec S_ 1 := (fun x v => Host.reduce IntOp.andi x v reducesTo_S4096x768_S_d0_1 h_S_) main_v21 main_c_7
  let main_v23 : IVec S_ 1 := andi main_v18 main_v22
  main_v23

def fn {F : FTy → Type} [FloatOps F] (main_arg0 : FVec F S4096x768 .f32) (main_arg1 : FVec F S4096x768 .f32) (main_arg2 : FVec F S4096x768 .f32) (main_arg3 : FVec F S4096x12 .f32) (main_arg4 : FVec F S4096x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S4096x12 .f32 := Host.absf main_arg3
  let main_cst_4 : FVec F S_ .f32 := constant S_ .f32 0x7F800000#32
  let main_v15 : FVec F S4096x12 .f32 := broadcastInDim S4096x12 ![] bcast_S_S4096x12 main_cst_4
  let main_v16 : IVec S4096x12 1 := cmpf .olt main_v14 main_v15
  fn_part1 (F := F) main_arg4 main_v13 main_v16
-- ==== Pre_gate_finite.lean ====
abbrev S4096x768 : Shape := ⟨2, ![4096, 768]⟩
abbrev S4096x256 : Shape := ⟨2, ![4096, 256]⟩
abbrev S4096x12 : Shape := ⟨2, ![4096, 12]⟩
abbrev S1x12 : Shape := ⟨2, ![1, 12]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x12 : S_.BroadcastsInDim S4096x12 (![] : Fin 0 → Fin S4096x12.rank)
  reducesTo_S4096x12_S_d0_1 : S4096x12.ReducesTo [0, 1] S_
  bcast_S_S1x12 : S_.BroadcastsInDim S1x12 (![] : Fin 0 → Fin S1x12.rank)
  reducesTo_S1x12_S_d0_1 : S1x12.ReducesTo [0, 1] S_

variable [Facts]

def fn {F : FTy → Type} [FloatOps F] (main_arg0 : FVec F S4096x768 .f32) (main_arg1 : FVec F S4096x768 .f32) (main_arg2 : FVec F S4096x768 .f32) (main_arg3 : FVec F S4096x256 .f32) (main_arg4 : FVec F S4096x768 .f32) (main_arg5 : FVec F S4096x12 .f32) (main_arg6 : FVec F S1x12 .f32) : IVec S_ 1 :=
  let main_v0 : FVec F S4096x768 .f32 := Host.absf main_arg4
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x12 .f32 := Host.absf main_arg5
  let main_cst_0 : FVec F S_ .f32 := constant S_ .f32 0x7F800000#32
  let main_v5 : FVec F S4096x12 .f32 := broadcastInDim S4096x12 ![] bcast_S_S4096x12 main_cst_0
  let main_v6 : IVec S4096x12 1 := cmpf .olt main_v4 main_v5
  let main_c_1 : IVec S_ 1 := constantI S_ 1 1#1
  let main_v7 : IVec S_ 1 := (fun x v => Host.reduce IntOp.andi x v reducesTo_S4096x12_S_d0_1 h_S_) main_v6 main_c_1
  let main_v8 : IVec S_ 1 := andi main_v3 main_v7
  let main_v9 : FVec F S1x12 .f32 := Host.absf main_arg6
  let main_cst_2 : FVec F S_ .f32 := constant S_ .f32 0x7F800000#32
  let main_v10 : FVec F S1x12 .f32 := broadcastInDim S1x12 ![] bcast_S_S1x12 main_cst_2
  let main_v11 : IVec S1x12 1 := cmpf .olt main_v9 main_v10
  let main_c_3 : IVec S_ 1 := constantI S_ 1 1#1
  let main_v12 : IVec S_ 1 := (fun x v => Host.reduce IntOp.andi x v reducesTo_S1x12_S_d0_1 h_S_) main_v11 main_c_3
  let main_v13 : IVec S_ 1 := andi main_v8 main_v12
  main_v13
-- ==== Pre_ln_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) (main_arg3 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_mem_finite.lean ====
abbrev S4096x256 : Shape := ⟨2, ![4096, 256]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x256 .f32) (main_arg1 : FVec F S256x512 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Pre_memfwd_finite.lean ====
abbrev S4096x256 : Shape := ⟨2, ![4096, 256]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x256 .f32) (main_arg1 : FVec F S256x512 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== FoxKernel.lean ====
abbrev S4096x768 : Shape := ⟨2, ![4096, 768]⟩
abbrev S4096x12 : Shape := ⟨2, ![4096, 12]⟩
abbrev S_ : Shape := ⟨0, ![]⟩
abbrev S4096x12x64 : Shape := ⟨3, ![4096, 12, 64]⟩
abbrev S12x4096x4096 : Shape := ⟨3, ![12, 4096, 4096]⟩
abbrev S12x4096 : Shape := ⟨2, ![12, 4096]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x64x4096 : Shape := ⟨3, ![12, 64, 4096]⟩
abbrev S1x768 : Shape := ⟨2, ![1, 768]⟩
abbrev S4096x2304 : Shape := ⟨2, ![4096, 2304]⟩
abbrev S512x128 : Shape := ⟨2, ![512, 128]⟩
abbrev S4096x128 : Shape := ⟨2, ![4096, 128]⟩
abbrev S512x256 : Shape := ⟨2, ![512, 256]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S1x256 : Shape := ⟨2, ![1, 256]⟩

abbrev nBuf : Space → Nat
  | .hbm => 171
  | .vmem => 26
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x12, .f32⟩
  | 4 => ⟨S4096x768, .f32⟩
  | 5 => ⟨S_, .f32⟩
  | 6 => ⟨S4096x768, .f32⟩
  | 7 => ⟨S4096x768, .f32⟩
  | 8 => ⟨S_, .f32⟩
  | 9 => ⟨S_, .f32⟩
  | 10 => ⟨S4096x12, .f32⟩
  | 11 => ⟨S4096x12x64, .f32⟩
  | 12 => ⟨S4096x12x64, .f32⟩
  | 13 => ⟨S12x4096x4096, .f32⟩
  | 14 => ⟨S12x4096, .f32⟩
  | 15 => ⟨S12x4096x1, .f32⟩
  | 16 => ⟨S12x4096x4096, .f32⟩
  | 17 => ⟨S12x4096x4096, .f32⟩
  | 18 => ⟨S12x1x4096, .f32⟩
  | 19 => ⟨S12x4096x4096, .f32⟩
  | 20 => ⟨S12x4096x4096, .f32⟩
  | 21 => ⟨S4096, .i32⟩
  | 22 => ⟨S4096, .i32⟩
  | 23 => ⟨S1x4096, .i32⟩
  | 24 => ⟨S4096x1, .i32⟩
  | 25 => ⟨S4096x4096, .i32⟩
  | 26 => ⟨S4096x4096, .i32⟩
  | 27 => ⟨S4096x4096, .i1⟩
  | 28 => ⟨S_, .f32⟩
  | 29 => ⟨S_, .f32⟩
  | 30 => ⟨S12x4096x4096, .i1⟩
  | 31 => ⟨S12x4096x4096, .f32⟩
  | 32 => ⟨S12x4096x4096, .f32⟩
  | 33 => ⟨S_, .f32⟩
  | 34 => ⟨S12x4096, .f32⟩
  | 35 => ⟨S12x4096x1, .f32⟩
  | 36 => ⟨S12x4096x4096, .f32⟩
  | 37 => ⟨S12x4096x4096, .f32⟩
  | 38 => ⟨S12x4096x4096, .f32⟩
  | 39 => ⟨S_, .f32⟩
  | 40 => ⟨S12x4096, .f32⟩
  | 41 => ⟨S12x4096, .f32⟩
  | 42 => ⟨S12x4096, .f32⟩
  | 43 => ⟨S4096x12x64, .f32⟩
  | 44 => ⟨S4096x12x64, .f32⟩
  | 45 => ⟨S12x4096x4096, .f32⟩
  | 46 => ⟨S12x4096, .f32⟩
  | 47 => ⟨S12x4096x1, .f32⟩
  | 48 => ⟨S12x4096x4096, .f32⟩
  | 49 => ⟨S12x4096x4096, .f32⟩
  | 50 => ⟨S12x1x4096, .f32⟩
  | 51 => ⟨S12x4096x4096, .f32⟩
  | 52 => ⟨S12x4096x4096, .f32⟩
  | 53 => ⟨S4096, .i32⟩
  | 54 => ⟨S4096, .i32⟩
  | 55 => ⟨S1x4096, .i32⟩
  | 56 => ⟨S4096x1, .i32⟩
  | 57 => ⟨S4096x4096, .i32⟩
  | 58 => ⟨S4096x4096, .i32⟩
  | 59 => ⟨S4096x4096, .i1⟩
  | 60 => ⟨S_, .f32⟩
  | 61 => ⟨S_, .f32⟩
  | 62 => ⟨S12x4096x4096, .i1⟩
  | 63 => ⟨S12x4096x4096, .f32⟩
  | 64 => ⟨S12x4096x4096, .f32⟩
  | 65 => ⟨S_, .f32⟩
  | 66 => ⟨S12x4096, .f32⟩
  | 67 => ⟨S_, .f32⟩
  | 68 => ⟨S12x4096, .f32⟩
  | 69 => ⟨S12x4096, .f32⟩
  | 70 => ⟨S12x4096x1, .f32⟩
  | 71 => ⟨S12x4096x4096, .f32⟩
  | 72 => ⟨S12x4096x4096, .f32⟩
  | 73 => ⟨S12x4096x4096, .f32⟩
  | 74 => ⟨S_, .f32⟩
  | 75 => ⟨S12x4096, .f32⟩
  | 76 => ⟨S12x4096x1, .f32⟩
  | 77 => ⟨S12x4096x4096, .f32⟩
  | 78 => ⟨S12x4096x4096, .f32⟩
  | 79 => ⟨S4096x12x64, .f32⟩
  | 80 => ⟨S12x64x4096, .f32⟩
  | 81 => ⟨S4096x12x64, .f32⟩
  | 82 => ⟨S4096x768, .f32⟩
  | 83 => ⟨S4096x12, .f32⟩
  | 84 => ⟨S4096x12x64, .f32⟩
  | 85 => ⟨S4096x768, .f32⟩
  | 86 => ⟨S4096x12x64, .f32⟩
  | 87 => ⟨S4096x768, .f32⟩
  | 88 => ⟨S4096x768, .bf16⟩
  | 89 => ⟨S4096x768, .f32⟩
  | 90 => ⟨S4096x768, .f32⟩
  | 91 => ⟨S4096x768, .bf16⟩
  | 92 => ⟨S4096x768, .f32⟩
  | 93 => ⟨S4096x768, .f32⟩
  | 94 => ⟨S4096x768, .bf16⟩
  | 95 => ⟨S1x768, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S1x768, .i32⟩
  | 103 => ⟨S1x768, .i32⟩
  | 104 => ⟨S_, .i32⟩
  | 105 => ⟨S1x768, .i32⟩
  | 106 => ⟨S1x768, .i1⟩
  | 107 => ⟨S_, .i32⟩
  | 108 => ⟨S1x768, .i32⟩
  | 109 => ⟨S1x768, .i1⟩
  | 110 => ⟨S_, .i32⟩
  | 111 => ⟨S_, .i1⟩
  | 112 => ⟨S1x768, .i1⟩
  | 113 => ⟨S1x768, .i1⟩
  | 114 => ⟨S1x768, .i1⟩
  | 115 => ⟨S1x768, .i32⟩
  | 116 => ⟨S1x768, .i32⟩
  | 117 => ⟨S1x768, .i32⟩
  | 118 => ⟨S_, .bf16⟩
  | 119 => ⟨S4096x768, .bf16⟩
  | 120 => ⟨S_, .bf16⟩
  | 121 => ⟨S4096x768, .bf16⟩
  | 122 => ⟨S_, .i32⟩
  | 123 => ⟨S1x768, .i32⟩
  | 124 => ⟨S1x768, .i1⟩
  | 125 => ⟨S_, .i32⟩
  | 126 => ⟨S1x768, .i32⟩
  | 127 => ⟨S1x768, .i1⟩
  | _ => ⟨S4096x768, .f32⟩

abbrev hbmTy0_1 (i : Nat) : BufTy := match i % 128 with
  | 0 => ⟨S_, .i32⟩
  | 1 => ⟨S1x768, .i32⟩
  | 2 => ⟨S1x768, .i1⟩
  | 3 => ⟨S_, .i32⟩
  | 4 => ⟨S1x768, .i32⟩
  | 5 => ⟨S1x768, .i1⟩
  | 6 => ⟨S4096x768, .i1⟩
  | 7 => ⟨S4096x768, .bf16⟩
  | 8 => ⟨S4096x768, .i1⟩
  | 9 => ⟨S4096x768, .bf16⟩
  | 10 => ⟨S4096x768, .i1⟩
  | 11 => ⟨S4096x768, .bf16⟩
  | 12 => ⟨S4096x768, .i1⟩
  | 13 => ⟨S4096x768, .bf16⟩
  | 14 => ⟨S_, .i32⟩
  | 15 => ⟨S1x768, .i32⟩
  | 16 => ⟨S1x768, .i1⟩
  | 17 => ⟨S_, .i32⟩
  | 18 => ⟨S1x768, .i32⟩
  | 19 => ⟨S1x768, .i1⟩
  | 20 => ⟨S4096x768, .bf16⟩
  | 21 => ⟨S_, .i32⟩
  | 22 => ⟨S1x768, .i32⟩
  | 23 => ⟨S1x768, .i1⟩
  | 24 => ⟨S4096x768, .bf16⟩
  | 25 => ⟨S_, .i32⟩
  | 26 => ⟨S1x768, .i32⟩
  | 27 => ⟨S1x768, .i1⟩
  | 28 => ⟨S4096x768, .bf16⟩
  | 29 => ⟨S4096x768, .i1⟩
  | 30 => ⟨S4096x768, .bf16⟩
  | 31 => ⟨S4096x768, .i1⟩
  | 32 => ⟨S4096x768, .bf16⟩
  | 33 => ⟨S4096x768, .i1⟩
  | 34 => ⟨S4096x768, .bf16⟩
  | 35 => ⟨S4096x768, .i1⟩
  | 36 => ⟨S4096x768, .bf16⟩
  | 37 => ⟨S4096x2304, .f32⟩
  | 38 => ⟨S4096x2304, .bf16⟩
  | 39 => ⟨S4096x768, .f32⟩
  | 40 => ⟨S4096x768, .f32⟩
  | 41 => ⟨S4096x768, .f32⟩
  | 42 => ⟨S4096x768, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S4096x128, .f32⟩
  | .local _ .vmem, ⟨23, _⟩ => ⟨S4096x128, .f32⟩
  | .local _ .vmem, ⟨24, _⟩ => ⟨S512x256, .f32⟩
  | .local _ .vmem, ⟨25, _⟩ => ⟨S512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_1 : Ref sig .tc := ⟨.hbm, 104, rfl⟩
abbrev main_call3_v5 : Ref sig .tc := ⟨.hbm, 105, rfl⟩
abbrev main_call3_v6 : Ref sig .tc := ⟨.hbm, 106, rfl⟩
abbrev main_call3_c_2 : Ref sig .tc := ⟨.hbm, 107, rfl⟩
abbrev main_call3_v7 : Ref sig .tc := ⟨.hbm, 108, rfl⟩
abbrev main_call3_v8 : Ref sig .tc := ⟨.hbm, 109, rfl⟩
abbrev main_call3_c_3 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_v75 : Ref sig .tc := ⟨.hbm, 117, rfl⟩
abbrev main_cst_7 : Ref sig .tc := ⟨.hbm, 118, rfl⟩
abbrev main_v76 : Ref sig .tc := ⟨.hbm, 119, rfl⟩
abbrev main_cst_8 : Ref sig .tc := ⟨.hbm, 120, rfl⟩
abbrev main_v77 : Ref sig .tc := ⟨.hbm, 121, rfl⟩
abbrev main_c_9 : Ref sig .tc := ⟨.hbm, 122, rfl⟩
abbrev main_v78 : Ref sig .tc := ⟨.hbm, 123, rfl⟩
abbrev main_v79 : Ref sig .tc := ⟨.hbm, 124, rfl⟩
abbrev main_c_10 : Ref sig .tc := ⟨.hbm, 125, rfl⟩
abbrev main_v80 : Ref sig .tc := ⟨.hbm, 126, rfl⟩
abbrev main_v81 : Ref sig .tc := ⟨.hbm, 127, rfl⟩
abbrev main_c_11 : Ref sig .tc := ⟨.hbm, 128, rfl⟩
abbrev main_v82 : Ref sig .tc := ⟨.hbm, 129, rfl⟩
abbrev main_v83 : Ref sig .tc := ⟨.hbm, 130, rfl⟩
abbrev main_c_12 : Ref sig .tc := ⟨.hbm, 131, rfl⟩
abbrev main_v84 : Ref sig .tc := ⟨.hbm, 132, rfl⟩
abbrev main_v85 : Ref sig .tc := ⟨.hbm, 133, rfl⟩
abbrev main_call4_v0 : Ref sig .tc := ⟨.hbm, 134, rfl⟩
abbrev main_v86 : Ref sig .tc := ⟨.hbm, 135, rfl⟩
abbrev main_call5_v0 : Ref sig .tc := ⟨.hbm, 136, rfl⟩
abbrev main_v87 : Ref sig .tc := ⟨.hbm, 137, rfl⟩
abbrev main_call6_v0 : Ref sig .tc := ⟨.hbm, 138, rfl⟩
abbrev main_v88 : Ref sig .tc := ⟨.hbm, 139, rfl⟩
abbrev main_call7_v0 : Ref sig .tc := ⟨.hbm, 140, rfl⟩
abbrev main_v89 : Ref sig .tc := ⟨.hbm, 141, rfl⟩
abbrev main_c_13 : Ref sig .tc := ⟨.hbm, 142, rfl⟩
abbrev main_v90 : Ref sig .tc := ⟨.hbm, 143, rfl⟩
abbrev main_v91 : Ref sig .tc := ⟨.hbm, 144, rfl⟩
abbrev main_c_14 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_c_15 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_16 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_call8_v0 : Ref sig .tc := ⟨.hbm, 157, rfl⟩
abbrev main_v101 : Ref sig .tc := ⟨.hbm, 158, rfl⟩
abbrev main_call9_v0 : Ref sig .tc := ⟨.hbm, 159, rfl⟩
abbrev main_v102 : Ref sig .tc := ⟨.hbm, 160, rfl⟩
abbrev main_call10_v0 : Ref sig .tc := ⟨.hbm, 161, rfl⟩
abbrev main_v103 : Ref sig .tc := ⟨.hbm, 162, rfl⟩
abbrev main_call11_v0 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107_0 : Ref sig .tc := ⟨.hbm, 167, rfl⟩
abbrev main_v107_1 : Ref sig .tc := ⟨.hbm, 168, rfl⟩
abbrev main_v107_2 : Ref sig .tc := ⟨.hbm, 169, rfl⟩
abbrev main_v107_3 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![6, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sge arg2 arg1
  let v9 : BitVec 1 := Scalar.cmpi .eq arg2 arg1
  let v10 : BitVec 1 := Scalar.andi v8 v9
  let v11 : BitVec 32 := Scalar.extui v10
  let c0_i32_4 : BitVec 32 := 0#32
  let v12 : BitVec 1 := Scalar.cmpi .ne v11 c0_i32_4
  v12

def k0_mult1 (i : grid0.Coords) : BitVec 32 :=
  let arg2 : BitVec 32 := BitVec.ofNat 32 (i 2).val
  let c512_i32_84 : BitVec 32 := 512#32
  let v224 : BitVec 32 := Scalar.muli arg2 c512_i32_84
  v224
def k0_off1 (i : grid0.Coords) : Fin 2 → Nat :=
  let arg2 : BitVec 32 := BitVec.ofNat 32 (i 2).val
  let c512_i32_84 : BitVec 32 := 512#32
  let v224 : BitVec 32 := Scalar.muli arg2 c512_i32_84
  let v225 : BitVec 32 := v224
  let v226 : Index := Scalar.indexCast v225
  let c0_85 : Index := 0#32
  ![v226.toNat, 0]
def k0_cond4 (i : grid0.Coords) : BitVec 1 :=
  let arg2 : BitVec 32 := BitVec.ofNat 32 (i 2).val
  let arg1 : BitVec 32 := BitVec.ofNat 32 (i 1).val
  let v8 : BitVec 1 := Scalar.cmpi .sge arg2 arg1
  let v9 : BitVec 1 := Scalar.cmpi .eq arg2 arg1
  let v_true : BitVec 1 := 1#1
  let v13 : BitVec 1 := Scalar.xori v9 v_true
  let v14 : BitVec 1 := Scalar.andi v8 v13
  let v15 : BitVec 32 := Scalar.extui v14
  let c0_i32_5 : BitVec 32 := 0#32
  let v16 : BitVec 1 := Scalar.cmpi .ne v15 c0_i32_5
  v16

def k0_mult2 (i : grid0.Coords) : BitVec 32 :=
  let arg2 : BitVec 32 := BitVec.ofNat 32 (i 2).val
  let c512_i32 : BitVec 32 := 512#32
  let v211 : BitVec 32 := Scalar.muli arg2 c512_i32
  v211
def k0_off2 (i : grid0.Coords) : Fin 2 → Nat :=
  let arg2 : BitVec 32 := BitVec.ofNat 32 (i 2).val
  let c512_i32 : BitVec 32 := 512#32
  let v211 : BitVec 32 := Scalar.muli arg2 c512_i32
  let v212 : BitVec 32 := v211
  let v213 : Index := Scalar.indexCast v212
  let c0_81 : Index := 0#32
  ![v213.toNat, 0]
def k0_cond5 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== FoxKernelIdeal.lean ====
variable {F : FTy → Type} [FloatOps F] [Named F]
def κ : String → Option EReal := fun
  | "mask" => some ⊥
  | _ => none
-- ==== FoxReferenceIdeal.lean ====
abbrev S4096x768 : Shape := ⟨2, ![4096, 768]⟩
abbrev S4096x12 : Shape := ⟨2, ![4096, 12]⟩
abbrev S_ : Shape := ⟨0, ![]⟩
abbrev S4096x12x64 : Shape := ⟨3, ![4096, 12, 64]⟩
abbrev S12x4096x4096 : Shape := ⟨3, ![12, 4096, 4096]⟩
abbrev S12x4096 : Shape := ⟨2, ![12, 4096]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x64x4096 : Shape := ⟨3, ![12, 64, 4096]⟩
abbrev S12x4096x64 : Shape := ⟨3, ![12, 4096, 64]⟩

abbrev nBuf : Space → Nat
  | .hbm => 122
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x12, .f32⟩
  | .hbm, ⟨4, _⟩ => ⟨S4096x768, .f32⟩
  | .hbm, ⟨5, _⟩ => ⟨S_, .f32⟩
  | .hbm, ⟨6, _⟩ => ⟨S_, .f32⟩
  | .hbm, ⟨7, _⟩ => ⟨S4096x12, .f32⟩
  | .hbm, ⟨8, _⟩ => ⟨S_, .f32⟩
  | .hbm, ⟨9, _⟩ => ⟨S4096x768, .f32⟩
  | .hbm, ⟨10, _⟩ => ⟨S4096x768, .f32⟩
  | .hbm, ⟨11, _⟩ => ⟨S4096x12x64, .f32⟩
  | .hbm, ⟨12, _⟩ => ⟨S4096x12x64, .f32⟩
  | .hbm, ⟨13, _⟩ => ⟨S12x4096x4096, .f32⟩
  | .hbm, ⟨14, _⟩ => ⟨S12x4096, .f32⟩
  | .hbm, ⟨15, _⟩ => ⟨S12x4096x1, .f32⟩
  | .hbm, ⟨16, _⟩ => ⟨S12x4096x4096, .f32⟩
  | .hbm, ⟨17, _⟩ => ⟨S12x4096x4096, .f32⟩
  | .hbm, ⟨18, _⟩ => ⟨S12x1x4096, .f32⟩
  | .hbm, ⟨19, _⟩ => ⟨S12x4096x4096, .f32⟩
  | .hbm, ⟨20, _⟩ => ⟨S12x4096x4096, .f32⟩
  | .hbm, ⟨21, _⟩ => ⟨S4096, .i32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S12x4096x4096, .i1⟩
  | .hbm, ⟨31, _⟩ => ⟨S12x4096x4096, .f32⟩
  | .hbm, ⟨32, _⟩ => ⟨S12x4096x4096, .f32⟩
  | .hbm, ⟨33, _⟩ => ⟨S_, .f32⟩
  | .hbm, ⟨34, _⟩ => ⟨S12x4096x4096, .f32⟩
  | .hbm, ⟨35, _⟩ => ⟨S_, .f32⟩
  | .hbm, ⟨36, _⟩ => ⟨S12x4096, .f32⟩
  | .hbm, ⟨37, _⟩ => ⟨S12x4096x1, .f32⟩
  | .hbm, ⟨38, _⟩ => ⟨S12x4096x4096, .f32⟩
  | .hbm, ⟨39, _⟩ => ⟨S12x4096x4096, .i1⟩
  | .hbm, ⟨40, _⟩ => ⟨S12x4096x4096, .f32⟩
  | .hbm, ⟨41, _⟩ => ⟨S_, .f32⟩
  | .hbm, ⟨42, _⟩ => ⟨S12x4096, .f32⟩
  | .hbm, ⟨43, _⟩ => ⟨S_, .f32⟩
  | .hbm, ⟨44, _⟩ => ⟨S12x4096, .f32⟩
  | .hbm, ⟨45, _⟩ => ⟨S12x4096, .f32⟩
  | .hbm, ⟨46, _⟩ => ⟨S_, .f32⟩
  | .hbm, ⟨47, _⟩ => ⟨S12x4096, .f32⟩
  | .hbm, ⟨48, _⟩ => ⟨S12x4096, .i1⟩
  | .hbm, ⟨49, _⟩ => ⟨S_, .f32⟩
  | .hbm, ⟨50, _⟩ => ⟨S12x4096, .f32⟩
  | .hbm, ⟨51, _⟩ => ⟨S12x4096, .i1⟩
  | .hbm, ⟨52, _⟩ => ⟨S_, .f32⟩
  | .hbm, ⟨53, _⟩ => ⟨S12x4096, .f32⟩
  | .hbm, ⟨54, _⟩ => ⟨S_, .f32⟩
  | .hbm, ⟨55, _⟩ => ⟨S12x4096, .f32⟩
  | .hbm, ⟨56, _⟩ => ⟨S_, .f32⟩
  | .hbm, ⟨57, _⟩ => ⟨S12x4096, .f32⟩
  | .hbm, ⟨58, _⟩ => ⟨S12x4096, .f32⟩
  | .hbm, ⟨59, _⟩ => ⟨S12x4096, .f32⟩
  | .hbm, ⟨60, _⟩ => ⟨S12x4096x1, .f32⟩
  | .hbm, ⟨61, _⟩ => ⟨S12x4096x4096, .f32⟩
  | .hbm, ⟨62, _⟩ => ⟨S12x4096x4096, .f32⟩
  | .hbm, ⟨63, _⟩ => ⟨S12x4096x4096, .f32⟩
  | .hbm, ⟨64, _⟩ => ⟨S_, .f32⟩
  | .hbm, ⟨65, _⟩ => ⟨S12x4096, .f32⟩
  | .hbm, ⟨66, _⟩ => ⟨S12x4096x1, .f32⟩
  | .hbm, ⟨67, _⟩ => ⟨S12x4096x4096, .f32⟩
  | .hbm, ⟨68, _⟩ => ⟨S12x4096x4096, .f32⟩
  | .hbm, ⟨69, _⟩ => ⟨S12x4096x1, .f32⟩
  | .hbm, ⟨70, _⟩ => ⟨S_, .f32⟩
  | .hbm, ⟨71, _⟩ => ⟨S12x4096x1, .f32⟩
  | .hbm, ⟨72, _⟩ => ⟨S12x4096x1, .f32⟩
  | .hbm, ⟨73, _⟩ => ⟨S4096x12x64, .f32⟩
  | .hbm, ⟨74, _⟩ => ⟨S12x64x4096, .f32⟩
  | .hbm, ⟨75, _⟩ => ⟨S4096x12x64, .f32⟩
  | .hbm, ⟨76, _⟩ => ⟨S4096x768, .f32⟩
  | .hbm, ⟨77, _⟩ => ⟨S4096x12x64, .f32⟩
  | .hbm, ⟨78, _⟩ => ⟨S12x64x4096, .f32⟩
  | .hbm, ⟨79, _⟩ => ⟨S12x4096x4096, .f32⟩
  | .hbm, ⟨80, _⟩ => ⟨S12x64x4096, .f32⟩
  | .hbm, ⟨81, _⟩ => ⟨S4096x12x64, .f32⟩
  | .hbm, ⟨82, _⟩ => ⟨S4096x768, .f32⟩
  | .hbm, ⟨83, _⟩ => ⟨S12x4096x4096, .f32⟩
  | .hbm, ⟨84, _⟩ => ⟨S12x4096x4096, .f32⟩
  | .hbm, ⟨85, _⟩ => ⟨S12x4096x4096, .f32⟩
  | .hbm, ⟨86, _⟩ => ⟨S_, .f32⟩
  | .hbm, ⟨87, _⟩ => ⟨S12x4096, .f32⟩
  | .hbm, ⟨88, _⟩ => ⟨S12x4096x1, .f32⟩
  | .hbm, ⟨89, _⟩ => ⟨S12x4096x1, .f32⟩
  | .hbm, ⟨90, _⟩ => ⟨S12x4096x4096, .f32⟩
  | .hbm, ⟨91, _⟩ => ⟨S12x4096x4096, .f32⟩
  | .hbm, ⟨92, _⟩ => ⟨S_, .f32⟩
  | .hbm, ⟨93, _⟩ => ⟨S12x4096, .f32⟩
  | .hbm, ⟨94, _⟩ => ⟨S12x4096x4096, .f32⟩
  | .hbm, ⟨95, _⟩ => ⟨S12x4096x4096, .f32⟩
  | .hbm, ⟨96, _⟩ => ⟨S12x4096x4096, .f32⟩
  | .hbm, ⟨97, _⟩ => ⟨S_, .f32⟩
  | .hbm, ⟨98, _⟩ => ⟨S12x4096x4096, .f32⟩
  | .hbm, ⟨99, _⟩ => ⟨S12x4096x4096, .f32⟩
  | .hbm, ⟨100, _⟩ => ⟨S12x4096x4096, .f32⟩
  | .hbm, ⟨101, _⟩ => ⟨S_, .f32⟩
  | .hbm, ⟨102, _⟩ => ⟨S12x4096, .f32⟩
  | .hbm, ⟨103, _⟩ => ⟨S12x1x4096, .f32⟩
  | .hbm, ⟨104, _⟩ => ⟨S_, .f32⟩
  | .hbm, ⟨105, _⟩ => ⟨S12x4096, .f32⟩
  | .hbm, ⟨106, _⟩ => ⟨S_, .f32⟩
  | .hbm, ⟨107, _⟩ => ⟨S12x4096, .f32⟩
  | .hbm, ⟨108, _⟩ => ⟨S12x4096x1, .f32⟩
  | .hbm, ⟨109, _⟩ => ⟨S_, .f32⟩
  | .hbm, ⟨110, _⟩ => ⟨S12x4096, .f32⟩
  | .hbm, ⟨111, _⟩ => ⟨S12x4096, .f32⟩
  | .hbm, ⟨112, _⟩ => ⟨S4096x12, .f32⟩
  | .hbm, ⟨113, _⟩ => ⟨S12x4096x64, .f32⟩
  | .hbm, ⟨114, _⟩ => ⟨S4096x12x64, .f32⟩
  | .hbm, ⟨115, _⟩ => ⟨S12x4096x64, .f32⟩
  | .hbm, ⟨116, _⟩ => ⟨S4096x12x64, .f32⟩
  | .hbm, ⟨117, _⟩ => ⟨S4096x768, .f32⟩
  | .hbm, ⟨118, _⟩ => ⟨S4096x768, .f32⟩
  | .hbm, ⟨119, _⟩ => ⟨S4096x12, .f32⟩
  | .hbm, ⟨120, _⟩ => ⟨S4096x12x64, .f32⟩
  | .hbm, ⟨121, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_v20_1 : Ref sig .tc := ⟨.hbm, 30, rfl⟩
abbrev main_call1_v2 : Ref sig .tc := ⟨.hbm, 31, rfl⟩
abbrev main_v20_0 : Ref sig .tc := ⟨.hbm, 32, rfl⟩
abbrev main_call1_cst : Ref sig .tc := ⟨.hbm, 33, rfl⟩
abbrev main_v20_2 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call2_cst : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== GateKernel.lean ====
abbrev S4096x768 : Shape := ⟨2, ![4096, 768]⟩
abbrev S4096x256 : Shape := ⟨2, ![4096, 256]⟩
abbrev S4096x12 : Shape := ⟨2, ![4096, 12]⟩
abbrev S1x12 : Shape := ⟨2, ![1, 12]⟩
abbrev S_ : Shape := ⟨0, ![]⟩
abbrev S4096x12x64 : Shape := ⟨3, ![4096, 12, 64]⟩
abbrev S4096x3328 : Shape := ⟨2, ![4096, 3328]⟩
abbrev S1x768 : Shape := ⟨2, ![1, 768]⟩
abbrev S256x768 : Shape := ⟨2, ![256, 768]⟩
abbrev S256x256 : Shape := ⟨2, ![256, 256]⟩
abbrev S256x3328 : Shape := ⟨2, ![256, 3328]⟩
abbrev S1x128 : Shape := ⟨2, ![1, 128]⟩
abbrev S256x128 : Shape := ⟨2, ![256, 128]⟩
abbrev S256x1 : Shape := ⟨2, ![256, 1]⟩
abbrev S768 : Shape := ⟨1, ![768]⟩

abbrev nBuf : Space → Nat
  | .hbm => 29
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x768, .f32⟩
  | .hbm, ⟨5, _⟩ => ⟨S4096x12, .f32⟩
  | .hbm, ⟨6, _⟩ => ⟨S1x12, .f32⟩
  | .hbm, ⟨7, _⟩ => ⟨S4096x12, .f32⟩
  | .hbm, ⟨8, _⟩ => ⟨S4096x12, .f32⟩
  | .hbm, ⟨9, _⟩ => ⟨S4096x12, .f32⟩
  | .hbm, ⟨10, _⟩ => ⟨S_, .f32⟩
  | .hbm, ⟨11, _⟩ => ⟨S4096x12, .f32⟩
  | .hbm, ⟨12, _⟩ => ⟨S4096x12, .f32⟩
  | .hbm, ⟨13, _⟩ => ⟨S4096x12, .f32⟩
  | .hbm, ⟨14, _⟩ => ⟨S4096x12, .f32⟩
  | .hbm, ⟨15, _⟩ => ⟨S4096x12, .i1⟩
  | .hbm, ⟨16, _⟩ => ⟨S4096x12, .f32⟩
  | .hbm, ⟨17, _⟩ => ⟨S4096x12, .f32⟩
  | .hbm, ⟨18, _⟩ => ⟨S4096x12, .f32⟩
  | .hbm, ⟨19, _⟩ => ⟨S4096x12, .f32⟩
  | .hbm, ⟨20, _⟩ => ⟨S4096x12, .f32⟩
  | .hbm, ⟨21, _⟩ => ⟨S4096x12, .f32⟩
  | .hbm, ⟨22, _⟩ => ⟨S4096x12, .f32⟩
  | .hbm, ⟨23, _⟩ => ⟨S4096x12, .f32⟩
  | .hbm, ⟨24, _⟩ => ⟨S4096x12, .f32⟩
  | .hbm, ⟨25, _⟩ => ⟨S4096x12x64, .f32⟩
  | .hbm, ⟨26, _⟩ => ⟨S4096x768, .f32⟩
  | .hbm, ⟨27, _⟩ => ⟨S4096x3328, .bf16⟩
  | .hbm, ⟨28, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x256, .f32⟩
  | .local _ .vmem, ⟨7, _⟩ => ⟨S256x256, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x3328, .bf16⟩
  | .local _ .vmem, ⟨13, _⟩ => ⟨S256x3328, .bf16⟩
  | .local _ .vmem, ⟨14, _⟩ => ⟨S1x768, .f32⟩
  | .local _ .vmem, ⟨15, _⟩ => ⟨S1x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5_0 : Ref sig .tc := ⟨.hbm, 27, rfl⟩
abbrev main_v5_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3328 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateReferenceIdeal.lean ====
abbrev S4096x768 : Shape := ⟨2, ![4096, 768]⟩
abbrev S4096x256 : Shape := ⟨2, ![4096, 256]⟩
abbrev S4096x12 : Shape := ⟨2, ![4096, 12]⟩
abbrev S1x12 : Shape := ⟨2, ![1, 12]⟩
abbrev S4096x12x64 : Shape := ⟨3, ![4096, 12, 64]⟩
abbrev S4096x12x1 : Shape := ⟨3, ![4096, 12, 1]⟩
abbrev S_ : Shape := ⟨0, ![]⟩
abbrev S12 : Shape := ⟨1, ![12]⟩
abbrev S4096x3328 : Shape := ⟨2, ![4096, 3328]⟩
abbrev S1x12x1 : Shape := ⟨3, ![1, 12, 1]⟩
abbrev S1x12x64 : Shape := ⟨3, ![1, 12, 64]⟩
abbrev S1x768 : Shape := ⟨2, ![1, 768]⟩

abbrev nBuf : Space → Nat
  | .hbm => 101
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x768, .f32⟩
  | .hbm, ⟨5, _⟩ => ⟨S4096x12, .f32⟩
  | .hbm, ⟨6, _⟩ => ⟨S1x12, .f32⟩
  | .hbm, ⟨7, _⟩ => ⟨S4096x12x64, .f32⟩
  | .hbm, ⟨8, _⟩ => ⟨S4096x12x1, .f32⟩
  | .hbm, ⟨9, _⟩ => ⟨S4096x12, .f32⟩
  | .hbm, ⟨10, _⟩ => ⟨S4096x12, .f32⟩
  | .hbm, ⟨11, _⟩ => ⟨S_, .f32⟩
  | .hbm, ⟨12, _⟩ => ⟨S4096x768, .f32⟩
  | .hbm, ⟨13, _⟩ => ⟨S_, .f32⟩
  | .hbm, ⟨14, _⟩ => ⟨S4096x256, .f32⟩
  | .hbm, ⟨15, _⟩ => ⟨S4096x12, .f32⟩
  | .hbm, ⟨16, _⟩ => ⟨S4096x12, .f32⟩
  | .hbm, ⟨17, _⟩ => ⟨S4096x12, .f32⟩
  | .hbm, ⟨18, _⟩ => ⟨S_, .f32⟩
  | .hbm, ⟨19, _⟩ => ⟨S4096x12, .f32⟩
  | .hbm, ⟨20, _⟩ => ⟨S4096x12, .f32⟩
  | .hbm, ⟨21, _⟩ => ⟨S4096x12, .f32⟩
  | .hbm, ⟨22, _⟩ => ⟨S4096x12, .f32⟩
  | .hbm, ⟨23, _⟩ => ⟨S4096x12, .i1⟩
  | .hbm, ⟨24, _⟩ => ⟨S4096x12, .f32⟩
  | .hbm, ⟨25, _⟩ => ⟨S4096x12, .f32⟩
  | .hbm, ⟨26, _⟩ => ⟨S4096x12, .f32⟩
  | .hbm, ⟨27, _⟩ => ⟨S4096x12, .f32⟩
  | .hbm, ⟨28, _⟩ => ⟨S4096x12, .f32⟩
  | .hbm, ⟨29, _⟩ => ⟨S4096x12, .f32⟩
  | .hbm, ⟨30, _⟩ => ⟨S4096x12, .f32⟩
  | .hbm, ⟨31, _⟩ => ⟨S4096x12, .f32⟩
  | .hbm, ⟨32, _⟩ => ⟨S_, .f32⟩
  | .hbm, ⟨33, _⟩ => ⟨S4096x12, .f32⟩
  | .hbm, ⟨34, _⟩ => ⟨S4096x12, .i1⟩
  | .hbm, ⟨35, _⟩ => ⟨S_, .f32⟩
  | .hbm, ⟨36, _⟩ => ⟨S4096x12, .f32⟩
  | .hbm, ⟨37, _⟩ => ⟨S4096x12, .f32⟩
  | .hbm, ⟨38, _⟩ => ⟨S_, .f32⟩
  | .hbm, ⟨39, _⟩ => ⟨S4096x12, .f32⟩
  | .hbm, ⟨40, _⟩ => ⟨S4096x12, .i1⟩
  | .hbm, ⟨41, _⟩ => ⟨S_, .f32⟩
  | .hbm, ⟨42, _⟩ => ⟨S4096x12, .f32⟩
  | .hbm, ⟨43, _⟩ => ⟨S4096x12, .f32⟩
  | .hbm, ⟨44, _⟩ => ⟨S4096x12, .f32⟩
  | .hbm, ⟨45, _⟩ => ⟨S4096x12, .f32⟩
  | .hbm, ⟨46, _⟩ => ⟨S_, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x12, .f32⟩
  | .hbm, ⟨54, _⟩ => ⟨S4096x12, .i1⟩
  | .hbm, ⟨55, _⟩ => ⟨S_, .f32⟩
  | .hbm, ⟨56, _⟩ => ⟨S4096x12, .f32⟩
  | .hbm, ⟨57, _⟩ => ⟨S4096x12, .f32⟩
  | .hbm, ⟨58, _⟩ => ⟨S4096x12, .f32⟩
  | .hbm, ⟨59, _⟩ => ⟨S4096x12, .f32⟩
  | .hbm, ⟨60, _⟩ => ⟨S4096x12, .f32⟩
  | .hbm, ⟨61, _⟩ => ⟨S_, .f32⟩
  | .hbm, ⟨62, _⟩ => ⟨S4096x12, .f32⟩
  | .hbm, ⟨63, _⟩ => ⟨S4096x12, .f32⟩
  | .hbm, ⟨64, _⟩ => ⟨S4096x12, .f32⟩
  | .hbm, ⟨65, _⟩ => ⟨S_, .f32⟩
  | .hbm, ⟨66, _⟩ => ⟨S4096x768, .f32⟩
  | .hbm, ⟨67, _⟩ => ⟨S4096x768, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S_, .f32⟩
  | .hbm, ⟨73, _⟩ => ⟨S4096x12, .f32⟩
  | .hbm, ⟨74, _⟩ => ⟨S_, .f32⟩
  | .hbm, ⟨75, _⟩ => ⟨S_, .f32⟩
  | .hbm, ⟨76, _⟩ => ⟨S4096x12, .f32⟩
  | .hbm, ⟨77, _⟩ => ⟨S_, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S4096x768, .f32⟩
  | .hbm, ⟨82, _⟩ => ⟨S4096x768, .f32⟩
  | .hbm, ⟨83, _⟩ => ⟨S4096x12, .f32⟩
  | .hbm, ⟨84, _⟩ => ⟨S4096x12, .f32⟩
  | .hbm, ⟨85, _⟩ => ⟨S4096x12, .f32⟩
  | .hbm, ⟨86, _⟩ => ⟨S_, .f32⟩
  | .hbm, ⟨87, _⟩ => ⟨S12, .f32⟩
  | .hbm, ⟨88, _⟩ => ⟨S1x12, .f32⟩
  | .hbm, ⟨89, _⟩ => ⟨S4096x12x1, .f32⟩
  | .hbm, ⟨90, _⟩ => ⟨S_, .i32⟩
  | .hbm, ⟨91, _⟩ => ⟨S_, .f32⟩
  | .hbm, ⟨92, _⟩ => ⟨S4096x12x64, .f32⟩
  | .hbm, ⟨93, _⟩ => ⟨S4096x768, .f32⟩
  | .hbm, ⟨94, _⟩ => ⟨S4096x3328, .f32⟩
  | .hbm, ⟨95, _⟩ => ⟨S4096x3328, .bf16⟩
  | .hbm, ⟨96, _⟩ => ⟨S1x12x1, .f32⟩
  | .hbm, ⟨97, _⟩ => ⟨S_, .i32⟩
  | .hbm, ⟨98, _⟩ => ⟨S_, .f32⟩
  | .hbm, ⟨99, _⟩ => ⟨S1x12x64, .f32⟩
  | .hbm, ⟨100, _⟩ => ⟨S1x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v8_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v8_2 : Ref sig .tc := ⟨.hbm, 63, rfl⟩
abbrev main_v8_0 : Ref sig .tc := ⟨.hbm, 64, rfl⟩
abbrev main_cst_1 : Ref sig .tc := ⟨.hbm, 65, rfl⟩
abbrev main_v9 : Ref sig .tc := ⟨.hbm, 66, rfl⟩
abbrev main_v10 : Ref sig .tc := ⟨.hbm, 67, rfl⟩
abbrev main_cst_2 : Ref sig .tc := ⟨.hbm, 68, rfl⟩
abbrev main_v11 : Ref sig .tc := ⟨.hbm, 69, rfl⟩
abbrev main_v12 : Ref sig .tc := ⟨.hbm, 70, rfl⟩
abbrev main_call1_call0_cst : Ref sig .tc := ⟨.hbm, 71, rfl⟩
abbrev main_call1_call0_v0 : Ref sig .tc := ⟨.hbm, 72, rfl⟩
abbrev main_v13 : Ref sig .tc := ⟨.hbm, 73, rfl⟩
abbrev main_call2_call0_cst : Ref sig .tc := ⟨.hbm, 74, rfl⟩
abbrev main_call2_call0_v0 : Ref sig .tc := ⟨.hbm, 75, rfl⟩
abbrev main_v14 : Ref sig .tc := ⟨.hbm, 76, rfl⟩
abbrev main_cst_3 : Ref sig .tc := ⟨.hbm, 77, rfl⟩
abbrev main_v15 : Ref sig .tc := ⟨.hbm, 78, rfl⟩
abbrev main_v16 : Ref sig .tc := ⟨.hbm, 79, rfl⟩
abbrev main_cst_4 : Ref sig .tc := ⟨.hbm, 80, rfl⟩
abbrev main_v17 : Ref sig .tc := ⟨.hbm, 81, rfl⟩
abbrev main_v18 : Ref sig .tc := ⟨.hbm, 82, rfl⟩
abbrev main_call3_v0 : Ref sig .tc := ⟨.hbm, 83, rfl⟩
abbrev main_call3_v1 : Ref sig .tc := ⟨.hbm, 84, rfl⟩
abbrev main_v19 : Ref sig .tc := ⟨.hbm, 85, rfl⟩
abbrev main_cst_5 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_c : Ref sig .tc := ⟨.hbm, 90, rfl⟩
abbrev main_call4_v0 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_c_6 : Ref sig .tc := ⟨.hbm, 97, rfl⟩
abbrev main_call5_v0 : Ref sig .tc := ⟨.hbm, 98, rfl⟩
abbrev main_v28 : Ref sig .tc := ⟨.hbm, 99, rfl⟩
abbrev main_v29 : Ref sig .tc := ⟨.hbm, 100, rfl⟩

abbrev nD : Nat := 1
abbrev τ : Topo := Topo.v7x

variable {F : FTy → Type} [FloatOps F]
-- ==== Band0DqKernel.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S4096x2560 : Shape := ⟨2, ![4096, 2560]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S128x1 : Shape := ⟨2, ![128, 1]⟩

abbrev nBuf : Space → Nat
  | .hbm => 105
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x768, .f32⟩
  | .hbm, ⟨7, _⟩ => ⟨S4096x768, .f32⟩
  | .hbm, ⟨8, _⟩ => ⟨S4096x12x64, .f32⟩
  | .hbm, ⟨9, _⟩ => ⟨S4096x12x64, .f32⟩
  | .hbm, ⟨10, _⟩ => ⟨S12x4096x4096, .f32⟩
  | .hbm, ⟨11, _⟩ => ⟨S4096, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i1⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S_, .i32⟩
  | .hbm, ⟨21, _⟩ => ⟨S12, .i32⟩
  | .hbm, ⟨22, _⟩ => ⟨S12, .i32⟩
  | .hbm, ⟨23, _⟩ => ⟨S12, .i32⟩
  | .hbm, ⟨24, _⟩ => ⟨S_, .i32⟩
  | .hbm, ⟨25, _⟩ => ⟨S12, .i32⟩
  | .hbm, ⟨26, _⟩ => ⟨S12, .i32⟩
  | .hbm, ⟨27, _⟩ => ⟨S12x1x1, .i32⟩
  | .hbm, ⟨28, _⟩ => ⟨S12x4096x4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S1x4096x4096, .i32⟩
  | .hbm, ⟨35, _⟩ => ⟨S12x4096x4096, .i32⟩
  | .hbm, ⟨36, _⟩ => ⟨S_, .i32⟩
  | .hbm, ⟨37, _⟩ => ⟨S12x4096x4096, .i32⟩
  | .hbm, ⟨38, _⟩ => ⟨S12x4096x4096, .i1⟩
  | .hbm, ⟨39, _⟩ => ⟨S_, .i32⟩
  | .hbm, ⟨40, _⟩ => ⟨S12x4096x4096, .i32⟩
  | .hbm, ⟨41, _⟩ => ⟨S12x4096x4096, .i32⟩
  | .hbm, ⟨42, _⟩ => ⟨S12x4096x4096, .i32⟩
  | .hbm, ⟨43, _⟩ => ⟨S12x4096x4096, .i1⟩
  | .hbm, ⟨44, _⟩ => ⟨S12x4096x4096, .i1⟩
  | .hbm, ⟨45, _⟩ => ⟨S12x4096x4096, .i32⟩
  | .hbm, ⟨46, _⟩ => ⟨S_, .i32⟩
  | .hbm, ⟨47, _⟩ => ⟨S12x4096x4096, .i32⟩
  | .hbm, ⟨48, _⟩ => ⟨S12x4096x4096, .i1⟩
  | .hbm, ⟨49, _⟩ => ⟨S12x4096x4096, .i1⟩
  | .hbm, ⟨50, _⟩ => ⟨S_, .f32⟩
  | .hbm, ⟨51, _⟩ => ⟨S_, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S4096x12x64, .f32⟩
  | .hbm, ⟨69, _⟩ => ⟨S12x64x4096, .f32⟩
  | .hbm, ⟨70, _⟩ => ⟨S4096x12x64, .f32⟩
  | .hbm, ⟨71, _⟩ => ⟨S4096x12, .f32⟩
  | .hbm, ⟨72, _⟩ => ⟨S4096x12x64, .f32⟩
  | .hbm, ⟨73, _⟩ => ⟨S4096x768, .f32⟩
  | .hbm, ⟨74, _⟩ => ⟨S4096x768, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x2560, .f32⟩
  | .hbm, ⟨103, _⟩ => ⟨S4096x2560, .bf16⟩
  | .hbm, ⟨104, _⟩ => ⟨S4096x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c3_i32 : BitVec 32 := 3#32
  let v3 : BitVec 32 := Scalar.addi v2 c3_i32
  let c0_i32_0 : BitVec 32 := 0#32
  let v4 : BitVec 32 := Scalar.addi v3 c0_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c6_i32 : BitVec 32 := 6#32
  let v3 : BitVec 32 := Scalar.addi v2 c6_i32
  let c0_i32_0 : BitVec 32 := 0#32
  let v4 : BitVec 32 := Scalar.addi v3 c0_i32_0
  let c0_i32_1 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Band0DqKernelIdeal.lean ====
variable {F : FTy → Type} [FloatOps F] [Named F]
def κ : String → Option EReal := fun
  | "mask" => some ⊥
  | _ => none
-- ==== Band0DqReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S3x4x4096 : Shape := ⟨3, ![3, 4, 4096]⟩
abbrev S4x4096 : Shape := ⟨2, ![4, 4096]⟩
abbrev S1x4x4096 : Shape := ⟨3, ![1, 4, 4096]⟩
abbrev S4096x3x4 : Shape := ⟨3, ![4096, 3, 4]⟩
abbrev S4096x3x4x1 : Shape := ⟨4, ![4096, 3, 4, 1]⟩
abbrev S4096x3x4x64 : Shape := ⟨4, ![4096, 3, 4, 64]⟩
abbrev S4096x4x64 : Shape := ⟨3, ![4096, 4, 64]⟩
abbrev S12x4096x64 : Shape := ⟨3, ![12, 4096, 64]⟩

abbrev nBuf : Space → Nat
  | .hbm => 180
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S_, .f32⟩
  | 6 => ⟨S4096x768, .f32⟩
  | 7 => ⟨S4096x768, .f32⟩
  | 8 => ⟨S4096x12x64, .f32⟩
  | 9 => ⟨S4096x12x64, .f32⟩
  | 10 => ⟨S12x4096x4096, .f32⟩
  | 11 => ⟨S4096, .i32⟩
  | 12 => ⟨S12, .i32⟩
  | 13 => ⟨S_, .i32⟩
  | 14 => ⟨S12, .i32⟩
  | 15 => ⟨S12, .i1⟩
  | 16 => ⟨S_, .i32⟩
  | 17 => ⟨S12, .i32⟩
  | 18 => ⟨S12, .i1⟩
  | 19 => ⟨S_, .i32⟩
  | 20 => ⟨S_, .i32⟩
  | 21 => ⟨S12, .i32⟩
  | 22 => ⟨S12, .i32⟩
  | 23 => ⟨S12, .i32⟩
  | 24 => ⟨S_, .i32⟩
  | 25 => ⟨S12, .i32⟩
  | 26 => ⟨S12, .i32⟩
  | 27 => ⟨S12x1x1, .i32⟩
  | 28 => ⟨S12x4096x4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S1x4096x4096, .i32⟩
  | 35 => ⟨S12x4096x4096, .i32⟩
  | 36 => ⟨S_, .i32⟩
  | 37 => ⟨S12x4096x4096, .i32⟩
  | 38 => ⟨S12x4096x4096, .i1⟩
  | 39 => ⟨S_, .i32⟩
  | 40 => ⟨S12x4096x4096, .i32⟩
  | 41 => ⟨S12x4096x4096, .i32⟩
  | 42 => ⟨S12x4096x4096, .i32⟩
  | 43 => ⟨S12x4096x4096, .i1⟩
  | 44 => ⟨S12x4096x4096, .i1⟩
  | 45 => ⟨S12x4096x4096, .i32⟩
  | 46 => ⟨S_, .i32⟩
  | 47 => ⟨S12x4096x4096, .i32⟩
  | 48 => ⟨S12x4096x4096, .i1⟩
  | 49 => ⟨S12x4096x4096, .i1⟩
  | 50 => ⟨S_, .f32⟩
  | 51 => ⟨S_, .f32⟩
  | 52 => ⟨S12x4096x4096, .f32⟩
  | 53 => ⟨S12x4096x4096, .f32⟩
  | 54 => ⟨S_, .f32⟩
  | 55 => ⟨S12x4096x4096, .f32⟩
  | 56 => ⟨S_, .f32⟩
  | 57 => ⟨S12x4096, .f32⟩
  | 58 => ⟨S12x4096x1, .f32⟩
  | 59 => ⟨S12x4096x4096, .f32⟩
  | 60 => ⟨S12x4096x4096, .i1⟩
  | 61 => ⟨S12x4096x4096, .f32⟩
  | 62 => ⟨S_, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096, .f32⟩
  | 71 => ⟨S12x4096, .f32⟩
  | 72 => ⟨S12x4096x1, .f32⟩
  | 73 => ⟨S12x4096x4096, .f32⟩
  | 74 => ⟨S12x4096x4096, .f32⟩
  | 75 => ⟨S12x4096x4096, .f32⟩
  | 76 => ⟨S4096x12x64, .f32⟩
  | 77 => ⟨S12x64x4096, .f32⟩
  | 78 => ⟨S4096x12x64, .f32⟩
  | 79 => ⟨S3x4x4096, .f32⟩
  | 80 => ⟨S_, .f32⟩
  | 81 => ⟨S4x4096, .f32⟩
  | 82 => ⟨S1x4x4096, .f32⟩
  | 83 => ⟨S3x4x4096, .f32⟩
  | 84 => ⟨S3x4x4096, .i1⟩
  | 85 => ⟨S3x4x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S_, .f32⟩
  | 92 => ⟨S4x4096, .f32⟩
  | 93 => ⟨S4x4096, .i1⟩
  | 94 => ⟨S_, .f32⟩
  | 95 => ⟨S4x4096, .f32⟩
  | 96 => ⟨S4x4096, .i1⟩
  | 97 => ⟨S_, .f32⟩
  | 98 => ⟨S4x4096, .f32⟩
  | 99 => ⟨S_, .f32⟩
  | 100 => ⟨S4x4096, .f32⟩
  | 101 => ⟨S_, .f32⟩
  | 102 => ⟨S4x4096, .f32⟩
  | 103 => ⟨S4x4096, .f32⟩
  | 104 => ⟨S4x4096, .f32⟩
  | 105 => ⟨S1x4x4096, .f32⟩
  | 106 => ⟨S3x4x4096, .f32⟩
  | 107 => ⟨S3x4x4096, .f32⟩
  | 108 => ⟨S3x4x4096, .f32⟩
  | 109 => ⟨S_, .f32⟩
  | 110 => ⟨S4x4096, .f32⟩
  | 111 => ⟨S1x4x4096, .f32⟩
  | 112 => ⟨S3x4x4096, .f32⟩
  | 113 => ⟨S3x4x4096, .f32⟩
  | 114 => ⟨S1x4x4096, .f32⟩
  | 115 => ⟨S_, .f32⟩
  | 116 => ⟨S1x4x4096, .f32⟩
  | 117 => ⟨S1x4x4096, .f32⟩
  | 118 => ⟨S4096x3x4, .f32⟩
  | 119 => ⟨S4096x3x4x1, .f32⟩
  | 120 => ⟨S4096x3x4x64, .f32⟩
  | 121 => ⟨S4096x3x4x64, .f32⟩
  | 122 => ⟨S4096x3x4x64, .f32⟩
  | 123 => ⟨S_, .f32⟩
  | 124 => ⟨S4096x4x64, .f32⟩
  | 125 => ⟨S4096x256, .f32⟩
  | 126 => ⟨S4096x4x64, .f32⟩
  | 127 => ⟨S4096x3x4x64, .f32⟩
  | _ => ⟨S4096x768, .f32⟩

abbrev hbmTy0_1 (i : Nat) : BufTy := match i % 128 with
  | 0 => ⟨S4096x3x4x64, .f32⟩
  | 1 => ⟨S4096x3x4x64, .f32⟩
  | 2 => ⟨S4096x3x4x64, .f32⟩
  | 3 => ⟨S_, .f32⟩
  | 4 => ⟨S4096x3x4, .f32⟩
  | 5 => ⟨S4096x3x4x1, .f32⟩
  | 6 => ⟨S4096x12x64, .f32⟩
  | 7 => ⟨S_, .f32⟩
  | 8 => ⟨S4096x3x4, .f32⟩
  | 9 => ⟨S3x4x4096, .f32⟩
  | 10 => ⟨S3x4x4096, .f32⟩
  | 11 => ⟨S3x4x4096, .f32⟩
  | 12 => ⟨S3x4x4096, .f32⟩
  | 13 => ⟨S_, .f32⟩
  | 14 => ⟨S4x4096, .f32⟩
  | 15 => ⟨S1x4x4096, .f32⟩
  | 16 => ⟨S1x4x4096, .f32⟩
  | 17 => ⟨S3x4x4096, .f32⟩
  | 18 => ⟨S3x4x4096, .f32⟩
  | 19 => ⟨S_, .f32⟩
  | 20 => ⟨S4x4096, .f32⟩
  | 21 => ⟨S3x4x4096, .f32⟩
  | 22 => ⟨S3x4x4096, .f32⟩
  | 23 => ⟨S3x4x4096, .f32⟩
  | 24 => ⟨S12x4096, .f32⟩
  | 25 => ⟨S12x64x4096, .f32⟩
  | 26 => ⟨S12x4096x4096, .f32⟩
  | 27 => ⟨S12x64x4096, .f32⟩
  | 28 => ⟨S4096x12x64, .f32⟩
  | 29 => ⟨S4096x768, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S_, .f32⟩
  | 36 => ⟨S12x4096, .f32⟩
  | 37 => ⟨S12x4096, .f32⟩
  | 38 => ⟨S12x4096, .f32⟩
  | 39 => ⟨S12x4096x4096, .f32⟩
  | 40 => ⟨S12x4096x4096, .f32⟩
  | 41 => ⟨S12x4096x4096, .f32⟩
  | 42 => ⟨S_, .f32⟩
  | 43 => ⟨S12x4096x4096, .f32⟩
  | 44 => ⟨S12x4096x4096, .f32⟩
  | 45 => ⟨S12x4096x64, .f32⟩
  | 46 => ⟨S4096x12x64, .f32⟩
  | 47 => ⟨S12x4096x64, .f32⟩
  | 48 => ⟨S4096x12x64, .f32⟩
  | 49 => ⟨S4096x768, .f32⟩
  | 50 => ⟨S4096x768, .f32⟩
  | 51 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33_0 : Ref sig .tc := ⟨.hbm, 53, rfl⟩
abbrev main_call2_cst : Ref sig .tc := ⟨.hbm, 54, rfl⟩
abbrev main_v33_1 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_cst : Ref sig .tc := ⟨.hbm, 170, rfl⟩
abbrev main_call3_v0 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩

abbrev nD : Nat := 1
abbrev τ : Topo := Topo.v7x

variable {F : FTy → Type} [FloatOps F]
-- ==== Band0DkvKernel.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S4096x2560 : Shape := ⟨2, ![4096, 2560]⟩
abbrev S128x256 : Shape := ⟨2, ![128, 256]⟩
abbrev S256x128 : Shape := ⟨2, ![256, 128]⟩
abbrev S256x256 : Shape := ⟨2, ![256, 256]⟩
abbrev S128x128 : Shape := ⟨2, ![128, 128]⟩
abbrev S1x128 : Shape := ⟨2, ![1, 128]⟩
abbrev S256 : Shape := ⟨1, ![256]⟩
abbrev S256x1 : Shape := ⟨2, ![256, 1]⟩

abbrev nBuf : Space → Nat
  | .hbm => 106
  | .vmem => 24
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x768, .f32⟩
  | .hbm, ⟨7, _⟩ => ⟨S4096x768, .f32⟩
  | .hbm, ⟨8, _⟩ => ⟨S4096x12x64, .f32⟩
  | .hbm, ⟨9, _⟩ => ⟨S4096x12x64, .f32⟩
  | .hbm, ⟨10, _⟩ => ⟨S12x4096x4096, .f32⟩
  | .hbm, ⟨11, _⟩ => ⟨S4096, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i1⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S_, .i32⟩
  | .hbm, ⟨21, _⟩ => ⟨S12, .i32⟩
  | .hbm, ⟨22, _⟩ => ⟨S12, .i32⟩
  | .hbm, ⟨23, _⟩ => ⟨S12, .i32⟩
  | .hbm, ⟨24, _⟩ => ⟨S_, .i32⟩
  | .hbm, ⟨25, _⟩ => ⟨S12, .i32⟩
  | .hbm, ⟨26, _⟩ => ⟨S12, .i32⟩
  | .hbm, ⟨27, _⟩ => ⟨S12x1x1, .i32⟩
  | .hbm, ⟨28, _⟩ => ⟨S12x4096x4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S1x4096x4096, .i32⟩
  | .hbm, ⟨35, _⟩ => ⟨S12x4096x4096, .i32⟩
  | .hbm, ⟨36, _⟩ => ⟨S_, .i32⟩
  | .hbm, ⟨37, _⟩ => ⟨S12x4096x4096, .i32⟩
  | .hbm, ⟨38, _⟩ => ⟨S12x4096x4096, .i1⟩
  | .hbm, ⟨39, _⟩ => ⟨S_, .i32⟩
  | .hbm, ⟨40, _⟩ => ⟨S12x4096x4096, .i32⟩
  | .hbm, ⟨41, _⟩ => ⟨S12x4096x4096, .i32⟩
  | .hbm, ⟨42, _⟩ => ⟨S12x4096x4096, .i32⟩
  | .hbm, ⟨43, _⟩ => ⟨S12x4096x4096, .i1⟩
  | .hbm, ⟨44, _⟩ => ⟨S12x4096x4096, .i1⟩
  | .hbm, ⟨45, _⟩ => ⟨S12x4096x4096, .i32⟩
  | .hbm, ⟨46, _⟩ => ⟨S_, .i32⟩
  | .hbm, ⟨47, _⟩ => ⟨S12x4096x4096, .i32⟩
  | .hbm, ⟨48, _⟩ => ⟨S12x4096x4096, .i1⟩
  | .hbm, ⟨49, _⟩ => ⟨S12x4096x4096, .i1⟩
  | .hbm, ⟨50, _⟩ => ⟨S_, .f32⟩
  | .hbm, ⟨51, _⟩ => ⟨S_, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S4096x12x64, .f32⟩
  | .hbm, ⟨69, _⟩ => ⟨S12x64x4096, .f32⟩
  | .hbm, ⟨70, _⟩ => ⟨S4096x12x64, .f32⟩
  | .hbm, ⟨71, _⟩ => ⟨S4096x12, .f32⟩
  | .hbm, ⟨72, _⟩ => ⟨S4096x12x64, .f32⟩
  | .hbm, ⟨73, _⟩ => ⟨S4096x768, .f32⟩
  | .hbm, ⟨74, _⟩ => ⟨S4096x768, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x2560, .f32⟩
  | .hbm, ⟨103, _⟩ => ⟨S4096x2560, .bf16⟩
  | .hbm, ⟨104, _⟩ => ⟨S4096x256, .f32⟩
  | .hbm, ⟨105, _⟩ => ⟨S4096x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81_0 : Ref sig .tc := ⟨.hbm, 104, rfl⟩
abbrev main_v81_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c10_i32 : BitVec 32 := 10#32
  let v2 : BitVec 32 := Scalar.muli arg0 c10_i32
  let c0_i32 : BitVec 32 := 0#32
  let v3 : BitVec 32 := Scalar.addi v2 c0_i32
  let c0_i32_0 : BitVec 32 := 0#32
  let v4 : BitVec 32 := Scalar.addi v3 c0_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Band0DkvKernelIdeal.lean ====
variable {F : FTy → Type} [FloatOps F] [Named F]
def κ : String → Option EReal := fun
  | "mask" => some ⊥
  | _ => none
-- ==== Band0DkvReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S3x4x4096 : Shape := ⟨3, ![3, 4, 4096]⟩
abbrev S4x4096 : Shape := ⟨2, ![4, 4096]⟩
abbrev S1x4x4096 : Shape := ⟨3, ![1, 4, 4096]⟩
abbrev S4096x3x4 : Shape := ⟨3, ![4096, 3, 4]⟩
abbrev S4096x3x4x1 : Shape := ⟨4, ![4096, 3, 4, 1]⟩
abbrev S4096x3x4x64 : Shape := ⟨4, ![4096, 3, 4, 64]⟩
abbrev S4096x4x64 : Shape := ⟨3, ![4096, 4, 64]⟩
abbrev S12x4096x64 : Shape := ⟨3, ![12, 4096, 64]⟩

abbrev nBuf : Space → Nat
  | .hbm => 181
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S_, .f32⟩
  | 6 => ⟨S4096x768, .f32⟩
  | 7 => ⟨S4096x768, .f32⟩
  | 8 => ⟨S4096x12x64, .f32⟩
  | 9 => ⟨S4096x12x64, .f32⟩
  | 10 => ⟨S12x4096x4096, .f32⟩
  | 11 => ⟨S4096, .i32⟩
  | 12 => ⟨S12, .i32⟩
  | 13 => ⟨S_, .i32⟩
  | 14 => ⟨S12, .i32⟩
  | 15 => ⟨S12, .i1⟩
  | 16 => ⟨S_, .i32⟩
  | 17 => ⟨S12, .i32⟩
  | 18 => ⟨S12, .i1⟩
  | 19 => ⟨S_, .i32⟩
  | 20 => ⟨S_, .i32⟩
  | 21 => ⟨S12, .i32⟩
  | 22 => ⟨S12, .i32⟩
  | 23 => ⟨S12, .i32⟩
  | 24 => ⟨S_, .i32⟩
  | 25 => ⟨S12, .i32⟩
  | 26 => ⟨S12, .i32⟩
  | 27 => ⟨S12x1x1, .i32⟩
  | 28 => ⟨S12x4096x4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S1x4096x4096, .i32⟩
  | 35 => ⟨S12x4096x4096, .i32⟩
  | 36 => ⟨S_, .i32⟩
  | 37 => ⟨S12x4096x4096, .i32⟩
  | 38 => ⟨S12x4096x4096, .i1⟩
  | 39 => ⟨S_, .i32⟩
  | 40 => ⟨S12x4096x4096, .i32⟩
  | 41 => ⟨S12x4096x4096, .i32⟩
  | 42 => ⟨S12x4096x4096, .i32⟩
  | 43 => ⟨S12x4096x4096, .i1⟩
  | 44 => ⟨S12x4096x4096, .i1⟩
  | 45 => ⟨S12x4096x4096, .i32⟩
  | 46 => ⟨S_, .i32⟩
  | 47 => ⟨S12x4096x4096, .i32⟩
  | 48 => ⟨S12x4096x4096, .i1⟩
  | 49 => ⟨S12x4096x4096, .i1⟩
  | 50 => ⟨S_, .f32⟩
  | 51 => ⟨S_, .f32⟩
  | 52 => ⟨S12x4096x4096, .f32⟩
  | 53 => ⟨S12x4096x4096, .f32⟩
  | 54 => ⟨S_, .f32⟩
  | 55 => ⟨S12x4096x4096, .f32⟩
  | 56 => ⟨S_, .f32⟩
  | 57 => ⟨S12x4096, .f32⟩
  | 58 => ⟨S12x4096x1, .f32⟩
  | 59 => ⟨S12x4096x4096, .f32⟩
  | 60 => ⟨S12x4096x4096, .i1⟩
  | 61 => ⟨S12x4096x4096, .f32⟩
  | 62 => ⟨S_, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096, .f32⟩
  | 71 => ⟨S12x4096, .f32⟩
  | 72 => ⟨S12x4096x1, .f32⟩
  | 73 => ⟨S12x4096x4096, .f32⟩
  | 74 => ⟨S12x4096x4096, .f32⟩
  | 75 => ⟨S12x4096x4096, .f32⟩
  | 76 => ⟨S4096x12x64, .f32⟩
  | 77 => ⟨S12x64x4096, .f32⟩
  | 78 => ⟨S4096x12x64, .f32⟩
  | 79 => ⟨S3x4x4096, .f32⟩
  | 80 => ⟨S_, .f32⟩
  | 81 => ⟨S4x4096, .f32⟩
  | 82 => ⟨S1x4x4096, .f32⟩
  | 83 => ⟨S3x4x4096, .f32⟩
  | 84 => ⟨S3x4x4096, .i1⟩
  | 85 => ⟨S3x4x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S_, .f32⟩
  | 92 => ⟨S4x4096, .f32⟩
  | 93 => ⟨S4x4096, .i1⟩
  | 94 => ⟨S_, .f32⟩
  | 95 => ⟨S4x4096, .f32⟩
  | 96 => ⟨S4x4096, .i1⟩
  | 97 => ⟨S_, .f32⟩
  | 98 => ⟨S4x4096, .f32⟩
  | 99 => ⟨S_, .f32⟩
  | 100 => ⟨S4x4096, .f32⟩
  | 101 => ⟨S_, .f32⟩
  | 102 => ⟨S4x4096, .f32⟩
  | 103 => ⟨S4x4096, .f32⟩
  | 104 => ⟨S4x4096, .f32⟩
  | 105 => ⟨S1x4x4096, .f32⟩
  | 106 => ⟨S3x4x4096, .f32⟩
  | 107 => ⟨S3x4x4096, .f32⟩
  | 108 => ⟨S3x4x4096, .f32⟩
  | 109 => ⟨S_, .f32⟩
  | 110 => ⟨S4x4096, .f32⟩
  | 111 => ⟨S1x4x4096, .f32⟩
  | 112 => ⟨S3x4x4096, .f32⟩
  | 113 => ⟨S3x4x4096, .f32⟩
  | 114 => ⟨S1x4x4096, .f32⟩
  | 115 => ⟨S_, .f32⟩
  | 116 => ⟨S1x4x4096, .f32⟩
  | 117 => ⟨S1x4x4096, .f32⟩
  | 118 => ⟨S4096x3x4, .f32⟩
  | 119 => ⟨S4096x3x4x1, .f32⟩
  | 120 => ⟨S4096x3x4x64, .f32⟩
  | 121 => ⟨S4096x3x4x64, .f32⟩
  | 122 => ⟨S4096x3x4x64, .f32⟩
  | 123 => ⟨S_, .f32⟩
  | 124 => ⟨S4096x4x64, .f32⟩
  | 125 => ⟨S4096x256, .f32⟩
  | 126 => ⟨S4096x4x64, .f32⟩
  | 127 => ⟨S4096x3x4x64, .f32⟩
  | _ => ⟨S4096x768, .f32⟩

abbrev hbmTy0_1 (i : Nat) : BufTy := match i % 128 with
  | 0 => ⟨S4096x3x4x64, .f32⟩
  | 1 => ⟨S4096x3x4x64, .f32⟩
  | 2 => ⟨S4096x3x4x64, .f32⟩
  | 3 => ⟨S_, .f32⟩
  | 4 => ⟨S4096x3x4, .f32⟩
  | 5 => ⟨S4096x3x4x1, .f32⟩
  | 6 => ⟨S4096x12x64, .f32⟩
  | 7 => ⟨S_, .f32⟩
  | 8 => ⟨S4096x3x4, .f32⟩
  | 9 => ⟨S3x4x4096, .f32⟩
  | 10 => ⟨S3x4x4096, .f32⟩
  | 11 => ⟨S3x4x4096, .f32⟩
  | 12 => ⟨S3x4x4096, .f32⟩
  | 13 => ⟨S_, .f32⟩
  | 14 => ⟨S4x4096, .f32⟩
  | 15 => ⟨S1x4x4096, .f32⟩
  | 16 => ⟨S1x4x4096, .f32⟩
  | 17 => ⟨S3x4x4096, .f32⟩
  | 18 => ⟨S3x4x4096, .f32⟩
  | 19 => ⟨S_, .f32⟩
  | 20 => ⟨S4x4096, .f32⟩
  | 21 => ⟨S3x4x4096, .f32⟩
  | 22 => ⟨S3x4x4096, .f32⟩
  | 23 => ⟨S3x4x4096, .f32⟩
  | 24 => ⟨S12x4096, .f32⟩
  | 25 => ⟨S12x64x4096, .f32⟩
  | 26 => ⟨S12x4096x4096, .f32⟩
  | 27 => ⟨S12x64x4096, .f32⟩
  | 28 => ⟨S4096x12x64, .f32⟩
  | 29 => ⟨S4096x768, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S_, .f32⟩
  | 36 => ⟨S12x4096, .f32⟩
  | 37 => ⟨S12x4096, .f32⟩
  | 38 => ⟨S12x4096, .f32⟩
  | 39 => ⟨S12x4096x4096, .f32⟩
  | 40 => ⟨S12x4096x4096, .f32⟩
  | 41 => ⟨S12x4096x4096, .f32⟩
  | 42 => ⟨S_, .f32⟩
  | 43 => ⟨S12x4096x4096, .f32⟩
  | 44 => ⟨S12x4096x4096, .f32⟩
  | 45 => ⟨S12x4096x64, .f32⟩
  | 46 => ⟨S4096x12x64, .f32⟩
  | 47 => ⟨S12x4096x64, .f32⟩
  | 48 => ⟨S4096x12x64, .f32⟩
  | 49 => ⟨S4096x768, .f32⟩
  | 50 => ⟨S4096x768, .f32⟩
  | 51 => ⟨S4096x256, .f32⟩
  | 52 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33_0 : Ref sig .tc := ⟨.hbm, 53, rfl⟩
abbrev main_call2_cst : Ref sig .tc := ⟨.hbm, 54, rfl⟩
abbrev main_v33_1 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_cst : Ref sig .tc := ⟨.hbm, 170, rfl⟩
abbrev main_call3_v0 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩

abbrev nD : Nat := 1
abbrev τ : Topo := Topo.v7x

variable {F : FTy → Type} [FloatOps F]
-- ==== Band1DqKernel.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S4096x2560 : Shape := ⟨2, ![4096, 2560]⟩
abbrev S1024x10240 : Shape := ⟨2, ![1024, 10240]⟩
abbrev S1024x1024 : Shape := ⟨2, ![1024, 1024]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S128x1 : Shape := ⟨2, ![128, 1]⟩

abbrev nBuf : Space → Nat
  | .hbm => 109
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x768, .f32⟩
  | .hbm, ⟨7, _⟩ => ⟨S4096x768, .f32⟩
  | .hbm, ⟨8, _⟩ => ⟨S4096x12x64, .f32⟩
  | .hbm, ⟨9, _⟩ => ⟨S4096x12x64, .f32⟩
  | .hbm, ⟨10, _⟩ => ⟨S12x4096x4096, .f32⟩
  | .hbm, ⟨11, _⟩ => ⟨S4096, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i1⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S_, .i32⟩
  | .hbm, ⟨21, _⟩ => ⟨S12, .i32⟩
  | .hbm, ⟨22, _⟩ => ⟨S12, .i32⟩
  | .hbm, ⟨23, _⟩ => ⟨S12, .i32⟩
  | .hbm, ⟨24, _⟩ => ⟨S_, .i32⟩
  | .hbm, ⟨25, _⟩ => ⟨S12, .i32⟩
  | .hbm, ⟨26, _⟩ => ⟨S12, .i32⟩
  | .hbm, ⟨27, _⟩ => ⟨S12x1x1, .i32⟩
  | .hbm, ⟨28, _⟩ => ⟨S12x4096x4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S1x4096x4096, .i32⟩
  | .hbm, ⟨35, _⟩ => ⟨S12x4096x4096, .i32⟩
  | .hbm, ⟨36, _⟩ => ⟨S_, .i32⟩
  | .hbm, ⟨37, _⟩ => ⟨S12x4096x4096, .i32⟩
  | .hbm, ⟨38, _⟩ => ⟨S12x4096x4096, .i1⟩
  | .hbm, ⟨39, _⟩ => ⟨S_, .i32⟩
  | .hbm, ⟨40, _⟩ => ⟨S12x4096x4096, .i32⟩
  | .hbm, ⟨41, _⟩ => ⟨S12x4096x4096, .i32⟩
  | .hbm, ⟨42, _⟩ => ⟨S12x4096x4096, .i32⟩
  | .hbm, ⟨43, _⟩ => ⟨S12x4096x4096, .i1⟩
  | .hbm, ⟨44, _⟩ => ⟨S12x4096x4096, .i1⟩
  | .hbm, ⟨45, _⟩ => ⟨S12x4096x4096, .i32⟩
  | .hbm, ⟨46, _⟩ => ⟨S_, .i32⟩
  | .hbm, ⟨47, _⟩ => ⟨S12x4096x4096, .i32⟩
  | .hbm, ⟨48, _⟩ => ⟨S12x4096x4096, .i1⟩
  | .hbm, ⟨49, _⟩ => ⟨S12x4096x4096, .i1⟩
  | .hbm, ⟨50, _⟩ => ⟨S_, .f32⟩
  | .hbm, ⟨51, _⟩ => ⟨S_, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S4096x12x64, .f32⟩
  | .hbm, ⟨69, _⟩ => ⟨S12x64x4096, .f32⟩
  | .hbm, ⟨70, _⟩ => ⟨S4096x12x64, .f32⟩
  | .hbm, ⟨71, _⟩ => ⟨S4096x12, .f32⟩
  | .hbm, ⟨72, _⟩ => ⟨S4096x12x64, .f32⟩
  | .hbm, ⟨73, _⟩ => ⟨S4096x768, .f32⟩
  | .hbm, ⟨74, _⟩ => ⟨S4096x768, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x2560, .f32⟩
  | .hbm, ⟨103, _⟩ => ⟨S4096x2560, .bf16⟩
  | .hbm, ⟨104, _⟩ => ⟨S1024x10240, .bf16⟩
  | .hbm, ⟨105, _⟩ => ⟨S1024x1024, .f32⟩
  | .hbm, ⟨106, _⟩ => ⟨S1024x1024, .f32⟩
  | .hbm, ⟨107, _⟩ => ⟨S1024x1024, .f32⟩
  | .hbm, ⟨108, _⟩ => ⟨S1024x1024, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c3_i32 : BitVec 32 := 3#32
  let v3 : BitVec 32 := Scalar.addi v2 c3_i32
  let c1_i32_0 : BitVec 32 := 1#32
  let v4 : BitVec 32 := Scalar.addi v3 c1_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c6_i32 : BitVec 32 := 6#32
  let v3 : BitVec 32 := Scalar.addi v2 c6_i32
  let c1_i32_0 : BitVec 32 := 1#32
  let v4 : BitVec 32 := Scalar.addi v3 c1_i32_0
  let c0_i32_1 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Band1DqKernelIdeal.lean ====
variable {F : FTy → Type} [FloatOps F] [Named F]
def κ : String → Option EReal := fun
  | "mask" => some ⊥
  | _ => none
-- ==== Band1DqReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S3x4x4096 : Shape := ⟨3, ![3, 4, 4096]⟩
abbrev S4x4096 : Shape := ⟨2, ![4, 4096]⟩
abbrev S1x4x4096 : Shape := ⟨3, ![1, 4, 4096]⟩
abbrev S4096x3x4 : Shape := ⟨3, ![4096, 3, 4]⟩
abbrev S4096x3x4x1 : Shape := ⟨4, ![4096, 3, 4, 1]⟩
abbrev S4096x3x4x64 : Shape := ⟨4, ![4096, 3, 4, 64]⟩
abbrev S4096x4x64 : Shape := ⟨3, ![4096, 4, 64]⟩
abbrev S12x4096x64 : Shape := ⟨3, ![12, 4096, 64]⟩
abbrev S1024x1024 : Shape := ⟨2, ![1024, 1024]⟩

abbrev nBuf : Space → Nat
  | .hbm => 181
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S_, .f32⟩
  | 6 => ⟨S4096x768, .f32⟩
  | 7 => ⟨S4096x768, .f32⟩
  | 8 => ⟨S4096x12x64, .f32⟩
  | 9 => ⟨S4096x12x64, .f32⟩
  | 10 => ⟨S12x4096x4096, .f32⟩
  | 11 => ⟨S4096, .i32⟩
  | 12 => ⟨S12, .i32⟩
  | 13 => ⟨S_, .i32⟩
  | 14 => ⟨S12, .i32⟩
  | 15 => ⟨S12, .i1⟩
  | 16 => ⟨S_, .i32⟩
  | 17 => ⟨S12, .i32⟩
  | 18 => ⟨S12, .i1⟩
  | 19 => ⟨S_, .i32⟩
  | 20 => ⟨S_, .i32⟩
  | 21 => ⟨S12, .i32⟩
  | 22 => ⟨S12, .i32⟩
  | 23 => ⟨S12, .i32⟩
  | 24 => ⟨S_, .i32⟩
  | 25 => ⟨S12, .i32⟩
  | 26 => ⟨S12, .i32⟩
  | 27 => ⟨S12x1x1, .i32⟩
  | 28 => ⟨S12x4096x4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S1x4096x4096, .i32⟩
  | 35 => ⟨S12x4096x4096, .i32⟩
  | 36 => ⟨S_, .i32⟩
  | 37 => ⟨S12x4096x4096, .i32⟩
  | 38 => ⟨S12x4096x4096, .i1⟩
  | 39 => ⟨S_, .i32⟩
  | 40 => ⟨S12x4096x4096, .i32⟩
  | 41 => ⟨S12x4096x4096, .i32⟩
  | 42 => ⟨S12x4096x4096, .i32⟩
  | 43 => ⟨S12x4096x4096, .i1⟩
  | 44 => ⟨S12x4096x4096, .i1⟩
  | 45 => ⟨S12x4096x4096, .i32⟩
  | 46 => ⟨S_, .i32⟩
  | 47 => ⟨S12x4096x4096, .i32⟩
  | 48 => ⟨S12x4096x4096, .i1⟩
  | 49 => ⟨S12x4096x4096, .i1⟩
  | 50 => ⟨S_, .f32⟩
  | 51 => ⟨S_, .f32⟩
  | 52 => ⟨S12x4096x4096, .f32⟩
  | 53 => ⟨S12x4096x4096, .f32⟩
  | 54 => ⟨S_, .f32⟩
  | 55 => ⟨S12x4096x4096, .f32⟩
  | 56 => ⟨S_, .f32⟩
  | 57 => ⟨S12x4096, .f32⟩
  | 58 => ⟨S12x4096x1, .f32⟩
  | 59 => ⟨S12x4096x4096, .f32⟩
  | 60 => ⟨S12x4096x4096, .i1⟩
  | 61 => ⟨S12x4096x4096, .f32⟩
  | 62 => ⟨S_, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096, .f32⟩
  | 71 => ⟨S12x4096, .f32⟩
  | 72 => ⟨S12x4096x1, .f32⟩
  | 73 => ⟨S12x4096x4096, .f32⟩
  | 74 => ⟨S12x4096x4096, .f32⟩
  | 75 => ⟨S12x4096x4096, .f32⟩
  | 76 => ⟨S4096x12x64, .f32⟩
  | 77 => ⟨S12x64x4096, .f32⟩
  | 78 => ⟨S4096x12x64, .f32⟩
  | 79 => ⟨S3x4x4096, .f32⟩
  | 80 => ⟨S_, .f32⟩
  | 81 => ⟨S4x4096, .f32⟩
  | 82 => ⟨S1x4x4096, .f32⟩
  | 83 => ⟨S3x4x4096, .f32⟩
  | 84 => ⟨S3x4x4096, .i1⟩
  | 85 => ⟨S3x4x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S_, .f32⟩
  | 92 => ⟨S4x4096, .f32⟩
  | 93 => ⟨S4x4096, .i1⟩
  | 94 => ⟨S_, .f32⟩
  | 95 => ⟨S4x4096, .f32⟩
  | 96 => ⟨S4x4096, .i1⟩
  | 97 => ⟨S_, .f32⟩
  | 98 => ⟨S4x4096, .f32⟩
  | 99 => ⟨S_, .f32⟩
  | 100 => ⟨S4x4096, .f32⟩
  | 101 => ⟨S_, .f32⟩
  | 102 => ⟨S4x4096, .f32⟩
  | 103 => ⟨S4x4096, .f32⟩
  | 104 => ⟨S4x4096, .f32⟩
  | 105 => ⟨S1x4x4096, .f32⟩
  | 106 => ⟨S3x4x4096, .f32⟩
  | 107 => ⟨S3x4x4096, .f32⟩
  | 108 => ⟨S3x4x4096, .f32⟩
  | 109 => ⟨S_, .f32⟩
  | 110 => ⟨S4x4096, .f32⟩
  | 111 => ⟨S1x4x4096, .f32⟩
  | 112 => ⟨S3x4x4096, .f32⟩
  | 113 => ⟨S3x4x4096, .f32⟩
  | 114 => ⟨S1x4x4096, .f32⟩
  | 115 => ⟨S_, .f32⟩
  | 116 => ⟨S1x4x4096, .f32⟩
  | 117 => ⟨S1x4x4096, .f32⟩
  | 118 => ⟨S4096x3x4, .f32⟩
  | 119 => ⟨S4096x3x4x1, .f32⟩
  | 120 => ⟨S4096x3x4x64, .f32⟩
  | 121 => ⟨S4096x3x4x64, .f32⟩
  | 122 => ⟨S4096x3x4x64, .f32⟩
  | 123 => ⟨S_, .f32⟩
  | 124 => ⟨S4096x4x64, .f32⟩
  | 125 => ⟨S4096x256, .f32⟩
  | 126 => ⟨S4096x4x64, .f32⟩
  | 127 => ⟨S4096x3x4x64, .f32⟩
  | _ => ⟨S4096x768, .f32⟩

abbrev hbmTy0_1 (i : Nat) : BufTy := match i % 128 with
  | 0 => ⟨S4096x3x4x64, .f32⟩
  | 1 => ⟨S4096x3x4x64, .f32⟩
  | 2 => ⟨S4096x3x4x64, .f32⟩
  | 3 => ⟨S_, .f32⟩
  | 4 => ⟨S4096x3x4, .f32⟩
  | 5 => ⟨S4096x3x4x1, .f32⟩
  | 6 => ⟨S4096x12x64, .f32⟩
  | 7 => ⟨S_, .f32⟩
  | 8 => ⟨S4096x3x4, .f32⟩
  | 9 => ⟨S3x4x4096, .f32⟩
  | 10 => ⟨S3x4x4096, .f32⟩
  | 11 => ⟨S3x4x4096, .f32⟩
  | 12 => ⟨S3x4x4096, .f32⟩
  | 13 => ⟨S_, .f32⟩
  | 14 => ⟨S4x4096, .f32⟩
  | 15 => ⟨S1x4x4096, .f32⟩
  | 16 => ⟨S1x4x4096, .f32⟩
  | 17 => ⟨S3x4x4096, .f32⟩
  | 18 => ⟨S3x4x4096, .f32⟩
  | 19 => ⟨S_, .f32⟩
  | 20 => ⟨S4x4096, .f32⟩
  | 21 => ⟨S3x4x4096, .f32⟩
  | 22 => ⟨S3x4x4096, .f32⟩
  | 23 => ⟨S3x4x4096, .f32⟩
  | 24 => ⟨S12x4096, .f32⟩
  | 25 => ⟨S12x64x4096, .f32⟩
  | 26 => ⟨S12x4096x4096, .f32⟩
  | 27 => ⟨S12x64x4096, .f32⟩
  | 28 => ⟨S4096x12x64, .f32⟩
  | 29 => ⟨S4096x768, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S_, .f32⟩
  | 36 => ⟨S12x4096, .f32⟩
  | 37 => ⟨S12x4096, .f32⟩
  | 38 => ⟨S12x4096, .f32⟩
  | 39 => ⟨S12x4096x4096, .f32⟩
  | 40 => ⟨S12x4096x4096, .f32⟩
  | 41 => ⟨S12x4096x4096, .f32⟩
  | 42 => ⟨S_, .f32⟩
  | 43 => ⟨S12x4096x4096, .f32⟩
  | 44 => ⟨S12x4096x4096, .f32⟩
  | 45 => ⟨S12x4096x64, .f32⟩
  | 46 => ⟨S4096x12x64, .f32⟩
  | 47 => ⟨S12x4096x64, .f32⟩
  | 48 => ⟨S4096x12x64, .f32⟩
  | 49 => ⟨S4096x768, .f32⟩
  | 50 => ⟨S4096x768, .f32⟩
  | 51 => ⟨S4096x256, .f32⟩
  | 52 => ⟨S1024x1024, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33_0 : Ref sig .tc := ⟨.hbm, 53, rfl⟩
abbrev main_call2_cst : Ref sig .tc := ⟨.hbm, 54, rfl⟩
abbrev main_v33_1 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_cst : Ref sig .tc := ⟨.hbm, 170, rfl⟩
abbrev main_call3_v0 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩

abbrev nD : Nat := 1
abbrev τ : Topo := Topo.v7x

variable {F : FTy → Type} [FloatOps F]
-- ==== Band1DkvKernel.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S4096x2560 : Shape := ⟨2, ![4096, 2560]⟩
abbrev S1024x10240 : Shape := ⟨2, ![1024, 10240]⟩
abbrev S1024x1024 : Shape := ⟨2, ![1024, 1024]⟩
abbrev S128x256 : Shape := ⟨2, ![128, 256]⟩
abbrev S256x128 : Shape := ⟨2, ![256, 128]⟩
abbrev S256x256 : Shape := ⟨2, ![256, 256]⟩
abbrev S128x128 : Shape := ⟨2, ![128, 128]⟩
abbrev S1x128 : Shape := ⟨2, ![1, 128]⟩
abbrev S256 : Shape := ⟨1, ![256]⟩
abbrev S256x1 : Shape := ⟨2, ![256, 1]⟩

abbrev nBuf : Space → Nat
  | .hbm => 110
  | .vmem => 24
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x768, .f32⟩
  | .hbm, ⟨7, _⟩ => ⟨S4096x768, .f32⟩
  | .hbm, ⟨8, _⟩ => ⟨S4096x12x64, .f32⟩
  | .hbm, ⟨9, _⟩ => ⟨S4096x12x64, .f32⟩
  | .hbm, ⟨10, _⟩ => ⟨S12x4096x4096, .f32⟩
  | .hbm, ⟨11, _⟩ => ⟨S4096, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i1⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S_, .i32⟩
  | .hbm, ⟨21, _⟩ => ⟨S12, .i32⟩
  | .hbm, ⟨22, _⟩ => ⟨S12, .i32⟩
  | .hbm, ⟨23, _⟩ => ⟨S12, .i32⟩
  | .hbm, ⟨24, _⟩ => ⟨S_, .i32⟩
  | .hbm, ⟨25, _⟩ => ⟨S12, .i32⟩
  | .hbm, ⟨26, _⟩ => ⟨S12, .i32⟩
  | .hbm, ⟨27, _⟩ => ⟨S12x1x1, .i32⟩
  | .hbm, ⟨28, _⟩ => ⟨S12x4096x4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S1x4096x4096, .i32⟩
  | .hbm, ⟨35, _⟩ => ⟨S12x4096x4096, .i32⟩
  | .hbm, ⟨36, _⟩ => ⟨S_, .i32⟩
  | .hbm, ⟨37, _⟩ => ⟨S12x4096x4096, .i32⟩
  | .hbm, ⟨38, _⟩ => ⟨S12x4096x4096, .i1⟩
  | .hbm, ⟨39, _⟩ => ⟨S_, .i32⟩
  | .hbm, ⟨40, _⟩ => ⟨S12x4096x4096, .i32⟩
  | .hbm, ⟨41, _⟩ => ⟨S12x4096x4096, .i32⟩
  | .hbm, ⟨42, _⟩ => ⟨S12x4096x4096, .i32⟩
  | .hbm, ⟨43, _⟩ => ⟨S12x4096x4096, .i1⟩
  | .hbm, ⟨44, _⟩ => ⟨S12x4096x4096, .i1⟩
  | .hbm, ⟨45, _⟩ => ⟨S12x4096x4096, .i32⟩
  | .hbm, ⟨46, _⟩ => ⟨S_, .i32⟩
  | .hbm, ⟨47, _⟩ => ⟨S12x4096x4096, .i32⟩
  | .hbm, ⟨48, _⟩ => ⟨S12x4096x4096, .i1⟩
  | .hbm, ⟨49, _⟩ => ⟨S12x4096x4096, .i1⟩
  | .hbm, ⟨50, _⟩ => ⟨S_, .f32⟩
  | .hbm, ⟨51, _⟩ => ⟨S_, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S4096x12x64, .f32⟩
  | .hbm, ⟨69, _⟩ => ⟨S12x64x4096, .f32⟩
  | .hbm, ⟨70, _⟩ => ⟨S4096x12x64, .f32⟩
  | .hbm, ⟨71, _⟩ => ⟨S4096x12, .f32⟩
  | .hbm, ⟨72, _⟩ => ⟨S4096x12x64, .f32⟩
  | .hbm, ⟨73, _⟩ => ⟨S4096x768, .f32⟩
  | .hbm, ⟨74, _⟩ => ⟨S4096x768, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x2560, .f32⟩
  | .hbm, ⟨103, _⟩ => ⟨S4096x2560, .bf16⟩
  | .hbm, ⟨104, _⟩ => ⟨S1024x10240, .bf16⟩
  | .hbm, ⟨105, _⟩ => ⟨S1024x1024, .f32⟩
  | .hbm, ⟨106, _⟩ => ⟨S1024x1024, .f32⟩
  | .hbm, ⟨107, _⟩ => ⟨S1024x1024, .f32⟩
  | .hbm, ⟨108, _⟩ => ⟨S1024x1024, .f32⟩
  | .hbm, ⟨109, _⟩ => ⟨S1024x1024, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85_0 : Ref sig .tc := ⟨.hbm, 108, rfl⟩
abbrev main_v85_1 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c10_i32 : BitVec 32 := 10#32
  let v2 : BitVec 32 := Scalar.muli arg0 c10_i32
  let c0_i32 : BitVec 32 := 0#32
  let v3 : BitVec 32 := Scalar.addi v2 c0_i32
  let c1_i32_0 : BitVec 32 := 1#32
  let v4 : BitVec 32 := Scalar.addi v3 c1_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Band1DkvKernelIdeal.lean ====
variable {F : FTy → Type} [FloatOps F] [Named F]
def κ : String → Option EReal := fun
  | "mask" => some ⊥
  | _ => none
-- ==== Band1DkvReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S3x4x4096 : Shape := ⟨3, ![3, 4, 4096]⟩
abbrev S4x4096 : Shape := ⟨2, ![4, 4096]⟩
abbrev S1x4x4096 : Shape := ⟨3, ![1, 4, 4096]⟩
abbrev S4096x3x4 : Shape := ⟨3, ![4096, 3, 4]⟩
abbrev S4096x3x4x1 : Shape := ⟨4, ![4096, 3, 4, 1]⟩
abbrev S4096x3x4x64 : Shape := ⟨4, ![4096, 3, 4, 64]⟩
abbrev S4096x4x64 : Shape := ⟨3, ![4096, 4, 64]⟩
abbrev S12x4096x64 : Shape := ⟨3, ![12, 4096, 64]⟩
abbrev S1024x1024 : Shape := ⟨2, ![1024, 1024]⟩

abbrev nBuf : Space → Nat
  | .hbm => 183
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S_, .f32⟩
  | 6 => ⟨S4096x768, .f32⟩
  | 7 => ⟨S4096x768, .f32⟩
  | 8 => ⟨S4096x12x64, .f32⟩
  | 9 => ⟨S4096x12x64, .f32⟩
  | 10 => ⟨S12x4096x4096, .f32⟩
  | 11 => ⟨S4096, .i32⟩
  | 12 => ⟨S12, .i32⟩
  | 13 => ⟨S_, .i32⟩
  | 14 => ⟨S12, .i32⟩
  | 15 => ⟨S12, .i1⟩
  | 16 => ⟨S_, .i32⟩
  | 17 => ⟨S12, .i32⟩
  | 18 => ⟨S12, .i1⟩
  | 19 => ⟨S_, .i32⟩
  | 20 => ⟨S_, .i32⟩
  | 21 => ⟨S12, .i32⟩
  | 22 => ⟨S12, .i32⟩
  | 23 => ⟨S12, .i32⟩
  | 24 => ⟨S_, .i32⟩
  | 25 => ⟨S12, .i32⟩
  | 26 => ⟨S12, .i32⟩
  | 27 => ⟨S12x1x1, .i32⟩
  | 28 => ⟨S12x4096x4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S1x4096x4096, .i32⟩
  | 35 => ⟨S12x4096x4096, .i32⟩
  | 36 => ⟨S_, .i32⟩
  | 37 => ⟨S12x4096x4096, .i32⟩
  | 38 => ⟨S12x4096x4096, .i1⟩
  | 39 => ⟨S_, .i32⟩
  | 40 => ⟨S12x4096x4096, .i32⟩
  | 41 => ⟨S12x4096x4096, .i32⟩
  | 42 => ⟨S12x4096x4096, .i32⟩
  | 43 => ⟨S12x4096x4096, .i1⟩
  | 44 => ⟨S12x4096x4096, .i1⟩
  | 45 => ⟨S12x4096x4096, .i32⟩
  | 46 => ⟨S_, .i32⟩
  | 47 => ⟨S12x4096x4096, .i32⟩
  | 48 => ⟨S12x4096x4096, .i1⟩
  | 49 => ⟨S12x4096x4096, .i1⟩
  | 50 => ⟨S_, .f32⟩
  | 51 => ⟨S_, .f32⟩
  | 52 => ⟨S12x4096x4096, .f32⟩
  | 53 => ⟨S12x4096x4096, .f32⟩
  | 54 => ⟨S_, .f32⟩
  | 55 => ⟨S12x4096x4096, .f32⟩
  | 56 => ⟨S_, .f32⟩
  | 57 => ⟨S12x4096, .f32⟩
  | 58 => ⟨S12x4096x1, .f32⟩
  | 59 => ⟨S12x4096x4096, .f32⟩
  | 60 => ⟨S12x4096x4096, .i1⟩
  | 61 => ⟨S12x4096x4096, .f32⟩
  | 62 => ⟨S_, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096, .f32⟩
  | 71 => ⟨S12x4096, .f32⟩
  | 72 => ⟨S12x4096x1, .f32⟩
  | 73 => ⟨S12x4096x4096, .f32⟩
  | 74 => ⟨S12x4096x4096, .f32⟩
  | 75 => ⟨S12x4096x4096, .f32⟩
  | 76 => ⟨S4096x12x64, .f32⟩
  | 77 => ⟨S12x64x4096, .f32⟩
  | 78 => ⟨S4096x12x64, .f32⟩
  | 79 => ⟨S3x4x4096, .f32⟩
  | 80 => ⟨S_, .f32⟩
  | 81 => ⟨S4x4096, .f32⟩
  | 82 => ⟨S1x4x4096, .f32⟩
  | 83 => ⟨S3x4x4096, .f32⟩
  | 84 => ⟨S3x4x4096, .i1⟩
  | 85 => ⟨S3x4x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S_, .f32⟩
  | 92 => ⟨S4x4096, .f32⟩
  | 93 => ⟨S4x4096, .i1⟩
  | 94 => ⟨S_, .f32⟩
  | 95 => ⟨S4x4096, .f32⟩
  | 96 => ⟨S4x4096, .i1⟩
  | 97 => ⟨S_, .f32⟩
  | 98 => ⟨S4x4096, .f32⟩
  | 99 => ⟨S_, .f32⟩
  | 100 => ⟨S4x4096, .f32⟩
  | 101 => ⟨S_, .f32⟩
  | 102 => ⟨S4x4096, .f32⟩
  | 103 => ⟨S4x4096, .f32⟩
  | 104 => ⟨S4x4096, .f32⟩
  | 105 => ⟨S1x4x4096, .f32⟩
  | 106 => ⟨S3x4x4096, .f32⟩
  | 107 => ⟨S3x4x4096, .f32⟩
  | 108 => ⟨S3x4x4096, .f32⟩
  | 109 => ⟨S_, .f32⟩
  | 110 => ⟨S4x4096, .f32⟩
  | 111 => ⟨S1x4x4096, .f32⟩
  | 112 => ⟨S3x4x4096, .f32⟩
  | 113 => ⟨S3x4x4096, .f32⟩
  | 114 => ⟨S1x4x4096, .f32⟩
  | 115 => ⟨S_, .f32⟩
  | 116 => ⟨S1x4x4096, .f32⟩
  | 117 => ⟨S1x4x4096, .f32⟩
  | 118 => ⟨S4096x3x4, .f32⟩
  | 119 => ⟨S4096x3x4x1, .f32⟩
  | 120 => ⟨S4096x3x4x64, .f32⟩
  | 121 => ⟨S4096x3x4x64, .f32⟩
  | 122 => ⟨S4096x3x4x64, .f32⟩
  | 123 => ⟨S_, .f32⟩
  | 124 => ⟨S4096x4x64, .f32⟩
  | 125 => ⟨S4096x256, .f32⟩
  | 126 => ⟨S4096x4x64, .f32⟩
  | 127 => ⟨S4096x3x4x64, .f32⟩
  | _ => ⟨S4096x768, .f32⟩

abbrev hbmTy0_1 (i : Nat) : BufTy := match i % 128 with
  | 0 => ⟨S4096x3x4x64, .f32⟩
  | 1 => ⟨S4096x3x4x64, .f32⟩
  | 2 => ⟨S4096x3x4x64, .f32⟩
  | 3 => ⟨S_, .f32⟩
  | 4 => ⟨S4096x3x4, .f32⟩
  | 5 => ⟨S4096x3x4x1, .f32⟩
  | 6 => ⟨S4096x12x64, .f32⟩
  | 7 => ⟨S_, .f32⟩
  | 8 => ⟨S4096x3x4, .f32⟩
  | 9 => ⟨S3x4x4096, .f32⟩
  | 10 => ⟨S3x4x4096, .f32⟩
  | 11 => ⟨S3x4x4096, .f32⟩
  | 12 => ⟨S3x4x4096, .f32⟩
  | 13 => ⟨S_, .f32⟩
  | 14 => ⟨S4x4096, .f32⟩
  | 15 => ⟨S1x4x4096, .f32⟩
  | 16 => ⟨S1x4x4096, .f32⟩
  | 17 => ⟨S3x4x4096, .f32⟩
  | 18 => ⟨S3x4x4096, .f32⟩
  | 19 => ⟨S_, .f32⟩
  | 20 => ⟨S4x4096, .f32⟩
  | 21 => ⟨S3x4x4096, .f32⟩
  | 22 => ⟨S3x4x4096, .f32⟩
  | 23 => ⟨S3x4x4096, .f32⟩
  | 24 => ⟨S12x4096, .f32⟩
  | 25 => ⟨S12x64x4096, .f32⟩
  | 26 => ⟨S12x4096x4096, .f32⟩
  | 27 => ⟨S12x64x4096, .f32⟩
  | 28 => ⟨S4096x12x64, .f32⟩
  | 29 => ⟨S4096x768, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S_, .f32⟩
  | 36 => ⟨S12x4096, .f32⟩
  | 37 => ⟨S12x4096, .f32⟩
  | 38 => ⟨S12x4096, .f32⟩
  | 39 => ⟨S12x4096x4096, .f32⟩
  | 40 => ⟨S12x4096x4096, .f32⟩
  | 41 => ⟨S12x4096x4096, .f32⟩
  | 42 => ⟨S_, .f32⟩
  | 43 => ⟨S12x4096x4096, .f32⟩
  | 44 => ⟨S12x4096x4096, .f32⟩
  | 45 => ⟨S12x4096x64, .f32⟩
  | 46 => ⟨S4096x12x64, .f32⟩
  | 47 => ⟨S12x4096x64, .f32⟩
  | 48 => ⟨S4096x12x64, .f32⟩
  | 49 => ⟨S4096x768, .f32⟩
  | 50 => ⟨S4096x768, .f32⟩
  | 51 => ⟨S4096x256, .f32⟩
  | 52 => ⟨S1024x1024, .f32⟩
  | 53 => ⟨S4096x256, .f32⟩
  | 54 => ⟨S1024x1024, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33_0 : Ref sig .tc := ⟨.hbm, 53, rfl⟩
abbrev main_call2_cst : Ref sig .tc := ⟨.hbm, 54, rfl⟩
abbrev main_v33_1 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_cst : Ref sig .tc := ⟨.hbm, 170, rfl⟩
abbrev main_call3_v0 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]
-- ==== Band2DqKernel.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S4096x2560 : Shape := ⟨2, ![4096, 2560]⟩
abbrev S256x40960 : Shape := ⟨2, ![256, 40960]⟩
abbrev S256x4096 : Shape := ⟨2, ![256, 4096]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S128x1 : Shape := ⟨2, ![128, 1]⟩

abbrev nBuf : Space → Nat
  | .hbm => 109
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x768, .f32⟩
  | .hbm, ⟨7, _⟩ => ⟨S4096x768, .f32⟩
  | .hbm, ⟨8, _⟩ => ⟨S4096x12x64, .f32⟩
  | .hbm, ⟨9, _⟩ => ⟨S4096x12x64, .f32⟩
  | .hbm, ⟨10, _⟩ => ⟨S12x4096x4096, .f32⟩
  | .hbm, ⟨11, _⟩ => ⟨S4096, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i1⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S_, .i32⟩
  | .hbm, ⟨21, _⟩ => ⟨S12, .i32⟩
  | .hbm, ⟨22, _⟩ => ⟨S12, .i32⟩
  | .hbm, ⟨23, _⟩ => ⟨S12, .i32⟩
  | .hbm, ⟨24, _⟩ => ⟨S_, .i32⟩
  | .hbm, ⟨25, _⟩ => ⟨S12, .i32⟩
  | .hbm, ⟨26, _⟩ => ⟨S12, .i32⟩
  | .hbm, ⟨27, _⟩ => ⟨S12x1x1, .i32⟩
  | .hbm, ⟨28, _⟩ => ⟨S12x4096x4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S1x4096x4096, .i32⟩
  | .hbm, ⟨35, _⟩ => ⟨S12x4096x4096, .i32⟩
  | .hbm, ⟨36, _⟩ => ⟨S_, .i32⟩
  | .hbm, ⟨37, _⟩ => ⟨S12x4096x4096, .i32⟩
  | .hbm, ⟨38, _⟩ => ⟨S12x4096x4096, .i1⟩
  | .hbm, ⟨39, _⟩ => ⟨S_, .i32⟩
  | .hbm, ⟨40, _⟩ => ⟨S12x4096x4096, .i32⟩
  | .hbm, ⟨41, _⟩ => ⟨S12x4096x4096, .i32⟩
  | .hbm, ⟨42, _⟩ => ⟨S12x4096x4096, .i32⟩
  | .hbm, ⟨43, _⟩ => ⟨S12x4096x4096, .i1⟩
  | .hbm, ⟨44, _⟩ => ⟨S12x4096x4096, .i1⟩
  | .hbm, ⟨45, _⟩ => ⟨S12x4096x4096, .i32⟩
  | .hbm, ⟨46, _⟩ => ⟨S_, .i32⟩
  | .hbm, ⟨47, _⟩ => ⟨S12x4096x4096, .i32⟩
  | .hbm, ⟨48, _⟩ => ⟨S12x4096x4096, .i1⟩
  | .hbm, ⟨49, _⟩ => ⟨S12x4096x4096, .i1⟩
  | .hbm, ⟨50, _⟩ => ⟨S_, .f32⟩
  | .hbm, ⟨51, _⟩ => ⟨S_, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S4096x12x64, .f32⟩
  | .hbm, ⟨69, _⟩ => ⟨S12x64x4096, .f32⟩
  | .hbm, ⟨70, _⟩ => ⟨S4096x12x64, .f32⟩
  | .hbm, ⟨71, _⟩ => ⟨S4096x12, .f32⟩
  | .hbm, ⟨72, _⟩ => ⟨S4096x12x64, .f32⟩
  | .hbm, ⟨73, _⟩ => ⟨S4096x768, .f32⟩
  | .hbm, ⟨74, _⟩ => ⟨S4096x768, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x2560, .f32⟩
  | .hbm, ⟨103, _⟩ => ⟨S4096x2560, .bf16⟩
  | .hbm, ⟨104, _⟩ => ⟨S256x40960, .bf16⟩
  | .hbm, ⟨105, _⟩ => ⟨S256x4096, .f32⟩
  | .hbm, ⟨106, _⟩ => ⟨S256x4096, .f32⟩
  | .hbm, ⟨107, _⟩ => ⟨S256x4096, .f32⟩
  | .hbm, ⟨108, _⟩ => ⟨S256x4096, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c3_i32 : BitVec 32 := 3#32
  let v3 : BitVec 32 := Scalar.addi v2 c3_i32
  let c2_i32 : BitVec 32 := 2#32
  let v4 : BitVec 32 := Scalar.addi v3 c2_i32
  let c0_i32_0 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c6_i32 : BitVec 32 := 6#32
  let v3 : BitVec 32 := Scalar.addi v2 c6_i32
  let c2_i32 : BitVec 32 := 2#32
  let v4 : BitVec 32 := Scalar.addi v3 c2_i32
  let c0_i32_0 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Band2DqKernelIdeal.lean ====
variable {F : FTy → Type} [FloatOps F] [Named F]
def κ : String → Option EReal := fun
  | "mask" => some ⊥
  | _ => none
-- ==== Band2DqReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S3x4x4096 : Shape := ⟨3, ![3, 4, 4096]⟩
abbrev S4x4096 : Shape := ⟨2, ![4, 4096]⟩
abbrev S1x4x4096 : Shape := ⟨3, ![1, 4, 4096]⟩
abbrev S4096x3x4 : Shape := ⟨3, ![4096, 3, 4]⟩
abbrev S4096x3x4x1 : Shape := ⟨4, ![4096, 3, 4, 1]⟩
abbrev S4096x3x4x64 : Shape := ⟨4, ![4096, 3, 4, 64]⟩
abbrev S4096x4x64 : Shape := ⟨3, ![4096, 4, 64]⟩
abbrev S12x4096x64 : Shape := ⟨3, ![12, 4096, 64]⟩
abbrev S256x4096 : Shape := ⟨2, ![256, 4096]⟩

abbrev nBuf : Space → Nat
  | .hbm => 181
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S_, .f32⟩
  | 6 => ⟨S4096x768, .f32⟩
  | 7 => ⟨S4096x768, .f32⟩
  | 8 => ⟨S4096x12x64, .f32⟩
  | 9 => ⟨S4096x12x64, .f32⟩
  | 10 => ⟨S12x4096x4096, .f32⟩
  | 11 => ⟨S4096, .i32⟩
  | 12 => ⟨S12, .i32⟩
  | 13 => ⟨S_, .i32⟩
  | 14 => ⟨S12, .i32⟩
  | 15 => ⟨S12, .i1⟩
  | 16 => ⟨S_, .i32⟩
  | 17 => ⟨S12, .i32⟩
  | 18 => ⟨S12, .i1⟩
  | 19 => ⟨S_, .i32⟩
  | 20 => ⟨S_, .i32⟩
  | 21 => ⟨S12, .i32⟩
  | 22 => ⟨S12, .i32⟩
  | 23 => ⟨S12, .i32⟩
  | 24 => ⟨S_, .i32⟩
  | 25 => ⟨S12, .i32⟩
  | 26 => ⟨S12, .i32⟩
  | 27 => ⟨S12x1x1, .i32⟩
  | 28 => ⟨S12x4096x4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S1x4096x4096, .i32⟩
  | 35 => ⟨S12x4096x4096, .i32⟩
  | 36 => ⟨S_, .i32⟩
  | 37 => ⟨S12x4096x4096, .i32⟩
  | 38 => ⟨S12x4096x4096, .i1⟩
  | 39 => ⟨S_, .i32⟩
  | 40 => ⟨S12x4096x4096, .i32⟩
  | 41 => ⟨S12x4096x4096, .i32⟩
  | 42 => ⟨S12x4096x4096, .i32⟩
  | 43 => ⟨S12x4096x4096, .i1⟩
  | 44 => ⟨S12x4096x4096, .i1⟩
  | 45 => ⟨S12x4096x4096, .i32⟩
  | 46 => ⟨S_, .i32⟩
  | 47 => ⟨S12x4096x4096, .i32⟩
  | 48 => ⟨S12x4096x4096, .i1⟩
  | 49 => ⟨S12x4096x4096, .i1⟩
  | 50 => ⟨S_, .f32⟩
  | 51 => ⟨S_, .f32⟩
  | 52 => ⟨S12x4096x4096, .f32⟩
  | 53 => ⟨S12x4096x4096, .f32⟩
  | 54 => ⟨S_, .f32⟩
  | 55 => ⟨S12x4096x4096, .f32⟩
  | 56 => ⟨S_, .f32⟩
  | 57 => ⟨S12x4096, .f32⟩
  | 58 => ⟨S12x4096x1, .f32⟩
  | 59 => ⟨S12x4096x4096, .f32⟩
  | 60 => ⟨S12x4096x4096, .i1⟩
  | 61 => ⟨S12x4096x4096, .f32⟩
  | 62 => ⟨S_, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096, .f32⟩
  | 71 => ⟨S12x4096, .f32⟩
  | 72 => ⟨S12x4096x1, .f32⟩
  | 73 => ⟨S12x4096x4096, .f32⟩
  | 74 => ⟨S12x4096x4096, .f32⟩
  | 75 => ⟨S12x4096x4096, .f32⟩
  | 76 => ⟨S4096x12x64, .f32⟩
  | 77 => ⟨S12x64x4096, .f32⟩
  | 78 => ⟨S4096x12x64, .f32⟩
  | 79 => ⟨S3x4x4096, .f32⟩
  | 80 => ⟨S_, .f32⟩
  | 81 => ⟨S4x4096, .f32⟩
  | 82 => ⟨S1x4x4096, .f32⟩
  | 83 => ⟨S3x4x4096, .f32⟩
  | 84 => ⟨S3x4x4096, .i1⟩
  | 85 => ⟨S3x4x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S_, .f32⟩
  | 92 => ⟨S4x4096, .f32⟩
  | 93 => ⟨S4x4096, .i1⟩
  | 94 => ⟨S_, .f32⟩
  | 95 => ⟨S4x4096, .f32⟩
  | 96 => ⟨S4x4096, .i1⟩
  | 97 => ⟨S_, .f32⟩
  | 98 => ⟨S4x4096, .f32⟩
  | 99 => ⟨S_, .f32⟩
  | 100 => ⟨S4x4096, .f32⟩
  | 101 => ⟨S_, .f32⟩
  | 102 => ⟨S4x4096, .f32⟩
  | 103 => ⟨S4x4096, .f32⟩
  | 104 => ⟨S4x4096, .f32⟩
  | 105 => ⟨S1x4x4096, .f32⟩
  | 106 => ⟨S3x4x4096, .f32⟩
  | 107 => ⟨S3x4x4096, .f32⟩
  | 108 => ⟨S3x4x4096, .f32⟩
  | 109 => ⟨S_, .f32⟩
  | 110 => ⟨S4x4096, .f32⟩
  | 111 => ⟨S1x4x4096, .f32⟩
  | 112 => ⟨S3x4x4096, .f32⟩
  | 113 => ⟨S3x4x4096, .f32⟩
  | 114 => ⟨S1x4x4096, .f32⟩
  | 115 => ⟨S_, .f32⟩
  | 116 => ⟨S1x4x4096, .f32⟩
  | 117 => ⟨S1x4x4096, .f32⟩
  | 118 => ⟨S4096x3x4, .f32⟩
  | 119 => ⟨S4096x3x4x1, .f32⟩
  | 120 => ⟨S4096x3x4x64, .f32⟩
  | 121 => ⟨S4096x3x4x64, .f32⟩
  | 122 => ⟨S4096x3x4x64, .f32⟩
  | 123 => ⟨S_, .f32⟩
  | 124 => ⟨S4096x4x64, .f32⟩
  | 125 => ⟨S4096x256, .f32⟩
  | 126 => ⟨S4096x4x64, .f32⟩
  | 127 => ⟨S4096x3x4x64, .f32⟩
  | _ => ⟨S4096x768, .f32⟩

abbrev hbmTy0_1 (i : Nat) : BufTy := match i % 128 with
  | 0 => ⟨S4096x3x4x64, .f32⟩
  | 1 => ⟨S4096x3x4x64, .f32⟩
  | 2 => ⟨S4096x3x4x64, .f32⟩
  | 3 => ⟨S_, .f32⟩
  | 4 => ⟨S4096x3x4, .f32⟩
  | 5 => ⟨S4096x3x4x1, .f32⟩
  | 6 => ⟨S4096x12x64, .f32⟩
  | 7 => ⟨S_, .f32⟩
  | 8 => ⟨S4096x3x4, .f32⟩
  | 9 => ⟨S3x4x4096, .f32⟩
  | 10 => ⟨S3x4x4096, .f32⟩
  | 11 => ⟨S3x4x4096, .f32⟩
  | 12 => ⟨S3x4x4096, .f32⟩
  | 13 => ⟨S_, .f32⟩
  | 14 => ⟨S4x4096, .f32⟩
  | 15 => ⟨S1x4x4096, .f32⟩
  | 16 => ⟨S1x4x4096, .f32⟩
  | 17 => ⟨S3x4x4096, .f32⟩
  | 18 => ⟨S3x4x4096, .f32⟩
  | 19 => ⟨S_, .f32⟩
  | 20 => ⟨S4x4096, .f32⟩
  | 21 => ⟨S3x4x4096, .f32⟩
  | 22 => ⟨S3x4x4096, .f32⟩
  | 23 => ⟨S3x4x4096, .f32⟩
  | 24 => ⟨S12x4096, .f32⟩
  | 25 => ⟨S12x64x4096, .f32⟩
  | 26 => ⟨S12x4096x4096, .f32⟩
  | 27 => ⟨S12x64x4096, .f32⟩
  | 28 => ⟨S4096x12x64, .f32⟩
  | 29 => ⟨S4096x768, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S_, .f32⟩
  | 36 => ⟨S12x4096, .f32⟩
  | 37 => ⟨S12x4096, .f32⟩
  | 38 => ⟨S12x4096, .f32⟩
  | 39 => ⟨S12x4096x4096, .f32⟩
  | 40 => ⟨S12x4096x4096, .f32⟩
  | 41 => ⟨S12x4096x4096, .f32⟩
  | 42 => ⟨S_, .f32⟩
  | 43 => ⟨S12x4096x4096, .f32⟩
  | 44 => ⟨S12x4096x4096, .f32⟩
  | 45 => ⟨S12x4096x64, .f32⟩
  | 46 => ⟨S4096x12x64, .f32⟩
  | 47 => ⟨S12x4096x64, .f32⟩
  | 48 => ⟨S4096x12x64, .f32⟩
  | 49 => ⟨S4096x768, .f32⟩
  | 50 => ⟨S4096x768, .f32⟩
  | 51 => ⟨S4096x256, .f32⟩
  | 52 => ⟨S256x4096, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33_0 : Ref sig .tc := ⟨.hbm, 53, rfl⟩
abbrev main_call2_cst : Ref sig .tc := ⟨.hbm, 54, rfl⟩
abbrev main_v33_1 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_cst : Ref sig .tc := ⟨.hbm, 170, rfl⟩
abbrev main_call3_v0 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩

abbrev nD : Nat := 1
abbrev τ : Topo := Topo.v7x

variable {F : FTy → Type} [FloatOps F]
-- ==== Band2DkvKernel.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S4096x2560 : Shape := ⟨2, ![4096, 2560]⟩
abbrev S256x40960 : Shape := ⟨2, ![256, 40960]⟩
abbrev S256x4096 : Shape := ⟨2, ![256, 4096]⟩
abbrev S128x256 : Shape := ⟨2, ![128, 256]⟩
abbrev S256x128 : Shape := ⟨2, ![256, 128]⟩
abbrev S256x256 : Shape := ⟨2, ![256, 256]⟩
abbrev S128x128 : Shape := ⟨2, ![128, 128]⟩
abbrev S1x128 : Shape := ⟨2, ![1, 128]⟩
abbrev S256 : Shape := ⟨1, ![256]⟩
abbrev S256x1 : Shape := ⟨2, ![256, 1]⟩

abbrev nBuf : Space → Nat
  | .hbm => 110
  | .vmem => 24
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x768, .f32⟩
  | .hbm, ⟨7, _⟩ => ⟨S4096x768, .f32⟩
  | .hbm, ⟨8, _⟩ => ⟨S4096x12x64, .f32⟩
  | .hbm, ⟨9, _⟩ => ⟨S4096x12x64, .f32⟩
  | .hbm, ⟨10, _⟩ => ⟨S12x4096x4096, .f32⟩
  | .hbm, ⟨11, _⟩ => ⟨S4096, .i32⟩
  | .hbm, ⟨12, _⟩ => ⟨S12, .i32⟩
  | .hbm, ⟨13, _⟩ => ⟨S_, .i32⟩
  | .hbm, ⟨14, _⟩ => ⟨S12, .i32⟩
  | .hbm, ⟨15, _⟩ => ⟨S12, .i1⟩
  | .hbm, ⟨16, _⟩ => ⟨S_, .i32⟩
  | .hbm, ⟨17, _⟩ => ⟨S12, .i32⟩
  | .hbm, ⟨18, _⟩ => ⟨S12, .i1⟩
  | .hbm, ⟨19, _⟩ => ⟨S_, .i32⟩
  | .hbm, ⟨20, _⟩ => ⟨S_, .i32⟩
  | .hbm, ⟨21, _⟩ => ⟨S12, .i32⟩
  | .hbm, ⟨22, _⟩ => ⟨S12, .i32⟩
  | .hbm, ⟨23, _⟩ => ⟨S12, .i32⟩
  | .hbm, ⟨24, _⟩ => ⟨S_, .i32⟩
  | .hbm, ⟨25, _⟩ => ⟨S12, .i32⟩
  | .hbm, ⟨26, _⟩ => ⟨S12, .i32⟩
  | .hbm, ⟨27, _⟩ => ⟨S12x1x1, .i32⟩
  | .hbm, ⟨28, _⟩ => ⟨S12x4096x4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i32⟩
  | .hbm, ⟨34, _⟩ => ⟨S1x4096x4096, .i32⟩
  | .hbm, ⟨35, _⟩ => ⟨S12x4096x4096, .i32⟩
  | .hbm, ⟨36, _⟩ => ⟨S_, .i32⟩
  | .hbm, ⟨37, _⟩ => ⟨S12x4096x4096, .i32⟩
  | .hbm, ⟨38, _⟩ => ⟨S12x4096x4096, .i1⟩
  | .hbm, ⟨39, _⟩ => ⟨S_, .i32⟩
  | .hbm, ⟨40, _⟩ => ⟨S12x4096x4096, .i32⟩
  | .hbm, ⟨41, _⟩ => ⟨S12x4096x4096, .i32⟩
  | .hbm, ⟨42, _⟩ => ⟨S12x4096x4096, .i32⟩
  | .hbm, ⟨43, _⟩ => ⟨S12x4096x4096, .i1⟩
  | .hbm, ⟨44, _⟩ => ⟨S12x4096x4096, .i1⟩
  | .hbm, ⟨45, _⟩ => ⟨S12x4096x4096, .i32⟩
  | .hbm, ⟨46, _⟩ => ⟨S_, .i32⟩
  | .hbm, ⟨47, _⟩ => ⟨S12x4096x4096, .i32⟩
  | .hbm, ⟨48, _⟩ => ⟨S12x4096x4096, .i1⟩
  | .hbm, ⟨49, _⟩ => ⟨S12x4096x4096, .i1⟩
  | .hbm, ⟨50, _⟩ => ⟨S_, .f32⟩
  | .hbm, ⟨51, _⟩ => ⟨S_, .f32⟩
  | .hbm, ⟨52, _⟩ => ⟨S12x4096x4096, .f32⟩
  | .hbm, ⟨53, _⟩ => ⟨S12x4096x4096, .f32⟩
  | .hbm, ⟨54, _⟩ => ⟨S_, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096, .f32⟩
  | .hbm, ⟨63, _⟩ => ⟨S12x4096, .f32⟩
  | .hbm, ⟨64, _⟩ => ⟨S12x4096x1, .f32⟩
  | .hbm, ⟨65, _⟩ => ⟨S12x4096x4096, .f32⟩
  | .hbm, ⟨66, _⟩ => ⟨S12x4096x4096, .f32⟩
  | .hbm, ⟨67, _⟩ => ⟨S12x4096x4096, .f32⟩
  | .hbm, ⟨68, _⟩ => ⟨S4096x12x64, .f32⟩
  | .hbm, ⟨69, _⟩ => ⟨S12x64x4096, .f32⟩
  | .hbm, ⟨70, _⟩ => ⟨S4096x12x64, .f32⟩
  | .hbm, ⟨71, _⟩ => ⟨S4096x12, .f32⟩
  | .hbm, ⟨72, _⟩ => ⟨S4096x12x64, .f32⟩
  | .hbm, ⟨73, _⟩ => ⟨S4096x768, .f32⟩
  | .hbm, ⟨74, _⟩ => ⟨S4096x768, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S4096x256, .f32⟩
  | .hbm, ⟨101, _⟩ => ⟨S4096x256, .f32⟩
  | .hbm, ⟨102, _⟩ => ⟨S4096x2560, .f32⟩
  | .hbm, ⟨103, _⟩ => ⟨S4096x2560, .bf16⟩
  | .hbm, ⟨104, _⟩ => ⟨S256x40960, .bf16⟩
  | .hbm, ⟨105, _⟩ => ⟨S256x4096, .f32⟩
  | .hbm, ⟨106, _⟩ => ⟨S256x4096, .f32⟩
  | .hbm, ⟨107, _⟩ => ⟨S256x4096, .f32⟩
  | .hbm, ⟨108, _⟩ => ⟨S256x4096, .f32⟩
  | .hbm, ⟨109, _⟩ => ⟨S256x4096, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85_0 : Ref sig .tc := ⟨.hbm, 108, rfl⟩
abbrev main_v85_1 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c10_i32 : BitVec 32 := 10#32
  let v2 : BitVec 32 := Scalar.muli arg0 c10_i32
  let c0_i32 : BitVec 32 := 0#32
  let v3 : BitVec 32 := Scalar.addi v2 c0_i32
  let c2_i32 : BitVec 32 := 2#32
  let v4 : BitVec 32 := Scalar.addi v3 c2_i32
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Band2DkvKernelIdeal.lean ====
variable {F : FTy → Type} [FloatOps F] [Named F]
def κ : String → Option EReal := fun
  | "mask" => some ⊥
  | _ => none
-- ==== Band2DkvReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S3x4x4096 : Shape := ⟨3, ![3, 4, 4096]⟩
abbrev S4x4096 : Shape := ⟨2, ![4, 4096]⟩
abbrev S1x4x4096 : Shape := ⟨3, ![1, 4, 4096]⟩
abbrev S4096x3x4 : Shape := ⟨3, ![4096, 3, 4]⟩
abbrev S4096x3x4x1 : Shape := ⟨4, ![4096, 3, 4, 1]⟩
abbrev S4096x3x4x64 : Shape := ⟨4, ![4096, 3, 4, 64]⟩
abbrev S4096x4x64 : Shape := ⟨3, ![4096, 4, 64]⟩
abbrev S12x4096x64 : Shape := ⟨3, ![12, 4096, 64]⟩
abbrev S256x4096 : Shape := ⟨2, ![256, 4096]⟩

abbrev nBuf : Space → Nat
  | .hbm => 183
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096x256, .f32⟩
  | 5 => ⟨S_, .f32⟩
  | 6 => ⟨S4096x768, .f32⟩
  | 7 => ⟨S4096x768, .f32⟩
  | 8 => ⟨S4096x12x64, .f32⟩
  | 9 => ⟨S4096x12x64, .f32⟩
  | 10 => ⟨S12x4096x4096, .f32⟩
  | 11 => ⟨S4096, .i32⟩
  | 12 => ⟨S12, .i32⟩
  | 13 => ⟨S_, .i32⟩
  | 14 => ⟨S12, .i32⟩
  | 15 => ⟨S12, .i1⟩
  | 16 => ⟨S_, .i32⟩
  | 17 => ⟨S12, .i32⟩
  | 18 => ⟨S12, .i1⟩
  | 19 => ⟨S_, .i32⟩
  | 20 => ⟨S_, .i32⟩
  | 21 => ⟨S12, .i32⟩
  | 22 => ⟨S12, .i32⟩
  | 23 => ⟨S12, .i32⟩
  | 24 => ⟨S_, .i32⟩
  | 25 => ⟨S12, .i32⟩
  | 26 => ⟨S12, .i32⟩
  | 27 => ⟨S12x1x1, .i32⟩
  | 28 => ⟨S12x4096x4096, .i32⟩
  | 29 => ⟨S4096x1, .i32⟩
  | 30 => ⟨S1x4096, .i32⟩
  | 31 => ⟨S4096x4096, .i32⟩
  | 32 => ⟨S4096x4096, .i32⟩
  | 33 => ⟨S4096x4096, .i32⟩
  | 34 => ⟨S1x4096x4096, .i32⟩
  | 35 => ⟨S12x4096x4096, .i32⟩
  | 36 => ⟨S_, .i32⟩
  | 37 => ⟨S12x4096x4096, .i32⟩
  | 38 => ⟨S12x4096x4096, .i1⟩
  | 39 => ⟨S_, .i32⟩
  | 40 => ⟨S12x4096x4096, .i32⟩
  | 41 => ⟨S12x4096x4096, .i32⟩
  | 42 => ⟨S12x4096x4096, .i32⟩
  | 43 => ⟨S12x4096x4096, .i1⟩
  | 44 => ⟨S12x4096x4096, .i1⟩
  | 45 => ⟨S12x4096x4096, .i32⟩
  | 46 => ⟨S_, .i32⟩
  | 47 => ⟨S12x4096x4096, .i32⟩
  | 48 => ⟨S12x4096x4096, .i1⟩
  | 49 => ⟨S12x4096x4096, .i1⟩
  | 50 => ⟨S_, .f32⟩
  | 51 => ⟨S_, .f32⟩
  | 52 => ⟨S12x4096x4096, .f32⟩
  | 53 => ⟨S12x4096x4096, .f32⟩
  | 54 => ⟨S_, .f32⟩
  | 55 => ⟨S12x4096x4096, .f32⟩
  | 56 => ⟨S_, .f32⟩
  | 57 => ⟨S12x4096, .f32⟩
  | 58 => ⟨S12x4096x1, .f32⟩
  | 59 => ⟨S12x4096x4096, .f32⟩
  | 60 => ⟨S12x4096x4096, .i1⟩
  | 61 => ⟨S12x4096x4096, .f32⟩
  | 62 => ⟨S_, .f32⟩
  | 63 => ⟨S12x4096, .f32⟩
  | 64 => ⟨S12x4096x1, .f32⟩
  | 65 => ⟨S12x4096x4096, .f32⟩
  | 66 => ⟨S12x4096x4096, .f32⟩
  | 67 => ⟨S12x4096x4096, .f32⟩
  | 68 => ⟨S_, .f32⟩
  | 69 => ⟨S12x4096, .f32⟩
  | 70 => ⟨S12x4096, .f32⟩
  | 71 => ⟨S12x4096, .f32⟩
  | 72 => ⟨S12x4096x1, .f32⟩
  | 73 => ⟨S12x4096x4096, .f32⟩
  | 74 => ⟨S12x4096x4096, .f32⟩
  | 75 => ⟨S12x4096x4096, .f32⟩
  | 76 => ⟨S4096x12x64, .f32⟩
  | 77 => ⟨S12x64x4096, .f32⟩
  | 78 => ⟨S4096x12x64, .f32⟩
  | 79 => ⟨S3x4x4096, .f32⟩
  | 80 => ⟨S_, .f32⟩
  | 81 => ⟨S4x4096, .f32⟩
  | 82 => ⟨S1x4x4096, .f32⟩
  | 83 => ⟨S3x4x4096, .f32⟩
  | 84 => ⟨S3x4x4096, .i1⟩
  | 85 => ⟨S3x4x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S_, .f32⟩
  | 92 => ⟨S4x4096, .f32⟩
  | 93 => ⟨S4x4096, .i1⟩
  | 94 => ⟨S_, .f32⟩
  | 95 => ⟨S4x4096, .f32⟩
  | 96 => ⟨S4x4096, .i1⟩
  | 97 => ⟨S_, .f32⟩
  | 98 => ⟨S4x4096, .f32⟩
  | 99 => ⟨S_, .f32⟩
  | 100 => ⟨S4x4096, .f32⟩
  | 101 => ⟨S_, .f32⟩
  | 102 => ⟨S4x4096, .f32⟩
  | 103 => ⟨S4x4096, .f32⟩
  | 104 => ⟨S4x4096, .f32⟩
  | 105 => ⟨S1x4x4096, .f32⟩
  | 106 => ⟨S3x4x4096, .f32⟩
  | 107 => ⟨S3x4x4096, .f32⟩
  | 108 => ⟨S3x4x4096, .f32⟩
  | 109 => ⟨S_, .f32⟩
  | 110 => ⟨S4x4096, .f32⟩
  | 111 => ⟨S1x4x4096, .f32⟩
  | 112 => ⟨S3x4x4096, .f32⟩
  | 113 => ⟨S3x4x4096, .f32⟩
  | 114 => ⟨S1x4x4096, .f32⟩
  | 115 => ⟨S_, .f32⟩
  | 116 => ⟨S1x4x4096, .f32⟩
  | 117 => ⟨S1x4x4096, .f32⟩
  | 118 => ⟨S4096x3x4, .f32⟩
  | 119 => ⟨S4096x3x4x1, .f32⟩
  | 120 => ⟨S4096x3x4x64, .f32⟩
  | 121 => ⟨S4096x3x4x64, .f32⟩
  | 122 => ⟨S4096x3x4x64, .f32⟩
  | 123 => ⟨S_, .f32⟩
  | 124 => ⟨S4096x4x64, .f32⟩
  | 125 => ⟨S4096x256, .f32⟩
  | 126 => ⟨S4096x4x64, .f32⟩
  | 127 => ⟨S4096x3x4x64, .f32⟩
  | _ => ⟨S4096x768, .f32⟩

abbrev hbmTy0_1 (i : Nat) : BufTy := match i % 128 with
  | 0 => ⟨S4096x3x4x64, .f32⟩
  | 1 => ⟨S4096x3x4x64, .f32⟩
  | 2 => ⟨S4096x3x4x64, .f32⟩
  | 3 => ⟨S_, .f32⟩
  | 4 => ⟨S4096x3x4, .f32⟩
  | 5 => ⟨S4096x3x4x1, .f32⟩
  | 6 => ⟨S4096x12x64, .f32⟩
  | 7 => ⟨S_, .f32⟩
  | 8 => ⟨S4096x3x4, .f32⟩
  | 9 => ⟨S3x4x4096, .f32⟩
  | 10 => ⟨S3x4x4096, .f32⟩
  | 11 => ⟨S3x4x4096, .f32⟩
  | 12 => ⟨S3x4x4096, .f32⟩
  | 13 => ⟨S_, .f32⟩
  | 14 => ⟨S4x4096, .f32⟩
  | 15 => ⟨S1x4x4096, .f32⟩
  | 16 => ⟨S1x4x4096, .f32⟩
  | 17 => ⟨S3x4x4096, .f32⟩
  | 18 => ⟨S3x4x4096, .f32⟩
  | 19 => ⟨S_, .f32⟩
  | 20 => ⟨S4x4096, .f32⟩
  | 21 => ⟨S3x4x4096, .f32⟩
  | 22 => ⟨S3x4x4096, .f32⟩
  | 23 => ⟨S3x4x4096, .f32⟩
  | 24 => ⟨S12x4096, .f32⟩
  | 25 => ⟨S12x64x4096, .f32⟩
  | 26 => ⟨S12x4096x4096, .f32⟩
  | 27 => ⟨S12x64x4096, .f32⟩
  | 28 => ⟨S4096x12x64, .f32⟩
  | 29 => ⟨S4096x768, .f32⟩
  | 30 => ⟨S12x4096x4096, .f32⟩
  | 31 => ⟨S12x4096x4096, .f32⟩
  | 32 => ⟨S_, .f32⟩
  | 33 => ⟨S12x4096, .f32⟩
  | 34 => ⟨S12x4096x1, .f32⟩
  | 35 => ⟨S_, .f32⟩
  | 36 => ⟨S12x4096, .f32⟩
  | 37 => ⟨S12x4096, .f32⟩
  | 38 => ⟨S12x4096, .f32⟩
  | 39 => ⟨S12x4096x4096, .f32⟩
  | 40 => ⟨S12x4096x4096, .f32⟩
  | 41 => ⟨S12x4096x4096, .f32⟩
  | 42 => ⟨S_, .f32⟩
  | 43 => ⟨S12x4096x4096, .f32⟩
  | 44 => ⟨S12x4096x4096, .f32⟩
  | 45 => ⟨S12x4096x64, .f32⟩
  | 46 => ⟨S4096x12x64, .f32⟩
  | 47 => ⟨S12x4096x64, .f32⟩
  | 48 => ⟨S4096x12x64, .f32⟩
  | 49 => ⟨S4096x768, .f32⟩
  | 50 => ⟨S4096x768, .f32⟩
  | 51 => ⟨S4096x256, .f32⟩
  | 52 => ⟨S256x4096, .f32⟩
  | 53 => ⟨S4096x256, .f32⟩
  | 54 => ⟨S256x4096, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v33_0 : Ref sig .tc := ⟨.hbm, 53, rfl⟩
abbrev main_call2_cst : Ref sig .tc := ⟨.hbm, 54, rfl⟩
abbrev main_v33_1 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call3_cst : Ref sig .tc := ⟨.hbm, 170, rfl⟩
abbrev main_call3_v0 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]
-- ==== MemKernel.lean ====
abbrev S4096x256 : Shape := ⟨2, ![4096, 256]⟩
abbrev S256x512 : Shape := ⟨2, ![256, 512]⟩
abbrev S_ : Shape := ⟨0, ![]⟩
abbrev S4096x4x64 : Shape := ⟨3, ![4096, 4, 64]⟩
abbrev S256x256 : Shape := ⟨2, ![256, 256]⟩
abbrev S256x4x64 : Shape := ⟨3, ![256, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4096x4 : Shape := ⟨2, ![4096, 4]⟩
abbrev S512x256 : Shape := ⟨2, ![512, 256]⟩
abbrev S512x128 : Shape := ⟨2, ![512, 128]⟩
abbrev S256x128 : Shape := ⟨2, ![256, 128]⟩
abbrev S1x128 : Shape := ⟨2, ![1, 128]⟩
abbrev S512 : Shape := ⟨1, ![512]⟩
abbrev S512x1 : Shape := ⟨2, ![512, 1]⟩

abbrev nBuf : Space → Nat
  | .hbm => 46
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S256x512, .f32⟩
  | .hbm, ⟨2, _⟩ => ⟨S4096x256, .f32⟩
  | .hbm, ⟨3, _⟩ => ⟨S_, .f32⟩
  | .hbm, ⟨4, _⟩ => ⟨S4096x256, .f32⟩
  | .hbm, ⟨5, _⟩ => ⟨S4096x256, .f32⟩
  | .hbm, ⟨6, _⟩ => ⟨S4096x4x64, .f32⟩
  | .hbm, ⟨7, _⟩ => ⟨S256x256, .f32⟩
  | .hbm, ⟨8, _⟩ => ⟨S256x256, .f32⟩
  | .hbm, ⟨9, _⟩ => ⟨S256x4x64, .f32⟩
  | .hbm, ⟨10, _⟩ => ⟨S256x4x64, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x256, .f32⟩
  | .hbm, ⟨29, _⟩ => ⟨S4x4096x256, .f32⟩
  | .hbm, ⟨30, _⟩ => ⟨S4x4096x256, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x256, .f32⟩
  | .hbm, ⟨35, _⟩ => ⟨S4x4096x256, .f32⟩
  | .hbm, ⟨36, _⟩ => ⟨S4x64x4096, .f32⟩
  | .hbm, ⟨37, _⟩ => ⟨S4096x4x64, .f32⟩
  | .hbm, ⟨38, _⟩ => ⟨S4096x256, .f32⟩
  | .hbm, ⟨39, _⟩ => ⟨S4096x4, .f32⟩
  | .hbm, ⟨40, _⟩ => ⟨S4096x4x64, .f32⟩
  | .hbm, ⟨41, _⟩ => ⟨S4096x256, .f32⟩
  | .hbm, ⟨42, _⟩ => ⟨S4096x256, .bf16⟩
  | .hbm, ⟨43, _⟩ => ⟨S256x512, .bf16⟩
  | .hbm, ⟨44, _⟩ => ⟨S4096x256, .f32⟩
  | .hbm, ⟨45, _⟩ => ⟨S256x512, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemReferenceIdeal.lean ====
abbrev S4096x256 : Shape := ⟨2, ![4096, 256]⟩
abbrev S256x512 : Shape := ⟨2, ![256, 512]⟩
abbrev S_ : Shape := ⟨0, ![]⟩
abbrev S4096x4x64 : Shape := ⟨3, ![4096, 4, 64]⟩
abbrev S256x256 : Shape := ⟨2, ![256, 256]⟩
abbrev S256x4x64 : Shape := ⟨3, ![256, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩

abbrev nBuf : Space → Nat
  | .hbm => 80
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x512, .f32⟩
  | .hbm, ⟨2, _⟩ => ⟨S4096x256, .f32⟩
  | .hbm, ⟨3, _⟩ => ⟨S_, .f32⟩
  | .hbm, ⟨4, _⟩ => ⟨S4096x256, .f32⟩
  | .hbm, ⟨5, _⟩ => ⟨S4096x256, .f32⟩
  | .hbm, ⟨6, _⟩ => ⟨S4096x4x64, .f32⟩
  | .hbm, ⟨7, _⟩ => ⟨S256x256, .f32⟩
  | .hbm, ⟨8, _⟩ => ⟨S256x256, .f32⟩
  | .hbm, ⟨9, _⟩ => ⟨S256x4x64, .f32⟩
  | .hbm, ⟨10, _⟩ => ⟨S256x4x64, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x256, .f32⟩
  | .hbm, ⟨16, _⟩ => ⟨S4x4096x256, .i1⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .i1⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x64x4096, .f32⟩
  | .hbm, ⟨51, _⟩ => ⟨S4096x4x64, .f32⟩
  | .hbm, ⟨52, _⟩ => ⟨S4096x256, .f32⟩
  | .hbm, ⟨53, _⟩ => ⟨S4096x4x64, .f32⟩
  | .hbm, ⟨54, _⟩ => ⟨S4x64x4096, .f32⟩
  | .hbm, ⟨55, _⟩ => ⟨S4x4096x256, .f32⟩
  | .hbm, ⟨56, _⟩ => ⟨S4x64x256, .f32⟩
  | .hbm, ⟨57, _⟩ => ⟨S256x4x64, .f32⟩
  | .hbm, ⟨58, _⟩ => ⟨S4x4096x256, .f32⟩
  | .hbm, ⟨59, _⟩ => ⟨S4x4096x256, .f32⟩
  | .hbm, ⟨60, _⟩ => ⟨S4x4096x256, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x1, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x256, .f32⟩
  | .hbm, ⟨70, _⟩ => ⟨S4x4096x256, .f32⟩
  | .hbm, ⟨71, _⟩ => ⟨S4x4096x256, .f32⟩
  | .hbm, ⟨72, _⟩ => ⟨S4x256x64, .f32⟩
  | .hbm, ⟨73, _⟩ => ⟨S256x4x64, .f32⟩
  | .hbm, ⟨74, _⟩ => ⟨S4x4096x64, .f32⟩
  | .hbm, ⟨75, _⟩ => ⟨S4096x4x64, .f32⟩
  | .hbm, ⟨76, _⟩ => ⟨S256x256, .f32⟩
  | .hbm, ⟨77, _⟩ => ⟨S256x256, .f32⟩
  | .hbm, ⟨78, _⟩ => ⟨S256x512, .f32⟩
  | .hbm, ⟨79, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== FfnKernel.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 41
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x4x1408, .f32⟩
  | .hbm, ⟨28, _⟩ => ⟨S4x1024x1408, .f32⟩
  | .hbm, ⟨29, _⟩ => ⟨S4x1024x1408, .bf16⟩
  | .hbm, ⟨30, _⟩ => ⟨S2x1408x1024, .f32⟩
  | .hbm, ⟨31, _⟩ => ⟨S2x1408x1024, .bf16⟩
  | .hbm, ⟨32, _⟩ => ⟨S4096x2816, .bf16⟩
  | .hbm, ⟨33, _⟩ => ⟨S4096x2816, .bf16⟩
  | .hbm, ⟨34, _⟩ => ⟨S1x1024, .f32⟩
  | .hbm, ⟨35, _⟩ => ⟨S4096x5632, .bf16⟩
  | .hbm, ⟨36, _⟩ => ⟨S4096x2816, .bf16⟩
  | .hbm, ⟨37, _⟩ => ⟨S4096x1024, .f32⟩
  | .hbm, ⟨38, _⟩ => ⟨S4096x1024, .bf16⟩
  | .hbm, ⟨39, _⟩ => ⟨S1x1024, .f32⟩
  | .hbm, ⟨40, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S4x1024x1408, .bf16⟩
  | .local _ .vmem, ⟨10, _⟩ => ⟨S2x1408x1024, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev main_v19_4 : Ref sig .tc := ⟨.hbm, 39, rfl⟩
abbrev main_v19_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnReferenceIdeal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096x5632 : Shape := ⟨2, ![4096, 5632]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S1024x5632, .f32⟩
  | 2 => ⟨S2816x1024, .f32⟩
  | 3 => ⟨S1024, .f32⟩
  | 4 => ⟨S1024, .f32⟩
  | 5 => ⟨S4096x1024, .f32⟩
  | 6 => ⟨S_, .f32⟩
  | 7 => ⟨S4096x5632, .f32⟩
  | 8 => ⟨S_, .f32⟩
  | 9 => ⟨S4096x1024, .f32⟩
  | 10 => ⟨S4096x5632, .f32⟩
  | 11 => ⟨S4096x5632, .f32⟩
  | 12 => ⟨S4096x2816, .f32⟩
  | 13 => ⟨S4096x2816, .f32⟩
  | 14 => ⟨S4096x2816, .f32⟩
  | 15 => ⟨S4096x2816, .f32⟩
  | 16 => ⟨S_, .f32⟩
  | 17 => ⟨S4096x2816, .f32⟩
  | 18 => ⟨S4096x2816, .f32⟩
  | 19 => ⟨S_, .f32⟩
  | 20 => ⟨S4096x2816, .f32⟩
  | 21 => ⟨S4096x2816, .f32⟩
  | 22 => ⟨S_, .f32⟩
  | 23 => ⟨S4096x2816, .f32⟩
  | 24 => ⟨S4096x2816, .f32⟩
  | 25 => ⟨S4096x2816, .f32⟩
  | 26 => ⟨S4096x2816, .f32⟩
  | 27 => ⟨S4096x2816, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S4096x1024, .f32⟩
  | 56 => ⟨S4096x1024, .f32⟩
  | 57 => ⟨S_, .f32⟩
  | 58 => ⟨S4096x1, .f32⟩
  | 59 => ⟨S4096x1, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S4096x1024, .f32⟩
  | 80 => ⟨S_, .f32⟩
  | 81 => ⟨S1024, .f32⟩
  | 82 => ⟨S1x1024, .f32⟩
  | 83 => ⟨S4096x1024, .f32⟩
  | 84 => ⟨S4096x1024, .f32⟩
  | 85 => ⟨S_, .f32⟩
  | 86 => ⟨S1024, .f32⟩
  | 87 => ⟨S4096x1024, .f32⟩
  | 88 => ⟨S_, .f32⟩
  | 89 => ⟨S4096, .f32⟩
  | 90 => ⟨S4096x1, .f32⟩
  | 91 => ⟨S4096x1024, .f32⟩
  | 92 => ⟨S4096x1024, .f32⟩
  | 93 => ⟨S4096x1, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S1024x2816, .f32⟩
  | 125 => ⟨S2816x1024, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x2816, .f32⟩
  | 5 => ⟨S4096x5632, .f32⟩
  | 6 => ⟨S4096x1024, .f32⟩
  | 7 => ⟨S4096x1024, .f32⟩
  | 8 => ⟨S4096x5632, .bf16⟩
  | 9 => ⟨S4096x2816, .bf16⟩
  | 10 => ⟨S4096x1024, .bf16⟩
  | 11 => ⟨S1x1024, .f32⟩
  | 12 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v6_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v6_1 : Ref sig .tc := ⟨.hbm, 25, rfl⟩
abbrev main_v6_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_v62 : Ref sig .tc := ⟨.hbm, 97, rfl⟩
abbrev main_cst_16 : Ref sig .tc := ⟨.hbm, 98, rfl⟩
abbrev main_v63 : Ref sig .tc := ⟨.hbm, 99, rfl⟩
abbrev main_v64 : Ref sig .tc := ⟨.hbm, 100, rfl⟩
abbrev main_cst_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_18 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_19 : Ref sig .tc := ⟨.hbm, 111, rfl⟩
abbrev main_v73 : Ref sig .tc := ⟨.hbm, 112, rfl⟩
abbrev main_v74 : Ref sig .tc := ⟨.hbm, 113, rfl⟩
abbrev main_cst_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_21 : Ref sig .tc := ⟨.hbm, 118, rfl⟩
abbrev main_v78 : Ref sig .tc := ⟨.hbm, 119, rfl⟩
abbrev main_v79 : Ref sig .tc := ⟨.hbm, 120, rfl⟩
abbrev main_cst_22 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩

abbrev nD : Nat := 1
abbrev τ : Topo := Topo.v7x

variable {F : FTy → Type} [FloatOps F]
-- ==== LnKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== RopeKernel.lean ====
abbrev S4096x256 : Shape := ⟨2, ![4096, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x2560 : Shape := ⟨2, ![4096, 2560]⟩
abbrev S512x256 : Shape := ⟨2, ![512, 256]⟩
abbrev S512x128 : Shape := ⟨2, ![512, 128]⟩
abbrev S512x2560 : Shape := ⟨2, ![512, 2560]⟩

abbrev nBuf : Space → Nat
  | .hbm => 48
  | .vmem => 28
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096x1, .f32⟩
  | .hbm, ⟨22, _⟩ => ⟨S1x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S_, .f32⟩
  | .hbm, ⟨29, _⟩ => ⟨S4096x48, .f32⟩
  | .hbm, ⟨30, _⟩ => ⟨S_, .f32⟩
  | .hbm, ⟨31, _⟩ => ⟨S4096x48, .f32⟩
  | .hbm, ⟨32, _⟩ => ⟨S_, .f32⟩
  | .hbm, ⟨33, _⟩ => ⟨S4096x8, .f32⟩
  | .hbm, ⟨34, _⟩ => ⟨S4096x64, .f32⟩
  | .hbm, ⟨35, _⟩ => ⟨S4096x8, .f32⟩
  | .hbm, ⟨36, _⟩ => ⟨S4096x64, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S1x4096x1x64, .f32⟩
  | .hbm, ⟨45, _⟩ => ⟨S1x4096x2x64, .f32⟩
  | .hbm, ⟨46, _⟩ => ⟨S4096x128, .f32⟩
  | .hbm, ⟨47, _⟩ => ⟨S4096x2560, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x2560, .bf16⟩
  | .local _ .vmem, ⟨27, _⟩ => ⟨S512x2560, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RopeReferenceIdeal.lean ====
abbrev S4096x256 : Shape := ⟨2, ![4096, 256]⟩
abbrev S_ : Shape := ⟨0, ![]⟩
abbrev S4096x2560 : Shape := ⟨2, ![4096, 2560]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x768 : Shape := ⟨2, ![4096, 768]⟩
abbrev S4096x12x64 : Shape := ⟨3, ![4096, 12, 64]⟩
abbrev S4096x1x8 : Shape := ⟨3, ![4096, 1, 8]⟩
abbrev S4096x12x8 : Shape := ⟨3, ![4096, 12, 8]⟩
abbrev S4096x12x48 : Shape := ⟨3, ![4096, 12, 48]⟩
abbrev S4096x4x64 : Shape := ⟨3, ![4096, 4, 64]⟩

abbrev nBuf : Space → Nat
  | .hbm => 191
  | .vmem => 0
  | .smem => 0
  | _ => 0

abbrev hbmTy0_0 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x2560, .f32⟩
  | 12 => ⟨S4096, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S4096x1, .f32⟩
  | 24 => ⟨S1x8, .f32⟩
  | 25 => ⟨S4096x8, .f32⟩
  | 26 => ⟨S4096x8, .f32⟩
  | 27 => ⟨S4096x8, .f32⟩
  | 28 => ⟨S4096x8, .f32⟩
  | 29 => ⟨S4096x8, .f32⟩
  | 30 => ⟨S4096x768, .f32⟩
  | 31 => ⟨S4096x12x64, .f32⟩
  | 32 => ⟨S4096x768, .f32⟩
  | 33 => ⟨S4096x12x64, .f32⟩
  | 34 => ⟨S4096x768, .f32⟩
  | 35 => ⟨S4096x12x64, .f32⟩
  | 36 => ⟨S4096x256, .f32⟩
  | 37 => ⟨S4096x1x8, .f32⟩
  | 38 => ⟨S4096x1x8, .f32⟩
  | 39 => ⟨S4096x12x8, .f32⟩
  | 40 => ⟨S4096x12x8, .f32⟩
  | 41 => ⟨S4096x12x8, .f32⟩
  | 42 => ⟨S4096x12x8, .f32⟩
  | 43 => ⟨S4096x12x8, .f32⟩
  | 44 => ⟨S4096x12x8, .f32⟩
  | 45 => ⟨S4096x12x8, .f32⟩
  | 46 => ⟨S4096x12x8, .f32⟩
  | 47 => ⟨S4096x12x8, .f32⟩
  | 48 => ⟨S4096x12x8, .f32⟩
  | 49 => ⟨S4096x12x8, .f32⟩
  | 50 => ⟨S4096x12x8, .f32⟩
  | 51 => ⟨S4096x12x48, .f32⟩
  | 52 => ⟨S4096x12x64, .f32⟩
  | 53 => ⟨S_, .f32⟩
  | 54 => ⟨S4096x12x64, .f32⟩
  | 55 => ⟨S4096x12x64, .f32⟩
  | 56 => ⟨S4096x1x8, .f32⟩
  | 57 => ⟨S4096x1x8, .f32⟩
  | 58 => ⟨S4096x12x8, .f32⟩
  | 59 => ⟨S4096x12x8, .f32⟩
  | 60 => ⟨S4096x12x8, .f32⟩
  | 61 => ⟨S4096x12x8, .f32⟩
  | 62 => ⟨S4096x12x8, .f32⟩
  | 63 => ⟨S4096x12x8, .f32⟩
  | 64 => ⟨S4096x12x8, .f32⟩
  | 65 => ⟨S4096x12x8, .f32⟩
  | 66 => ⟨S4096x12x8, .f32⟩
  | 67 => ⟨S4096x12x8, .f32⟩
  | 68 => ⟨S4096x12x8, .f32⟩
  | 69 => ⟨S4096x12x8, .f32⟩
  | 70 => ⟨S4096x12x48, .f32⟩
  | 71 => ⟨S4096x12x64, .f32⟩
  | 72 => ⟨S4096x4x64, .f32⟩
  | 73 => ⟨S4096x256, .f32⟩
  | 74 => ⟨S4096x4x64, .f32⟩
  | 75 => ⟨S4096x256, .f32⟩
  | 76 => ⟨S4096x4x64, .f32⟩
  | 77 => ⟨S4096x256, .f32⟩
  | 78 => ⟨S4096x4x64, .f32⟩
  | 79 => ⟨S4096x256, .f32⟩
  | 80 => ⟨S4096x4x64, .f32⟩
  | 81 => ⟨S4096x256, .f32⟩
  | 82 => ⟨S4096x4x64, .f32⟩
  | 83 => ⟨S4096x256, .f32⟩
  | 84 => ⟨S4096x4x64, .f32⟩
  | 85 => ⟨S4096x256, .f32⟩
  | 86 => ⟨S4096x4x64, .f32⟩
  | 87 => ⟨S4096x256, .f32⟩
  | 88 => ⟨S4096x4x64, .f32⟩
  | 89 => ⟨S4096x256, .f32⟩
  | 90 => ⟨S_, .f32⟩
  | 91 => ⟨S4096x256, .f32⟩
  | 92 => ⟨S4096x256, .f32⟩
  | 93 => ⟨S_, .f32⟩
  | 94 => ⟨S4096x256, .f32⟩
  | 95 => ⟨S4096x256, .f32⟩
  | 96 => ⟨S4096x4x64, .f32⟩
  | 97 => ⟨S_, .f32⟩
  | 98 => ⟨S4096x12x64, .f32⟩
  | 99 => ⟨S4096x4x64, .f32⟩
  | 100 => ⟨S_, .f32⟩
  | 101 => ⟨S4096x12x64, .f32⟩
  | 102 => ⟨S4096x12x64, .f32⟩
  | 103 => ⟨S4096x4x64, .f32⟩
  | 104 => ⟨S_, .f32⟩
  | 105 => ⟨S4096x12x64, .f32⟩
  | 106 => ⟨S4096x12x64, .f32⟩
  | 107 => ⟨S4096x4x64, .f32⟩
  | 108 => ⟨S_, .f32⟩
  | 109 => ⟨S4096x12x64, .f32⟩
  | 110 => ⟨S4096x4x64, .f32⟩
  | 111 => ⟨S_, .f32⟩
  | 112 => ⟨S4096x12x64, .f32⟩
  | 113 => ⟨S4096x12x64, .f32⟩
  | 114 => ⟨S4096x4x64, .f32⟩
  | 115 => ⟨S_, .f32⟩
  | 116 => ⟨S4096x12x64, .f32⟩
  | 117 => ⟨S4096x12x64, .f32⟩
  | 118 => ⟨S4096x4x64, .f32⟩
  | 119 => ⟨S_, .f32⟩
  | 120 => ⟨S4096x12x64, .f32⟩
  | 121 => ⟨S4096x4x64, .f32⟩
  | 122 => ⟨S_, .f32⟩
  | 123 => ⟨S4096x12x64, .f32⟩
  | 124 => ⟨S4096x12x64, .f32⟩
  | 125 => ⟨S4096x4x64, .f32⟩
  | 126 => ⟨S_, .f32⟩
  | 127 => ⟨S4096x12x64, .f32⟩
  | _ => ⟨S4096x256, .f32⟩

abbrev hbmTy0_1 (i : Nat) : BufTy := match i % 128 with
  | 0 => ⟨S4096x12x64, .f32⟩
  | 1 => ⟨S4096x12x8, .f32⟩
  | 2 => ⟨S4096x12x8, .f32⟩
  | 3 => ⟨S4096x12x48, .f32⟩
  | 4 => ⟨S_, .f32⟩
  | 5 => ⟨S4096x12x64, .f32⟩
  | 6 => ⟨S4096x12x8, .f32⟩
  | 7 => ⟨S4096x12x8, .f32⟩
  | 8 => ⟨S4096x12x8, .f32⟩
  | 9 => ⟨S4096x12x8, .f32⟩
  | 10 => ⟨S4096x12x8, .f32⟩
  | 11 => ⟨S4096x12x8, .f32⟩
  | 12 => ⟨S4096x12x8, .f32⟩
  | 13 => ⟨S4096x12x8, .f32⟩
  | 14 => ⟨S4096x12x8, .f32⟩
  | 15 => ⟨S4096x12x8, .f32⟩
  | 16 => ⟨S4096x12x8, .f32⟩
  | 17 => ⟨S_, .f32⟩
  | 18 => ⟨S4096x12x64, .f32⟩
  | 19 => ⟨S4096x12x64, .f32⟩
  | 20 => ⟨S_, .f32⟩
  | 21 => ⟨S4096x12x64, .f32⟩
  | 22 => ⟨S4096x12x64, .f32⟩
  | 23 => ⟨S_, .f32⟩
  | 24 => ⟨S4096x12x64, .f32⟩
  | 25 => ⟨S4096x12x64, .f32⟩
  | 26 => ⟨S4096x12x8, .f32⟩
  | 27 => ⟨S4096x12x8, .f32⟩
  | 28 => ⟨S4096x12x48, .f32⟩
  | 29 => ⟨S_, .f32⟩
  | 30 => ⟨S4096x12x64, .f32⟩
  | 31 => ⟨S4096x12x8, .f32⟩
  | 32 => ⟨S4096x12x8, .f32⟩
  | 33 => ⟨S4096x12x8, .f32⟩
  | 34 => ⟨S4096x12x8, .f32⟩
  | 35 => ⟨S4096x12x8, .f32⟩
  | 36 => ⟨S4096x12x8, .f32⟩
  | 37 => ⟨S4096x12x8, .f32⟩
  | 38 => ⟨S4096x12x8, .f32⟩
  | 39 => ⟨S4096x12x8, .f32⟩
  | 40 => ⟨S4096x12x8, .f32⟩
  | 41 => ⟨S4096x12x8, .f32⟩
  | 42 => ⟨S_, .f32⟩
  | 43 => ⟨S4096x12x64, .f32⟩
  | 44 => ⟨S4096x12x64, .f32⟩
  | 45 => ⟨S_, .f32⟩
  | 46 => ⟨S4096x12x64, .f32⟩
  | 47 => ⟨S4096x12x64, .f32⟩
  | 48 => ⟨S_, .f32⟩
  | 49 => ⟨S4096x2560, .f32⟩
  | 50 => ⟨S4096x768, .f32⟩
  | 51 => ⟨S_, .f32⟩
  | 52 => ⟨S4096x2560, .f32⟩
  | 53 => ⟨S4096x2560, .f32⟩
  | 54 => ⟨S4096x768, .f32⟩
  | 55 => ⟨S_, .f32⟩
  | 56 => ⟨S4096x2560, .f32⟩
  | 57 => ⟨S4096x2560, .f32⟩
  | 58 => ⟨S4096x768, .f32⟩
  | 59 => ⟨S_, .f32⟩
  | 60 => ⟨S4096x2560, .f32⟩
  | 61 => ⟨S4096x2560, .f32⟩
  | 62 => ⟨S4096x2560, .bf16⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_4 : Ref sig .tc := ⟨.hbm, 90, rfl⟩
abbrev main_v75 : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_6 : Ref sig .tc := ⟨.hbm, 97, rfl⟩
abbrev main_v80 : Ref sig .tc := ⟨.hbm, 98, rfl⟩
abbrev main_v81 : Ref sig .tc := ⟨.hbm, 99, rfl⟩
abbrev main_cst_7 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_8 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_cst_10 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_12 : Ref sig .tc := ⟨.hbm, 119, rfl⟩
abbrev main_v96 : Ref sig .tc := ⟨.hbm, 120, rfl⟩
abbrev main_v97 : Ref sig .tc := ⟨.hbm, 121, rfl⟩
abbrev main_cst_13 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_14 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_15 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_16 : Ref sig .tc := ⟨.hbm, 145, rfl⟩
abbrev main_v118 : Ref sig .tc := ⟨.hbm, 146, rfl⟩
abbrev main_v119 : Ref sig .tc := ⟨.hbm, 147, rfl⟩
abbrev main_cst_17 : Ref sig .tc := ⟨.hbm, 148, rfl⟩
abbrev main_v120 : Ref sig .tc := ⟨.hbm, 149, rfl⟩
abbrev main_v121 : Ref sig .tc := ⟨.hbm, 150, rfl⟩
abbrev main_cst_18 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_19 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_20 : Ref sig .tc := ⟨.hbm, 170, rfl⟩
abbrev main_v139 : Ref sig .tc := ⟨.hbm, 171, rfl⟩
abbrev main_v140 : Ref sig .tc := ⟨.hbm, 172, rfl⟩
abbrev main_cst_21 : Ref sig .tc := ⟨.hbm, 173, rfl⟩
abbrev main_v141 : Ref sig .tc := ⟨.hbm, 174, rfl⟩
abbrev main_v142 : Ref sig .tc := ⟨.hbm, 175, rfl⟩
abbrev main_cst_22 : Ref sig .tc := ⟨.hbm, 176, rfl⟩
abbrev main_v143 : Ref sig .tc := ⟨.hbm, 177, rfl⟩
abbrev main_v144 : Ref sig .tc := ⟨.hbm, 178, rfl⟩
abbrev main_cst_23 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_24 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_25 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩

abbrev nD : Nat := 1
abbrev τ : Topo := Topo.v7x

variable {F : FTy → Type} [FloatOps F]
-- ==== LossKernel.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== MemFwdKernel.lean ====
abbrev S4096x256 : Shape := ⟨2, ![4096, 256]⟩
abbrev S256x512 : Shape := ⟨2, ![256, 512]⟩
abbrev S_ : Shape := ⟨0, ![]⟩
abbrev S512x256 : Shape := ⟨2, ![512, 256]⟩
abbrev S512x128 : Shape := ⟨2, ![512, 128]⟩
abbrev S256x128 : Shape := ⟨2, ![256, 128]⟩
abbrev S1x128 : Shape := ⟨2, ![1, 128]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x512, .f32⟩
  | .hbm, ⟨2, _⟩ => ⟨S_, .f32⟩
  | .hbm, ⟨3, _⟩ => ⟨S4096x256, .f32⟩
  | .hbm, ⟨4, _⟩ => ⟨S4096x256, .f32⟩
  | .hbm, ⟨5, _⟩ => ⟨S4096x256, .bf16⟩
  | .hbm, ⟨6, _⟩ => ⟨S256x512, .bf16⟩
  | .hbm, ⟨7, _⟩ => ⟨S4096x256, .f32⟩
  | .hbm, ⟨8, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemFwdReferenceIdeal.lean ====
abbrev S4096x256 : Shape := ⟨2, ![4096, 256]⟩
abbrev S256x512 : Shape := ⟨2, ![256, 512]⟩
abbrev S_ : Shape := ⟨0, ![]⟩
abbrev S4096x4x64 : Shape := ⟨3, ![4096, 4, 64]⟩
abbrev S256x256 : Shape := ⟨2, ![256, 256]⟩
abbrev S256x4x64 : Shape := ⟨3, ![256, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4096x4 : Shape := ⟨2, ![4096, 4]⟩

abbrev nBuf : Space → Nat
  | .hbm => 50
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x512, .f32⟩
  | .hbm, ⟨2, _⟩ => ⟨S_, .f32⟩
  | .hbm, ⟨3, _⟩ => ⟨S4096x256, .f32⟩
  | .hbm, ⟨4, _⟩ => ⟨S4096x256, .f32⟩
  | .hbm, ⟨5, _⟩ => ⟨S4096x4x64, .f32⟩
  | .hbm, ⟨6, _⟩ => ⟨S256x256, .f32⟩
  | .hbm, ⟨7, _⟩ => ⟨S256x256, .f32⟩
  | .hbm, ⟨8, _⟩ => ⟨S256x4x64, .f32⟩
  | .hbm, ⟨9, _⟩ => ⟨S256x4x64, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S4x4096, .f32⟩
  | .hbm, ⟨20, _⟩ => ⟨S4x4096, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x4x64, .f32⟩
  | .hbm, ⟨25, _⟩ => ⟨S256x256, .f32⟩
  | .hbm, ⟨26, _⟩ => ⟨S256x256, .f32⟩
  | .hbm, ⟨27, _⟩ => ⟨S256x4x64, .f32⟩
  | .hbm, ⟨28, _⟩ => ⟨S256x4x64, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x64x4096, .f32⟩
  | .hbm, ⟨45, _⟩ => ⟨S4096x4x64, .f32⟩
  | .hbm, ⟨46, _⟩ => ⟨S4096x256, .f32⟩
  | .hbm, ⟨47, _⟩ => ⟨S4096x4, .f32⟩
  | .hbm, ⟨48, _⟩ => ⟨S4096x4x64, .f32⟩
  | .hbm, ⟨49, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== CombineKernel.lean ====
abbrev S4096x256 : Shape := ⟨2, ![4096, 256]⟩
abbrev S4096x4 : Shape := ⟨2, ![4096, 4]⟩
abbrev S4096x4x64 : Shape := ⟨3, ![4096, 4, 64]⟩
abbrev S512x256 : Shape := ⟨2, ![512, 256]⟩

abbrev nBuf : Space → Nat
  | .hbm => 14
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S4096x4x64, .f32⟩
  | .hbm, ⟨7, _⟩ => ⟨S4096x256, .f32⟩
  | .hbm, ⟨8, _⟩ => ⟨S4096x4x64, .f32⟩
  | .hbm, ⟨9, _⟩ => ⟨S4096x256, .f32⟩
  | .hbm, ⟨10, _⟩ => ⟨S4096x4x64, .f32⟩
  | .hbm, ⟨11, _⟩ => ⟨S4096x256, .f32⟩
  | .hbm, ⟨12, _⟩ => ⟨S4096x256, .f32⟩
  | .hbm, ⟨13, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineReferenceIdeal.lean ====
abbrev S4096x256 : Shape := ⟨2, ![4096, 256]⟩
abbrev S4096x4 : Shape := ⟨2, ![4096, 4]⟩
abbrev S1x4096x4 : Shape := ⟨3, ![1, 4096, 4]⟩
abbrev S3x4096x4 : Shape := ⟨3, ![3, 4096, 4]⟩
abbrev S_ : Shape := ⟨0, ![]⟩
abbrev S4096x4x64 : Shape := ⟨3, ![4096, 4, 64]⟩
abbrev S1x4096x4x64 : Shape := ⟨4, ![1, 4096, 4, 64]⟩
abbrev S3x4096x4x64 : Shape := ⟨4, ![3, 4096, 4, 64]⟩
abbrev S3x4096x4x1 : Shape := ⟨4, ![3, 4096, 4, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x4, .f32⟩
  | .hbm, ⟨4, _⟩ => ⟨S4096x4, .f32⟩
  | .hbm, ⟨5, _⟩ => ⟨S4096x4, .f32⟩
  | .hbm, ⟨6, _⟩ => ⟨S1x4096x4, .f32⟩
  | .hbm, ⟨7, _⟩ => ⟨S1x4096x4, .f32⟩
  | .hbm, ⟨8, _⟩ => ⟨S1x4096x4, .f32⟩
  | .hbm, ⟨9, _⟩ => ⟨S3x4096x4, .f32⟩
  | .hbm, ⟨10, _⟩ => ⟨S_, .f32⟩
  | .hbm, ⟨11, _⟩ => ⟨S4096x4, .f32⟩
  | .hbm, ⟨12, _⟩ => ⟨S_, .f32⟩
  | .hbm, ⟨13, _⟩ => ⟨S4096x4, .f32⟩
  | .hbm, ⟨14, _⟩ => ⟨S4096x4, .f32⟩
  | .hbm, ⟨15, _⟩ => ⟨S1x4096x4, .f32⟩
  | .hbm, ⟨16, _⟩ => ⟨S3x4096x4, .f32⟩
  | .hbm, ⟨17, _⟩ => ⟨S3x4096x4, .f32⟩
  | .hbm, ⟨18, _⟩ => ⟨S3x4096x4, .f32⟩
  | .hbm, ⟨19, _⟩ => ⟨S_, .f32⟩
  | .hbm, ⟨20, _⟩ => ⟨S4096x4, .f32⟩
  | .hbm, ⟨21, _⟩ => ⟨S1x4096x4, .f32⟩
  | .hbm, ⟨22, _⟩ => ⟨S3x4096x4, .f32⟩
  | .hbm, ⟨23, _⟩ => ⟨S3x4096x4, .f32⟩
  | .hbm, ⟨24, _⟩ => ⟨S4096x4x64, .f32⟩
  | .hbm, ⟨25, _⟩ => ⟨S4096x4x64, .f32⟩
  | .hbm, ⟨26, _⟩ => ⟨S4096x4x64, .f32⟩
  | .hbm, ⟨27, _⟩ => ⟨S1x4096x4x64, .f32⟩
  | .hbm, ⟨28, _⟩ => ⟨S1x4096x4x64, .f32⟩
  | .hbm, ⟨29, _⟩ => ⟨S1x4096x4x64, .f32⟩
  | .hbm, ⟨30, _⟩ => ⟨S3x4096x4x64, .f32⟩
  | .hbm, ⟨31, _⟩ => ⟨S_, .f32⟩
  | .hbm, ⟨32, _⟩ => ⟨S4096x4, .f32⟩
  | .hbm, ⟨33, _⟩ => ⟨S1x4096x4, .f32⟩
  | .hbm, ⟨34, _⟩ => ⟨S3x4096x4, .f32⟩
  | .hbm, ⟨35, _⟩ => ⟨S3x4096x4, .f32⟩
  | .hbm, ⟨36, _⟩ => ⟨S3x4096x4, .f32⟩
  | .hbm, ⟨37, _⟩ => ⟨S_, .f32⟩
  | .hbm, ⟨38, _⟩ => ⟨S4096x4, .f32⟩
  | .hbm, ⟨39, _⟩ => ⟨S4096x4, .f32⟩
  | .hbm, ⟨40, _⟩ => ⟨S4096x4, .f32⟩
  | .hbm, ⟨41, _⟩ => ⟨S3x4096x4x1, .f32⟩
  | .hbm, ⟨42, _⟩ => ⟨S3x4096x4x64, .f32⟩
  | .hbm, ⟨43, _⟩ => ⟨S3x4096x4x64, .f32⟩
  | .hbm, ⟨44, _⟩ => ⟨S_, .f32⟩
  | .hbm, ⟨45, _⟩ => ⟨S4096x4x64, .f32⟩
  | .hbm, ⟨46, _⟩ => ⟨S4096x256, .f32⟩
  | .hbm, ⟨47, _⟩ => ⟨S4096x4x64, .f32⟩
  | .hbm, ⟨48, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Band0FwdKernel.lean ====
abbrev S4096x768 : Shape := ⟨2, ![4096, 768]⟩
abbrev S4096x256 : Shape := ⟨2, ![4096, 256]⟩
abbrev S_ : Shape := ⟨0, ![]⟩
abbrev S4096x2560 : Shape := ⟨2, ![4096, 2560]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S128x1 : Shape := ⟨2, ![128, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x2560, .f32⟩
  | .hbm, ⟨11, _⟩ => ⟨S4096x2560, .bf16⟩
  | .hbm, ⟨12, _⟩ => ⟨S4096x256, .f32⟩
  | .hbm, ⟨13, _⟩ => ⟨S4096x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c3_i32 : BitVec 32 := 3#32
  let v3 : BitVec 32 := Scalar.addi v2 c3_i32
  let c0_i32_0 : BitVec 32 := 0#32
  let v4 : BitVec 32 := Scalar.addi v3 c0_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c6_i32 : BitVec 32 := 6#32
  let v3 : BitVec 32 := Scalar.addi v2 c6_i32
  let c0_i32_0 : BitVec 32 := 0#32
  let v4 : BitVec 32 := Scalar.addi v3 c0_i32_0
  let c0_i32_1 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Band0FwdKernelIdeal.lean ====
variable {F : FTy → Type} [FloatOps F] [Named F]
def κ : String → Option EReal := fun
  | "mask" => some ⊥
  | _ => none
-- ==== Band0FwdReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩

abbrev nBuf : Space → Nat
  | .hbm => 76
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S4096x12x64, .f32⟩
  | .hbm, ⟨8, _⟩ => ⟨S4096x12x64, .f32⟩
  | .hbm, ⟨9, _⟩ => ⟨S12x4096x4096, .f32⟩
  | .hbm, ⟨10, _⟩ => ⟨S4096, .i32⟩
  | .hbm, ⟨11, _⟩ => ⟨S12, .i32⟩
  | .hbm, ⟨12, _⟩ => ⟨S_, .i32⟩
  | .hbm, ⟨13, _⟩ => ⟨S12, .i32⟩
  | .hbm, ⟨14, _⟩ => ⟨S12, .i1⟩
  | .hbm, ⟨15, _⟩ => ⟨S_, .i32⟩
  | .hbm, ⟨16, _⟩ => ⟨S12, .i32⟩
  | .hbm, ⟨17, _⟩ => ⟨S12, .i1⟩
  | .hbm, ⟨18, _⟩ => ⟨S_, .i32⟩
  | .hbm, ⟨19, _⟩ => ⟨S_, .i32⟩
  | .hbm, ⟨20, _⟩ => ⟨S12, .i32⟩
  | .hbm, ⟨21, _⟩ => ⟨S12, .i32⟩
  | .hbm, ⟨22, _⟩ => ⟨S12, .i32⟩
  | .hbm, ⟨23, _⟩ => ⟨S_, .i32⟩
  | .hbm, ⟨24, _⟩ => ⟨S12, .i32⟩
  | .hbm, ⟨25, _⟩ => ⟨S12, .i32⟩
  | .hbm, ⟨26, _⟩ => ⟨S12x1x1, .i32⟩
  | .hbm, ⟨27, _⟩ => ⟨S12x4096x4096, .i32⟩
  | .hbm, ⟨28, _⟩ => ⟨S4096x1, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096, .i32⟩
  | .hbm, ⟨33, _⟩ => ⟨S1x4096x4096, .i32⟩
  | .hbm, ⟨34, _⟩ => ⟨S12x4096x4096, .i32⟩
  | .hbm, ⟨35, _⟩ => ⟨S_, .i32⟩
  | .hbm, ⟨36, _⟩ => ⟨S12x4096x4096, .i32⟩
  | .hbm, ⟨37, _⟩ => ⟨S12x4096x4096, .i1⟩
  | .hbm, ⟨38, _⟩ => ⟨S_, .i32⟩
  | .hbm, ⟨39, _⟩ => ⟨S12x4096x4096, .i32⟩
  | .hbm, ⟨40, _⟩ => ⟨S12x4096x4096, .i32⟩
  | .hbm, ⟨41, _⟩ => ⟨S12x4096x4096, .i32⟩
  | .hbm, ⟨42, _⟩ => ⟨S12x4096x4096, .i1⟩
  | .hbm, ⟨43, _⟩ => ⟨S12x4096x4096, .i1⟩
  | .hbm, ⟨44, _⟩ => ⟨S12x4096x4096, .i32⟩
  | .hbm, ⟨45, _⟩ => ⟨S_, .i32⟩
  | .hbm, ⟨46, _⟩ => ⟨S12x4096x4096, .i32⟩
  | .hbm, ⟨47, _⟩ => ⟨S12x4096x4096, .i1⟩
  | .hbm, ⟨48, _⟩ => ⟨S12x4096x4096, .i1⟩
  | .hbm, ⟨49, _⟩ => ⟨S_, .f32⟩
  | .hbm, ⟨50, _⟩ => ⟨S_, .f32⟩
  | .hbm, ⟨51, _⟩ => ⟨S12x4096x4096, .f32⟩
  | .hbm, ⟨52, _⟩ => ⟨S12x4096x4096, .f32⟩
  | .hbm, ⟨53, _⟩ => ⟨S_, .f32⟩
  | .hbm, ⟨54, _⟩ => ⟨S12x4096, .f32⟩
  | .hbm, ⟨55, _⟩ => ⟨S12x4096x1, .f32⟩
  | .hbm, ⟨56, _⟩ => ⟨S12x4096x4096, .f32⟩
  | .hbm, ⟨57, _⟩ => ⟨S12x4096x4096, .f32⟩
  | .hbm, ⟨58, _⟩ => ⟨S12x4096x4096, .f32⟩
  | .hbm, ⟨59, _⟩ => ⟨S_, .f32⟩
  | .hbm, ⟨60, _⟩ => ⟨S12x4096, .f32⟩
  | .hbm, ⟨61, _⟩ => ⟨S12x4096, .f32⟩
  | .hbm, ⟨62, _⟩ => ⟨S12x4096, .f32⟩
  | .hbm, ⟨63, _⟩ => ⟨S12x4096x1, .f32⟩
  | .hbm, ⟨64, _⟩ => ⟨S12x4096x4096, .f32⟩
  | .hbm, ⟨65, _⟩ => ⟨S12x4096x4096, .f32⟩
  | .hbm, ⟨66, _⟩ => ⟨S12x4096x4096, .f32⟩
  | .hbm, ⟨67, _⟩ => ⟨S4096x12x64, .f32⟩
  | .hbm, ⟨68, _⟩ => ⟨S12x64x4096, .f32⟩
  | .hbm, ⟨69, _⟩ => ⟨S4096x12x64, .f32⟩
  | .hbm, ⟨70, _⟩ => ⟨S4096x12, .f32⟩
  | .hbm, ⟨71, _⟩ => ⟨S4096x12x64, .f32⟩
  | .hbm, ⟨72, _⟩ => ⟨S4096x768, .f32⟩
  | .hbm, ⟨73, _⟩ => ⟨S4096x768, .f32⟩
  | .hbm, ⟨74, _⟩ => ⟨S4096x256, .f32⟩
  | .hbm, ⟨75, _⟩ => ⟨S4096x256, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Band1FwdKernel.lean ====
abbrev S4096x768 : Shape := ⟨2, ![4096, 768]⟩
abbrev S4096x256 : Shape := ⟨2, ![4096, 256]⟩
abbrev S_ : Shape := ⟨0, ![]⟩
abbrev S4096x2560 : Shape := ⟨2, ![4096, 2560]⟩
abbrev S1024x10240 : Shape := ⟨2, ![1024, 10240]⟩
abbrev S1024x1024 : Shape := ⟨2, ![1024, 1024]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S128x1 : Shape := ⟨2, ![128, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x2560, .f32⟩
  | .hbm, ⟨11, _⟩ => ⟨S4096x2560, .bf16⟩
  | .hbm, ⟨12, _⟩ => ⟨S1024x10240, .bf16⟩
  | .hbm, ⟨13, _⟩ => ⟨S1024x1024, .f32⟩
  | .hbm, ⟨14, _⟩ => ⟨S1024x1024, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c3_i32 : BitVec 32 := 3#32
  let v3 : BitVec 32 := Scalar.addi v2 c3_i32
  let c1_i32_0 : BitVec 32 := 1#32
  let v4 : BitVec 32 := Scalar.addi v3 c1_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c6_i32 : BitVec 32 := 6#32
  let v3 : BitVec 32 := Scalar.addi v2 c6_i32
  let c1_i32_0 : BitVec 32 := 1#32
  let v4 : BitVec 32 := Scalar.addi v3 c1_i32_0
  let c0_i32_1 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Band1FwdKernelIdeal.lean ====
variable {F : FTy → Type} [FloatOps F] [Named F]
def κ : String → Option EReal := fun
  | "mask" => some ⊥
  | _ => none
-- ==== Band1FwdReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S1024x1024 : Shape := ⟨2, ![1024, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S4096x12x64, .f32⟩
  | .hbm, ⟨8, _⟩ => ⟨S4096x12x64, .f32⟩
  | .hbm, ⟨9, _⟩ => ⟨S12x4096x4096, .f32⟩
  | .hbm, ⟨10, _⟩ => ⟨S4096, .i32⟩
  | .hbm, ⟨11, _⟩ => ⟨S12, .i32⟩
  | .hbm, ⟨12, _⟩ => ⟨S_, .i32⟩
  | .hbm, ⟨13, _⟩ => ⟨S12, .i32⟩
  | .hbm, ⟨14, _⟩ => ⟨S12, .i1⟩
  | .hbm, ⟨15, _⟩ => ⟨S_, .i32⟩
  | .hbm, ⟨16, _⟩ => ⟨S12, .i32⟩
  | .hbm, ⟨17, _⟩ => ⟨S12, .i1⟩
  | .hbm, ⟨18, _⟩ => ⟨S_, .i32⟩
  | .hbm, ⟨19, _⟩ => ⟨S_, .i32⟩
  | .hbm, ⟨20, _⟩ => ⟨S12, .i32⟩
  | .hbm, ⟨21, _⟩ => ⟨S12, .i32⟩
  | .hbm, ⟨22, _⟩ => ⟨S12, .i32⟩
  | .hbm, ⟨23, _⟩ => ⟨S_, .i32⟩
  | .hbm, ⟨24, _⟩ => ⟨S12, .i32⟩
  | .hbm, ⟨25, _⟩ => ⟨S12, .i32⟩
  | .hbm, ⟨26, _⟩ => ⟨S12x1x1, .i32⟩
  | .hbm, ⟨27, _⟩ => ⟨S12x4096x4096, .i32⟩
  | .hbm, ⟨28, _⟩ => ⟨S4096x1, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096, .i32⟩
  | .hbm, ⟨33, _⟩ => ⟨S1x4096x4096, .i32⟩
  | .hbm, ⟨34, _⟩ => ⟨S12x4096x4096, .i32⟩
  | .hbm, ⟨35, _⟩ => ⟨S_, .i32⟩
  | .hbm, ⟨36, _⟩ => ⟨S12x4096x4096, .i32⟩
  | .hbm, ⟨37, _⟩ => ⟨S12x4096x4096, .i1⟩
  | .hbm, ⟨38, _⟩ => ⟨S_, .i32⟩
  | .hbm, ⟨39, _⟩ => ⟨S12x4096x4096, .i32⟩
  | .hbm, ⟨40, _⟩ => ⟨S12x4096x4096, .i32⟩
  | .hbm, ⟨41, _⟩ => ⟨S12x4096x4096, .i32⟩
  | .hbm, ⟨42, _⟩ => ⟨S12x4096x4096, .i1⟩
  | .hbm, ⟨43, _⟩ => ⟨S12x4096x4096, .i1⟩
  | .hbm, ⟨44, _⟩ => ⟨S12x4096x4096, .i32⟩
  | .hbm, ⟨45, _⟩ => ⟨S_, .i32⟩
  | .hbm, ⟨46, _⟩ => ⟨S12x4096x4096, .i32⟩
  | .hbm, ⟨47, _⟩ => ⟨S12x4096x4096, .i1⟩
  | .hbm, ⟨48, _⟩ => ⟨S12x4096x4096, .i1⟩
  | .hbm, ⟨49, _⟩ => ⟨S_, .f32⟩
  | .hbm, ⟨50, _⟩ => ⟨S_, .f32⟩
  | .hbm, ⟨51, _⟩ => ⟨S12x4096x4096, .f32⟩
  | .hbm, ⟨52, _⟩ => ⟨S12x4096x4096, .f32⟩
  | .hbm, ⟨53, _⟩ => ⟨S_, .f32⟩
  | .hbm, ⟨54, _⟩ => ⟨S12x4096, .f32⟩
  | .hbm, ⟨55, _⟩ => ⟨S12x4096x1, .f32⟩
  | .hbm, ⟨56, _⟩ => ⟨S12x4096x4096, .f32⟩
  | .hbm, ⟨57, _⟩ => ⟨S12x4096x4096, .f32⟩
  | .hbm, ⟨58, _⟩ => ⟨S12x4096x4096, .f32⟩
  | .hbm, ⟨59, _⟩ => ⟨S_, .f32⟩
  | .hbm, ⟨60, _⟩ => ⟨S12x4096, .f32⟩
  | .hbm, ⟨61, _⟩ => ⟨S12x4096, .f32⟩
  | .hbm, ⟨62, _⟩ => ⟨S12x4096, .f32⟩
  | .hbm, ⟨63, _⟩ => ⟨S12x4096x1, .f32⟩
  | .hbm, ⟨64, _⟩ => ⟨S12x4096x4096, .f32⟩
  | .hbm, ⟨65, _⟩ => ⟨S12x4096x4096, .f32⟩
  | .hbm, ⟨66, _⟩ => ⟨S12x4096x4096, .f32⟩
  | .hbm, ⟨67, _⟩ => ⟨S4096x12x64, .f32⟩
  | .hbm, ⟨68, _⟩ => ⟨S12x64x4096, .f32⟩
  | .hbm, ⟨69, _⟩ => ⟨S4096x12x64, .f32⟩
  | .hbm, ⟨70, _⟩ => ⟨S4096x12, .f32⟩
  | .hbm, ⟨71, _⟩ => ⟨S4096x12x64, .f32⟩
  | .hbm, ⟨72, _⟩ => ⟨S4096x768, .f32⟩
  | .hbm, ⟨73, _⟩ => ⟨S4096x768, .f32⟩
  | .hbm, ⟨74, _⟩ => ⟨S4096x256, .f32⟩
  | .hbm, ⟨75, _⟩ => ⟨S1024x1024, .f32⟩
  | .hbm, ⟨76, _⟩ => ⟨S4096x256, .f32⟩
  | .hbm, ⟨77, _⟩ => ⟨S1024x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Band2FwdKernel.lean ====
abbrev S4096x768 : Shape := ⟨2, ![4096, 768]⟩
abbrev S4096x256 : Shape := ⟨2, ![4096, 256]⟩
abbrev S_ : Shape := ⟨0, ![]⟩
abbrev S4096x2560 : Shape := ⟨2, ![4096, 2560]⟩
abbrev S256x40960 : Shape := ⟨2, ![256, 40960]⟩
abbrev S256x4096 : Shape := ⟨2, ![256, 4096]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩
abbrev S128 : Shape := ⟨1, ![128]⟩
abbrev S128x1 : Shape := ⟨2, ![128, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x2560, .f32⟩
  | .hbm, ⟨11, _⟩ => ⟨S4096x2560, .bf16⟩
  | .hbm, ⟨12, _⟩ => ⟨S256x40960, .bf16⟩
  | .hbm, ⟨13, _⟩ => ⟨S256x4096, .f32⟩
  | .hbm, ⟨14, _⟩ => ⟨S256x4096, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c3_i32 : BitVec 32 := 3#32
  let v3 : BitVec 32 := Scalar.addi v2 c3_i32
  let c2_i32 : BitVec 32 := 2#32
  let v4 : BitVec 32 := Scalar.addi v3 c2_i32
  let c0_i32_0 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c3_i32 : BitVec 32 := 3#32
  let v1 : BitVec 32 := Scalar.addi v0 c3_i32
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c10_i32 : BitVec 32 := 10#32
  let v2 : BitVec 32 := Scalar.muli arg0 c10_i32
  let c6_i32 : BitVec 32 := 6#32
  let v3 : BitVec 32 := Scalar.addi v2 c6_i32
  let c2_i32 : BitVec 32 := 2#32
  let v4 : BitVec 32 := Scalar.addi v3 c2_i32
  let c0_i32_0 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Band2FwdKernelIdeal.lean ====
variable {F : FTy → Type} [FloatOps F] [Named F]
def κ : String → Option EReal := fun
  | "mask" => some ⊥
  | _ => none
-- ==== Band2FwdReferenceIdeal.lean ====
abbrev S4096x768 : Shape := ⟨2, ![4096, 768]⟩
abbrev S4096x256 : Shape := ⟨2, ![4096, 256]⟩
abbrev S_ : Shape := ⟨0, ![]⟩
abbrev S4096x12x64 : Shape := ⟨3, ![4096, 12, 64]⟩
abbrev S12x4096x4096 : Shape := ⟨3, ![12, 4096, 4096]⟩
abbrev S4096 : Shape := ⟨1, ![4096]⟩
abbrev S12 : Shape := ⟨1, ![12]⟩
abbrev S12x1x1 : Shape := ⟨3, ![12, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S4096x12 : Shape := ⟨2, ![4096, 12]⟩
abbrev S256x4096 : Shape := ⟨2, ![256, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S4096x12x64, .f32⟩
  | .hbm, ⟨8, _⟩ => ⟨S4096x12x64, .f32⟩
  | .hbm, ⟨9, _⟩ => ⟨S12x4096x4096, .f32⟩
  | .hbm, ⟨10, _⟩ => ⟨S4096, .i32⟩
  | .hbm, ⟨11, _⟩ => ⟨S12, .i32⟩
  | .hbm, ⟨12, _⟩ => ⟨S_, .i32⟩
  | .hbm, ⟨13, _⟩ => ⟨S12, .i32⟩
  | .hbm, ⟨14, _⟩ => ⟨S12, .i1⟩
  | .hbm, ⟨15, _⟩ => ⟨S_, .i32⟩
  | .hbm, ⟨16, _⟩ => ⟨S12, .i32⟩
  | .hbm, ⟨17, _⟩ => ⟨S12, .i1⟩
  | .hbm, ⟨18, _⟩ => ⟨S_, .i32⟩
  | .hbm, ⟨19, _⟩ => ⟨S_, .i32⟩
  | .hbm, ⟨20, _⟩ => ⟨S12, .i32⟩
  | .hbm, ⟨21, _⟩ => ⟨S12, .i32⟩
  | .hbm, ⟨22, _⟩ => ⟨S12, .i32⟩
  | .hbm, ⟨23, _⟩ => ⟨S_, .i32⟩
  | .hbm, ⟨24, _⟩ => ⟨S12, .i32⟩
  | .hbm, ⟨25, _⟩ => ⟨S12, .i32⟩
  | .hbm, ⟨26, _⟩ => ⟨S12x1x1, .i32⟩
  | .hbm, ⟨27, _⟩ => ⟨S12x4096x4096, .i32⟩
  | .hbm, ⟨28, _⟩ => ⟨S4096x1, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096, .i32⟩
  | .hbm, ⟨33, _⟩ => ⟨S1x4096x4096, .i32⟩
  | .hbm, ⟨34, _⟩ => ⟨S12x4096x4096, .i32⟩
  | .hbm, ⟨35, _⟩ => ⟨S_, .i32⟩
  | .hbm, ⟨36, _⟩ => ⟨S12x4096x4096, .i32⟩
  | .hbm, ⟨37, _⟩ => ⟨S12x4096x4096, .i1⟩
  | .hbm, ⟨38, _⟩ => ⟨S_, .i32⟩
  | .hbm, ⟨39, _⟩ => ⟨S12x4096x4096, .i32⟩
  | .hbm, ⟨40, _⟩ => ⟨S12x4096x4096, .i32⟩
  | .hbm, ⟨41, _⟩ => ⟨S12x4096x4096, .i32⟩
  | .hbm, ⟨42, _⟩ => ⟨S12x4096x4096, .i1⟩
  | .hbm, ⟨43, _⟩ => ⟨S12x4096x4096, .i1⟩
  | .hbm, ⟨44, _⟩ => ⟨S12x4096x4096, .i32⟩
  | .hbm, ⟨45, _⟩ => ⟨S_, .i32⟩
  | .hbm, ⟨46, _⟩ => ⟨S12x4096x4096, .i32⟩
  | .hbm, ⟨47, _⟩ => ⟨S12x4096x4096, .i1⟩
  | .hbm, ⟨48, _⟩ => ⟨S12x4096x4096, .i1⟩
  | .hbm, ⟨49, _⟩ => ⟨S_, .f32⟩
  | .hbm, ⟨50, _⟩ => ⟨S_, .f32⟩
  | .hbm, ⟨51, _⟩ => ⟨S12x4096x4096, .f32⟩
  | .hbm, ⟨52, _⟩ => ⟨S12x4096x4096, .f32⟩
  | .hbm, ⟨53, _⟩ => ⟨S_, .f32⟩
  | .hbm, ⟨54, _⟩ => ⟨S12x4096, .f32⟩
  | .hbm, ⟨55, _⟩ => ⟨S12x4096x1, .f32⟩
  | .hbm, ⟨56, _⟩ => ⟨S12x4096x4096, .f32⟩
  | .hbm, ⟨57, _⟩ => ⟨S12x4096x4096, .f32⟩
  | .hbm, ⟨58, _⟩ => ⟨S12x4096x4096, .f32⟩
  | .hbm, ⟨59, _⟩ => ⟨S_, .f32⟩
  | .hbm, ⟨60, _⟩ => ⟨S12x4096, .f32⟩
  | .hbm, ⟨61, _⟩ => ⟨S12x4096, .f32⟩
  | .hbm, ⟨62, _⟩ => ⟨S12x4096, .f32⟩
  | .hbm, ⟨63, _⟩ => ⟨S12x4096x1, .f32⟩
  | .hbm, ⟨64, _⟩ => ⟨S12x4096x4096, .f32⟩
  | .hbm, ⟨65, _⟩ => ⟨S12x4096x4096, .f32⟩
  | .hbm, ⟨66, _⟩ => ⟨S12x4096x4096, .f32⟩
  | .hbm, ⟨67, _⟩ => ⟨S4096x12x64, .f32⟩
  | .hbm, ⟨68, _⟩ => ⟨S12x64x4096, .f32⟩
  | .hbm, ⟨69, _⟩ => ⟨S4096x12x64, .f32⟩
  | .hbm, ⟨70, _⟩ => ⟨S4096x12, .f32⟩
  | .hbm, ⟨71, _⟩ => ⟨S4096x12x64, .f32⟩
  | .hbm, ⟨72, _⟩ => ⟨S4096x768, .f32⟩
  | .hbm, ⟨73, _⟩ => ⟨S4096x768, .f32⟩
  | .hbm, ⟨74, _⟩ => ⟨S4096x256, .f32⟩
  | .hbm, ⟨75, _⟩ => ⟨S256x4096, .f32⟩
  | .hbm, ⟨76, _⟩ => ⟨S4096x256, .f32⟩
  | .hbm, ⟨77, _⟩ => ⟨S256x4096, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== FfnFwdKernel.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2x1408x1024, .f32⟩
  | .hbm, ⟨9, _⟩ => ⟨S2x1408x1024, .bf16⟩
  | .hbm, ⟨10, _⟩ => ⟨S1x1024, .f32⟩
  | .hbm, ⟨11, _⟩ => ⟨S1x1024, .f32⟩
  | .hbm, ⟨12, _⟩ => ⟨S4096x2816, .bf16⟩
  | .hbm, ⟨13, _⟩ => ⟨S4096x2816, .bf16⟩
  | .hbm, ⟨14, _⟩ => ⟨S4096x1024, .f32⟩
  | .hbm, ⟨15, _⟩ => ⟨S4096x1024, .f32⟩
  | .hbm, ⟨16, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S2x1408x1024, .bf16⟩
  | .local _ .vmem, ⟨4, _⟩ => ⟨S1x1024, .f32⟩
  | .local _ .vmem, ⟨5, _⟩ => ⟨S1x1024, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdReferenceIdeal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x2816, .bf16⟩
  | .hbm, ⟨56, _⟩ => ⟨S4096x2816, .bf16⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== AOutKernel.lean ====
abbrev S4096x512 : Shape := ⟨2, ![4096, 512]⟩
abbrev S512x1024 : Shape := ⟨2, ![512, 1024]⟩
abbrev S4096x1024 : Shape := ⟨2, ![4096, 1024]⟩
abbrev S1024 : Shape := ⟨1, ![1024]⟩
abbrev S1x1024 : Shape := ⟨2, ![1, 1024]⟩
abbrev S512x512 : Shape := ⟨2, ![512, 512]⟩
abbrev S8x128 : Shape := ⟨2, ![8, 128]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S512x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AOutReferenceIdeal.lean ====
abbrev S4096x512 : Shape := ⟨2, ![4096, 512]⟩
abbrev S512x1024 : Shape := ⟨2, ![512, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== BOutKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== BOutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Reals.lean ====
/-
  Facts about extended reals that the value proofs share: the constants the programs print, sums, products and
  quotients of finite numbers, the largest of finitely many numbers, and what the word "finite" of a stated precondition means.
-/
module

public import Idealize.ShloMosaic.PureOps.Ideal
public import Idealize.ShloMosaic.PureOps.Ideal.Laws
public import Idealize.ShloMosaic.Lib.IdealHost
public import Idealize.ShloMosaic.Lib.ReduceAll
public import Idealize.ShloMosaic.Lib.Pointwise

@[expose] public section

noncomputable section

namespace Cert.Reals

open Idealize.ShloMosaic

/-! ## Constants -/

theorem c_two : Ideal.ofBits .f32 0x40000000#32 = ((2 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num

/-! ## Finite numbers -/

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

theorem coe_div (a b : ℝ) (h : b ≠ 0) : Ideal.div (a : EReal) (b : EReal) = ((a / b : ℝ) : EReal) := by
  rw [Ideal.div_coe h, ← EReal.coe_mul]; congr 1; field_simp

theorem coe_rsqrt (a : ℝ) (h : 0 < a) : Ideal.rsqrt (a : EReal) = (((Real.sqrt a)⁻¹ : ℝ) : EReal) := by
  rw [Ideal.rsqrt_coe, if_neg (not_lt.2 h.le), if_neg h.ne']

theorem coe_log (a : ℝ) (h : 0 < a) : Ideal.log (a : EReal) = ((Real.log a : ℝ) : EReal) := by
  rw [Ideal.log_coe, if_neg (not_le.2 h)]

/-- A factor that is a nonnegative finite number goes through a sum of any extended reals that are not negative. -/
theorem mul_sum_nonneg {ι : Type*} (s : Finset ι) (a : EReal) (f : ι → EReal) (hf : ∀ k, 0 ≤ f k) :
    a * ∑ k ∈ s, f k = ∑ k ∈ s, a * f k := by
  classical
  induction s using Finset.induction_on with
  | empty => simp
  | insert b s h ih =>
    rw [Finset.sum_insert h, Finset.sum_insert h, ← ih, EReal.left_distrib_of_nonneg (hf b) (Finset.sum_nonneg fun k _ => hf k)]

theorem mul_self_nonneg' (a : EReal) : 0 ≤ a * a := by
  rcases le_total 0 a with h | h
  · exact mul_nonneg h h
  · have h' : 0 ≤ -a := by simpa using EReal.neg_le_neg_iff.2 h
    simpa using mul_nonneg h' h'

theorem finite_iff (x : EReal) (h1 : x ≠ ⊤) (h2 : x ≠ ⊥) : ∃ r : ℝ, x = (r : EReal) :=
  ⟨x.toReal, (EReal.coe_toReal h1 h2).symm⟩

/-- An array all of whose elements lie below infinity in absolute value holds real numbers. -/
theorem finite_array {s : Shape} {axes : List (Fin s.rank)} (x : FVec Ideal s .f32) (red : s.ReducesTo axes ⟨0, ![]⟩) (hu : 0 < (⟨0, ![]⟩ : Shape).numel)
    (b : (⟨0, ![]⟩ : Shape).BroadcastsInDim s (![] : Fin 0 → Fin s.rank)) (j)
    (e : Host.reduce IntOp.andi (cmpf .olt (Host.absf x) (broadcastInDim s ![] b (constant (F := Ideal) ⟨0, ![]⟩ .f32 0x7F800000#32)))
      (constantI ⟨0, ![]⟩ 1 1#1) red hu j = 1#1) : ∃ r : s.Idx → ℝ, x = fun i => ((r i : ℝ) : EReal) := by
  haveI : Subsingleton (⟨0, ![]⟩ : Shape).Idx := ⟨fun a b => funext fun k => k.elim0⟩
  have h := fun i => Host.reduce_andi_all _ _ red hu j e i
  have h2 : ∀ i, ∃ r : ℝ, x i = (r : EReal) := by
    intro i
    have hi : Ideal.cmp .olt (max (x i) (-(x i))) (Ideal.ofBits .f32 0x7F800000#32) = 1#1 := by
      have := h i
      rw [show broadcastInDim s ![] b (constant (F := Ideal) ⟨0, ![]⟩ .f32 0x7F800000#32) = fun _ => Ideal.ofBits .f32 0x7F800000#32 from rfl] at this
      exact this
    have ht : Ideal.ofBits .f32 0x7F800000#32 = ⊤ := by simp [Ideal.ofBits, Ideal.ieee]
    rw [ht] at hi
    refine finite_iff _ ?_ ?_
    · intro h; rw [h] at hi; revert hi; simp [Ideal.cmp]
    · intro h; rw [h] at hi; revert hi; simp [Ideal.cmp]
  choose r hr using h2
  exact ⟨r, funext hr⟩

theorem and_one (a b : BitVec 1) (h : a &&& b = 1#1) : a = 1#1 ∧ b = 1#1 := by
  revert a b; decide

end Cert.Reals
-- ==== Proof.AttnReal.lean ====
/-
  The softmax of one row of scores and its gradient, on real numbers: the forms with the row's largest score taken off, the form with the
  saved log of the denominator, and the gradient the plain lines give, are one and the same.
-/
module

public import Idealize.ShloMosaic.Lib.Pipeline.ValueKit
public import proofs.«01_k».proof.Proof.Reals

@[expose] public section

noncomputable section

open Idealize.ShloMosaic

namespace Cert.AttnReal

open Cert.Reals

variable {κ : Type} [Fintype κ]

/-- The share of key `k` among the exponentials of the scores. -/
def pr (s : κ → ℝ) (k : κ) : ℝ := Real.exp (s k) / ∑ j, Real.exp (s j)

/-- The gradient of the scores for the cotangents `t` of the shares. -/
def ds (s t : κ → ℝ) (k : κ) : ℝ := pr s k * (t k - ∑ j, t j * pr s j)

theorem denom_pos [Nonempty κ] (s : κ → ℝ) (a : ℝ) : 0 < ∑ j, Real.exp (s j - a) :=
  Finset.sum_pos (fun j _ => Real.exp_pos _) Finset.univ_nonempty

theorem denom (s : κ → ℝ) (a : ℝ) : ∑ j, Real.exp (s j - a) = (∑ j, Real.exp (s j)) * Real.exp (-a) := by
  rw [Finset.sum_mul]
  exact Finset.sum_congr rfl fun j _ => by rw [sub_eq_add_neg, Real.exp_add]

theorem pr_shift [Nonempty κ] (s : κ → ℝ) (a : ℝ) (k : κ) : Real.exp (s k - a) * (1 / ∑ j, Real.exp (s j - a)) = pr s k := by
  have h := (denom_pos s 0).ne'
  simp only [sub_zero] at h
  rw [denom, pr, sub_eq_add_neg, Real.exp_add]
  have := (Real.exp_pos (-a)).ne'
  field_simp

theorem pr_saved [Nonempty κ] (s : κ → ℝ) (a : ℝ) (k : κ) :
    Real.exp (s k - (a + Real.log (∑ j, Real.exp (s j - a)))) = pr s k := by
  rw [← sub_sub, Real.exp_sub, Real.exp_log (denom_pos s a), ← pr_shift s a k]
  ring

/-- The gradient as the plain lines write it: the cotangents over the denominator, less their weighted sum over its square. -/
theorem ds_plain [Nonempty κ] (s t : κ → ℝ) (a z : ℝ) (hz : z = ∑ j, Real.exp (s j - a)) (k : κ) :
    (t k * (1 / z) + -∑ j, t j * (1 * (1 / (z * z))) * Real.exp (s j - a)) * Real.exp (s k - a) = ds s t k := by
  have hp : z ≠ 0 := by rw [hz]; exact (denom_pos s a).ne'
  have e : ∀ j, pr s j = Real.exp (s j - a) * (1 / z) := fun j => by rw [hz]; exact (pr_shift s a j).symm
  have hs : ∑ j, t j * (1 * (1 / (z * z))) * Real.exp (s j - a) = (1 / z) * ∑ j, t j * pr s j := by
    rw [Finset.mul_sum]
    exact Finset.sum_congr rfl fun j _ => by rw [e j]; field_simp
  rw [hs, ds, e k]
  ring

/-- A sum over the 128 lanes of two heads of which only one head's are kept. -/
theorem sum_lo (f : Fin 128 → ℝ) : ∑ l : Fin 128, (if l.val < 64 then f l else 0) = ∑ d : Fin 64, f ⟨d.val, by omega⟩ := by
  rw [Fin.sum_univ_add (a := 64) (b := 64) (fun l : Fin (64 + 64) => if l.val < 64 then f l else 0)]
  rw [Finset.sum_eq_zero (f := fun i : Fin 64 => if (Fin.natAdd 64 i).val < 64 then f (Fin.natAdd 64 i) else 0) fun d _ => if_neg (by simp), add_zero]
  exact Finset.sum_congr rfl fun d _ => (if_pos (by simp)).trans rfl

theorem sum_hi (f : Fin 128 → ℝ) : ∑ l : Fin 128, (if l.val < 64 then 0 else f l) = ∑ d : Fin 64, f ⟨64 + d.val, by omega⟩ := by
  rw [Fin.sum_univ_add (a := 64) (b := 64) (fun l : Fin (64 + 64) => if l.val < 64 then 0 else f l)]
  rw [Finset.sum_eq_zero (f := fun i : Fin 64 => if (Fin.castAdd 64 i).val < 64 then 0 else f (Fin.castAdd 64 i)) fun d _ => if_pos (by simp), zero_add]
  exact Finset.sum_congr rfl fun d _ => (if_neg (by simp)).trans rfl

/-- The lanes of head `a` of a pair of heads. -/
def lane (a : Fin 2) (d : Fin 64) : Fin 128 := ⟨64 * a.val + d.val, by omega⟩

theorem sum_lo' (f : Fin 128 → ℝ) : ∑ l : Fin 128, (if l.val < 64 then f l else 0) = ∑ d : Fin 64, f (lane 0 d) :=
  (sum_lo f).trans (Finset.sum_congr rfl fun d _ => congrArg f (Fin.ext (by simp [lane])))

theorem sum_hi' (f : Fin 128 → ℝ) : ∑ l : Fin 128, (if l.val < 64 then 0 else f l) = ∑ d : Fin 64, f (lane 1 d) :=
  (sum_hi f).trans (Finset.sum_congr rfl fun d _ => congrArg f (Fin.ext (by simp [lane])))

/-! One lane of two heads, kept or not. -/

theorem sel_lo (l : ℕ) (x : ℝ) : Scalar.select (BitVec.ofBool (decide (l < 64))) (x : EReal) 0 = ((if l < 64 then x else 0 : ℝ) : EReal) := by
  by_cases h : l < 64 <;> simp [h, Scalar.select]

theorem sel_hi (l : ℕ) (x : ℝ) : Scalar.select (BitVec.ofBool (decide (64 ≤ l))) (x : EReal) 0 = ((if l < 64 then 0 else x : ℝ) : EReal) := by
  by_cases h : l < 64
  · simp [h, Nat.not_le.2 h, Scalar.select]
  · simp [h, Nat.not_lt.1 h, Scalar.select]

theorem sel_not_lo (l : ℕ) (x : ℝ) : Scalar.select (BitVec.ofBool (decide (l < 64))) 0 (x : EReal) = ((if l < 64 then 0 else x : ℝ) : EReal) := by
  by_cases h : l < 64 <;> simp [h, Scalar.select]

/-! One tile of a pair of heads: the shares from the saved log of the denominator `W`, and the gradient of the scores. -/

section tile
variable {n k : ℕ} (Q D O W : Fin n → Fin 128 → ℝ) (K V : Fin k → Fin 128 → ℝ)

def tp (a : Fin 2) (r : Fin n) (j : Fin k) : ℝ := Real.exp ((∑ d, Q r (lane a d) * K j (lane a d)) - W r (lane a 0))
def tds (a : Fin 2) (r : Fin n) (j : Fin k) : ℝ :=
  tp Q W K a r j * ((∑ d, D r (lane a d) * V j (lane a d)) - ∑ d, D r (lane a d) * O r (lane a d))

end tile

/-- The largest of finitely many real numbers is one. -/
theorem fold_max_real (f : κ → EReal) (g : κ → ℝ) (h : ∀ k, f k = ((g k : ℝ) : EReal)) [Nonempty κ] :
    ∃ r : ℝ, Finset.univ.fold max (⊥ : EReal) f = (r : EReal) := by
  classical
  have hsup : Finset.univ.fold max (⊥ : EReal) f = Finset.univ.sup f := rfl
  obtain ⟨k, _, hk⟩ := Finset.exists_mem_eq_sup Finset.univ Finset.univ_nonempty f
  exact ⟨g k, by rw [hsup, hk, h]⟩

theorem c_bot : Ideal.ofBits .f32 4286578688#32 = ⊥ := by simp [Ideal.ofBits, Ideal.ieee]

theorem c_eighth : Ideal.ofBits .f32 1040187392#32 = ((1/8 : ℝ) : EReal) := by
  simp [Ideal.ofBits, Ideal.ieee, -EReal.coe_mul]; norm_num

/-- The largest score of a row. -/
def rowmax {n : ℕ} (g : Fin n → ℝ) : ℝ := (Finset.univ.fold max (⊥ : EReal) fun x => (g x : EReal)).toReal

theorem fold_max_coe {n : ℕ} [NeZero n] (g : Fin n → ℝ) :
    (Finset.univ.fold max (⊥ : EReal) fun x => (g x : EReal)) = ((rowmax g : ℝ) : EReal) := by
  obtain ⟨r, h⟩ := fold_max_real (fun x => (g x : EReal)) g fun _ => rfl
  rw [rowmax, h, EReal.toReal_coe]

theorem div_sum_exp {n : ℕ} [NeZero n] (x a : ℝ) (g : Fin n → ℝ) :
    Ideal.div (x : EReal) ((∑ j, Real.exp (g j - a) : ℝ) : EReal) = ((x * (1 / ∑ j, Real.exp (g j - a)) : ℝ) : EReal) := by
  rw [Ideal.div_coe (ne_of_gt (denom_pos g a)), ← EReal.coe_mul]

theorem log_sum_exp {n : ℕ} [NeZero n] (a : ℝ) (g : Fin n → ℝ) :
    Ideal.log ((∑ j, Real.exp (g j - a) : ℝ) : EReal) = ((Real.log (∑ j, Real.exp (g j - a)) : ℝ) : EReal) :=
  coe_log _ (denom_pos g a)

/-- Where the later stores cover an index and agree on the value there, the earlier ones do not matter. -/
theorem canon_head {S : Shape} {e : EltTy} (L : List (View.Piece (Elt Ideal) S e)) (y : S.Idx) (v : Elt Ideal e) :
    ∀ L' : List (View.Piece (Elt Ideal) S e), (∃ p ∈ L', y ∈ p.1.set) → View.AllAt L' y v → View.canon (L' ++ L) y = v
  | [], h, _ => by obtain ⟨_, hm, _⟩ := h; exact absurd hm List.not_mem_nil
  | p :: L', h, ha => by
    by_cases hy : y ∈ p.1.set
    · obtain ⟨x, hx⟩ : ∃ x, p.1.emb x = y := p.1.exists_idx_of_mem hy
      have h1 := ha p List.mem_cons_self x hx
      subst hx
      exact (View.canon_cons_emb p.1 p.2 (L' ++ L) x).trans h1
    · have hL : ∃ p' ∈ L', y ∈ p'.1.set := by
        obtain ⟨p', hm, hy'⟩ := h
        rcases List.mem_cons.mp hm with rfl | hm
        · exact absurd hy' hy
        · exact ⟨p', hm, hy'⟩
      exact (View.canon_cons_of_not_mem p (L' ++ L) hy).trans (canon_head L y v L' hL fun q hq => ha q (List.mem_cons_of_mem _ hq))

/-- A store that does not reach an index is passed over. -/
theorem canon_skip {S : Shape} {e : EltTy} (off size : Fin S.rank → ℕ) (inb : ∀ a, off a + size a ≤ S.size a)
    (w : (Rect.unit off size inb).shape.Idx → Elt Ideal e) (L : List (View.Piece (Elt Ideal) S e)) (y : S.Idx) (v : Elt Ideal e) (a : Fin S.rank)
    (h : (y a).val < off a ∨ off a + size a ≤ (y a).val) (hL : View.canon L y = v) :
    View.canon ((⟨Rect.unit off size inb, w⟩ : View.Piece (Elt Ideal) S e) :: L) y = v := by
  refine (View.canon_cons_of_not_mem _ L fun hy => ?_).trans hL
  have := ((Rect.mem_set_unit (inb := inb)).1 hy) a
  omega

end Cert.AttnReal

end
-- ==== Proof.MaskReal.lean ====
/-
  Softmax over the keys that a query sees: the shares, the gradient of the scores, and the exponentials of scores of which some are left out.
-/
module

public import proofs.«01_k».proof.Proof.AttnReal

@[expose] public section

noncomputable section

open Idealize.ShloMosaic

namespace Cert.MaskReal

open Cert.Reals Cert.AttnReal

section shares
variable {κ : Type} [Fintype κ] (b : κ → Prop) [DecidablePred b]

/-- The exponential of a score less `a`, nothing where the key is not seen. -/
def mw (s : κ → ℝ) (a : ℝ) (k : κ) : ℝ := if b k then Real.exp (s k - a) else 0

/-- The share of key `k` among the keys that are seen. -/
def mpr (s : κ → ℝ) (k : κ) : ℝ := mw b s 0 k / ∑ j, mw b s 0 j

/-- The gradient of the scores for the cotangents `t` of the shares. -/
def mds (s t : κ → ℝ) (k : κ) : ℝ := mpr b s k * (t k - ∑ j, t j * mpr b s j)

variable (s t : κ → ℝ)

theorem mw_nonneg (a : ℝ) (k : κ) : 0 ≤ mw b s a k := by
  unfold mw; split
  · exact (Real.exp_pos _).le
  · exact le_rfl

theorem mdenom_pos (h : ∃ k, b k) (a : ℝ) : 0 < ∑ j, mw b s a j := by
  obtain ⟨k, hk⟩ := h
  refine Finset.sum_pos' (fun j _ => mw_nonneg b s a j) ⟨k, Finset.mem_univ _, ?_⟩
  rw [mw, if_pos hk]; exact Real.exp_pos _

theorem mw_shift (a : ℝ) (k : κ) : mw b s a k = mw b s 0 k * Real.exp (-a) := by
  unfold mw; split
  · rw [← Real.exp_add]; congr 1; ring
  · rw [zero_mul]

theorem mpr_shift (h : ∃ k, b k) (a : ℝ) (k : κ) : mw b s a k * (1 / ∑ j, mw b s a j) = mpr b s k := by
  have h0 := (mdenom_pos b s h 0).ne'
  have he := (Real.exp_pos (-a)).ne'
  rw [mpr, mw_shift, Finset.sum_congr rfl (fun j _ => mw_shift b s a j), ← Finset.sum_mul]
  field_simp

theorem mpr_saved (h : ∃ k, b k) (a : ℝ) (k : κ) : mw b s (a + Real.log (∑ j, mw b s a j)) k = mpr b s k := by
  rw [← mpr_shift b s h a k]
  unfold mw
  split
  · rw [← sub_sub, Real.exp_sub, Real.exp_log (by simpa only [mw] using mdenom_pos b s h a)]; ring
  · rw [zero_mul]

theorem mpr_sum (h : ∃ k, b k) : ∑ k, mpr b s k = 1 := by
  simp only [mpr]
  rw [← Finset.sum_div]
  exact div_self (mdenom_pos b s h 0).ne'

theorem mds_sum (h : ∃ k, b k) : ∑ k, mds b s t k = 0 := by
  simp only [mds, mul_sub]
  rw [Finset.sum_sub_distrib, ← Finset.sum_mul, mpr_sum b s h, one_mul, sub_eq_zero]
  exact Finset.sum_congr rfl fun k _ => mul_comm _ _

theorem mpr_out (k : κ) (h : ¬b k) : mpr b s k = 0 := by rw [mpr, mw, if_neg h, zero_div]
theorem mds_out (k : κ) (h : ¬b k) : mds b s t k = 0 := by rw [mds, mpr_out b s k h, zero_mul]

/-- The gradient as the plain lines write it. -/
theorem mds_plain (h : ∃ k, b k) (a z : ℝ) (hz : z = ∑ j, mw b s a j) (k : κ) :
    (t k * (1 / z) + -∑ j, t j * (1 * (1 / (z * z))) * mw b s a j) * mw b s a k = mds b s t k := by
  have hp : z ≠ 0 := by rw [hz]; exact (mdenom_pos b s h a).ne'
  have e : ∀ j, mpr b s j = mw b s a j * (1 / z) := fun j => by rw [hz]; exact (mpr_shift b s h a j).symm
  have hs : ∑ j, t j * (1 * (1 / (z * z))) * mw b s a j = (1 / z) * ∑ j, t j * mpr b s j := by
    rw [Finset.mul_sum]
    exact Finset.sum_congr rfl fun j _ => by rw [e j]; field_simp
  rw [hs, mds, e k]
  ring

/-- A score of which it is known whether the key is seen. -/
def msc (s : κ → ℝ) (k : κ) : EReal := if b k then ((s k : ℝ) : EReal) else ⊥

theorem exp_msc (a : ℝ) (k : κ) : Ideal.exp (msc b s k - (a : EReal)) = ((mw b s a k : ℝ) : EReal) := by
  unfold msc mw
  split
  · rw [← EReal.coe_sub, Ideal.exp_coe]
  · rw [sub_eq_add_neg, EReal.bot_add]
    rfl

/-- The largest score of the keys that are seen. -/
def mmax : ℝ := (Finset.univ.fold max (⊥ : EReal) (msc b s)).toReal

theorem mfold_max (h : ∃ k, b k) : Finset.univ.fold max (⊥ : EReal) (msc b s) = ((mmax b s : ℝ) : EReal) := by
  classical
  obtain ⟨k0, h0⟩ := h
  have : Nonempty κ := ⟨k0⟩
  have hsup : Finset.univ.fold max (⊥ : EReal) (msc b s) = Finset.univ.sup (msc b s) := rfl
  obtain ⟨k, _, hk⟩ := Finset.exists_mem_eq_sup Finset.univ Finset.univ_nonempty (msc b s)
  have hle : msc b s k0 ≤ Finset.univ.sup (msc b s) := Finset.le_sup (Finset.mem_univ k0)
  by_cases hb : b k
  · have e : Finset.univ.fold max (⊥ : EReal) (msc b s) = ((s k : ℝ) : EReal) := by rw [hsup, hk, msc, if_pos hb]
    rw [mmax, e, EReal.toReal_coe]
  · exfalso
    rw [hk, msc, if_pos h0, msc, if_neg hb] at hle
    exact EReal.coe_ne_bot _ (le_bot_iff.1 hle)

theorem div_mdenom (h : ∃ k, b k) (x a : ℝ) : Ideal.div (x : EReal) ((∑ j, mw b s a j : ℝ) : EReal) = ((x * (1 / ∑ j, mw b s a j) : ℝ) : EReal) := by
  rw [Ideal.div_coe (mdenom_pos b s h a).ne', ← EReal.coe_mul]

theorem log_mdenom (h : ∃ k, b k) (a : ℝ) : Ideal.log ((∑ j, mw b s a j : ℝ) : EReal) = ((Real.log (∑ j, mw b s a j) : ℝ) : EReal) :=
  coe_log _ (mdenom_pos b s h a)

end shares

/-- What an accumulator that is cleared at the multiples of `P` holds. -/
theorem sum_of_reset {R : Type} [AddCommMonoid R] {N P : ℕ} (f g : (n : ℕ) → n < N → R)
    (hs : ∀ n (h : n < N), f n h = (if n % P = 0 then 0 else f (n - 1) (lt_of_le_of_lt (Nat.sub_le _ _) h)) + g n h)
    (a : ℕ) : ∀ b (hb : b < P) (h : P * a + b < N), f (P * a + b) h = ∑ i : Fin (b + 1), g (P * a + i.val) (by omega)
  | 0, hb, h => by
    rw [hs, if_pos (by rw [Nat.add_zero, Nat.mul_mod_right]), zero_add, Fin.sum_univ_one]; rfl
  | b + 1, hb, h => by
    have hm : ¬(P * a + (b + 1)) % P = 0 := by rw [Nat.mul_add_mod, Nat.mod_eq_of_lt hb]; omega
    rw [hs, if_neg hm, Fin.sum_univ_castSucc]
    refine congrArg₂ (· + ·) ?_ rfl
    exact sum_of_reset f g hs a b (by omega) (by omega)

end Cert.MaskReal

end
-- ==== Proof.FoxTile.lean ====
/-
  The gradients of the forgetting attention: what the kernel computes from one tile of queries and one of keys.
-/
module

public import proofs.«01_k».proof.Proof.Gen.FoxKernelIdeal.Frame
public import proofs.«01_k».proof.Proof.Gen.FoxReferenceIdeal.Run
public import proofs.«01_k».proof.Proof.Gen.FoxReferenceIdeal.Read
public import Idealize.ShloMosaic.Lib.Pipeline.ValueKit
public import Idealize.ShloMosaic.Lib.Pointwise
public import proofs.«01_k».proof.Proof.Reals
public import proofs.«01_k».proof.Proof.Reals
public import proofs.«01_k».proof.Proof.AttnReal
public import proofs.«01_k».proof.Proof.MaskReal

@[expose] public section

set_option maxRecDepth 16384

noncomputable section

open Idealize.ShloMosaic Idealize.ShloMosaic.TcCoe Idealize.SL.Sem
open Idealize.ShloMosaic.Pipeline (Dat)

namespace Cert.FoxKernelIdeal.Hand
open Cert.FoxKernelIdeal Cert.FoxKernelIdeal.Gen Cert.Reals Cert.AttnReal Cert.MaskReal

theorem mask_named : (Named.named κ "mask" 4048155338#32 : Ideal .f32) = (⊥ : EReal) := rfl

theorem m18 (l : Fin 128) : k0_pay18 (ix2 0 l) = BitVec.ofBool (decide (l.val < 64)) := by revert l; decide +kernel
theorem m14 (l : Fin 128) : k0_pay14 (ix2 0 l) = BitVec.ofBool (decide (l.val < 64)) := by revert l; decide +kernel
theorem m13 (l : Fin 128) : k0_pay13 (ix2 0 l) = BitVec.ofBool (decide (l.val < 64)) := by revert l; decide +kernel
theorem m33 (l : Fin 128) : k0_pay33 k0_pay18 (ix2 0 l) = BitVec.ofBool (decide (64 ≤ l.val)) := by revert l; decide +kernel
theorem m37 (l : Fin 128) : k0_pay37 k0_pay18 (ix2 0 l) = BitVec.ofBool (decide (64 ≤ l.val)) := by revert l; decide +kernel

theorem lo256 (x : FVec Ideal S512x256 .bf16) (r : Fin 512) (l : Fin 256) :
    k0_pay23 x (ix2 r l) = (if l.val % 128 < 64 then x (ix2 r l) else 0 : Ideal .bf16) := by
  pointwise [k0_pay23]
  refine (congrArg (fun z => Scalar.select z (x (ix2 r l)) 0) (a₂ := BitVec.ofBool (decide (l.val % 128 < 64))) ?_).trans ?_
  · revert l; decide +kernel
  · by_cases h : l.val % 128 < 64 <;> simp [h, Scalar.select]

theorem hi256 (x : FVec Ideal S512x256 .bf16) (r : Fin 512) (l : Fin 256) :
    k0_pay34 x (ix2 r l) = (if 64 ≤ l.val % 128 then x (ix2 r l) else 0 : Ideal .bf16) := by
  pointwise [k0_pay34]
  refine (congrArg (fun z => Scalar.select z (x (ix2 r l)) 0) (a₂ := BitVec.ofBool (decide (64 ≤ l.val % 128))) ?_).trans ?_
  · revert l; decide +kernel
  · by_cases h : 64 ≤ l.val % 128 <;> simp [h, Scalar.select]

theorem if_real (p : Prop) [Decidable p] (x : ℝ) : (if p then (x : EReal) else 0) = ((if p then x else 0 : ℝ) : EReal) := by
  split <;> rfl

theorem sel_bot (p : Prop) [Decidable p] (x : ℝ) : Scalar.select (BitVec.ofBool (decide p)) (x : EReal) ⊥ = if p then (x : EReal) else ⊥ := by
  by_cases h : p <;> simp [h, Scalar.select]

section tile
variable (x28 x31 : FVec Ideal S512x256 .bf16) (x23 x25 x33 : FVec Ideal S512x128 .bf16) (x70 : FVec Ideal S512x128 .f32)
  (d0 d1 : FVec Ideal S512x1 .f32) (ok : IVec S512x512 1)
  (Q2 : Fin 512 → Fin 256 → ℝ) (S : Fin 2 → Fin 512 → Fin 512 → ℝ) (K V D W : Fin 512 → Fin 128 → ℝ) (δ : Fin 2 → Fin 512 → ℝ)
  (b : Fin 512 → Fin 512 → Prop) [∀ r, DecidablePred (b r)]

/-- The shares of one tile, and the gradient of its scores. -/
def tP (a : Fin 2) (r j : Fin 512) : ℝ := mw (b r) (S a r) (W r (lane a 0)) j
def tS (a : Fin 2) (r j : Fin 512) : ℝ := tP S W b a r j * ((∑ d, D r (lane a d) * V j (lane a d)) - δ a r)

variable (hq : ∀ r l, x28 (ix2 r l) = ((Q2 r l : ℝ) : EReal))
  (hs0 : ∀ r j, ∑ l, k0_pay23 x28 (ix2 r l) * x31 (ix2 j l) = ((S 0 r j : ℝ) : EReal))
  (hs1 : ∀ r j, ∑ l, k0_pay34 x28 (ix2 r l) * x31 (ix2 j l) = ((S 1 r j : ℝ) : EReal))
  (hk : ∀ r l, x23 (ix2 r l) = ((K r l : ℝ) : EReal)) (hv : ∀ r l, x25 (ix2 r l) = ((V r l : ℝ) : EReal))
  (hd : ∀ r l, x33 (ix2 r l) = ((D r l : ℝ) : EReal)) (hw : ∀ r l, x70 (ix2 r l) = ((W r l : ℝ) : EReal))
  (hd0 : ∀ r, d0 (ix2 r 0) = ((δ 0 r : ℝ) : EReal)) (hd1 : ∀ r, d1 (ix2 r 0) = ((δ 1 r : ℝ) : EReal))
  (hok : ∀ r j, ok (ix2 r j) = BitVec.ofBool (decide (b r j)))

include hs0 hw hok in
theorem p0_eq (r j) : k0_pay24 x28 x31 x70 ok (ix2 r j) = ((tP S W b 0 r j : ℝ) : EReal) := by
  pointwise [k0_pay24]
  rw [hs0, hok, hw, mask_named, sel_bot]
  exact exp_msc (b r) (S 0 r) (W r (lane 0 0)) j

include hs1 hw hok in
theorem p1_eq (r j) : k0_pay35 x28 x31 x70 ok (ix2 r j) = ((tP S W b 1 r j : ℝ) : EReal) := by
  pointwise [k0_pay35]
  rw [hs1, hok, hw, mask_named, sel_bot]
  exact exp_msc (b r) (S 1 r) (W r (lane 1 0)) j

include hs0 hw hok hd hv hd0 in
theorem ds0_eq (r j) : k0_pay26 x25 x28 x31 x33 d0 x70 k0_pay18 ok (ix2 r j) = ((tS S V D W δ b 0 r j : ℝ) : EReal) := by
  pointwise [k0_pay26, k0_pay25]
  rw [p0_eq x28 x31 x70 ok S W b hs0 hw hok, hd0]
  simp only [m18, hd, hv, sel_lo, ← EReal.coe_mul, ite_mul, zero_mul, coe_sum, sum_lo', ← EReal.coe_sub]
  rfl

include hs1 hw hok hd hv hd1 in
theorem ds1_eq (r j) : k0_pay39 x25 x33 d1 (k0_pay35 x28 x31 x70 ok) k0_pay36 (k0_pay37 k0_pay18) (ix2 r j) = ((tS S V D W δ b 1 r j : ℝ) : EReal) := by
  pointwise [k0_pay39, k0_pay38, k0_pay36]
  rw [p1_eq x28 x31 x70 ok S W b hs1 hw hok, hd1]
  simp only [m37, hd, hv, sel_hi, ← EReal.coe_mul, ite_mul, zero_mul, coe_sum, sum_hi', ← EReal.coe_sub]
  rfl

/-- What one pair of tiles leaves in the accumulator of the keys' gradient. -/
def pdk (acc : FVec Ideal S512x256 .f32) : FVec Ideal S512x256 .f32 :=
  k0_pay41 x25 x33 d1 (k0_pay31 (k0_pay23 x28) (k0_pay26 x25 x28 x31 x33 d0 x70 k0_pay18 ok) (k0_pay29 x25 x28 x31 x33 d0 x70 k0_pay18 ok k0_pay20)
    (k0_pay30 x25 x28 x31 x33 d0 x70 k0_pay18 ok)) (k0_pay34 x28) (k0_pay35 x28 x31 x70 ok) k0_pay36 (k0_pay37 k0_pay18) acc

/-- The same of the values' gradient. -/
def pdv (acc : FVec Ideal S512x128 .f32) : FVec Ideal S512x128 .f32 :=
  k0_pay42 x33 (k0_pay28 x28 x31 x33 x70 k0_pay18 ok k0_pay21) (k0_pay35 x28 x31 x70 ok) k0_pay36 (k0_pay37 k0_pay18) acc

/-- The same of the queries' gradient. -/
def pdq (acc : FVec Ideal S512x128 .f32) : FVec Ideal S512x128 .f32 :=
  k0_pay43 x23 x25 x33 d1 (k0_pay32 x23 k0_pay18 (k0_pay22 (FloatOps.ofBits FTy.f32 0#32)) (k0_pay27 x25 x28 x31 x33 d0 x70 k0_pay18 ok))
    (k0_pay33 k0_pay18) (k0_pay35 x28 x31 x70 ok) k0_pay36 (k0_pay37 k0_pay18) acc

include hs0 hs1 hw hok hd hv hd0 hd1 hq in
theorem pdk_eq (acc : FVec Ideal S512x256 .f32) (j l) : pdk x28 x31 x25 x33 x70 d0 d1 ok acc (ix2 j l) = acc (ix2 j l)
    + ((if l.val % 128 < 64 then ∑ r, tS S V D W δ b 0 r j * Q2 r l else ∑ r, tS S V D W δ b 1 r j * Q2 r l : ℝ) : EReal) := by
  pointwise [pdk, k0_pay41, k0_pay40, k0_pay31, k0_pay29, k0_pay30, k0_pay27, k0_pay20]
  simp only [ds0_eq x28 x31 x25 x33 x70 d0 ok S V D W δ b hs0 hv hd hw hd0 hok, ds1_eq x28 x31 x25 x33 x70 d1 ok S V D W δ b hs1 hv hd hw hd1 hok,
    lo256, hi256, hq, if_real, ← EReal.coe_sub, sub_self, EReal.coe_zero, zero_mul, Finset.sum_const_zero, add_zero, zero_add, ← EReal.coe_mul, coe_sum, ← EReal.coe_add]
  refine congrArg _ (congrArg _ ?_)
  by_cases h : l.val % 128 < 64
  · simp [h, not_le.2 h]
  · simp [h, not_lt.1 h]

include hs0 hs1 hw hok hd in
theorem pdv_eq (acc : FVec Ideal S512x128 .f32) (j l) : pdv x28 x31 x33 x70 ok acc (ix2 j l) = acc (ix2 j l)
    + ((if l.val < 64 then ∑ r, tP S W b 0 r j * D r l else ∑ r, tP S W b 1 r j * D r l : ℝ) : EReal) := by
  pointwise [pdv, k0_pay42, k0_pay28, k0_pay25, k0_pay38, k0_pay36, k0_pay21]
  simp only [p0_eq x28 x31 x70 ok S W b hs0 hw hok, p1_eq x28 x31 x70 ok S W b hs1 hw hok, m18, m37, hd, sel_lo, sel_hi,
    ← EReal.coe_mul, coe_sum, zero_add, ← EReal.coe_add]
  refine congrArg _ (congrArg _ ?_)
  by_cases h : l.val < 64 <;> simp [h]

include hs0 hs1 hw hok hd hv hd0 hd1 hk in
theorem pdq_eq (acc : FVec Ideal S512x128 .f32) (r l) : pdq x28 x31 x23 x25 x33 x70 d0 d1 ok acc (ix2 r l) = acc (ix2 r l)
    + ((if l.val < 64 then ∑ j, tS S V D W δ b 0 r j * K j l else ∑ j, tS S V D W δ b 1 r j * K j l : ℝ) : EReal) := by
  pointwise [pdq, k0_pay43, k0_pay40, k0_pay32, k0_pay27, k0_pay22]
  simp only [ds0_eq x28 x31 x25 x33 x70 d0 ok S V D W δ b hs0 hv hd hw hd0 hok, ds1_eq x28 x31 x25 x33 x70 d1 ok S V D W δ b hs1 hv hd hw hd1 hok,
    m18, m33, hk, sel_lo, sel_hi, ← EReal.coe_mul, coe_sum, zero_add, ← EReal.coe_add]
  refine congrArg _ (congrArg _ ?_)
  by_cases h : l.val < 64 <;> simp [h]

end tile

/-! The tiles that are seen whole are computed by the same lines without the mask. -/

section whole
variable (x28 x31 : FVec Ideal S512x256 .bf16) (x23 x25 x33 : FVec Ideal S512x128 .bf16) (x70 : FVec Ideal S512x128 .f32)
  (d0 d1 : FVec Ideal S512x1 .f32)

def all : IVec S512x512 1 := fun _ => 1#1

theorem lo_whole : k0_pay61 x28 128#32 k0_pay59 k0_pay60 = k0_pay23 x28 := rfl
theorem p0_whole : k0_pay62 x28 x31 x70 128#32 k0_pay59 k0_pay60 = k0_pay24 x28 x31 x70 all := rfl
theorem p1_whole : k0_pay71 x28 x31 x70 = k0_pay35 x28 x31 x70 all := rfl

theorem pdk_whole (acc : FVec Ideal S512x256 .f32) :
    k0_pay4 (k0_pay70 x28) (k0_pay76 x25 x28 x31 x33 d1 x70 k0_pay55 (k0_pay67 x25 x28 x31 x33 d0 x70 k0_pay55 k0_pay56 128#32 k0_pay59 k0_pay60)
      (constantI S1x128 1 1#1)) (k0_pay77 x25 x28 x31 x33 d1 x70 k0_pay55 (constantI S1x128 1 1#1)) acc
      = pdk x28 x31 x25 x33 x70 d0 d1 all acc := rfl
theorem pdv_whole (acc : FVec Ideal S512x128 .f32) :
    k0_pay5 (k0_pay75 x28 x31 x33 x70 k0_pay55 (k0_pay66 x28 x31 x33 x70 k0_pay55 k0_pay57 128#32 k0_pay59 k0_pay60) (constantI S1x128 1 1#1)) acc
      = pdv x28 x31 x33 x70 all acc := rfl
theorem pdq_whole (acc : FVec Ideal S512x128 .f32) :
    k0_pay6 x23 (k0_pay68 x23 x25 x28 x31 x33 d0 x70 k0_pay55 k0_pay58 128#32 k0_pay59 k0_pay60) (k0_pay69 k0_pay55 (constantI S1x128 1 1#1))
      (k0_pay74 x25 x28 x31 x33 d1 x70 k0_pay55 (constantI S1x128 1 1#1)) acc
      = pdq x28 x31 x23 x25 x33 x70 d0 d1 all acc := rfl
end whole

/-! What the lines before the products prepare. -/

theorem delta0 (x y : FVec Ideal S512x128 .f32) (D O : Fin 512 → Fin 128 → ℝ) (hx : ∀ r l, x (ix2 r l) = ((D r l : ℝ) : EReal))
    (hy : ∀ r l, y (ix2 r l) = ((O r l : ℝ) : EReal)) (r : Fin 512) :
    (k0_pay15 (k0_pay12 x y) (FloatOps.ofBits FTy.f32 0#32) k0_pay14 : FVec Ideal S512x1 .f32) (ix2 r 0) = ((∑ d, D r (lane 0 d) * O r (lane 0 d) : ℝ) : EReal) := by
  pointwise [k0_pay15, k0_pay12, k0_pay11]
  simp only [m14, hx, hy, ← EReal.coe_mul, sel_lo, coe_sum, sum_lo']

theorem delta1 (x y : FVec Ideal S512x128 .f32) (D O : Fin 512 → Fin 128 → ℝ) (hx : ∀ r l, x (ix2 r l) = ((D r l : ℝ) : EReal))
    (hy : ∀ r l, y (ix2 r l) = ((O r l : ℝ) : EReal)) (r : Fin 512) :
    (k0_pay16 (k0_pay12 x y) k0_pay13 : FVec Ideal S512x1 .f32) (ix2 r 0) = ((∑ d, D r (lane 1 d) * O r (lane 1 d) : ℝ) : EReal) := by
  pointwise [k0_pay16, k0_pay12, k0_pay11]
  simp only [m13, hx, hy, ← EReal.coe_mul, sel_not_lo, coe_sum, sum_hi']

/-- The first 128 lanes come from one array, the others from another. -/
def cat (X A : Fin 512 → Fin 128 → ℝ) (r : Fin 512) (l : Fin 256) : ℝ := if h : l.val < 128 then X r ⟨l.val, h⟩ else A r ⟨l.val - 128, by omega⟩

theorem cat_eq (x y : FVec Ideal S512x128 .bf16) (X A : Fin 512 → Fin 128 → ℝ) (hx : ∀ r l, x (ix2 r l) = ((X r l : ℝ) : EReal))
    (hy : ∀ r l, y (ix2 r l) = ((A r l : ℝ) : EReal)) (r : Fin 512) (l : Fin 256) : (k0_pay9 x y : FVec Ideal S512x256 .bf16) (ix2 r l) = ((cat X A r l : ℝ) : EReal) := by
  unfold cat
  by_cases h : l.val < 128
  · rw [dif_pos h, ← hx]
    pointwise [k0_pay9]
    simp [h]
  · rw [dif_neg h, ← hy]
    pointwise [k0_pay9]
    simp [h]
end Cert.FoxKernelIdeal.Hand
end
-- ==== Proof.FoxRef.lean ====
/-
  The gradients of the forgetting attention as the plain lines compute them, in real numbers.
-/
module

public import proofs.«01_k».proof.Proof.Gen.FoxReferenceIdeal.Run
public import proofs.«01_k».proof.Proof.Gen.FoxReferenceIdeal.Read
public import Idealize.ShloMosaic.Lib.Pipeline.ValueKit
public import Idealize.ShloMosaic.Lib.Pointwise
public import proofs.«01_k».proof.Proof.Reals
public import proofs.«01_k».proof.Proof.AttnReal
public import proofs.«01_k».proof.Proof.MaskReal

@[expose] public section

set_option maxRecDepth 16384

noncomputable section

open Idealize.ShloMosaic Idealize.ShloMosaic.TcCoe Idealize.SL.Sem
open Idealize.ShloMosaic.Pipeline (Dat)

namespace Cert.FoxReferenceIdeal.Hand

open Cert.FoxReferenceIdeal Cert.FoxReferenceIdeal.Read Cert.Reals Cert.AttnReal Cert.MaskReal

def up {s : Shape} (x : s.Idx → ℝ) : FVec Ideal s .f32 := fun i => ((x i : ℝ) : EReal)

/-- Lane `d` of head `h`. -/
def hl (h : Fin 12) (d : Fin 64) : Fin 768 := ⟨h.val * 64 + d.val, by omega⟩
/-- The head of a lane. -/
def hd (l : Fin 768) : Fin 12 := ⟨l.val / 64, by omega⟩

section math
variable (X K V D : S4096x768.Idx → ℝ) (L : FVec Ideal S4096x12 .f32) (C : S4096x12.Idx → ℝ)

/-- The scores with the decay, the gradient of the shares, what a query sees. -/
def Sc (h : Fin 12) (q k : Fin 4096) : ℝ :=
  (∑ d : Fin 64, X (ix2 q (hl h d)) * (1 / 8) * K (ix2 k (hl h d))) + C (ix2 q h) - C (ix2 k h)
def dP (h : Fin 12) (q k : Fin 4096) : ℝ := ∑ d : Fin 64, D (ix2 q (hl h d)) * V (ix2 k (hl h d))
def sees (q k : Fin 4096) : Prop := k.val ≤ q.val
instance (q : Fin 4096) : DecidablePred (sees q) := fun k => inferInstanceAs (Decidable (k.val ≤ q.val))
theorem sees_self (q : Fin 4096) : ∃ k, sees q k := ⟨q, le_refl q.val⟩

def P (h : Fin 12) (q k : Fin 4096) : ℝ := mpr (sees q) (Sc X K C h q) k
def dS (h : Fin 12) (q k : Fin 4096) : ℝ := mds (sees q) (Sc X K C h q) (dP V D h q) k
def mx (h : Fin 12) (q : Fin 4096) : ℝ := mmax (sees q) (Sc X K C h q)
def E (h : Fin 12) (q k : Fin 4096) : ℝ := mw (sees q) (Sc X K C h q) (mx X K C h q) k
def Z (h : Fin 12) (q : Fin 4096) : ℝ := ∑ k, E X K C h q k

/-- What the attention gives, and the saved log of the denominator. -/
def att (q : Fin 4096) (l : Fin 768) : ℝ := ∑ k, V (ix2 k l) * P X K C (hd l) q k
def lse (h : Fin 12) (q : Fin 4096) : ℝ := mx X K C h q + Real.log (Z X K C h q)

/-- The gradients of the queries, of the keys, of the values and of the decay. -/
def gQ (q : Fin 4096) (l : Fin 768) : ℝ := ∑ k, dS X K V D C (hd l) q k * K (ix2 k l)
def gK (k : Fin 4096) (l : Fin 768) : ℝ := ∑ q, dS X K V D C (hd l) q k * (X (ix2 q l) * (1 / 8))
def gV (k : Fin 4096) (l : Fin 768) : ℝ := ∑ q, D (ix2 q l) * P X K C (hd l) q k
def gC (k : Fin 4096) (l : Fin 768) : ℝ := ∑ q, dS X K V D C (hd l) q k

def outOf (g : Fin 4096 → Fin 768 → ℝ) : FVec Ideal S4096x768 .f32 := fun j => ((g (j 0) (j 1) : ℝ) : EReal)

variable (hC : val_main_v0 (F := Ideal) L = up C)

theorem r5 (h q k) : val_main_v5 (F := Ideal) (up X) (up K) (ix3 h q k) = ((∑ d : Fin 64, X (ix2 q (hl h d)) * (1 / 8) * K (ix2 k (hl h d)) : ℝ) : EReal) := by
  pointwise [val_main_v5, val_main_v3, val_main_v4, val_main_v2, val_main_v1, val_main_cst, up]
  simp only [c_eighth, ← EReal.coe_mul, coe_sum]
  rfl

include hC in
theorem r12 (h q k) : val_main_v12 (F := Ideal) (up X) (up K) L (ix3 h q k) = ((Sc X K C h q k : ℝ) : EReal) := by
  have h8 : val_main_v8 (F := Ideal) L (ix3 h q k) = ((C (ix2 q h) : ℝ) : EReal) := by
    pointwise [val_main_v8, val_main_v7, val_main_v6]
    rw [hC]; rfl
  have h11 : val_main_v11 (F := Ideal) L (ix3 h q k) = ((C (ix2 k h) : ℝ) : EReal) := by
    pointwise [val_main_v11, val_main_v10, val_main_v6]
    rw [hC]; rfl
  rw [val_main_v12_apply, val_main_v9_apply, r5, h8, h11]
  show ((_ : ℝ) : EReal) + _ - _ = _
  rw [← EReal.coe_add, ← EReal.coe_sub]
  rfl

theorem toInt_ofNat (k : ℕ) (h : k < 2147483648) : (BitVec.ofNat 32 k).toInt = k := by
  rw [BitVec.toInt_eq_toNat_of_lt (by rw [BitVec.toNat_ofNat]; omega), BitVec.toNat_ofNat]
  omega

theorem cmp_le (a b : ℕ) (ha : a < 2147483648) (hb : b < 2147483648) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  rw [BitVec.sle_eq_decide, toInt_ofNat a ha, toInt_ofNat b hb]
  simp

theorem r19 (q k : Fin 4096) : val_main_v19 (F := Ideal) (ix2 q k) = BitVec.ofBool (decide (k.val ≤ q.val)) := by
  pointwise [val_main_v19, val_main_v17, val_main_v18, val_main_v15, val_main_v16, val_main_v13, val_main_v14]
  exact cmp_le _ _ (by omega) (by omega)

theorem select_ofBool {α : Type} (p : Prop) [Decidable p] (x y : α) : Scalar.select (BitVec.ofBool (decide p)) x y = if p then x else y := by
  by_cases h : p <;> simp [h, Scalar.select]

include hC in
theorem r20 (h q k) : val_main_v20_0 (F := Ideal) (up X) (up K) L (ix3 h q k) = msc (sees q) (Sc X K C h q) k := by
  have hm : val_main_v20_1 (F := Ideal) (ix3 h q k) = BitVec.ofBool (decide (k.val ≤ q.val)) := by
    pointwise [val_main_v20_1]
    exact r19 q k
  have hb : val_main_call1_v2 (F := Ideal) (ix3 h q k) = ⊥ := by
    pointwise [val_main_call1_v2, val_main_call1_v0, val_main_cst_0]
    exact c_bot
  rw [val_main_v20_0_apply, hm, hb, r12 X K L C hC, select_ofBool]
  rfl

include hC in
theorem r21 (h q) : val_main_v21 (F := Ideal) (up X) (up K) L (ix2 h q) = ((mx X K C h q : ℝ) : EReal) := by
  pointwise [val_main_v21, val_main_cst_1]
  simp only [r20 X K L C hC, c_bot]
  exact mfold_max _ _ (sees_self q)

include hC in
theorem r28 (h q) : val_main_v28 (F := Ideal) (up X) (up K) L (ix2 h q) = ((mx X K C h q : ℝ) : EReal) := by
  have h27 : val_main_v27 (F := Ideal) (ix2 h q) = ⊥ := by
    pointwise [val_main_v27, val_main_cst_3]
    exact c_bot
  rw [val_main_v28_apply, h27, r21 X K L C hC]
  exact max_bot_left _

include hC in
theorem r41 (h q k) : val_main_v41 (F := Ideal) (up X) (up K) L (ix3 h q k) = ((E X K C h q k : ℝ) : EReal) := by
  have h39 : val_main_v39 (F := Ideal) (up X) (up K) L (ix3 h q k) = ((mx X K C h q : ℝ) : EReal) := by
    pointwise [val_main_v39, val_main_v38]
    exact r28 X K L C hC h q
  rw [val_main_v41_apply, val_main_v40_apply, r20 X K L C hC, h39]
  exact exp_msc _ _ _ _

include hC in
theorem r43 (h q) (i : Fin 1) : val_main_v43 (F := Ideal) (up X) (up K) L (ix3 h q i) = ((Z X K C h q : ℝ) : EReal) := by
  pointwise [val_main_v43, val_main_v42, val_main_cst_9]
  simp only [r41 X K L C hC, coe_sum]
  rfl

include hC in
theorem r45 (h q k) : val_main_v45 (F := Ideal) (up X) (up K) L (ix3 h q k) = ((P X K C h q k : ℝ) : EReal) := by
  have h44 : val_main_v44 (F := Ideal) (up X) (up K) L (ix3 h q k) = ((Z X K C h q : ℝ) : EReal) := by
    pointwise [val_main_v44]
    exact r43 X K L C hC h q 0
  rw [val_main_v45_apply, r41 X K L C hC, h44]
  refine (div_mdenom _ _ (sees_self q) _ _).trans (congrArg _ ?_)
  exact mpr_shift _ _ (sees_self q) _ _

include hC in
theorem r52 (q l) : val_main_v52 (F := Ideal) (up X) (up K) (up V) L (ix2 q l) = ((att X K V C q l : ℝ) : EReal) := by
  pointwise [val_main_v52, val_main_v51, val_main_v50, val_main_v49]
  simp only [r45 X K L C hC, up, ← EReal.coe_mul, coe_sum]
  rfl

theorem r55 (h q k) : val_main_v55 (F := Ideal) (up V) (up D) (ix3 h q k) = ((dP V D h q k : ℝ) : EReal) := by
  pointwise [val_main_v55, val_main_v54, val_main_v53, val_main_v49]
  simp only [up, ← EReal.coe_mul, coe_sum]
  rfl

include hC in
theorem r48 (h q) (i : Fin 1) : val_main_v48 (F := Ideal) (up X) (up K) L (ix3 h q i) = ((1 * (1 / (Z X K C h q * Z X K C h q)) : ℝ) : EReal) := by
  have h47 : val_main_v47 (F := Ideal) (ix3 h q i) = (1 : EReal) := by pointwise [val_main_v47, val_main_cst_10]
  have hz : Z X K C h q ≠ 0 := (mdenom_pos (sees q) (Sc X K C h q) (sees_self q) (mx X K C h q)).ne'
  rw [val_main_v48_apply, val_main_v46_apply, r43 X K L C hC, h47]
  show Ideal.div 1 (((_ : ℝ) : EReal) * _) = _
  rw [← EReal.coe_mul, Ideal.div_coe (mul_ne_zero hz hz), EReal.coe_mul, EReal.coe_one]

include hC in
theorem r61 (h q k) : val_main_v61 (F := Ideal) (up X) (up K) (up V) L (up D) (ix3 h q k)
    = ((dP V D h q k * (1 * (1 / (Z X K C h q * Z X K C h q))) * E X K C h q k : ℝ) : EReal) := by
  have h59 : val_main_v59 (F := Ideal) (up X) (up K) L (ix3 h q k) = val_main_v48 (F := Ideal) (up X) (up K) L (ix3 h q 0) := by pointwise [val_main_v59]
  rw [val_main_v61_apply, val_main_v60_apply, r55, h59, r48 X K L C hC, r41 X K L C hC]
  show ((_ : ℝ) : EReal) * _ * _ = _
  rw [← EReal.coe_mul, ← EReal.coe_mul]

include hC in
theorem r67 (h q) : val_main_v67 (F := Ideal) (up X) (up K) (up V) L (up D) (ix2 h q)
    = ((-∑ k, dP V D h q k * (1 * (1 / (Z X K C h q * Z X K C h q))) * E X K C h q k : ℝ) : EReal) := by
  pointwise [val_main_v67, val_main_v64, val_main_v63, val_main_v62, val_main_cst_11, val_main_cst_12]
  simp only [r61 X K V D L C hC, coe_sum, ← EReal.coe_neg, Fin.sum_univ_one, one_mul]

include hC in
theorem r66 (h q k) : val_main_v66 (F := Ideal) (up X) (up K) (up V) L (up D) (ix3 h q k) = ((dP V D h q k * (1 / Z X K C h q) : ℝ) : EReal) := by
  have h65 : val_main_v65 (F := Ideal) (up X) (up K) L (ix3 h q k) = val_main_v43 (F := Ideal) (up X) (up K) L (ix3 h q 0) := by pointwise [val_main_v65]
  rw [val_main_v66_apply, r55, h65, r43 X K L C hC]
  exact div_mdenom _ _ (sees_self q) _ _

include hC in
theorem r71 (h q k) : val_main_v71 (F := Ideal) (up X) (up K) (up V) L (up D) (ix3 h q k) = ((dS X K V D C h q k : ℝ) : EReal) := by
  have h68 : val_main_v68 (F := Ideal) (up X) (up K) (up V) L (up D) (ix3 h q k) = val_main_v67 (F := Ideal) (up X) (up K) (up V) L (up D) (ix2 h q) := by
    pointwise [val_main_v68]
  have hm : val_main_v20_1 (F := Ideal) (ix3 h q k) = BitVec.ofBool (decide (k.val ≤ q.val)) := by
    pointwise [val_main_v20_1]
    exact r19 q k
  have h0 : val_main_call2_v0 (F := Ideal) (ix3 h q k) = 0 := by pointwise [val_main_call2_v0, val_main_call2_cst]
  rw [val_main_v71_apply, hm, h0, val_main_v70_apply, val_main_v69_apply, h68, r67 X K V D L C hC, r66 X K V D L C hC, r41 X K L C hC, select_ofBool]
  by_cases hs : k.val ≤ q.val
  · rw [if_pos hs]
    refine Eq.trans ?_ (congrArg (fun x : ℝ => (x : EReal)) (mds_plain (sees q) (Sc X K C h q) (dP V D h q) (sees_self q) (mx X K C h q) _ rfl k))
    show (((_ : ℝ) : EReal) + _) * _ = _
    rw [← EReal.coe_add, ← EReal.coe_mul]
    rfl
  · rw [if_neg hs]
    exact (congrArg (fun x : ℝ => (x : EReal)) (mds_out (sees q) (Sc X K C h q) (dP V D h q) k hs)).symm

include hC in
theorem ref_k : val_main_v85 (F := Ideal) (up X) (up K) (up V) L (up D) = outOf (gK X K V D C) := by
  funext j
  idx_vars j
  pointwise [val_main_v85, val_main_v82, val_main_v81, val_main_v3, val_main_v2, val_main_v1, val_main_cst]
  simp only [r71 X K V D L C hC, up, c_eighth, ← EReal.coe_mul, coe_sum]
  rfl

include hC in
theorem ref_q : val_main_v86 (F := Ideal) (up X) (up K) (up V) L (up D) = outOf (gQ X K V D C) := by
  funext j
  idx_vars j
  pointwise [val_main_v86, val_main_v84, val_main_v83, val_main_v4]
  simp only [r71 X K V D L C hC, up, ← EReal.coe_mul, coe_sum]
  rfl

include hC in
theorem ref_v : val_main_v58 (F := Ideal) (up X) (up K) L (up D) = outOf (gV X K D C) := by
  funext j
  idx_vars j
  pointwise [val_main_v58, val_main_v57, val_main_v56, val_main_v54, val_main_v53]
  simp only [r45 X K L C hC, up, ← EReal.coe_mul, coe_sum]
  rfl

include hC in
theorem r79 (h k) : val_main_v79 (F := Ideal) (up X) (up K) (up V) L (up D) (ix2 h k) = ((-∑ q, dS X K V D C h q k : ℝ) : EReal) := by
  have h75 : val_main_v75 (F := Ideal) (up X) (up K) (up V) L (up D) (ix2 h k) = ((∑ q, -dS X K V D C h q k : ℝ) : EReal) := by
    pointwise [val_main_v75, val_main_v74, val_main_v73, val_main_v72, val_main_cst_13, val_main_cst_14]
    simp only [r71 X K V D L C hC, ← EReal.coe_neg, coe_sum, Fin.sum_univ_one]
  have h78 : val_main_v78 (F := Ideal) (up X) (up K) (up V) L (up D) (ix2 h k) = ((∑ j, dS X K V D C h k j : ℝ) : EReal) := by
    pointwise [val_main_v78, val_main_v77, val_main_v76, val_main_cst_15, val_main_cst_16]
    simp only [r71 X K V D L C hC, coe_sum, Fin.sum_univ_one]
  rw [val_main_v79_apply, h75, h78]
  show ((_ : ℝ) : EReal) + _ = _
  rw [← EReal.coe_add, Finset.sum_neg_distrib]
  refine congrArg _ ?_
  have := mds_sum (sees k) (Sc X K C h k) (dP V D h k) (sees_self k)
  simp only [dS]
  rw [this, add_zero]

include hC in
theorem ref_c : val_main_v89 (F := Ideal) (up X) (up K) (up V) L (up D) = outOf (gC X K V D C) := by
  funext j
  idx_vars j
  pointwise [val_main_v89, val_main_v88, val_main_v87, val_main_v80]
  simp only [r79 X K V D L C hC, ← EReal.coe_neg, neg_neg]
  rfl

end math

/-- Sums of reals over windows are reals. -/
theorem window_real {s t : Shape} (window strides lo hi : Fin s.rank → Nat) (h : s.ReduceWindows window strides lo hi t) (x : s.Idx → ℝ) (j : t.Idx) :
    ∃ c : ℝ, Ideal.hostReduceWindowAdd window strides lo hi h (fun i => ((x i : ℝ) : EReal)) ((0 : ℝ) : EReal) j = ((c : ℝ) : EReal) := by
  have fold : ∀ (α : Type) (l : List α) (g : α → EReal) (z : ℝ), (∀ n, ∃ c : ℝ, g n = ((c : ℝ) : EReal)) →
      ∃ c : ℝ, l.foldl (fun r n => r + g n) ((z : ℝ) : EReal) = ((c : ℝ) : EReal) := by
    intro α l g
    induction l with
    | nil => exact fun z _ => ⟨z, rfl⟩
    | cons n l ih =>
      intro z hg
      obtain ⟨b, hb⟩ := hg n
      rw [List.foldl_cons, hb, ← EReal.coe_add]
      exact ih _ hg
  unfold Ideal.hostReduceWindowAdd Host.reduceWindow
  refine fold _ _ _ 0 fun n => ?_
  dsimp only
  split
  · exact ⟨_, rfl⟩
  · exact ⟨0, rfl⟩

/-- Running sums of reals are reals. -/
theorem running_real (L : S4096x12.Idx → ℝ) : ∃ C : S4096x12.Idx → ℝ, val_main_v0 (F := Ideal) (up L) = up C := by
  suffices h : ∀ j, ∃ c : ℝ, val_main_v0 (F := Ideal) (up L) j = ((c : ℝ) : EReal) by
    choose C hC using h
    exact ⟨C, funext hC⟩
  intro j
  have hv : (val_main_call0_call0_v0 (F := Ideal)) (Shape.Idx.first (by decide : 0 < S_.numel)) = ((0 : ℝ) : EReal) := by
    pointwise [val_main_call0_call0_v0, val_main_call0_call0_cst]; rfl
  unfold val_main_v0 Host.reduceWindowAdd
  generalize hz : (val_main_call0_call0_v0 (F := Ideal)) (Shape.Idx.first _) = z
  obtain rfl : z = ((0 : ℝ) : EReal) := hz.symm.trans hv
  exact window_real _ _ _ _ _ L j

end Cert.FoxReferenceIdeal.Hand
end
-- ==== Proof.FoxHost.lean ====
/-
  What the windows of the kernel of the forgetting attention hold: tiles of the queries, keys, values, of the cotangent, of the output, of the
  saved log of the denominator and of the two arrays that carry the decay, in real numbers.
-/
module

public import proofs.«01_k».proof.Proof.Gen.FoxKernelIdeal.Frame
public import proofs.«01_k».proof.Proof.Gen.FoxReferenceIdeal.Run
public import proofs.«01_k».proof.Proof.Gen.FoxReferenceIdeal.Read
public import Idealize.ShloMosaic.Lib.Pipeline.ValueKit
public import Idealize.ShloMosaic.Lib.Pointwise
public import proofs.«01_k».proof.Proof.Reals
public import proofs.«01_k».proof.Proof.FoxTile
public import proofs.«01_k».proof.Proof.FoxRef

@[expose] public section

set_option maxRecDepth 16384

noncomputable section

open Idealize.ShloMosaic Idealize.ShloMosaic.TcCoe Idealize.SL.Sem
open Idealize.ShloMosaic.Pipeline (Dat)

namespace Cert.FoxKernelIdeal.Hand
open Cert.FoxKernelIdeal Cert.FoxKernelIdeal.Gen Cert.Reals Cert.AttnReal Cert.MaskReal

/-! The number of a lane within its head. -/

def lanes : IVec S1x768 32 :=
  let n : IVec S_ 32 := select (cmpi .eq (constantI S_ 32 64#32) (constantI S_ 32 0#32)) (constantI S_ 32 1#32) (constantI S_ 32 64#32)
  let d : IVec S1x768 32 := broadcastInDim S1x768 ![] bcast_S_S1x768 n
  let r : IVec S1x768 32 := Host.remsi (iotaInDim S1x768 32 1) d
  let z : IVec S1x768 32 := broadcastInDim S1x768 ![] bcast_S_S1x768 (constantI S_ 32 0#32)
  select (andi (cmpi .ne (cmpi .slt r z) (broadcastInDim S1x768 ![] bcast_S_S1x768 (cmpi .slt n (constantI S_ 32 0#32)))) (cmpi .ne r z)) (addi r d) r

theorem lanes_eq (l : Fin 768) : lanes (ix2 0 l) = BitVec.ofNat 32 (l.val % 64) := by
  revert l; decide +kernel

/-- Where the number of the lane is one given number, and where it is below one. -/
def isLane (n : BitVec 32) : IVec S4096x768 1 :=
  broadcastInDim S4096x768 ![0, 1] bcast_S1x768_S4096x768_0_1 (cmpi .eq lanes (broadcastInDim S1x768 ![] bcast_S_S1x768 (constantI S_ 32 n)))
def belowLane (n : BitVec 32) : IVec S4096x768 1 :=
  broadcastInDim S4096x768 ![0, 1] bcast_S1x768_S4096x768_0_1 (cmpi .slt lanes (broadcastInDim S1x768 ![] bcast_S_S1x768 (constantI S_ 32 n)))

theorem isLane_read (n : BitVec 32) (r l) : isLane n (ix2 r l) = IntOp.cmpi .eq (lanes (ix2 0 l)) n := by pointwise [isLane]
theorem belowLane_read (n : BitVec 32) (r l) : belowLane n (ix2 r l) = IntOp.cmpi .slt (lanes (ix2 0 l)) n := by pointwise [belowLane]
theorem isLane0 (r l) : isLane 0#32 (ix2 r l) = BitVec.ofBool (decide (l.val % 64 = 0)) := by
  rw [isLane_read, lanes_eq]; revert l; decide +kernel
theorem isLane1 (r l) : isLane 1#32 (ix2 r l) = BitVec.ofBool (decide (l.val % 64 = 1)) := by
  rw [isLane_read, lanes_eq]; revert l; decide +kernel
theorem isLane2 (r l) : isLane 2#32 (ix2 r l) = BitVec.ofBool (decide (l.val % 64 = 2)) := by
  rw [isLane_read, lanes_eq]; revert l; decide +kernel
theorem isLane3 (r l) : isLane 3#32 (ix2 r l) = BitVec.ofBool (decide (l.val % 64 = 3)) := by
  rw [isLane_read, lanes_eq]; revert l; decide +kernel
theorem isLane4 (r l) : isLane 4#32 (ix2 r l) = BitVec.ofBool (decide (l.val % 64 = 4)) := by
  rw [isLane_read, lanes_eq]; revert l; decide +kernel
theorem isLane5 (r l) : isLane 5#32 (ix2 r l) = BitVec.ofBool (decide (l.val % 64 = 5)) := by
  rw [isLane_read, lanes_eq]; revert l; decide +kernel
theorem belowLane3 (r l) : belowLane 3#32 (ix2 r l) = BitVec.ofBool (decide (l.val % 64 < 3)) := by
  rw [belowLane_read, lanes_eq]; revert l; decide +kernel
theorem belowLane6 (r l) : belowLane 6#32 (ix2 r l) = BitVec.ofBool (decide (l.val % 64 < 6)) := by
  rw [belowLane_read, lanes_eq]; revert l; decide +kernel

section saved
variable {F : FTy → Type} [FloatOps F] [Named F] (m : (ℓ : Loc nD τ sig) → Buf (Elt F) ℓ)
open Cert.FoxReferenceIdeal.Read (val_main_v0 val_main_v20_0 val_main_v21 val_main_v52)

/-! The host lines before the call. -/

def kE (x0 x1 : FVec F S4096x768 .f32) (x3 : FVec F S4096x12 .f32) : FVec F S12x4096x4096 .f32 :=
  Host.exp (subf (val_main_v20_0 x0 x1 x3) (broadcastInDim S12x4096x4096 ![0, 1, 2] bcast_S12x4096x1_S12x4096x4096_0_1_2
    (broadcastInDim S12x4096x1 ![0, 1] bcast_S12x4096_S12x4096x1_0_1 (val_main_v21 x0 x1 x3))))

def kL (x0 x1 : FVec F S4096x768 .f32) (x3 : FVec F S4096x12 .f32) : FVec F S12x4096 .f32 :=
  addf (val_main_v21 x0 x1 x3) (Host.log (Host.reduceAdd (kE x0 x1 x3) (constant S_ FTy.f32 0#32) reducesTo_S12x4096x4096_S12x4096_d2 h_S_))

/-- One number per row and head, repeated over the lanes of the head. -/
def spread (x : FVec F S4096x12 .f32) : FVec F S4096x768 .f32 :=
  shapeCast S4096x768 (broadcastInDim S4096x12x64 ![0, 1] bcast_S4096x12_S4096x12x64_0_1 x) shapeCasts_S4096x12x64_S4096x768

/-- The decay rounded to half the bits, and what two roundings leave. -/
def hi (x : FVec F S4096x768 .f32) : FVec F S4096x768 .bf16 := truncf .bf16 x bitsLt_bf16_f32
def rest (x : FVec F S4096x768 .f32) : FVec F S4096x768 .f32 := subf x (extf .f32 (hi x) bitsLt_bf16_f32)

def ones : FVec F S4096x768 .bf16 := broadcastInDim S4096x768 ![] bcast_S_S4096x768 (constant S_ .bf16 0x3F80#16)
def zeros : FVec F S4096x768 .bf16 := broadcastInDim S4096x768 ![] bcast_S_S4096x768 (constant S_ .bf16 0x0000#16)

def augQ (x : FVec F S4096x768 .f32) : FVec F S4096x768 .bf16 :=
  select (isLane 0#32) (hi x) (select (isLane 1#32) (hi (rest x)) (select (isLane 2#32) (hi (rest (rest x))) (select (belowLane 6#32) ones zeros)))
def augK (x : FVec F S4096x768 .f32) : FVec F S4096x768 .bf16 :=
  select (belowLane 3#32) ones (select (isLane 3#32) (Host.negf (hi x)) (select (isLane 4#32) (Host.negf (hi (rest x)))
    (select (isLane 5#32) (Host.negf (hi (rest (rest x)))) zeros)))

def qkv (x0 x1 x2 : FVec F S4096x768 .f32) : FVec F S4096x2304 .f32 :=
  concatenate S4096x2304 1 [⟨S4096x768, mulf x0 (broadcastInDim S4096x768 ![] bcast_S_S4096x768 (constant S_ .f32 1040187392#32))⟩, ⟨S4096x768, x1⟩, ⟨S4096x768, x2⟩]
    concatenates_S4096x768_S4096x768_S4096x768_S4096x2304_d1

variable (c : Dev nD)
set_option maxHeartbeats 4000000 in
theorem V_l : V m c main_v64 = spread (transpose S4096x12 [1, 0] (kL (m (c, Proc.tc.devRef main_arg0)) (m (c, Proc.tc.devRef main_arg1)) (m (c, Proc.tc.devRef main_arg3))) transposes_S12x4096_S4096x12_1_0) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  rfl
set_option maxHeartbeats 4000000 in
theorem V_o : V m c main_v61 = val_main_v52 (m (c, Proc.tc.devRef main_arg0)) (m (c, Proc.tc.devRef main_arg1)) (m (c, Proc.tc.devRef main_arg2)) (m (c, Proc.tc.devRef main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  rfl
/-- The host lines before the last two. -/
abbrev before : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]

abbrev W (b : Ref sig .tc) : Buf (Elt F) ((c : Thread nD τ).loc b) := StableHlo.after (before (F := F)) (fun b => m (c, b)) b

theorem W_v1 : W m c main_v1 = mulf (m (c, Proc.tc.devRef main_arg0)) (broadcastInDim S4096x768 ![] bcast_S_S4096x768 (constant S_ .f32 1040187392#32)) := by
  unfold W before
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.cons_append, List.nil_append, List.append_nil]
  entry_read
  rfl
theorem W_arg1 : W m c main_arg1 = m (c, Proc.tc.devRef main_arg1) := by
  unfold W before
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.cons_append, List.nil_append, List.append_nil]
  entry_read
  rfl
theorem W_arg2 : W m c main_arg2 = m (c, Proc.tc.devRef main_arg2) := by
  unfold W before
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.cons_append, List.nil_append, List.append_nil]
  entry_read
  rfl

theorem V_x : V m c main_v106 = truncf .bf16 (qkv (m (c, Proc.tc.devRef main_arg0)) (m (c, Proc.tc.devRef main_arg1)) (m (c, Proc.tc.devRef main_arg2))) bitsLt_bf16_f32 := by
  have e : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] = before (F := F) ++ hostOps0_18 := by
    simp only [before, List.flatten_cons, List.flatten_nil, List.append_nil, List.append_assoc]
  unfold V
  rw [e, StableHlo.after_append]
  have h : StableHlo.after (hostOps0_18 (F := F)) (StableHlo.after before fun b => m (c, b)) (Proc.tc.devRef main_v106)
      = truncf .bf16 (concatenate S4096x2304 1 [⟨S4096x768, W m c main_v1⟩, ⟨S4096x768, W m c main_arg1⟩, ⟨S4096x768, W m c main_arg2⟩]
        concatenates_S4096x768_S4096x768_S4096x768_S4096x2304_d1) bitsLt_bf16_f32 := rfl
  rw [h, W_v1, W_arg1, W_arg2]
  rfl
set_option maxHeartbeats 4000000 in
theorem V_qa : V m c main_v89 = augQ (spread (val_main_v0 (m (c, Proc.tc.devRef main_arg3)))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  rfl
set_option maxHeartbeats 4000000 in
theorem V_ka : V m c main_v104 = augK (spread (val_main_v0 (m (c, Proc.tc.devRef main_arg3)))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  rfl
theorem V_do : V m c main_arg4 = m (c, Proc.tc.devRef main_arg4) := V_main_arg4 m c

theorem iblk_q (t : Fin cfg0.N) (y : S512x128.Idx) : iblk m c 0 t y = V m c main_v106 (((cfg0.win 0).blk t).view.emb y) := rfl
theorem iblk_k (t : Fin cfg0.N) (y : S512x128.Idx) : iblk m c 1 t y = V m c main_v106 (((cfg0.win 1).blk t).view.emb y) := rfl
theorem iblk_v (t : Fin cfg0.N) (y : S512x128.Idx) : iblk m c 2 t y = V m c main_v106 (((cfg0.win 2).blk t).view.emb y) := rfl
theorem iblk_d (t : Fin cfg0.N) (y : S512x128.Idx) : iblk m c 3 t y = V m c main_arg4 (((cfg0.win 3).blk t).view.emb y) := rfl
theorem iblk_o (t : Fin cfg0.N) (y : S512x128.Idx) : iblk m c 4 t y = V m c main_v61 (((cfg0.win 4).blk t).view.emb y) := rfl
theorem iblk_l (t : Fin cfg0.N) (y : S512x128.Idx) : iblk m c 5 t y = V m c main_v64 (((cfg0.win 5).blk t).view.emb y) := rfl
theorem iblk_qa (t : Fin cfg0.N) (y : S512x128.Idx) : iblk m c 6 t y = V m c main_v89 (((cfg0.win 6).blk t).view.emb y) := rfl
theorem iblk_ka (t : Fin cfg0.N) (y : S512x128.Idx) : iblk m c 7 t y = V m c main_v104 (((cfg0.win 7).blk t).view.emb y) := rfl

theorem kE_apply (x0 x1 x3) (i : S12x4096x4096.Idx) : kE (F := F) x0 x1 x3 i = FloatOps.hostUnary .exp (FloatOps.subf (val_main_v20_0 x0 x1 x3 i)
    (broadcastInDim S12x4096x4096 ![0, 1, 2] bcast_S12x4096x1_S12x4096x4096_0_1_2 (broadcastInDim S12x4096x1 ![0, 1] bcast_S12x4096_S12x4096x1_0_1 (val_main_v21 x0 x1 x3)) i)) := rfl
theorem kL_apply (x0 x1 x3) (i : S12x4096.Idx) : kL (F := F) x0 x1 x3 i = FloatOps.addf (val_main_v21 x0 x1 x3 i)
    (FloatOps.hostUnary .log (Host.reduceAdd (kE x0 x1 x3) (constant S_ FTy.f32 0#32) reducesTo_S12x4096x4096_S12x4096_d2 h_S_ i)) := rfl
theorem augQ_apply (x) (i : S4096x768.Idx) : augQ (F := F) x i = Scalar.select (isLane 0#32 i) (hi x i) (Scalar.select (isLane 1#32 i) (hi (rest x) i)
    (Scalar.select (isLane 2#32 i) (hi (rest (rest x)) i) (Scalar.select (belowLane 6#32 i) (ones i) (zeros i)))) := rfl
theorem augK_apply (x) (i : S4096x768.Idx) : augK (F := F) x i = Scalar.select (belowLane 3#32 i) (ones i) (Scalar.select (isLane 3#32 i) (FloatOps.hostNegf (hi x i))
    (Scalar.select (isLane 4#32 i) (FloatOps.hostNegf (hi (rest x) i)) (Scalar.select (isLane 5#32 i) (FloatOps.hostNegf (hi (rest (rest x)) i)) (zeros i)))) := rfl
end saved

section real
open Cert.FoxReferenceIdeal.Hand (up hl hd Sc sees sees_self E Z mx lse att r20 r21 r52)
open Cert.FoxReferenceIdeal.Read (val_main_v0 val_main_v20_0 val_main_v21 val_main_v52)

theorem spread_read (x : FVec Ideal S4096x12 .f32) (r l) : spread x (ix2 r l) = x (ix2 r (hd l)) := by
  pointwise [spread]; rfl
theorem turn_read (x : FVec Ideal S12x4096 .f32) (r h) : transpose S4096x12 [1, 0] x transposes_S12x4096_S4096x12_1_0 (ix2 r h) = x (ix2 h r) := by
  pointwise
theorem rows_read (L : FVec Ideal S12x4096 .f32) (h s k) : broadcastInDim S12x4096x4096 ![0, 1, 2] bcast_S12x4096x1_S12x4096x4096_0_1_2
    (broadcastInDim S12x4096x1 ![0, 1] bcast_S12x4096_S12x4096x1_0_1 L) (ix3 h s k) = L (ix2 h s) := by pointwise
theorem row_sum (L : FVec Ideal S12x4096x4096 .f32) (h s) : Host.reduceAdd L (constant S_ FTy.f32 0#32) reducesTo_S12x4096x4096_S12x4096_d2 h_S_ (ix2 h s)
    = ∑ k, L (ix3 h s k) := by pointwise

section cat
variable (x0 x1 x2 : FVec Ideal S4096x768 .f32) (r : Fin 4096) (l : Fin 768)
theorem qkv_q (i : Fin 2304) (h : i.val = l.val) : qkv x0 x1 x2 (ix2 r i) = x0 (ix2 r l) * Ideal.ofBits .f32 1040187392#32 := by
  obtain ⟨i, hi⟩ := i
  obtain rfl : i = l.val := h
  pointwise [qkv]
theorem qkv_k (i : Fin 2304) (h : i.val = 768 + l.val) : qkv x0 x1 x2 (ix2 r i) = x1 (ix2 r l) := by
  obtain ⟨i, hi⟩ := i
  obtain rfl : i = 768 + l.val := h
  pointwise [qkv]
theorem qkv_v (i : Fin 2304) (h : i.val = 1536 + l.val) : qkv x0 x1 x2 (ix2 r i) = x2 (ix2 r l) := by
  obtain ⟨i, hi⟩ := i
  obtain rfl : i = 1536 + l.val := h
  pointwise [qkv]
  rw [dif_neg (by omega), dif_neg (by omega)]
  exact congrArg (fun i => x2 (ix2 r i)) (Fin.ext (by show 1536 + l.val - 768 - 768 = l.val; omega))
end cat

section aug
/-- What the two arrays with the decay hold in a lane. -/
def qaug (l : ℕ) (x : ℝ) : ℝ := if l % 64 = 0 then x else if l % 64 = 1 then 0 else if l % 64 = 2 then 0 else if l % 64 < 6 then 1 else 0
def kaug (l : ℕ) (x : ℝ) : ℝ := if l % 64 < 3 then 1 else if l % 64 = 3 then -x else 0

variable (x : FVec Ideal S4096x768 .f32) (y : ℝ) (r : Fin 4096) (l : Fin 768) (hx : x (ix2 r l) = ((y : ℝ) : EReal))
include hx
theorem hi_read : (hi x (ix2 r l) : Ideal .bf16) = ((y : ℝ) : EReal) := hx
theorem rest_read : (rest x (ix2 r l) : Ideal .f32) = ((0 : ℝ) : EReal) := by
  show (x (ix2 r l) : EReal) - x (ix2 r l) = _
  rw [hx, ← EReal.coe_sub, sub_self]
omit hx in
theorem ones_read : (ones (ix2 r l) : Ideal .bf16) = ((1 : ℝ) : EReal) := by
  pointwise [ones]; simp [Ideal.ofBits, Ideal.ieee]
omit hx in
theorem zeros_read : (zeros (ix2 r l) : Ideal .bf16) = ((0 : ℝ) : EReal) := by
  pointwise [zeros]; simp
omit hx in
theorem pick (p : Prop) [Decidable p] (a b : ℝ) : Scalar.select (BitVec.ofBool (decide p)) (a : EReal) (b : EReal) = ((if p then a else b : ℝ) : EReal) := by
  by_cases h : p <;> simp [h, Scalar.select]
theorem augQ_read : (augQ x (ix2 r l) : Ideal .bf16) = ((qaug l.val y : ℝ) : EReal) := by
  have h1 := rest_read x y r l hx
  have h2 := rest_read _ 0 r l h1
  rw [augQ_apply, hi_read x y r l hx, hi_read _ 0 r l h1, hi_read _ 0 r l h2, ones_read, zeros_read, isLane0, isLane1, isLane2, belowLane6]
  exact ((congrArg (Scalar.select _ _) ((congrArg (Scalar.select _ _) ((congrArg (Scalar.select _ _) (pick _ _ _)).trans (pick _ _ _))).trans (pick _ _ _))).trans (pick _ _ _))
theorem augK_read : (augK x (ix2 r l) : Ideal .bf16) = ((kaug l.val y : ℝ) : EReal) := by
  have h1 := rest_read x y r l hx
  have h2 := rest_read _ 0 r l h1
  have neg : ∀ z : ℝ, (FloatOps.hostNegf (F := Ideal) (φ := .bf16) ((z : ℝ) : EReal)) = ((-z : ℝ) : EReal) := fun z => (EReal.coe_neg z).symm
  rw [augK_apply, hi_read x y r l hx, hi_read _ 0 r l h1, hi_read _ 0 r l h2, ones_read, zeros_read, isLane3, isLane4, isLane5, belowLane3, neg, neg]
  refine ((congrArg (Scalar.select _ _) ((congrArg (Scalar.select _ _) ((congrArg (Scalar.select _ _) (pick _ _ _)).trans (pick _ _ _))).trans (pick _ _ _))).trans (pick _ _ _)).trans ?_
  simp only [neg_zero, ite_self]
  rfl
end aug

variable (X K : S4096x768.Idx → ℝ) (L : FVec Ideal S4096x12 .f32) (C : S4096x12.Idx → ℝ) (hC : val_main_v0 (F := Ideal) L = up C)

include hC in
theorem kE_eq (h s k) : kE (F := Ideal) (up X) (up K) L (ix3 h s k) = ((E X K C h s k : ℝ) : EReal) := by
  rw [kE_apply, rows_read, r20 X K L C hC, r21 X K L C hC]
  exact exp_msc _ _ _ _

include hC in
theorem kL_eq (h s) : kL (F := Ideal) (up X) (up K) L (ix2 h s) = ((lse X K C h s : ℝ) : EReal) := by
  rw [kL_apply, row_sum, r21 X K L C hC]
  simp only [kE_eq X K L C hC, coe_sum]
  exact (congrArg (fun z => ((mx X K C h s : ℝ) : EReal) + z) (log_mdenom _ _ (sees_self s) _)).trans (EReal.coe_add _ _).symm
end real

section tiles
open Cert.FoxReferenceIdeal.Hand (up hl hd Sc sees sees_self E Z mx lse att r20 r21 r52)
open Cert.FoxReferenceIdeal.Read (val_main_v0 val_main_v20_0 val_main_v21 val_main_v52)

theorem idx : ∀ t : Fin cfg0.N, win0_0.index t = ![max (t.val % 8) (t.val / 8 % 8), t.val / 64] ∧ win0_1.index t = ![t.val / 8 % 8, 6 + t.val / 64]
    ∧ win0_2.index t = ![t.val / 8 % 8, 12 + t.val / 64] ∧ win0_3.index t = ![max (t.val % 8) (t.val / 8 % 8), t.val / 64]
    ∧ win0_4.index t = ![max (t.val % 8) (t.val / 8 % 8), t.val / 64] ∧ win0_5.index t = ![max (t.val % 8) (t.val / 8 % 8), t.val / 64]
    ∧ win0_6.index t = ![max (t.val % 8) (t.val / 8 % 8), t.val / 64] ∧ win0_7.index t = ![t.val / 8 % 8, t.val / 64]
    ∧ win0_8.index t = ![t.val / 8 % 8, t.val / 64] ∧ win0_9.index t = ![t.val / 8 % 8, t.val / 64] ∧ win0_10.index t = ![t.val / 8 % 8, t.val / 64]
    ∧ win0_11.index t = ![0, t.val / 64] :=
  (by decide +kernel : ∀ t : Fin grid0.N, _)

theorem t_lt (t : Fin cfg0.N) : t.val < 384 := lt_of_lt_of_eq t.isLt N_0

/-- The rows and the lanes of a point's tiles. -/
def qrow (t : Fin cfg0.N) (r : Fin 512) : Fin 4096 := ⟨max (t.val % 8) (t.val / 8 % 8) * 512 + r.val, by omega⟩
def krow (t : Fin cfg0.N) (r : Fin 512) : Fin 4096 := ⟨t.val / 8 % 8 * 512 + r.val, by omega⟩
def gl (t : Fin cfg0.N) (l : Fin 128) : Fin 768 := ⟨t.val / 64 * 128 + l.val, by have := t_lt t; omega⟩

variable (m : (ℓ : Loc nD τ sig) → Buf (Elt Ideal) ℓ) (c : Dev nD) (X K V D : S4096x768.Idx → ℝ) (L : FVec Ideal S4096x12 .f32) (C : S4096x12.Idx → ℝ)
  (hC : val_main_v0 (F := Ideal) L = up C)
  (hx : m ((c : Thread nD τ).loc main_arg0) = up X) (hk : m ((c : Thread nD τ).loc main_arg1) = up K) (hv : m ((c : Thread nD τ).loc main_arg2) = up V)
  (hl' : m ((c : Thread nD τ).loc main_arg3) = L) (hd' : m ((c : Thread nD τ).loc main_arg4) = up D)
variable (t : Fin cfg0.N) (r : Fin 512) (l : Fin 128)

theorem low (x0 x1 x2 : FVec Ideal S4096x768 .f32) (i : S4096x2304.Idx) : (truncf .bf16 (qkv x0 x1 x2) bitsLt_bf16_f32 i : Ideal .bf16) = qkv x0 x1 x2 i := rfl

include hx in
theorem tile_q : (iblk m c 0 t : FVec Ideal S512x128 .bf16) (ix2 r l) = ((X (ix2 (qrow t r) (gl t l)) * (1 / 8) : ℝ) : EReal) := by
  have e : ((cfg0.win 0).blk t).view.emb (ix2 r l) = (ix2 (qrow t r) ⟨(gl t l).val, by omega⟩ : S4096x2304.Idx) := by blk_ext [idx t, qrow, gl]
  have h0 : m (c, Proc.tc.devRef main_arg0) = up X := hx
  rw [iblk_q, e, V_x, low, qkv_q _ _ _ _ (gl t l) _ rfl, h0, c_eighth]
  exact (EReal.coe_mul _ _).symm

include hk in
theorem tile_k : (iblk m c 1 t : FVec Ideal S512x128 .bf16) (ix2 r l) = ((K (ix2 (krow t r) (gl t l)) : ℝ) : EReal) := by
  have e : ((cfg0.win 1).blk t).view.emb (ix2 r l) = (ix2 (krow t r) ⟨768 + (gl t l).val, by omega⟩ : S4096x2304.Idx) := by blk_ext [idx t, krow, gl]
  rw [iblk_k, e, V_x, low, qkv_k _ _ _ _ (gl t l) _ rfl]
  exact congrFun hk _

include hv in
theorem tile_v : (iblk m c 2 t : FVec Ideal S512x128 .bf16) (ix2 r l) = ((V (ix2 (krow t r) (gl t l)) : ℝ) : EReal) := by
  have e : ((cfg0.win 2).blk t).view.emb (ix2 r l) = (ix2 (krow t r) ⟨1536 + (gl t l).val, by omega⟩ : S4096x2304.Idx) := by blk_ext [idx t, krow, gl]
  rw [iblk_v, e, V_x, low, qkv_v _ _ _ _ (gl t l) _ rfl]
  exact congrFun hv _

include hd' in
theorem tile_d : (iblk m c 3 t : FVec Ideal S512x128 .f32) (ix2 r l) = ((D (ix2 (qrow t r) (gl t l)) : ℝ) : EReal) := by
  have e : ((cfg0.win 3).blk t).view.emb (ix2 r l) = (ix2 (qrow t r) (gl t l) : S4096x768.Idx) := by blk_ext [idx t, qrow, gl]
  rw [iblk_d, e, V_do]
  exact congrFun hd' _

include hC hx hk hv hl' in
theorem tile_o : (iblk m c 4 t : FVec Ideal S512x128 .f32) (ix2 r l) = ((att X K V C (qrow t r) (gl t l) : ℝ) : EReal) := by
  have e : ((cfg0.win 4).blk t).view.emb (ix2 r l) = (ix2 (qrow t r) (gl t l) : S4096x768.Idx) := by blk_ext [idx t, qrow, gl]
  have h0 : m (c, Proc.tc.devRef main_arg0) = up X := hx
  have h1 : m (c, Proc.tc.devRef main_arg1) = up K := hk
  have h2 : m (c, Proc.tc.devRef main_arg2) = up V := hv
  have h3 : m (c, Proc.tc.devRef main_arg3) = L := hl'
  rw [iblk_o, e, V_o, h0, h1, h2, h3]
  exact r52 X K V L C hC _ _

include hC hx hk hl' in
theorem tile_l : (iblk m c 5 t : FVec Ideal S512x128 .f32) (ix2 r l) = ((lse X K C (hd (gl t l)) (qrow t r) : ℝ) : EReal) := by
  have e : ((cfg0.win 5).blk t).view.emb (ix2 r l) = (ix2 (qrow t r) (gl t l) : S4096x768.Idx) := by blk_ext [idx t, qrow, gl]
  have h0 : m (c, Proc.tc.devRef main_arg0) = up X := hx
  have h1 : m (c, Proc.tc.devRef main_arg1) = up K := hk
  have h3 : m (c, Proc.tc.devRef main_arg3) = L := hl'
  rw [iblk_l, e, V_l, h0, h1, h3, spread_read, turn_read]
  exact kL_eq X K L C hC _ _

include hC hl' in
theorem tile_qa : (iblk m c 6 t : FVec Ideal S512x128 .bf16) (ix2 r l) = ((qaug l.val (C (ix2 (qrow t r) (hd (gl t l)))) : ℝ) : EReal) := by
  have e : ((cfg0.win 6).blk t).view.emb (ix2 r l) = (ix2 (qrow t r) (gl t l) : S4096x768.Idx) := by blk_ext [idx t, qrow, gl]
  have h3 : m (c, Proc.tc.devRef main_arg3) = L := hl'
  have hm : (gl t l).val % 64 = l.val % 64 := by show (t.val / 64 * 128 + l.val) % 64 = _; omega
  rw [iblk_qa, e, V_qa, h3, hC]
  refine (augQ_read _ _ _ _ (spread_read _ _ _)).trans (congrArg _ ?_)
  simp only [qaug, hm]

include hC hl' in
theorem tile_ka : (iblk m c 7 t : FVec Ideal S512x128 .bf16) (ix2 r l) = ((kaug l.val (C (ix2 (krow t r) (hd (gl t l)))) : ℝ) : EReal) := by
  have e : ((cfg0.win 7).blk t).view.emb (ix2 r l) = (ix2 (krow t r) (gl t l) : S4096x768.Idx) := by blk_ext [idx t, krow, gl]
  have h3 : m (c, Proc.tc.devRef main_arg3) = L := hl'
  have hm : (gl t l).val % 64 = l.val % 64 := by show (t.val / 64 * 128 + l.val) % 64 = _; omega
  rw [iblk_ka, e, V_ka, h3, hC]
  refine (augK_read _ _ _ _ (spread_read _ _ _)).trans (congrArg _ ?_)
  simp only [kaug, hm]
end tiles

end Cert.FoxKernelIdeal.Hand
end
-- ==== Proof.FoxStep.lean ====
/-
  What one point of the grid of the forgetting attention adds to its accumulators, in real numbers.
-/
module

public import proofs.«01_k».proof.Proof.Gen.FoxKernelIdeal.Frame
public import proofs.«01_k».proof.Proof.Gen.FoxReferenceIdeal.Run
public import proofs.«01_k».proof.Proof.Gen.FoxReferenceIdeal.Read
public import Idealize.ShloMosaic.Lib.Pipeline.ValueKit
public import Idealize.ShloMosaic.Lib.Pointwise
public import proofs.«01_k».proof.Proof.Reals
public import proofs.«01_k».proof.Proof.FoxHost

@[expose] public section

set_option maxRecDepth 16384

noncomputable section

open Idealize.ShloMosaic Idealize.ShloMosaic.TcCoe Idealize.SL.Sem
open Idealize.ShloMosaic.Pipeline (Dat)

namespace Cert.FoxKernelIdeal.Hand
open Cert.FoxKernelIdeal Cert.FoxKernelIdeal.Gen Cert.Reals Cert.AttnReal Cert.MaskReal
open Cert.FoxReferenceIdeal.Hand (up hl hd Sc dP sees sees_self P dS E Z mx lse att cmp_le)
open Cert.FoxReferenceIdeal.Read (val_main_v0)

/-! Sums over 256 lanes of which the second half carries the decay. -/

theorem sum256 (f : Fin 256 → ℝ) : ∑ l, f l = ∑ l : Fin 128, f ⟨l.val, by omega⟩ + ∑ l : Fin 128, f ⟨128 + l.val, by omega⟩ :=
  Fin.sum_univ_add (a := 128) (b := 128) f

section cat
variable (Q A K B : Fin 512 → Fin 128 → ℝ) (r j : Fin 512)
theorem cat_lo (l : Fin 128) (h) : cat Q A r ⟨l.val, h⟩ = Q r l := dif_pos l.isLt
theorem cat_hi (l : Fin 128) (h) : cat Q A r ⟨128 + l.val, h⟩ = A r l :=
  (dif_neg (by show ¬(128 + l.val < 128); omega)).trans (congrArg (A r) (Fin.ext (by show 128 + l.val - 128 = l.val; omega)))

theorem score_lo : ∑ l : Fin 256, (if l.val % 128 < 64 then cat Q A r l else 0) * cat K B j l
    = (∑ d, Q r (lane 0 d) * K j (lane 0 d)) + ∑ d, A r (lane 0 d) * B j (lane 0 d) := by
  rw [sum256, ← sum_lo' (fun l => Q r l * K j l), ← sum_lo' (fun l => A r l * B j l)]
  refine congrArg₂ _ (Finset.sum_congr rfl fun l _ => ?_) (Finset.sum_congr rfl fun l _ => ?_)
  · rw [cat_lo, cat_lo]
    show (if l.val % 128 < 64 then _ else _) * _ = _
    rw [Nat.mod_eq_of_lt l.isLt, ite_mul, zero_mul]
  · rw [cat_hi, cat_hi]
    show (if (128 + l.val) % 128 < 64 then _ else _) * _ = _
    rw [Nat.add_mod_left, Nat.mod_eq_of_lt l.isLt, ite_mul, zero_mul]

theorem score_hi : ∑ l : Fin 256, (if 64 ≤ l.val % 128 then cat Q A r l else 0) * cat K B j l
    = (∑ d, Q r (lane 1 d) * K j (lane 1 d)) + ∑ d, A r (lane 1 d) * B j (lane 1 d) := by
  rw [sum256, ← sum_hi' (fun l => Q r l * K j l), ← sum_hi' (fun l => A r l * B j l)]
  refine congrArg₂ _ (Finset.sum_congr rfl fun l _ => ?_) (Finset.sum_congr rfl fun l _ => ?_)
  · rw [cat_lo, cat_lo]
    show (if 64 ≤ l.val % 128 then _ else _) * _ = _
    rw [Nat.mod_eq_of_lt l.isLt]
    by_cases h : l.val < 64
    · rw [if_pos h, if_neg (by omega), zero_mul]
    · rw [if_neg h, if_pos (by omega)]
  · rw [cat_hi, cat_hi]
    show (if 64 ≤ (128 + l.val) % 128 then _ else _) * _ = _
    rw [Nat.add_mod_left, Nat.mod_eq_of_lt l.isLt]
    by_cases h : l.val < 64
    · rw [if_pos h, if_neg (by omega), zero_mul]
    · rw [if_neg h, if_pos (by omega)]
end cat

theorem lane_mod (a : Fin 2) (d : Fin 64) : (lane a d).val % 64 = d.val := by
  show (64 * a.val + d.val) % 64 = _; omega

theorem aug_sum (a : Fin 2) (x y : ℝ) : ∑ d : Fin 64, qaug (lane a d).val x * kaug (lane a d).val y = x - y := by
  have e : ∀ d : Fin 64, qaug (lane a d).val x * kaug (lane a d).val y = (if d = 0 then x else 0) + (if d = 3 then -y else 0) := by
    intro d
    have h : d.val = 0 ∨ d.val = 1 ∨ d.val = 2 ∨ d.val = 3 ∨ d.val = 4 ∨ d.val = 5 ∨ 6 ≤ d.val := by omega
    simp only [qaug, kaug, lane_mod, Fin.ext_iff]
    rcases h with h | h | h | h | h | h | h
    pick_goal 7
    · rw [if_neg (by omega), if_neg (by omega), if_neg (by omega), if_neg (by omega), if_neg (by omega : ¬d.val < 3), if_neg (by omega : ¬d.val = 3), zero_mul,
        if_neg (by show ¬d.val = 0; omega), if_neg (by show ¬d.val = 3; omega), add_zero]
    all_goals simp [h]
  rw [Finset.sum_congr rfl fun d _ => e d, Finset.sum_add_distrib, Finset.sum_ite_eq' Finset.univ (0 : Fin 64), Finset.sum_ite_eq' Finset.univ (3 : Fin 64)]
  simp [sub_eq_add_neg]

section point
variable (X K V D : S4096x768.Idx → ℝ) (C : S4096x12.Idx → ℝ) (t : Fin cfg0.N)

/-- The two heads of a point. -/
def hp (a : Fin 2) : Fin 12 := ⟨2 * (t.val / 64) + a.val, by have := t_lt t; omega⟩
theorem hd_gl (a : Fin 2) (d : Fin 64) : hd (gl t (lane a d)) = hp t a := Fin.ext (by
  show (t.val / 64 * 128 + (64 * a.val + d.val)) / 64 = 2 * (t.val / 64) + a.val
  omega)
theorem hl_hp (a : Fin 2) (d : Fin 64) : hl (hp t a) d = gl t (lane a d) := Fin.ext (by
  show (2 * (t.val / 64) + a.val) * 64 + d.val = t.val / 64 * 128 + (64 * a.val + d.val)
  omega)

def tQ (r : Fin 512) (l : Fin 128) : ℝ := X (ix2 (qrow t r) (gl t l)) * (1 / 8)
def tK (j : Fin 512) (l : Fin 128) : ℝ := K (ix2 (krow t j) (gl t l))
def tV (j : Fin 512) (l : Fin 128) : ℝ := V (ix2 (krow t j) (gl t l))
def tD (r : Fin 512) (l : Fin 128) : ℝ := D (ix2 (qrow t r) (gl t l))
def tO (r : Fin 512) (l : Fin 128) : ℝ := att X K V C (qrow t r) (gl t l)
def tW (r : Fin 512) (l : Fin 128) : ℝ := lse X K C (hd (gl t l)) (qrow t r)
def tA (r : Fin 512) (l : Fin 128) : ℝ := qaug l.val (C (ix2 (qrow t r) (hd (gl t l))))
def tB (j : Fin 512) (l : Fin 128) : ℝ := kaug l.val (C (ix2 (krow t j) (hd (gl t l))))
def tSc (a : Fin 2) (r j : Fin 512) : ℝ := Sc X K C (hp t a) (qrow t r) (krow t j)
def tδ (a : Fin 2) (r : Fin 512) : ℝ := ∑ d, tD D t r (lane a d) * tO X K V C t r (lane a d)
def seen (r j : Fin 512) : Prop := sees (qrow t r) (krow t j)
instance (r : Fin 512) : DecidablePred (seen t r) := fun j => inferInstanceAs (Decidable (sees (qrow t r) (krow t j)))

theorem score (a : Fin 2) (r j : Fin 512) : (∑ d, tQ X t r (lane a d) * tK K t j (lane a d)) + ∑ d, tA C t r (lane a d) * tB C t j (lane a d) = tSc X K C t a r j := by
  simp only [tA, tB, hd_gl, aug_sum]
  simp only [tSc, Sc, tQ, tK, hl_hp]
  ring

theorem share (a r j) : tP (tSc X K C t) (tW X K C t) (seen t) a r j = P X K C (hp t a) (qrow t r) (krow t j) := by
  unfold tP
  rw [tW, hd_gl]
  exact mpr_saved (sees (qrow t r)) (Sc X K C (hp t a) (qrow t r)) (sees_self _) (mx X K C (hp t a) (qrow t r)) (krow t j)

theorem grad (a r j) : tS (tSc X K C t) (tV V t) (tD D t) (tW X K C t) (tδ X K V D C t) (seen t) a r j = dS X K V D C (hp t a) (qrow t r) (krow t j) := by
  unfold tS
  rw [share]
  show _ = mpr _ _ _ * (_ - _)
  refine congrArg₂ (fun x y => P X K C (hp t a) (qrow t r) (krow t j) * (x - y)) ?_ ?_
  · simp only [dP, tD, tV, hl_hp]
  · simp only [tδ, tD, tO, att, hd_gl, dP, hl_hp]
    simp only [Finset.mul_sum, Finset.sum_mul]
    rw [Finset.sum_comm]
    exact Finset.sum_congr rfl fun k _ => Finset.sum_congr rfl fun d _ => (mul_assoc _ _ _).symm

/-- What one point adds to the three accumulators. -/
def stepK (j : Fin 512) (l : Fin 256) : ℝ :=
  if l.val % 128 < 64 then ∑ r, dS X K V D C (hp t 0) (qrow t r) (krow t j) * cat (tQ X t) (tA C t) r l
  else ∑ r, dS X K V D C (hp t 1) (qrow t r) (krow t j) * cat (tQ X t) (tA C t) r l
def stepV (j : Fin 512) (l : Fin 128) : ℝ :=
  if l.val < 64 then ∑ r, P X K C (hp t 0) (qrow t r) (krow t j) * tD D t r l else ∑ r, P X K C (hp t 1) (qrow t r) (krow t j) * tD D t r l
def stepQ (r : Fin 512) (l : Fin 128) : ℝ :=
  if l.val < 64 then ∑ j, dS X K V D C (hp t 0) (qrow t r) (krow t j) * tK K t j l else ∑ j, dS X K V D C (hp t 1) (qrow t r) (krow t j) * tK K t j l

variable (m : (ℓ : Loc nD τ sig) → Buf (Elt Ideal) ℓ) (c : Dev nD) (L : FVec Ideal S4096x12 .f32)
  (hC : val_main_v0 (F := Ideal) L = up C)
  (hx : m ((c : Thread nD τ).loc main_arg0) = up X) (hk : m ((c : Thread nD τ).loc main_arg1) = up K) (hv : m ((c : Thread nD τ).loc main_arg2) = up V)
  (hl' : m ((c : Thread nD τ).loc main_arg3) = L) (hd' : m ((c : Thread nD τ).loc main_arg4) = up D)

abbrev b28 : FVec Ideal S512x256 .bf16 := k0_pay9 (iblk m c 0 t) (iblk m c 6 t)
abbrev b31 : FVec Ideal S512x256 .bf16 := k0_pay10 (iblk m c 1 t) (iblk m c 7 t)
abbrev b23 : FVec Ideal S512x128 .bf16 := k0_pay7 (iblk m c 1 t)
abbrev b25 : FVec Ideal S512x128 .bf16 := k0_pay8 (iblk m c 2 t)
abbrev b33 : FVec Ideal S512x128 .bf16 := k0_pay11 (iblk m c 3 t)
abbrev b70 : FVec Ideal S512x128 .f32 := k0_pay17 (iblk m c 5 t)
abbrev bd0 : FVec Ideal S512x1 .f32 := k0_pay15 (k0_pay12 (iblk m c 3 t) (iblk m c 4 t)) (FloatOps.ofBits FTy.f32 0#32) k0_pay14
abbrev bd1 : FVec Ideal S512x1 .f32 := k0_pay16 (k0_pay12 (iblk m c 3 t) (iblk m c 4 t)) k0_pay13

theorem id8 (x : FVec Ideal S512x128 .bf16) : (k0_pay8 x : FVec Ideal S512x128 .bf16) = x := by
  funext j; idx_vars j; pointwise [k0_pay8]
theorem id7 (x : FVec Ideal S512x128 .bf16) : (k0_pay7 x : FVec Ideal S512x128 .bf16) = x := by
  funext j; idx_vars j; pointwise [k0_pay7]
theorem id17 (x : FVec Ideal S512x128 .f32) : (k0_pay17 x : FVec Ideal S512x128 .f32) = x := by
  funext j; idx_vars j; pointwise [k0_pay17]
theorem id11 (x : FVec Ideal S512x128 .f32) (r l) : (k0_pay11 x : FVec Ideal S512x128 .bf16) (ix2 r l) = x (ix2 r l) := by
  pointwise [k0_pay11]
theorem cat10 (x y : FVec Ideal S512x128 .bf16) : (k0_pay10 x y : FVec Ideal S512x256 .bf16) = k0_pay9 x y := rfl

include hC hx hl' in
theorem at28 (r l) : b28 t m c (ix2 r l) = ((cat (tQ X t) (tA C t) r l : ℝ) : EReal) :=
  cat_eq _ _ _ _ (fun r l => tile_q m c X hx t r l) (fun r l => tile_qa m c L C hC hl' t r l) r l
include hC hk hl' in
theorem at31 (r l) : b31 t m c (ix2 r l) = ((cat (tK K t) (tB C t) r l : ℝ) : EReal) := by
  unfold b31; rw [cat10]
  exact cat_eq _ _ _ _ (fun r l => tile_k m c K hk t r l) (fun r l => tile_ka m c L C hC hl' t r l) r l
include hk in
theorem at23 (r l) : b23 t m c (ix2 r l) = ((tK K t r l : ℝ) : EReal) := by
  unfold b23; rw [id7]; exact tile_k m c K hk t r l
include hv in
theorem at25 (r l) : b25 t m c (ix2 r l) = ((tV V t r l : ℝ) : EReal) := by
  unfold b25; rw [id8]; exact tile_v m c V hv t r l
include hd' in
theorem at33 (r l) : b33 t m c (ix2 r l) = ((tD D t r l : ℝ) : EReal) := by
  unfold b33; rw [id11]; exact tile_d m c D hd' t r l
include hC hx hk hl' in
theorem at70 (r l) : b70 t m c (ix2 r l) = ((tW X K C t r l : ℝ) : EReal) := by
  unfold b70; rw [id17]; exact tile_l m c X K L C hC hx hk hl' t r l
include hC hx hk hv hl' hd' in
theorem atd0 (r) : bd0 t m c (ix2 r 0) = ((tδ X K V D C t 0 r : ℝ) : EReal) :=
  delta0 _ _ _ _ (fun r l => tile_d m c D hd' t r l) (fun r l => tile_o m c X K V L C hC hx hk hv hl' t r l) r
include hC hx hk hv hl' hd' in
theorem atd1 (r) : bd1 t m c (ix2 r 0) = ((tδ X K V D C t 1 r : ℝ) : EReal) :=
  delta1 _ _ _ _ (fun r l => tile_d m c D hd' t r l) (fun r l => tile_o m c X K V L C hC hx hk hv hl' t r l) r
include hC hx hk hl' in
theorem ats0 (r j) : ∑ l, k0_pay23 (b28 t m c) (ix2 r l) * b31 t m c (ix2 j l) = ((tSc X K C t 0 r j : ℝ) : EReal) := by
  rw [← score, ← score_lo, ← coe_sum]
  refine Finset.sum_congr rfl fun l _ => ?_
  rw [lo256, at28 X C t m c L hC hx hl', at31 K C t m c L hC hk hl', if_real, ← EReal.coe_mul]
include hC hx hk hl' in
theorem ats1 (r j) : ∑ l, k0_pay34 (b28 t m c) (ix2 r l) * b31 t m c (ix2 j l) = ((tSc X K C t 1 r j : ℝ) : EReal) := by
  rw [← score, ← score_hi, ← coe_sum]
  refine Finset.sum_congr rfl fun l _ => ?_
  rw [hi256, at28 X C t m c L hC hx hl', at31 K C t m c L hC hk hl', if_real, ← EReal.coe_mul]

variable (ok : IVec S512x512 1) (hok : ∀ r j, ok (ix2 r j) = BitVec.ofBool (decide (seen t r j)))

include hC hx hk hv hl' hd' hok in
theorem point_k (acc : FVec Ideal S512x256 .f32) (j l) :
    pdk (b28 t m c) (b31 t m c) (b25 t m c) (b33 t m c) (b70 t m c) (bd0 t m c) (bd1 t m c) ok acc (ix2 j l)
      = acc (ix2 j l) + ((stepK X K V D C t j l : ℝ) : EReal) := by
  rw [pdk_eq (b28 t m c) (b31 t m c) (b25 t m c) (b33 t m c) (b70 t m c) (bd0 t m c) (bd1 t m c) ok (cat (tQ X t) (tA C t)) (tSc X K C t) (tV V t) (tD D t)
    (tW X K C t) (tδ X K V D C t) (seen t) (at28 X C t m c L hC hx hl') (ats0 X K C t m c L hC hx hk hl') (ats1 X K C t m c L hC hx hk hl')
    (at25 V t m c hv) (at33 D t m c hd') (at70 X K C t m c L hC hx hk hl') (atd0 X K V D C t m c L hC hx hk hv hl' hd')
    (atd1 X K V D C t m c L hC hx hk hv hl' hd') hok]
  simp only [grad]
  rfl

include hC hx hk hl' hd' hok in
theorem point_v (acc : FVec Ideal S512x128 .f32) (j l) :
    pdv (b28 t m c) (b31 t m c) (b33 t m c) (b70 t m c) ok acc (ix2 j l) = acc (ix2 j l) + ((stepV X K D C t j l : ℝ) : EReal) := by
  rw [pdv_eq (b28 t m c) (b31 t m c) (b33 t m c) (b70 t m c) ok (tSc X K C t) (tD D t) (tW X K C t) (seen t)
    (ats0 X K C t m c L hC hx hk hl') (ats1 X K C t m c L hC hx hk hl') (at33 D t m c hd') (at70 X K C t m c L hC hx hk hl') hok]
  simp only [share]
  rfl

include hC hx hk hv hl' hd' hok in
theorem point_q (acc : FVec Ideal S512x128 .f32) (r l) :
    pdq (b28 t m c) (b31 t m c) (b23 t m c) (b25 t m c) (b33 t m c) (b70 t m c) (bd0 t m c) (bd1 t m c) ok acc (ix2 r l)
      = acc (ix2 r l) + ((stepQ X K V D C t r l : ℝ) : EReal) := by
  rw [pdq_eq (b28 t m c) (b31 t m c) (b23 t m c) (b25 t m c) (b33 t m c) (b70 t m c) (bd0 t m c) (bd1 t m c) ok (tSc X K C t) (tK K t) (tV V t) (tD D t)
    (tW X K C t) (tδ X K V D C t) (seen t) (ats0 X K C t m c L hC hx hk hl') (ats1 X K C t m c L hC hx hk hl')
    (at23 K t m c hk) (at25 V t m c hv) (at33 D t m c hd') (at70 X K C t m c L hC hx hk hl') (atd0 X K V D C t m c L hC hx hk hv hl' hd')
    (atd1 X K V D C t m c L hC hx hk hv hl' hd') hok]
  simp only [grad]
  rfl

end point

/-! What the masks of a point hold. -/

theorem coord (t : Fin cfg0.N) : (grid0.coords t 1).val = t.val / 8 % 8 ∧ (grid0.coords t 2).val = t.val % 8 :=
  (by decide +kernel : ∀ t : Fin grid0.N, (grid0.coords t 1).val = t.val / 8 % 8 ∧ (grid0.coords t 2).val = t.val % 8) t

theorem place (n r : ℕ) : IntOp.addi (Scalar.muli (BitVec.ofNat 32 n) 512#32) (BitVec.ofNat 32 r) = BitVec.ofNat 32 (n * 512 + r) := by
  show BitVec.ofNat 32 n * BitVec.ofNat 32 512 + BitVec.ofNat 32 r = _
  rw [← BitVec.ofNat_mul, ← BitVec.ofNat_add]

abbrev bok (t : Fin cfg0.N) : IVec S512x512 1 := k0_pay19 (BitVec.ofNat 32 (grid0.coords t 1).val) (BitVec.ofNat 32 (grid0.coords t 2).val)

theorem ok_diag (t : Fin cfg0.N) (h : t.val / 8 % 8 = t.val % 8) (r j) : bok t (ix2 r j) = BitVec.ofBool (decide (seen t r j)) := by
  unfold bok
  rw [(coord t).1, (coord t).2]
  pointwise [k0_pay19]
  rw [place, place, cmp_le _ _ (by omega) (by omega)]
  refine congrArg BitVec.ofBool (decide_eq_decide.2 ?_)
  show _ ↔ t.val / 8 % 8 * 512 + j.val ≤ max (t.val % 8) (t.val / 8 % 8) * 512 + r.val
  rw [h, max_self]

theorem ok_whole (t : Fin cfg0.N) (h : t.val / 8 % 8 + 1 ≤ t.val % 8) (r j) : all (ix2 r j) = BitVec.ofBool (decide (seen t r j)) := by
  have hs : seen t r j := by
    show t.val / 8 % 8 * 512 + j.val ≤ max (t.val % 8) (t.val / 8 % 8) * 512 + r.val
    omega
  rw [decide_eq_true hs]; rfl

end Cert.FoxKernelIdeal.Hand
end
-- ==== Proof.Fox.lean ====
/-
  The gradient kernel of the forgetting attention: its accumulators over the grid, and the arrays it leaves.
-/
module

public import proofs.«01_k».proof.Proof.Gen.FoxKernelIdeal.Frame
public import proofs.«01_k».proof.Proof.Gen.FoxReferenceIdeal.Run
public import proofs.«01_k».proof.Proof.Gen.FoxReferenceIdeal.Read
public import Idealize.ShloMosaic.Lib.Pipeline.ValueKit
public import Idealize.ShloMosaic.Lib.Pointwise
public import proofs.«01_k».proof.Proof.Reals
public import Idealize.ShloMosaic.Lib.Pipeline.ReadBack
public import Idealize.ShloMosaic.Lib.WritesUnit
public import proofs.«01_k».proof.Proof.FoxStep

@[expose] public section

set_option maxRecDepth 16384

noncomputable section

open Idealize.ShloMosaic Idealize.ShloMosaic.TcCoe Idealize.SL.Sem
open Idealize.ShloMosaic.Pipeline (Dat)

namespace Cert.FoxKernelIdeal.Hand
open Cert.FoxKernelIdeal Cert.FoxKernelIdeal.Gen Cert.Reals Cert.AttnReal Cert.MaskReal
open Cert.FoxReferenceIdeal.Hand (up hl hd Sc dP sees sees_self P dS gQ gK gV gC outOf)
open Cert.FoxReferenceIdeal.Read (val_main_v0)

section acc
variable (X K V D : S4096x768.Idx → ℝ) (C : S4096x12.Idx → ℝ)
  (m : (ℓ : Loc nD τ sig) → Buf (Elt Ideal) ℓ) (c : Dev nD) (L : FVec Ideal S4096x12 .f32)
  (hC : val_main_v0 (F := Ideal) L = up C)
  (hx : m ((c : Thread nD τ).loc main_arg0) = up X) (hk : m ((c : Thread nD τ).loc main_arg1) = up K) (hv : m ((c : Thread nD τ).loc main_arg2) = up V)
  (hl' : m ((c : Thread nD τ).loc main_arg3) = L) (hd' : m ((c : Thread nD τ).loc main_arg4) = up D)

/-- What the point before left. -/
abbrev prv (t : Fin cfg0.N) := outsAt0 m c (t.val - 1) (Nat.lt_of_le_of_lt (Nat.sub_le _ _) t.isLt)

/-- A point whose keys come after its queries adds nothing. -/
def addK (t : Fin cfg0.N) (j : Fin 512) (l : Fin 256) : ℝ := if t.val / 8 % 8 ≤ t.val % 8 then stepK X K V D C t j l else 0
def addV (t : Fin cfg0.N) (j : Fin 512) (l : Fin 128) : ℝ := if t.val / 8 % 8 ≤ t.val % 8 then stepV X K D C t j l else 0

theorem zero1 (i) : (k0_pay1 : FVec Ideal S512x256 .f32) i = 0 := by idx_vars i; pointwise [k0_pay1]
theorem zero2 (i) : (k0_pay2 : FVec Ideal S512x128 .f32) i = 0 := by idx_vars i; pointwise [k0_pay2]
theorem zero3 (i) : (k0_pay3 : FVec Ideal S4096x128 .f32) i = 0 := by idx_vars i; pointwise [k0_pay3]

include hC hx hk hv hl' hd' in
theorem acc_k (t : Fin cfg0.N) (j l) : (outsAt0 m c t.val t.isLt).2.2.2.2.1 (ix2 j l)
    = (if t.val % 8 = 0 then 0 else (prv m c t).2.2.2.2.1 (ix2 j l)) + ((addK X K V D C t j l : ℝ) : EReal) := by
  by_cases h0 : t.val % 8 = 0
  · rw [if_pos h0]
    by_cases h2 : t.val / 8 % 8 = t.val % 8
    · rw [addK, if_pos (by omega), outsAt0_A m c t h0 (by omega) h2 (by omega) (by omega)]; frame_out
      exact (point_k X K V D C t m c L hC hx hk hv hl' hd' (bok t) (ok_diag t h2) k0_pay1 j l).trans (congrArg (· + _) (zero1 _))
    · rw [addK, if_neg (by omega), outsAt0_D m c t h0 (by omega) h2 (by omega) (by omega)]; frame_out
      rw [EReal.coe_zero, add_zero]; exact zero1 _
  · rw [if_neg h0]
    by_cases h2 : t.val / 8 % 8 = t.val % 8
    · rw [addK, if_pos (by omega)]
      by_cases h4 : t.val % 8 = 7
      · rw [outsAt0_G m c t h0 (by omega) h2 (by omega) h4]; frame_out
        exact (point_k X K V D C t m c L hC hx hk hv hl' hd' (bok t) (ok_diag t h2) _ j l).trans (congrArg (· + _) (congrFun (read_unread_whole _ _ _) _))
      · rw [outsAt0_E m c t h0 (by omega) h2 (by omega) h4]; frame_out
        exact (point_k X K V D C t m c L hC hx hk hv hl' hd' (bok t) (ok_diag t h2) _ j l).trans (congrArg (· + _) (congrFun (read_unread_whole _ _ _) _))
    · by_cases h3 : t.val / 8 % 8 + 1 ≤ t.val % 8
      · rw [addK, if_pos (by omega)]
        by_cases h4 : t.val % 8 = 7
        · rw [outsAt0_C m c t h0 (by omega) h2 h3 h4]; frame_out
          exact (congrFun (pdk_whole _ _ _ _ _ _ _ _) _).trans ((point_k X K V D C t m c L hC hx hk hv hl' hd' all (ok_whole t h3) _ j l).trans (congrArg (· + _) (congrFun (read_unread_whole _ _ _) _)))
        · rw [outsAt0_B m c t h0 (by omega) h2 h3 h4]; frame_out
          exact (congrFun (pdk_whole _ _ _ _ _ _ _ _) _).trans ((point_k X K V D C t m c L hC hx hk hv hl' hd' all (ok_whole t h3) _ j l).trans (congrArg (· + _) (congrFun (read_unread_whole _ _ _) _)))
      · rw [addK, if_neg (by omega), outsAt0_F m c t h0 (by omega) h2 h3 (by omega)]; frame_out
        rw [EReal.coe_zero, add_zero]; rfl

include hC hx hk hl' hd' in
theorem acc_v (t : Fin cfg0.N) (j l) : (outsAt0 m c t.val t.isLt).2.2.2.2.2 (ix2 j l)
    = (if t.val % 8 = 0 then 0 else (prv m c t).2.2.2.2.2 (ix2 j l)) + ((addV X K D C t j l : ℝ) : EReal) := by
  by_cases h0 : t.val % 8 = 0
  · rw [if_pos h0]
    by_cases h2 : t.val / 8 % 8 = t.val % 8
    · rw [addV, if_pos (by omega), outsAt0_A m c t h0 (by omega) h2 (by omega) (by omega)]; frame_out
      exact (point_v X K D C t m c L hC hx hk hl' hd' (bok t) (ok_diag t h2) k0_pay2 j l).trans (congrArg (· + _) (zero2 _))
    · rw [addV, if_neg (by omega), outsAt0_D m c t h0 (by omega) h2 (by omega) (by omega)]; frame_out
      rw [EReal.coe_zero, add_zero]; exact zero2 _
  · rw [if_neg h0]
    by_cases h2 : t.val / 8 % 8 = t.val % 8
    · rw [addV, if_pos (by omega)]
      by_cases h4 : t.val % 8 = 7
      · rw [outsAt0_G m c t h0 (by omega) h2 (by omega) h4]; frame_out
        exact (point_v X K D C t m c L hC hx hk hl' hd' (bok t) (ok_diag t h2) _ j l).trans (congrArg (· + _) (congrFun (read_unread_whole _ _ _) _))
      · rw [outsAt0_E m c t h0 (by omega) h2 (by omega) h4]; frame_out
        exact (point_v X K D C t m c L hC hx hk hl' hd' (bok t) (ok_diag t h2) _ j l).trans (congrArg (· + _) (congrFun (read_unread_whole _ _ _) _))
    · by_cases h3 : t.val / 8 % 8 + 1 ≤ t.val % 8
      · rw [addV, if_pos (by omega)]
        by_cases h4 : t.val % 8 = 7
        · rw [outsAt0_C m c t h0 (by omega) h2 h3 h4]; frame_out
          exact (congrFun (pdv_whole _ _ _ _ _) _).trans ((point_v X K D C t m c L hC hx hk hl' hd' all (ok_whole t h3) _ j l).trans (congrArg (· + _) (congrFun (read_unread_whole _ _ _) _)))
        · rw [outsAt0_B m c t h0 (by omega) h2 h3 h4]; frame_out
          exact (congrFun (pdv_whole _ _ _ _ _) _).trans ((point_v X K D C t m c L hC hx hk hl' hd' all (ok_whole t h3) _ j l).trans (congrArg (· + _) (congrFun (read_unread_whole _ _ _) _)))
      · rw [addV, if_neg (by omega), outsAt0_F m c t h0 (by omega) h2 h3 (by omega)]; frame_out
        rw [EReal.coe_zero, add_zero]; rfl

/-! What the last point of a block of keys writes back. -/

theorem last_k (t : Fin cfg0.N) (h4 : t.val % 8 = 7) (j : Fin 512) (l : Fin 128) :
    (outsAt0 m c t.val t.isLt).1 (ix2 j l) = (outsAt0 m c t.val t.isLt).2.2.2.2.1 (ix2 j ⟨l.val, by omega⟩) := by
  by_cases h2 : t.val / 8 % 8 = t.val % 8
  · rw [outsAt0_G m c t (by omega) (by omega) h2 (by omega) h4]; frame_out
    rw [View.readCov_fill _ _ _ _ _ (by decide)]
    refine View.ld_unit_apply_of (S := S512x256) (Val := Elt Ideal) (e := EltTy.f32) _ _ _ _ _ _ fun a => ?_
    match a with
    | ⟨0, _⟩ => exact (Nat.zero_add _).symm
    | ⟨1, _⟩ => exact (Nat.zero_add _).symm
  · rw [outsAt0_C m c t (by omega) (by omega) h2 (by omega) h4]; frame_out
    rw [View.readCov_fill _ _ _ _ _ (by decide)]
    refine View.ld_unit_apply_of (S := S512x256) (Val := Elt Ideal) (e := EltTy.f32) _ _ _ _ _ _ fun a => ?_
    match a with
    | ⟨0, _⟩ => exact (Nat.zero_add _).symm
    | ⟨1, _⟩ => exact (Nat.zero_add _).symm

theorem last_c (t : Fin cfg0.N) (h4 : t.val % 8 = 7) (j : Fin 512) (l : Fin 128) :
    (outsAt0 m c t.val t.isLt).2.2.1 (ix2 j l) = (outsAt0 m c t.val t.isLt).2.2.2.2.1 (ix2 j ⟨128 + l.val, by omega⟩) := by
  by_cases h2 : t.val / 8 % 8 = t.val % 8
  · rw [outsAt0_G m c t (by omega) (by omega) h2 (by omega) h4]; frame_out
    rw [View.readCov_fill _ _ _ _ _ (by decide)]
    refine View.ld_unit_apply_of (S := S512x256) (Val := Elt Ideal) (e := EltTy.f32) _ _ _ _ _ _ fun a => ?_
    match a with
    | ⟨0, _⟩ => exact (Nat.zero_add _).symm
    | ⟨1, _⟩ => rfl
  · rw [outsAt0_C m c t (by omega) (by omega) h2 (by omega) h4]; frame_out
    rw [View.readCov_fill _ _ _ _ _ (by decide)]
    refine View.ld_unit_apply_of (S := S512x256) (Val := Elt Ideal) (e := EltTy.f32) _ _ _ _ _ _ fun a => ?_
    match a with
    | ⟨0, _⟩ => exact (Nat.zero_add _).symm
    | ⟨1, _⟩ => rfl

theorem last_v (t : Fin cfg0.N) (h4 : t.val % 8 = 7) (j : Fin 512) (l : Fin 128) :
    (outsAt0 m c t.val t.isLt).2.1 (ix2 j l) = (outsAt0 m c t.val t.isLt).2.2.2.2.2 (ix2 j l) := by
  by_cases h2 : t.val / 8 % 8 = t.val % 8
  · rw [outsAt0_G m c t (by omega) (by omega) h2 (by omega) h4]; frame_out
  · rw [outsAt0_C m c t (by omega) (by omega) h2 (by omega) h4]; frame_out

/-! The accumulator of the queries: a point adds to the rows of its queries. -/

def addQ (t : Fin cfg0.N) (q : Fin 4096) (l : Fin 128) : ℝ :=
  if t.val / 8 % 8 ≤ t.val % 8 ∧ q.val / 512 = t.val % 8 then stepQ X K V D C t ⟨q.val % 512, by omega⟩ l else 0

theorem addQ_of (t : Fin cfg0.N) (h : t.val / 8 % 8 ≤ t.val % 8) (q : Fin 4096) (l : Fin 128) :
    addQ X K V D C t q l = if q.val / 512 = t.val % 8 then stepQ X K V D C t ⟨q.val % 512, by omega⟩ l else 0 := by
  rw [addQ]; exact if_congr (and_iff_right h) rfl rfl
theorem off1 (t : Fin cfg0.N) : k0_off1 (grid0.coords t) = ![512 * (t.val % 8), 0] := (k0_off1_eq _).trans (by rw [(coord t).2])
theorem off2 (t : Fin cfg0.N) : k0_off2 (grid0.coords t) = ![512 * (t.val % 8), 0] := (k0_off2_eq _).trans (by rw [(coord t).2])

/-- Rows written over what stood there, more by `g`. -/
theorem rows_next {sig : RefSig} {κ : Kind} {sp : Space} (v : View sig κ sp S4096x128 .f32) (f) (prev : FVec Ideal S4096x128 .f32)
    (hf : v.read (Elt Ideal) f = prev) (s : ℕ) (off : Fin 2 → ℕ) (hoff : off = ![512 * s, 0]) (inb)
    (W : FVec Ideal S512x128 .f32) (g : Fin 512 → Fin 128 → ℝ)
    (hW : ∀ r l, W (ix2 r l) = View.ld (Val := Elt Ideal) (e' := EltTy.f32) prev (Rect.unit (s := S4096x128) off S512x128.size inb) (ix2 r l) + ((g r l : ℝ) : EReal)) (q : Fin 4096) (l : Fin 128) :
    v.read (Elt Ideal) (v.writes (Elt Ideal) f [⟨Rect.unit (s := S4096x128) off S512x128.size inb, W⟩]) (ix2 q l)
      = prev (ix2 q l) + ((if q.val / 512 = s then g ⟨q.val % 512, by omega⟩ l else 0 : ℝ) : EReal) := by
  by_cases h : q.val / 512 = s
  · rw [if_pos h]
    refine (View.read_writes_cons_rows_of_mem v f inb W [] (ix2 q l) (ix2 ⟨q.val % 512, by omega⟩ l) hoff ?_ rfl).trans ((hW _ _).trans (congrArg (· + _) ?_))
    · show q.val = 512 * s + q.val % 512; omega
    · refine View.ld_unit_apply_of (S := S4096x128) (Val := Elt Ideal) (e := EltTy.f32) _ _ _ _ _ _ fun a => ?_
      subst hoff
      match a with
      | ⟨0, _⟩ => show q.val = 512 * s + q.val % 512; omega
      | ⟨1, _⟩ => exact (Nat.zero_add _).symm
  · rw [if_neg h, EReal.coe_zero, add_zero, ← hf]
    refine (View.read_writes_cons_rows_of_not_mem v f inb W [] (ix2 q l) hoff (W := 512) rfl ?_).trans rfl
    show q.val < 512 * s ∨ 512 * s + 512 ≤ q.val
    omega

/-- Rows written over a cleared buffer. -/
theorem rows_first (z : FVec Ideal S4096x128 .f32) (hz : ∀ i, z i = 0) (s : ℕ) (off : Fin 2 → ℕ) (hoff : off = ![512 * s, 0]) (inb inb')
    (W : FVec Ideal S512x128 .f32) (g : Fin 512 → Fin 128 → ℝ)
    (hW : ∀ r l, W (ix2 r l) = View.ld (Val := Elt Ideal) (e' := EltTy.f32) z (Rect.unit (s := S4096x128) off S512x128.size inb) (ix2 r l) + ((g r l : ℝ) : EReal)) (q : Fin 4096) (l : Fin 128) :
    View.canon (Val := Elt Ideal) (e := EltTy.f32) [⟨Rect.unit (s := S4096x128) off S512x128.size inb, W⟩, ⟨Rect.unit (s := S4096x128) ![0, 0] S4096x128.size inb', z⟩] (ix2 q l)
      = 0 + ((if q.val / 512 = s then g ⟨q.val % 512, by omega⟩ l else 0 : ℝ) : EReal) := by
  by_cases h : q.val / 512 = s
  · rw [if_pos h]
    have e : (Rect.unit (s := S4096x128) off S512x128.size inb).emb (ix2 ⟨q.val % 512, by omega⟩ l : S512x128.Idx) = (ix2 q l : S4096x128.Idx) := by
      subst hoff
      blk_ext
    rw [← e]
    refine (View.canon_cons_emb _ _ _ _).trans ((hW _ _).trans (congrArg (· + _) (hz _)))
  · rw [if_neg h, EReal.coe_zero, add_zero]
    subst hoff
    refine canon_skip _ _ _ _ _ _ _ 0 ?_ ?_
    · show q.val < 512 * s ∨ 512 * s + 512 ≤ q.val
      omega
    · rw [View.canon_cons_unit_lit _ _ _ (by decide)]; exact hz _

set_option maxHeartbeats 1000000 in
include hC hx hk hv hl' hd' in
theorem acc_q (t : Fin cfg0.N) (q l) : (outsAt0 m c t.val t.isLt).2.2.2.1 (ix2 q l)
    = (if t.val % 64 = 0 then 0 else (prv m c t).2.2.2.1 (ix2 q l)) + ((addQ X K V D C t q l : ℝ) : EReal) := by
  by_cases h0 : t.val % 8 = 0
  · by_cases h2 : t.val / 8 % 8 = t.val % 8
    · rw [if_pos (by omega), outsAt0_A m c t h0 (by omega) h2 (by omega) (by omega)]; frame_out
      rw [addQ_of X K V D C t (by omega)]
      exact rows_first k0_pay3 zero3 _ _ (off1 t) _ _ _ (stepQ X K V D C t) (fun r l => point_q X K V D C t m c L hC hx hk hv hl' hd' (bok t) (ok_diag t h2) _ r l) q l
    · rw [if_neg (by omega), addQ, if_neg (by omega), outsAt0_D m c t h0 (by omega) h2 (by omega) (by omega)]; frame_out
      rw [EReal.coe_zero, add_zero]; rfl
  · rw [if_neg (by omega)]
    by_cases h2 : t.val / 8 % 8 = t.val % 8
    · by_cases h4 : t.val % 8 = 7
      · rw [outsAt0_G m c t h0 (by omega) h2 (by omega) h4]; frame_out
        rw [addQ_of X K V D C t (by omega)]
        exact rows_next _ _ _ (Memref.IsWhole.read_unread _ _) _ _ (off1 t) _ _ (stepQ X K V D C t) (fun r l => point_q X K V D C t m c L hC hx hk hv hl' hd' (bok t) (ok_diag t h2) _ r l) q l
      · rw [outsAt0_E m c t h0 (by omega) h2 (by omega) h4]; frame_out
        rw [addQ_of X K V D C t (by omega)]
        exact rows_next _ _ _ (Memref.IsWhole.read_unread _ _) _ _ (off1 t) _ _ (stepQ X K V D C t) (fun r l => point_q X K V D C t m c L hC hx hk hv hl' hd' (bok t) (ok_diag t h2) _ r l) q l
    · by_cases h3 : t.val / 8 % 8 + 1 ≤ t.val % 8
      · by_cases h4 : t.val % 8 = 7
        · rw [outsAt0_C m c t h0 (by omega) h2 h3 h4]; frame_out
          rw [addQ_of X K V D C t (by omega)]
          exact rows_next _ _ _ (Memref.IsWhole.read_unread _ _) _ _ (off2 t) _ _ (stepQ X K V D C t) (fun r l => (congrFun (pdq_whole _ _ _ _ _ _ _ _ _) _).trans (point_q X K V D C t m c L hC hx hk hv hl' hd' all (ok_whole t h3) _ r l)) q l
        · rw [outsAt0_B m c t h0 (by omega) h2 h3 h4]; frame_out
          rw [addQ_of X K V D C t (by omega)]
          exact rows_next _ _ _ (Memref.IsWhole.read_unread _ _) _ _ (off2 t) _ _ (stepQ X K V D C t) (fun r l => (congrFun (pdq_whole _ _ _ _ _ _ _ _ _) _).trans (point_q X K V D C t m c L hC hx hk hv hl' hd' all (ok_whole t h3) _ r l)) q l
      · rw [addQ, if_neg (by omega), outsAt0_F m c t h0 (by omega) h2 h3 (by omega)]; frame_out
        rw [EReal.coe_zero, add_zero]; rfl

/-! The sums over the points. -/

theorem step_k (t : Fin cfg0.N) (j : Fin 512) (l : Fin 128) (l' : Fin 256) (h : l'.val % 128 = l.val) : stepK X K V D C t j l'
    = ∑ r, dS X K V D C (hd (gl t l)) (qrow t r) (krow t j) * cat (tQ X t) (tA C t) r l' := by
  unfold stepK
  by_cases hl : l.val < 64
  · rw [if_pos (by omega), (Fin.ext (by show (t.val / 64 * 128 + l.val) / 64 = 2 * (t.val / 64) + 0; omega) : hd (gl t l) = hp t 0)]
  · rw [if_neg (by omega), (Fin.ext (by show (t.val / 64 * 128 + l.val) / 64 = 2 * (t.val / 64) + 1; omega) : hd (gl t l) = hp t 1)]

theorem step_v (t : Fin cfg0.N) (j : Fin 512) (l : Fin 128) : stepV X K D C t j l
    = ∑ r, P X K C (hd (gl t l)) (qrow t r) (krow t j) * tD D t r l := by
  unfold stepV
  by_cases hl : l.val < 64
  · rw [if_pos hl, (Fin.ext (by show (t.val / 64 * 128 + l.val) / 64 = 2 * (t.val / 64) + 0; omega) : hd (gl t l) = hp t 0)]
  · rw [if_neg hl, (Fin.ext (by show (t.val / 64 * 128 + l.val) / 64 = 2 * (t.val / 64) + 1; omega) : hd (gl t l) = hp t 1)]

theorem step_q (t : Fin cfg0.N) (r : Fin 512) (l : Fin 128) : stepQ X K V D C t r l
    = ∑ j, dS X K V D C (hd (gl t l)) (qrow t r) (krow t j) * tK K t j l := by
  unfold stepQ
  by_cases hl : l.val < 64
  · rw [if_pos hl, (Fin.ext (by show (t.val / 64 * 128 + l.val) / 64 = 2 * (t.val / 64) + 0; omega) : hd (gl t l) = hp t 0)]
  · rw [if_neg hl, (Fin.ext (by show (t.val / 64 * 128 + l.val) / 64 = 2 * (t.val / 64) + 1; omega) : hd (gl t l) = hp t 1)]

theorem dS_out (h : Fin 12) (q k : Fin 4096) (hs : ¬sees q k) : dS X K V D C h q k = 0 := mds_out (sees q) (Sc X K C h q) (dP V D h q) k hs
theorem P_out (h : Fin 12) (q k : Fin 4096) (hs : ¬sees q k) : P X K C h q k = 0 := mpr_out (sees q) (Sc X K C h q) k hs

/-- The point of step `i` among the eight of a block of keys. -/
abbrev pt (a : ℕ) (ha : 8 * a + 7 < cfg0.N) (i : Fin 8) : Fin cfg0.N := ⟨8 * a + i.val, by omega⟩

theorem krow_pt (a ha i j) : krow (pt a ha i) j = krow ⟨8 * a + 7, ha⟩ j := Fin.ext (by
  show (8 * a + i.val) / 8 % 8 * 512 + j.val = (8 * a + 7) / 8 % 8 * 512 + j.val; omega)
theorem gl_pt (a ha i l) : gl (pt a ha i) l = gl ⟨8 * a + 7, ha⟩ l := Fin.ext (by
  show (8 * a + i.val) / 64 * 128 + l.val = (8 * a + 7) / 64 * 128 + l.val; omega)

/-- The eight points of a block of keys take in all the queries, those before the keys at no share. -/
theorem blocks (a ha) (j : Fin 512) (u : Fin cfg0.N → ℝ) (f : Fin 4096 → ℝ) (hz : ∀ q, ¬sees q (krow ⟨8 * a + 7, ha⟩ j) → f q = 0)
    (hu : ∀ i, u (pt a ha i) = ∑ r, f (qrow (pt a ha i) r)) :
    ∑ i : Fin 8, (if (pt a ha i).val / 8 % 8 ≤ (pt a ha i).val % 8 then u (pt a ha i) else 0) = ∑ q, f q := by
  rw [← Fin.sum_mul_add_congr (F := fun (s : Fin 8) (r : Fin 512) => f ⟨s.val * 512 + r.val, by omega⟩) fun s k hl => rfl]
  refine Finset.sum_congr rfl fun i _ => ?_
  by_cases h : (8 * a + i.val) / 8 % 8 ≤ (8 * a + i.val) % 8
  · rw [if_pos h, hu]
    refine Finset.sum_congr rfl fun r _ => congrArg f (Fin.ext ?_)
    show max ((8 * a + i.val) % 8) ((8 * a + i.val) / 8 % 8) * 512 + r.val = i.val * 512 + r.val
    rw [max_eq_left h]; omega
  · rw [if_neg h]
    refine (Finset.sum_eq_zero fun r _ => hz _ ?_).symm
    show ¬((8 * a + 7) / 8 % 8 * 512 + j.val ≤ i.val * 512 + r.val)
    omega

/-- The gradient of the key's decay columns, lane by lane. -/
def gA (k : Fin 4096) (l : Fin 768) : ℝ := ∑ q, dS X K V D C (hd l) q k * qaug l.val (C (ix2 q (hd l)))

theorem gA_eq (k : Fin 4096) (l : Fin 768) (h : l.val % 64 = 3) : gA X K V D C k l = gC X K V D C k l :=
  Finset.sum_congr rfl fun q _ => by simp [qaug, h]

theorem qaug_gl (t : Fin cfg0.N) (l : Fin 128) (x : ℝ) : qaug (gl t l).val x = qaug l.val x := by
  have e : (gl t l).val % 64 = l.val % 64 := by show (t.val / 64 * 128 + l.val) % 64 = _; omega
  simp only [qaug, e]

theorem sum_k (a ha j) (l : Fin 128) : ∑ i : Fin 8, addK X K V D C (pt a ha i) j ⟨l.val, by omega⟩ = gK X K V D C (krow ⟨8 * a + 7, ha⟩ j) (gl ⟨8 * a + 7, ha⟩ l) :=
  blocks a ha j (fun t => stepK X K V D C t j ⟨l.val, by omega⟩) _ (fun q hs => by rw [dS_out X K V D C _ _ _ hs, zero_mul]) fun i => by
    show stepK X K V D C (pt a ha i) j ⟨l.val, by omega⟩ = _
    rw [step_k X K V D C _ j l _ (Nat.mod_eq_of_lt l.isLt)]
    simp only [cat_lo, tQ, krow_pt, gl_pt]

theorem sum_a (a ha j) (l : Fin 128) : ∑ i : Fin 8, addK X K V D C (pt a ha i) j ⟨128 + l.val, by omega⟩ = gA X K V D C (krow ⟨8 * a + 7, ha⟩ j) (gl ⟨8 * a + 7, ha⟩ l) :=
  blocks a ha j (fun t => stepK X K V D C t j ⟨128 + l.val, by omega⟩) _ (fun q hs => by rw [dS_out X K V D C _ _ _ hs, zero_mul]) fun i => by
    show stepK X K V D C (pt a ha i) j ⟨128 + l.val, by omega⟩ = _
    rw [step_k X K V D C _ j l _ (by show (128 + l.val) % 128 = l.val; omega)]
    simp only [cat_hi, tA, krow_pt, gl_pt, qaug_gl]

theorem sum_v (a ha j l) : ∑ i : Fin 8, addV X K D C (pt a ha i) j l = gV X K D C (krow ⟨8 * a + 7, ha⟩ j) (gl ⟨8 * a + 7, ha⟩ l) :=
  blocks a ha j (fun t => stepV X K D C t j l) _ (fun q hs => by rw [P_out X K C _ _ _ hs, mul_zero]) fun i => by
    show stepV X K D C (pt a ha i) j l = _
    rw [step_v X K D C _ j l]
    simp only [tD, krow_pt, gl_pt]
    exact Finset.sum_congr rfl fun r _ => mul_comm _ _

/-- The 64 points of a pair of heads take in all the keys of a query. -/
theorem sum_q (o : ℕ) (ho : 64 * o + 63 < cfg0.N) (q : Fin 4096) (l : Fin 128) :
    ∑ i : Fin 64, addQ X K V D C ⟨64 * o + i.val, by omega⟩ q l = gQ X K V D C q (gl ⟨64 * o + 63, ho⟩ l) := by
  unfold gQ
  refine Eq.trans (Eq.symm (Fin.sum_mul_add_congr (F := fun (j s : Fin 8) => addQ X K V D C ⟨64 * o + (j.val * 8 + s.val), by omega⟩ q l) (fun s k hl => rfl)))
    (Eq.trans ?_ (Fin.sum_mul_add_congr (F := fun (s : Fin 8) (r : Fin 512) => dS X K V D C (hd (gl ⟨64 * o + 63, ho⟩ l)) q ⟨s.val * 512 + r.val, by omega⟩
      * K (ix2 ⟨s.val * 512 + r.val, by omega⟩ (gl ⟨64 * o + 63, ho⟩ l))) (fun s k hl => rfl)))
  refine Finset.sum_congr rfl fun j _ => ?_
  rw [Finset.sum_eq_single (⟨q.val / 512, by omega⟩ : Fin 8) (fun s _ hs => by
    rw [addQ, if_neg]
    rintro ⟨_, h⟩
    have h' : q.val / 512 = (64 * o + (j.val * 8 + s.val)) % 8 := h
    exact hs (Fin.ext (by show s.val = q.val / 512; omega))) (fun h => absurd (Finset.mem_univ _) h)]
  have eg : gl ⟨64 * o + (j.val * 8 + q.val / 512), by omega⟩ l = gl ⟨64 * o + 63, ho⟩ l := Fin.ext (by
    show (64 * o + (j.val * 8 + q.val / 512)) / 64 * 128 + l.val = (64 * o + 63) / 64 * 128 + l.val; omega)
  have ek : ∀ r, krow ⟨64 * o + (j.val * 8 + q.val / 512), by omega⟩ r = ⟨j.val * 512 + r.val, by omega⟩ := fun r => Fin.ext (by
    show (64 * o + (j.val * 8 + q.val / 512)) / 8 % 8 * 512 + r.val = j.val * 512 + r.val; omega)
  by_cases h : j.val ≤ q.val / 512
  · have eq : qrow ⟨64 * o + (j.val * 8 + q.val / 512), by omega⟩ ⟨q.val % 512, by omega⟩ = q := Fin.ext (by
      show max ((64 * o + (j.val * 8 + q.val / 512)) % 8) ((64 * o + (j.val * 8 + q.val / 512)) / 8 % 8) * 512 + q.val % 512 = q.val
      rw [max_eq_left (by omega)]; omega)
    rw [addQ, if_pos ⟨by show (64 * o + (j.val * 8 + q.val / 512)) / 8 % 8 ≤ (64 * o + (j.val * 8 + q.val / 512)) % 8; omega,
      by show q.val / 512 = (64 * o + (j.val * 8 + q.val / 512)) % 8; omega⟩, step_q]
    simp only [eg, ek, eq, tK]
  · rw [addQ, if_neg (fun ⟨h', _⟩ => by
      have h'' : (64 * o + (j.val * 8 + q.val / 512)) / 8 % 8 ≤ (64 * o + (j.val * 8 + q.val / 512)) % 8 := h'
      omega)]
    refine (Finset.sum_eq_zero fun r _ => ?_).symm
    rw [dS_out X K V D C _ _ _ (by show ¬(j.val * 512 + r.val ≤ q.val); omega), zero_mul]

/-! What the accumulators hold at the points that write back. -/

include hC hx hk hv hl' hd' in
theorem end_k (a ha j l) : (outsAt0 m c (8 * a + 7) ha).2.2.2.2.1 (ix2 j l) = ((∑ i : Fin 8, addK X K V D C (pt a ha i) j l : ℝ) : EReal) :=
  (sum_of_reset (N := cfg0.N) (P := 8) (fun n h => ((outsAt0 m c n h).2.2.2.2.1 (ix2 j l) : EReal)) (fun n h => ((addK X K V D C ⟨n, h⟩ j l : ℝ) : EReal))
    (fun n h => acc_k X K V D C m c L hC hx hk hv hl' hd' ⟨n, h⟩ j l) a 7 (by decide) ha).trans (coe_sum _ _)
include hC hx hk hl' hd' in
theorem end_v (a ha j l) : (outsAt0 m c (8 * a + 7) ha).2.2.2.2.2 (ix2 j l) = ((∑ i : Fin 8, addV X K D C (pt a ha i) j l : ℝ) : EReal) :=
  (sum_of_reset (N := cfg0.N) (P := 8) (fun n h => ((outsAt0 m c n h).2.2.2.2.2 (ix2 j l) : EReal)) (fun n h => ((addV X K D C ⟨n, h⟩ j l : ℝ) : EReal))
    (fun n h => acc_v X K D C m c L hC hx hk hl' hd' ⟨n, h⟩ j l) a 7 (by decide) ha).trans (coe_sum _ _)
include hC hx hk hv hl' hd' in
theorem end_q (o ho q l) : (outsAt0 m c (64 * o + 63) ho).2.2.2.1 (ix2 q l) = ((∑ i : Fin 64, addQ X K V D C ⟨64 * o + i.val, by omega⟩ q l : ℝ) : EReal) :=
  (sum_of_reset (N := cfg0.N) (P := 64) (fun n h => ((outsAt0 m c n h).2.2.2.1 (ix2 q l) : EReal)) (fun n h => ((addQ X K V D C ⟨n, h⟩ q l : ℝ) : EReal))
    (fun n h => acc_q X K V D C m c L hC hx hk hv hl' hd' ⟨n, h⟩ q l) o 63 (by decide) ho).trans (coe_sum _ _)

/-! The arrays after the run. -/

include hC hx hk hv hl' hd' in
theorem final_k : (dats m 0 c).arrAt 8 cfg0.N = outOf (gK X K V D C) := by
  refine (dats m 0 c).arrAt_eq_of_covers 8 _ (by decide +kernel) fun t hf y => ?_
  have h4 := (flush0_8 t).mp hf
  blk_simp
  rw [after0_8]
  obtain ⟨n, hn⟩ := t
  obtain ⟨a, rfl⟩ : ∃ a, n = 8 * a + 7 := ⟨n / 8, by have : n % 8 = 7 := h4; omega⟩
  obtain ⟨j, l, rfl⟩ : ∃ a b, y = ix2 a b := ⟨y 0, y 1, eq_ix2 y⟩
  have e : ((cfg0.win 8).blk ⟨8 * a + 7, hn⟩).view.emb (ix2 j l) = (ix2 (krow ⟨8 * a + 7, hn⟩ j) (gl ⟨8 * a + 7, hn⟩ l) : S4096x768.Idx) := by blk_ext [idx ⟨8 * a + 7, hn⟩, krow, gl]
  rw [e]
  refine (last_k m c ⟨8 * a + 7, hn⟩ h4 j l).trans ((end_k X K V D C m c L hC hx hk hv hl' hd' a hn j _).trans ?_)
  rw [sum_k]; rfl

include hC hx hk hl' hd' in
theorem final_v : (dats m 0 c).arrAt 9 cfg0.N = outOf (gV X K D C) := by
  refine (dats m 0 c).arrAt_eq_of_covers 9 _ (by decide +kernel) fun t hf y => ?_
  have h4 := (flush0_9 t).mp hf
  blk_simp
  rw [after0_9]
  obtain ⟨n, hn⟩ := t
  obtain ⟨a, rfl⟩ : ∃ a, n = 8 * a + 7 := ⟨n / 8, by have : n % 8 = 7 := h4; omega⟩
  obtain ⟨j, l, rfl⟩ : ∃ a b, y = ix2 a b := ⟨y 0, y 1, eq_ix2 y⟩
  have e : ((cfg0.win 9).blk ⟨8 * a + 7, hn⟩).view.emb (ix2 j l) = (ix2 (krow ⟨8 * a + 7, hn⟩ j) (gl ⟨8 * a + 7, hn⟩ l) : S4096x768.Idx) := by blk_ext [idx ⟨8 * a + 7, hn⟩, krow, gl]
  rw [e]
  refine (last_v m c ⟨8 * a + 7, hn⟩ h4 j l).trans ((end_v X K D C m c L hC hx hk hl' hd' a hn j _).trans ?_)
  rw [sum_v]; rfl

include hC hx hk hv hl' hd' in
theorem final_a : (dats m 0 c).arrAt 10 cfg0.N = outOf (gA X K V D C) := by
  refine (dats m 0 c).arrAt_eq_of_covers 10 _ (by decide +kernel) fun t hf y => ?_
  have h4 := (flush0_10 t).mp hf
  blk_simp
  rw [after0_10]
  obtain ⟨n, hn⟩ := t
  obtain ⟨a, rfl⟩ : ∃ a, n = 8 * a + 7 := ⟨n / 8, by have : n % 8 = 7 := h4; omega⟩
  obtain ⟨j, l, rfl⟩ : ∃ a b, y = ix2 a b := ⟨y 0, y 1, eq_ix2 y⟩
  have e : ((cfg0.win 10).blk ⟨8 * a + 7, hn⟩).view.emb (ix2 j l) = (ix2 (krow ⟨8 * a + 7, hn⟩ j) (gl ⟨8 * a + 7, hn⟩ l) : S4096x768.Idx) := by blk_ext [idx ⟨8 * a + 7, hn⟩, krow, gl]
  rw [e]
  refine (last_c m c ⟨8 * a + 7, hn⟩ h4 j l).trans ((end_k X K V D C m c L hC hx hk hv hl' hd' a hn j _).trans ?_)
  rw [sum_a]; rfl

include hC hx hk hv hl' hd' in
theorem final_q : (dats m 0 c).arrAt 11 cfg0.N = outOf (gQ X K V D C) := by
  refine (dats m 0 c).arrAt_eq_of_covers 11 _ (by decide +kernel) fun t hf y => ?_
  have h4 := (flush0_11 t).mp hf
  blk_simp
  rw [after0_11]
  obtain ⟨n, hn⟩ := t
  obtain ⟨o, rfl⟩ : ∃ a, n = 64 * a + 63 := ⟨n / 64, by have : n % 64 = 63 := h4; omega⟩
  obtain ⟨q, l, rfl⟩ : ∃ a b, y = ix2 a b := ⟨y 0, y 1, eq_ix2 y⟩
  have e : ((cfg0.win 11).blk ⟨64 * o + 63, hn⟩).view.emb (ix2 q l) = (ix2 q (gl ⟨64 * o + 63, hn⟩ l) : S4096x768.Idx) := by blk_ext [idx ⟨64 * o + 63, hn⟩, gl]
  rw [e]
  refine (end_q X K V D C m c L hC hx hk hv hl' hd' o hn q l).trans ?_
  rw [sum_q]; rfl

end acc

/-! The run, with each result array named. -/
section run
variable {F : FTy → Type} [FloatOps F] [Named F] (m : (ℓ : Loc nD τ sig) → Buf (Elt F) ℓ) (ρ : Dev nD → PrngReg)
theorem run_blocks : θ_run defs (onTc (τ := τ) (main (F := F))) ⟨m, fun _ => 0, ρ⟩ fun r => ∀ c : Dev nD,
      r.2.mem ((c : Thread nD τ).loc main_v107_0) = (dats m 0 c).arrAt 8 cfg0.N
      ∧ r.2.mem ((c : Thread nD τ).loc main_v107_1) = (dats m 0 c).arrAt 9 cfg0.N
      ∧ r.2.mem ((c : Thread nD τ).loc main_v107_2) = (dats m 0 c).arrAt 10 cfg0.N
      ∧ r.2.mem ((c : Thread nD τ).loc main_v107_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 8, (h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c)))⟩)
    (run_main m ρ)
end run

end Cert.FoxKernelIdeal.Hand
end
-- ==== Proof.GateRef.lean ====
/-
  The gate's gradient as the plain lines write it: a reversed running sum times the slope of the log-sigmoid.
-/
module

public import proofs.«01_k».proof.Proof.Gen.GateReferenceIdeal.Read
public import Idealize.ShloMosaic.Lib.Pointwise
public import proofs.«01_k».proof.Proof.AttnReal

@[expose] public section

set_option maxRecDepth 16384

noncomputable section

open Idealize.ShloMosaic

namespace Cert.GateReferenceIdeal.Hand
open Cert.GateReferenceIdeal Cert.GateReferenceIdeal.Read Cert.Reals Cert.AttnReal

/-! Running sums from the end. -/

/-- The sum of a sequence from position `s` on. -/
def tail (a : ℕ → ℝ) (s : ℕ) : ℝ := ∑ j ∈ Finset.Ico s 4096, a j

theorem tail_window (a : ℕ → ℝ) (s : ℕ) : ∑ j : Fin 4096, (if s + j.val < 4096 then a (s + j.val) else 0) = tail a s := by
  rw [Fin.sum_univ_eq_sum_range (fun j => if s + j < 4096 then a (s + j) else 0) 4096, ← Finset.sum_filter, tail, Finset.sum_Ico_eq_sum_range]
  refine Finset.sum_congr (Finset.ext fun j => ?_) fun _ _ => rfl
  simp only [Finset.mem_filter, Finset.mem_range]
  omega

theorem tail_block (a : ℕ → ℝ) (b r : ℕ) (hb : b + 256 ≤ 4096) (hr : r < 256) :
    ∑ k : Fin 256, (if r ≤ k.val then a (b + k.val) else 0) + tail a (b + 256) = tail a (b + r) := by
  rw [Fin.sum_univ_eq_sum_range (fun k => if r ≤ k then a (b + k) else 0) 256, ← Finset.sum_filter, tail, tail,
    ← Finset.sum_Ico_consecutive a (show b + r ≤ b + 256 by omega) hb, Finset.sum_Ico_eq_sum_range (m := b + r)]
  congr 1
  have e : (Finset.range 256).filter (fun k => r ≤ k) = Finset.Ico r 256 := by
    ext k; simp only [Finset.mem_filter, Finset.mem_range, Finset.mem_Ico]; omega
  rw [e, Finset.sum_Ico_eq_sum_range, show b + 256 - (b + r) = 256 - r by omega]
  exact Finset.sum_congr rfl fun k _ => by rw [Nat.add_assoc]

theorem tail_end (a : ℕ → ℝ) : tail a 4096 = 0 := by rw [tail, Finset.Ico_self, Finset.sum_empty]

theorem foldl_add {n : ℕ} (g : Fin n → EReal) (v : EReal) : (List.finRange n).foldl (fun r k => r + g k) v = v + ∑ k, g k := by
  have e : ∀ (L : List (Fin n)) (v : EReal), L.foldl (fun r k => r + g k) v = v + (L.map g).sum := by
    intro L
    induction L with
    | nil => intro v; simp
    | cons a L ih => intro v; rw [List.foldl_cons, ih, List.map_cons, List.sum_cons, add_assoc]
  rw [e, Fin.sum_univ_def]

/-- The positions of a window that is one lane wide. -/
def rows (N : ℕ) : Fin N ≃ (⟨2, ![N, 1]⟩ : Shape).Idx where
  toFun k := ix2 k 0
  invFun p := p 0
  left_inv _ := rfl
  right_inv p := (congrArg (ix2 (p 0)) (Subsingleton.elim (α := Fin 1) _ _)).trans (eq_ix2 p).symm

/-- A window sum down the rows, of which the window starts at the row itself. -/
theorem window_sum {N M P : ℕ} {u : Shape} (x : FVec Ideal ⟨2, ![N, M]⟩ .f32) (v : FVec Ideal u .f32) (h) (hu) (hv : v (Shape.Idx.first hu) = (0 : EReal)) (s : Fin N) (l : Fin M) :
    Host.reduceWindowAdd (t := ⟨2, ![N, M]⟩) ![N, 1] ![1, 1] ![0, 0] ![P, 0] x v h hu (ix2 s l)
      = ∑ k : Fin N, ((if h : s.val + k.val < N then x (ix2 ⟨s.val + k.val, h⟩ l) else 0 : EReal)) := by
  show Ideal.hostReduceWindowAdd (s := ⟨2, ![N, M]⟩) (t := ⟨2, ![N, M]⟩) ![N, 1] ![1, 1] ![0, 0] ![P, 0] h x (v (Shape.Idx.first hu)) (ix2 s l) = _
  rw [hv]
  unfold Ideal.hostReduceWindowAdd Host.reduceWindow
  refine (foldl_add _ _).trans ?_
  rw [zero_add]
  rw [← Equiv.sum_comp ((rows N).trans (Shape.rowMajor (⟨2, ![N, 1]⟩ : Shape)))]
  refine Finset.sum_congr rfl fun k _ => ?_
  have e : (Shape.rowMajor (⟨2, ![N, 1]⟩ : Shape)).symm (((rows N).trans (Shape.rowMajor (⟨2, ![N, 1]⟩ : Shape))) k) = ix2 k 0 := by
    rw [Equiv.trans_apply, Equiv.symm_apply_apply]; rfl
  have e0 := congrArg (fun q : (⟨2, ![N, 1]⟩ : Shape).Idx => (q 0).val) e
  have e1 := congrArg (fun q : (⟨2, ![N, 1]⟩ : Shape).Idx => (q 1).val) e
  change _ = k.val at e0
  change _ = 0 at e1
  have hl := l.isLt
  by_cases hk : s.val + k.val < N
  · rw [dif_pos hk]
    refine (dif_pos ?_).trans (congrArg x ?_)
    · intro a
      match a with
      | ⟨0, _⟩ =>
        refine ⟨Nat.zero_le _, ?_⟩
        refine (congrArg (fun q : ℕ => s.val * 1 + q - 0 < N) e0).mpr ?_
        show s.val * 1 + k.val - 0 < N
        omega
      | ⟨1, _⟩ =>
        refine ⟨Nat.zero_le _, ?_⟩
        refine (congrArg (fun q : ℕ => l.val * 1 + q - 0 < M) e1).mpr ?_
        show l.val * 1 + 0 - 0 < M
        omega
    · funext a
      match a with
      | ⟨0, _⟩ =>
        refine Fin.ext ?_
        refine (congrArg (fun q : ℕ => s.val * 1 + q - 0) e0).trans ?_
        show s.val * 1 + k.val - 0 = s.val + k.val
        omega
      | ⟨1, _⟩ =>
        refine Fin.ext ?_
        refine (congrArg (fun q : ℕ => l.val * 1 + q - 0) e1).trans ?_
        show l.val * 1 + 0 - 0 = l.val
        omega
  · rw [dif_neg hk]
    refine dif_neg fun hin => ?_
    have h0 := (congrArg (fun q : ℕ => s.val * 1 + q - 0 < N) e0).mp (hin 0).2
    change s.val * 1 + k.val - 0 < N at h0
    omega

/-! The slope of the log-sigmoid. -/

theorem max_coe (a b : ℝ) : max (a : EReal) (b : EReal) = ((max a b : ℝ) : EReal) := (EReal.coe_strictMono.monotone.map_max).symm

theorem abs_coe (r : ℝ) : FloatOps.absf (F := Ideal) (φ := .f32) (r : EReal) = ((|r| : ℝ) : EReal) := by
  show max (r : EReal) (-(r : EReal)) = _
  rw [← EReal.coe_neg, max_coe]
  rfl

theorem c_inf : Ideal.ofBits .f32 2139095040#32 = (⊤ : EReal) := by simp [Ideal.ofBits, Ideal.ieee]

/-- The logarithm of one plus an exponential. -/
theorem softplus (r : ℝ) : max (r : EReal) 0 + Ideal.log1p (Ideal.exp (-FloatOps.absf (F := Ideal) (φ := .f32) (r : EReal))) = ((Real.log (1 + Real.exp r) : ℝ) : EReal) := by
  have h1 : (0 : ℝ) < 1 + Real.exp (-|r|) := by positivity
  rw [abs_coe, ← EReal.coe_neg, Ideal.exp_coe, Ideal.log1p, ← EReal.coe_one, ← EReal.coe_add, coe_log _ h1, ← EReal.coe_zero, max_coe, ← EReal.coe_add]
  refine congrArg _ ?_
  rcases le_total 0 r with h | h
  · rw [max_eq_left h, abs_of_nonneg h]
    have e : 1 + Real.exp r = Real.exp r * (1 + Real.exp (-r)) := by rw [mul_add, mul_one, ← Real.exp_add, add_neg_cancel, Real.exp_zero, add_comm]
    rw [e, Real.log_mul (Real.exp_pos r).ne' (by positivity), Real.log_exp]
  · rw [max_eq_right h, abs_of_nonpos h, neg_neg, zero_add]

abbrev up {s : Shape} (X : s.Idx → ℝ) : FVec Ideal s .f32 := fun i => ((X i : ℝ) : EReal)

variable (A : S4096x768.Idx → ℝ) (f : S4096x12.Idx → ℝ) (b : S1x12.Idx → ℝ)

/-- The gate's logit. -/
def z (s : Fin 4096) (h : Fin 12) : ℝ := f (ix2 s h) + b (ix2 0 h)

/-- The slope of the log-sigmoid. -/
def slope (s : Fin 4096) (h : Fin 12) : ℝ := Real.exp (-z f b s h - Real.log (1 + Real.exp (-z f b s h)))

theorem slope_saved (s h) : 1 - Real.exp (-Real.log (1 + Real.exp (-z f b s h))) = slope f b s h := by
  have hp : 0 < 1 + Real.exp (-z f b s h) := by positivity
  rw [slope, Real.exp_sub, Real.exp_neg (Real.log _), Real.exp_log hp]
  field_simp
  ring

theorem r_sp (s h) : (val_main_call0_v1_0 (F := Ideal) (up f) (up b) : FVec Ideal S4096x12 .f32) (ix2 s h) = ((Real.log (1 + Real.exp (-z f b s h)) : ℝ) : EReal) := by
  pointwise [val_main_call0_v1_0, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v0, val_main_call0_call0_v5, val_main_call0_v0, val_main_v7, val_main_v6, val_main_call0_call0_cst]
  rw [if_neg (fun h => h rfl)]
  simp only [up, ← EReal.coe_add, ← EReal.coe_neg]
  exact softplus _

theorem r_slope (s h) : (val_main_v8_1 (F := Ideal) (up f) (up b) : FVec Ideal S4096x12 .f32) (ix2 s h) = ((slope f b s h : ℝ) : EReal) := by
  pointwise [val_main_v8_1, val_main_call0_call0_v21, val_main_call0_call0_v16, val_main_call0_call0_v20, val_main_call0_call0_v14, val_main_call0_call0_v15, val_main_call0_call0_v13, val_main_call0_call0_v18, val_main_call0_call0_v19, val_main_call0_call0_v17, val_main_call0_call0_cst_0, val_main_call0_call0_cst_1, val_main_call0_call0_cst_2, val_main_call0_call0_cst_3, val_main_call0_v0, val_main_v7, val_main_v6, val_main_call0_call0_cst]
  rw [r_sp, c_inf]
  have e : -(up f (ix2 s h) + up b (ix2 0 h)) = ((-z f b s h : ℝ) : EReal) := by
    simp only [up, ← EReal.coe_add, ← EReal.coe_neg]; rfl
  rw [if_neg (fun h => EReal.coe_ne_top _ (e.symm.trans h)), if_neg (EReal.coe_ne_top _)]
  refine (congrArg (fun y => Ideal.exp (y - _)) e).trans ?_
  rw [← EReal.coe_sub, Ideal.exp_coe]
  rfl

/-- What the running sum's cotangent is for head `h` at row `n`. -/
def cot (h : Fin 12) (n : ℕ) : ℝ := if hn : n < 4096 then -A (ix2 ⟨n, hn⟩ ⟨h.val * 64 + 3, by omega⟩) else 0

theorem r_cot (s h) : (val_main_v3 (F := Ideal) (up A) : FVec Ideal S4096x12 .f32) (ix2 s h) = ((cot A h s.val : ℝ) : EReal) := by
  pointwise [val_main_v3, val_main_v2, val_main_v1, val_main_v0]
  rw [cot, dif_pos s.isLt, EReal.coe_neg]

theorem r_sum (s h) : (val_main_v14 (F := Ideal) (up A) : FVec Ideal S4096x12 .f32) (ix2 s h) = ((tail (cot A h) s.val : ℝ) : EReal) := by
  unfold val_main_v14
  refine (window_sum (N := 4096) (M := 12) (val_main_v3 (F := Ideal) (up A)) _ _ _ (by pointwise [val_main_call2_call0_v0, val_main_call2_call0_cst]) s h).trans ?_
  rw [← tail_window, ← coe_sum]
  refine Finset.sum_congr rfl fun k _ => ?_
  split
  · exact r_cot A _ h
  · rfl

/-- The gradient of the gate's logit. -/
def gate (s : Fin 4096) (h : Fin 12) : ℝ := tail (cot A h) s.val * slope f b s h

theorem r_gate (s h) : (val_main_v19 (F := Ideal) (up A) (up f) (up b) : FVec Ideal S4096x12 .f32) (ix2 s h) = ((gate A f b s h : ℝ) : EReal) := by
  pointwise [val_main_v19, val_main_call3_v1, val_main_call3_v0]
  rw [r_sum, r_slope, ← EReal.coe_neg, ← EReal.coe_mul, ← EReal.coe_neg, neg_mul, neg_neg]
  rfl

/-- A head's number in the first of its lanes. -/
def lane0 (g : Fin 12 → ℝ) (l : Fin 768) : EReal := ((if l.val % 64 = 0 then g ⟨l.val / 64, by omega⟩ else 0 : ℝ) : EReal)

theorem lane0_first (g : Fin 12 → ℝ) (l : Fin 768) (h : l.val % 64 = 0) : lane0 g l = ((g ⟨l.val / 64, by omega⟩ : ℝ) : EReal) := by rw [lane0, if_pos h]
theorem lane0_other (g : Fin 12 → ℝ) (l : Fin 768) (h : ¬l.val % 64 = 0) : lane0 g l = 0 := by rw [lane0, if_neg h, EReal.coe_zero]

theorem pad_zero : FloatOps.sitofp (F := Ideal) FTy.f32 0#32 = (0 : EReal) := by
  show (((0#32 : BitVec 32).toInt : ℝ) : EReal) = 0
  simp

theorem r_lanes (s l) : (val_main_v24 (F := Ideal) (up A) (up f) (up b) : FVec Ideal S4096x768 .f32) (ix2 s l) = lane0 (gate A f b s) l := by
  pointwise [val_main_v24, val_main_v23, val_main_v22, val_main_call4_v0, val_main_c]
  by_cases h : l.val % 64 = 0
  · rw [dif_pos ⟨by omega, by omega⟩, lane0_first _ _ h]; exact r_gate A f b _ _
  · rw [dif_neg (by omega), lane0_other _ _ h]; exact pad_zero

theorem r_bias (l) : (val_main_v29 (F := Ideal) (up A) (up f) (up b) : FVec Ideal S1x768 .f32) (ix2 0 l) = lane0 (fun h => ∑ s, gate A f b s h) l := by
  pointwise [val_main_v29, val_main_v28, val_main_v27, val_main_call5_v0, val_main_c_6, val_main_v21, val_main_v20, val_main_cst_5]
  by_cases h : l.val % 64 = 0
  · refine (dif_pos ⟨by omega, by omega⟩).trans (Eq.trans ?_ (lane0_first _ _ h).symm)
    refine Eq.trans ?_ (coe_sum Finset.univ fun s => gate A f b s ⟨l.val / 64, by omega⟩)
    exact Finset.sum_congr rfl fun s _ => r_gate A f b s ⟨l.val / 64, by omega⟩
  · rw [dif_neg (by omega), lane0_other _ _ h]; exact pad_zero

variable (x0 x1 x2 : FVec Ideal S4096x768 .f32) (x3 : FVec Ideal S4096x256 .f32)

/-- The gradients side by side: queries, keys, values, memory queries and the gate. -/
def outO : FVec Ideal S4096x3328 .bf16 := fun i =>
  if h : (i 1).val < 768 then x0 (ix2 (i 0) ⟨(i 1).val, h⟩) * ((1 / 8 : ℝ) : EReal)
  else if h : (i 1).val - 768 < 768 then x1 (ix2 (i 0) ⟨(i 1).val - 768, h⟩)
  else if h : (i 1).val - 1536 < 768 then x2 (ix2 (i 0) ⟨(i 1).val - 1536, h⟩)
  else if h : (i 1).val - 2304 < 256 then x3 (ix2 (i 0) ⟨(i 1).val - 2304, h⟩) * ((1 / 8 : ℝ) : EReal)
  else lane0 (gate A f b (i 0)) ⟨(i 1).val - 2560, by have := (i 1).isLt; change (i 1).val < 3328 at this; omega⟩

/-- The gradient of the bias. -/
def outB : FVec Ideal S1x768 .f32 := fun i => lane0 (fun h => ∑ s, gate A f b s h) (i 1)

theorem ref_o : val_main_v26 (F := Ideal) x0 x1 x2 x3 (up A) (up f) (up b) = outO A f b x0 x1 x2 x3 := by
  funext i
  obtain ⟨s, l, rfl⟩ : ∃ a b, i = ix2 a b := ⟨i 0, i 1, eq_ix2 i⟩
  pointwise [val_main_v26, val_main_v25, val_main_v18, val_main_v17, val_main_cst_4, val_main_v16, val_main_v15, val_main_cst_3]
  simp only [r_lanes, c_eighth]
  rfl

theorem ref_b : val_main_v29 (F := Ideal) (up A) (up f) (up b) = outB A f b := by
  funext i
  obtain ⟨s, l, rfl⟩ : ∃ a b, i = ix2 a b := ⟨i 0, i 1, eq_ix2 i⟩
  obtain rfl : s = 0 := Subsingleton.elim _ _
  exact r_bias A f b l

end Cert.GateReferenceIdeal.Hand

end
-- ==== Proof.Gate.lean ====
/-
  The gate's gradient: the kernel walks the rows from the end in tiles of 256 and carries the running sum from tile to tile.
-/
module

public import proofs.«01_k».proof.Proof.Gen.GateKernelIdeal.Value
public import proofs.«01_k».proof.Proof.Gen.GateReferenceIdeal.Run
public import proofs.«01_k».proof.Proof.Gen.GateReferenceIdeal.Read
public import Idealize.ShloMosaic.Lib.Pipeline.ValueKit
public import Idealize.ShloMosaic.Lib.Pointwise
public import proofs.«01_k».proof.Proof.Reals
public import proofs.«01_k».proof.Proof.GateRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GateKernelIdeal.Hand

open Cert.GateKernelIdeal Cert.GateKernelIdeal.Gen Cert.Reals Cert.AttnReal
open Cert.GateReferenceIdeal.Hand (tail tail_window tail_block tail_end z slope slope_saved cot gate lane0 lane0_first lane0_other outO outB up r_sp)

theorem mask11 (l : Fin 128) : k0_pay11 128#32 k0_pay8 k0_pay9 k0_pay10 0#32 (ix2 0 l) = BitVec.ofBool (decide (l.val < 64)) := by revert l; decide +kernel

theorem lane_mask (l : Fin 768) : (IntOp.cmpi CmpIPredicate.eq
        (Scalar.select
          (IntOp.andi
            (IntOp.xori
              (IntOp.cmpi CmpIPredicate.slt
                (IntOp.remsi ArithUnit.vector (BitVec.ofNat 32 l.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 l.val)
                (Scalar.select (Scalar.cmpi CmpIPredicate.eq 64#32 0#32) 1#32 64#32))
              0#32))
          (IntOp.addi
            (IntOp.remsi ArithUnit.vector (BitVec.ofNat 32 l.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 l.val)
            (Scalar.select (Scalar.cmpi CmpIPredicate.eq 64#32 0#32) 1#32 64#32)))
        0#32) = BitVec.ofBool (decide (l.val % 64 = 0)) := by revert l; decide +kernel

theorem tri_mask (r k : Fin 256) : IntOp.cmpi CmpIPredicate.sge (BitVec.ofNat 32 k.val) (BitVec.ofNat 32 r.val) = BitVec.ofBool (decide (r.val ≤ k.val)) := by
  revert r k; decide +kernel

section tile
variable (v0 v1 v2 v3 v4 v5 : FVec Ideal S256x128 .f32) (D : Fin 256 → Fin 768 → ℝ)

/-- One pair of heads: the lane that holds the cotangent, over all lanes of its head. -/
theorem piece (v : FVec Ideal S256x128 .f32) (r : Fin 256) (l : Fin 768) (l' : Fin 128) (p : ℕ) (hp : p < 6) (hl : l.val = 128 * p + l'.val)
    (hv : ∀ r l, v (ix2 r l) = ((D r ⟨128 * p + l.val, by omega⟩ : ℝ) : EReal)) :
    (0 : EReal) - Scalar.select ((k0_pay11 128#32 k0_pay8 k0_pay9 k0_pay10 0#32) (ix2 0 l')) (v (ix2 r 3)) (v (ix2 r 67)) = ((-D r ⟨l.val / 64 * 64 + 3, by omega⟩ : ℝ) : EReal) := by
  rw [mask11, hv, hv, zero_sub, EReal.coe_neg]
  refine congrArg _ ?_
  by_cases h : l'.val < 64
  · rw [decide_eq_true h]
    exact congrArg (fun i => ((D r i : ℝ) : EReal)) (Fin.ext (show 128 * p + 3 = l.val / 64 * 64 + 3 by omega))
  · rw [decide_eq_false h]
    exact congrArg (fun i => ((D r i : ℝ) : EReal)) (Fin.ext (show 128 * p + 67 = l.val / 64 * 64 + 3 by omega))

variable (h0 : ∀ r l, v0 (ix2 r l) = ((D r ⟨128 * 0 + l.val, by omega⟩ : ℝ) : EReal)) (h1 : ∀ r l, v1 (ix2 r l) = ((D r ⟨128 * 1 + l.val, by omega⟩ : ℝ) : EReal))
  (h2 : ∀ r l, v2 (ix2 r l) = ((D r ⟨128 * 2 + l.val, by omega⟩ : ℝ) : EReal)) (h3 : ∀ r l, v3 (ix2 r l) = ((D r ⟨128 * 3 + l.val, by omega⟩ : ℝ) : EReal))
  (h4 : ∀ r l, v4 (ix2 r l) = ((D r ⟨128 * 4 + l.val, by omega⟩ : ℝ) : EReal)) (h5 : ∀ r l, v5 (ix2 r l) = ((D r ⟨128 * 5 + l.val, by omega⟩ : ℝ) : EReal))
include h0 h1 h2 h3 h4 h5

theorem dc (r : Fin 256) (l : Fin 768) : k0_pay16 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5 (ix2 r l) = ((-D r ⟨l.val / 64 * 64 + 3, by omega⟩ : ℝ) : EReal) := by
  have hl := l.isLt
  pointwise [k0_pay16, k0_pay12, k0_pay13, k0_pay14, k0_pay15]
  split
  · exact piece D v0 r l _ 0 (by omega) (by show l.val = 128 * 0 + l.val; omega) h0
  split
  · exact piece D v1 r l _ 1 (by omega) (by show l.val = 128 * 1 + (l.val - 128); omega) h1
  split
  · exact piece D v2 r l _ 2 (by omega) (by show l.val = 128 * 2 + (l.val - 128 - 128); omega) h2
  split
  · exact piece D v3 r l _ 3 (by omega) (by show l.val = 128 * 3 + (l.val - 128 - 128 - 128); omega) h3
  split
  · exact piece D v4 r l _ 4 (by omega) (by show l.val = 128 * 4 + (l.val - 128 - 128 - 128 - 128); omega) h4
  · exact piece D v5 r l _ 5 (by omega) (by show l.val = 128 * 5 + (l.val - 128 - 128 - 128 - 128 - 128); omega) h5

omit h0 h1 h2 h3 h4 h5 in
theorem tri (r k : Fin 256) : k0_pay17 (F := Ideal) (ix2 r k) = ((if r.val ≤ k.val then 1 else 0 : ℝ) : EReal) := by
  pointwise [k0_pay17]
  rw [tri_mask]
  by_cases h : r.val ≤ k.val
  · rw [decide_eq_true h, if_pos h, EReal.coe_one]; rfl
  · rw [decide_eq_false h, if_neg h, EReal.coe_zero]; rfl

variable (C : FVec Ideal S1x768 .f32) (E : Fin 768 → ℝ) (hC : ∀ l, C (ix2 0 l) = ((E l : ℝ) : EReal))

/-- The running sum over the rows of a tile, from the end, on top of what was carried. -/
def runs (r : Fin 256) (l : Fin 768) : ℝ := ∑ k : Fin 256, (if r.val ≤ k.val then -D k ⟨l.val / 64 * 64 + 3, by omega⟩ else 0) + E l

theorem low (r l) : k0_pay20 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5 (ix2 r l) = (0 : EReal) := by
  pointwise [k0_pay20, k0_pay19, k0_pay18]
  rw [dc v0 v1 v2 v3 v4 v5 D h0 h1 h2 h3 h4 h5, ← EReal.coe_sub, sub_self, EReal.coe_zero]

theorem lower (r l) : k0_pay21 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5 (ix2 r l) = (0 : EReal) := by
  pointwise [k0_pay21, k0_pay19, k0_pay18]
  rw [low v0 v1 v2 v3 v4 v5 D h0 h1 h2 h3 h4 h5, dc v0 v1 v2 v3 v4 v5 D h0 h1 h2 h3 h4 h5, ← EReal.coe_sub, sub_self, EReal.coe_zero, sub_zero]

theorem high (r l) : k0_pay22 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5 (ix2 r l) = ((∑ k : Fin 256, (if r.val ≤ k.val then -D k ⟨l.val / 64 * 64 + 3, by omega⟩ else 0) : ℝ) : EReal) := by
  pointwise [k0_pay22, k0_pay18]
  simp only [tri, dc v0 v1 v2 v3 v4 v5 D h0 h1 h2 h3 h4 h5, ← EReal.coe_mul, coe_sum, ite_mul, one_mul, zero_mul]

include hC in
theorem runs_eq (r l) : k0_pay23 k0_pay17 (k0_pay20 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) (k0_pay21 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) (k0_pay22 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) C (ix2 r l) = ((runs D E r l : ℝ) : EReal) := by
  pointwise [k0_pay23]
  simp only [high v0 v1 v2 v3 v4 v5 D h0 h1 h2 h3 h4 h5, low v0 v1 v2 v3 v4 v5 D h0 h1 h2 h3 h4 h5, lower v0 v1 v2 v3 v4 v5 D h0 h1 h2 h3 h4 h5, mul_zero,
    Finset.sum_const_zero, add_zero, hC, ← EReal.coe_add]
  rfl

include hC in
theorem carry_eq (l) : k0_pay24 k0_pay17 (k0_pay20 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) (k0_pay21 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) (k0_pay22 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) C (ix2 0 l) = ((runs D E 0 l : ℝ) : EReal) := by
  refine Eq.trans ?_ (runs_eq v0 v1 v2 v3 v4 v5 D h0 h1 h2 h3 h4 h5 C E hC 0 l)
  pointwise [k0_pay24]

variable (Lf : FVec Ideal S256x768 .f32) (Y : Fin 256 → Fin 768 → ℝ) (hY : ∀ r l, Lf (ix2 r l) = ((Y r l : ℝ) : EReal))

include hC hY in
theorem gate_eq (r l) : k0_pay25 k0_pay17 (k0_pay20 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) (k0_pay21 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) (k0_pay22 (k0_pay11 128#32 k0_pay8 k0_pay9 k0_pay10 0#32) (k0_pay12 (F := Ideal) 128#32 k0_pay8 k0_pay9 k0_pay10 0#32 v0) (k0_pay13 (F := Ideal) 128#32 k0_pay8 k0_pay9 k0_pay10 0#32 v1) (k0_pay14 (F := Ideal) 128#32 k0_pay8 k0_pay9 k0_pay10 0#32 v2) v3 (k0_pay15 (F := Ideal) v3) v4 v5) C Lf (ix2 r l)
    = ((if l.val % 64 = 0 then runs D E r l * (1 - Real.exp (Y r l)) else 0 : ℝ) : EReal) := by
  have hr := runs_eq v0 v1 v2 v3 v4 v5 D h0 h1 h2 h3 h4 h5 C E hC r l
  pointwise [k0_pay25]
  rw [lane_mask, hr, hY, Ideal.exp_coe, ← EReal.coe_one, ← EReal.coe_sub, ← EReal.coe_mul]
  by_cases h : l.val % 64 = 0
  · rw [decide_eq_true h, if_pos h]; rfl
  · rw [decide_eq_false h, if_neg h]; rfl

omit h0 h1 h2 h3 h4 h5 in
theorem bias_eq (g : FVec Ideal S256x768 .f32) (v : FVec Ideal S1x768 .f32) (l : Fin 768) : k0_pay1 (F := Ideal) g v (ix2 0 l) = v (ix2 0 l) + ∑ r, g (ix2 r l) := by
  pointwise [k0_pay1]

end tile

variable (m : (ℓ : Loc nD τ sig) → Buf (Elt Ideal) ℓ)

theorem idx : ∀ t : Fin cfg0.N, win0_0.index t = ![15 - t.val, 0] ∧ win0_1.index t = ![15 - t.val, 0] ∧ win0_2.index t = ![15 - t.val, 0]
    ∧ win0_3.index t = ![15 - t.val, 0] ∧ win0_4.index t = ![15 - t.val, 0] ∧ win0_5.index t = ![15 - t.val, 0] ∧ win0_6.index t = ![15 - t.val, 0] ∧ win0_7.index t = ![0, 0] :=
  (by decide +kernel : ∀ t : Fin grid0.N, _)

theorem lt_row (t : Fin cfg0.N) (r : Fin 256) : (15 - t.val) * 256 + r.val < 4096 := by
  have h := lt_of_lt_of_eq t.isLt N_0; omega

/-- Row `r` of tile `t`, counted from the end. -/
def row (t : Fin cfg0.N) (r : Fin 256) : Fin 4096 := ⟨(15 - t.val) * 256 + r.val, lt_row t r⟩

section saved
variable {F : FTy → Type} [FloatOps F] (m : (ℓ : Loc nD τ sig) → Buf (Elt F) ℓ)
open Cert.GateReferenceIdeal.Read (val_main_call0_v1_0)

theorem V_logf (c : Dev nD) : V m c main_v4 = shapeCast S4096x768 (broadcastInDim S4096x12x64 ![0, 1] bcast_S4096x12_S4096x12x64_0_1
      (Host.negf (val_main_call0_v1_0 (m (c, Proc.tc.devRef main_arg5)) (m (c, Proc.tc.devRef main_arg6))))) shapeCasts_S4096x12x64_S4096x768 := by
  unfold V
  simp only [hostOps0, hostOps0_1, hostOps0_2, List.flatten_cons, List.flatten_nil, List.cons_append, List.nil_append, List.append_nil]
  entry_read
  rfl

theorem iblk_l (c : Dev nD) (t : Fin cfg0.N) (y : S256x768.Idx) : iblk m c 5 t y = V m c main_v4 (((cfg0.win 5).blk t).view.emb y) := rfl
end saved

theorem logf_reads (s : Fin 4096) (l : Fin 768) (L : FVec Ideal S4096x12 .f32) :
    shapeCast S4096x768 (broadcastInDim S4096x12x64 ![0, 1] bcast_S4096x12_S4096x12x64_0_1 (Host.negf L)) shapeCasts_S4096x12x64_S4096x768 (ix2 s l)
      = -L (ix2 s ⟨l.val / 64, by omega⟩) := by
  pointwise

section arrays
variable (c : Dev nD) (A : S4096x768.Idx → ℝ) (f : S4096x12.Idx → ℝ) (b : S1x12.Idx → ℝ)
  (hA : m ((c : Thread nD τ).loc main_arg4) = up A) (hf : m ((c : Thread nD τ).loc main_arg5) = up f) (hb : m ((c : Thread nD τ).loc main_arg6) = up b)

theorem tile_0 (t : Fin cfg0.N) (r : Fin 256) (l : Fin 768) : iblk m c 0 t (ix2 r l) = m ((c : Thread nD τ).loc main_arg0) (ix2 (row t r) l) := by
  blk_point [iblk, V, idx t, row]
theorem tile_1 (t : Fin cfg0.N) (r : Fin 256) (l : Fin 768) : iblk m c 1 t (ix2 r l) = m ((c : Thread nD τ).loc main_arg1) (ix2 (row t r) l) := by
  blk_point [iblk, V, idx t, row]
theorem tile_2 (t : Fin cfg0.N) (r : Fin 256) (l : Fin 768) : iblk m c 2 t (ix2 r l) = m ((c : Thread nD τ).loc main_arg2) (ix2 (row t r) l) := by
  blk_point [iblk, V, idx t, row]
theorem tile_3 (t : Fin cfg0.N) (r : Fin 256) (l : Fin 256) : iblk m c 3 t (ix2 r l) = m ((c : Thread nD τ).loc main_arg3) (ix2 (row t r) l) := by
  blk_point [iblk, V, idx t, row]

include hA in
theorem tile_a (t : Fin cfg0.N) (r : Fin 256) (l : Fin 768) : iblk m c 4 t (ix2 r l) = ((A (ix2 (row t r) l) : ℝ) : EReal) := by
  refine Eq.trans ?_ (congrFun hA (ix2 (row t r) l))
  blk_point [iblk, V, idx t, row]

include hf hb in
theorem tile_l (t : Fin cfg0.N) (r : Fin 256) (l : Fin 768) : iblk m c 5 t (ix2 r l)
    = ((-Real.log (1 + Real.exp (-z f b (row t r) ⟨l.val / 64, by omega⟩)) : ℝ) : EReal) := by
  have e : ((cfg0.win 5).blk t).view.emb (ix2 r l) = (ix2 (row t r) l : S4096x768.Idx) := by blk_ext [idx t, row]
  rw [iblk_l, e, V_logf]
  have h0 : m (c, Proc.tc.devRef main_arg5) = up f := hf
  have h1 : m (c, Proc.tc.devRef main_arg6) = up b := hb
  rw [h0, h1]
  exact (logf_reads _ _ _).trans ((congrArg (fun y : EReal => -y) (r_sp f b _ _)).trans (EReal.coe_neg _).symm)

/-- Lanes of pair `p` of the decay's cotangent. -/
abbrev cut (t : Fin cfg0.N) (o : ℕ) (inb : ∀ a, (![0, o] : Fin 2 → ℕ) a + S256x128.size a ≤ S256x768.size a) : FVec Ideal S256x128 .f32 :=
  View.ld (Val := Elt Ideal) (e' := EltTy.f32) (iblk m c 4 t) (Rect.unit (s := S256x768) ![0, o] S256x128.size inb)

include hA in
theorem cut_eq (t : Fin cfg0.N) (p : ℕ) (hp : p < 6) (o : ℕ) (ho : o = 128 * p) (inb) (r : Fin 256) (l : Fin 128) :
    cut m c t o inb (ix2 r l) = ((A (ix2 (row t r) ⟨128 * p + l.val, by omega⟩) : ℝ) : EReal) := by
  subst ho
  refine Eq.trans ?_ (tile_a m c A hA t r ⟨128 * p + l.val, by omega⟩)
  exact View.ld_unit_apply_of (S := S256x768) (Val := Elt Ideal) (e := EltTy.f32) (iblk m c 4 t) _ _ _ _ _ fun a => match a with
    | ⟨0, _⟩ => (Nat.zero_add _).symm
    | ⟨1, _⟩ => rfl

/-- What is carried into tile `t`: the sum over the rows behind it. -/
def behind (t : Fin cfg0.N) (l : Fin 768) : ℝ := tail (cot A ⟨l.val / 64, by omega⟩) ((15 - t.val) * 256 + 256)

theorem runs_tail (t : Fin cfg0.N) (r : Fin 256) (l : Fin 768) :
    runs (fun r l => A (ix2 (row t r) l)) (behind A t) r l = tail (cot A ⟨l.val / 64, by omega⟩) (row t r).val := by
  have hN := lt_of_lt_of_eq t.isLt N_0
  rw [row, ← tail_block (cot A ⟨l.val / 64, by omega⟩) ((15 - t.val) * 256) r.val (by omega) r.isLt, runs, behind]
  refine congrArg (· + _) (Finset.sum_congr rfl fun k _ => ?_)
  split
  · have hk := lt_row t k
    rw [cot, dif_pos hk]; rfl
  · rfl

include hA in
theorem carried : ∀ (n : ℕ) (hn : n < cfg0.N) (l : Fin 768), (outsAt0 m c n hn).2.2 (ix2 0 l)
    = ((tail (cot A ⟨l.val / 64, by omega⟩) ((15 - n) * 256) : ℝ) : EReal) := by
  intro n
  induction n with
  | zero =>
    intro hn l
    have t : Fin cfg0.N := ⟨0, hn⟩
    rw [outsAt0_A m c ⟨0, hn⟩ rfl]; frame_out
    refine (carry_eq _ _ _ _ _ _ (fun r l => A (ix2 (row ⟨0, hn⟩ r) l)) (cut_eq m c A hA ⟨0, hn⟩ 0 (by omega) 0 rfl _) (cut_eq m c A hA ⟨0, hn⟩ 1 (by omega) 128 rfl _) (cut_eq m c A hA ⟨0, hn⟩ 2 (by omega) 256 rfl _) (cut_eq m c A hA ⟨0, hn⟩ 3 (by omega) 384 rfl _) (cut_eq m c A hA ⟨0, hn⟩ 4 (by omega) 512 rfl _) (cut_eq m c A hA ⟨0, hn⟩ 5 (by omega) 640 rfl _) k0_pay2 (behind A ⟨0, hn⟩) (fun l => ?_) l).trans
      (congrArg _ (runs_tail A ⟨0, hn⟩ 0 l))
    refine (by pointwise [k0_pay2] : (k0_pay2 (F := Ideal)) (ix2 0 l) = (0 : EReal)).trans (congrArg (fun x : ℝ => (x : EReal)) ?_)
    rw [behind, show (15 - ((⟨0, hn⟩ : Fin cfg0.N) : ℕ)) * 256 + 256 = 4096 from rfl, tail_end]
  | succ n ih =>
    intro hn l
    have hN := lt_of_lt_of_eq hn N_0
    rw [outsAt0_B m c ⟨n + 1, hn⟩ (by show ¬(n + 1) % 16 = 0; omega)]; frame_out
    refine (carry_eq _ _ _ _ _ _ (fun r l => A (ix2 (row ⟨n + 1, hn⟩ r) l)) (cut_eq m c A hA ⟨n + 1, hn⟩ 0 (by omega) 0 rfl _) (cut_eq m c A hA ⟨n + 1, hn⟩ 1 (by omega) 128 rfl _) (cut_eq m c A hA ⟨n + 1, hn⟩ 2 (by omega) 256 rfl _) (cut_eq m c A hA ⟨n + 1, hn⟩ 3 (by omega) 384 rfl _) (cut_eq m c A hA ⟨n + 1, hn⟩ 4 (by omega) 512 rfl _) (cut_eq m c A hA ⟨n + 1, hn⟩ 5 (by omega) 640 rfl _) _ (behind A ⟨n + 1, hn⟩) (fun l => ?_) l).trans
      (congrArg _ (runs_tail A ⟨n + 1, hn⟩ 0 l))
    refine (congrFun (read_unread_whole _ _ _) _).trans ((ih (by omega) l).trans (congrArg (fun k => ((tail (cot A ⟨l.val / 64, by omega⟩) k : ℝ) : EReal)) ?_))
    show (15 - n) * 256 = (15 - (n + 1)) * 256 + 256
    omega

/-- The gradient of the gate in the lanes of one tile. -/
def gTile (t : Fin cfg0.N) (r : Fin 256) (l : Fin 768) : EReal := lane0 (gate A f b (row t r)) l

theorem gate_lane (t : Fin cfg0.N) (r : Fin 256) (l : Fin 768) :
    ((if l.val % 64 = 0 then runs (fun r l => A (ix2 (row t r) l)) (behind A t) r l * (1 - Real.exp (-Real.log (1 + Real.exp (-z f b (row t r) ⟨l.val / 64, by omega⟩)))) else 0 : ℝ) : EReal)
      = lane0 (gate A f b (row t r)) l := by
  rw [slope_saved, runs_tail]; rfl

include hA hf hb in
theorem gate_first (t : Fin cfg0.N) (h : t.val % 16 = 0) (r : Fin 256) (l : Fin 768) :
    k0_pay25 k0_pay17 (k0_pay20 (k0_pay11 128#32 k0_pay8 k0_pay9 k0_pay10 0#32) (k0_pay12 (F := Ideal) 128#32 k0_pay8 k0_pay9 k0_pay10 0#32 (cut m c t 0 inb_S256x768_S256x128_0_0)) (k0_pay13 (F := Ideal) 128#32 k0_pay8 k0_pay9 k0_pay10 0#32 (cut m c t 128 inb_S256x768_S256x128_0_128)) (k0_pay14 (F := Ideal) 128#32 k0_pay8 k0_pay9 k0_pay10 0#32 (cut m c t 256 inb_S256x768_S256x128_0_256)) (cut m c t 384 inb_S256x768_S256x128_0_384) (k0_pay15 (F := Ideal) (cut m c t 384 inb_S256x768_S256x128_0_384)) (cut m c t 512 inb_S256x768_S256x128_0_512) (cut m c t 640 inb_S256x768_S256x128_0_640)) (k0_pay21 (k0_pay11 128#32 k0_pay8 k0_pay9 k0_pay10 0#32) (k0_pay12 (F := Ideal) 128#32 k0_pay8 k0_pay9 k0_pay10 0#32 (cut m c t 0 inb_S256x768_S256x128_0_0)) (k0_pay13 (F := Ideal) 128#32 k0_pay8 k0_pay9 k0_pay10 0#32 (cut m c t 128 inb_S256x768_S256x128_0_128)) (k0_pay14 (F := Ideal) 128#32 k0_pay8 k0_pay9 k0_pay10 0#32 (cut m c t 256 inb_S256x768_S256x128_0_256)) (cut m c t 384 inb_S256x768_S256x128_0_384) (k0_pay15 (F := Ideal) (cut m c t 384 inb_S256x768_S256x128_0_384)) (cut m c t 512 inb_S256x768_S256x128_0_512) (cut m c t 640 inb_S256x768_S256x128_0_640)) (k0_pay22 (k0_pay11 128#32 k0_pay8 k0_pay9 k0_pay10 0#32) (k0_pay12 (F := Ideal) 128#32 k0_pay8 k0_pay9 k0_pay10 0#32 (cut m c t 0 inb_S256x768_S256x128_0_0)) (k0_pay13 (F := Ideal) 128#32 k0_pay8 k0_pay9 k0_pay10 0#32 (cut m c t 128 inb_S256x768_S256x128_0_128)) (k0_pay14 (F := Ideal) 128#32 k0_pay8 k0_pay9 k0_pay10 0#32 (cut m c t 256 inb_S256x768_S256x128_0_256)) (cut m c t 384 inb_S256x768_S256x128_0_384) (k0_pay15 (F := Ideal) (cut m c t 384 inb_S256x768_S256x128_0_384)) (cut m c t 512 inb_S256x768_S256x128_0_512) (cut m c t 640 inb_S256x768_S256x128_0_640)) (k0_pay2 (F := Ideal)) (iblk m c 5 t) (ix2 r l) = lane0 (gate A f b (row t r)) l := by
  have hN := lt_of_lt_of_eq t.isLt N_0
  refine (gate_eq _ _ _ _ _ _ (fun r l => A (ix2 (row t r) l)) (cut_eq m c A hA t 0 (by omega) 0 rfl _) (cut_eq m c A hA t 1 (by omega) 128 rfl _) (cut_eq m c A hA t 2 (by omega) 256 rfl _) (cut_eq m c A hA t 3 (by omega) 384 rfl _) (cut_eq m c A hA t 4 (by omega) 512 rfl _) (cut_eq m c A hA t 5 (by omega) 640 rfl _) k0_pay2 (behind A t) (fun l => ?_) _ _ (tile_l m c f b hf hb t) r l).trans (gate_lane A f b t r l)
  refine (by pointwise [k0_pay2] : (k0_pay2 (F := Ideal)) (ix2 0 l) = (0 : EReal)).trans (congrArg (fun x : ℝ => (x : EReal)) ?_)
  rw [behind, show (15 - t.val) * 256 + 256 = 4096 by omega, tail_end]

include hA hf hb in
theorem gate_next (t : Fin cfg0.N) (h : ¬t.val % 16 = 0) (C : FVec Ideal S1x768 .f32) (hC : C = (outsAt0 m c (t.val - 1) (Nat.lt_of_le_of_lt (Nat.sub_le _ _) t.isLt)).2.2) (r : Fin 256) (l : Fin 768) :
    k0_pay25 k0_pay17 (k0_pay20 (k0_pay11 128#32 k0_pay8 k0_pay9 k0_pay10 0#32) (k0_pay12 (F := Ideal) 128#32 k0_pay8 k0_pay9 k0_pay10 0#32 (cut m c t 0 inb_S256x768_S256x128_0_0)) (k0_pay13 (F := Ideal) 128#32 k0_pay8 k0_pay9 k0_pay10 0#32 (cut m c t 128 inb_S256x768_S256x128_0_128)) (k0_pay14 (F := Ideal) 128#32 k0_pay8 k0_pay9 k0_pay10 0#32 (cut m c t 256 inb_S256x768_S256x128_0_256)) (cut m c t 384 inb_S256x768_S256x128_0_384) (k0_pay15 (F := Ideal) (cut m c t 384 inb_S256x768_S256x128_0_384)) (cut m c t 512 inb_S256x768_S256x128_0_512) (cut m c t 640 inb_S256x768_S256x128_0_640)) (k0_pay21 (k0_pay11 128#32 k0_pay8 k0_pay9 k0_pay10 0#32) (k0_pay12 (F := Ideal) 128#32 k0_pay8 k0_pay9 k0_pay10 0#32 (cut m c t 0 inb_S256x768_S256x128_0_0)) (k0_pay13 (F := Ideal) 128#32 k0_pay8 k0_pay9 k0_pay10 0#32 (cut m c t 128 inb_S256x768_S256x128_0_128)) (k0_pay14 (F := Ideal) 128#32 k0_pay8 k0_pay9 k0_pay10 0#32 (cut m c t 256 inb_S256x768_S256x128_0_256)) (cut m c t 384 inb_S256x768_S256x128_0_384) (k0_pay15 (F := Ideal) (cut m c t 384 inb_S256x768_S256x128_0_384)) (cut m c t 512 inb_S256x768_S256x128_0_512) (cut m c t 640 inb_S256x768_S256x128_0_640)) (k0_pay22 (k0_pay11 128#32 k0_pay8 k0_pay9 k0_pay10 0#32) (k0_pay12 (F := Ideal) 128#32 k0_pay8 k0_pay9 k0_pay10 0#32 (cut m c t 0 inb_S256x768_S256x128_0_0)) (k0_pay13 (F := Ideal) 128#32 k0_pay8 k0_pay9 k0_pay10 0#32 (cut m c t 128 inb_S256x768_S256x128_0_128)) (k0_pay14 (F := Ideal) 128#32 k0_pay8 k0_pay9 k0_pay10 0#32 (cut m c t 256 inb_S256x768_S256x128_0_256)) (cut m c t 384 inb_S256x768_S256x128_0_384) (k0_pay15 (F := Ideal) (cut m c t 384 inb_S256x768_S256x128_0_384)) (cut m c t 512 inb_S256x768_S256x128_0_512) (cut m c t 640 inb_S256x768_S256x128_0_640)) C (iblk m c 5 t) (ix2 r l) = lane0 (gate A f b (row t r)) l := by
  have hN := lt_of_lt_of_eq t.isLt N_0
  refine (gate_eq _ _ _ _ _ _ (fun r l => A (ix2 (row t r) l)) (cut_eq m c A hA t 0 (by omega) 0 rfl _) (cut_eq m c A hA t 1 (by omega) 128 rfl _) (cut_eq m c A hA t 2 (by omega) 256 rfl _) (cut_eq m c A hA t 3 (by omega) 384 rfl _) (cut_eq m c A hA t 4 (by omega) 512 rfl _) (cut_eq m c A hA t 5 (by omega) 640 rfl _) C (behind A t) (fun l => ?_) _ _ (tile_l m c f b hf hb t) r l).trans (gate_lane A f b t r l)
  rw [hC, carried m c A hA, behind, show (15 - (t.val - 1)) * 256 = (15 - t.val) * 256 + 256 by omega]

theorem pay26_eq (a b c d e f) : k0_pay26 (F := Ideal) a b c d e f = k0_pay25 a b c d e f := rfl

theorem c_scale4 (x : FVec Ideal S256x768 .f32) (r l) : k0_pay4 (F := Ideal) x (ix2 r l) = x (ix2 r l) * ((1 / 8 : ℝ) : EReal) := by
  pointwise [k0_pay4]; rw [c_eighth]
theorem c_copy5 (x : FVec Ideal S256x768 .f32) (r l) : k0_pay5 (F := Ideal) x (ix2 r l) = x (ix2 r l) := by pointwise [k0_pay5]
theorem c_copy6 (x : FVec Ideal S256x768 .f32) (r l) : k0_pay6 (F := Ideal) x (ix2 r l) = x (ix2 r l) := by pointwise [k0_pay6]
theorem c_scale7 (x : FVec Ideal S256x256 .f32) (r l) : k0_pay7 (F := Ideal) x (ix2 r l) = x (ix2 r l) * ((1 / 8 : ℝ) : EReal) := by
  pointwise [k0_pay7]; rw [c_eighth]

theorem emb_o (t : Fin cfg0.N) (y : S256x3328.Idx) : ((cfg0.win 6).blk t).view.emb y = (ix2 (row t (y 0)) (y 1) : S4096x3328.Idx) := by
  rw [eq_ix2 y]; blk_ext [idx t, row]

/-- The result array of the five gradients. -/
abbrev res : FVec Ideal S4096x3328 .bf16 := outO A f b (m ((c : Thread nD τ).loc main_arg0)) (m ((c : Thread nD τ).loc main_arg1))
  (m ((c : Thread nD τ).loc main_arg2)) (m ((c : Thread nD τ).loc main_arg3))

section pieces
variable (t : Fin cfg0.N) (y : S256x3328.Idx)

theorem piece_0 (x : S256x768.Idx) (e0 : (y 0).val = (x 0).val) (e1 : (y 1).val = 0 + (x 1).val) : k0_pay4 (F := Ideal) (iblk m c 0 t) x = res m c A f b (ix2 (row t (y 0)) (y 1)) := by
  obtain ⟨r, l, rfl⟩ : ∃ a b, x = ix2 a b := ⟨x 0, x 1, eq_ix2 x⟩
  have e : r = y 0 := Fin.ext e0.symm
  have h := l.isLt
  have e1 : (y 1).val = 0 + l.val := e1
  rw [c_scale4, tile_0, e]
  refine Eq.trans ?_ (dif_pos (show (y 1).val < 768 by omega)).symm
  exact congrArg (fun l : Fin 768 => @id EReal (m ((c : Thread nD τ).loc main_arg0) (ix2 (row t (y 0)) l)) * ((1 / 8 : ℝ) : EReal)) (Fin.ext (show l.val = (y 1).val by omega))

theorem piece_1 (x : S256x768.Idx) (e0 : (y 0).val = (x 0).val) (e1 : (y 1).val = 768 + (x 1).val) : k0_pay5 (F := Ideal) (iblk m c 1 t) x = res m c A f b (ix2 (row t (y 0)) (y 1)) := by
  obtain ⟨r, l, rfl⟩ : ∃ a b, x = ix2 a b := ⟨x 0, x 1, eq_ix2 x⟩
  have e : r = y 0 := Fin.ext e0.symm
  have h := l.isLt
  have e1 : (y 1).val = 768 + l.val := e1
  rw [c_copy5, tile_1, e]
  refine Eq.trans ?_ (dif_neg (show ¬(y 1).val < 768 by omega)).symm
  refine Eq.trans ?_ (dif_pos (show (y 1).val - 768 < 768 by omega)).symm
  exact congrArg (fun l : Fin 768 => @id EReal (m ((c : Thread nD τ).loc main_arg1) (ix2 (row t (y 0)) l))) (Fin.ext (show l.val = (y 1).val - 768 by omega))

theorem piece_2 (x : S256x768.Idx) (e0 : (y 0).val = (x 0).val) (e1 : (y 1).val = 1536 + (x 1).val) : k0_pay6 (F := Ideal) (iblk m c 2 t) x = res m c A f b (ix2 (row t (y 0)) (y 1)) := by
  obtain ⟨r, l, rfl⟩ : ∃ a b, x = ix2 a b := ⟨x 0, x 1, eq_ix2 x⟩
  have e : r = y 0 := Fin.ext e0.symm
  have h := l.isLt
  have e1 : (y 1).val = 1536 + l.val := e1
  rw [c_copy6, tile_2, e]
  refine Eq.trans ?_ (dif_neg (show ¬(y 1).val < 768 by omega)).symm
  refine Eq.trans ?_ (dif_neg (show ¬(y 1).val - 768 < 768 by omega)).symm
  refine Eq.trans ?_ (dif_pos (show (y 1).val - 1536 < 768 by omega)).symm
  exact congrArg (fun l : Fin 768 => @id EReal (m ((c : Thread nD τ).loc main_arg2) (ix2 (row t (y 0)) l))) (Fin.ext (show l.val = (y 1).val - 1536 by omega))

theorem piece_3 (x : S256x256.Idx) (e0 : (y 0).val = (x 0).val) (e1 : (y 1).val = 2304 + (x 1).val) : k0_pay7 (F := Ideal) (iblk m c 3 t) x = res m c A f b (ix2 (row t (y 0)) (y 1)) := by
  obtain ⟨r, l, rfl⟩ : ∃ a b, x = ix2 a b := ⟨x 0, x 1, eq_ix2 x⟩
  have e : r = y 0 := Fin.ext e0.symm
  have h := l.isLt
  have e1 : (y 1).val = 2304 + l.val := e1
  rw [c_scale7, tile_3, e]
  refine Eq.trans ?_ (dif_neg (show ¬(y 1).val < 768 by omega)).symm
  refine Eq.trans ?_ (dif_neg (show ¬(y 1).val - 768 < 768 by omega)).symm
  refine Eq.trans ?_ (dif_neg (show ¬(y 1).val - 1536 < 768 by omega)).symm
  refine Eq.trans ?_ (dif_pos (show (y 1).val - 2304 < 256 by omega)).symm
  exact congrArg (fun l : Fin 256 => @id EReal (m ((c : Thread nD τ).loc main_arg3) (ix2 (row t (y 0)) l)) * ((1 / 8 : ℝ) : EReal)) (Fin.ext (show l.val = (y 1).val - 2304 by omega))

theorem piece_4 (x : S256x768.Idx) (e0 : (y 0).val = (x 0).val) (e1 : (y 1).val = 2560 + (x 1).val) : lane0 (gate A f b (row t (x 0))) (x 1) = res m c A f b (ix2 (row t (y 0)) (y 1)) := by
  obtain ⟨r, l, rfl⟩ : ∃ a b, x = ix2 a b := ⟨x 0, x 1, eq_ix2 x⟩
  have e : r = y 0 := Fin.ext e0.symm
  have h := l.isLt
  have e1 : (y 1).val = 2560 + l.val := e1
  show lane0 (gate A f b (row t r)) l = _
  rw [e]
  refine Eq.trans ?_ (dif_neg (show ¬(y 1).val < 768 by omega)).symm
  refine Eq.trans ?_ (dif_neg (show ¬(y 1).val - 768 < 768 by omega)).symm
  refine Eq.trans ?_ (dif_neg (show ¬(y 1).val - 1536 < 768 by omega)).symm
  refine Eq.trans ?_ (dif_neg (show ¬(y 1).val - 2304 < 256 by omega)).symm
  exact congrArg (lane0 (gate A f b (row t (y 0)))) (Fin.ext (show l.val = (y 1).val - 2560 by omega))
end pieces

theorem lanes (y : S256x3328.Idx) : y ∈ (Rect.unit ![0, 2560] ![256, 768] inb_S256x3328_S256x768_0_2560).set
    ∨ y ∈ (Rect.unit ![0, 2304] ![256, 256] inb_S256x3328_S256x256_0_2304).set
    ∨ y ∈ (Rect.unit ![0, 1536] ![256, 768] inb_S256x3328_S256x768_0_1536).set
    ∨ y ∈ (Rect.unit ![0, 768] ![256, 768] inb_S256x3328_S256x768_0_768).set
    ∨ y ∈ (Rect.unit ![0, 0] ![256, 768] inb_S256x3328_S256x768_0_0).set := by
  have h0 : (y 0).val < 256 := (y 0).isLt
  have h1 : (y 1).val < 3328 := (y 1).isLt
  simp only [Rect.mem_set_unit, Fin.forall_fin_two]
  simp only [Matrix.cons_val_zero, Matrix.cons_val_one]
  omega

theorem one_of_five {α : Type*} (S : α → Prop) (a b c d e : α) (h : S a ∨ S b ∨ S c ∨ S d ∨ S e) : ∃ p ∈ [a, b, c, d, e], S p := by
  simpa using h

include hA hf hb in
theorem final_o : (dats m 0 c).arrAt 6 cfg0.N = res m c A f b := by
  refine (dats m 0 c).arrAt_eq_of_covers 6 _ (by decide +kernel) fun t _ y => ?_
  blk_simp
  rw [after0_6, emb_o]
  by_cases h : t.val % 16 = 0
  · rw [outsAt0_A m c t h]; frame_out
    canon_tiles x hx using (one_of_five _ _ _ _ _ _ (lanes y))
    · rw [pay26_eq, eq_ix2 x]
      refine (gate_first m c A f b hA hf hb t h (x 0) (x 1)).trans (piece_4 m c A f b t y x (by omega) (by omega))
    · exact piece_3 m c A f b t y x (by omega) (by omega)
    · exact piece_2 m c A f b t y x (by omega) (by omega)
    · exact piece_1 m c A f b t y x (by omega) (by omega)
    · exact piece_0 m c A f b t y x (by omega) (by omega)
  · rw [outsAt0_B m c t h]; frame_out
    canon_tiles x hx using (one_of_five _ _ _ _ _ _ (lanes y))
    · rw [pay26_eq, eq_ix2 x]
      refine (gate_next m c A f b hA hf hb t h _ (read_unread_whole _ _ _) (x 0) (x 1)).trans (piece_4 m c A f b t y x (by omega) (by omega))
    · exact piece_3 m c A f b t y x (by omega) (by omega)
    · exact piece_2 m c A f b t y x (by omega) (by omega)
    · exact piece_1 m c A f b t y x (by omega) (by omega)
    · exact piece_0 m c A f b t y x (by omega) (by omega)

theorem lane0_sum {ι : Type*} [Fintype ι] (g : ι → Fin 12 → ℝ) (l : Fin 768) : ∑ s, lane0 (g s) l = lane0 (fun h => ∑ s, g s h) l := by
  simp only [lane0]
  rw [coe_sum]
  refine congrArg _ ?_
  by_cases h : l.val % 64 = 0
  · simp only [if_pos h]
  · simp only [if_neg h, Finset.sum_const_zero]

/-- The gradient of the bias that the tile at a grid position adds. -/
def part (n : ℕ) (l : Fin 768) : EReal := ∑ r : Fin 256, lane0 (gate A f b ⟨(15 - n) * 256 + r.val, by omega⟩) l

include hA hf hb in
theorem bias_first (t : Fin cfg0.N) (h : t.val % 16 = 0) (j : S1x768.Idx) : (outsAt0 m c t.val t.isLt).2.1 j = 0 + part A f b t.val (j 1) := by
  rw [outsAt0_A m c t h]; frame_out
  obtain ⟨a, l, rfl⟩ : ∃ a b, j = ix2 a b := ⟨j 0, j 1, eq_ix2 j⟩
  obtain rfl : a = 0 := Subsingleton.elim _ _
  refine (bias_eq _ _ l).trans (congrArg₂ (fun x y : EReal => x + y) ?_ (Finset.sum_congr rfl fun r _ => gate_first m c A f b hA hf hb t h r l))
  pointwise [k0_pay3]

include hA hf hb in
theorem bias_next (t : Fin cfg0.N) (h : ¬t.val % 16 = 0) (j : S1x768.Idx) : (outsAt0 m c t.val t.isLt).2.1 j
    = (outsAt0 m c (t.val - 1) (Nat.lt_of_le_of_lt (Nat.sub_le _ _) t.isLt)).2.1 j + part A f b t.val (j 1) := by
  rw [outsAt0_B m c t h]; frame_out
  obtain ⟨a, l, rfl⟩ : ∃ a b, j = ix2 a b := ⟨j 0, j 1, eq_ix2 j⟩
  obtain rfl : a = 0 := Subsingleton.elim _ _
  exact (bias_eq _ _ l).trans (congrArg₂ (fun x y : EReal => x + y) rfl
    (Finset.sum_congr rfl fun r _ => gate_next m c A f b hA hf hb t h _ (read_unread_whole _ _ _) r l))

theorem parts (l : Fin 768) : ∑ s : Fin 16, part A f b s.val l = lane0 (fun h => ∑ s, gate A f b s h) l := by
  refine Eq.trans ?_ (lane0_sum (fun s => gate A f b s) l)
  refine (Equiv.sum_comp Fin.revPerm fun s : Fin 16 => part A f b s.val l).symm.trans ?_
  refine Fin.sum_mul_add_congr (F := fun (s : Fin 16) (k : Fin 256) => lane0 (gate A f b ⟨(15 - (Fin.revPerm s).val) * 256 + k.val, by omega⟩) l)
    fun s k hl => congrArg (fun q => lane0 (gate A f b q) l) (Fin.ext ?_)
  show (15 - (16 - (s.val + 1))) * 256 + k.val = s.val * 256 + k.val
  omega

include hA hf hb in
theorem final_b : (dats m 0 c).arrAt 7 cfg0.N = outB A f b := by
  refine (dats m 0 c).arrAt_eq_of_after_last 7 t0_15 (by decide +kernel) _ fun j => ?_
  blk_simp
  rw [after0_7]
  exact (Pipeline.eq_sum_fin_of_reset_step_apply_last (fun n h => ((outsAt0 m c n h).2.1 : S1x768.Idx → EReal)) 16 (fun _ => 0)
    (fun n j => part A f b n (j 1)) (bias_first m c A f b hA hf hb) (bias_next m c A f b hA hf hb)
    (le_of_eq N_0) t0_15 rfl j).trans ((zero_add _).trans (parts A f b (j 1)))

end arrays

end Cert.GateKernelIdeal.Hand

end
-- ==== Proof.BandRef.lean ====
/-
  The gradients of the dilated attention as the plain lines compute them, in real numbers: twelve heads in three groups of four, each group with its own dilation, the groups weighted by their softmax denominators.
-/
module

public import proofs.«01_k».proof.Proof.Gen.Band0DqReferenceIdeal.Run
public import proofs.«01_k».proof.Proof.Gen.Band0DqReferenceIdeal.Read
public import Idealize.ShloMosaic.Lib.Pipeline.ValueKit
public import Idealize.ShloMosaic.Lib.Pointwise
public import proofs.«01_k».proof.Proof.Reals
public import proofs.«01_k».proof.Proof.AttnReal
public import proofs.«01_k».proof.Proof.MaskReal

@[expose] public section

set_option maxRecDepth 16384

noncomputable section

open Idealize.ShloMosaic Idealize.ShloMosaic.TcCoe Idealize.SL.Sem
open Idealize.ShloMosaic.Pipeline (Dat)

namespace Cert.BandReal

open Cert.Reals Cert.AttnReal Cert.MaskReal

abbrev Wide := (⟨2, ![4096, 768]⟩ : Shape).Idx → ℝ
abbrev Quarter := (⟨2, ![4096, 256]⟩ : Shape).Idx → ℝ

/-- The dilation of a head's group. -/
def dil (h : Fin 12) : ℕ := if h.val < 4 then 1 else if h.val < 8 then 4 else 16

/-- A query sees itself and the 128 keys before it at its group's dilation. -/
def sees (h : Fin 12) (q k : Fin 4096) : Prop := k.val ≤ q.val ∧ q.val - k.val ≤ 128 * dil h ∧ (q.val - k.val) % dil h = 0
instance (h : Fin 12) (q : Fin 4096) : DecidablePred (sees h q) := fun k =>
  inferInstanceAs (Decidable (k.val ≤ q.val ∧ q.val - k.val ≤ 128 * dil h ∧ (q.val - k.val) % dil h = 0))
theorem sees_self (h : Fin 12) (q : Fin 4096) : ∃ k, sees h q k :=
  ⟨q, le_refl q.val, by rw [Nat.sub_self]; exact Nat.zero_le _, by rw [Nat.sub_self]; exact Nat.zero_mod _⟩

/-- Lane `d` of head `h`, the head of a lane, the place of a head in its group, lane `d` of that place, and the head at a place of group `g`. -/
def hl (h : Fin 12) (d : Fin 64) : Fin 768 := ⟨h.val * 64 + d.val, by omega⟩
def hd (l : Fin 768) : Fin 12 := ⟨l.val / 64, by omega⟩
def pl (h : Fin 12) : Fin 4 := ⟨h.val % 4, by omega⟩
def gr (h : Fin 12) : Fin 3 := ⟨h.val / 4, by omega⟩
def ll (a : Fin 4) (d : Fin 64) : Fin 256 := ⟨a.val * 64 + d.val, by omega⟩
def at' (a : Fin 4) (g : Fin 3) : Fin 12 := ⟨g.val * 4 + a.val, by omega⟩

theorem at_pl (h : Fin 12) : at' (pl h) (gr h) = h := Fin.ext (by show h.val / 4 * 4 + h.val % 4 = h.val; omega)

variable (X K V : Wide) (D : Quarter)

/-- The scores, the shares of the keys, the log of the denominator. -/
def Sc (h : Fin 12) (q k : Fin 4096) : ℝ := ∑ d : Fin 64, X (ix2 q (hl h d)) * (1 / 8) * K (ix2 k (hl h d))
def P (h : Fin 12) (q k : Fin 4096) : ℝ := mpr (sees h q) (Sc X K h q) k
def mx (h : Fin 12) (q : Fin 4096) : ℝ := mmax (sees h q) (Sc X K h q)
def E (h : Fin 12) (q k : Fin 4096) : ℝ := mw (sees h q) (Sc X K h q) (mx X K h q) k
def Z (h : Fin 12) (q : Fin 4096) : ℝ := ∑ k, E X K h q k
def lse (h : Fin 12) (q : Fin 4096) : ℝ := mx X K h q + Real.log (Z X K h q)

/-- What one head gives, the weight of its group, and the three groups together. -/
def att (h : Fin 12) (q : Fin 4096) (d : Fin 64) : ℝ := ∑ k, V (ix2 k (hl h d)) * P X K h q k
def ls (a : Fin 4) (q : Fin 4096) (g : Fin 3) : ℝ := lse X K (at' a g) q
def al (h : Fin 12) (q : Fin 4096) : ℝ := pr (ls X K (pl h) q) (gr h)
def com (a : Fin 4) (q : Fin 4096) (d : Fin 64) : ℝ := ∑ g, pr (ls X K a q) g * att X K V (at' a g) q d

/-- The gradient of the shares before the group's weight, the cotangent times the output, and the gradient of the scores. -/
def dP (h : Fin 12) (q k : Fin 4096) : ℝ := ∑ d : Fin 64, D (ix2 q (ll (pl h) d)) * V (ix2 k (hl h d))
def Dl (a : Fin 4) (q : Fin 4096) : ℝ := ∑ d : Fin 64, D (ix2 q (ll a d)) * com X K V a q d
def dS (h : Fin 12) (q k : Fin 4096) : ℝ := al X K h q * P X K h q k * (dP V D h q k - Dl X K V D (pl h) q)

/-- The gradients of the queries, of the keys and of the values. -/
def gQ (q : Fin 4096) (l : Fin 768) : ℝ := ∑ k, dS X K V D (hd l) q k * K (ix2 k l)
def gK (k : Fin 4096) (l : Fin 768) : ℝ := ∑ q, dS X K V D (hd l) q k * (X (ix2 q l) * (1 / 8))
def gV (k : Fin 4096) (l : Fin 768) : ℝ := ∑ q, al X K (hd l) q * P X K (hd l) q k * D (ix2 q ⟨l.val % 256, by omega⟩)

theorem Z_ne (h q) : Z X K h q ≠ 0 := (mdenom_pos (sees h q) (Sc X K h q) (sees_self h q) (mx X K h q)).ne'

theorem E_eq (h q k) : E X K h q k * (1 / Z X K h q) = P X K h q k := mpr_shift (sees h q) (Sc X K h q) (sees_self h q) (mx X K h q) k

theorem P_lse (h q k) : mw (sees h q) (Sc X K h q) (lse X K h q) k = P X K h q k := mpr_saved (sees h q) (Sc X K h q) (sees_self h q) (mx X K h q) k

theorem P_out (h q k) (hs : ¬sees h q k) : P X K h q k = 0 := mpr_out _ _ _ hs

/-- The cotangent times one head's output. -/
def Dg (a : Fin 4) (q : Fin 4096) (g : Fin 3) : ℝ := ∑ d : Fin 64, D (ix2 q (ll a d)) * att X K V (at' a g) q d

theorem Dg_eq (h q) : Dg X K V D (pl h) q (gr h) = ∑ k, dP V D h q k * P X K h q k := by
  simp only [Dg, att, at_pl, dP, Finset.mul_sum, Finset.sum_mul]
  rw [Finset.sum_comm]
  exact Finset.sum_congr rfl fun k _ => Finset.sum_congr rfl fun d _ => by ring

theorem Dl_eq (a q) : ∑ g, Dg X K V D a q g * pr (ls X K a q) g = Dl X K V D a q := by
  simp only [Dg, Dl, com, Finset.mul_sum, Finset.sum_mul]
  rw [Finset.sum_comm]
  exact Finset.sum_congr rfl fun d _ => Finset.sum_congr rfl fun g _ => by ring

/-- The gradient of the scores as the plain lines put it together. -/
theorem dS_plain (h q k) :
    al X K h q * dP V D h q k * P X K h q k
      + (ds (ls X K (pl h) q) (Dg X K V D (pl h) q) (gr h) + -∑ j, al X K h q * dP V D h q j * P X K h q j) * (1 / Z X K h q) * E X K h q k
      = dS X K V D h q k := by
  have e : ∑ j, al X K h q * dP V D h q j * P X K h q j = al X K h q * Dg X K V D (pl h) q (gr h) := by
    rw [Dg_eq, Finset.mul_sum]
    exact Finset.sum_congr rfl fun j _ => by ring
  have f : (1 / Z X K h q) * E X K h q k = P X K h q k := by rw [mul_comm]; exact E_eq X K h q k
  rw [e, ds, Dl_eq, mul_assoc (_ + _), f, dS]
  show _ + (al X K h q * _ + _) * _ = _
  ring

end Cert.BandReal

namespace Cert.Band0DqReferenceIdeal.Hand

open Cert.Band0DqReferenceIdeal Cert.Band0DqReferenceIdeal.Read Cert.Reals Cert.AttnReal Cert.MaskReal Cert.BandReal

def up {s : Shape} (x : s.Idx → ℝ) : FVec Ideal s .f32 := fun i => ((x i : ℝ) : EReal)

theorem toInt_ofNat (k : ℕ) (h : k < 2147483648) : (BitVec.ofNat 32 k).toInt = k := by
  rw [BitVec.toInt_eq_toNat_of_lt (by rw [BitVec.toNat_ofNat]; omega), BitVec.toNat_ofNat]
  omega

theorem select_ofBool {α : Type} (p : Prop) [Decidable p] (x y : α) : Scalar.select (BitVec.ofBool (decide p)) x y = if p then x else y := by
  by_cases h : p <;> simp [h, Scalar.select]

theorem r12 (h : Fin 12) : val_main_v12 (F := Ideal) (ix1 h) = BitVec.ofNat 32 (dil h) := by
  pointwise [val_main_v12, val_main_v8, val_main_call1_v0, val_main_v11, val_main_v10, val_main_call0_v0, val_main_call0_v1, val_main_c, val_main_c_0, val_main_c_1, val_main_c_2, val_main_c_3, val_main_v6, val_main_v7, val_main_v9]
  revert h
  decide +kernel

theorem r14 (h q k) : val_main_v14 (F := Ideal) (ix3 h q k) = BitVec.ofNat 32 (dil h) := by
  pointwise [val_main_v14, val_main_v13]
  exact r12 h

theorem r21 (h q k) : val_main_v21 (F := Ideal) (ix3 h q k) = BitVec.ofNat 32 q.val - BitVec.ofNat 32 k.val := by
  pointwise [val_main_v21, val_main_v20, val_main_v19, val_main_v17, val_main_v18, val_main_v15, val_main_v16, val_main_v5]
  rfl

theorem sub_ofNat (q k : ℕ) (h : k ≤ q) (hq : q < 4096) : BitVec.ofNat 32 q - BitVec.ofNat 32 k = BitVec.ofNat 32 (q - k) := by
  apply BitVec.eq_of_toNat_eq
  simp only [BitVec.toNat_sub, BitVec.toNat_ofNat]
  omega

theorem word_sees (q k d : ℕ) (hq : q < 4096) (hk : k < 4096) (hd : 0 < d) (hd' : d ≤ 16) :
    IntOp.andi (IntOp.andi (IntOp.cmpi CmpIPredicate.sge (BitVec.ofNat 32 q - BitVec.ofNat 32 k) 0#32)
        (IntOp.cmpi CmpIPredicate.sle (BitVec.ofNat 32 q - BitVec.ofNat 32 k) (IntOp.muli 128#32 (BitVec.ofNat 32 d))))
      (IntOp.cmpi CmpIPredicate.eq (IntOp.remsi ArithUnit.host (BitVec.ofNat 32 q - BitVec.ofNat 32 k) (BitVec.ofNat 32 d)) 0#32)
      = BitVec.ofBool (decide (k ≤ q ∧ q - k ≤ 128 * d ∧ (q - k) % d = 0)) := by
  by_cases h : k ≤ q
  · rw [sub_ofNat q k h hq]
    have hn : (BitVec.ofNat 32 (q - k)).toNat = q - k := by rw [BitVec.toNat_ofNat]; omega
    have hm : IntOp.muli 128#32 (BitVec.ofNat 32 d) = BitVec.ofNat 32 (128 * d) := by
      show 128#32 * BitVec.ofNat 32 d = _
      rw [BitVec.ofNat_mul]
    have h1 : IntOp.cmpi CmpIPredicate.sge (BitVec.ofNat 32 (q - k)) 0#32 = 1#1 := by
      show BitVec.ofBool ((0#32).sle (BitVec.ofNat 32 (q - k))) = _
      rw [BitVec.sle_eq_decide, toInt_ofNat (q - k) (by omega)]
      simp
    have h2 : IntOp.cmpi CmpIPredicate.sle (BitVec.ofNat 32 (q - k)) (BitVec.ofNat 32 (128 * d)) = BitVec.ofBool (decide (q - k ≤ 128 * d)) := by
      show BitVec.ofBool ((BitVec.ofNat 32 (q - k)).sle (BitVec.ofNat 32 (128 * d))) = _
      rw [BitVec.sle_eq_decide, toInt_ofNat (q - k) (by omega), toInt_ofNat (128 * d) (by omega)]
      simp only [Nat.cast_le]
    have h3 : IntOp.cmpi CmpIPredicate.eq (IntOp.remsi ArithUnit.host (BitVec.ofNat 32 (q - k)) (BitVec.ofNat 32 d)) 0#32 = BitVec.ofBool (decide ((q - k) % d = 0)) := by
      show BitVec.ofBool (IntOp.remsi ArithUnit.host (BitVec.ofNat 32 (q - k)) (BitVec.ofNat 32 d) == 0#32) = _
      refine congrArg BitVec.ofBool (Bool.eq_iff_iff.2 ?_)
      rw [beq_iff_eq, decide_eq_true_iff]
      refine (IntOp.remsi_eq_zero_iff ArithUnit.host (x := BitVec.ofNat 32 (q - k)) (by rw [hn]; omega) d hd (by omega)).trans ?_
      rw [hn, Nat.dvd_iff_mod_eq_zero]
    rw [hm, h1, h2, h3]
    by_cases a : q - k ≤ 128 * d <;> by_cases b : (q - k) % d = 0 <;> simp [a, b, h, IntOp.andi]
  · have h1 : IntOp.cmpi CmpIPredicate.sge (BitVec.ofNat 32 q - BitVec.ofNat 32 k) 0#32 = 0#1 := by
      show BitVec.ofBool ((0#32).sle (BitVec.ofNat 32 q - BitVec.ofNat 32 k)) = _
      have hn : (BitVec.ofNat 32 q - BitVec.ofNat 32 k).toNat = 4294967296 - (k - q) := by
        simp only [BitVec.toNat_sub, BitVec.toNat_ofNat]
        omega
      rw [BitVec.sle_eq_decide, BitVec.toInt_eq_toNat_cond (BitVec.ofNat 32 q - BitVec.ofNat 32 k), hn, if_neg (by omega)]
      rw [show (0#32).toInt = 0 from rfl, decide_eq_false (by omega)]
      rfl
    rw [h1]
    simp [h, IntOp.andi]

theorem dil_pos (h : Fin 12) : 0 < dil h ∧ dil h ≤ 16 := by revert h; decide

theorem r26 (h q k) : val_main_v26 (F := Ideal) (ix3 h q k) = IntOp.muli 128#32 (BitVec.ofNat 32 (dil h)) := by
  have h24 : val_main_v24 (F := Ideal) (ix3 h q k) = 128#32 := by pointwise [val_main_v24, val_main_c_5]
  show IntOp.muli (val_main_v24 (F := Ideal) (ix3 h q k)) (val_main_v14 (F := Ideal) (ix3 h q k)) = _
  rw [h24, r14]

theorem r32 (h q k) : val_main_v32 (F := Ideal) (ix3 h q k) = BitVec.ofBool (decide (sees h q k)) := by
  pointwise [val_main_v32, val_main_v28, val_main_v23, val_main_v27, val_main_v31, val_main_v29, val_main_v22, val_main_v30, val_main_c_4, val_main_c_6]
  rw [r14, r21, r26]
  exact word_sees q.val k.val (dil h) q.isLt k.isLt (dil_pos h).1 (dil_pos h).2

section math
variable (X K V : Wide) (D : Quarter)

theorem r4 (h q k) : val_main_v4 (F := Ideal) (up X) (up K) (ix3 h q k) = ((Sc X K h q k : ℝ) : EReal) := by
  pointwise [val_main_v4, val_main_v2, val_main_v3, val_main_v1, val_main_v0, val_main_cst, up]
  simp only [c_eighth, ← EReal.coe_mul, coe_sum]
  rfl

theorem r33 (h q k) : val_main_v33_0 (F := Ideal) (up X) (up K) (ix3 h q k) = msc (sees h q) (Sc X K h q) k := by
  have hb : val_main_call2_v1 (F := Ideal) (ix3 h q k) = ⊥ := by
    pointwise [val_main_call2_v1, val_main_call2_v0, val_main_cst_7]
    exact c_bot
  rw [val_main_v33_0_apply, r32, hb, r4, select_ofBool]
  rfl

theorem r34 (h q) : val_main_v34 (F := Ideal) (up X) (up K) (ix2 h q) = ((mx X K h q : ℝ) : EReal) := by
  pointwise [val_main_v34, val_main_cst_8]
  simp only [r33, c_bot]
  exact mfold_max _ _ (sees_self h q)

theorem r43 (h q k) : val_main_v43 (F := Ideal) (up X) (up K) (ix3 h q k) = ((E X K h q k : ℝ) : EReal) := by
  have h41 : val_main_v41 (F := Ideal) (up X) (up K) (ix3 h q k) = ((mx X K h q : ℝ) : EReal) := by
    pointwise [val_main_v41, val_main_v40]
    exact r34 X K h q
  rw [val_main_v43_apply, val_main_v42_apply, r33, h41]
  exact exp_msc _ _ _ _

theorem r44 (h q) : val_main_v44 (F := Ideal) (up X) (up K) (ix2 h q) = ((Z X K h q : ℝ) : EReal) := by
  pointwise [val_main_v44, val_main_cst_10]
  simp only [r43, coe_sum]
  rfl

theorem r46 (h q) : val_main_v46 (F := Ideal) (up X) (up K) (ix2 h q) = ((lse X K h q : ℝ) : EReal) := by
  rw [val_main_v46_apply, val_main_v45_apply, r34, r44]
  exact (congrArg (fun z : EReal => ((mx X K h q : ℝ) : EReal) + z) (log_mdenom (sees h q) (Sc X K h q) (sees_self h q) (mx X K h q))).trans (EReal.coe_add _ _).symm

theorem r50 (h q k) : val_main_v50 (F := Ideal) (up X) (up K) (ix3 h q k) = ((P X K h q k : ℝ) : EReal) := by
  have h48 : val_main_v48 (F := Ideal) (up X) (up K) (ix3 h q k) = ((lse X K h q : ℝ) : EReal) := by
    pointwise [val_main_v48, val_main_v47]
    exact r46 X K h q
  rw [val_main_v50_apply, val_main_v49_apply, r33, h48]
  exact (exp_msc _ _ _ _).trans (congrArg _ (P_lse X K h q k))

theorem r53 (q h d) : val_main_v53 (F := Ideal) (up X) (up K) (up V) (ix3 q h d) = ((att X K V h q d : ℝ) : EReal) := by
  pointwise [val_main_v53, val_main_v52, val_main_v51]
  simp only [r50, up, ← EReal.coe_mul, coe_sum]
  rfl

theorem r54 (g a q) : val_main_v54 (F := Ideal) (up X) (up K) (ix3 g a q) = ((ls X K a q g : ℝ) : EReal) := by
  pointwise [val_main_v54]
  exact r46 X K (at' a g) q

theorem r62 (a q) : val_main_v62 (F := Ideal) (up X) (up K) (ix2 a q) = ((rowmax (ls X K a q) : ℝ) : EReal) := by
  have h61 : val_main_v61 (F := Ideal) (ix2 a q) = ⊥ := by
    pointwise [val_main_v61, val_main_cst_13]
    exact c_bot
  have h55 : val_main_v55 (F := Ideal) (up X) (up K) (ix2 a q) = ((rowmax (ls X K a q) : ℝ) : EReal) := by
    pointwise [val_main_v55, val_main_cst_11]
    simp only [r54, c_bot, fold_max_coe]
  rw [val_main_v62_apply, h61, h55]
  exact max_bot_left _

theorem r75 (g a q) : val_main_v75 (F := Ideal) (up X) (up K) (ix3 g a q) = ((Real.exp (ls X K a q g - rowmax (ls X K a q)) : ℝ) : EReal) := by
  have h73 : val_main_v73 (F := Ideal) (up X) (up K) (ix3 g a q) = ((rowmax (ls X K a q) : ℝ) : EReal) := by
    pointwise [val_main_v73, val_main_v72]
    exact r62 X K a q
  rw [val_main_v75_apply, val_main_v74_apply, r54, h73]
  rfl

/-- The sum of the three groups' weights before they are divided by it. -/
def zz (a : Fin 4) (q : Fin 4096) : ℝ := ∑ g, Real.exp (ls X K a q g - rowmax (ls X K a q))

theorem r77 (i : Fin 1) (a q) : val_main_v77 (F := Ideal) (up X) (up K) (ix3 i a q) = ((zz X K a q : ℝ) : EReal) := by
  pointwise [val_main_v77, val_main_v76, val_main_cst_19]
  simp only [r75, coe_sum]
  rfl

theorem r79 (g a q) : val_main_v79 (F := Ideal) (up X) (up K) (ix3 g a q) = ((pr (ls X K a q) g : ℝ) : EReal) := by
  have h78 : val_main_v78 (F := Ideal) (up X) (up K) (ix3 g a q) = ((zz X K a q : ℝ) : EReal) := by
    pointwise [val_main_v78]
    exact r77 X K 0 a q
  rw [val_main_v79_apply, r75, h78]
  refine (div_sum_exp _ _ _).trans (congrArg _ ?_)
  exact pr_shift _ _ _

theorem r113 (h d q) : val_main_v113 (F := Ideal) (up X) (up K) (up D) (ix3 h d q) = ((al X K h q * D (ix2 q (ll (pl h) d)) : ℝ) : EReal) := by
  pointwise [val_main_v113, val_main_v97, val_main_v93, val_main_v92, val_main_v91, val_main_v90, val_main_v84, val_main_v83]
  simp only [r79, up, ← EReal.coe_mul]
  rfl

theorem r114 (h q k) : val_main_v114 (F := Ideal) (up X) (up K) (up V) (up D) (ix3 h q k) = ((al X K h q * dP V D h q k : ℝ) : EReal) := by
  pointwise [val_main_v114, val_main_v51]
  simp only [r113, up, ← EReal.coe_mul, coe_sum, mul_assoc, ← Finset.mul_sum]
  rfl

theorem r118 (h q k) : val_main_v118 (F := Ideal) (up X) (up K) (up V) (up D) (ix3 h q k) = ((al X K h q * dP V D h q k * P X K h q k : ℝ) : EReal) := by
  rw [val_main_v118_apply, r114, r50]
  exact (EReal.coe_mul _ _).symm

theorem r122 (h q) : val_main_v122 (F := Ideal) (up X) (up K) (up V) (up D) (ix2 h q) = ((-∑ k, al X K h q * dP V D h q k * P X K h q k : ℝ) : EReal) := by
  pointwise [val_main_v122, val_main_v121, val_main_v120, val_main_v119, val_main_cst_26, val_main_cst_27]
  simp only [r118, ← EReal.coe_neg, coe_sum, Fin.sum_univ_one, Finset.sum_neg_distrib]

theorem r99 (g a q) : val_main_v99 (F := Ideal) (up X) (up K) (up V) (up D) (ix3 g a q) = ((Dg X K V D a q g : ℝ) : EReal) := by
  pointwise [val_main_v99, val_main_v98, val_main_v96, val_main_v95, val_main_v94, val_main_v91, val_main_v90, val_main_v85, val_main_cst_22, val_main_cst_23]
  simp only [r53, up, ← EReal.coe_mul, coe_sum, Fin.sum_univ_one]
  rfl

theorem r82 (i : Fin 1) (a q) : val_main_v82 (F := Ideal) (up X) (up K) (ix3 i a q) = ((1 * (1 / (zz X K a q * zz X K a q)) : ℝ) : EReal) := by
  have h81 : val_main_v81 (F := Ideal) (ix3 i a q) = (1 : EReal) := by pointwise [val_main_v81, val_main_cst_20]
  have hz : zz X K a q ≠ 0 := ne_of_gt (denom_pos _ _)
  rw [val_main_v82_apply, val_main_v80_apply, r77, h81]
  show Ideal.div 1 (((_ : ℝ) : EReal) * _) = _
  rw [← EReal.coe_mul, Ideal.div_coe (mul_ne_zero hz hz), EReal.coe_mul, EReal.coe_one]

theorem r102 (g a q) : val_main_v102 (F := Ideal) (up X) (up K) (up V) (up D) (ix3 g a q)
    = ((Dg X K V D a q g * (1 * (1 / (zz X K a q * zz X K a q))) * Real.exp (ls X K a q g - rowmax (ls X K a q)) : ℝ) : EReal) := by
  have h100 : val_main_v100 (F := Ideal) (up X) (up K) (ix3 g a q) = val_main_v82 (F := Ideal) (up X) (up K) (ix3 0 a q) := by pointwise [val_main_v100]
  rw [val_main_v102_apply, val_main_v101_apply, r99, h100, r82, r75]
  show ((_ : ℝ) : EReal) * _ * _ = _
  rw [← EReal.coe_mul, ← EReal.coe_mul]

theorem r109 (g a q) : val_main_v109 (F := Ideal) (up X) (up K) (up V) (up D) (ix3 g a q)
    = ((-∑ g, Dg X K V D a q g * (1 * (1 / (zz X K a q * zz X K a q))) * Real.exp (ls X K a q g - rowmax (ls X K a q)) : ℝ) : EReal) := by
  pointwise [val_main_v109, val_main_v108, val_main_v105, val_main_v104, val_main_v103, val_main_cst_24, val_main_cst_25]
  simp only [r102, coe_sum, ← EReal.coe_neg, Fin.sum_univ_one, one_mul]

theorem r111 (g a q) : val_main_v111 (F := Ideal) (up X) (up K) (up V) (up D) (ix3 g a q) = ((ds (ls X K a q) (Dg X K V D a q) g : ℝ) : EReal) := by
  have h106 : val_main_v106 (F := Ideal) (up X) (up K) (ix3 g a q) = ((zz X K a q : ℝ) : EReal) := by
    pointwise [val_main_v106]
    exact r77 X K 0 a q
  have h107 : val_main_v107 (F := Ideal) (up X) (up K) (up V) (up D) (ix3 g a q) = ((Dg X K V D a q g * (1 / zz X K a q) : ℝ) : EReal) := by
    rw [val_main_v107_apply, r99, h106]
    exact div_sum_exp _ _ _
  rw [val_main_v111_apply, val_main_v110_apply, h107, r109, r75]
  refine Eq.trans ?_ (congrArg (fun x : ℝ => (x : EReal)) (ds_plain (ls X K a q) (Dg X K V D a q) (rowmax (ls X K a q)) _ rfl g))
  show (((_ : ℝ) : EReal) + _) * _ = _
  rw [← EReal.coe_add, ← EReal.coe_mul]
  rfl

theorem r112 (h q) : val_main_v112 (F := Ideal) (up X) (up K) (up V) (up D) (ix2 h q) = ((ds (ls X K (pl h) q) (Dg X K V D (pl h) q) (gr h) : ℝ) : EReal) := by
  pointwise [val_main_v112]
  exact r111 X K V D (gr h) (pl h) q

theorem r128 (h q k) : val_main_v128 (F := Ideal) (up X) (up K) (up V) (up D) (ix3 h q k) = ((dS X K V D h q k : ℝ) : EReal) := by
  have h125 : val_main_v125 (F := Ideal) (up X) (up K) (up V) (up D) (ix3 h q k) = val_main_v124 (F := Ideal) (up X) (up K) (up V) (up D) (ix2 h q) := by
    pointwise [val_main_v125]
  have h0 : val_main_call3_v0 (F := Ideal) (ix3 h q k) = 0 := by pointwise [val_main_call3_v0, val_main_call3_cst]
  rw [val_main_v128_apply, r32, h0, val_main_v127_apply, val_main_v126_apply, h125, val_main_v124_apply, val_main_v123_apply, r112, r122, r44, r43, r118, select_ofBool]
  by_cases hs : sees h q k
  · rw [if_pos hs]
    refine Eq.trans ?_ (congrArg (fun x : ℝ => (x : EReal)) (dS_plain X K V D h q k))
    show ((_ : ℝ) : EReal) + Ideal.div (_ + _) _ * _ = _
    rw [← EReal.coe_add, Ideal.div_coe (Z_ne X K h q), ← EReal.coe_mul, ← EReal.coe_mul, ← EReal.coe_add]
  · rw [if_neg hs, dS, P_out X K h q k hs, mul_zero, zero_mul]
    rfl

theorem whole_q (q l) : val_main_v134 (F := Ideal) (up X) (up K) (up V) (up D) (ix2 q l) = ((gQ X K V D q l : ℝ) : EReal) := by
  pointwise [val_main_v134, val_main_v132, val_main_v131, val_main_v3]
  simp only [r128, up, ← EReal.coe_mul, coe_sum]
  rfl

theorem whole_k (k l) : val_main_v133 (F := Ideal) (up X) (up K) (up V) (up D) (ix2 k l) = ((gK X K V D k l : ℝ) : EReal) := by
  pointwise [val_main_v133, val_main_v130, val_main_v129, val_main_v2, val_main_v1, val_main_v0, val_main_cst]
  simp only [r128, up, c_eighth, ← EReal.coe_mul, coe_sum]
  rfl

theorem whole_v (k l) : val_main_v117 (F := Ideal) (up X) (up K) (up D) (ix2 k l) = ((gV X K D k l : ℝ) : EReal) := by
  pointwise [val_main_v117, val_main_v116, val_main_v115]
  simp only [r113, r50, ← EReal.coe_mul, coe_sum]
  refine congrArg _ (Finset.sum_congr rfl fun q _ => ?_)
  have e : ll (pl (hd l)) ⟨l.val % 64, by omega⟩ = (⟨l.val % 256, by omega⟩ : Fin 256) := Fin.ext (by show l.val / 64 % 4 * 64 + l.val % 64 = l.val % 256; omega)
  show al X K (hd l) q * D (ix2 q (ll (pl (hd l)) ⟨l.val % 64, by omega⟩)) * P X K (hd l) q k = _
  rw [e]
  ring

end math
end Cert.Band0DqReferenceIdeal.Hand

end
-- ==== Proof.BandTile.lean ====
/-
  One tile of the dilated attention's backward calls in real numbers: a pair of heads against 128 or 256 rows, and how the tile's sums are the whole array's.
-/
module

public import proofs.«01_k».proof.Proof.Gen.Band0DqKernelIdeal.Value
public import proofs.«01_k».proof.Proof.Gen.Band0DqReferenceIdeal.Run
public import proofs.«01_k».proof.Proof.Gen.Band0DqReferenceIdeal.Read
public import Idealize.ShloMosaic.Lib.Pipeline.ValueKit
public import Idealize.ShloMosaic.Lib.Pointwise
public import proofs.«01_k».proof.Proof.Reals
public import proofs.«01_k».proof.Proof.BandRef

@[expose] public section

set_option maxRecDepth 16384

noncomputable section

open Idealize.ShloMosaic Idealize.ShloMosaic.TcCoe Idealize.SL.Sem
open Idealize.ShloMosaic.Pipeline (Dat)

namespace Cert.BandTile

open Cert.Reals Cert.AttnReal Cert.MaskReal Cert.BandReal

/-! Words. -/

theorem width : Scalar.select (Scalar.cmpi CmpIPredicate.eq 128#32 0#32) 1#32 128#32 = 128#32 := rfl
theorem rem_lane (l : Fin 128) : IntOp.remsi ArithUnit.vector (BitVec.ofNat 32 l.val) 128#32 = BitVec.ofNat 32 l.val := by revert l; decide +kernel
theorem lane_lo (l : Fin 128) : IntOp.cmpi CmpIPredicate.slt
    (Scalar.select (IntOp.andi (IntOp.xori (IntOp.cmpi CmpIPredicate.slt (BitVec.ofNat 32 l.val) 0#32) (Scalar.cmpi CmpIPredicate.slt 128#32 0#32))
      (IntOp.cmpi CmpIPredicate.ne (BitVec.ofNat 32 l.val) 0#32)) (IntOp.addi (BitVec.ofNat 32 l.val) 128#32) (BitVec.ofNat 32 l.val)) 64#32
    = BitVec.ofBool (decide (l.val < 64)) := by revert l; decide +kernel
theorem lane_hi (l : Fin 128) : IntOp.xori (BitVec.ofBool (decide (l.val < 64))) 1#1 = BitVec.ofBool (decide (64 ≤ l.val)) := by revert l; decide +kernel

theorem exp_pick (p : Prop) [Decidable p] (s a : ℝ) :
    Ideal.exp (Scalar.select (BitVec.ofBool (decide p)) (s : EReal) ⊥ - (a : EReal)) = ((if p then Real.exp (s - a) else 0 : ℝ) : EReal) := by
  by_cases h : p
  · simp only [h, decide_true, if_true, Scalar.select]
    exact (congrArg Ideal.exp (EReal.coe_sub _ _).symm).trans (Ideal.exp_coe _)
  · simp only [h, decide_false, if_false, Scalar.select]
    rfl

/-! A position on the sequence as a word, and the three comparisons of a query's and a key's. -/

theorem ofNat_ofInt (n : ℕ) : BitVec.ofNat 32 n = BitVec.ofInt 32 (n : ℤ) := by
  apply BitVec.eq_of_toInt_eq; simp [BitVec.toInt_ofInt]

theorem toInt_small (z : ℤ) (h : -2147483648 ≤ z) (h' : z < 2147483648) : (BitVec.ofInt 32 z).toInt = z := by
  rw [BitVec.toInt_ofInt]; exact Int.bmod_eq_of_le (by omega) (by omega)

theorem word_ok (a b L : ℤ) (ha : -100000 ≤ a) (ha' : a ≤ 100000) (hb : -100000 ≤ b) (hb' : b ≤ 100000) (hL : 0 ≤ L) (hL' : L ≤ 100000) :
    IntOp.andi (IntOp.andi (IntOp.andi (IntOp.cmpi CmpIPredicate.sge (BitVec.ofInt 32 b) 0#32) (IntOp.cmpi CmpIPredicate.sle (BitVec.ofInt 32 b) (BitVec.ofInt 32 a)))
      (IntOp.cmpi CmpIPredicate.sle (IntOp.subi (BitVec.ofInt 32 a) (BitVec.ofInt 32 b)) 128#32)) (IntOp.cmpi CmpIPredicate.slt (BitVec.ofInt 32 a) (BitVec.ofInt 32 L))
      = BitVec.ofBool (decide (0 ≤ b ∧ b ≤ a ∧ a - b ≤ 128 ∧ a < L)) := by
  have e : IntOp.subi (BitVec.ofInt 32 a) (BitVec.ofInt 32 b) = BitVec.ofInt 32 (a - b) := by
    show BitVec.ofInt 32 a - BitVec.ofInt 32 b = _
    rw [sub_eq_add_neg a b, BitVec.ofInt_add, BitVec.ofInt_neg, ← BitVec.sub_eq_add_neg]
  rw [e]
  have h1 : IntOp.cmpi CmpIPredicate.sge (BitVec.ofInt 32 b) 0#32 = BitVec.ofBool (decide (0 ≤ b)) := by
    show BitVec.ofBool ((0#32).sle _) = _
    rw [BitVec.sle_eq_decide, toInt_small b (by omega) (by omega)]; rfl
  have h2 : IntOp.cmpi CmpIPredicate.sle (BitVec.ofInt 32 b) (BitVec.ofInt 32 a) = BitVec.ofBool (decide (b ≤ a)) := by
    show BitVec.ofBool (BitVec.sle _ _) = _
    rw [BitVec.sle_eq_decide, toInt_small b (by omega) (by omega), toInt_small a (by omega) (by omega)]
  have h3 : IntOp.cmpi CmpIPredicate.sle (BitVec.ofInt 32 (a - b)) 128#32 = BitVec.ofBool (decide (a - b ≤ 128)) := by
    show BitVec.ofBool (BitVec.sle _ _) = _
    rw [BitVec.sle_eq_decide, toInt_small (a - b) (by omega) (by omega)]; rfl
  have h4 : IntOp.cmpi CmpIPredicate.slt (BitVec.ofInt 32 a) (BitVec.ofInt 32 L) = BitVec.ofBool (decide (a < L)) := by
    show BitVec.ofBool (BitVec.slt _ _) = _
    rw [BitVec.slt_eq_decide, toInt_small a (by omega) (by omega), toInt_small L (by omega) (by omega)]
  rw [h1, h2, h3, h4]
  by_cases p : 0 ≤ b <;> by_cases q : b ≤ a <;> by_cases r : a - b ≤ 128 <;> by_cases s : a < L <;> simp [p, q, r, s, IntOp.andi]

theorem word_at (i r : ℕ) : IntOp.addi (Scalar.muli (BitVec.ofNat 32 i) 128#32) (BitVec.ofNat 32 r) = BitVec.ofInt 32 ((i : ℤ) * 128 + (r : ℤ)) := by
  rw [BitVec.ofInt_add, BitVec.ofInt_mul, ← ofNat_ofInt, ← ofNat_ofInt]; rfl
theorem word_before (i r : ℕ) : IntOp.addi (Scalar.muli (Scalar.subi (BitVec.ofNat 32 i) 1#32) 128#32) (BitVec.ofNat 32 r)
    = BitVec.ofInt 32 (((i : ℤ) - 1) * 128 + (r : ℤ)) := by
  rw [BitVec.ofInt_add, BitVec.ofInt_mul, sub_eq_add_neg (i : ℤ) 1, BitVec.ofInt_add, BitVec.ofInt_neg, ← BitVec.sub_eq_add_neg, ← ofNat_ofInt, ← ofNat_ofInt]; rfl

/-- A load of the lanes from `o` on. -/
theorem ld_cols {R C n k o : ℕ} {e : EltTy} (x : (⟨2, ![R, C]⟩ : Shape).Idx → Elt Ideal e) (inb) (i : Fin n) (l : Fin k) (hi : i.val < R) (h : o + l.val < C) :
    View.ld x (Rect.unit (s := ⟨2, ![R, C]⟩) ![0, o] ![n, k] inb) (ix2 i l) = x (ix2 ⟨i.val, hi⟩ ⟨o + l.val, h⟩) :=
  View.ld_unit_apply_of x _ _ _ _ _ fun a => match a with
    | ⟨0, _⟩ => (Nat.zero_add _).symm
    | ⟨1, _⟩ => rfl

/-! One pair of heads. -/

section tile
variable {n k : ℕ} (Q D O W : Fin n → Fin 128 → ℝ) (K V : Fin k → Fin 128 → ℝ) (b : Fin n → Fin k → Prop) [∀ r, DecidablePred (b r)]

/-- The shares from the saved log-sum, and the gradient of the scores. -/
def bp (a : Fin 2) (r : Fin n) (j : Fin k) : ℝ := if b r j then Real.exp ((∑ d, Q r (lane a d) * K j (lane a d)) - W r (lane a 0)) else 0
def bs (a : Fin 2) (r : Fin n) (j : Fin k) : ℝ :=
  bp Q W K b a r j * ((∑ d, D r (lane a d) * V j (lane a d)) - ∑ d, D r (lane a d) * O r (lane a d))
end tile

/-! The tile's rows as rows of the whole arrays. -/

section whole
variable (X K V : Wide) (D : Quarter)

/-- The saved log-sum of the three groups. -/
def m3 (a : Fin 4) (q : Fin 4096) : ℝ := max (max (ls X K a q 0) (ls X K a q 1)) (ls X K a q 2)
def wt (a : Fin 4) (q : Fin 4096) : ℝ := m3 X K a q + Real.log (∑ g, Real.exp (ls X K a q g - m3 X K a q))

/-- The shares from the saved log-sum are the shares within the group times the group's weight. -/
theorem saved (h q k) (hs : sees h q k) : Real.exp (Sc X K h q k - wt X K (pl h) q) = al X K h q * P X K h q k := by
  have e : Sc X K h q k - wt X K (pl h) q = (Sc X K h q k - lse X K h q) + (ls X K (pl h) q (gr h) - wt X K (pl h) q) := by
    rw [ls, at_pl]; ring
  have h1 : Real.exp (ls X K (pl h) q (gr h) - wt X K (pl h) q) = al X K h q := pr_saved (ls X K (pl h) q) (m3 X K (pl h) q) (gr h)
  have h2 : Real.exp (Sc X K h q k - lse X K h q) = P X K h q k := by
    rw [← P_lse, mw, if_pos hs]
  rw [e, Real.exp_add, h1, h2, mul_comm]

/-- Lane `l` of pair `p` of group `g`, of all heads and of the group's, and the pair's heads. -/
def col (g : Fin 3) (p : Fin 2) (l : Fin 128) : Fin 768 := ⟨g.val * 256 + (p.val * 128 + l.val), by omega⟩
def lcol (p : Fin 2) (l : Fin 128) : Fin 256 := ⟨p.val * 128 + l.val, by omega⟩
def head (g : Fin 3) (p a : Fin 2) : Fin 12 := ⟨g.val * 4 + p.val * 2 + a.val, by omega⟩

theorem lcol_lo (l : Fin 128) (h) : (⟨l.val, h⟩ : Fin 256) = lcol 0 l := Fin.ext (by show l.val = 0 * 128 + l.val; omega)
theorem lcol_hi (l : Fin 128) (h) : (⟨128 + l.val, h⟩ : Fin 256) = lcol 1 l := Fin.ext (by show 128 + l.val = 1 * 128 + l.val; omega)
theorem sum_halves (F : Fin 256 → ℝ) : ∑ j, F j = ∑ x, F (lcol 0 x) + ∑ x, F (lcol 1 x) := by
  rw [show ∑ j, F j = ∑ j : Fin (128 + 128), F j from rfl, Fin.sum_univ_add]
  refine congrArg₂ (· + ·) (Finset.sum_congr rfl fun x _ => congrArg F (Fin.ext ?_)) (Finset.sum_congr rfl fun x _ => congrArg F (Fin.ext ?_))
  · show x.val = 0 * 128 + x.val; omega
  · show 128 + x.val = 1 * 128 + x.val; omega

variable {n k : ℕ} (g : Fin 3) (p : Fin 2) (s : Fin n → Fin 4096) (u : Fin k → Fin 4096)
def tQ (r : Fin n) (l : Fin 128) : ℝ := X (ix2 (s r) (col g p l)) * (1 / 8)
def tK (r : Fin k) (l : Fin 128) : ℝ := K (ix2 (u r) (col g p l))
def tD (r : Fin n) (l : Fin 128) : ℝ := D (ix2 (s r) (lcol p l))
def cm (q : Fin 4096) (l : Fin 256) : ℝ := com X K V ⟨l.val / 64, by omega⟩ q ⟨l.val % 64, by omega⟩
def wl (q : Fin 4096) (l : Fin 256) : ℝ := wt X K ⟨l.val / 64, by omega⟩ q
def tO (r : Fin n) (l : Fin 128) : ℝ := cm X K V (s r) (lcol p l)
def tW (r : Fin n) (l : Fin 128) : ℝ := wl X K (s r) (lcol p l)

theorem col_lane (a : Fin 2) (d : Fin 64) : col g p (lane a d) = hl (head g p a) d :=
  Fin.ext (by show g.val * 256 + (p.val * 128 + (64 * a.val + d.val)) = (g.val * 4 + p.val * 2 + a.val) * 64 + d.val; omega)
theorem lcol_lane (a : Fin 2) (d : Fin 64) : lcol p (lane a d) = ll (pl (head g p a)) d :=
  Fin.ext (by show p.val * 128 + (64 * a.val + d.val) = (g.val * 4 + p.val * 2 + a.val) % 4 * 64 + d.val; omega)
theorem ll_div (a : Fin 4) (d : Fin 64) : (⟨(ll a d).val / 64, by omega⟩ : Fin 4) = a := Fin.ext (by show (a.val * 64 + d.val) / 64 = a.val; omega)
theorem ll_mod (a : Fin 4) (d : Fin 64) : (⟨(ll a d).val % 64, by omega⟩ : Fin 64) = d := Fin.ext (by show (a.val * 64 + d.val) % 64 = d.val; omega)

variable (b : Fin n → Fin k → Prop) [∀ r, DecidablePred (b r)] (hb : ∀ a r j, b r j → sees (head g p a) (s r) (u j))

include hb in
theorem bp_eq (a r j) : bp (tQ X g p s) (tW X K p s) (tK K g p u) b a r j
    = if b r j then al X K (head g p a) (s r) * P X K (head g p a) (s r) (u j) else 0 := by
  unfold bp
  by_cases h : b r j
  · rw [if_pos h, if_pos h, ← saved X K _ _ _ (hb a r j h)]
    simp only [tQ, tK, tW, wl, col_lane, lcol_lane g p, ll_div]
    rfl
  · rw [if_neg h, if_neg h]

include hb in
theorem bs_eq (a r j) : bs (tQ X g p s) (tD D p s) (tO X K V p s) (tW X K p s) (tK K g p u) (tK V g p u) b a r j
    = if b r j then dS X K V D (head g p a) (s r) (u j) else 0 := by
  rw [bs, bp_eq X K g p s u b hb]
  by_cases h : b r j
  · rw [if_pos h, if_pos h]
    simp only [tD, tK, tO, cm, col_lane, lcol_lane g p, ll_div, ll_mod]
    rfl
  · rw [if_neg h, if_neg h, zero_mul]

theorem hd_col (l : Fin 128) : hd (col g p l) = head g p (if l.val < 64 then 0 else 1) := by
  refine Fin.ext ?_
  show (g.val * 256 + (p.val * 128 + l.val)) / 64 = g.val * 4 + p.val * 2 + (if l.val < 64 then (0 : Fin 2) else 1).val
  split
  · show _ = g.val * 4 + p.val * 2 + 0; omega
  · show _ = g.val * 4 + p.val * 2 + 1; omega

theorem dS_out (h q k) (hs : ¬sees h q k) : dS X K V D h q k = 0 := by rw [dS, P_out X K h q k hs, mul_zero, zero_mul]

/-- A sum over a tile's rows of what is nothing where a query does not see a key. -/
theorem sum_tile {n : ℕ} (e : Fin n → Fin 4096) (b : Fin n → Prop) [DecidablePred b] (F : Fin 4096 → ℝ)
    (hi : ∀ i j, b i → b j → e i = e j → i = j) (hs : ∀ k, F k ≠ 0 → ∃ i, b i ∧ e i = k) :
    ∑ i, (if b i then F (e i) else 0) = ∑ k, F k := by
  rw [← Finset.sum_filter]
  refine Finset.sum_of_injOn e (fun i h j h' => hi i j (Finset.mem_filter.1 h).2 (Finset.mem_filter.1 h').2) (fun i _ => Finset.mem_univ _) (fun k _ hk => ?_) (fun i _ => rfl)
  by_contra h0
  obtain ⟨i, h1, h2⟩ := hs k h0
  exact hk ⟨i, Finset.mem_coe.2 (Finset.mem_filter.2 ⟨Finset.mem_univ _, h1⟩), h2⟩

include hb in
/-- The gradient of the queries, from the tile that holds all the keys a query sees. -/
theorem pair_q (hi : ∀ r i j, b r i → b r j → u i = u j → i = j) (hs : ∀ a r k, sees (head g p a) (s r) k → ∃ j, b r j ∧ u j = k) (r : Fin n) (l : Fin 128) :
    (if l.val < 64 then ∑ j, bs (tQ X g p s) (tD D p s) (tO X K V p s) (tW X K p s) (tK K g p u) (tK V g p u) b 0 r j * tK K g p u j l
      else ∑ j, bs (tQ X g p s) (tD D p s) (tO X K V p s) (tW X K p s) (tK K g p u) (tK V g p u) b 1 r j * tK K g p u j l) = gQ X K V D (s r) (col g p l) := by
  simp only [bs_eq X K V D g p s u b hb, ite_mul, zero_mul, gQ, hd_col]
  have key : ∀ a : Fin 2, ∑ j, (if b r j then dS X K V D (head g p a) (s r) (u j) * tK K g p u j l else 0)
      = ∑ k, dS X K V D (head g p a) (s r) k * K (ix2 k (col g p l)) := fun a =>
    sum_tile u (b r) (fun k => dS X K V D (head g p a) (s r) k * K (ix2 k (col g p l))) (hi r)
      (fun k hk => hs a r k (by by_contra h; exact hk (by rw [dS_out X K V D _ _ _ h, zero_mul])))
  rw [key 0, key 1]
  split <;> rfl

include hb in
/-- The gradients of the keys and of the values, from the tile that holds all the queries that see a key. -/
theorem pair_k (hi : ∀ j i r, b i j → b r j → s i = s r → i = r) (hs : ∀ a j q, sees (head g p a) q (u j) → ∃ r, b r j ∧ s r = q) (j : Fin k) (l : Fin 128) :
    (if l.val < 64 then ∑ r, bs (tQ X g p s) (tD D p s) (tO X K V p s) (tW X K p s) (tK K g p u) (tK V g p u) b 0 r j * tQ X g p s r l
      else ∑ r, bs (tQ X g p s) (tD D p s) (tO X K V p s) (tW X K p s) (tK K g p u) (tK V g p u) b 1 r j * tQ X g p s r l) = gK X K V D (u j) (col g p l) := by
  simp only [bs_eq X K V D g p s u b hb, ite_mul, zero_mul, gK, hd_col]
  have key : ∀ a : Fin 2, ∑ r, (if b r j then dS X K V D (head g p a) (s r) (u j) * tQ X g p s r l else 0)
      = ∑ q, dS X K V D (head g p a) q (u j) * (X (ix2 q (col g p l)) * (1 / 8)) := fun a =>
    sum_tile s (fun r => b r j) (fun q => dS X K V D (head g p a) q (u j) * (X (ix2 q (col g p l)) * (1 / 8))) (hi j)
      (fun q hq => hs a j q (by by_contra h; exact hq (by rw [dS_out X K V D _ _ _ h, zero_mul])))
  rw [key 0, key 1]
  split <;> rfl

include hb in
theorem pair_v (hi : ∀ j i r, b i j → b r j → s i = s r → i = r) (hs : ∀ a j q, sees (head g p a) q (u j) → ∃ r, b r j ∧ s r = q) (j : Fin k) (l : Fin 128) :
    (if l.val < 64 then ∑ r, bp (tQ X g p s) (tW X K p s) (tK K g p u) b 0 r j * tD D p s r l
      else ∑ r, bp (tQ X g p s) (tW X K p s) (tK K g p u) b 1 r j * tD D p s r l) = gV X K D (u j) (col g p l) := by
  simp only [bp_eq X K g p s u b hb, ite_mul, zero_mul, gV, hd_col]
  have e : (⟨(col g p l).val % 256, by omega⟩ : Fin 256) = lcol p l :=
    Fin.ext (by show (g.val * 256 + (p.val * 128 + l.val)) % 256 = p.val * 128 + l.val; omega)
  rw [e]
  have key : ∀ a : Fin 2, ∑ r, (if b r j then al X K (head g p a) (s r) * P X K (head g p a) (s r) (u j) * tD D p s r l else 0)
      = ∑ q, al X K (head g p a) q * P X K (head g p a) q (u j) * D (ix2 q (lcol p l)) := fun a =>
    sum_tile s (fun r => b r j) (fun q => al X K (head g p a) q * P X K (head g p a) q (u j) * D (ix2 q (lcol p l))) (hi j)
      (fun q hq => hs a j q (by by_contra h; exact hq (by rw [P_out X K _ _ _ h, mul_zero, zero_mul])))
  rw [key 0, key 1]
  split <;> rfl

end whole

/-! Which keys a query sees, by position within its residue of the dilation. -/

theorem sees_of (h : Fin 12) (q k : Fin 4096) (R ρ a b : ℕ) (hR : dil h = R) (hq : q.val = a * R + ρ) (hk : k.val = b * R + ρ) (hab : b ≤ a) (hd : a ≤ b + 128) :
    sees h q k := by
  obtain ⟨n, rfl⟩ := Nat.exists_eq_add_of_le hab
  have e : q.val - k.val = n * R := by rw [hq, hk, Nat.add_mul]; omega
  have hn : n ≤ 128 := by omega
  refine ⟨by rw [hq, hk, Nat.add_mul]; omega, ?_, ?_⟩
  · rw [e, hR]; exact Nat.mul_le_mul_right R hn
  · rw [e, hR]; exact Nat.mul_mod_left n R

theorem sees_steps (h : Fin 12) (q k : Fin 4096) (R : ℕ) (hR : dil h = R) (hp : 0 < R) (hs : sees h q k) : ∃ n, n ≤ 128 ∧ q.val = k.val + n * R := by
  obtain ⟨h1, h2, h3⟩ := hs
  rw [hR] at h2 h3
  refine ⟨(q.val - k.val) / R, ?_, ?_⟩
  · exact Nat.div_le_of_le_mul (by rw [Nat.mul_comm]; exact h2)
  · rw [Nat.div_mul_cancel (Nat.dvd_of_mod_eq_zero h3)]; omega

end Cert.BandTile

end
-- ==== Proof.BandHost.lean ====
/-
  The values the dilated attention's backward calls read from the host lines before them: the three groups' combined output and its log-sum.
-/
module

public import proofs.«01_k».proof.Proof.Gen.Band0DqKernelIdeal.Value
public import proofs.«01_k».proof.Proof.Gen.Band0DqReferenceIdeal.Run
public import proofs.«01_k».proof.Proof.Gen.Band0DqReferenceIdeal.Read
public import Idealize.ShloMosaic.Lib.Pipeline.ValueKit
public import Idealize.ShloMosaic.Lib.Pointwise
public import proofs.«01_k».proof.Proof.Reals
public import proofs.«01_k».proof.Proof.BandRef
public import proofs.«01_k».proof.Proof.Gen.Band0DqKernelIdeal.Frame
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.BandHost

open Cert.Band0DqKernelIdeal Cert.Band0DqKernelIdeal.Gen Cert.Reals
open Cert.Band0DqReferenceIdeal.Read (val_main_v46 val_main_v53)

section defs
variable {F : FTy → Type} [FloatOps F]

/-- A head's log of the denominator in each of its lanes; the heads' outputs side by side. -/
def spreadL (L : FVec F S12x4096 .f32) : FVec F S4096x768 .f32 :=
  shapeCast S4096x768 (broadcastInDim S4096x12x64 ![0, 1] bcast_S4096x12_S4096x12x64_0_1 (transpose S4096x12 [1, 0] L transposes_S12x4096_S4096x12_1_0)) shapeCasts_S4096x12x64_S4096x768
def spreadO (A : FVec F S4096x12x64 .f32) : FVec F S4096x768 .f32 := shapeCast S4096x768 A shapeCasts_S4096x12x64_S4096x768

/-- The three groups' lanes. -/
def g0 (x : FVec F S4096x768 .f32) : FVec F S4096x256 .f32 := extractStridedSlice S4096x256 ![0, 0] x slices_S4096x768_S4096x256_0_0
def g1 (x : FVec F S4096x768 .f32) : FVec F S4096x256 .f32 := extractStridedSlice S4096x256 ![0, 256] x slices_S4096x768_S4096x256_0_256
def g2 (x : FVec F S4096x768 .f32) : FVec F S4096x256 .f32 := extractStridedSlice S4096x256 ![0, 512] x slices_S4096x768_S4096x256_0_512

def top (l : FVec F S4096x768 .f32) : FVec F S4096x256 .f32 := maximumf (maximumf (g0 l) (g1 l)) (g2 l)
def e0 (l : FVec F S4096x768 .f32) : FVec F S4096x256 .f32 := Host.exp (subf (g0 l) (top l))
def e1 (l : FVec F S4096x768 .f32) : FVec F S4096x256 .f32 := Host.exp (subf (g1 l) (top l))
def e2 (l : FVec F S4096x768 .f32) : FVec F S4096x256 .f32 := Host.exp (subf (g2 l) (top l))
def tot (l : FVec F S4096x768 .f32) : FVec F S4096x256 .f32 := addf (addf (e0 l) (e1 l)) (e2 l)

/-- The combined output, and its log-sum. -/
def mixed (l o : FVec F S4096x768 .f32) : FVec F S4096x256 .f32 :=
  Host.divf (addf (addf (mulf (e0 l) (g0 o)) (mulf (e1 l) (g1 o))) (mulf (e2 l) (g2 o))) (tot l)
def logsum (l : FVec F S4096x768 .f32) : FVec F S4096x256 .f32 := addf (top l) (Host.log (tot l))

/-- The scaled queries, the keys, the values and the memory's scaled queries side by side. -/
def wide (q k v : FVec F S4096x768 .f32) (u : FVec F S4096x256 .f32) : FVec F S4096x2560 .bf16 :=
  truncf .bf16 (concatenate S4096x2560 1 [⟨S4096x768, mulf q (broadcastInDim S4096x768 ![] bcast_S_S4096x768 (constant S_ .f32 0x3E000000#32))⟩,
    ⟨S4096x768, k⟩, ⟨S4096x768, v⟩, ⟨S4096x256, mulf u (broadcastInDim S4096x256 ![] bcast_S_S4096x256 (constant S_ .f32 0x3E000000#32))⟩]
    concatenates_S4096x768_S4096x768_S4096x768_S4096x256_S4096x2560_d1) bitsLt_bf16_f32

variable (x0 x1 x2 : FVec F S4096x768 .f32)
def kO : FVec F S4096x256 .f32 := mixed (spreadL (val_main_v46 x0 x1)) (spreadO (val_main_v53 x0 x1 x2))
def kW : FVec F S4096x256 .f32 := logsum (spreadL (val_main_v46 x0 x1))

end defs

end Cert.BandHost

end
-- ==== Proof.BandSaved.lean ====
/-
  What the host tables of the dilated attention hold in real numbers: the combined output, its log-sum, and the wide table of queries, keys and values.
-/
module

public import proofs.«01_k».proof.Proof.Gen.Band0DqKernelIdeal.Value
public import proofs.«01_k».proof.Proof.Gen.Band0DqReferenceIdeal.Run
public import proofs.«01_k».proof.Proof.Gen.Band0DqReferenceIdeal.Read
public import Idealize.ShloMosaic.Lib.Pipeline.ValueKit
public import Idealize.ShloMosaic.Lib.Pointwise
public import proofs.«01_k».proof.Proof.Reals
public import proofs.«01_k».proof.Proof.BandTile
public import proofs.«01_k».proof.Proof.BandHost

@[expose] public section

set_option maxRecDepth 16384

noncomputable section

open Idealize.ShloMosaic Idealize.ShloMosaic.TcCoe Idealize.SL.Sem
open Idealize.ShloMosaic.Pipeline (Dat)

namespace Cert.BandHost

open Cert.Band0DqKernelIdeal Cert.Band0DqKernelIdeal.Gen Cert.Reals Cert.AttnReal Cert.BandReal Cert.BandTile
open Cert.Band0DqReferenceIdeal.Read (val_main_v46 val_main_v53)
open Cert.Band0DqReferenceIdeal.Hand (up r46 r53)

section generic
variable {F : FTy → Type} [FloatOps F]
theorem mixed_apply (l o : FVec F S4096x768 .f32) (i : S4096x256.Idx) : mixed l o i
    = FloatOps.hostDivf (FloatOps.addf (FloatOps.addf (FloatOps.mulf (e0 l i) (g0 o i)) (FloatOps.mulf (e1 l i) (g1 o i))) (FloatOps.mulf (e2 l i) (g2 o i))) (tot l i) := rfl
theorem logsum_apply (l : FVec F S4096x768 .f32) (i : S4096x256.Idx) : logsum l i = FloatOps.addf (top l i) (FloatOps.hostUnary .log (tot l i)) := rfl
theorem tot_apply (l : FVec F S4096x768 .f32) (i : S4096x256.Idx) : tot l i = FloatOps.addf (FloatOps.addf (e0 l i) (e1 l i)) (e2 l i) := rfl
theorem e0_apply (l : FVec F S4096x768 .f32) (i : S4096x256.Idx) : e0 l i = FloatOps.hostUnary .exp (FloatOps.subf (g0 l i) (top l i)) := rfl
theorem e1_apply (l : FVec F S4096x768 .f32) (i : S4096x256.Idx) : e1 l i = FloatOps.hostUnary .exp (FloatOps.subf (g1 l i) (top l i)) := rfl
theorem e2_apply (l : FVec F S4096x768 .f32) (i : S4096x256.Idx) : e2 l i = FloatOps.hostUnary .exp (FloatOps.subf (g2 l i) (top l i)) := rfl
theorem top_apply (l : FVec F S4096x768 .f32) (i : S4096x256.Idx) : top l i = FloatOps.maximumf (FloatOps.maximumf (g0 l i) (g1 l i)) (g2 l i) := rfl
end generic

theorem max_real (a b : ℝ) : FloatOps.maximumf (F := Ideal) (φ := .f32) ((a : ℝ) : EReal) ((b : ℝ) : EReal) = ((max a b : ℝ) : EReal) := by
  exact (EReal.coe_strictMono.monotone.map_max (a := a) (b := b)).symm

section spread
variable (L : FVec Ideal S12x4096 .f32) (A : FVec Ideal S4096x12x64 .f32) (s : Fin 4096) (l : Fin 256)
theorem sl0 : g0 (spreadL L) (ix2 s l) = L (ix2 (at' ⟨l.val / 64, by omega⟩ 0) s) := by
  have e : at' ⟨l.val / 64, by omega⟩ 0 = (⟨l.val / 64, by omega⟩ : Fin 12) := Fin.ext (by show 0 * 4 + l.val / 64 = l.val / 64; omega)
  rw [e]; pointwise [g0, spreadL]
theorem sl1 : g1 (spreadL L) (ix2 s l) = L (ix2 (at' ⟨l.val / 64, by omega⟩ 1) s) := by
  have e : at' ⟨l.val / 64, by omega⟩ 1 = (⟨(256 + l.val) / 64, by omega⟩ : Fin 12) := Fin.ext (by show 1 * 4 + l.val / 64 = (256 + l.val) / 64; omega)
  rw [e]; pointwise [g1, spreadL]
theorem sl2 : g2 (spreadL L) (ix2 s l) = L (ix2 (at' ⟨l.val / 64, by omega⟩ 2) s) := by
  have e : at' ⟨l.val / 64, by omega⟩ 2 = (⟨(512 + l.val) / 64, by omega⟩ : Fin 12) := Fin.ext (by show 2 * 4 + l.val / 64 = (512 + l.val) / 64; omega)
  rw [e]; pointwise [g2, spreadL]
theorem so0 : g0 (spreadO A) (ix2 s l) = A (ix3 s (at' ⟨l.val / 64, by omega⟩ 0) ⟨l.val % 64, by omega⟩) := by
  have e : at' ⟨l.val / 64, by omega⟩ 0 = (⟨l.val / 64, by omega⟩ : Fin 12) := Fin.ext (by show 0 * 4 + l.val / 64 = l.val / 64; omega)
  rw [e]; pointwise [g0, spreadO]
theorem so1 : g1 (spreadO A) (ix2 s l) = A (ix3 s (at' ⟨l.val / 64, by omega⟩ 1) ⟨l.val % 64, by omega⟩) := by
  have e : at' ⟨l.val / 64, by omega⟩ 1 = (⟨(256 + l.val) / 64, by omega⟩ : Fin 12) := Fin.ext (by show 1 * 4 + l.val / 64 = (256 + l.val) / 64; omega)
  have e' : (⟨l.val % 64, by omega⟩ : Fin 64) = ⟨(256 + l.val) % 64, by omega⟩ := Fin.ext (by show l.val % 64 = (256 + l.val) % 64; omega)
  rw [e, e']; pointwise [g1, spreadO]
theorem so2 : g2 (spreadO A) (ix2 s l) = A (ix3 s (at' ⟨l.val / 64, by omega⟩ 2) ⟨l.val % 64, by omega⟩) := by
  have e : at' ⟨l.val / 64, by omega⟩ 2 = (⟨(512 + l.val) / 64, by omega⟩ : Fin 12) := Fin.ext (by show 2 * 4 + l.val / 64 = (512 + l.val) / 64; omega)
  have e' : (⟨l.val % 64, by omega⟩ : Fin 64) = ⟨(512 + l.val) % 64, by omega⟩ := Fin.ext (by show l.val % 64 = (512 + l.val) % 64; omega)
  rw [e, e']; pointwise [g2, spreadO]
end spread

section real
variable (X K V : Wide) (s : Fin 4096) (l : Fin 256)

theorem top_real : top (F := Ideal) (spreadL (F := Ideal) (val_main_v46 (F := Ideal) (up X) (up K))) (ix2 s l) = ((m3 X K ⟨l.val / 64, by omega⟩ s : ℝ) : EReal) := by
  rw [top_apply, sl0, sl1, sl2, r46, r46, r46, max_real, max_real]
  rfl

theorem exp_real (a b : ℝ) : FloatOps.hostUnary (F := Ideal) (φ := .f32) .exp (FloatOps.subf (F := Ideal) (φ := .f32) ((a : ℝ) : EReal) ((b : ℝ) : EReal)) = ((Real.exp (a - b) : ℝ) : EReal) := rfl

theorem e0_real : e0 (F := Ideal) (spreadL (F := Ideal) (val_main_v46 (F := Ideal) (up X) (up K))) (ix2 s l)
    = ((Real.exp (ls X K ⟨l.val / 64, by omega⟩ s 0 - m3 X K ⟨l.val / 64, by omega⟩ s) : ℝ) : EReal) := by
  rw [e0_apply, sl0, top_real, r46, exp_real]; rfl
theorem e1_real : e1 (F := Ideal) (spreadL (F := Ideal) (val_main_v46 (F := Ideal) (up X) (up K))) (ix2 s l)
    = ((Real.exp (ls X K ⟨l.val / 64, by omega⟩ s 1 - m3 X K ⟨l.val / 64, by omega⟩ s) : ℝ) : EReal) := by
  rw [e1_apply, sl1, top_real, r46, exp_real]; rfl
theorem e2_real : e2 (F := Ideal) (spreadL (F := Ideal) (val_main_v46 (F := Ideal) (up X) (up K))) (ix2 s l)
    = ((Real.exp (ls X K ⟨l.val / 64, by omega⟩ s 2 - m3 X K ⟨l.val / 64, by omega⟩ s) : ℝ) : EReal) := by
  rw [e2_apply, sl2, top_real, r46, exp_real]; rfl
theorem tot_real : tot (F := Ideal) (spreadL (F := Ideal) (val_main_v46 (F := Ideal) (up X) (up K))) (ix2 s l)
    = ((∑ g, Real.exp (ls X K ⟨l.val / 64, by omega⟩ s g - m3 X K ⟨l.val / 64, by omega⟩ s) : ℝ) : EReal) := by
  rw [tot_apply, e0_real, e1_real, e2_real, Fin.sum_univ_three]; rfl

theorem kW_real : kW (F := Ideal) (up X) (up K) (ix2 s l) = ((wl X K s l : ℝ) : EReal) := by
  unfold kW
  rw [logsum_apply, top_real, tot_real]
  exact (congrArg (fun z => ((m3 X K ⟨l.val / 64, by omega⟩ s : ℝ) : EReal) + z) (log_sum_exp (n := 3) _ _)).trans (EReal.coe_add _ _).symm

theorem kO_real : kO (F := Ideal) (up X) (up K) (up V) (ix2 s l) = ((cm X K V s l : ℝ) : EReal) := by
  unfold kO
  rw [mixed_apply, e0_real, e1_real, e2_real, tot_real, so0, so1, so2, r53, r53, r53]
  have hz := (denom_pos (ls X K ⟨l.val / 64, by omega⟩ s) (m3 X K ⟨l.val / 64, by omega⟩ s)).ne'
  refine Eq.trans (b := Ideal.div ((((_ * _ : ℝ) + (_ * _ : ℝ)) + (_ * _ : ℝ) : ℝ) : EReal) ((_ : ℝ) : EReal)) rfl ?_
  rw [Ideal.div_coe hz]
  simp only [← EReal.coe_mul]
  refine congrArg _ ?_
  have hc : cm X K V s l = pr (ls X K ⟨l.val / 64, by omega⟩ s) 0 * att X K V (at' ⟨l.val / 64, by omega⟩ 0) s ⟨l.val % 64, by omega⟩
      + pr (ls X K ⟨l.val / 64, by omega⟩ s) 1 * att X K V (at' ⟨l.val / 64, by omega⟩ 1) s ⟨l.val % 64, by omega⟩
      + pr (ls X K ⟨l.val / 64, by omega⟩ s) 2 * att X K V (at' ⟨l.val / 64, by omega⟩ 2) s ⟨l.val % 64, by omega⟩ := by
    rw [cm, com]; exact Fin.sum_univ_three _
  rw [hc]
  simp only [← pr_shift (ls X K ⟨l.val / 64, by omega⟩ s) (m3 X K ⟨l.val / 64, by omega⟩ s)]
  ring
end real

section wide
variable (X K V : Wide) (u : FVec Ideal S4096x256 .f32) (s : Fin 4096) (l : Fin 768)
theorem wide_q : wide (up X) (up K) (up V) u (ix2 s ⟨l.val, by omega⟩) = ((X (ix2 s l) * (1 / 8) : ℝ) : EReal) := by
  have h : l.val < 768 := l.isLt
  pointwise [wide]
  simp only [up, c_eighth, ← EReal.coe_mul, dif_pos h]
theorem wide_k : wide (up X) (up K) (up V) u (ix2 s ⟨768 + l.val, by omega⟩) = ((K (ix2 s l) : ℝ) : EReal) := by
  have h : ¬(768 + l.val < 768) := by omega
  have h2 : 768 + l.val - 768 < 768 := by omega
  pointwise [wide]
  simp [up, c_eighth, h, h2]
theorem wide_v : wide (up X) (up K) (up V) u (ix2 s ⟨1536 + l.val, by omega⟩) = ((V (ix2 s l) : ℝ) : EReal) := by
  pointwise [wide]
  have h : ¬(1536 + l.val < 768) := by omega
  have h2 : ¬(1536 + l.val - 768 < 768) := by omega
  have h3 : 1536 + l.val - 768 - 768 < 768 := by omega
  have h4 : (⟨1536 + l.val - 768 - 768, h3⟩ : Fin 768) = l := Fin.ext (by show 1536 + l.val - 768 - 768 = l.val; omega)
  simp [up, c_eighth, h, h2, h3, h4]
end wide

end Cert.BandHost

end
-- ==== Proof.Band0Dq.lean ====
/-
  The gradient of the queries of the dilated attention's group of dilation 1: the kernel works on tiles of 128 queries of one residue against the 256 keys up to them.
-/
module

public import proofs.«01_k».proof.Proof.Gen.Band0DqKernelIdeal.Value
public import proofs.«01_k».proof.Proof.Gen.Band0DqReferenceIdeal.Run
public import proofs.«01_k».proof.Proof.Gen.Band0DqReferenceIdeal.Read
public import Idealize.ShloMosaic.Lib.Pipeline.ValueKit
public import Idealize.ShloMosaic.Lib.Pointwise
public import proofs.«01_k».proof.Proof.Reals
public import proofs.«01_k».proof.Proof.BandSaved
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Band0DqKernelIdeal.Hand

open Cert.Band0DqKernelIdeal Cert.Band0DqKernelIdeal.Gen Cert.Reals Cert.AttnReal Cert.BandReal Cert.BandTile Cert.BandHost
open Cert.Band0DqReferenceIdeal.Hand (up)

theorem mask_named : (Named.named κ "mask" 4048155338#32 : Ideal .f32) = (⊥ : EReal) := rfl

section pair
variable (ok : IVec S128x256 1) (q : FVec Ideal S128x128 .bf16) (k1 k2 v1 v2 : FVec Ideal S128x256 .bf16) (w d o : FVec Ideal S128x128 .f32)

/-- One pair of heads' gradient of the queries, from the lanes of the first pair and of the second. -/
def pLo : FVec Ideal S128x128 .f32 :=
  k0_pay19 ok (k0_pay4 q) (k0_pay5 k1 k2) (k0_pay6 v1 v2) (k0_pay7 w) (k0_pay11 d o) (k0_pay12 d) (k0_pay16 ok (k0_pay4 q) (k0_pay5 k1 k2) (k0_pay6 v1 v2) (k0_pay7 w) (k0_pay10 d o) (k0_pay12 d) (k0_pay13 (F := Ideal)) (Scalar.select (Scalar.cmpi .eq 128#32 0#32) 1#32 128#32) k0_pay14 k0_pay15) (Scalar.select (Scalar.cmpi .eq 128#32 0#32) 1#32 128#32) k0_pay17 k0_pay18 0#32
def pHi : FVec Ideal S128x128 .f32 :=
  k0_pay31 ok (k0_pay20 q) (k0_pay21 (k0_pay2 k1 k2)) (k0_pay22 (k0_pay3 v1 v2)) (k0_pay23 w) (k0_pay27 d o) (k0_pay28 d) (k0_pay30 ok (k0_pay20 q) (k0_pay21 (k0_pay2 k1 k2)) (k0_pay22 (k0_pay3 v1 v2)) (k0_pay23 w) (k0_pay26 d o) (k0_pay28 d) (k0_pay29 (F := Ideal)) (iota .tc S1x128 32 [1] iota_S1x128_d1_w32) 128#32 (Scalar.cmpi .eq 128#32 0#32)) (iota .tc S1x128 32 [1] iota_S1x128_d1_w32) 128#32 (Scalar.cmpi .eq 128#32 0#32) 1#32

variable (b : Fin 128 → Fin 256 → Prop) [∀ r, DecidablePred (b r)] (Q D O W : Fin 128 → Fin 128 → ℝ) (KK VV : Fin 256 → Fin 256 → ℝ)
  (hok : ∀ r c, ok (ix2 r c) = BitVec.ofBool (decide (b r c)))
  (hq : ∀ r l, q (ix2 r l) = ((Q r l : ℝ) : EReal)) (hd : ∀ r l, d (ix2 r l) = ((D r l : ℝ) : EReal))
  (ho : ∀ r l, o (ix2 r l) = ((O r l : ℝ) : EReal)) (hw : ∀ r l, w (ix2 r l) = ((W r l : ℝ) : EReal))
  (hk1 : ∀ (c : Fin 128) (l : Fin 256), k1 (ix2 c l) = ((KK (lcol 0 c) l : ℝ) : EReal)) (hk2 : ∀ (c : Fin 128) (l : Fin 256), k2 (ix2 c l) = ((KK (lcol 1 c) l : ℝ) : EReal))
  (hv1 : ∀ (c : Fin 128) (l : Fin 256), v1 (ix2 c l) = ((VV (lcol 0 c) l : ℝ) : EReal)) (hv2 : ∀ (c : Fin 128) (l : Fin 256), v2 (ix2 c l) = ((VV (lcol 1 c) l : ℝ) : EReal))
include hok hq hd ho hw hk1 hk2 hv1 hv2

theorem pLo_eq (r l) : pLo ok q k1 k2 v1 v2 w d o (ix2 r l)
    = ((if l.val < 64 then ∑ j, bs Q D O W (fun c l => KK c (lcol 0 l)) (fun c l => VV c (lcol 0 l)) b 0 r j * KK j (lcol 0 l)
        else ∑ j, bs Q D O W (fun c l => KK c (lcol 0 l)) (fun c l => VV c (lcol 0 l)) b 1 r j * KK j (lcol 0 l) : ℝ) : EReal) := by
  pointwise [pLo, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  simp only [width, rem_lane, lane_lo, lane_hi, lcol_lo, lcol_hi, hok, hq, hd, ho, hw, hk1, hk2, hv1, hv2, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, sum_halves]; rfl
  · simp only [h, if_false, Finset.sum_const_zero, zero_add, sum_halves]; rfl

theorem pHi_eq (r l) : pHi ok q k1 k2 v1 v2 w d o (ix2 r l)
    = ((if l.val < 64 then ∑ j, bs Q D O W (fun c l => KK c (lcol 1 l)) (fun c l => VV c (lcol 1 l)) b 0 r j * KK j (lcol 1 l)
        else ∑ j, bs Q D O W (fun c l => KK c (lcol 1 l)) (fun c l => VV c (lcol 1 l)) b 1 r j * KK j (lcol 1 l) : ℝ) : EReal) := by
  pointwise [pHi, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  simp only [width, rem_lane, lane_lo, lane_hi, lcol_lo, lcol_hi, hok, hq, hd, ho, hw, hk1, hk2, hv1, hv2, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, sum_halves]; rfl
  · simp only [h, if_false, Finset.sum_const_zero, zero_add, sum_halves]; rfl

end pair

section host
variable {F : FTy → Type} [FloatOps F] [Named F]
variable (m : (ℓ : Loc nD τ sig) → Buf (Elt F) ℓ) (c : Dev nD)

/-! What the host lines before the call leave in the arrays the call reads. -/

set_option maxHeartbeats 4000000 in
theorem V_x : V m c main_v80 = (wide (m (c, Proc.tc.devRef main_arg0)) (m (c, Proc.tc.devRef main_arg1)) (m (c, Proc.tc.devRef main_arg2)) (m (c, Proc.tc.devRef main_arg3))) := by
  unfold V
  after_reads_simp
  rfl
set_option maxHeartbeats 4000000 in
theorem V_o : V m c main_v74 = (kO (m (c, Proc.tc.devRef main_arg0)) (m (c, Proc.tc.devRef main_arg1)) (m (c, Proc.tc.devRef main_arg2))) := by
  unfold V
  after_reads_simp
  rfl
set_option maxHeartbeats 4000000 in
theorem V_w : V m c main_v76 = (kW (m (c, Proc.tc.devRef main_arg0)) (m (c, Proc.tc.devRef main_arg1))) := by
  unfold V
  after_reads_simp
  rfl
set_option maxHeartbeats 4000000 in
theorem V_d : V m c main_arg4 = (m (c, Proc.tc.devRef main_arg4)) := by
  unfold V
  after_reads_simp

/-! A window block is a part of its array. -/

theorem iblk_0 (t : Fin cfg0.N) (y : S128x256.Idx) : iblk m c 0 t y = V m c main_v80 (((cfg0.win 0).blk t).view.emb y) := rfl
theorem iblk_1 (t : Fin cfg0.N) (y : S128x256.Idx) : iblk m c 1 t y = V m c main_v80 (((cfg0.win 1).blk t).view.emb y) := rfl
theorem iblk_2 (t : Fin cfg0.N) (y : S128x256.Idx) : iblk m c 2 t y = V m c main_v80 (((cfg0.win 2).blk t).view.emb y) := rfl
theorem iblk_3 (t : Fin cfg0.N) (y : S128x256.Idx) : iblk m c 3 t y = V m c main_v80 (((cfg0.win 3).blk t).view.emb y) := rfl
theorem iblk_4 (t : Fin cfg0.N) (y : S128x256.Idx) : iblk m c 4 t y = V m c main_v80 (((cfg0.win 4).blk t).view.emb y) := rfl
theorem iblk_5 (t : Fin cfg0.N) (y : S128x256.Idx) : iblk m c 5 t y = V m c main_arg4 (((cfg0.win 5).blk t).view.emb y) := rfl
theorem iblk_6 (t : Fin cfg0.N) (y : S128x256.Idx) : iblk m c 6 t y = V m c main_v74 (((cfg0.win 6).blk t).view.emb y) := rfl
theorem iblk_7 (t : Fin cfg0.N) (y : S128x256.Idx) : iblk m c 7 t y = V m c main_v76 (((cfg0.win 7).blk t).view.emb y) := rfl
end host

/-! Position `a` of residue `ρ` of the dilation, as a row of the whole arrays. -/

def at_ (a : ℕ) (ρ : ℕ) (h : a < 4096 ∧ ρ < 1) : Fin 4096 := ⟨a * 1 + ρ, by omega⟩

theorem at_2560 {e : EltTy} (A : S4096x2560.Idx → Elt Ideal e) (a ρ : ℕ) (h : a < 4096 ∧ ρ < 1) (z : Fin 2560) :
    A (ix2 ⟨a, h.1⟩ ⟨ρ * 2560 + z.val, by omega⟩) = A (ix2 (at_ a ρ h) z) := by
  refine congrArg A (congrArg₂ ix2 (Fin.ext ?_) (Fin.ext ?_))
  · show a = a * 1 + ρ; omega
  · show ρ * 2560 + z.val = z.val; omega

theorem at_256 {e : EltTy} (A : S4096x256.Idx → Elt Ideal e) (a ρ : ℕ) (h : a < 4096 ∧ ρ < 1) (z : Fin 256) :
    A (ix2 ⟨a, h.1⟩ ⟨ρ * 256 + z.val, by omega⟩) = A (ix2 (at_ a ρ h) z) := by
  refine congrArg A (congrArg₂ ix2 (Fin.ext ?_) (Fin.ext ?_))
  · show a = a * 1 + ρ; omega
  · show ρ * 256 + z.val = z.val; omega

/-! The grid: point `t` is row block `t % 32` of residue `t / 32`. -/

theorem lt_t (t : Fin cfg0.N) : t.val < 32 := lt_of_lt_of_eq t.isLt N_0
theorem coord (t : Fin cfg0.N) : (grid0.coords t 1).val = t.val % 32 :=
  (by decide +kernel : ∀ t : Fin grid0.N, (grid0.coords t 1).val = t.val % 32) t
theorem idx : ∀ t : Fin cfg0.N, win0_0.index t = ![t.val % 32, t.val / 32 * 10 + 0] ∧ win0_1.index t = ![t.val % 32 - 1, t.val / 32 * 10 + 3]
    ∧ win0_2.index t = ![t.val % 32, t.val / 32 * 10 + 3] ∧ win0_3.index t = ![t.val % 32 - 1, t.val / 32 * 10 + 6]
    ∧ win0_4.index t = ![t.val % 32, t.val / 32 * 10 + 6] ∧ win0_5.index t = ![t.val % 32, t.val / 32] ∧ win0_6.index t = ![t.val % 32, t.val / 32]
    ∧ win0_7.index t = ![t.val % 32, t.val / 32] ∧ win0_8.index t = ![t.val % 32, t.val / 32] :=
  (by decide +kernel : ∀ t : Fin grid0.N, _)

/-- The rows of a tile's queries, of the keys of the block before, of the block's own, and of both together. -/
def sq (t : Fin cfg0.N) (r : Fin 128) : Fin 4096 := at_ (t.val % 32 * 128 + r.val) (t.val / 32) (by have := lt_t t; omega)
def sp (t : Fin cfg0.N) (r : Fin 128) : Fin 4096 := at_ ((t.val % 32 - 1) * 128 + r.val) (t.val / 32) (by have := lt_t t; omega)
def su (t : Fin cfg0.N) (j : Fin 256) : Fin 4096 :=
  if h : j.val < 128 then sp t ⟨j.val, h⟩ else sq t ⟨j.val - 128, by omega⟩

/-- Which of the tile's keys a query sees. -/
def ok (t : Fin cfg0.N) (r : Fin 128) (j : Fin 256) : Prop := 128 ≤ t.val % 32 * 128 + j.val ∧ r.val ≤ j.val ∧ j.val ≤ r.val + 128
instance (t : Fin cfg0.N) (r : Fin 128) : DecidablePred (ok t r) := fun j => by unfold ok; infer_instance

theorem ok_word (t : Fin cfg0.N) (r j) : k0_pay1 (grid0.coords t) (ix2 r j) = BitVec.ofBool (decide (ok t r j)) := by
  pointwise [k0_pay1]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 4096)))
      (word_at (t.val % 32) r.val) (word_before (t.val % 32) j.val)).trans ?_
  rw [word_ok _ _ _ (by omega) (by omega) (by omega) (by omega) (by omega) (by omega)]
  refine congrArg _ (decide_eq_decide.2 ?_)
  unfold ok
  omega

theorem su_ok (t : Fin cfg0.N) (r j) (h : ok t r j) : (su t j).val = (t.val % 32 * 128 + j.val - 128) * 1 + t.val / 32 := by
  obtain ⟨h1, h2, h3⟩ := h
  unfold su
  split
  · show ((t.val % 32 - 1) * 128 + j.val) * 1 + t.val / 32 = _; omega
  · show (t.val % 32 * 128 + (j.val - 128)) * 1 + t.val / 32 = _; omega

theorem dil_head (p a : Fin 2) : dil (head 0 p a) = 1 := by revert p a; decide

theorem ok_sees (t : Fin cfg0.N) (p a r j) (h : ok t r j) : sees (head 0 p a) (sq t r) (su t j) := by
  have h' := h
  obtain ⟨h1, h2, h3⟩ := h'
  exact sees_of _ _ _ 1 (t.val / 32) (t.val % 32 * 128 + r.val) (t.val % 32 * 128 + j.val - 128) (dil_head p a) rfl (su_ok t r j h) (by omega) (by omega)

theorem ok_inj (t : Fin cfg0.N) (r i j) (h : ok t r i) (h' : ok t r j) (e : su t i = su t j) : i = j := by
  have e' := congrArg Fin.val e
  rw [su_ok t r i h, su_ok t r j h'] at e'
  obtain ⟨h1, h2, h3⟩ := h
  obtain ⟨h4, h5, h6⟩ := h'
  exact Fin.ext (by omega)

theorem ok_all (t : Fin cfg0.N) (p a r k) (h : sees (head 0 p a) (sq t r) k) : ∃ j, ok t r j ∧ su t j = k := by
  obtain ⟨n, hn, e⟩ := sees_steps _ _ _ 1 (dil_head p a) (by decide) h
  have e' : (t.val % 32 * 128 + r.val) * 1 + t.val / 32 = k.val + n * 1 := e
  have ht := lt_t t
  have hk : ok t r ⟨r.val + 128 - n, by omega⟩ := by
    refine ⟨?_, ?_, ?_⟩
    · show 128 ≤ t.val % 32 * 128 + (r.val + 128 - n); omega
    · show r.val ≤ r.val + 128 - n; omega
    · show r.val + 128 - n ≤ r.val + 128; omega
  refine ⟨_, hk, Fin.ext ?_⟩
  rw [su_ok t r _ hk]
  show (t.val % 32 * 128 + (r.val + 128 - n) - 128) * 1 + t.val / 32 = k.val
  omega

section arrays
variable (m : (ℓ : Loc nD τ sig) → Buf (Elt Ideal) ℓ) (c : Dev nD) (X K V' : Wide) (D : Quarter)
  (hx : m ((c : Thread nD τ).loc main_arg0) = up X) (hk : m ((c : Thread nD τ).loc main_arg1) = up K)
  (hv : m ((c : Thread nD τ).loc main_arg2) = up V') (hd : m ((c : Thread nD τ).loc main_arg4) = up D)

include hx hk hv in
theorem tile_q (t : Fin cfg0.N) (r : Fin 128) (l : Fin 256) : iblk m c 0 t (ix2 r l) = ((X (ix2 (sq t r) ⟨0 * 256 + l.val, by omega⟩) * (1 / 8) : ℝ) : EReal) := by
  have ht := lt_t t
  have e : ((cfg0.win 0).blk t).view.emb (ix2 r l) = (ix2 ⟨t.val % 32 * 128 + r.val, by omega⟩ ⟨t.val / 32 * 2560 + (⟨(0 * 256 + l.val), by omega⟩ : Fin 2560).val, by show _ + ((0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_0, e, V_x, h0, h1, h2]
  exact (at_2560 (e := .bf16) (wide (F := Ideal) (up X) (up K) (up V') (m (c, Proc.tc.devRef main_arg3))) (t.val % 32 * 128 + r.val) (t.val / 32) (by omega) (⟨(0 * 256 + l.val), by omega⟩ : Fin 2560)).trans (wide_q X K V' _ _ (⟨0 * 256 + l.val, by omega⟩ : Fin 768))

include hx hk hv in
theorem tile_k1 (t : Fin cfg0.N) (r : Fin 128) (l : Fin 256) : iblk m c 1 t (ix2 r l) = ((K (ix2 (sp t r) ⟨0 * 256 + l.val, by omega⟩) : ℝ) : EReal) := by
  have ht := lt_t t
  have e : ((cfg0.win 1).blk t).view.emb (ix2 r l) = (ix2 ⟨(t.val % 32 - 1) * 128 + r.val, by omega⟩ ⟨t.val / 32 * 2560 + (⟨768 + (0 * 256 + l.val), by omega⟩ : Fin 2560).val, by show _ + (768 + (0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_1, e, V_x, h0, h1, h2]
  exact (at_2560 (e := .bf16) (wide (F := Ideal) (up X) (up K) (up V') (m (c, Proc.tc.devRef main_arg3))) ((t.val % 32 - 1) * 128 + r.val) (t.val / 32) (by omega) (⟨768 + (0 * 256 + l.val), by omega⟩ : Fin 2560)).trans (wide_k X K V' _ _ (⟨0 * 256 + l.val, by omega⟩ : Fin 768))

include hx hk hv in
theorem tile_k2 (t : Fin cfg0.N) (r : Fin 128) (l : Fin 256) : iblk m c 2 t (ix2 r l) = ((K (ix2 (sq t r) ⟨0 * 256 + l.val, by omega⟩) : ℝ) : EReal) := by
  have ht := lt_t t
  have e : ((cfg0.win 2).blk t).view.emb (ix2 r l) = (ix2 ⟨t.val % 32 * 128 + r.val, by omega⟩ ⟨t.val / 32 * 2560 + (⟨768 + (0 * 256 + l.val), by omega⟩ : Fin 2560).val, by show _ + (768 + (0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_2, e, V_x, h0, h1, h2]
  exact (at_2560 (e := .bf16) (wide (F := Ideal) (up X) (up K) (up V') (m (c, Proc.tc.devRef main_arg3))) (t.val % 32 * 128 + r.val) (t.val / 32) (by omega) (⟨768 + (0 * 256 + l.val), by omega⟩ : Fin 2560)).trans (wide_k X K V' _ _ (⟨0 * 256 + l.val, by omega⟩ : Fin 768))

include hx hk hv in
theorem tile_v1 (t : Fin cfg0.N) (r : Fin 128) (l : Fin 256) : iblk m c 3 t (ix2 r l) = ((V' (ix2 (sp t r) ⟨0 * 256 + l.val, by omega⟩) : ℝ) : EReal) := by
  have ht := lt_t t
  have e : ((cfg0.win 3).blk t).view.emb (ix2 r l) = (ix2 ⟨(t.val % 32 - 1) * 128 + r.val, by omega⟩ ⟨t.val / 32 * 2560 + (⟨1536 + (0 * 256 + l.val), by omega⟩ : Fin 2560).val, by show _ + (1536 + (0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_3, e, V_x, h0, h1, h2]
  exact (at_2560 (e := .bf16) (wide (F := Ideal) (up X) (up K) (up V') (m (c, Proc.tc.devRef main_arg3))) ((t.val % 32 - 1) * 128 + r.val) (t.val / 32) (by omega) (⟨1536 + (0 * 256 + l.val), by omega⟩ : Fin 2560)).trans (wide_v X K V' _ _ (⟨0 * 256 + l.val, by omega⟩ : Fin 768))

include hx hk hv in
theorem tile_v2 (t : Fin cfg0.N) (r : Fin 128) (l : Fin 256) : iblk m c 4 t (ix2 r l) = ((V' (ix2 (sq t r) ⟨0 * 256 + l.val, by omega⟩) : ℝ) : EReal) := by
  have ht := lt_t t
  have e : ((cfg0.win 4).blk t).view.emb (ix2 r l) = (ix2 ⟨t.val % 32 * 128 + r.val, by omega⟩ ⟨t.val / 32 * 2560 + (⟨1536 + (0 * 256 + l.val), by omega⟩ : Fin 2560).val, by show _ + (1536 + (0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_4, e, V_x, h0, h1, h2]
  exact (at_2560 (e := .bf16) (wide (F := Ideal) (up X) (up K) (up V') (m (c, Proc.tc.devRef main_arg3))) (t.val % 32 * 128 + r.val) (t.val / 32) (by omega) (⟨1536 + (0 * 256 + l.val), by omega⟩ : Fin 2560)).trans (wide_v X K V' _ _ (⟨0 * 256 + l.val, by omega⟩ : Fin 768))

omit hx hk hv hd in
theorem tile_d_of (A : S4096x256.Idx → Elt Ideal .f32) (f : Fin 4096 → Fin 256 → ℝ) (hA : ∀ s l, A (ix2 s l) = ((f s l : ℝ) : EReal))
    (h : V m c main_arg4 = A) (t : Fin cfg0.N) (r : Fin 128) (l : Fin 256) : iblk m c 5 t (ix2 r l) = ((f (sq t r) l : ℝ) : EReal) := by
  have ht := lt_t t
  have e : ((cfg0.win 5).blk t).view.emb (ix2 r l) = (ix2 ⟨t.val % 32 * 128 + r.val, by omega⟩ ⟨t.val / 32 * 256 + l.val, by omega⟩ : S4096x256.Idx) := by
    blk_ext [idx t]
  rw [iblk_5, e, h]
  exact (at_256 A (t.val % 32 * 128 + r.val) (t.val / 32) (by omega) l).trans (hA _ _)

omit hx hk hv hd in
theorem tile_o_of (A : S4096x256.Idx → Elt Ideal .f32) (f : Fin 4096 → Fin 256 → ℝ) (hA : ∀ s l, A (ix2 s l) = ((f s l : ℝ) : EReal))
    (h : V m c main_v74 = A) (t : Fin cfg0.N) (r : Fin 128) (l : Fin 256) : iblk m c 6 t (ix2 r l) = ((f (sq t r) l : ℝ) : EReal) := by
  have ht := lt_t t
  have e : ((cfg0.win 6).blk t).view.emb (ix2 r l) = (ix2 ⟨t.val % 32 * 128 + r.val, by omega⟩ ⟨t.val / 32 * 256 + l.val, by omega⟩ : S4096x256.Idx) := by
    blk_ext [idx t]
  rw [iblk_6, e, h]
  exact (at_256 A (t.val % 32 * 128 + r.val) (t.val / 32) (by omega) l).trans (hA _ _)

omit hx hk hv hd in
theorem tile_w_of (A : S4096x256.Idx → Elt Ideal .f32) (f : Fin 4096 → Fin 256 → ℝ) (hA : ∀ s l, A (ix2 s l) = ((f s l : ℝ) : EReal))
    (h : V m c main_v76 = A) (t : Fin cfg0.N) (r : Fin 128) (l : Fin 256) : iblk m c 7 t (ix2 r l) = ((f (sq t r) l : ℝ) : EReal) := by
  have ht := lt_t t
  have e : ((cfg0.win 7).blk t).view.emb (ix2 r l) = (ix2 ⟨t.val % 32 * 128 + r.val, by omega⟩ ⟨t.val / 32 * 256 + l.val, by omega⟩ : S4096x256.Idx) := by
    blk_ext [idx t]
  rw [iblk_7, e, h]
  exact (at_256 A (t.val % 32 * 128 + r.val) (t.val / 32) (by omega) l).trans (hA _ _)

include hd in
theorem tile_d (t : Fin cfg0.N) (r : Fin 128) (l : Fin 256) : iblk m c 5 t (ix2 r l) = ((D (ix2 (sq t r) l) : ℝ) : EReal) := by
  have h4 : m (c, Proc.tc.devRef main_arg4) = up D := hd
  exact tile_d_of m c (up D) (fun s l => D (ix2 s l)) (fun _ _ => rfl) ((V_d m c).trans (by rw [h4])) t r l
include hx hk hv in
theorem tile_o (t : Fin cfg0.N) (r : Fin 128) (l : Fin 256) : iblk m c 6 t (ix2 r l) = ((cm X K V' (sq t r) l : ℝ) : EReal) := by
  have h0 : m (c, Proc.tc.devRef main_arg0) = up X := hx
  have h1 : m (c, Proc.tc.devRef main_arg1) = up K := hk
  have h2 : m (c, Proc.tc.devRef main_arg2) = up V' := hv
  exact tile_o_of m c (kO (F := Ideal) (up X) (up K) (up V')) (cm X K V') (kO_real X K V') ((V_o m c).trans (by rw [h0, h1, h2])) t r l
include hx hk in
theorem tile_w (t : Fin cfg0.N) (r : Fin 128) (l : Fin 256) : iblk m c 7 t (ix2 r l) = ((wl X K (sq t r) l : ℝ) : EReal) := by
  have h0 : m (c, Proc.tc.devRef main_arg0) = up X := hx
  have h1 : m (c, Proc.tc.devRef main_arg1) = up K := hk
  exact tile_w_of m c (kW (F := Ideal) (up X) (up K)) (wl X K) (kW_real X K) ((V_w m c).trans (by rw [h0, h1])) t r l

/-- The gradient of the group's queries, laid out by residue of the dilation. -/
def outQ : FVec Ideal S4096x256 .f32 := fun y => ((gQ X K V' D ⟨(y 0).val * 1 + (y 1).val / 256, by have h0 : (y 0).val < 4096 := (y 0).isLt; have h1 : (y 1).val < 256 := (y 1).isLt; omega⟩
  ⟨0 * 256 + (y 1).val % 256, by omega⟩ : ℝ) : EReal)

theorem emb_q (t : Fin cfg0.N) (y : S128x256.Idx) : ((cfg0.win 8).blk t).view.emb y
    = (ix2 ⟨t.val % 32 * 128 + (y 0).val, by have := lt_t t; have h0 : (y 0).val < 128 := (y 0).isLt; omega⟩ ⟨t.val / 32 * 256 + (y 1).val, by have := lt_t t; have h1 : (y 1).val < 256 := (y 1).isLt; omega⟩ : S4096x256.Idx) := by
  rw [eq_ix2 y]; blk_ext [idx t]

section pieces
variable (t : Fin cfg0.N)

/-- Lanes from `o` on of a block whose rows hold `f`. -/
theorem lanes {e : EltTy} (x : S128x256.Idx → Elt Ideal e) (f : Fin 128 → Fin 256 → Elt Ideal e) (hf : ∀ r l, x (ix2 r l) = f r l) {o : ℕ} (p : Fin 2) (ho : o = p.val * 128) (inb) (r l : Fin 128) :
    View.ld x (Rect.unit (s := S128x256) ![0, o] S128x128.size inb) (ix2 r l) = f r (lcol p l) := by
  subst ho; exact (ld_cols x inb r l r.isLt (by omega)).trans (hf _ _)
theorem block {e : EltTy} (x : S128x256.Idx → Elt Ideal e) (f : Fin 128 → Fin 256 → Elt Ideal e) (hf : ∀ r l, x (ix2 r l) = f r l) (inb) (r : Fin 128) (l : Fin 256) :
    View.ld x (Rect.unit (s := S128x256) ![0, 0] S128x256.size inb) (ix2 r l) = f r l :=
  (ld_cols x inb r l r.isLt (by omega)).trans ((hf _ _).trans (congrArg (f r) (Fin.ext (Nat.zero_add _))))

theorem su_lo (r : Fin 128) : su t (lcol 0 r) = sp t r := by
  have h : (lcol 0 r).val < 128 := by show 0 * 128 + r.val < 128; omega
  unfold su
  rw [dif_pos h]
  exact congrArg (sp t) (Fin.ext (by show 0 * 128 + r.val = r.val; omega))
theorem su_hi (r : Fin 128) : su t (lcol 1 r) = sq t r := by
  have h : ¬(lcol 1 r).val < 128 := by show ¬(1 * 128 + r.val < 128); omega
  unfold su
  rw [dif_neg h]
  exact congrArg (sq t) (Fin.ext (by show 1 * 128 + r.val - 128 = r.val; omega))

/-- The group's lanes of a row. -/
def kk (A : Wide) (j l : Fin 256) : ℝ := A (ix2 (su t j) ⟨0 * 256 + l.val, by omega⟩)

theorem place (p : Fin 2) (r l : Fin 128) (y : S128x256.Idx) (h0 : (y 0).val = r.val) (h1 : (y 1).val = p.val * 128 + l.val) :
    ((gQ X K V' D (sq t r) (col 0 p l) : ℝ) : EReal) = outQ X K V' D (((cfg0.win 8).blk t).view.emb y) := by
  rw [emb_q]
  have ht := lt_t t
  refine congrArg _ (congrArg₂ (gQ X K V' D) (Fin.ext ?_) (Fin.ext ?_))
  · show (t.val % 32 * 128 + r.val) * 1 + t.val / 32 = (t.val % 32 * 128 + (y 0).val) * 1 + (t.val / 32 * 256 + (y 1).val) / 256; omega
  · show 0 * 256 + (p.val * 128 + l.val) = 0 * 256 + (t.val / 32 * 256 + (y 1).val) % 256; omega

include hx hk hv hd in
theorem piece0 (i0 i1 i2 i3 i4) (x : S128x128.Idx) (y : S128x256.Idx) (h0 : (y 0).val = (x 0).val) (h1 : (y 1).val = 0 * 128 + (x 1).val) :
    pLo (k0_pay1 (grid0.coords t)) (View.ld (iblk m c 0 t) (Rect.unit (s := S128x256) ![0, 0] S128x128.size i0))
      (View.ld (iblk m c 1 t) (Rect.unit (s := S128x256) ![0, 0] S128x256.size i4)) (View.ld (iblk m c 2 t) (Rect.unit (s := S128x256) ![0, 0] S128x256.size i4))
      (View.ld (iblk m c 3 t) (Rect.unit (s := S128x256) ![0, 0] S128x256.size i4)) (View.ld (iblk m c 4 t) (Rect.unit (s := S128x256) ![0, 0] S128x256.size i4))
      (View.ld (iblk m c 7 t) (Rect.unit (s := S128x256) ![0, 0] S128x128.size i1)) (View.ld (iblk m c 5 t) (Rect.unit (s := S128x256) ![0, 0] S128x128.size i2))
      (View.ld (iblk m c 6 t) (Rect.unit (s := S128x256) ![0, 0] S128x128.size i3)) x = outQ X K V' D (((cfg0.win 8).blk t).view.emb y) := by
  obtain ⟨x0, x1, rfl⟩ : ∃ a b, x = ix2 a b := ⟨x 0, x 1, eq_ix2 x⟩
  change _ = x0.val at h0
  change _ = _ + x1.val at h1
  refine (pLo_eq _ _ _ _ _ _ _ _ _ (ok t) (tQ X 0 0 (sq t)) (tD D 0 (sq t)) (tO X K V' 0 (sq t)) (tW X K 0 (sq t)) (kk t K) (kk t V') (ok_word t)
    (lanes _ _ (tile_q m c X K V' hx hk hv t) 0 rfl _) (lanes _ _ (tile_d m c D hd t) 0 rfl _) (lanes _ _ (tile_o m c X K V' hx hk hv t) 0 rfl _)
    (lanes _ _ (tile_w m c X K hx hk t) 0 rfl _)
    (fun r l => (block _ _ (tile_k1 m c X K V' hx hk hv t) _ r l).trans (by rw [kk, su_lo])) (fun r l => (block _ _ (tile_k2 m c X K V' hx hk hv t) _ r l).trans (by rw [kk, su_hi]))
    (fun r l => (block _ _ (tile_v1 m c X K V' hx hk hv t) _ r l).trans (by rw [kk, su_lo])) (fun r l => (block _ _ (tile_v2 m c X K V' hx hk hv t) _ r l).trans (by rw [kk, su_hi])) x0 x1).trans ?_
  exact (congrArg (fun z : ℝ => (z : EReal)) (pair_q X K V' D 0 0 (sq t) (su t) (ok t) (ok_sees t 0) (ok_inj t) (ok_all t 0) x0 x1)).trans (place X K V' D t 0 x0 x1 y h0 h1)

include hx hk hv hd in
theorem piece1 (i0 i1 i2 i3 i4) (x : S128x128.Idx) (y : S128x256.Idx) (h0 : (y 0).val = (x 0).val) (h1 : (y 1).val = 1 * 128 + (x 1).val) :
    pHi (k0_pay1 (grid0.coords t)) (View.ld (iblk m c 0 t) (Rect.unit (s := S128x256) ![0, 128] S128x128.size i0))
      (View.ld (iblk m c 1 t) (Rect.unit (s := S128x256) ![0, 0] S128x256.size i4)) (View.ld (iblk m c 2 t) (Rect.unit (s := S128x256) ![0, 0] S128x256.size i4))
      (View.ld (iblk m c 3 t) (Rect.unit (s := S128x256) ![0, 0] S128x256.size i4)) (View.ld (iblk m c 4 t) (Rect.unit (s := S128x256) ![0, 0] S128x256.size i4))
      (View.ld (iblk m c 7 t) (Rect.unit (s := S128x256) ![0, 128] S128x128.size i1)) (View.ld (iblk m c 5 t) (Rect.unit (s := S128x256) ![0, 128] S128x128.size i2))
      (View.ld (iblk m c 6 t) (Rect.unit (s := S128x256) ![0, 128] S128x128.size i3)) x = outQ X K V' D (((cfg0.win 8).blk t).view.emb y) := by
  obtain ⟨x0, x1, rfl⟩ : ∃ a b, x = ix2 a b := ⟨x 0, x 1, eq_ix2 x⟩
  change _ = x0.val at h0
  change _ = _ + x1.val at h1
  refine (pHi_eq _ _ _ _ _ _ _ _ _ (ok t) (tQ X 0 1 (sq t)) (tD D 1 (sq t)) (tO X K V' 1 (sq t)) (tW X K 1 (sq t)) (kk t K) (kk t V') (ok_word t)
    (lanes _ _ (tile_q m c X K V' hx hk hv t) 1 rfl _) (lanes _ _ (tile_d m c D hd t) 1 rfl _) (lanes _ _ (tile_o m c X K V' hx hk hv t) 1 rfl _)
    (lanes _ _ (tile_w m c X K hx hk t) 1 rfl _)
    (fun r l => (block _ _ (tile_k1 m c X K V' hx hk hv t) _ r l).trans (by rw [kk, su_lo])) (fun r l => (block _ _ (tile_k2 m c X K V' hx hk hv t) _ r l).trans (by rw [kk, su_hi]))
    (fun r l => (block _ _ (tile_v1 m c X K V' hx hk hv t) _ r l).trans (by rw [kk, su_lo])) (fun r l => (block _ _ (tile_v2 m c X K V' hx hk hv t) _ r l).trans (by rw [kk, su_hi])) x0 x1).trans ?_
  exact (congrArg (fun z : ℝ => (z : EReal)) (pair_q X K V' D 0 1 (sq t) (su t) (ok t) (ok_sees t 1) (ok_inj t) (ok_all t 1) x0 x1)).trans (place X K V' D t 1 x0 x1 y h0 h1)

end pieces

include hx hk hv hd in
theorem final_q : (dats m 0 c).arrAt 8 cfg0.N = outQ X K V' D := by
  refine (dats m 0 c).arrAt_eq_of_covers 8 _ (by decide +kernel) fun t _ y => ?_
  blk_simp
  rw [after0_8]
  frame_out
  canon_tiles x h
  · exact piece1 m c X K V' D hx hk hv hd t _ _ _ _ _ x y h0 h1
  · exact piece0 m c X K V' D hx hk hv hd t _ _ _ _ _ x y h0 (h1.trans (by omega))
end arrays

end Cert.Band0DqKernelIdeal.Hand

namespace Cert.Band0DqReferenceIdeal.Hand
open Cert.Band0DqReferenceIdeal Cert.Band0DqReferenceIdeal.Read Cert.BandReal
open Cert.Band0DqReferenceIdeal.Hand (up whole_q)

theorem ref (X K V' : Wide) (D : Quarter) : val_main_v135 (F := Ideal) (up X) (up K) (up V') (up D) = Cert.Band0DqKernelIdeal.Hand.outQ X K V' D := by
  funext y
  obtain ⟨a, b, rfl⟩ : ∃ a b, y = ix2 a b := ⟨y 0, y 1, eq_ix2 y⟩
  have e : ∀ (s : Fin 4096) (l : Fin 256), val_main_v135 (F := Ideal) (up X) (up K) (up V') (up D) (ix2 s l) = ((gQ X K V' D s ⟨0 * 256 + l.val, by omega⟩ : ℝ) : EReal) := fun s l => by
    pointwise [val_main_v135]
    skip
    exact whole_q X K V' D _ _
  refine (e a b).trans (congrArg _ (congrArg₂ (gQ X K V' D) (Fin.ext ?_) (Fin.ext ?_)))
  · show a.val = a.val * 1 + b.val / 256; omega
  · show 0 * 256 + b.val = 0 * 256 + b.val % 256; omega

end Cert.Band0DqReferenceIdeal.Hand

end
-- ==== Proof.Band0Dkv.lean ====
/-
  The gradients of the keys and of the values of the dilated attention's group of dilation 1: the kernel works on tiles of 128 keys of one residue against the 256 queries from them on.
-/
module

public import proofs.«01_k».proof.Proof.Gen.Band0DkvKernelIdeal.Value
public import proofs.«01_k».proof.Proof.Gen.Band0DkvReferenceIdeal.Run
public import proofs.«01_k».proof.Proof.Gen.Band0DkvReferenceIdeal.Read
public import Idealize.ShloMosaic.Lib.Pipeline.ValueKit
public import Idealize.ShloMosaic.Lib.Pointwise
public import proofs.«01_k».proof.Proof.Reals
public import proofs.«01_k».proof.Proof.BandSaved
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Band0DkvKernelIdeal.Hand

open Cert.Band0DkvKernelIdeal Cert.Band0DkvKernelIdeal.Gen Cert.Reals Cert.AttnReal Cert.BandReal Cert.BandTile Cert.BandHost
open Cert.Band0DqReferenceIdeal.Hand (up)

theorem mask_named : (Named.named κ "mask" 4048155338#32 : Ideal .f32) = (⊥ : EReal) := rfl

section pair
variable (ok : IVec S256x128 1) (q1 q2 : FVec Ideal S128x256 .bf16) (k v : FVec Ideal S128x128 .bf16) (w1 w2 d1 d2 o1 o2 : FVec Ideal S128x256 .f32)

/-- One pair of heads' gradients of the keys and of the values, from the lanes of the first pair and of the second. -/
def kLo : FVec Ideal S128x128 .f32 :=
  k0_pay31 ok (k0_pay8 (k0_pay4 q1 q2)) (k0_pay9 k) (k0_pay10 v) (k0_pay12 (k0_pay7 w1 w2)) (k0_pay16 (k0_pay5 d1 d2) (k0_pay6 o1 o2)) (k0_pay17 (k0_pay5 d1 d2)) (k0_pay25 ok (k0_pay8 (k0_pay4 q1 q2)) (k0_pay9 k) (k0_pay10 v) (k0_pay12 (k0_pay7 w1 w2)) (k0_pay15 (k0_pay5 d1 d2) (k0_pay6 o1 o2)) (k0_pay17 (k0_pay5 d1 d2)) (k0_pay18 (F := Ideal))) (iota .tc S1x128 32 [1] iota_S1x128_d1_w32) 128#32
def kHi : FVec Ideal S128x128 .f32 :=
  k0_pay2 (k0_pay52 (k0_pay43 (F := Ideal)) (k0_pay46 (k0_pay32 (k0_pay4 q1 q2))) (k0_pay49 ok (k0_pay32 (k0_pay4 q1 q2)) (k0_pay33 k) (k0_pay34 v) (k0_pay35 (k0_pay5 d1 d2)) (k0_pay36 (k0_pay7 w1 w2)) (k0_pay39 (k0_pay5 d1 d2) (k0_pay6 o1 o2)))) (k0_pay54 (k0_pay32 (k0_pay4 q1 q2))) (k0_pay57 ok (k0_pay32 (k0_pay4 q1 q2)) (k0_pay33 k) (k0_pay34 v) (k0_pay36 (k0_pay7 w1 w2)) (k0_pay41 (k0_pay40 (k0_pay5 d1 d2) (k0_pay6 o1 o2))) (k0_pay42 (k0_pay35 (k0_pay5 d1 d2))))
def vLo : FVec Ideal S128x128 .f32 :=
  k0_pay30 ok (k0_pay8 (k0_pay4 q1 q2)) (k0_pay9 k) (k0_pay12 (k0_pay7 w1 w2)) (k0_pay17 (k0_pay5 d1 d2)) (k0_pay24 ok (k0_pay8 (k0_pay4 q1 q2)) (k0_pay9 k) (k0_pay12 (k0_pay7 w1 w2)) (k0_pay17 (k0_pay5 d1 d2)) (k0_pay19 (F := Ideal))) (iota .tc S1x128 32 [1] iota_S1x128_d1_w32) 128#32
def vHi : FVec Ideal S128x128 .f32 :=
  k0_pay1 (k0_pay51 (k0_pay44 (F := Ideal)) (k0_pay50 ok (k0_pay32 (k0_pay4 q1 q2)) (k0_pay33 k) (k0_pay35 (k0_pay5 d1 d2)) (k0_pay36 (k0_pay7 w1 w2)))) (k0_pay58 ok (k0_pay32 (k0_pay4 q1 q2)) (k0_pay33 k) (k0_pay36 (k0_pay7 w1 w2)) (k0_pay42 (k0_pay35 (k0_pay5 d1 d2))))

variable (b : Fin 256 → Fin 128 → Prop) [∀ r, DecidablePred (b r)] (QQ DD OO WW : Fin 256 → Fin 256 → ℝ) (K V : Fin 128 → Fin 128 → ℝ)
  (hok : ∀ r c, ok (ix2 r c) = BitVec.ofBool (decide (b r c)))
  (hq1 : ∀ (c : Fin 128) (l : Fin 256), q1 (ix2 c l) = ((QQ (lcol 0 c) l : ℝ) : EReal))
  (hq2 : ∀ (c : Fin 128) (l : Fin 256), q2 (ix2 c l) = ((QQ (lcol 1 c) l : ℝ) : EReal))
  (hd1 : ∀ (c : Fin 128) (l : Fin 256), d1 (ix2 c l) = ((DD (lcol 0 c) l : ℝ) : EReal))
  (hd2 : ∀ (c : Fin 128) (l : Fin 256), d2 (ix2 c l) = ((DD (lcol 1 c) l : ℝ) : EReal))
  (ho1 : ∀ (c : Fin 128) (l : Fin 256), o1 (ix2 c l) = ((OO (lcol 0 c) l : ℝ) : EReal))
  (ho2 : ∀ (c : Fin 128) (l : Fin 256), o2 (ix2 c l) = ((OO (lcol 1 c) l : ℝ) : EReal))
  (hw1 : ∀ (c : Fin 128) (l : Fin 256), w1 (ix2 c l) = ((WW (lcol 0 c) l : ℝ) : EReal))
  (hw2 : ∀ (c : Fin 128) (l : Fin 256), w2 (ix2 c l) = ((WW (lcol 1 c) l : ℝ) : EReal))
  (hk : ∀ r l, k (ix2 r l) = ((K r l : ℝ) : EReal)) (hv : ∀ r l, v (ix2 r l) = ((V r l : ℝ) : EReal))

include hok hq1 hq2 hd1 hd2 ho1 ho2 hw1 hw2 hk hv in
theorem kLo_eq (j l) : kLo ok q1 q2 k v w1 w2 d1 d2 o1 o2 (ix2 j l)
    = ((if l.val < 64 then ∑ r, bs (fun c l => QQ c (lcol 0 l)) (fun c l => DD c (lcol 0 l)) (fun c l => OO c (lcol 0 l)) (fun c l => WW c (lcol 0 l)) K V b 0 r j * QQ r (lcol 0 l) else ∑ r, bs (fun c l => QQ c (lcol 0 l)) (fun c l => DD c (lcol 0 l)) (fun c l => OO c (lcol 0 l)) (fun c l => WW c (lcol 0 l)) K V b 1 r j * QQ r (lcol 0 l) : ℝ) : EReal) := by
  pointwise [kLo, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, ho1, ho2, hw1, hw2, hk, hv, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 ho1 ho2 hw1 hw2 hk hv in
theorem kHi_eq (j l) : kHi ok q1 q2 k v w1 w2 d1 d2 o1 o2 (ix2 j l)
    = ((if l.val < 64 then ∑ r, bs (fun c l => QQ c (lcol 1 l)) (fun c l => DD c (lcol 1 l)) (fun c l => OO c (lcol 1 l)) (fun c l => WW c (lcol 1 l)) K V b 0 r j * QQ r (lcol 1 l) else ∑ r, bs (fun c l => QQ c (lcol 1 l)) (fun c l => DD c (lcol 1 l)) (fun c l => OO c (lcol 1 l)) (fun c l => WW c (lcol 1 l)) K V b 1 r j * QQ r (lcol 1 l) : ℝ) : EReal) := by
  pointwise [kHi, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, ho1, ho2, hw1, hw2, hk, hv, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 hw1 hw2 hk in
theorem vLo_eq (j l) : vLo ok q1 q2 k w1 w2 d1 d2 (ix2 j l)
    = ((if l.val < 64 then ∑ r, bp (fun c l => QQ c (lcol 0 l)) (fun c l => WW c (lcol 0 l)) K b 0 r j * DD r (lcol 0 l) else ∑ r, bp (fun c l => QQ c (lcol 0 l)) (fun c l => WW c (lcol 0 l)) K b 1 r j * DD r (lcol 0 l) : ℝ) : EReal) := by
  pointwise [vLo, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, hw1, hw2, hk, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 hw1 hw2 hk in
theorem vHi_eq (j l) : vHi ok q1 q2 k w1 w2 d1 d2 (ix2 j l)
    = ((if l.val < 64 then ∑ r, bp (fun c l => QQ c (lcol 1 l)) (fun c l => WW c (lcol 1 l)) K b 0 r j * DD r (lcol 1 l) else ∑ r, bp (fun c l => QQ c (lcol 1 l)) (fun c l => WW c (lcol 1 l)) K b 1 r j * DD r (lcol 1 l) : ℝ) : EReal) := by
  pointwise [vHi, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, hw1, hw2, hk, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

end pair

section host
variable {F : FTy → Type} [FloatOps F] [Named F]
variable (m : (ℓ : Loc nD τ sig) → Buf (Elt F) ℓ) (c : Dev nD)

/-! What the host lines before the call leave in the arrays the call reads. -/

set_option maxHeartbeats 4000000 in
theorem V_x : V m c main_v80 = (wide (m (c, Proc.tc.devRef main_arg0)) (m (c, Proc.tc.devRef main_arg1)) (m (c, Proc.tc.devRef main_arg2)) (m (c, Proc.tc.devRef main_arg3))) := by
  unfold V
  after_reads_simp
  rfl
set_option maxHeartbeats 4000000 in
theorem V_o : V m c main_v74 = (kO (m (c, Proc.tc.devRef main_arg0)) (m (c, Proc.tc.devRef main_arg1)) (m (c, Proc.tc.devRef main_arg2))) := by
  unfold V
  after_reads_simp
  rfl
set_option maxHeartbeats 4000000 in
theorem V_w : V m c main_v76 = (kW (m (c, Proc.tc.devRef main_arg0)) (m (c, Proc.tc.devRef main_arg1))) := by
  unfold V
  after_reads_simp
  rfl
set_option maxHeartbeats 4000000 in
theorem V_d : V m c main_arg4 = (m (c, Proc.tc.devRef main_arg4)) := by
  unfold V
  after_reads_simp

/-! A window block is a part of its array. -/

theorem iblk_0 (t : Fin cfg0.N) (y : S128x256.Idx) : iblk m c 0 t y = V m c main_v80 (((cfg0.win 0).blk t).view.emb y) := rfl
theorem iblk_1 (t : Fin cfg0.N) (y : S128x256.Idx) : iblk m c 1 t y = V m c main_v80 (((cfg0.win 1).blk t).view.emb y) := rfl
theorem iblk_2 (t : Fin cfg0.N) (y : S128x256.Idx) : iblk m c 2 t y = V m c main_v80 (((cfg0.win 2).blk t).view.emb y) := rfl
theorem iblk_3 (t : Fin cfg0.N) (y : S128x256.Idx) : iblk m c 3 t y = V m c main_v80 (((cfg0.win 3).blk t).view.emb y) := rfl
theorem iblk_4 (t : Fin cfg0.N) (y : S128x256.Idx) : iblk m c 4 t y = V m c main_arg4 (((cfg0.win 4).blk t).view.emb y) := rfl
theorem iblk_5 (t : Fin cfg0.N) (y : S128x256.Idx) : iblk m c 5 t y = V m c main_arg4 (((cfg0.win 5).blk t).view.emb y) := rfl
theorem iblk_6 (t : Fin cfg0.N) (y : S128x256.Idx) : iblk m c 6 t y = V m c main_v74 (((cfg0.win 6).blk t).view.emb y) := rfl
theorem iblk_7 (t : Fin cfg0.N) (y : S128x256.Idx) : iblk m c 7 t y = V m c main_v74 (((cfg0.win 7).blk t).view.emb y) := rfl
theorem iblk_8 (t : Fin cfg0.N) (y : S128x256.Idx) : iblk m c 8 t y = V m c main_v76 (((cfg0.win 8).blk t).view.emb y) := rfl
theorem iblk_9 (t : Fin cfg0.N) (y : S128x256.Idx) : iblk m c 9 t y = V m c main_v76 (((cfg0.win 9).blk t).view.emb y) := rfl
end host

/-! Position `a` of residue `ρ` of the dilation, as a row of the whole arrays. -/

def at_ (a : ℕ) (ρ : ℕ) (h : a < 4096 ∧ ρ < 1) : Fin 4096 := ⟨a * 1 + ρ, by omega⟩

theorem at_2560 {e : EltTy} (A : S4096x2560.Idx → Elt Ideal e) (a ρ : ℕ) (h : a < 4096 ∧ ρ < 1) (z : Fin 2560) :
    A (ix2 ⟨a, h.1⟩ ⟨ρ * 2560 + z.val, by omega⟩) = A (ix2 (at_ a ρ h) z) := by
  refine congrArg A (congrArg₂ ix2 (Fin.ext ?_) (Fin.ext ?_))
  · show a = a * 1 + ρ; omega
  · show ρ * 2560 + z.val = z.val; omega

theorem at_256 {e : EltTy} (A : S4096x256.Idx → Elt Ideal e) (a ρ : ℕ) (h : a < 4096 ∧ ρ < 1) (z : Fin 256) :
    A (ix2 ⟨a, h.1⟩ ⟨ρ * 256 + z.val, by omega⟩) = A (ix2 (at_ a ρ h) z) := by
  refine congrArg A (congrArg₂ ix2 (Fin.ext ?_) (Fin.ext ?_))
  · show a = a * 1 + ρ; omega
  · show ρ * 256 + z.val = z.val; omega

/-! The grid: point `t` is row block `t % 32` of residue `t / 32`. -/

theorem lt_t (t : Fin cfg0.N) : t.val < 32 := lt_of_lt_of_eq t.isLt N_0
theorem coord (t : Fin cfg0.N) : (grid0.coords t 1).val = t.val % 32 :=
  (by decide +kernel : ∀ t : Fin grid0.N, (grid0.coords t 1).val = t.val % 32) t
theorem idx : ∀ t : Fin cfg0.N, win0_0.index t = ![t.val % 32, t.val / 32 * 10 + 0]
    ∧ win0_1.index t = ![min (t.val % 32 + 1) 31, t.val / 32 * 10 + 0]
    ∧ win0_2.index t = ![t.val % 32, t.val / 32 * 10 + 3]
    ∧ win0_3.index t = ![t.val % 32, t.val / 32 * 10 + 6]
    ∧ win0_4.index t = ![t.val % 32, t.val / 32]
    ∧ win0_5.index t = ![min (t.val % 32 + 1) 31, t.val / 32]
    ∧ win0_6.index t = ![t.val % 32, t.val / 32]
    ∧ win0_7.index t = ![min (t.val % 32 + 1) 31, t.val / 32]
    ∧ win0_8.index t = ![t.val % 32, t.val / 32]
    ∧ win0_9.index t = ![min (t.val % 32 + 1) 31, t.val / 32]
    ∧ win0_10.index t = ![t.val % 32, t.val / 32]
    ∧ win0_11.index t = ![t.val % 32, t.val / 32] :=
  (by decide +kernel : ∀ t : Fin grid0.N, _)

/-- The rows of a tile's keys, of the queries of the block after, and of the block's own queries and those together. -/
def sq (t : Fin cfg0.N) (r : Fin 128) : Fin 4096 := at_ (t.val % 32 * 128 + r.val) (t.val / 32) (by have := lt_t t; omega)
def sn (t : Fin cfg0.N) (r : Fin 128) : Fin 4096 := at_ ((min (t.val % 32 + 1) 31) * 128 + r.val) (t.val / 32) (by have := lt_t t; omega)
def sa (t : Fin cfg0.N) (j : Fin 256) : Fin 4096 :=
  if h : j.val < 128 then sq t ⟨j.val, h⟩ else sn t ⟨j.val - 128, by omega⟩

/-- Which of the tile's queries see a key. -/
def ok (t : Fin cfg0.N) (r : Fin 256) (j : Fin 128) : Prop := j.val ≤ r.val ∧ r.val ≤ j.val + 128 ∧ t.val % 32 * 128 + r.val < 4096
instance (t : Fin cfg0.N) (r : Fin 256) : DecidablePred (ok t r) := fun j => by unfold ok; infer_instance

theorem ok_word (t : Fin cfg0.N) (r j) : k0_pay3 (grid0.coords t) (ix2 r j) = BitVec.ofBool (decide (ok t r j)) := by
  pointwise [k0_pay3]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 4096)))
      (word_at (t.val % 32) r.val) (word_at (t.val % 32) j.val)).trans ?_
  rw [word_ok _ _ _ (by omega) (by omega) (by omega) (by omega) (by omega) (by omega)]
  refine congrArg _ (decide_eq_decide.2 ?_)
  unfold ok
  omega

theorem sa_ok (t : Fin cfg0.N) (r j) (h : ok t r j) : (sa t r).val = (t.val % 32 * 128 + r.val) * 1 + t.val / 32 := by
  obtain ⟨h1, h2, h3⟩ := h
  unfold sa
  split
  · rfl
  · show ((min (t.val % 32 + 1) 31) * 128 + (r.val - 128)) * 1 + t.val / 32 = _; omega

theorem dil_head (p a : Fin 2) : dil (head 0 p a) = 1 := by revert p a; decide

theorem ok_sees (t : Fin cfg0.N) (p a r j) (h : ok t r j) : sees (head 0 p a) (sa t r) (sq t j) := by
  have h' := h
  obtain ⟨h1, h2, h3⟩ := h'
  exact sees_of _ _ _ 1 (t.val / 32) (t.val % 32 * 128 + r.val) (t.val % 32 * 128 + j.val) (dil_head p a) (sa_ok t r j h) rfl (by omega) (by omega)

theorem ok_inj (t : Fin cfg0.N) (j i r) (h : ok t i j) (h' : ok t r j) (e : sa t i = sa t r) : i = r := by
  have e' := congrArg Fin.val e
  rw [sa_ok t i j h, sa_ok t r j h'] at e'
  exact Fin.ext (by omega)

theorem ok_all (t : Fin cfg0.N) (p a j q) (h : sees (head 0 p a) q (sq t j)) : ∃ r, ok t r j ∧ sa t r = q := by
  obtain ⟨n, hn, e⟩ := sees_steps _ _ _ 1 (dil_head p a) (by decide) h
  have e' : q.val = (t.val % 32 * 128 + j.val) * 1 + t.val / 32 + n * 1 := e
  have ht := lt_t t
  have hq := q.isLt
  have hk : ok t ⟨j.val + n, by omega⟩ j := by
    refine ⟨?_, ?_, ?_⟩
    · show j.val ≤ j.val + n; omega
    · show j.val + n ≤ j.val + 128; omega
    · show t.val % 32 * 128 + (j.val + n) < 4096; omega
  refine ⟨_, hk, Fin.ext ?_⟩
  rw [sa_ok t _ j hk]
  show (t.val % 32 * 128 + (j.val + n)) * 1 + t.val / 32 = q.val
  omega

section arrays
variable (m : (ℓ : Loc nD τ sig) → Buf (Elt Ideal) ℓ) (c : Dev nD) (X K V' : Wide) (D : Quarter)
  (hx : m ((c : Thread nD τ).loc main_arg0) = up X) (hk : m ((c : Thread nD τ).loc main_arg1) = up K)
  (hv : m ((c : Thread nD τ).loc main_arg2) = up V') (hd : m ((c : Thread nD τ).loc main_arg4) = up D)

include hx hk hv in
theorem tile_q1 (t : Fin cfg0.N) (r : Fin 128) (l : Fin 256) : iblk m c 0 t (ix2 r l) = ((X (ix2 (sq t r) ⟨0 * 256 + l.val, by omega⟩) * (1 / 8) : ℝ) : EReal) := by
  have ht := lt_t t
  have e : ((cfg0.win 0).blk t).view.emb (ix2 r l) = (ix2 ⟨t.val % 32 * 128 + r.val, by omega⟩ ⟨t.val / 32 * 2560 + (⟨(0 * 256 + l.val), by omega⟩ : Fin 2560).val, by show _ + ((0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_0, e, V_x, h0, h1, h2]
  exact (at_2560 (e := .bf16) (wide (F := Ideal) (up X) (up K) (up V') (m (c, Proc.tc.devRef main_arg3))) (t.val % 32 * 128 + r.val) (t.val / 32) (by omega) (⟨(0 * 256 + l.val), by omega⟩ : Fin 2560)).trans (wide_q X K V' _ _ (⟨0 * 256 + l.val, by omega⟩ : Fin 768))

include hx hk hv in
theorem tile_q2 (t : Fin cfg0.N) (r : Fin 128) (l : Fin 256) : iblk m c 1 t (ix2 r l) = ((X (ix2 (sn t r) ⟨0 * 256 + l.val, by omega⟩) * (1 / 8) : ℝ) : EReal) := by
  have ht := lt_t t
  have e : ((cfg0.win 1).blk t).view.emb (ix2 r l) = (ix2 ⟨(min (t.val % 32 + 1) 31) * 128 + r.val, by omega⟩ ⟨t.val / 32 * 2560 + (⟨(0 * 256 + l.val), by omega⟩ : Fin 2560).val, by show _ + ((0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_1, e, V_x, h0, h1, h2]
  exact (at_2560 (e := .bf16) (wide (F := Ideal) (up X) (up K) (up V') (m (c, Proc.tc.devRef main_arg3))) ((min (t.val % 32 + 1) 31) * 128 + r.val) (t.val / 32) (by omega) (⟨(0 * 256 + l.val), by omega⟩ : Fin 2560)).trans (wide_q X K V' _ _ (⟨0 * 256 + l.val, by omega⟩ : Fin 768))

include hx hk hv in
theorem tile_k (t : Fin cfg0.N) (r : Fin 128) (l : Fin 256) : iblk m c 2 t (ix2 r l) = ((K (ix2 (sq t r) ⟨0 * 256 + l.val, by omega⟩) : ℝ) : EReal) := by
  have ht := lt_t t
  have e : ((cfg0.win 2).blk t).view.emb (ix2 r l) = (ix2 ⟨t.val % 32 * 128 + r.val, by omega⟩ ⟨t.val / 32 * 2560 + (⟨768 + (0 * 256 + l.val), by omega⟩ : Fin 2560).val, by show _ + (768 + (0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_2, e, V_x, h0, h1, h2]
  exact (at_2560 (e := .bf16) (wide (F := Ideal) (up X) (up K) (up V') (m (c, Proc.tc.devRef main_arg3))) (t.val % 32 * 128 + r.val) (t.val / 32) (by omega) (⟨768 + (0 * 256 + l.val), by omega⟩ : Fin 2560)).trans (wide_k X K V' _ _ (⟨0 * 256 + l.val, by omega⟩ : Fin 768))

include hx hk hv in
theorem tile_v (t : Fin cfg0.N) (r : Fin 128) (l : Fin 256) : iblk m c 3 t (ix2 r l) = ((V' (ix2 (sq t r) ⟨0 * 256 + l.val, by omega⟩) : ℝ) : EReal) := by
  have ht := lt_t t
  have e : ((cfg0.win 3).blk t).view.emb (ix2 r l) = (ix2 ⟨t.val % 32 * 128 + r.val, by omega⟩ ⟨t.val / 32 * 2560 + (⟨1536 + (0 * 256 + l.val), by omega⟩ : Fin 2560).val, by show _ + (1536 + (0 * 256 + l.val)) < _; omega⟩ : S4096x2560.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_3, e, V_x, h0, h1, h2]
  exact (at_2560 (e := .bf16) (wide (F := Ideal) (up X) (up K) (up V') (m (c, Proc.tc.devRef main_arg3))) (t.val % 32 * 128 + r.val) (t.val / 32) (by omega) (⟨1536 + (0 * 256 + l.val), by omega⟩ : Fin 2560)).trans (wide_v X K V' _ _ (⟨0 * 256 + l.val, by omega⟩ : Fin 768))

omit hx hk hv hd in
theorem tile_d1_of (A : S4096x256.Idx → Elt Ideal .f32) (f : Fin 4096 → Fin 256 → ℝ) (hA : ∀ s l, A (ix2 s l) = ((f s l : ℝ) : EReal))
    (h : V m c main_arg4 = A) (t : Fin cfg0.N) (r : Fin 128) (l : Fin 256) : iblk m c 4 t (ix2 r l) = ((f (sq t r) l : ℝ) : EReal) := by
  have ht := lt_t t
  have e : ((cfg0.win 4).blk t).view.emb (ix2 r l) = (ix2 ⟨t.val % 32 * 128 + r.val, by omega⟩ ⟨t.val / 32 * 256 + l.val, by omega⟩ : S4096x256.Idx) := by
    blk_ext [idx t]
  rw [iblk_4, e, h]
  exact (at_256 A (t.val % 32 * 128 + r.val) (t.val / 32) (by omega) l).trans (hA _ _)

omit hx hk hv hd in
theorem tile_d2_of (A : S4096x256.Idx → Elt Ideal .f32) (f : Fin 4096 → Fin 256 → ℝ) (hA : ∀ s l, A (ix2 s l) = ((f s l : ℝ) : EReal))
    (h : V m c main_arg4 = A) (t : Fin cfg0.N) (r : Fin 128) (l : Fin 256) : iblk m c 5 t (ix2 r l) = ((f (sn t r) l : ℝ) : EReal) := by
  have ht := lt_t t
  have e : ((cfg0.win 5).blk t).view.emb (ix2 r l) = (ix2 ⟨(min (t.val % 32 + 1) 31) * 128 + r.val, by omega⟩ ⟨t.val / 32 * 256 + l.val, by omega⟩ : S4096x256.Idx) := by
    blk_ext [idx t]
  rw [iblk_5, e, h]
  exact (at_256 A ((min (t.val % 32 + 1) 31) * 128 + r.val) (t.val / 32) (by omega) l).trans (hA _ _)

omit hx hk hv hd in
theorem tile_o1_of (A : S4096x256.Idx → Elt Ideal .f32) (f : Fin 4096 → Fin 256 → ℝ) (hA : ∀ s l, A (ix2 s l) = ((f s l : ℝ) : EReal))
    (h : V m c main_v74 = A) (t : Fin cfg0.N) (r : Fin 128) (l : Fin 256) : iblk m c 6 t (ix2 r l) = ((f (sq t r) l : ℝ) : EReal) := by
  have ht := lt_t t
  have e : ((cfg0.win 6).blk t).view.emb (ix2 r l) = (ix2 ⟨t.val % 32 * 128 + r.val, by omega⟩ ⟨t.val / 32 * 256 + l.val, by omega⟩ : S4096x256.Idx) := by
    blk_ext [idx t]
  rw [iblk_6, e, h]
  exact (at_256 A (t.val % 32 * 128 + r.val) (t.val / 32) (by omega) l).trans (hA _ _)

omit hx hk hv hd in
theorem tile_o2_of (A : S4096x256.Idx → Elt Ideal .f32) (f : Fin 4096 → Fin 256 → ℝ) (hA : ∀ s l, A (ix2 s l) = ((f s l : ℝ) : EReal))
    (h : V m c main_v74 = A) (t : Fin cfg0.N) (r : Fin 128) (l : Fin 256) : iblk m c 7 t (ix2 r l) = ((f (sn t r) l : ℝ) : EReal) := by
  have ht := lt_t t
  have e : ((cfg0.win 7).blk t).view.emb (ix2 r l) = (ix2 ⟨(min (t.val % 32 + 1) 31) * 128 + r.val, by omega⟩ ⟨t.val / 32 * 256 + l.val, by omega⟩ : S4096x256.Idx) := by
    blk_ext [idx t]
  rw [iblk_7, e, h]
  exact (at_256 A ((min (t.val % 32 + 1) 31) * 128 + r.val) (t.val / 32) (by omega) l).trans (hA _ _)

omit hx hk hv hd in
theorem tile_w1_of (A : S4096x256.Idx → Elt Ideal .f32) (f : Fin 4096 → Fin 256 → ℝ) (hA : ∀ s l, A (ix2 s l) = ((f s l : ℝ) : EReal))
    (h : V m c main_v76 = A) (t : Fin cfg0.N) (r : Fin 128) (l : Fin 256) : iblk m c 8 t (ix2 r l) = ((f (sq t r) l : ℝ) : EReal) := by
  have ht := lt_t t
  have e : ((cfg0.win 8).blk t).view.emb (ix2 r l) = (ix2 ⟨t.val % 32 * 128 + r.val, by omega⟩ ⟨t.val / 32 * 256 + l.val, by omega⟩ : S4096x256.Idx) := by
    blk_ext [idx t]
  rw [iblk_8, e, h]
  exact (at_256 A (t.val % 32 * 128 + r.val) (t.val / 32) (by omega) l).trans (hA _ _)

omit hx hk hv hd in
theorem tile_w2_of (A : S4096x256.Idx → Elt Ideal .f32) (f : Fin 4096 → Fin 256 → ℝ) (hA : ∀ s l, A (ix2 s l) = ((f s l : ℝ) : EReal))
    (h : V m c main_v76 = A) (t : Fin cfg0.N) (r : Fin 128) (l : Fin 256) : iblk m c 9 t (ix2 r l) = ((f (sn t r) l : ℝ) : EReal) := by
  have ht := lt_t t
  have e : ((cfg0.win 9).blk t).view.emb (ix2 r l) = (ix2 ⟨(min (t.val % 32 + 1) 31) * 128 + r.val, by omega⟩ ⟨t.val / 32 * 256 + l.val, by omega⟩ : S4096x256.Idx) := by
    blk_ext [idx t]
  rw [iblk_9, e, h]
  exact (at_256 A ((min (t.val % 32 + 1) 31) * 128 + r.val) (t.val / 32) (by omega) l).trans (hA _ _)

include hd in
theorem D_at : V m c main_arg4 = up D := by
  have h4 : m (c, Proc.tc.devRef main_arg4) = up D := hd
  exact (V_d m c).trans (by rw [h4])
include hx hk hv in
theorem O_at : V m c main_v74 = kO (F := Ideal) (up X) (up K) (up V') := by
  have h0 : m (c, Proc.tc.devRef main_arg0) = up X := hx
  have h1 : m (c, Proc.tc.devRef main_arg1) = up K := hk
  have h2 : m (c, Proc.tc.devRef main_arg2) = up V' := hv
  exact (V_o m c).trans (by rw [h0, h1, h2])
include hx hk in
theorem W_at : V m c main_v76 = kW (F := Ideal) (up X) (up K) := by
  have h0 : m (c, Proc.tc.devRef main_arg0) = up X := hx
  have h1 : m (c, Proc.tc.devRef main_arg1) = up K := hk
  exact (V_w m c).trans (by rw [h0, h1])

/-- The gradients of the group's keys and values, laid out by residue of the dilation. -/
def outK : FVec Ideal S4096x256 .f32 := fun y => ((gK X K V' D ⟨(y 0).val * 1 + (y 1).val / 256, by have h0 : (y 0).val < 4096 := (y 0).isLt; have h1 : (y 1).val < 256 := (y 1).isLt; omega⟩
  ⟨0 * 256 + (y 1).val % 256, by omega⟩ : ℝ) : EReal)
def outV : FVec Ideal S4096x256 .f32 := fun y => ((gV X K D ⟨(y 0).val * 1 + (y 1).val / 256, by have h0 : (y 0).val < 4096 := (y 0).isLt; have h1 : (y 1).val < 256 := (y 1).isLt; omega⟩
  ⟨0 * 256 + (y 1).val % 256, by omega⟩ : ℝ) : EReal)

theorem emb_k (t : Fin cfg0.N) (y : S128x256.Idx) : ((cfg0.win 10).blk t).view.emb y
    = (ix2 ⟨t.val % 32 * 128 + (y 0).val, by have := lt_t t; have h0 : (y 0).val < 128 := (y 0).isLt; omega⟩ ⟨t.val / 32 * 256 + (y 1).val, by have := lt_t t; have h1 : (y 1).val < 256 := (y 1).isLt; omega⟩ : S4096x256.Idx) := by
  rw [eq_ix2 y]; blk_ext [idx t]

theorem emb_v (t : Fin cfg0.N) (y : S128x256.Idx) : ((cfg0.win 11).blk t).view.emb y
    = (ix2 ⟨t.val % 32 * 128 + (y 0).val, by have := lt_t t; have h0 : (y 0).val < 128 := (y 0).isLt; omega⟩ ⟨t.val / 32 * 256 + (y 1).val, by have := lt_t t; have h1 : (y 1).val < 256 := (y 1).isLt; omega⟩ : S4096x256.Idx) := by
  rw [eq_ix2 y]; blk_ext [idx t]

section pieces
variable (t : Fin cfg0.N)

/-- Lanes from `o` on of a block whose rows hold `f`. -/
theorem lanes {e : EltTy} (x : S128x256.Idx → Elt Ideal e) (f : Fin 128 → Fin 256 → Elt Ideal e) (hf : ∀ r l, x (ix2 r l) = f r l) {o : ℕ} (p : Fin 2) (ho : o = p.val * 128) (inb) (r l : Fin 128) :
    View.ld x (Rect.unit (s := S128x256) ![0, o] S128x128.size inb) (ix2 r l) = f r (lcol p l) := by
  subst ho; exact (ld_cols x inb r l r.isLt (by omega)).trans (hf _ _)
theorem block {e : EltTy} (x : S128x256.Idx → Elt Ideal e) (f : Fin 128 → Fin 256 → Elt Ideal e) (hf : ∀ r l, x (ix2 r l) = f r l) (inb) (r : Fin 128) (l : Fin 256) :
    View.ld x (Rect.unit (s := S128x256) ![0, 0] S128x256.size inb) (ix2 r l) = f r l :=
  (ld_cols x inb r l r.isLt (by omega)).trans ((hf _ _).trans (congrArg (f r) (Fin.ext (Nat.zero_add _))))

theorem sa_lo (r : Fin 128) : sa t (lcol 0 r) = sq t r := by
  have h : (lcol 0 r).val < 128 := by show 0 * 128 + r.val < 128; omega
  unfold sa
  rw [dif_pos h]
  exact congrArg (sq t) (Fin.ext (by show 0 * 128 + r.val = r.val; omega))
theorem sa_hi (r : Fin 128) : sa t (lcol 1 r) = sn t r := by
  have h : ¬(lcol 1 r).val < 128 := by show ¬(1 * 128 + r.val < 128); omega
  unfold sa
  rw [dif_neg h]
  exact congrArg (sn t) (Fin.ext (by show 1 * 128 + r.val - 128 = r.val; omega))

/-- The tile's queries, and what is read at its queries' rows. -/
def qq (j l : Fin 256) : ℝ := X (ix2 (sa t j) ⟨0 * 256 + l.val, by omega⟩) * (1 / 8)
def rr (f : Fin 4096 → Fin 256 → ℝ) (j l : Fin 256) : ℝ := f (sa t j) l

theorem place_k (p : Fin 2) (r l : Fin 128) (y : S128x256.Idx) (h0 : (y 0).val = r.val) (h1 : (y 1).val = p.val * 128 + l.val) :
    ((gK X K V' D (sq t r) (col 0 p l) : ℝ) : EReal) = outK X K V' D (((cfg0.win 10).blk t).view.emb y) := by
  rw [emb_k]
  have ht := lt_t t
  refine congrArg _ (congrArg₂ (gK X K V' D) (Fin.ext ?_) (Fin.ext ?_))
  · show (t.val % 32 * 128 + r.val) * 1 + t.val / 32 = (t.val % 32 * 128 + (y 0).val) * 1 + (t.val / 32 * 256 + (y 1).val) / 256; omega
  · show 0 * 256 + (p.val * 128 + l.val) = 0 * 256 + (t.val / 32 * 256 + (y 1).val) % 256; omega

theorem place_v (p : Fin 2) (r l : Fin 128) (y : S128x256.Idx) (h0 : (y 0).val = r.val) (h1 : (y 1).val = p.val * 128 + l.val) :
    ((gV X K D (sq t r) (col 0 p l) : ℝ) : EReal) = outV X K D (((cfg0.win 11).blk t).view.emb y) := by
  rw [emb_v]
  have ht := lt_t t
  refine congrArg _ (congrArg₂ (gV X K D) (Fin.ext ?_) (Fin.ext ?_))
  · show (t.val % 32 * 128 + r.val) * 1 + t.val / 32 = (t.val % 32 * 128 + (y 0).val) * 1 + (t.val / 32 * 256 + (y 1).val) / 256; omega
  · show 0 * 256 + (p.val * 128 + l.val) = 0 * 256 + (t.val / 32 * 256 + (y 1).val) % 256; omega

include hx hk hv hd in
theorem piece_k0 (i0 i1 i2) (x : S128x128.Idx) (y : S128x256.Idx) (h0 : (y 0).val = (x 0).val) (h1 : (y 1).val = 0 * 128 + (x 1).val) :
    kLo (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 0] S128x128.size i1)) (View.ld (iblk m c 3 t) (Rect.unit (s := S128x256) ![0, 0] S128x128.size i2))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0))
      (View.ld (iblk m c 6 t) (Rect.unit (s := S128x256) ![0, 0] S128x256.size i0)) (View.ld (iblk m c 7 t) (Rect.unit (s := S128x256) ![0, 0] S128x256.size i0)) x = outK X K V' D (((cfg0.win 10).blk t).view.emb y) := by
  obtain ⟨x0, x1, rfl⟩ : ∃ a b, x = ix2 a b := ⟨x 0, x 1, eq_ix2 x⟩
  change _ = x0.val at h0
  change _ = _ + x1.val at h1
  refine (kLo_eq _ _ _ _ _ _ _ _ _ _ _ (ok t) (qq X t) (rr t (fun s l => D (ix2 s l))) (rr t (cm X K V')) (rr t (wl X K)) (tK K 0 0 (sq t)) (tK V' 0 0 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_o1_of m c (kO (F := Ideal) (up X) (up K) (up V')) (cm X K V') (kO_real X K V') (O_at m c X K V' hx hk hv) t) _ r l).trans (by rw [rr, sa_lo])) (fun r l => (block _ _ (tile_o2_of m c (kO (F := Ideal) (up X) (up K) (up V')) (cm X K V') (kO_real X K V') (O_at m c X K V' hx hk hv) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 0 rfl _) (lanes _ _ (tile_v m c X K V' hx hk hv t) 0 rfl _) x0 x1).trans ?_
  exact (congrArg (fun z : ℝ => (z : EReal)) (pair_k X K V' D 0 0 (sa t) (sq t) (ok t) (ok_sees t 0) (ok_inj t) (ok_all t 0) x0 x1)).trans (place_k X K V' D t 0 x0 x1 y h0 h1)

include hx hk hv hd in
theorem piece_v0 (i0 i1) (x : S128x128.Idx) (y : S128x256.Idx) (h0 : (y 0).val = (x 0).val) (h1 : (y 1).val = 0 * 128 + (x 1).val) :
    vLo (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 0] S128x128.size i1))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0)) x = outV X K D (((cfg0.win 11).blk t).view.emb y) := by
  obtain ⟨x0, x1, rfl⟩ : ∃ a b, x = ix2 a b := ⟨x 0, x 1, eq_ix2 x⟩
  change _ = x0.val at h0
  change _ = _ + x1.val at h1
  refine (vLo_eq _ _ _ _ _ _ _ _ (ok t) (qq X t) (rr t (fun s l => D (ix2 s l))) (rr t (wl X K)) (tK K 0 0 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 0 rfl _) x0 x1).trans ?_
  exact (congrArg (fun z : ℝ => (z : EReal)) (pair_v X K D 0 0 (sa t) (sq t) (ok t) (ok_sees t 0) (ok_inj t) (ok_all t 0) x0 x1)).trans (place_v X K D t 0 x0 x1 y h0 h1)

include hx hk hv hd in
theorem piece_k1 (i0 i1 i2) (x : S128x128.Idx) (y : S128x256.Idx) (h0 : (y 0).val = (x 0).val) (h1 : (y 1).val = 1 * 128 + (x 1).val) :
    kHi (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 128] S128x128.size i1)) (View.ld (iblk m c 3 t) (Rect.unit (s := S128x256) ![0, 128] S128x128.size i2))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0))
      (View.ld (iblk m c 6 t) (Rect.unit (s := S128x256) ![0, 0] S128x256.size i0)) (View.ld (iblk m c 7 t) (Rect.unit (s := S128x256) ![0, 0] S128x256.size i0)) x = outK X K V' D (((cfg0.win 10).blk t).view.emb y) := by
  obtain ⟨x0, x1, rfl⟩ : ∃ a b, x = ix2 a b := ⟨x 0, x 1, eq_ix2 x⟩
  change _ = x0.val at h0
  change _ = _ + x1.val at h1
  refine (kHi_eq _ _ _ _ _ _ _ _ _ _ _ (ok t) (qq X t) (rr t (fun s l => D (ix2 s l))) (rr t (cm X K V')) (rr t (wl X K)) (tK K 0 1 (sq t)) (tK V' 0 1 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_o1_of m c (kO (F := Ideal) (up X) (up K) (up V')) (cm X K V') (kO_real X K V') (O_at m c X K V' hx hk hv) t) _ r l).trans (by rw [rr, sa_lo])) (fun r l => (block _ _ (tile_o2_of m c (kO (F := Ideal) (up X) (up K) (up V')) (cm X K V') (kO_real X K V') (O_at m c X K V' hx hk hv) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 1 rfl _) (lanes _ _ (tile_v m c X K V' hx hk hv t) 1 rfl _) x0 x1).trans ?_
  exact (congrArg (fun z : ℝ => (z : EReal)) (pair_k X K V' D 0 1 (sa t) (sq t) (ok t) (ok_sees t 1) (ok_inj t) (ok_all t 1) x0 x1)).trans (place_k X K V' D t 1 x0 x1 y h0 h1)

include hx hk hv hd in
theorem piece_v1 (i0 i1) (x : S128x128.Idx) (y : S128x256.Idx) (h0 : (y 0).val = (x 0).val) (h1 : (y 1).val = 1 * 128 + (x 1).val) :
    vHi (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 128] S128x128.size i1))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0)) x = outV X K D (((cfg0.win 11).blk t).view.emb y) := by
  obtain ⟨x0, x1, rfl⟩ : ∃ a b, x = ix2 a b := ⟨x 0, x 1, eq_ix2 x⟩
  change _ = x0.val at h0
  change _ = _ + x1.val at h1
  refine (vHi_eq _ _ _ _ _ _ _ _ (ok t) (qq X t) (rr t (fun s l => D (ix2 s l))) (rr t (wl X K)) (tK K 0 1 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 1 rfl _) x0 x1).trans ?_
  exact (congrArg (fun z : ℝ => (z : EReal)) (pair_v X K D 0 1 (sa t) (sq t) (ok t) (ok_sees t 1) (ok_inj t) (ok_all t 1) x0 x1)).trans (place_v X K D t 1 x0 x1 y h0 h1)

end pieces

include hx hk hv hd in
theorem final_k : (dats m 0 c).arrAt 10 cfg0.N = outK X K V' D := by
  refine (dats m 0 c).arrAt_eq_of_covers 10 _ (by decide +kernel) fun t _ y => ?_
  blk_simp
  rw [after0_10]
  frame_out
  canon_tiles x h
  · exact piece_k1 m c X K V' D hx hk hv hd t _ _ _ x y h0 h1
  · exact piece_k0 m c X K V' D hx hk hv hd t _ _ _ x y h0 (h1.trans (by omega))

include hx hk hv hd in
theorem final_v : (dats m 0 c).arrAt 11 cfg0.N = outV X K D := by
  refine (dats m 0 c).arrAt_eq_of_covers 11 _ (by decide +kernel) fun t _ y => ?_
  blk_simp
  rw [after0_11]
  frame_out
  canon_tiles x h
  · exact piece_v1 m c X K V' D hx hk hv hd t _ _ x y h0 h1
  · exact piece_v0 m c X K V' D hx hk hv hd t _ _ x y h0 (h1.trans (by omega))
end arrays

end Cert.Band0DkvKernelIdeal.Hand

namespace Cert.Band0DkvReferenceIdeal.Hand
open Cert.Band0DkvReferenceIdeal Cert.Band0DkvReferenceIdeal.Read Cert.BandReal
open Cert.Band0DqReferenceIdeal.Hand (up whole_k whole_v)

theorem same_k {F : FTy → Type} [FloatOps F] [Named F] (x0 x1 x2 x3) : val_main_v133 (F := F) x0 x1 x2 x3 = Cert.Band0DqReferenceIdeal.Read.val_main_v133 (F := F) x0 x1 x2 x3 := rfl
theorem same_v {F : FTy → Type} [FloatOps F] [Named F] (x0 x1 x3) : val_main_v117 (F := F) x0 x1 x3 = Cert.Band0DqReferenceIdeal.Read.val_main_v117 (F := F) x0 x1 x3 := rfl

theorem ref_k (X K V' : Wide) (D : Quarter) : val_main_v135 (F := Ideal) (up X) (up K) (up V') (up D) = Cert.Band0DkvKernelIdeal.Hand.outK X K V' D := by
  funext y
  obtain ⟨a, b, rfl⟩ : ∃ a b, y = ix2 a b := ⟨y 0, y 1, eq_ix2 y⟩
  have e : ∀ (s : Fin 4096) (l : Fin 256), val_main_v135 (F := Ideal) (up X) (up K) (up V') (up D) (ix2 s l) = ((gK X K V' D s ⟨0 * 256 + l.val, by omega⟩ : ℝ) : EReal) := fun s l => by
    pointwise [val_main_v135]
    rw [same_k]
    exact whole_k X K V' D _ _
  refine (e a b).trans (congrArg _ (congrArg₂ (gK X K V' D) (Fin.ext ?_) (Fin.ext ?_)))
  · show a.val = a.val * 1 + b.val / 256; omega
  · show 0 * 256 + b.val = 0 * 256 + b.val % 256; omega

theorem ref_v (X K V' : Wide) (D : Quarter) : val_main_v136 (F := Ideal) (up X) (up K) (up D) = Cert.Band0DkvKernelIdeal.Hand.outV X K D := by
  funext y
  obtain ⟨a, b, rfl⟩ : ∃ a b, y = ix2 a b := ⟨y 0, y 1, eq_ix2 y⟩
  have e : ∀ (s : Fin 4096) (l : Fin 256), val_main_v136 (F := Ideal) (up X) (up K) (up D) (ix2 s l) = ((gV X K D s ⟨0 * 256 + l.val, by omega⟩ : ℝ) : EReal) := fun s l => by
    pointwise [val_main_v136]
    rw [same_v]
    exact whole_v X K D _ _
  refine (e a b).trans (congrArg _ (congrArg₂ (gV X K D) (Fin.ext ?_) (Fin.ext ?_)))
  · show a.val = a.val * 1 + b.val / 256; omega
  · show 0 * 256 + b.val = 0 * 256 + b.val % 256; omega

end Cert.Band0DkvReferenceIdeal.Hand

end
-- ==== Proof.Band1Dq.lean ====
/-
  The gradient of the queries of the dilated attention's group of dilation 4: the kernel works on tiles of 128 queries of one residue against the 256 keys up to them.
-/
module

public import proofs.«01_k».proof.Proof.Gen.Band1DqKernelIdeal.Value
public import proofs.«01_k».proof.Proof.Gen.Band1DqReferenceIdeal.Run
public import proofs.«01_k».proof.Proof.Gen.Band1DqReferenceIdeal.Read
public import Idealize.ShloMosaic.Lib.Pipeline.ValueKit
public import Idealize.ShloMosaic.Lib.Pointwise
public import proofs.«01_k».proof.Proof.Reals
public import proofs.«01_k».proof.Proof.BandSaved
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Band1DqKernelIdeal.Hand

open Cert.Band1DqKernelIdeal Cert.Band1DqKernelIdeal.Gen Cert.Reals Cert.AttnReal Cert.BandReal Cert.BandTile Cert.BandHost
open Cert.Band0DqReferenceIdeal.Hand (up)

theorem mask_named : (Named.named κ "mask" 4048155338#32 : Ideal .f32) = (⊥ : EReal) := rfl

section pair
variable (ok : IVec S128x256 1) (q : FVec Ideal S128x128 .bf16) (k1 k2 v1 v2 : FVec Ideal S128x256 .bf16) (w d o : FVec Ideal S128x128 .f32)

/-- One pair of heads' gradient of the queries, from the lanes of the first pair and of the second. -/
def pLo : FVec Ideal S128x128 .f32 :=
  k0_pay20 ok (k0_pay4 q) (k0_pay5 k1 k2) (k0_pay6 v1 v2) (k0_pay8 w) (k0_pay12 (k0_pay7 d) o) (k0_pay13 (k0_pay7 d)) (k0_pay17 ok (k0_pay4 q) (k0_pay5 k1 k2) (k0_pay6 v1 v2) (k0_pay8 w) (k0_pay11 (k0_pay7 d) o) (k0_pay13 (k0_pay7 d)) (k0_pay14 (F := Ideal)) (Scalar.select (Scalar.cmpi .eq 128#32 0#32) 1#32 128#32) k0_pay15 k0_pay16) (Scalar.select (Scalar.cmpi .eq 128#32 0#32) 1#32 128#32) k0_pay18 k0_pay19
def pHi : FVec Ideal S128x128 .f32 :=
  k0_pay33 ok (k0_pay21 q) (k0_pay22 (k0_pay2 k1 k2)) (k0_pay23 (k0_pay3 v1 v2)) (k0_pay25 w) (k0_pay29 d o) (k0_pay30 d) (k0_pay32 ok (k0_pay21 q) (k0_pay22 (k0_pay2 k1 k2)) (k0_pay23 (k0_pay3 v1 v2)) (k0_pay25 w) (k0_pay28 d o) (k0_pay30 d) (k0_pay31 (F := Ideal)) (iota .tc S1x128 32 [1] iota_S1x128_d1_w32) 128#32) (iota .tc S1x128 32 [1] iota_S1x128_d1_w32) 128#32 0#32

variable (b : Fin 128 → Fin 256 → Prop) [∀ r, DecidablePred (b r)] (Q D O W : Fin 128 → Fin 128 → ℝ) (KK VV : Fin 256 → Fin 256 → ℝ)
  (hok : ∀ r c, ok (ix2 r c) = BitVec.ofBool (decide (b r c)))
  (hq : ∀ r l, q (ix2 r l) = ((Q r l : ℝ) : EReal)) (hd : ∀ r l, d (ix2 r l) = ((D r l : ℝ) : EReal))
  (ho : ∀ r l, o (ix2 r l) = ((O r l : ℝ) : EReal)) (hw : ∀ r l, w (ix2 r l) = ((W r l : ℝ) : EReal))
  (hk1 : ∀ (c : Fin 128) (l : Fin 256), k1 (ix2 c l) = ((KK (lcol 0 c) l : ℝ) : EReal)) (hk2 : ∀ (c : Fin 128) (l : Fin 256), k2 (ix2 c l) = ((KK (lcol 1 c) l : ℝ) : EReal))
  (hv1 : ∀ (c : Fin 128) (l : Fin 256), v1 (ix2 c l) = ((VV (lcol 0 c) l : ℝ) : EReal)) (hv2 : ∀ (c : Fin 128) (l : Fin 256), v2 (ix2 c l) = ((VV (lcol 1 c) l : ℝ) : EReal))
include hok hq hd ho hw hk1 hk2 hv1 hv2

theorem pLo_eq (r l) : pLo ok q k1 k2 v1 v2 w d o (ix2 r l)
    = ((if l.val < 64 then ∑ j, bs Q D O W (fun c l => KK c (lcol 0 l)) (fun c l => VV c (lcol 0 l)) b 0 r j * KK j (lcol 0 l)
        else ∑ j, bs Q D O W (fun c l => KK c (lcol 0 l)) (fun c l => VV c (lcol 0 l)) b 1 r j * KK j (lcol 0 l) : ℝ) : EReal) := by
  pointwise [pLo, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  simp only [width, rem_lane, lane_lo, lane_hi, lcol_lo, lcol_hi, hok, hq, hd, ho, hw, hk1, hk2, hv1, hv2, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, sum_halves]; rfl
  · simp only [h, if_false, Finset.sum_const_zero, zero_add, sum_halves]; rfl

theorem pHi_eq (r l) : pHi ok q k1 k2 v1 v2 w d o (ix2 r l)
    = ((if l.val < 64 then ∑ j, bs Q D O W (fun c l => KK c (lcol 1 l)) (fun c l => VV c (lcol 1 l)) b 0 r j * KK j (lcol 1 l)
        else ∑ j, bs Q D O W (fun c l => KK c (lcol 1 l)) (fun c l => VV c (lcol 1 l)) b 1 r j * KK j (lcol 1 l) : ℝ) : EReal) := by
  pointwise [pHi, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  simp only [width, rem_lane, lane_lo, lane_hi, lcol_lo, lcol_hi, hok, hq, hd, ho, hw, hk1, hk2, hv1, hv2, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, sum_halves]; rfl
  · simp only [h, if_false, Finset.sum_const_zero, zero_add, sum_halves]; rfl

end pair

section host
variable {F : FTy → Type} [FloatOps F] [Named F]
variable (m : (ℓ : Loc nD τ sig) → Buf (Elt F) ℓ) (c : Dev nD)

/-! What the host lines before the call leave in the arrays the call reads. -/

set_option maxHeartbeats 4000000 in
theorem V_x : V m c main_v81 = shapeCast S1024x10240 (wide (m (c, Proc.tc.devRef main_arg0)) (m (c, Proc.tc.devRef main_arg1)) (m (c, Proc.tc.devRef main_arg2)) (m (c, Proc.tc.devRef main_arg3))) shapeCasts_S4096x2560_S1024x10240 := by
  unfold V
  after_reads_simp
  rfl
set_option maxHeartbeats 4000000 in
theorem V_o : V m c main_v83 = shapeCast S1024x1024 (kO (m (c, Proc.tc.devRef main_arg0)) (m (c, Proc.tc.devRef main_arg1)) (m (c, Proc.tc.devRef main_arg2))) shapeCasts_S4096x256_S1024x1024 := by
  unfold V
  after_reads_simp
  rfl
set_option maxHeartbeats 4000000 in
theorem V_w : V m c main_v84 = shapeCast S1024x1024 (kW (m (c, Proc.tc.devRef main_arg0)) (m (c, Proc.tc.devRef main_arg1))) shapeCasts_S4096x256_S1024x1024 := by
  unfold V
  after_reads_simp
  rfl
set_option maxHeartbeats 4000000 in
theorem V_d : V m c main_v82 = shapeCast S1024x1024 (m (c, Proc.tc.devRef main_arg4)) shapeCasts_S4096x256_S1024x1024 := by
  unfold V
  after_reads_simp
  rfl

/-! A window block is a part of its array. -/

theorem iblk_0 (t : Fin cfg0.N) (y : S128x256.Idx) : iblk m c 0 t y = V m c main_v81 (((cfg0.win 0).blk t).view.emb y) := rfl
theorem iblk_1 (t : Fin cfg0.N) (y : S128x256.Idx) : iblk m c 1 t y = V m c main_v81 (((cfg0.win 1).blk t).view.emb y) := rfl
theorem iblk_2 (t : Fin cfg0.N) (y : S128x256.Idx) : iblk m c 2 t y = V m c main_v81 (((cfg0.win 2).blk t).view.emb y) := rfl
theorem iblk_3 (t : Fin cfg0.N) (y : S128x256.Idx) : iblk m c 3 t y = V m c main_v81 (((cfg0.win 3).blk t).view.emb y) := rfl
theorem iblk_4 (t : Fin cfg0.N) (y : S128x256.Idx) : iblk m c 4 t y = V m c main_v81 (((cfg0.win 4).blk t).view.emb y) := rfl
theorem iblk_5 (t : Fin cfg0.N) (y : S128x256.Idx) : iblk m c 5 t y = V m c main_v82 (((cfg0.win 5).blk t).view.emb y) := rfl
theorem iblk_6 (t : Fin cfg0.N) (y : S128x256.Idx) : iblk m c 6 t y = V m c main_v83 (((cfg0.win 6).blk t).view.emb y) := rfl
theorem iblk_7 (t : Fin cfg0.N) (y : S128x256.Idx) : iblk m c 7 t y = V m c main_v84 (((cfg0.win 7).blk t).view.emb y) := rfl
end host

/-! Position `a` of residue `ρ` of the dilation, as a row of the whole arrays. -/

def at_ (a : ℕ) (ρ : ℕ) (h : a < 1024 ∧ ρ < 4) : Fin 4096 := ⟨a * 4 + ρ, by omega⟩

theorem at_2560 {e : EltTy} (A : S4096x2560.Idx → Elt Ideal e) (a ρ : ℕ) (h : a < 1024 ∧ ρ < 4) (z : Fin 2560) :
    shapeCast S1024x10240 A shapeCasts_S4096x2560_S1024x10240 (ix2 ⟨a, h.1⟩ ⟨ρ * 2560 + z.val, by omega⟩) = A (ix2 (at_ a ρ h) z) := by
  have e : ∀ (x : Fin 1024) (y : Fin 10240), shapeCast S1024x10240 A shapeCasts_S4096x2560_S1024x10240 (ix2 x y)
      = A (ix2 ⟨x.val * 4 + y.val / 2560, by omega⟩ ⟨y.val % 2560, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 4 + (ρ * 2560 + z.val) / 2560 = a * 4 + ρ; omega
  · show (ρ * 2560 + z.val) % 2560 = z.val; omega

theorem at_256 {e : EltTy} (A : S4096x256.Idx → Elt Ideal e) (a ρ : ℕ) (h : a < 1024 ∧ ρ < 4) (z : Fin 256) :
    shapeCast S1024x1024 A shapeCasts_S4096x256_S1024x1024 (ix2 ⟨a, h.1⟩ ⟨ρ * 256 + z.val, by omega⟩) = A (ix2 (at_ a ρ h) z) := by
  have e : ∀ (x : Fin 1024) (y : Fin 1024), shapeCast S1024x1024 A shapeCasts_S4096x256_S1024x1024 (ix2 x y)
      = A (ix2 ⟨x.val * 4 + y.val / 256, by omega⟩ ⟨y.val % 256, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 4 + (ρ * 256 + z.val) / 256 = a * 4 + ρ; omega
  · show (ρ * 256 + z.val) % 256 = z.val; omega

/-! The grid: point `t` is row block `t % 8` of residue `t / 8`. -/

theorem lt_t (t : Fin cfg0.N) : t.val < 32 := lt_of_lt_of_eq t.isLt N_0
theorem coord (t : Fin cfg0.N) : (grid0.coords t 1).val = t.val % 8 :=
  (by decide +kernel : ∀ t : Fin grid0.N, (grid0.coords t 1).val = t.val % 8) t
theorem idx : ∀ t : Fin cfg0.N, win0_0.index t = ![t.val % 8, t.val / 8 * 10 + 1] ∧ win0_1.index t = ![t.val % 8 - 1, t.val / 8 * 10 + 4]
    ∧ win0_2.index t = ![t.val % 8, t.val / 8 * 10 + 4] ∧ win0_3.index t = ![t.val % 8 - 1, t.val / 8 * 10 + 7]
    ∧ win0_4.index t = ![t.val % 8, t.val / 8 * 10 + 7] ∧ win0_5.index t = ![t.val % 8, t.val / 8] ∧ win0_6.index t = ![t.val % 8, t.val / 8]
    ∧ win0_7.index t = ![t.val % 8, t.val / 8] ∧ win0_8.index t = ![t.val % 8, t.val / 8] :=
  (by decide +kernel : ∀ t : Fin grid0.N, _)

/-- The rows of a tile's queries, of the keys of the block before, of the block's own, and of both together. -/
def sq (t : Fin cfg0.N) (r : Fin 128) : Fin 4096 := at_ (t.val % 8 * 128 + r.val) (t.val / 8) (by have := lt_t t; omega)
def sp (t : Fin cfg0.N) (r : Fin 128) : Fin 4096 := at_ ((t.val % 8 - 1) * 128 + r.val) (t.val / 8) (by have := lt_t t; omega)
def su (t : Fin cfg0.N) (j : Fin 256) : Fin 4096 :=
  if h : j.val < 128 then sp t ⟨j.val, h⟩ else sq t ⟨j.val - 128, by omega⟩

/-- Which of the tile's keys a query sees. -/
def ok (t : Fin cfg0.N) (r : Fin 128) (j : Fin 256) : Prop := 128 ≤ t.val % 8 * 128 + j.val ∧ r.val ≤ j.val ∧ j.val ≤ r.val + 128
instance (t : Fin cfg0.N) (r : Fin 128) : DecidablePred (ok t r) := fun j => by unfold ok; infer_instance

theorem ok_word (t : Fin cfg0.N) (r j) : k0_pay1 (grid0.coords t) (ix2 r j) = BitVec.ofBool (decide (ok t r j)) := by
  pointwise [k0_pay1]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 1024)))
      (word_at (t.val % 8) r.val) (word_before (t.val % 8) j.val)).trans ?_
  rw [word_ok _ _ _ (by omega) (by omega) (by omega) (by omega) (by omega) (by omega)]
  refine congrArg _ (decide_eq_decide.2 ?_)
  unfold ok
  omega

theorem su_ok (t : Fin cfg0.N) (r j) (h : ok t r j) : (su t j).val = (t.val % 8 * 128 + j.val - 128) * 4 + t.val / 8 := by
  obtain ⟨h1, h2, h3⟩ := h
  unfold su
  split
  · show ((t.val % 8 - 1) * 128 + j.val) * 4 + t.val / 8 = _; omega
  · show (t.val % 8 * 128 + (j.val - 128)) * 4 + t.val / 8 = _; omega

theorem dil_head (p a : Fin 2) : dil (head 1 p a) = 4 := by revert p a; decide

theorem ok_sees (t : Fin cfg0.N) (p a r j) (h : ok t r j) : sees (head 1 p a) (sq t r) (su t j) := by
  have h' := h
  obtain ⟨h1, h2, h3⟩ := h'
  exact sees_of _ _ _ 4 (t.val / 8) (t.val % 8 * 128 + r.val) (t.val % 8 * 128 + j.val - 128) (dil_head p a) rfl (su_ok t r j h) (by omega) (by omega)

theorem ok_inj (t : Fin cfg0.N) (r i j) (h : ok t r i) (h' : ok t r j) (e : su t i = su t j) : i = j := by
  have e' := congrArg Fin.val e
  rw [su_ok t r i h, su_ok t r j h'] at e'
  obtain ⟨h1, h2, h3⟩ := h
  obtain ⟨h4, h5, h6⟩ := h'
  exact Fin.ext (by omega)

theorem ok_all (t : Fin cfg0.N) (p a r k) (h : sees (head 1 p a) (sq t r) k) : ∃ j, ok t r j ∧ su t j = k := by
  obtain ⟨n, hn, e⟩ := sees_steps _ _ _ 4 (dil_head p a) (by decide) h
  have e' : (t.val % 8 * 128 + r.val) * 4 + t.val / 8 = k.val + n * 4 := e
  have ht := lt_t t
  have hk : ok t r ⟨r.val + 128 - n, by omega⟩ := by
    refine ⟨?_, ?_, ?_⟩
    · show 128 ≤ t.val % 8 * 128 + (r.val + 128 - n); omega
    · show r.val ≤ r.val + 128 - n; omega
    · show r.val + 128 - n ≤ r.val + 128; omega
  refine ⟨_, hk, Fin.ext ?_⟩
  rw [su_ok t r _ hk]
  show (t.val % 8 * 128 + (r.val + 128 - n) - 128) * 4 + t.val / 8 = k.val
  omega

section arrays
variable (m : (ℓ : Loc nD τ sig) → Buf (Elt Ideal) ℓ) (c : Dev nD) (X K V' : Wide) (D : Quarter)
  (hx : m ((c : Thread nD τ).loc main_arg0) = up X) (hk : m ((c : Thread nD τ).loc main_arg1) = up K)
  (hv : m ((c : Thread nD τ).loc main_arg2) = up V') (hd : m ((c : Thread nD τ).loc main_arg4) = up D)

include hx hk hv in
theorem tile_q (t : Fin cfg0.N) (r : Fin 128) (l : Fin 256) : iblk m c 0 t (ix2 r l) = ((X (ix2 (sq t r) ⟨1 * 256 + l.val, by omega⟩) * (1 / 8) : ℝ) : EReal) := by
  have ht := lt_t t
  have e : ((cfg0.win 0).blk t).view.emb (ix2 r l) = (ix2 ⟨t.val % 8 * 128 + r.val, by omega⟩ ⟨t.val / 8 * 2560 + (⟨(1 * 256 + l.val), by omega⟩ : Fin 2560).val, by show _ + ((1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_0, e, V_x, h0, h1, h2]
  exact (at_2560 (e := .bf16) (wide (F := Ideal) (up X) (up K) (up V') (m (c, Proc.tc.devRef main_arg3))) (t.val % 8 * 128 + r.val) (t.val / 8) (by omega) (⟨(1 * 256 + l.val), by omega⟩ : Fin 2560)).trans (wide_q X K V' _ _ (⟨1 * 256 + l.val, by omega⟩ : Fin 768))

include hx hk hv in
theorem tile_k1 (t : Fin cfg0.N) (r : Fin 128) (l : Fin 256) : iblk m c 1 t (ix2 r l) = ((K (ix2 (sp t r) ⟨1 * 256 + l.val, by omega⟩) : ℝ) : EReal) := by
  have ht := lt_t t
  have e : ((cfg0.win 1).blk t).view.emb (ix2 r l) = (ix2 ⟨(t.val % 8 - 1) * 128 + r.val, by omega⟩ ⟨t.val / 8 * 2560 + (⟨768 + (1 * 256 + l.val), by omega⟩ : Fin 2560).val, by show _ + (768 + (1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_1, e, V_x, h0, h1, h2]
  exact (at_2560 (e := .bf16) (wide (F := Ideal) (up X) (up K) (up V') (m (c, Proc.tc.devRef main_arg3))) ((t.val % 8 - 1) * 128 + r.val) (t.val / 8) (by omega) (⟨768 + (1 * 256 + l.val), by omega⟩ : Fin 2560)).trans (wide_k X K V' _ _ (⟨1 * 256 + l.val, by omega⟩ : Fin 768))

include hx hk hv in
theorem tile_k2 (t : Fin cfg0.N) (r : Fin 128) (l : Fin 256) : iblk m c 2 t (ix2 r l) = ((K (ix2 (sq t r) ⟨1 * 256 + l.val, by omega⟩) : ℝ) : EReal) := by
  have ht := lt_t t
  have e : ((cfg0.win 2).blk t).view.emb (ix2 r l) = (ix2 ⟨t.val % 8 * 128 + r.val, by omega⟩ ⟨t.val / 8 * 2560 + (⟨768 + (1 * 256 + l.val), by omega⟩ : Fin 2560).val, by show _ + (768 + (1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_2, e, V_x, h0, h1, h2]
  exact (at_2560 (e := .bf16) (wide (F := Ideal) (up X) (up K) (up V') (m (c, Proc.tc.devRef main_arg3))) (t.val % 8 * 128 + r.val) (t.val / 8) (by omega) (⟨768 + (1 * 256 + l.val), by omega⟩ : Fin 2560)).trans (wide_k X K V' _ _ (⟨1 * 256 + l.val, by omega⟩ : Fin 768))

include hx hk hv in
theorem tile_v1 (t : Fin cfg0.N) (r : Fin 128) (l : Fin 256) : iblk m c 3 t (ix2 r l) = ((V' (ix2 (sp t r) ⟨1 * 256 + l.val, by omega⟩) : ℝ) : EReal) := by
  have ht := lt_t t
  have e : ((cfg0.win 3).blk t).view.emb (ix2 r l) = (ix2 ⟨(t.val % 8 - 1) * 128 + r.val, by omega⟩ ⟨t.val / 8 * 2560 + (⟨1536 + (1 * 256 + l.val), by omega⟩ : Fin 2560).val, by show _ + (1536 + (1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_3, e, V_x, h0, h1, h2]
  exact (at_2560 (e := .bf16) (wide (F := Ideal) (up X) (up K) (up V') (m (c, Proc.tc.devRef main_arg3))) ((t.val % 8 - 1) * 128 + r.val) (t.val / 8) (by omega) (⟨1536 + (1 * 256 + l.val), by omega⟩ : Fin 2560)).trans (wide_v X K V' _ _ (⟨1 * 256 + l.val, by omega⟩ : Fin 768))

include hx hk hv in
theorem tile_v2 (t : Fin cfg0.N) (r : Fin 128) (l : Fin 256) : iblk m c 4 t (ix2 r l) = ((V' (ix2 (sq t r) ⟨1 * 256 + l.val, by omega⟩) : ℝ) : EReal) := by
  have ht := lt_t t
  have e : ((cfg0.win 4).blk t).view.emb (ix2 r l) = (ix2 ⟨t.val % 8 * 128 + r.val, by omega⟩ ⟨t.val / 8 * 2560 + (⟨1536 + (1 * 256 + l.val), by omega⟩ : Fin 2560).val, by show _ + (1536 + (1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_4, e, V_x, h0, h1, h2]
  exact (at_2560 (e := .bf16) (wide (F := Ideal) (up X) (up K) (up V') (m (c, Proc.tc.devRef main_arg3))) (t.val % 8 * 128 + r.val) (t.val / 8) (by omega) (⟨1536 + (1 * 256 + l.val), by omega⟩ : Fin 2560)).trans (wide_v X K V' _ _ (⟨1 * 256 + l.val, by omega⟩ : Fin 768))

omit hx hk hv hd in
theorem tile_d_of (A : S4096x256.Idx → Elt Ideal .f32) (f : Fin 4096 → Fin 256 → ℝ) (hA : ∀ s l, A (ix2 s l) = ((f s l : ℝ) : EReal))
    (h : V m c main_v82 = shapeCast S1024x1024 A shapeCasts_S4096x256_S1024x1024) (t : Fin cfg0.N) (r : Fin 128) (l : Fin 256) : iblk m c 5 t (ix2 r l) = ((f (sq t r) l : ℝ) : EReal) := by
  have ht := lt_t t
  have e : ((cfg0.win 5).blk t).view.emb (ix2 r l) = (ix2 ⟨t.val % 8 * 128 + r.val, by omega⟩ ⟨t.val / 8 * 256 + l.val, by omega⟩ : S1024x1024.Idx) := by
    blk_ext [idx t]
  rw [iblk_5, e, h]
  exact (at_256 A (t.val % 8 * 128 + r.val) (t.val / 8) (by omega) l).trans (hA _ _)

omit hx hk hv hd in
theorem tile_o_of (A : S4096x256.Idx → Elt Ideal .f32) (f : Fin 4096 → Fin 256 → ℝ) (hA : ∀ s l, A (ix2 s l) = ((f s l : ℝ) : EReal))
    (h : V m c main_v83 = shapeCast S1024x1024 A shapeCasts_S4096x256_S1024x1024) (t : Fin cfg0.N) (r : Fin 128) (l : Fin 256) : iblk m c 6 t (ix2 r l) = ((f (sq t r) l : ℝ) : EReal) := by
  have ht := lt_t t
  have e : ((cfg0.win 6).blk t).view.emb (ix2 r l) = (ix2 ⟨t.val % 8 * 128 + r.val, by omega⟩ ⟨t.val / 8 * 256 + l.val, by omega⟩ : S1024x1024.Idx) := by
    blk_ext [idx t]
  rw [iblk_6, e, h]
  exact (at_256 A (t.val % 8 * 128 + r.val) (t.val / 8) (by omega) l).trans (hA _ _)

omit hx hk hv hd in
theorem tile_w_of (A : S4096x256.Idx → Elt Ideal .f32) (f : Fin 4096 → Fin 256 → ℝ) (hA : ∀ s l, A (ix2 s l) = ((f s l : ℝ) : EReal))
    (h : V m c main_v84 = shapeCast S1024x1024 A shapeCasts_S4096x256_S1024x1024) (t : Fin cfg0.N) (r : Fin 128) (l : Fin 256) : iblk m c 7 t (ix2 r l) = ((f (sq t r) l : ℝ) : EReal) := by
  have ht := lt_t t
  have e : ((cfg0.win 7).blk t).view.emb (ix2 r l) = (ix2 ⟨t.val % 8 * 128 + r.val, by omega⟩ ⟨t.val / 8 * 256 + l.val, by omega⟩ : S1024x1024.Idx) := by
    blk_ext [idx t]
  rw [iblk_7, e, h]
  exact (at_256 A (t.val % 8 * 128 + r.val) (t.val / 8) (by omega) l).trans (hA _ _)

include hd in
theorem tile_d (t : Fin cfg0.N) (r : Fin 128) (l : Fin 256) : iblk m c 5 t (ix2 r l) = ((D (ix2 (sq t r) l) : ℝ) : EReal) := by
  have h4 : m (c, Proc.tc.devRef main_arg4) = up D := hd
  exact tile_d_of m c (up D) (fun s l => D (ix2 s l)) (fun _ _ => rfl) ((V_d m c).trans (by rw [h4])) t r l
include hx hk hv in
theorem tile_o (t : Fin cfg0.N) (r : Fin 128) (l : Fin 256) : iblk m c 6 t (ix2 r l) = ((cm X K V' (sq t r) l : ℝ) : EReal) := by
  have h0 : m (c, Proc.tc.devRef main_arg0) = up X := hx
  have h1 : m (c, Proc.tc.devRef main_arg1) = up K := hk
  have h2 : m (c, Proc.tc.devRef main_arg2) = up V' := hv
  exact tile_o_of m c (kO (F := Ideal) (up X) (up K) (up V')) (cm X K V') (kO_real X K V') ((V_o m c).trans (by rw [h0, h1, h2])) t r l
include hx hk in
theorem tile_w (t : Fin cfg0.N) (r : Fin 128) (l : Fin 256) : iblk m c 7 t (ix2 r l) = ((wl X K (sq t r) l : ℝ) : EReal) := by
  have h0 : m (c, Proc.tc.devRef main_arg0) = up X := hx
  have h1 : m (c, Proc.tc.devRef main_arg1) = up K := hk
  exact tile_w_of m c (kW (F := Ideal) (up X) (up K)) (wl X K) (kW_real X K) ((V_w m c).trans (by rw [h0, h1])) t r l

/-- The gradient of the group's queries, laid out by residue of the dilation. -/
def outQ : FVec Ideal S1024x1024 .f32 := fun y => ((gQ X K V' D ⟨(y 0).val * 4 + (y 1).val / 256, by have h0 : (y 0).val < 1024 := (y 0).isLt; have h1 : (y 1).val < 1024 := (y 1).isLt; omega⟩
  ⟨1 * 256 + (y 1).val % 256, by omega⟩ : ℝ) : EReal)

theorem emb_q (t : Fin cfg0.N) (y : S128x256.Idx) : ((cfg0.win 8).blk t).view.emb y
    = (ix2 ⟨t.val % 8 * 128 + (y 0).val, by have := lt_t t; have h0 : (y 0).val < 128 := (y 0).isLt; omega⟩ ⟨t.val / 8 * 256 + (y 1).val, by have := lt_t t; have h1 : (y 1).val < 256 := (y 1).isLt; omega⟩ : S1024x1024.Idx) := by
  rw [eq_ix2 y]; blk_ext [idx t]

section pieces
variable (t : Fin cfg0.N)

/-- Lanes from `o` on of a block whose rows hold `f`. -/
theorem lanes {e : EltTy} (x : S128x256.Idx → Elt Ideal e) (f : Fin 128 → Fin 256 → Elt Ideal e) (hf : ∀ r l, x (ix2 r l) = f r l) {o : ℕ} (p : Fin 2) (ho : o = p.val * 128) (inb) (r l : Fin 128) :
    View.ld x (Rect.unit (s := S128x256) ![0, o] S128x128.size inb) (ix2 r l) = f r (lcol p l) := by
  subst ho; exact (ld_cols x inb r l r.isLt (by omega)).trans (hf _ _)
theorem block {e : EltTy} (x : S128x256.Idx → Elt Ideal e) (f : Fin 128 → Fin 256 → Elt Ideal e) (hf : ∀ r l, x (ix2 r l) = f r l) (inb) (r : Fin 128) (l : Fin 256) :
    View.ld x (Rect.unit (s := S128x256) ![0, 0] S128x256.size inb) (ix2 r l) = f r l :=
  (ld_cols x inb r l r.isLt (by omega)).trans ((hf _ _).trans (congrArg (f r) (Fin.ext (Nat.zero_add _))))

theorem su_lo (r : Fin 128) : su t (lcol 0 r) = sp t r := by
  have h : (lcol 0 r).val < 128 := by show 0 * 128 + r.val < 128; omega
  unfold su
  rw [dif_pos h]
  exact congrArg (sp t) (Fin.ext (by show 0 * 128 + r.val = r.val; omega))
theorem su_hi (r : Fin 128) : su t (lcol 1 r) = sq t r := by
  have h : ¬(lcol 1 r).val < 128 := by show ¬(1 * 128 + r.val < 128); omega
  unfold su
  rw [dif_neg h]
  exact congrArg (sq t) (Fin.ext (by show 1 * 128 + r.val - 128 = r.val; omega))

/-- The group's lanes of a row. -/
def kk (A : Wide) (j l : Fin 256) : ℝ := A (ix2 (su t j) ⟨1 * 256 + l.val, by omega⟩)

theorem place (p : Fin 2) (r l : Fin 128) (y : S128x256.Idx) (h0 : (y 0).val = r.val) (h1 : (y 1).val = p.val * 128 + l.val) :
    ((gQ X K V' D (sq t r) (col 1 p l) : ℝ) : EReal) = outQ X K V' D (((cfg0.win 8).blk t).view.emb y) := by
  rw [emb_q]
  have ht := lt_t t
  refine congrArg _ (congrArg₂ (gQ X K V' D) (Fin.ext ?_) (Fin.ext ?_))
  · show (t.val % 8 * 128 + r.val) * 4 + t.val / 8 = (t.val % 8 * 128 + (y 0).val) * 4 + (t.val / 8 * 256 + (y 1).val) / 256; omega
  · show 1 * 256 + (p.val * 128 + l.val) = 1 * 256 + (t.val / 8 * 256 + (y 1).val) % 256; omega

include hx hk hv hd in
theorem piece0 (i0 i1 i2 i3 i4) (x : S128x128.Idx) (y : S128x256.Idx) (h0 : (y 0).val = (x 0).val) (h1 : (y 1).val = 0 * 128 + (x 1).val) :
    pLo (k0_pay1 (grid0.coords t)) (View.ld (iblk m c 0 t) (Rect.unit (s := S128x256) ![0, 0] S128x128.size i0))
      (View.ld (iblk m c 1 t) (Rect.unit (s := S128x256) ![0, 0] S128x256.size i4)) (View.ld (iblk m c 2 t) (Rect.unit (s := S128x256) ![0, 0] S128x256.size i4))
      (View.ld (iblk m c 3 t) (Rect.unit (s := S128x256) ![0, 0] S128x256.size i4)) (View.ld (iblk m c 4 t) (Rect.unit (s := S128x256) ![0, 0] S128x256.size i4))
      (View.ld (iblk m c 7 t) (Rect.unit (s := S128x256) ![0, 0] S128x128.size i1)) (View.ld (iblk m c 5 t) (Rect.unit (s := S128x256) ![0, 0] S128x128.size i2))
      (View.ld (iblk m c 6 t) (Rect.unit (s := S128x256) ![0, 0] S128x128.size i3)) x = outQ X K V' D (((cfg0.win 8).blk t).view.emb y) := by
  obtain ⟨x0, x1, rfl⟩ : ∃ a b, x = ix2 a b := ⟨x 0, x 1, eq_ix2 x⟩
  change _ = x0.val at h0
  change _ = _ + x1.val at h1
  refine (pLo_eq _ _ _ _ _ _ _ _ _ (ok t) (tQ X 1 0 (sq t)) (tD D 0 (sq t)) (tO X K V' 0 (sq t)) (tW X K 0 (sq t)) (kk t K) (kk t V') (ok_word t)
    (lanes _ _ (tile_q m c X K V' hx hk hv t) 0 rfl _) (lanes _ _ (tile_d m c D hd t) 0 rfl _) (lanes _ _ (tile_o m c X K V' hx hk hv t) 0 rfl _)
    (lanes _ _ (tile_w m c X K hx hk t) 0 rfl _)
    (fun r l => (block _ _ (tile_k1 m c X K V' hx hk hv t) _ r l).trans (by rw [kk, su_lo])) (fun r l => (block _ _ (tile_k2 m c X K V' hx hk hv t) _ r l).trans (by rw [kk, su_hi]))
    (fun r l => (block _ _ (tile_v1 m c X K V' hx hk hv t) _ r l).trans (by rw [kk, su_lo])) (fun r l => (block _ _ (tile_v2 m c X K V' hx hk hv t) _ r l).trans (by rw [kk, su_hi])) x0 x1).trans ?_
  exact (congrArg (fun z : ℝ => (z : EReal)) (pair_q X K V' D 1 0 (sq t) (su t) (ok t) (ok_sees t 0) (ok_inj t) (ok_all t 0) x0 x1)).trans (place X K V' D t 0 x0 x1 y h0 h1)

include hx hk hv hd in
theorem piece1 (i0 i1 i2 i3 i4) (x : S128x128.Idx) (y : S128x256.Idx) (h0 : (y 0).val = (x 0).val) (h1 : (y 1).val = 1 * 128 + (x 1).val) :
    pHi (k0_pay1 (grid0.coords t)) (View.ld (iblk m c 0 t) (Rect.unit (s := S128x256) ![0, 128] S128x128.size i0))
      (View.ld (iblk m c 1 t) (Rect.unit (s := S128x256) ![0, 0] S128x256.size i4)) (View.ld (iblk m c 2 t) (Rect.unit (s := S128x256) ![0, 0] S128x256.size i4))
      (View.ld (iblk m c 3 t) (Rect.unit (s := S128x256) ![0, 0] S128x256.size i4)) (View.ld (iblk m c 4 t) (Rect.unit (s := S128x256) ![0, 0] S128x256.size i4))
      (View.ld (iblk m c 7 t) (Rect.unit (s := S128x256) ![0, 128] S128x128.size i1)) (View.ld (iblk m c 5 t) (Rect.unit (s := S128x256) ![0, 128] S128x128.size i2))
      (View.ld (iblk m c 6 t) (Rect.unit (s := S128x256) ![0, 128] S128x128.size i3)) x = outQ X K V' D (((cfg0.win 8).blk t).view.emb y) := by
  obtain ⟨x0, x1, rfl⟩ : ∃ a b, x = ix2 a b := ⟨x 0, x 1, eq_ix2 x⟩
  change _ = x0.val at h0
  change _ = _ + x1.val at h1
  refine (pHi_eq _ _ _ _ _ _ _ _ _ (ok t) (tQ X 1 1 (sq t)) (tD D 1 (sq t)) (tO X K V' 1 (sq t)) (tW X K 1 (sq t)) (kk t K) (kk t V') (ok_word t)
    (lanes _ _ (tile_q m c X K V' hx hk hv t) 1 rfl _) (lanes _ _ (tile_d m c D hd t) 1 rfl _) (lanes _ _ (tile_o m c X K V' hx hk hv t) 1 rfl _)
    (lanes _ _ (tile_w m c X K hx hk t) 1 rfl _)
    (fun r l => (block _ _ (tile_k1 m c X K V' hx hk hv t) _ r l).trans (by rw [kk, su_lo])) (fun r l => (block _ _ (tile_k2 m c X K V' hx hk hv t) _ r l).trans (by rw [kk, su_hi]))
    (fun r l => (block _ _ (tile_v1 m c X K V' hx hk hv t) _ r l).trans (by rw [kk, su_lo])) (fun r l => (block _ _ (tile_v2 m c X K V' hx hk hv t) _ r l).trans (by rw [kk, su_hi])) x0 x1).trans ?_
  exact (congrArg (fun z : ℝ => (z : EReal)) (pair_q X K V' D 1 1 (sq t) (su t) (ok t) (ok_sees t 1) (ok_inj t) (ok_all t 1) x0 x1)).trans (place X K V' D t 1 x0 x1 y h0 h1)

end pieces

include hx hk hv hd in
theorem final_q : (dats m 0 c).arrAt 8 cfg0.N = outQ X K V' D := by
  refine (dats m 0 c).arrAt_eq_of_covers 8 _ (by decide +kernel) fun t _ y => ?_
  blk_simp
  rw [after0_8]
  frame_out
  canon_tiles x h
  · exact piece1 m c X K V' D hx hk hv hd t _ _ _ _ _ x y h0 h1
  · exact piece0 m c X K V' D hx hk hv hd t _ _ _ _ _ x y h0 (h1.trans (by omega))
end arrays

end Cert.Band1DqKernelIdeal.Hand

namespace Cert.Band1DqReferenceIdeal.Hand
open Cert.Band1DqReferenceIdeal Cert.Band1DqReferenceIdeal.Read Cert.BandReal
open Cert.Band0DqReferenceIdeal.Hand (up whole_q)

theorem same {F : FTy → Type} [FloatOps F] [Named F] (x0 x1 x2 x3) : val_main_v134 (F := F) x0 x1 x2 x3 = Cert.Band0DqReferenceIdeal.Read.val_main_v134 (F := F) x0 x1 x2 x3 := rfl

theorem ref (X K V' : Wide) (D : Quarter) : val_main_v136 (F := Ideal) (up X) (up K) (up V') (up D) = Cert.Band1DqKernelIdeal.Hand.outQ X K V' D := by
  funext y
  obtain ⟨a, b, rfl⟩ : ∃ a b, y = ix2 a b := ⟨y 0, y 1, eq_ix2 y⟩
  have e : ∀ (s : Fin 4096) (l : Fin 256), val_main_v135 (F := Ideal) (up X) (up K) (up V') (up D) (ix2 s l) = ((gQ X K V' D s ⟨1 * 256 + l.val, by omega⟩ : ℝ) : EReal) := fun s l => by
    pointwise [val_main_v135]
    rw [same]
    exact whole_q X K V' D _ _
  pointwise [val_main_v136]
  exact e _ _

end Cert.Band1DqReferenceIdeal.Hand

end
-- ==== Proof.Band1Dkv.lean ====
/-
  The gradients of the keys and of the values of the dilated attention's group of dilation 4: the kernel works on tiles of 128 keys of one residue against the 256 queries from them on.
-/
module

public import proofs.«01_k».proof.Proof.Gen.Band1DkvKernelIdeal.Value
public import proofs.«01_k».proof.Proof.Gen.Band1DkvReferenceIdeal.Run
public import proofs.«01_k».proof.Proof.Gen.Band1DkvReferenceIdeal.Read
public import Idealize.ShloMosaic.Lib.Pipeline.ValueKit
public import Idealize.ShloMosaic.Lib.Pointwise
public import proofs.«01_k».proof.Proof.Reals
public import proofs.«01_k».proof.Proof.BandSaved
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Band1DkvKernelIdeal.Hand

open Cert.Band1DkvKernelIdeal Cert.Band1DkvKernelIdeal.Gen Cert.Reals Cert.AttnReal Cert.BandReal Cert.BandTile Cert.BandHost
open Cert.Band0DqReferenceIdeal.Hand (up)

theorem mask_named : (Named.named κ "mask" 4048155338#32 : Ideal .f32) = (⊥ : EReal) := rfl

section pair
variable (ok : IVec S256x128 1) (q1 q2 : FVec Ideal S128x256 .bf16) (k v : FVec Ideal S128x128 .bf16) (w1 w2 d1 d2 o1 o2 : FVec Ideal S128x256 .f32)

/-- One pair of heads' gradients of the keys and of the values, from the lanes of the first pair and of the second. -/
def kLo : FVec Ideal S128x128 .f32 :=
  k0_pay31 ok (k0_pay9 (k0_pay4 q1 q2)) (k0_pay10 k) (k0_pay11 v) (k0_pay13 (k0_pay7 w1) w2) (k0_pay17 (k0_pay5 d1 d2) (k0_pay6 o1 o2)) (k0_pay18 (k0_pay5 d1 d2)) (k0_pay25 ok (k0_pay9 (k0_pay4 q1 q2)) (k0_pay10 k) (k0_pay11 v) (k0_pay13 (k0_pay7 w1) w2) (k0_pay16 (k0_pay5 d1 d2) (k0_pay6 o1 o2)) (k0_pay18 (k0_pay5 d1 d2)) (k0_pay19 (F := Ideal)))
def kHi : FVec Ideal S128x128 .f32 :=
  k0_pay2 (k0_pay52 (k0_pay43 (F := Ideal)) (k0_pay46 (k0_pay32 (k0_pay4 q1 q2))) (k0_pay49 ok (k0_pay32 (k0_pay4 q1 q2)) (k0_pay33 k) (k0_pay34 v) (k0_pay35 (k0_pay5 d1 d2)) (k0_pay36 (k0_pay8 (k0_pay7 w1) w2)) (k0_pay39 (k0_pay5 d1 d2) (k0_pay6 o1 o2)))) (k0_pay54 (k0_pay32 (k0_pay4 q1 q2))) (k0_pay57 ok (k0_pay32 (k0_pay4 q1 q2)) (k0_pay33 k) (k0_pay34 v) (k0_pay36 (k0_pay8 (k0_pay7 w1) w2)) (k0_pay41 (k0_pay40 (k0_pay5 d1 d2) (k0_pay6 o1 o2))) (k0_pay42 (k0_pay35 (k0_pay5 d1 d2))))
def vLo : FVec Ideal S128x128 .f32 :=
  k0_pay30 ok (k0_pay9 (k0_pay4 q1 q2)) (k0_pay10 k) (k0_pay13 (k0_pay7 w1) w2) (k0_pay18 (k0_pay5 d1 d2)) (k0_pay24 ok (k0_pay9 (k0_pay4 q1 q2)) (k0_pay10 k) (k0_pay13 (k0_pay7 w1) w2) (k0_pay18 (k0_pay5 d1 d2)))
def vHi : FVec Ideal S128x128 .f32 :=
  k0_pay1 (k0_pay51 (k0_pay44 (F := Ideal)) (k0_pay48 (k0_pay35 (k0_pay5 d1 d2))) (k0_pay50 ok (k0_pay32 (k0_pay4 q1 q2)) (k0_pay33 k) (k0_pay36 (k0_pay8 (k0_pay7 w1) w2)))) (k0_pay56 (k0_pay42 (k0_pay35 (k0_pay5 d1 d2)))) (k0_pay58 ok (k0_pay32 (k0_pay4 q1 q2)) (k0_pay33 k) (k0_pay36 (k0_pay8 (k0_pay7 w1) w2)))

variable (b : Fin 256 → Fin 128 → Prop) [∀ r, DecidablePred (b r)] (QQ DD OO WW : Fin 256 → Fin 256 → ℝ) (K V : Fin 128 → Fin 128 → ℝ)
  (hok : ∀ r c, ok (ix2 r c) = BitVec.ofBool (decide (b r c)))
  (hq1 : ∀ (c : Fin 128) (l : Fin 256), q1 (ix2 c l) = ((QQ (lcol 0 c) l : ℝ) : EReal))
  (hq2 : ∀ (c : Fin 128) (l : Fin 256), q2 (ix2 c l) = ((QQ (lcol 1 c) l : ℝ) : EReal))
  (hd1 : ∀ (c : Fin 128) (l : Fin 256), d1 (ix2 c l) = ((DD (lcol 0 c) l : ℝ) : EReal))
  (hd2 : ∀ (c : Fin 128) (l : Fin 256), d2 (ix2 c l) = ((DD (lcol 1 c) l : ℝ) : EReal))
  (ho1 : ∀ (c : Fin 128) (l : Fin 256), o1 (ix2 c l) = ((OO (lcol 0 c) l : ℝ) : EReal))
  (ho2 : ∀ (c : Fin 128) (l : Fin 256), o2 (ix2 c l) = ((OO (lcol 1 c) l : ℝ) : EReal))
  (hw1 : ∀ (c : Fin 128) (l : Fin 256), w1 (ix2 c l) = ((WW (lcol 0 c) l : ℝ) : EReal))
  (hw2 : ∀ (c : Fin 128) (l : Fin 256), w2 (ix2 c l) = ((WW (lcol 1 c) l : ℝ) : EReal))
  (hk : ∀ r l, k (ix2 r l) = ((K r l : ℝ) : EReal)) (hv : ∀ r l, v (ix2 r l) = ((V r l : ℝ) : EReal))

include hok hq1 hq2 hd1 hd2 ho1 ho2 hw1 hw2 hk hv in
theorem kLo_eq (j l) : kLo ok q1 q2 k v w1 w2 d1 d2 o1 o2 (ix2 j l)
    = ((if l.val < 64 then ∑ r, bs (fun c l => QQ c (lcol 0 l)) (fun c l => DD c (lcol 0 l)) (fun c l => OO c (lcol 0 l)) (fun c l => WW c (lcol 0 l)) K V b 0 r j * QQ r (lcol 0 l) else ∑ r, bs (fun c l => QQ c (lcol 0 l)) (fun c l => DD c (lcol 0 l)) (fun c l => OO c (lcol 0 l)) (fun c l => WW c (lcol 0 l)) K V b 1 r j * QQ r (lcol 0 l) : ℝ) : EReal) := by
  pointwise [kLo, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, ho1, ho2, hw1, hw2, hk, hv, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 ho1 ho2 hw1 hw2 hk hv in
theorem kHi_eq (j l) : kHi ok q1 q2 k v w1 w2 d1 d2 o1 o2 (ix2 j l)
    = ((if l.val < 64 then ∑ r, bs (fun c l => QQ c (lcol 1 l)) (fun c l => DD c (lcol 1 l)) (fun c l => OO c (lcol 1 l)) (fun c l => WW c (lcol 1 l)) K V b 0 r j * QQ r (lcol 1 l) else ∑ r, bs (fun c l => QQ c (lcol 1 l)) (fun c l => DD c (lcol 1 l)) (fun c l => OO c (lcol 1 l)) (fun c l => WW c (lcol 1 l)) K V b 1 r j * QQ r (lcol 1 l) : ℝ) : EReal) := by
  pointwise [kHi, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, ho1, ho2, hw1, hw2, hk, hv, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 hw1 hw2 hk in
theorem vLo_eq (j l) : vLo ok q1 q2 k w1 w2 d1 d2 (ix2 j l)
    = ((if l.val < 64 then ∑ r, bp (fun c l => QQ c (lcol 0 l)) (fun c l => WW c (lcol 0 l)) K b 0 r j * DD r (lcol 0 l) else ∑ r, bp (fun c l => QQ c (lcol 0 l)) (fun c l => WW c (lcol 0 l)) K b 1 r j * DD r (lcol 0 l) : ℝ) : EReal) := by
  pointwise [vLo, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, hw1, hw2, hk, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 hw1 hw2 hk in
theorem vHi_eq (j l) : vHi ok q1 q2 k w1 w2 d1 d2 (ix2 j l)
    = ((if l.val < 64 then ∑ r, bp (fun c l => QQ c (lcol 1 l)) (fun c l => WW c (lcol 1 l)) K b 0 r j * DD r (lcol 1 l) else ∑ r, bp (fun c l => QQ c (lcol 1 l)) (fun c l => WW c (lcol 1 l)) K b 1 r j * DD r (lcol 1 l) : ℝ) : EReal) := by
  pointwise [vHi, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, hw1, hw2, hk, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

end pair

section host
variable {F : FTy → Type} [FloatOps F] [Named F]
variable (m : (ℓ : Loc nD τ sig) → Buf (Elt F) ℓ) (c : Dev nD)

/-! What the host lines before the call leave in the arrays the call reads. -/

set_option maxHeartbeats 4000000 in
theorem V_x : V m c main_v81 = shapeCast S1024x10240 (wide (m (c, Proc.tc.devRef main_arg0)) (m (c, Proc.tc.devRef main_arg1)) (m (c, Proc.tc.devRef main_arg2)) (m (c, Proc.tc.devRef main_arg3))) shapeCasts_S4096x2560_S1024x10240 := by
  unfold V
  after_reads_simp
  rfl
set_option maxHeartbeats 4000000 in
theorem V_o : V m c main_v83 = shapeCast S1024x1024 (kO (m (c, Proc.tc.devRef main_arg0)) (m (c, Proc.tc.devRef main_arg1)) (m (c, Proc.tc.devRef main_arg2))) shapeCasts_S4096x256_S1024x1024 := by
  unfold V
  after_reads_simp
  rfl
set_option maxHeartbeats 4000000 in
theorem V_w : V m c main_v84 = shapeCast S1024x1024 (kW (m (c, Proc.tc.devRef main_arg0)) (m (c, Proc.tc.devRef main_arg1))) shapeCasts_S4096x256_S1024x1024 := by
  unfold V
  after_reads_simp
  rfl
set_option maxHeartbeats 4000000 in
theorem V_d : V m c main_v82 = shapeCast S1024x1024 (m (c, Proc.tc.devRef main_arg4)) shapeCasts_S4096x256_S1024x1024 := by
  unfold V
  after_reads_simp
  rfl

/-! A window block is a part of its array. -/

theorem iblk_0 (t : Fin cfg0.N) (y : S128x256.Idx) : iblk m c 0 t y = V m c main_v81 (((cfg0.win 0).blk t).view.emb y) := rfl
theorem iblk_1 (t : Fin cfg0.N) (y : S128x256.Idx) : iblk m c 1 t y = V m c main_v81 (((cfg0.win 1).blk t).view.emb y) := rfl
theorem iblk_2 (t : Fin cfg0.N) (y : S128x256.Idx) : iblk m c 2 t y = V m c main_v81 (((cfg0.win 2).blk t).view.emb y) := rfl
theorem iblk_3 (t : Fin cfg0.N) (y : S128x256.Idx) : iblk m c 3 t y = V m c main_v81 (((cfg0.win 3).blk t).view.emb y) := rfl
theorem iblk_4 (t : Fin cfg0.N) (y : S128x256.Idx) : iblk m c 4 t y = V m c main_v82 (((cfg0.win 4).blk t).view.emb y) := rfl
theorem iblk_5 (t : Fin cfg0.N) (y : S128x256.Idx) : iblk m c 5 t y = V m c main_v82 (((cfg0.win 5).blk t).view.emb y) := rfl
theorem iblk_6 (t : Fin cfg0.N) (y : S128x256.Idx) : iblk m c 6 t y = V m c main_v83 (((cfg0.win 6).blk t).view.emb y) := rfl
theorem iblk_7 (t : Fin cfg0.N) (y : S128x256.Idx) : iblk m c 7 t y = V m c main_v83 (((cfg0.win 7).blk t).view.emb y) := rfl
theorem iblk_8 (t : Fin cfg0.N) (y : S128x256.Idx) : iblk m c 8 t y = V m c main_v84 (((cfg0.win 8).blk t).view.emb y) := rfl
theorem iblk_9 (t : Fin cfg0.N) (y : S128x256.Idx) : iblk m c 9 t y = V m c main_v84 (((cfg0.win 9).blk t).view.emb y) := rfl
end host

/-! Position `a` of residue `ρ` of the dilation, as a row of the whole arrays. -/

def at_ (a : ℕ) (ρ : ℕ) (h : a < 1024 ∧ ρ < 4) : Fin 4096 := ⟨a * 4 + ρ, by omega⟩

theorem at_2560 {e : EltTy} (A : S4096x2560.Idx → Elt Ideal e) (a ρ : ℕ) (h : a < 1024 ∧ ρ < 4) (z : Fin 2560) :
    shapeCast S1024x10240 A shapeCasts_S4096x2560_S1024x10240 (ix2 ⟨a, h.1⟩ ⟨ρ * 2560 + z.val, by omega⟩) = A (ix2 (at_ a ρ h) z) := by
  have e : ∀ (x : Fin 1024) (y : Fin 10240), shapeCast S1024x10240 A shapeCasts_S4096x2560_S1024x10240 (ix2 x y)
      = A (ix2 ⟨x.val * 4 + y.val / 2560, by omega⟩ ⟨y.val % 2560, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 4 + (ρ * 2560 + z.val) / 2560 = a * 4 + ρ; omega
  · show (ρ * 2560 + z.val) % 2560 = z.val; omega

theorem at_256 {e : EltTy} (A : S4096x256.Idx → Elt Ideal e) (a ρ : ℕ) (h : a < 1024 ∧ ρ < 4) (z : Fin 256) :
    shapeCast S1024x1024 A shapeCasts_S4096x256_S1024x1024 (ix2 ⟨a, h.1⟩ ⟨ρ * 256 + z.val, by omega⟩) = A (ix2 (at_ a ρ h) z) := by
  have e : ∀ (x : Fin 1024) (y : Fin 1024), shapeCast S1024x1024 A shapeCasts_S4096x256_S1024x1024 (ix2 x y)
      = A (ix2 ⟨x.val * 4 + y.val / 256, by omega⟩ ⟨y.val % 256, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 4 + (ρ * 256 + z.val) / 256 = a * 4 + ρ; omega
  · show (ρ * 256 + z.val) % 256 = z.val; omega

/-! The grid: point `t` is row block `t % 8` of residue `t / 8`. -/

theorem lt_t (t : Fin cfg0.N) : t.val < 32 := lt_of_lt_of_eq t.isLt N_0
theorem coord (t : Fin cfg0.N) : (grid0.coords t 1).val = t.val % 8 :=
  (by decide +kernel : ∀ t : Fin grid0.N, (grid0.coords t 1).val = t.val % 8) t
theorem idx : ∀ t : Fin cfg0.N, win0_0.index t = ![t.val % 8, t.val / 8 * 10 + 1]
    ∧ win0_1.index t = ![min (t.val % 8 + 1) 7, t.val / 8 * 10 + 1]
    ∧ win0_2.index t = ![t.val % 8, t.val / 8 * 10 + 4]
    ∧ win0_3.index t = ![t.val % 8, t.val / 8 * 10 + 7]
    ∧ win0_4.index t = ![t.val % 8, t.val / 8]
    ∧ win0_5.index t = ![min (t.val % 8 + 1) 7, t.val / 8]
    ∧ win0_6.index t = ![t.val % 8, t.val / 8]
    ∧ win0_7.index t = ![min (t.val % 8 + 1) 7, t.val / 8]
    ∧ win0_8.index t = ![t.val % 8, t.val / 8]
    ∧ win0_9.index t = ![min (t.val % 8 + 1) 7, t.val / 8]
    ∧ win0_10.index t = ![t.val % 8, t.val / 8]
    ∧ win0_11.index t = ![t.val % 8, t.val / 8] :=
  (by decide +kernel : ∀ t : Fin grid0.N, _)

/-- The rows of a tile's keys, of the queries of the block after, and of the block's own queries and those together. -/
def sq (t : Fin cfg0.N) (r : Fin 128) : Fin 4096 := at_ (t.val % 8 * 128 + r.val) (t.val / 8) (by have := lt_t t; omega)
def sn (t : Fin cfg0.N) (r : Fin 128) : Fin 4096 := at_ ((min (t.val % 8 + 1) 7) * 128 + r.val) (t.val / 8) (by have := lt_t t; omega)
def sa (t : Fin cfg0.N) (j : Fin 256) : Fin 4096 :=
  if h : j.val < 128 then sq t ⟨j.val, h⟩ else sn t ⟨j.val - 128, by omega⟩

/-- Which of the tile's queries see a key. -/
def ok (t : Fin cfg0.N) (r : Fin 256) (j : Fin 128) : Prop := j.val ≤ r.val ∧ r.val ≤ j.val + 128 ∧ t.val % 8 * 128 + r.val < 1024
instance (t : Fin cfg0.N) (r : Fin 256) : DecidablePred (ok t r) := fun j => by unfold ok; infer_instance

theorem ok_word (t : Fin cfg0.N) (r j) : k0_pay3 (grid0.coords t) (ix2 r j) = BitVec.ofBool (decide (ok t r j)) := by
  pointwise [k0_pay3]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 1024)))
      (word_at (t.val % 8) r.val) (word_at (t.val % 8) j.val)).trans ?_
  rw [word_ok _ _ _ (by omega) (by omega) (by omega) (by omega) (by omega) (by omega)]
  refine congrArg _ (decide_eq_decide.2 ?_)
  unfold ok
  omega

theorem sa_ok (t : Fin cfg0.N) (r j) (h : ok t r j) : (sa t r).val = (t.val % 8 * 128 + r.val) * 4 + t.val / 8 := by
  obtain ⟨h1, h2, h3⟩ := h
  unfold sa
  split
  · rfl
  · show ((min (t.val % 8 + 1) 7) * 128 + (r.val - 128)) * 4 + t.val / 8 = _; omega

theorem dil_head (p a : Fin 2) : dil (head 1 p a) = 4 := by revert p a; decide

theorem ok_sees (t : Fin cfg0.N) (p a r j) (h : ok t r j) : sees (head 1 p a) (sa t r) (sq t j) := by
  have h' := h
  obtain ⟨h1, h2, h3⟩ := h'
  exact sees_of _ _ _ 4 (t.val / 8) (t.val % 8 * 128 + r.val) (t.val % 8 * 128 + j.val) (dil_head p a) (sa_ok t r j h) rfl (by omega) (by omega)

theorem ok_inj (t : Fin cfg0.N) (j i r) (h : ok t i j) (h' : ok t r j) (e : sa t i = sa t r) : i = r := by
  have e' := congrArg Fin.val e
  rw [sa_ok t i j h, sa_ok t r j h'] at e'
  exact Fin.ext (by omega)

theorem ok_all (t : Fin cfg0.N) (p a j q) (h : sees (head 1 p a) q (sq t j)) : ∃ r, ok t r j ∧ sa t r = q := by
  obtain ⟨n, hn, e⟩ := sees_steps _ _ _ 4 (dil_head p a) (by decide) h
  have e' : q.val = (t.val % 8 * 128 + j.val) * 4 + t.val / 8 + n * 4 := e
  have ht := lt_t t
  have hq := q.isLt
  have hk : ok t ⟨j.val + n, by omega⟩ j := by
    refine ⟨?_, ?_, ?_⟩
    · show j.val ≤ j.val + n; omega
    · show j.val + n ≤ j.val + 128; omega
    · show t.val % 8 * 128 + (j.val + n) < 1024; omega
  refine ⟨_, hk, Fin.ext ?_⟩
  rw [sa_ok t _ j hk]
  show (t.val % 8 * 128 + (j.val + n)) * 4 + t.val / 8 = q.val
  omega

section arrays
variable (m : (ℓ : Loc nD τ sig) → Buf (Elt Ideal) ℓ) (c : Dev nD) (X K V' : Wide) (D : Quarter)
  (hx : m ((c : Thread nD τ).loc main_arg0) = up X) (hk : m ((c : Thread nD τ).loc main_arg1) = up K)
  (hv : m ((c : Thread nD τ).loc main_arg2) = up V') (hd : m ((c : Thread nD τ).loc main_arg4) = up D)

include hx hk hv in
theorem tile_q1 (t : Fin cfg0.N) (r : Fin 128) (l : Fin 256) : iblk m c 0 t (ix2 r l) = ((X (ix2 (sq t r) ⟨1 * 256 + l.val, by omega⟩) * (1 / 8) : ℝ) : EReal) := by
  have ht := lt_t t
  have e : ((cfg0.win 0).blk t).view.emb (ix2 r l) = (ix2 ⟨t.val % 8 * 128 + r.val, by omega⟩ ⟨t.val / 8 * 2560 + (⟨(1 * 256 + l.val), by omega⟩ : Fin 2560).val, by show _ + ((1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_0, e, V_x, h0, h1, h2]
  exact (at_2560 (e := .bf16) (wide (F := Ideal) (up X) (up K) (up V') (m (c, Proc.tc.devRef main_arg3))) (t.val % 8 * 128 + r.val) (t.val / 8) (by omega) (⟨(1 * 256 + l.val), by omega⟩ : Fin 2560)).trans (wide_q X K V' _ _ (⟨1 * 256 + l.val, by omega⟩ : Fin 768))

include hx hk hv in
theorem tile_q2 (t : Fin cfg0.N) (r : Fin 128) (l : Fin 256) : iblk m c 1 t (ix2 r l) = ((X (ix2 (sn t r) ⟨1 * 256 + l.val, by omega⟩) * (1 / 8) : ℝ) : EReal) := by
  have ht := lt_t t
  have e : ((cfg0.win 1).blk t).view.emb (ix2 r l) = (ix2 ⟨(min (t.val % 8 + 1) 7) * 128 + r.val, by omega⟩ ⟨t.val / 8 * 2560 + (⟨(1 * 256 + l.val), by omega⟩ : Fin 2560).val, by show _ + ((1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_1, e, V_x, h0, h1, h2]
  exact (at_2560 (e := .bf16) (wide (F := Ideal) (up X) (up K) (up V') (m (c, Proc.tc.devRef main_arg3))) ((min (t.val % 8 + 1) 7) * 128 + r.val) (t.val / 8) (by omega) (⟨(1 * 256 + l.val), by omega⟩ : Fin 2560)).trans (wide_q X K V' _ _ (⟨1 * 256 + l.val, by omega⟩ : Fin 768))

include hx hk hv in
theorem tile_k (t : Fin cfg0.N) (r : Fin 128) (l : Fin 256) : iblk m c 2 t (ix2 r l) = ((K (ix2 (sq t r) ⟨1 * 256 + l.val, by omega⟩) : ℝ) : EReal) := by
  have ht := lt_t t
  have e : ((cfg0.win 2).blk t).view.emb (ix2 r l) = (ix2 ⟨t.val % 8 * 128 + r.val, by omega⟩ ⟨t.val / 8 * 2560 + (⟨768 + (1 * 256 + l.val), by omega⟩ : Fin 2560).val, by show _ + (768 + (1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_2, e, V_x, h0, h1, h2]
  exact (at_2560 (e := .bf16) (wide (F := Ideal) (up X) (up K) (up V') (m (c, Proc.tc.devRef main_arg3))) (t.val % 8 * 128 + r.val) (t.val / 8) (by omega) (⟨768 + (1 * 256 + l.val), by omega⟩ : Fin 2560)).trans (wide_k X K V' _ _ (⟨1 * 256 + l.val, by omega⟩ : Fin 768))

include hx hk hv in
theorem tile_v (t : Fin cfg0.N) (r : Fin 128) (l : Fin 256) : iblk m c 3 t (ix2 r l) = ((V' (ix2 (sq t r) ⟨1 * 256 + l.val, by omega⟩) : ℝ) : EReal) := by
  have ht := lt_t t
  have e : ((cfg0.win 3).blk t).view.emb (ix2 r l) = (ix2 ⟨t.val % 8 * 128 + r.val, by omega⟩ ⟨t.val / 8 * 2560 + (⟨1536 + (1 * 256 + l.val), by omega⟩ : Fin 2560).val, by show _ + (1536 + (1 * 256 + l.val)) < _; omega⟩ : S1024x10240.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_3, e, V_x, h0, h1, h2]
  exact (at_2560 (e := .bf16) (wide (F := Ideal) (up X) (up K) (up V') (m (c, Proc.tc.devRef main_arg3))) (t.val % 8 * 128 + r.val) (t.val / 8) (by omega) (⟨1536 + (1 * 256 + l.val), by omega⟩ : Fin 2560)).trans (wide_v X K V' _ _ (⟨1 * 256 + l.val, by omega⟩ : Fin 768))

omit hx hk hv hd in
theorem tile_d1_of (A : S4096x256.Idx → Elt Ideal .f32) (f : Fin 4096 → Fin 256 → ℝ) (hA : ∀ s l, A (ix2 s l) = ((f s l : ℝ) : EReal))
    (h : V m c main_v82 = shapeCast S1024x1024 A shapeCasts_S4096x256_S1024x1024) (t : Fin cfg0.N) (r : Fin 128) (l : Fin 256) : iblk m c 4 t (ix2 r l) = ((f (sq t r) l : ℝ) : EReal) := by
  have ht := lt_t t
  have e : ((cfg0.win 4).blk t).view.emb (ix2 r l) = (ix2 ⟨t.val % 8 * 128 + r.val, by omega⟩ ⟨t.val / 8 * 256 + l.val, by omega⟩ : S1024x1024.Idx) := by
    blk_ext [idx t]
  rw [iblk_4, e, h]
  exact (at_256 A (t.val % 8 * 128 + r.val) (t.val / 8) (by omega) l).trans (hA _ _)

omit hx hk hv hd in
theorem tile_d2_of (A : S4096x256.Idx → Elt Ideal .f32) (f : Fin 4096 → Fin 256 → ℝ) (hA : ∀ s l, A (ix2 s l) = ((f s l : ℝ) : EReal))
    (h : V m c main_v82 = shapeCast S1024x1024 A shapeCasts_S4096x256_S1024x1024) (t : Fin cfg0.N) (r : Fin 128) (l : Fin 256) : iblk m c 5 t (ix2 r l) = ((f (sn t r) l : ℝ) : EReal) := by
  have ht := lt_t t
  have e : ((cfg0.win 5).blk t).view.emb (ix2 r l) = (ix2 ⟨(min (t.val % 8 + 1) 7) * 128 + r.val, by omega⟩ ⟨t.val / 8 * 256 + l.val, by omega⟩ : S1024x1024.Idx) := by
    blk_ext [idx t]
  rw [iblk_5, e, h]
  exact (at_256 A ((min (t.val % 8 + 1) 7) * 128 + r.val) (t.val / 8) (by omega) l).trans (hA _ _)

omit hx hk hv hd in
theorem tile_o1_of (A : S4096x256.Idx → Elt Ideal .f32) (f : Fin 4096 → Fin 256 → ℝ) (hA : ∀ s l, A (ix2 s l) = ((f s l : ℝ) : EReal))
    (h : V m c main_v83 = shapeCast S1024x1024 A shapeCasts_S4096x256_S1024x1024) (t : Fin cfg0.N) (r : Fin 128) (l : Fin 256) : iblk m c 6 t (ix2 r l) = ((f (sq t r) l : ℝ) : EReal) := by
  have ht := lt_t t
  have e : ((cfg0.win 6).blk t).view.emb (ix2 r l) = (ix2 ⟨t.val % 8 * 128 + r.val, by omega⟩ ⟨t.val / 8 * 256 + l.val, by omega⟩ : S1024x1024.Idx) := by
    blk_ext [idx t]
  rw [iblk_6, e, h]
  exact (at_256 A (t.val % 8 * 128 + r.val) (t.val / 8) (by omega) l).trans (hA _ _)

omit hx hk hv hd in
theorem tile_o2_of (A : S4096x256.Idx → Elt Ideal .f32) (f : Fin 4096 → Fin 256 → ℝ) (hA : ∀ s l, A (ix2 s l) = ((f s l : ℝ) : EReal))
    (h : V m c main_v83 = shapeCast S1024x1024 A shapeCasts_S4096x256_S1024x1024) (t : Fin cfg0.N) (r : Fin 128) (l : Fin 256) : iblk m c 7 t (ix2 r l) = ((f (sn t r) l : ℝ) : EReal) := by
  have ht := lt_t t
  have e : ((cfg0.win 7).blk t).view.emb (ix2 r l) = (ix2 ⟨(min (t.val % 8 + 1) 7) * 128 + r.val, by omega⟩ ⟨t.val / 8 * 256 + l.val, by omega⟩ : S1024x1024.Idx) := by
    blk_ext [idx t]
  rw [iblk_7, e, h]
  exact (at_256 A ((min (t.val % 8 + 1) 7) * 128 + r.val) (t.val / 8) (by omega) l).trans (hA _ _)

omit hx hk hv hd in
theorem tile_w1_of (A : S4096x256.Idx → Elt Ideal .f32) (f : Fin 4096 → Fin 256 → ℝ) (hA : ∀ s l, A (ix2 s l) = ((f s l : ℝ) : EReal))
    (h : V m c main_v84 = shapeCast S1024x1024 A shapeCasts_S4096x256_S1024x1024) (t : Fin cfg0.N) (r : Fin 128) (l : Fin 256) : iblk m c 8 t (ix2 r l) = ((f (sq t r) l : ℝ) : EReal) := by
  have ht := lt_t t
  have e : ((cfg0.win 8).blk t).view.emb (ix2 r l) = (ix2 ⟨t.val % 8 * 128 + r.val, by omega⟩ ⟨t.val / 8 * 256 + l.val, by omega⟩ : S1024x1024.Idx) := by
    blk_ext [idx t]
  rw [iblk_8, e, h]
  exact (at_256 A (t.val % 8 * 128 + r.val) (t.val / 8) (by omega) l).trans (hA _ _)

omit hx hk hv hd in
theorem tile_w2_of (A : S4096x256.Idx → Elt Ideal .f32) (f : Fin 4096 → Fin 256 → ℝ) (hA : ∀ s l, A (ix2 s l) = ((f s l : ℝ) : EReal))
    (h : V m c main_v84 = shapeCast S1024x1024 A shapeCasts_S4096x256_S1024x1024) (t : Fin cfg0.N) (r : Fin 128) (l : Fin 256) : iblk m c 9 t (ix2 r l) = ((f (sn t r) l : ℝ) : EReal) := by
  have ht := lt_t t
  have e : ((cfg0.win 9).blk t).view.emb (ix2 r l) = (ix2 ⟨(min (t.val % 8 + 1) 7) * 128 + r.val, by omega⟩ ⟨t.val / 8 * 256 + l.val, by omega⟩ : S1024x1024.Idx) := by
    blk_ext [idx t]
  rw [iblk_9, e, h]
  exact (at_256 A ((min (t.val % 8 + 1) 7) * 128 + r.val) (t.val / 8) (by omega) l).trans (hA _ _)

include hd in
theorem D_at : V m c main_v82 = shapeCast S1024x1024 (up D) shapeCasts_S4096x256_S1024x1024 := by
  have h4 : m (c, Proc.tc.devRef main_arg4) = up D := hd
  exact (V_d m c).trans (by rw [h4])
include hx hk hv in
theorem O_at : V m c main_v83 = shapeCast S1024x1024 (kO (F := Ideal) (up X) (up K) (up V')) shapeCasts_S4096x256_S1024x1024 := by
  have h0 : m (c, Proc.tc.devRef main_arg0) = up X := hx
  have h1 : m (c, Proc.tc.devRef main_arg1) = up K := hk
  have h2 : m (c, Proc.tc.devRef main_arg2) = up V' := hv
  exact (V_o m c).trans (by rw [h0, h1, h2])
include hx hk in
theorem W_at : V m c main_v84 = shapeCast S1024x1024 (kW (F := Ideal) (up X) (up K)) shapeCasts_S4096x256_S1024x1024 := by
  have h0 : m (c, Proc.tc.devRef main_arg0) = up X := hx
  have h1 : m (c, Proc.tc.devRef main_arg1) = up K := hk
  exact (V_w m c).trans (by rw [h0, h1])

/-- The gradients of the group's keys and values, laid out by residue of the dilation. -/
def outK : FVec Ideal S1024x1024 .f32 := fun y => ((gK X K V' D ⟨(y 0).val * 4 + (y 1).val / 256, by have h0 : (y 0).val < 1024 := (y 0).isLt; have h1 : (y 1).val < 1024 := (y 1).isLt; omega⟩
  ⟨1 * 256 + (y 1).val % 256, by omega⟩ : ℝ) : EReal)
def outV : FVec Ideal S1024x1024 .f32 := fun y => ((gV X K D ⟨(y 0).val * 4 + (y 1).val / 256, by have h0 : (y 0).val < 1024 := (y 0).isLt; have h1 : (y 1).val < 1024 := (y 1).isLt; omega⟩
  ⟨1 * 256 + (y 1).val % 256, by omega⟩ : ℝ) : EReal)

theorem emb_k (t : Fin cfg0.N) (y : S128x256.Idx) : ((cfg0.win 10).blk t).view.emb y
    = (ix2 ⟨t.val % 8 * 128 + (y 0).val, by have := lt_t t; have h0 : (y 0).val < 128 := (y 0).isLt; omega⟩ ⟨t.val / 8 * 256 + (y 1).val, by have := lt_t t; have h1 : (y 1).val < 256 := (y 1).isLt; omega⟩ : S1024x1024.Idx) := by
  rw [eq_ix2 y]; blk_ext [idx t]

theorem emb_v (t : Fin cfg0.N) (y : S128x256.Idx) : ((cfg0.win 11).blk t).view.emb y
    = (ix2 ⟨t.val % 8 * 128 + (y 0).val, by have := lt_t t; have h0 : (y 0).val < 128 := (y 0).isLt; omega⟩ ⟨t.val / 8 * 256 + (y 1).val, by have := lt_t t; have h1 : (y 1).val < 256 := (y 1).isLt; omega⟩ : S1024x1024.Idx) := by
  rw [eq_ix2 y]; blk_ext [idx t]

section pieces
variable (t : Fin cfg0.N)

/-- Lanes from `o` on of a block whose rows hold `f`. -/
theorem lanes {e : EltTy} (x : S128x256.Idx → Elt Ideal e) (f : Fin 128 → Fin 256 → Elt Ideal e) (hf : ∀ r l, x (ix2 r l) = f r l) {o : ℕ} (p : Fin 2) (ho : o = p.val * 128) (inb) (r l : Fin 128) :
    View.ld x (Rect.unit (s := S128x256) ![0, o] S128x128.size inb) (ix2 r l) = f r (lcol p l) := by
  subst ho; exact (ld_cols x inb r l r.isLt (by omega)).trans (hf _ _)
theorem block {e : EltTy} (x : S128x256.Idx → Elt Ideal e) (f : Fin 128 → Fin 256 → Elt Ideal e) (hf : ∀ r l, x (ix2 r l) = f r l) (inb) (r : Fin 128) (l : Fin 256) :
    View.ld x (Rect.unit (s := S128x256) ![0, 0] S128x256.size inb) (ix2 r l) = f r l :=
  (ld_cols x inb r l r.isLt (by omega)).trans ((hf _ _).trans (congrArg (f r) (Fin.ext (Nat.zero_add _))))

theorem sa_lo (r : Fin 128) : sa t (lcol 0 r) = sq t r := by
  have h : (lcol 0 r).val < 128 := by show 0 * 128 + r.val < 128; omega
  unfold sa
  rw [dif_pos h]
  exact congrArg (sq t) (Fin.ext (by show 0 * 128 + r.val = r.val; omega))
theorem sa_hi (r : Fin 128) : sa t (lcol 1 r) = sn t r := by
  have h : ¬(lcol 1 r).val < 128 := by show ¬(1 * 128 + r.val < 128); omega
  unfold sa
  rw [dif_neg h]
  exact congrArg (sn t) (Fin.ext (by show 1 * 128 + r.val - 128 = r.val; omega))

/-- The tile's queries, and what is read at its queries' rows. -/
def qq (j l : Fin 256) : ℝ := X (ix2 (sa t j) ⟨1 * 256 + l.val, by omega⟩) * (1 / 8)
def rr (f : Fin 4096 → Fin 256 → ℝ) (j l : Fin 256) : ℝ := f (sa t j) l

theorem place_k (p : Fin 2) (r l : Fin 128) (y : S128x256.Idx) (h0 : (y 0).val = r.val) (h1 : (y 1).val = p.val * 128 + l.val) :
    ((gK X K V' D (sq t r) (col 1 p l) : ℝ) : EReal) = outK X K V' D (((cfg0.win 10).blk t).view.emb y) := by
  rw [emb_k]
  have ht := lt_t t
  refine congrArg _ (congrArg₂ (gK X K V' D) (Fin.ext ?_) (Fin.ext ?_))
  · show (t.val % 8 * 128 + r.val) * 4 + t.val / 8 = (t.val % 8 * 128 + (y 0).val) * 4 + (t.val / 8 * 256 + (y 1).val) / 256; omega
  · show 1 * 256 + (p.val * 128 + l.val) = 1 * 256 + (t.val / 8 * 256 + (y 1).val) % 256; omega

theorem place_v (p : Fin 2) (r l : Fin 128) (y : S128x256.Idx) (h0 : (y 0).val = r.val) (h1 : (y 1).val = p.val * 128 + l.val) :
    ((gV X K D (sq t r) (col 1 p l) : ℝ) : EReal) = outV X K D (((cfg0.win 11).blk t).view.emb y) := by
  rw [emb_v]
  have ht := lt_t t
  refine congrArg _ (congrArg₂ (gV X K D) (Fin.ext ?_) (Fin.ext ?_))
  · show (t.val % 8 * 128 + r.val) * 4 + t.val / 8 = (t.val % 8 * 128 + (y 0).val) * 4 + (t.val / 8 * 256 + (y 1).val) / 256; omega
  · show 1 * 256 + (p.val * 128 + l.val) = 1 * 256 + (t.val / 8 * 256 + (y 1).val) % 256; omega

include hx hk hv hd in
theorem piece_k0 (i0 i1 i2) (x : S128x128.Idx) (y : S128x256.Idx) (h0 : (y 0).val = (x 0).val) (h1 : (y 1).val = 0 * 128 + (x 1).val) :
    kLo (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 0] S128x128.size i1)) (View.ld (iblk m c 3 t) (Rect.unit (s := S128x256) ![0, 0] S128x128.size i2))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0))
      (View.ld (iblk m c 6 t) (Rect.unit (s := S128x256) ![0, 0] S128x256.size i0)) (View.ld (iblk m c 7 t) (Rect.unit (s := S128x256) ![0, 0] S128x256.size i0)) x = outK X K V' D (((cfg0.win 10).blk t).view.emb y) := by
  obtain ⟨x0, x1, rfl⟩ : ∃ a b, x = ix2 a b := ⟨x 0, x 1, eq_ix2 x⟩
  change _ = x0.val at h0
  change _ = _ + x1.val at h1
  refine (kLo_eq _ _ _ _ _ _ _ _ _ _ _ (ok t) (qq X t) (rr t (fun s l => D (ix2 s l))) (rr t (cm X K V')) (rr t (wl X K)) (tK K 1 0 (sq t)) (tK V' 1 0 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_o1_of m c (kO (F := Ideal) (up X) (up K) (up V')) (cm X K V') (kO_real X K V') (O_at m c X K V' hx hk hv) t) _ r l).trans (by rw [rr, sa_lo])) (fun r l => (block _ _ (tile_o2_of m c (kO (F := Ideal) (up X) (up K) (up V')) (cm X K V') (kO_real X K V') (O_at m c X K V' hx hk hv) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 0 rfl _) (lanes _ _ (tile_v m c X K V' hx hk hv t) 0 rfl _) x0 x1).trans ?_
  exact (congrArg (fun z : ℝ => (z : EReal)) (pair_k X K V' D 1 0 (sa t) (sq t) (ok t) (ok_sees t 0) (ok_inj t) (ok_all t 0) x0 x1)).trans (place_k X K V' D t 0 x0 x1 y h0 h1)

include hx hk hv hd in
theorem piece_v0 (i0 i1) (x : S128x128.Idx) (y : S128x256.Idx) (h0 : (y 0).val = (x 0).val) (h1 : (y 1).val = 0 * 128 + (x 1).val) :
    vLo (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 0] S128x128.size i1))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0)) x = outV X K D (((cfg0.win 11).blk t).view.emb y) := by
  obtain ⟨x0, x1, rfl⟩ : ∃ a b, x = ix2 a b := ⟨x 0, x 1, eq_ix2 x⟩
  change _ = x0.val at h0
  change _ = _ + x1.val at h1
  refine (vLo_eq _ _ _ _ _ _ _ _ (ok t) (qq X t) (rr t (fun s l => D (ix2 s l))) (rr t (wl X K)) (tK K 1 0 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 0 rfl _) x0 x1).trans ?_
  exact (congrArg (fun z : ℝ => (z : EReal)) (pair_v X K D 1 0 (sa t) (sq t) (ok t) (ok_sees t 0) (ok_inj t) (ok_all t 0) x0 x1)).trans (place_v X K D t 0 x0 x1 y h0 h1)

include hx hk hv hd in
theorem piece_k1 (i0 i1 i2) (x : S128x128.Idx) (y : S128x256.Idx) (h0 : (y 0).val = (x 0).val) (h1 : (y 1).val = 1 * 128 + (x 1).val) :
    kHi (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 128] S128x128.size i1)) (View.ld (iblk m c 3 t) (Rect.unit (s := S128x256) ![0, 128] S128x128.size i2))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0))
      (View.ld (iblk m c 6 t) (Rect.unit (s := S128x256) ![0, 0] S128x256.size i0)) (View.ld (iblk m c 7 t) (Rect.unit (s := S128x256) ![0, 0] S128x256.size i0)) x = outK X K V' D (((cfg0.win 10).blk t).view.emb y) := by
  obtain ⟨x0, x1, rfl⟩ : ∃ a b, x = ix2 a b := ⟨x 0, x 1, eq_ix2 x⟩
  change _ = x0.val at h0
  change _ = _ + x1.val at h1
  refine (kHi_eq _ _ _ _ _ _ _ _ _ _ _ (ok t) (qq X t) (rr t (fun s l => D (ix2 s l))) (rr t (cm X K V')) (rr t (wl X K)) (tK K 1 1 (sq t)) (tK V' 1 1 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_o1_of m c (kO (F := Ideal) (up X) (up K) (up V')) (cm X K V') (kO_real X K V') (O_at m c X K V' hx hk hv) t) _ r l).trans (by rw [rr, sa_lo])) (fun r l => (block _ _ (tile_o2_of m c (kO (F := Ideal) (up X) (up K) (up V')) (cm X K V') (kO_real X K V') (O_at m c X K V' hx hk hv) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 1 rfl _) (lanes _ _ (tile_v m c X K V' hx hk hv t) 1 rfl _) x0 x1).trans ?_
  exact (congrArg (fun z : ℝ => (z : EReal)) (pair_k X K V' D 1 1 (sa t) (sq t) (ok t) (ok_sees t 1) (ok_inj t) (ok_all t 1) x0 x1)).trans (place_k X K V' D t 1 x0 x1 y h0 h1)

include hx hk hv hd in
theorem piece_v1 (i0 i1) (x : S128x128.Idx) (y : S128x256.Idx) (h0 : (y 0).val = (x 0).val) (h1 : (y 1).val = 1 * 128 + (x 1).val) :
    vHi (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 128] S128x128.size i1))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0)) x = outV X K D (((cfg0.win 11).blk t).view.emb y) := by
  obtain ⟨x0, x1, rfl⟩ : ∃ a b, x = ix2 a b := ⟨x 0, x 1, eq_ix2 x⟩
  change _ = x0.val at h0
  change _ = _ + x1.val at h1
  refine (vHi_eq _ _ _ _ _ _ _ _ (ok t) (qq X t) (rr t (fun s l => D (ix2 s l))) (rr t (wl X K)) (tK K 1 1 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 1 rfl _) x0 x1).trans ?_
  exact (congrArg (fun z : ℝ => (z : EReal)) (pair_v X K D 1 1 (sa t) (sq t) (ok t) (ok_sees t 1) (ok_inj t) (ok_all t 1) x0 x1)).trans (place_v X K D t 1 x0 x1 y h0 h1)

end pieces

include hx hk hv hd in
theorem final_k : (dats m 0 c).arrAt 10 cfg0.N = outK X K V' D := by
  refine (dats m 0 c).arrAt_eq_of_covers 10 _ (by decide +kernel) fun t _ y => ?_
  blk_simp
  rw [after0_10]
  frame_out
  canon_tiles x h
  · exact piece_k1 m c X K V' D hx hk hv hd t _ _ _ x y h0 h1
  · exact piece_k0 m c X K V' D hx hk hv hd t _ _ _ x y h0 (h1.trans (by omega))

include hx hk hv hd in
theorem final_v : (dats m 0 c).arrAt 11 cfg0.N = outV X K D := by
  refine (dats m 0 c).arrAt_eq_of_covers 11 _ (by decide +kernel) fun t _ y => ?_
  blk_simp
  rw [after0_11]
  frame_out
  canon_tiles x h
  · exact piece_v1 m c X K V' D hx hk hv hd t _ _ x y h0 h1
  · exact piece_v0 m c X K V' D hx hk hv hd t _ _ x y h0 (h1.trans (by omega))
end arrays

end Cert.Band1DkvKernelIdeal.Hand

namespace Cert.Band1DkvReferenceIdeal.Hand
open Cert.Band1DkvReferenceIdeal Cert.Band1DkvReferenceIdeal.Read Cert.BandReal
open Cert.Band0DqReferenceIdeal.Hand (up whole_k whole_v)

theorem same_k {F : FTy → Type} [FloatOps F] [Named F] (x0 x1 x2 x3) : val_main_v133 (F := F) x0 x1 x2 x3 = Cert.Band0DqReferenceIdeal.Read.val_main_v133 (F := F) x0 x1 x2 x3 := rfl
theorem same_v {F : FTy → Type} [FloatOps F] [Named F] (x0 x1 x3) : val_main_v117 (F := F) x0 x1 x3 = Cert.Band0DqReferenceIdeal.Read.val_main_v117 (F := F) x0 x1 x3 := rfl

theorem ref_k (X K V' : Wide) (D : Quarter) : val_main_v136 (F := Ideal) (up X) (up K) (up V') (up D) = Cert.Band1DkvKernelIdeal.Hand.outK X K V' D := by
  funext y
  obtain ⟨a, b, rfl⟩ : ∃ a b, y = ix2 a b := ⟨y 0, y 1, eq_ix2 y⟩
  have e : ∀ (s : Fin 4096) (l : Fin 256), val_main_v135 (F := Ideal) (up X) (up K) (up V') (up D) (ix2 s l) = ((gK X K V' D s ⟨1 * 256 + l.val, by omega⟩ : ℝ) : EReal) := fun s l => by
    pointwise [val_main_v135]
    rw [same_k]
    exact whole_k X K V' D _ _
  pointwise [val_main_v136]
  exact e _ _

theorem ref_v (X K V' : Wide) (D : Quarter) : val_main_v138 (F := Ideal) (up X) (up K) (up D) = Cert.Band1DkvKernelIdeal.Hand.outV X K D := by
  funext y
  obtain ⟨a, b, rfl⟩ : ∃ a b, y = ix2 a b := ⟨y 0, y 1, eq_ix2 y⟩
  have e : ∀ (s : Fin 4096) (l : Fin 256), val_main_v137 (F := Ideal) (up X) (up K) (up D) (ix2 s l) = ((gV X K D s ⟨1 * 256 + l.val, by omega⟩ : ℝ) : EReal) := fun s l => by
    pointwise [val_main_v137]
    rw [same_v]
    exact whole_v X K D _ _
  pointwise [val_main_v138]
  exact e _ _

end Cert.Band1DkvReferenceIdeal.Hand

end
-- ==== Proof.Band2Dq.lean ====
/-
  The gradient of the queries of the dilated attention's group of dilation 16: the kernel works on tiles of 128 queries of one residue against the 256 keys up to them.
-/
module

public import proofs.«01_k».proof.Proof.Gen.Band2DqKernelIdeal.Value
public import proofs.«01_k».proof.Proof.Gen.Band2DqReferenceIdeal.Run
public import proofs.«01_k».proof.Proof.Gen.Band2DqReferenceIdeal.Read
public import Idealize.ShloMosaic.Lib.Pipeline.ValueKit
public import Idealize.ShloMosaic.Lib.Pointwise
public import proofs.«01_k».proof.Proof.Reals
public import proofs.«01_k».proof.Proof.BandSaved
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Band2DqKernelIdeal.Hand

open Cert.Band2DqKernelIdeal Cert.Band2DqKernelIdeal.Gen Cert.Reals Cert.AttnReal Cert.BandReal Cert.BandTile Cert.BandHost
open Cert.Band0DqReferenceIdeal.Hand (up)

theorem mask_named : (Named.named κ "mask" 4048155338#32 : Ideal .f32) = (⊥ : EReal) := rfl

section pair
variable (ok : IVec S128x256 1) (q : FVec Ideal S128x128 .bf16) (k1 k2 v1 v2 : FVec Ideal S128x256 .bf16) (w d o : FVec Ideal S128x128 .f32)

/-- One pair of heads' gradient of the queries, from the lanes of the first pair and of the second. -/
def pLo : FVec Ideal S128x128 .f32 :=
  k0_pay20 ok (k0_pay4 q) (k0_pay5 k1 k2) (k0_pay6 v1 v2) (k0_pay8 w) (k0_pay12 (k0_pay7 d) o) (k0_pay13 (k0_pay7 d)) (k0_pay17 ok (k0_pay4 q) (k0_pay5 k1 k2) (k0_pay6 v1 v2) (k0_pay8 w) (k0_pay11 (k0_pay7 d) o) (k0_pay13 (k0_pay7 d)) (k0_pay14 (F := Ideal)) (Scalar.select (Scalar.cmpi .eq 128#32 0#32) 1#32 128#32) k0_pay15 k0_pay16) (Scalar.select (Scalar.cmpi .eq 128#32 0#32) 1#32 128#32) k0_pay18 k0_pay19
def pHi : FVec Ideal S128x128 .f32 :=
  k0_pay33 ok (k0_pay21 q) (k0_pay22 (k0_pay2 k1 k2)) (k0_pay23 (k0_pay3 v1 v2)) (k0_pay25 w) (k0_pay29 d o) (k0_pay30 d) (k0_pay32 ok (k0_pay21 q) (k0_pay22 (k0_pay2 k1 k2)) (k0_pay23 (k0_pay3 v1 v2)) (k0_pay25 w) (k0_pay28 d o) (k0_pay30 d) (k0_pay31 (F := Ideal)) (iota .tc S1x128 32 [1] iota_S1x128_d1_w32) 128#32) (iota .tc S1x128 32 [1] iota_S1x128_d1_w32) 128#32 0#32

variable (b : Fin 128 → Fin 256 → Prop) [∀ r, DecidablePred (b r)] (Q D O W : Fin 128 → Fin 128 → ℝ) (KK VV : Fin 256 → Fin 256 → ℝ)
  (hok : ∀ r c, ok (ix2 r c) = BitVec.ofBool (decide (b r c)))
  (hq : ∀ r l, q (ix2 r l) = ((Q r l : ℝ) : EReal)) (hd : ∀ r l, d (ix2 r l) = ((D r l : ℝ) : EReal))
  (ho : ∀ r l, o (ix2 r l) = ((O r l : ℝ) : EReal)) (hw : ∀ r l, w (ix2 r l) = ((W r l : ℝ) : EReal))
  (hk1 : ∀ (c : Fin 128) (l : Fin 256), k1 (ix2 c l) = ((KK (lcol 0 c) l : ℝ) : EReal)) (hk2 : ∀ (c : Fin 128) (l : Fin 256), k2 (ix2 c l) = ((KK (lcol 1 c) l : ℝ) : EReal))
  (hv1 : ∀ (c : Fin 128) (l : Fin 256), v1 (ix2 c l) = ((VV (lcol 0 c) l : ℝ) : EReal)) (hv2 : ∀ (c : Fin 128) (l : Fin 256), v2 (ix2 c l) = ((VV (lcol 1 c) l : ℝ) : EReal))
include hok hq hd ho hw hk1 hk2 hv1 hv2

theorem pLo_eq (r l) : pLo ok q k1 k2 v1 v2 w d o (ix2 r l)
    = ((if l.val < 64 then ∑ j, bs Q D O W (fun c l => KK c (lcol 0 l)) (fun c l => VV c (lcol 0 l)) b 0 r j * KK j (lcol 0 l)
        else ∑ j, bs Q D O W (fun c l => KK c (lcol 0 l)) (fun c l => VV c (lcol 0 l)) b 1 r j * KK j (lcol 0 l) : ℝ) : EReal) := by
  pointwise [pLo, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  simp only [width, rem_lane, lane_lo, lane_hi, lcol_lo, lcol_hi, hok, hq, hd, ho, hw, hk1, hk2, hv1, hv2, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, sum_halves]; rfl
  · simp only [h, if_false, Finset.sum_const_zero, zero_add, sum_halves]; rfl

theorem pHi_eq (r l) : pHi ok q k1 k2 v1 v2 w d o (ix2 r l)
    = ((if l.val < 64 then ∑ j, bs Q D O W (fun c l => KK c (lcol 1 l)) (fun c l => VV c (lcol 1 l)) b 0 r j * KK j (lcol 1 l)
        else ∑ j, bs Q D O W (fun c l => KK c (lcol 1 l)) (fun c l => VV c (lcol 1 l)) b 1 r j * KK j (lcol 1 l) : ℝ) : EReal) := by
  pointwise [pHi, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  simp only [width, rem_lane, lane_lo, lane_hi, lcol_lo, lcol_hi, hok, hq, hd, ho, hw, hk1, hk2, hv1, hv2, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, sum_halves]; rfl
  · simp only [h, if_false, Finset.sum_const_zero, zero_add, sum_halves]; rfl

end pair

section host
variable {F : FTy → Type} [FloatOps F] [Named F]
variable (m : (ℓ : Loc nD τ sig) → Buf (Elt F) ℓ) (c : Dev nD)

/-! What the host lines before the call leave in the arrays the call reads. -/

set_option maxHeartbeats 4000000 in
theorem V_x : V m c main_v81 = shapeCast S256x40960 (wide (m (c, Proc.tc.devRef main_arg0)) (m (c, Proc.tc.devRef main_arg1)) (m (c, Proc.tc.devRef main_arg2)) (m (c, Proc.tc.devRef main_arg3))) shapeCasts_S4096x2560_S256x40960 := by
  unfold V
  after_reads_simp
  rfl
set_option maxHeartbeats 4000000 in
theorem V_o : V m c main_v83 = shapeCast S256x4096 (kO (m (c, Proc.tc.devRef main_arg0)) (m (c, Proc.tc.devRef main_arg1)) (m (c, Proc.tc.devRef main_arg2))) shapeCasts_S4096x256_S256x4096 := by
  unfold V
  after_reads_simp
  rfl
set_option maxHeartbeats 4000000 in
theorem V_w : V m c main_v84 = shapeCast S256x4096 (kW (m (c, Proc.tc.devRef main_arg0)) (m (c, Proc.tc.devRef main_arg1))) shapeCasts_S4096x256_S256x4096 := by
  unfold V
  after_reads_simp
  rfl
set_option maxHeartbeats 4000000 in
theorem V_d : V m c main_v82 = shapeCast S256x4096 (m (c, Proc.tc.devRef main_arg4)) shapeCasts_S4096x256_S256x4096 := by
  unfold V
  after_reads_simp
  rfl

/-! A window block is a part of its array. -/

theorem iblk_0 (t : Fin cfg0.N) (y : S128x256.Idx) : iblk m c 0 t y = V m c main_v81 (((cfg0.win 0).blk t).view.emb y) := rfl
theorem iblk_1 (t : Fin cfg0.N) (y : S128x256.Idx) : iblk m c 1 t y = V m c main_v81 (((cfg0.win 1).blk t).view.emb y) := rfl
theorem iblk_2 (t : Fin cfg0.N) (y : S128x256.Idx) : iblk m c 2 t y = V m c main_v81 (((cfg0.win 2).blk t).view.emb y) := rfl
theorem iblk_3 (t : Fin cfg0.N) (y : S128x256.Idx) : iblk m c 3 t y = V m c main_v81 (((cfg0.win 3).blk t).view.emb y) := rfl
theorem iblk_4 (t : Fin cfg0.N) (y : S128x256.Idx) : iblk m c 4 t y = V m c main_v81 (((cfg0.win 4).blk t).view.emb y) := rfl
theorem iblk_5 (t : Fin cfg0.N) (y : S128x256.Idx) : iblk m c 5 t y = V m c main_v82 (((cfg0.win 5).blk t).view.emb y) := rfl
theorem iblk_6 (t : Fin cfg0.N) (y : S128x256.Idx) : iblk m c 6 t y = V m c main_v83 (((cfg0.win 6).blk t).view.emb y) := rfl
theorem iblk_7 (t : Fin cfg0.N) (y : S128x256.Idx) : iblk m c 7 t y = V m c main_v84 (((cfg0.win 7).blk t).view.emb y) := rfl
end host

/-! Position `a` of residue `ρ` of the dilation, as a row of the whole arrays. -/

def at_ (a : ℕ) (ρ : ℕ) (h : a < 256 ∧ ρ < 16) : Fin 4096 := ⟨a * 16 + ρ, by omega⟩

theorem at_2560 {e : EltTy} (A : S4096x2560.Idx → Elt Ideal e) (a ρ : ℕ) (h : a < 256 ∧ ρ < 16) (z : Fin 2560) :
    shapeCast S256x40960 A shapeCasts_S4096x2560_S256x40960 (ix2 ⟨a, h.1⟩ ⟨ρ * 2560 + z.val, by omega⟩) = A (ix2 (at_ a ρ h) z) := by
  have e : ∀ (x : Fin 256) (y : Fin 40960), shapeCast S256x40960 A shapeCasts_S4096x2560_S256x40960 (ix2 x y)
      = A (ix2 ⟨x.val * 16 + y.val / 2560, by omega⟩ ⟨y.val % 2560, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 16 + (ρ * 2560 + z.val) / 2560 = a * 16 + ρ; omega
  · show (ρ * 2560 + z.val) % 2560 = z.val; omega

theorem at_256 {e : EltTy} (A : S4096x256.Idx → Elt Ideal e) (a ρ : ℕ) (h : a < 256 ∧ ρ < 16) (z : Fin 256) :
    shapeCast S256x4096 A shapeCasts_S4096x256_S256x4096 (ix2 ⟨a, h.1⟩ ⟨ρ * 256 + z.val, by omega⟩) = A (ix2 (at_ a ρ h) z) := by
  have e : ∀ (x : Fin 256) (y : Fin 4096), shapeCast S256x4096 A shapeCasts_S4096x256_S256x4096 (ix2 x y)
      = A (ix2 ⟨x.val * 16 + y.val / 256, by omega⟩ ⟨y.val % 256, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 16 + (ρ * 256 + z.val) / 256 = a * 16 + ρ; omega
  · show (ρ * 256 + z.val) % 256 = z.val; omega

/-! The grid: point `t` is row block `t % 2` of residue `t / 2`. -/

theorem lt_t (t : Fin cfg0.N) : t.val < 32 := lt_of_lt_of_eq t.isLt N_0
theorem coord (t : Fin cfg0.N) : (grid0.coords t 1).val = t.val % 2 :=
  (by decide +kernel : ∀ t : Fin grid0.N, (grid0.coords t 1).val = t.val % 2) t
theorem idx : ∀ t : Fin cfg0.N, win0_0.index t = ![t.val % 2, t.val / 2 * 10 + 2] ∧ win0_1.index t = ![t.val % 2 - 1, t.val / 2 * 10 + 5]
    ∧ win0_2.index t = ![t.val % 2, t.val / 2 * 10 + 5] ∧ win0_3.index t = ![t.val % 2 - 1, t.val / 2 * 10 + 8]
    ∧ win0_4.index t = ![t.val % 2, t.val / 2 * 10 + 8] ∧ win0_5.index t = ![t.val % 2, t.val / 2] ∧ win0_6.index t = ![t.val % 2, t.val / 2]
    ∧ win0_7.index t = ![t.val % 2, t.val / 2] ∧ win0_8.index t = ![t.val % 2, t.val / 2] :=
  (by decide +kernel : ∀ t : Fin grid0.N, _)

/-- The rows of a tile's queries, of the keys of the block before, of the block's own, and of both together. -/
def sq (t : Fin cfg0.N) (r : Fin 128) : Fin 4096 := at_ (t.val % 2 * 128 + r.val) (t.val / 2) (by have := lt_t t; omega)
def sp (t : Fin cfg0.N) (r : Fin 128) : Fin 4096 := at_ ((t.val % 2 - 1) * 128 + r.val) (t.val / 2) (by have := lt_t t; omega)
def su (t : Fin cfg0.N) (j : Fin 256) : Fin 4096 :=
  if h : j.val < 128 then sp t ⟨j.val, h⟩ else sq t ⟨j.val - 128, by omega⟩

/-- Which of the tile's keys a query sees. -/
def ok (t : Fin cfg0.N) (r : Fin 128) (j : Fin 256) : Prop := 128 ≤ t.val % 2 * 128 + j.val ∧ r.val ≤ j.val ∧ j.val ≤ r.val + 128
instance (t : Fin cfg0.N) (r : Fin 128) : DecidablePred (ok t r) := fun j => by unfold ok; infer_instance

theorem ok_word (t : Fin cfg0.N) (r j) : k0_pay1 (grid0.coords t) (ix2 r j) = BitVec.ofBool (decide (ok t r j)) := by
  pointwise [k0_pay1]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 256)))
      (word_at (t.val % 2) r.val) (word_before (t.val % 2) j.val)).trans ?_
  rw [word_ok _ _ _ (by omega) (by omega) (by omega) (by omega) (by omega) (by omega)]
  refine congrArg _ (decide_eq_decide.2 ?_)
  unfold ok
  omega

theorem su_ok (t : Fin cfg0.N) (r j) (h : ok t r j) : (su t j).val = (t.val % 2 * 128 + j.val - 128) * 16 + t.val / 2 := by
  obtain ⟨h1, h2, h3⟩ := h
  unfold su
  split
  · show ((t.val % 2 - 1) * 128 + j.val) * 16 + t.val / 2 = _; omega
  · show (t.val % 2 * 128 + (j.val - 128)) * 16 + t.val / 2 = _; omega

theorem dil_head (p a : Fin 2) : dil (head 2 p a) = 16 := by revert p a; decide

theorem ok_sees (t : Fin cfg0.N) (p a r j) (h : ok t r j) : sees (head 2 p a) (sq t r) (su t j) := by
  have h' := h
  obtain ⟨h1, h2, h3⟩ := h'
  exact sees_of _ _ _ 16 (t.val / 2) (t.val % 2 * 128 + r.val) (t.val % 2 * 128 + j.val - 128) (dil_head p a) rfl (su_ok t r j h) (by omega) (by omega)

theorem ok_inj (t : Fin cfg0.N) (r i j) (h : ok t r i) (h' : ok t r j) (e : su t i = su t j) : i = j := by
  have e' := congrArg Fin.val e
  rw [su_ok t r i h, su_ok t r j h'] at e'
  obtain ⟨h1, h2, h3⟩ := h
  obtain ⟨h4, h5, h6⟩ := h'
  exact Fin.ext (by omega)

theorem ok_all (t : Fin cfg0.N) (p a r k) (h : sees (head 2 p a) (sq t r) k) : ∃ j, ok t r j ∧ su t j = k := by
  obtain ⟨n, hn, e⟩ := sees_steps _ _ _ 16 (dil_head p a) (by decide) h
  have e' : (t.val % 2 * 128 + r.val) * 16 + t.val / 2 = k.val + n * 16 := e
  have ht := lt_t t
  have hk : ok t r ⟨r.val + 128 - n, by omega⟩ := by
    refine ⟨?_, ?_, ?_⟩
    · show 128 ≤ t.val % 2 * 128 + (r.val + 128 - n); omega
    · show r.val ≤ r.val + 128 - n; omega
    · show r.val + 128 - n ≤ r.val + 128; omega
  refine ⟨_, hk, Fin.ext ?_⟩
  rw [su_ok t r _ hk]
  show (t.val % 2 * 128 + (r.val + 128 - n) - 128) * 16 + t.val / 2 = k.val
  omega

section arrays
variable (m : (ℓ : Loc nD τ sig) → Buf (Elt Ideal) ℓ) (c : Dev nD) (X K V' : Wide) (D : Quarter)
  (hx : m ((c : Thread nD τ).loc main_arg0) = up X) (hk : m ((c : Thread nD τ).loc main_arg1) = up K)
  (hv : m ((c : Thread nD τ).loc main_arg2) = up V') (hd : m ((c : Thread nD τ).loc main_arg4) = up D)

include hx hk hv in
theorem tile_q (t : Fin cfg0.N) (r : Fin 128) (l : Fin 256) : iblk m c 0 t (ix2 r l) = ((X (ix2 (sq t r) ⟨2 * 256 + l.val, by omega⟩) * (1 / 8) : ℝ) : EReal) := by
  have ht := lt_t t
  have e : ((cfg0.win 0).blk t).view.emb (ix2 r l) = (ix2 ⟨t.val % 2 * 128 + r.val, by omega⟩ ⟨t.val / 2 * 2560 + (⟨(2 * 256 + l.val), by omega⟩ : Fin 2560).val, by show _ + ((2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_0, e, V_x, h0, h1, h2]
  exact (at_2560 (e := .bf16) (wide (F := Ideal) (up X) (up K) (up V') (m (c, Proc.tc.devRef main_arg3))) (t.val % 2 * 128 + r.val) (t.val / 2) (by omega) (⟨(2 * 256 + l.val), by omega⟩ : Fin 2560)).trans (wide_q X K V' _ _ (⟨2 * 256 + l.val, by omega⟩ : Fin 768))

include hx hk hv in
theorem tile_k1 (t : Fin cfg0.N) (r : Fin 128) (l : Fin 256) : iblk m c 1 t (ix2 r l) = ((K (ix2 (sp t r) ⟨2 * 256 + l.val, by omega⟩) : ℝ) : EReal) := by
  have ht := lt_t t
  have e : ((cfg0.win 1).blk t).view.emb (ix2 r l) = (ix2 ⟨(t.val % 2 - 1) * 128 + r.val, by omega⟩ ⟨t.val / 2 * 2560 + (⟨768 + (2 * 256 + l.val), by omega⟩ : Fin 2560).val, by show _ + (768 + (2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_1, e, V_x, h0, h1, h2]
  exact (at_2560 (e := .bf16) (wide (F := Ideal) (up X) (up K) (up V') (m (c, Proc.tc.devRef main_arg3))) ((t.val % 2 - 1) * 128 + r.val) (t.val / 2) (by omega) (⟨768 + (2 * 256 + l.val), by omega⟩ : Fin 2560)).trans (wide_k X K V' _ _ (⟨2 * 256 + l.val, by omega⟩ : Fin 768))

include hx hk hv in
theorem tile_k2 (t : Fin cfg0.N) (r : Fin 128) (l : Fin 256) : iblk m c 2 t (ix2 r l) = ((K (ix2 (sq t r) ⟨2 * 256 + l.val, by omega⟩) : ℝ) : EReal) := by
  have ht := lt_t t
  have e : ((cfg0.win 2).blk t).view.emb (ix2 r l) = (ix2 ⟨t.val % 2 * 128 + r.val, by omega⟩ ⟨t.val / 2 * 2560 + (⟨768 + (2 * 256 + l.val), by omega⟩ : Fin 2560).val, by show _ + (768 + (2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_2, e, V_x, h0, h1, h2]
  exact (at_2560 (e := .bf16) (wide (F := Ideal) (up X) (up K) (up V') (m (c, Proc.tc.devRef main_arg3))) (t.val % 2 * 128 + r.val) (t.val / 2) (by omega) (⟨768 + (2 * 256 + l.val), by omega⟩ : Fin 2560)).trans (wide_k X K V' _ _ (⟨2 * 256 + l.val, by omega⟩ : Fin 768))

include hx hk hv in
theorem tile_v1 (t : Fin cfg0.N) (r : Fin 128) (l : Fin 256) : iblk m c 3 t (ix2 r l) = ((V' (ix2 (sp t r) ⟨2 * 256 + l.val, by omega⟩) : ℝ) : EReal) := by
  have ht := lt_t t
  have e : ((cfg0.win 3).blk t).view.emb (ix2 r l) = (ix2 ⟨(t.val % 2 - 1) * 128 + r.val, by omega⟩ ⟨t.val / 2 * 2560 + (⟨1536 + (2 * 256 + l.val), by omega⟩ : Fin 2560).val, by show _ + (1536 + (2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_3, e, V_x, h0, h1, h2]
  exact (at_2560 (e := .bf16) (wide (F := Ideal) (up X) (up K) (up V') (m (c, Proc.tc.devRef main_arg3))) ((t.val % 2 - 1) * 128 + r.val) (t.val / 2) (by omega) (⟨1536 + (2 * 256 + l.val), by omega⟩ : Fin 2560)).trans (wide_v X K V' _ _ (⟨2 * 256 + l.val, by omega⟩ : Fin 768))

include hx hk hv in
theorem tile_v2 (t : Fin cfg0.N) (r : Fin 128) (l : Fin 256) : iblk m c 4 t (ix2 r l) = ((V' (ix2 (sq t r) ⟨2 * 256 + l.val, by omega⟩) : ℝ) : EReal) := by
  have ht := lt_t t
  have e : ((cfg0.win 4).blk t).view.emb (ix2 r l) = (ix2 ⟨t.val % 2 * 128 + r.val, by omega⟩ ⟨t.val / 2 * 2560 + (⟨1536 + (2 * 256 + l.val), by omega⟩ : Fin 2560).val, by show _ + (1536 + (2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_4, e, V_x, h0, h1, h2]
  exact (at_2560 (e := .bf16) (wide (F := Ideal) (up X) (up K) (up V') (m (c, Proc.tc.devRef main_arg3))) (t.val % 2 * 128 + r.val) (t.val / 2) (by omega) (⟨1536 + (2 * 256 + l.val), by omega⟩ : Fin 2560)).trans (wide_v X K V' _ _ (⟨2 * 256 + l.val, by omega⟩ : Fin 768))

omit hx hk hv hd in
theorem tile_d_of (A : S4096x256.Idx → Elt Ideal .f32) (f : Fin 4096 → Fin 256 → ℝ) (hA : ∀ s l, A (ix2 s l) = ((f s l : ℝ) : EReal))
    (h : V m c main_v82 = shapeCast S256x4096 A shapeCasts_S4096x256_S256x4096) (t : Fin cfg0.N) (r : Fin 128) (l : Fin 256) : iblk m c 5 t (ix2 r l) = ((f (sq t r) l : ℝ) : EReal) := by
  have ht := lt_t t
  have e : ((cfg0.win 5).blk t).view.emb (ix2 r l) = (ix2 ⟨t.val % 2 * 128 + r.val, by omega⟩ ⟨t.val / 2 * 256 + l.val, by omega⟩ : S256x4096.Idx) := by
    blk_ext [idx t]
  rw [iblk_5, e, h]
  exact (at_256 A (t.val % 2 * 128 + r.val) (t.val / 2) (by omega) l).trans (hA _ _)

omit hx hk hv hd in
theorem tile_o_of (A : S4096x256.Idx → Elt Ideal .f32) (f : Fin 4096 → Fin 256 → ℝ) (hA : ∀ s l, A (ix2 s l) = ((f s l : ℝ) : EReal))
    (h : V m c main_v83 = shapeCast S256x4096 A shapeCasts_S4096x256_S256x4096) (t : Fin cfg0.N) (r : Fin 128) (l : Fin 256) : iblk m c 6 t (ix2 r l) = ((f (sq t r) l : ℝ) : EReal) := by
  have ht := lt_t t
  have e : ((cfg0.win 6).blk t).view.emb (ix2 r l) = (ix2 ⟨t.val % 2 * 128 + r.val, by omega⟩ ⟨t.val / 2 * 256 + l.val, by omega⟩ : S256x4096.Idx) := by
    blk_ext [idx t]
  rw [iblk_6, e, h]
  exact (at_256 A (t.val % 2 * 128 + r.val) (t.val / 2) (by omega) l).trans (hA _ _)

omit hx hk hv hd in
theorem tile_w_of (A : S4096x256.Idx → Elt Ideal .f32) (f : Fin 4096 → Fin 256 → ℝ) (hA : ∀ s l, A (ix2 s l) = ((f s l : ℝ) : EReal))
    (h : V m c main_v84 = shapeCast S256x4096 A shapeCasts_S4096x256_S256x4096) (t : Fin cfg0.N) (r : Fin 128) (l : Fin 256) : iblk m c 7 t (ix2 r l) = ((f (sq t r) l : ℝ) : EReal) := by
  have ht := lt_t t
  have e : ((cfg0.win 7).blk t).view.emb (ix2 r l) = (ix2 ⟨t.val % 2 * 128 + r.val, by omega⟩ ⟨t.val / 2 * 256 + l.val, by omega⟩ : S256x4096.Idx) := by
    blk_ext [idx t]
  rw [iblk_7, e, h]
  exact (at_256 A (t.val % 2 * 128 + r.val) (t.val / 2) (by omega) l).trans (hA _ _)

include hd in
theorem tile_d (t : Fin cfg0.N) (r : Fin 128) (l : Fin 256) : iblk m c 5 t (ix2 r l) = ((D (ix2 (sq t r) l) : ℝ) : EReal) := by
  have h4 : m (c, Proc.tc.devRef main_arg4) = up D := hd
  exact tile_d_of m c (up D) (fun s l => D (ix2 s l)) (fun _ _ => rfl) ((V_d m c).trans (by rw [h4])) t r l
include hx hk hv in
theorem tile_o (t : Fin cfg0.N) (r : Fin 128) (l : Fin 256) : iblk m c 6 t (ix2 r l) = ((cm X K V' (sq t r) l : ℝ) : EReal) := by
  have h0 : m (c, Proc.tc.devRef main_arg0) = up X := hx
  have h1 : m (c, Proc.tc.devRef main_arg1) = up K := hk
  have h2 : m (c, Proc.tc.devRef main_arg2) = up V' := hv
  exact tile_o_of m c (kO (F := Ideal) (up X) (up K) (up V')) (cm X K V') (kO_real X K V') ((V_o m c).trans (by rw [h0, h1, h2])) t r l
include hx hk in
theorem tile_w (t : Fin cfg0.N) (r : Fin 128) (l : Fin 256) : iblk m c 7 t (ix2 r l) = ((wl X K (sq t r) l : ℝ) : EReal) := by
  have h0 : m (c, Proc.tc.devRef main_arg0) = up X := hx
  have h1 : m (c, Proc.tc.devRef main_arg1) = up K := hk
  exact tile_w_of m c (kW (F := Ideal) (up X) (up K)) (wl X K) (kW_real X K) ((V_w m c).trans (by rw [h0, h1])) t r l

/-- The gradient of the group's queries, laid out by residue of the dilation. -/
def outQ : FVec Ideal S256x4096 .f32 := fun y => ((gQ X K V' D ⟨(y 0).val * 16 + (y 1).val / 256, by have h0 : (y 0).val < 256 := (y 0).isLt; have h1 : (y 1).val < 4096 := (y 1).isLt; omega⟩
  ⟨2 * 256 + (y 1).val % 256, by omega⟩ : ℝ) : EReal)

theorem emb_q (t : Fin cfg0.N) (y : S128x256.Idx) : ((cfg0.win 8).blk t).view.emb y
    = (ix2 ⟨t.val % 2 * 128 + (y 0).val, by have := lt_t t; have h0 : (y 0).val < 128 := (y 0).isLt; omega⟩ ⟨t.val / 2 * 256 + (y 1).val, by have := lt_t t; have h1 : (y 1).val < 256 := (y 1).isLt; omega⟩ : S256x4096.Idx) := by
  rw [eq_ix2 y]; blk_ext [idx t]

section pieces
variable (t : Fin cfg0.N)

/-- Lanes from `o` on of a block whose rows hold `f`. -/
theorem lanes {e : EltTy} (x : S128x256.Idx → Elt Ideal e) (f : Fin 128 → Fin 256 → Elt Ideal e) (hf : ∀ r l, x (ix2 r l) = f r l) {o : ℕ} (p : Fin 2) (ho : o = p.val * 128) (inb) (r l : Fin 128) :
    View.ld x (Rect.unit (s := S128x256) ![0, o] S128x128.size inb) (ix2 r l) = f r (lcol p l) := by
  subst ho; exact (ld_cols x inb r l r.isLt (by omega)).trans (hf _ _)
theorem block {e : EltTy} (x : S128x256.Idx → Elt Ideal e) (f : Fin 128 → Fin 256 → Elt Ideal e) (hf : ∀ r l, x (ix2 r l) = f r l) (inb) (r : Fin 128) (l : Fin 256) :
    View.ld x (Rect.unit (s := S128x256) ![0, 0] S128x256.size inb) (ix2 r l) = f r l :=
  (ld_cols x inb r l r.isLt (by omega)).trans ((hf _ _).trans (congrArg (f r) (Fin.ext (Nat.zero_add _))))

theorem su_lo (r : Fin 128) : su t (lcol 0 r) = sp t r := by
  have h : (lcol 0 r).val < 128 := by show 0 * 128 + r.val < 128; omega
  unfold su
  rw [dif_pos h]
  exact congrArg (sp t) (Fin.ext (by show 0 * 128 + r.val = r.val; omega))
theorem su_hi (r : Fin 128) : su t (lcol 1 r) = sq t r := by
  have h : ¬(lcol 1 r).val < 128 := by show ¬(1 * 128 + r.val < 128); omega
  unfold su
  rw [dif_neg h]
  exact congrArg (sq t) (Fin.ext (by show 1 * 128 + r.val - 128 = r.val; omega))

/-- The group's lanes of a row. -/
def kk (A : Wide) (j l : Fin 256) : ℝ := A (ix2 (su t j) ⟨2 * 256 + l.val, by omega⟩)

theorem place (p : Fin 2) (r l : Fin 128) (y : S128x256.Idx) (h0 : (y 0).val = r.val) (h1 : (y 1).val = p.val * 128 + l.val) :
    ((gQ X K V' D (sq t r) (col 2 p l) : ℝ) : EReal) = outQ X K V' D (((cfg0.win 8).blk t).view.emb y) := by
  rw [emb_q]
  have ht := lt_t t
  refine congrArg _ (congrArg₂ (gQ X K V' D) (Fin.ext ?_) (Fin.ext ?_))
  · show (t.val % 2 * 128 + r.val) * 16 + t.val / 2 = (t.val % 2 * 128 + (y 0).val) * 16 + (t.val / 2 * 256 + (y 1).val) / 256; omega
  · show 2 * 256 + (p.val * 128 + l.val) = 2 * 256 + (t.val / 2 * 256 + (y 1).val) % 256; omega

include hx hk hv hd in
theorem piece0 (i0 i1 i2 i3 i4) (x : S128x128.Idx) (y : S128x256.Idx) (h0 : (y 0).val = (x 0).val) (h1 : (y 1).val = 0 * 128 + (x 1).val) :
    pLo (k0_pay1 (grid0.coords t)) (View.ld (iblk m c 0 t) (Rect.unit (s := S128x256) ![0, 0] S128x128.size i0))
      (View.ld (iblk m c 1 t) (Rect.unit (s := S128x256) ![0, 0] S128x256.size i4)) (View.ld (iblk m c 2 t) (Rect.unit (s := S128x256) ![0, 0] S128x256.size i4))
      (View.ld (iblk m c 3 t) (Rect.unit (s := S128x256) ![0, 0] S128x256.size i4)) (View.ld (iblk m c 4 t) (Rect.unit (s := S128x256) ![0, 0] S128x256.size i4))
      (View.ld (iblk m c 7 t) (Rect.unit (s := S128x256) ![0, 0] S128x128.size i1)) (View.ld (iblk m c 5 t) (Rect.unit (s := S128x256) ![0, 0] S128x128.size i2))
      (View.ld (iblk m c 6 t) (Rect.unit (s := S128x256) ![0, 0] S128x128.size i3)) x = outQ X K V' D (((cfg0.win 8).blk t).view.emb y) := by
  obtain ⟨x0, x1, rfl⟩ : ∃ a b, x = ix2 a b := ⟨x 0, x 1, eq_ix2 x⟩
  change _ = x0.val at h0
  change _ = _ + x1.val at h1
  refine (pLo_eq _ _ _ _ _ _ _ _ _ (ok t) (tQ X 2 0 (sq t)) (tD D 0 (sq t)) (tO X K V' 0 (sq t)) (tW X K 0 (sq t)) (kk t K) (kk t V') (ok_word t)
    (lanes _ _ (tile_q m c X K V' hx hk hv t) 0 rfl _) (lanes _ _ (tile_d m c D hd t) 0 rfl _) (lanes _ _ (tile_o m c X K V' hx hk hv t) 0 rfl _)
    (lanes _ _ (tile_w m c X K hx hk t) 0 rfl _)
    (fun r l => (block _ _ (tile_k1 m c X K V' hx hk hv t) _ r l).trans (by rw [kk, su_lo])) (fun r l => (block _ _ (tile_k2 m c X K V' hx hk hv t) _ r l).trans (by rw [kk, su_hi]))
    (fun r l => (block _ _ (tile_v1 m c X K V' hx hk hv t) _ r l).trans (by rw [kk, su_lo])) (fun r l => (block _ _ (tile_v2 m c X K V' hx hk hv t) _ r l).trans (by rw [kk, su_hi])) x0 x1).trans ?_
  exact (congrArg (fun z : ℝ => (z : EReal)) (pair_q X K V' D 2 0 (sq t) (su t) (ok t) (ok_sees t 0) (ok_inj t) (ok_all t 0) x0 x1)).trans (place X K V' D t 0 x0 x1 y h0 h1)

include hx hk hv hd in
theorem piece1 (i0 i1 i2 i3 i4) (x : S128x128.Idx) (y : S128x256.Idx) (h0 : (y 0).val = (x 0).val) (h1 : (y 1).val = 1 * 128 + (x 1).val) :
    pHi (k0_pay1 (grid0.coords t)) (View.ld (iblk m c 0 t) (Rect.unit (s := S128x256) ![0, 128] S128x128.size i0))
      (View.ld (iblk m c 1 t) (Rect.unit (s := S128x256) ![0, 0] S128x256.size i4)) (View.ld (iblk m c 2 t) (Rect.unit (s := S128x256) ![0, 0] S128x256.size i4))
      (View.ld (iblk m c 3 t) (Rect.unit (s := S128x256) ![0, 0] S128x256.size i4)) (View.ld (iblk m c 4 t) (Rect.unit (s := S128x256) ![0, 0] S128x256.size i4))
      (View.ld (iblk m c 7 t) (Rect.unit (s := S128x256) ![0, 128] S128x128.size i1)) (View.ld (iblk m c 5 t) (Rect.unit (s := S128x256) ![0, 128] S128x128.size i2))
      (View.ld (iblk m c 6 t) (Rect.unit (s := S128x256) ![0, 128] S128x128.size i3)) x = outQ X K V' D (((cfg0.win 8).blk t).view.emb y) := by
  obtain ⟨x0, x1, rfl⟩ : ∃ a b, x = ix2 a b := ⟨x 0, x 1, eq_ix2 x⟩
  change _ = x0.val at h0
  change _ = _ + x1.val at h1
  refine (pHi_eq _ _ _ _ _ _ _ _ _ (ok t) (tQ X 2 1 (sq t)) (tD D 1 (sq t)) (tO X K V' 1 (sq t)) (tW X K 1 (sq t)) (kk t K) (kk t V') (ok_word t)
    (lanes _ _ (tile_q m c X K V' hx hk hv t) 1 rfl _) (lanes _ _ (tile_d m c D hd t) 1 rfl _) (lanes _ _ (tile_o m c X K V' hx hk hv t) 1 rfl _)
    (lanes _ _ (tile_w m c X K hx hk t) 1 rfl _)
    (fun r l => (block _ _ (tile_k1 m c X K V' hx hk hv t) _ r l).trans (by rw [kk, su_lo])) (fun r l => (block _ _ (tile_k2 m c X K V' hx hk hv t) _ r l).trans (by rw [kk, su_hi]))
    (fun r l => (block _ _ (tile_v1 m c X K V' hx hk hv t) _ r l).trans (by rw [kk, su_lo])) (fun r l => (block _ _ (tile_v2 m c X K V' hx hk hv t) _ r l).trans (by rw [kk, su_hi])) x0 x1).trans ?_
  exact (congrArg (fun z : ℝ => (z : EReal)) (pair_q X K V' D 2 1 (sq t) (su t) (ok t) (ok_sees t 1) (ok_inj t) (ok_all t 1) x0 x1)).trans (place X K V' D t 1 x0 x1 y h0 h1)

end pieces

include hx hk hv hd in
theorem final_q : (dats m 0 c).arrAt 8 cfg0.N = outQ X K V' D := by
  refine (dats m 0 c).arrAt_eq_of_covers 8 _ (by decide +kernel) fun t _ y => ?_
  blk_simp
  rw [after0_8]
  frame_out
  canon_tiles x h
  · exact piece1 m c X K V' D hx hk hv hd t _ _ _ _ _ x y h0 h1
  · exact piece0 m c X K V' D hx hk hv hd t _ _ _ _ _ x y h0 (h1.trans (by omega))
end arrays

end Cert.Band2DqKernelIdeal.Hand

namespace Cert.Band2DqReferenceIdeal.Hand
open Cert.Band2DqReferenceIdeal Cert.Band2DqReferenceIdeal.Read Cert.BandReal
open Cert.Band0DqReferenceIdeal.Hand (up whole_q)

theorem same {F : FTy → Type} [FloatOps F] [Named F] (x0 x1 x2 x3) : val_main_v134 (F := F) x0 x1 x2 x3 = Cert.Band0DqReferenceIdeal.Read.val_main_v134 (F := F) x0 x1 x2 x3 := rfl

theorem ref (X K V' : Wide) (D : Quarter) : val_main_v136 (F := Ideal) (up X) (up K) (up V') (up D) = Cert.Band2DqKernelIdeal.Hand.outQ X K V' D := by
  funext y
  obtain ⟨a, b, rfl⟩ : ∃ a b, y = ix2 a b := ⟨y 0, y 1, eq_ix2 y⟩
  have e : ∀ (s : Fin 4096) (l : Fin 256), val_main_v135 (F := Ideal) (up X) (up K) (up V') (up D) (ix2 s l) = ((gQ X K V' D s ⟨2 * 256 + l.val, by omega⟩ : ℝ) : EReal) := fun s l => by
    pointwise [val_main_v135]
    rw [same]
    exact whole_q X K V' D _ _
  pointwise [val_main_v136]
  exact e _ _

end Cert.Band2DqReferenceIdeal.Hand

end
-- ==== Proof.Band2Dkv.lean ====
/-
  The gradients of the keys and of the values of the dilated attention's group of dilation 16: the kernel works on tiles of 128 keys of one residue against the 256 queries from them on.
-/
module

public import proofs.«01_k».proof.Proof.Gen.Band2DkvKernelIdeal.Value
public import proofs.«01_k».proof.Proof.Gen.Band2DkvReferenceIdeal.Run
public import proofs.«01_k».proof.Proof.Gen.Band2DkvReferenceIdeal.Read
public import Idealize.ShloMosaic.Lib.Pipeline.ValueKit
public import Idealize.ShloMosaic.Lib.Pointwise
public import proofs.«01_k».proof.Proof.Reals
public import proofs.«01_k».proof.Proof.BandSaved
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Band2DkvKernelIdeal.Hand

open Cert.Band2DkvKernelIdeal Cert.Band2DkvKernelIdeal.Gen Cert.Reals Cert.AttnReal Cert.BandReal Cert.BandTile Cert.BandHost
open Cert.Band0DqReferenceIdeal.Hand (up)

theorem mask_named : (Named.named κ "mask" 4048155338#32 : Ideal .f32) = (⊥ : EReal) := rfl

section pair
variable (ok : IVec S256x128 1) (q1 q2 : FVec Ideal S128x256 .bf16) (k v : FVec Ideal S128x128 .bf16) (w1 w2 d1 d2 o1 o2 : FVec Ideal S128x256 .f32)

/-- One pair of heads' gradients of the keys and of the values, from the lanes of the first pair and of the second. -/
def kLo : FVec Ideal S128x128 .f32 :=
  k0_pay31 ok (k0_pay9 (k0_pay4 q1 q2)) (k0_pay10 k) (k0_pay11 v) (k0_pay13 (k0_pay7 w1) w2) (k0_pay17 (k0_pay5 d1 d2) (k0_pay6 o1 o2)) (k0_pay18 (k0_pay5 d1 d2)) (k0_pay25 ok (k0_pay9 (k0_pay4 q1 q2)) (k0_pay10 k) (k0_pay11 v) (k0_pay13 (k0_pay7 w1) w2) (k0_pay16 (k0_pay5 d1 d2) (k0_pay6 o1 o2)) (k0_pay18 (k0_pay5 d1 d2)) (k0_pay19 (F := Ideal)))
def kHi : FVec Ideal S128x128 .f32 :=
  k0_pay2 (k0_pay52 (k0_pay43 (F := Ideal)) (k0_pay46 (k0_pay32 (k0_pay4 q1 q2))) (k0_pay49 ok (k0_pay32 (k0_pay4 q1 q2)) (k0_pay33 k) (k0_pay34 v) (k0_pay35 (k0_pay5 d1 d2)) (k0_pay36 (k0_pay8 (k0_pay7 w1) w2)) (k0_pay39 (k0_pay5 d1 d2) (k0_pay6 o1 o2)))) (k0_pay54 (k0_pay32 (k0_pay4 q1 q2))) (k0_pay57 ok (k0_pay32 (k0_pay4 q1 q2)) (k0_pay33 k) (k0_pay34 v) (k0_pay36 (k0_pay8 (k0_pay7 w1) w2)) (k0_pay41 (k0_pay40 (k0_pay5 d1 d2) (k0_pay6 o1 o2))) (k0_pay42 (k0_pay35 (k0_pay5 d1 d2))))
def vLo : FVec Ideal S128x128 .f32 :=
  k0_pay30 ok (k0_pay9 (k0_pay4 q1 q2)) (k0_pay10 k) (k0_pay13 (k0_pay7 w1) w2) (k0_pay18 (k0_pay5 d1 d2)) (k0_pay24 ok (k0_pay9 (k0_pay4 q1 q2)) (k0_pay10 k) (k0_pay13 (k0_pay7 w1) w2) (k0_pay18 (k0_pay5 d1 d2)))
def vHi : FVec Ideal S128x128 .f32 :=
  k0_pay1 (k0_pay51 (k0_pay44 (F := Ideal)) (k0_pay48 (k0_pay35 (k0_pay5 d1 d2))) (k0_pay50 ok (k0_pay32 (k0_pay4 q1 q2)) (k0_pay33 k) (k0_pay36 (k0_pay8 (k0_pay7 w1) w2)))) (k0_pay56 (k0_pay42 (k0_pay35 (k0_pay5 d1 d2)))) (k0_pay58 ok (k0_pay32 (k0_pay4 q1 q2)) (k0_pay33 k) (k0_pay36 (k0_pay8 (k0_pay7 w1) w2)))

variable (b : Fin 256 → Fin 128 → Prop) [∀ r, DecidablePred (b r)] (QQ DD OO WW : Fin 256 → Fin 256 → ℝ) (K V : Fin 128 → Fin 128 → ℝ)
  (hok : ∀ r c, ok (ix2 r c) = BitVec.ofBool (decide (b r c)))
  (hq1 : ∀ (c : Fin 128) (l : Fin 256), q1 (ix2 c l) = ((QQ (lcol 0 c) l : ℝ) : EReal))
  (hq2 : ∀ (c : Fin 128) (l : Fin 256), q2 (ix2 c l) = ((QQ (lcol 1 c) l : ℝ) : EReal))
  (hd1 : ∀ (c : Fin 128) (l : Fin 256), d1 (ix2 c l) = ((DD (lcol 0 c) l : ℝ) : EReal))
  (hd2 : ∀ (c : Fin 128) (l : Fin 256), d2 (ix2 c l) = ((DD (lcol 1 c) l : ℝ) : EReal))
  (ho1 : ∀ (c : Fin 128) (l : Fin 256), o1 (ix2 c l) = ((OO (lcol 0 c) l : ℝ) : EReal))
  (ho2 : ∀ (c : Fin 128) (l : Fin 256), o2 (ix2 c l) = ((OO (lcol 1 c) l : ℝ) : EReal))
  (hw1 : ∀ (c : Fin 128) (l : Fin 256), w1 (ix2 c l) = ((WW (lcol 0 c) l : ℝ) : EReal))
  (hw2 : ∀ (c : Fin 128) (l : Fin 256), w2 (ix2 c l) = ((WW (lcol 1 c) l : ℝ) : EReal))
  (hk : ∀ r l, k (ix2 r l) = ((K r l : ℝ) : EReal)) (hv : ∀ r l, v (ix2 r l) = ((V r l : ℝ) : EReal))

include hok hq1 hq2 hd1 hd2 ho1 ho2 hw1 hw2 hk hv in
theorem kLo_eq (j l) : kLo ok q1 q2 k v w1 w2 d1 d2 o1 o2 (ix2 j l)
    = ((if l.val < 64 then ∑ r, bs (fun c l => QQ c (lcol 0 l)) (fun c l => DD c (lcol 0 l)) (fun c l => OO c (lcol 0 l)) (fun c l => WW c (lcol 0 l)) K V b 0 r j * QQ r (lcol 0 l) else ∑ r, bs (fun c l => QQ c (lcol 0 l)) (fun c l => DD c (lcol 0 l)) (fun c l => OO c (lcol 0 l)) (fun c l => WW c (lcol 0 l)) K V b 1 r j * QQ r (lcol 0 l) : ℝ) : EReal) := by
  pointwise [kLo, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, ho1, ho2, hw1, hw2, hk, hv, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 ho1 ho2 hw1 hw2 hk hv in
theorem kHi_eq (j l) : kHi ok q1 q2 k v w1 w2 d1 d2 o1 o2 (ix2 j l)
    = ((if l.val < 64 then ∑ r, bs (fun c l => QQ c (lcol 1 l)) (fun c l => DD c (lcol 1 l)) (fun c l => OO c (lcol 1 l)) (fun c l => WW c (lcol 1 l)) K V b 0 r j * QQ r (lcol 1 l) else ∑ r, bs (fun c l => QQ c (lcol 1 l)) (fun c l => DD c (lcol 1 l)) (fun c l => OO c (lcol 1 l)) (fun c l => WW c (lcol 1 l)) K V b 1 r j * QQ r (lcol 1 l) : ℝ) : EReal) := by
  pointwise [kHi, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, ho1, ho2, hw1, hw2, hk, hv, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 hw1 hw2 hk in
theorem vLo_eq (j l) : vLo ok q1 q2 k w1 w2 d1 d2 (ix2 j l)
    = ((if l.val < 64 then ∑ r, bp (fun c l => QQ c (lcol 0 l)) (fun c l => WW c (lcol 0 l)) K b 0 r j * DD r (lcol 0 l) else ∑ r, bp (fun c l => QQ c (lcol 0 l)) (fun c l => WW c (lcol 0 l)) K b 1 r j * DD r (lcol 0 l) : ℝ) : EReal) := by
  pointwise [vLo, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, hw1, hw2, hk, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

include hok hq1 hq2 hd1 hd2 hw1 hw2 hk in
theorem vHi_eq (j l) : vHi ok q1 q2 k w1 w2 d1 d2 (ix2 j l)
    = ((if l.val < 64 then ∑ r, bp (fun c l => QQ c (lcol 1 l)) (fun c l => WW c (lcol 1 l)) K b 0 r j * DD r (lcol 1 l) else ∑ r, bp (fun c l => QQ c (lcol 1 l)) (fun c l => WW c (lcol 1 l)) K b 1 r j * DD r (lcol 1 l) : ℝ) : EReal) := by
  pointwise [vHi, k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
  simp only [width, rem_lane, lane_lo, lane_hi, lcol_lo, lcol_hi, hok, hq1, hq2, hd1, hd2, hw1, hw2, hk, mask_named, ← EReal.coe_mul, sel_lo, sel_hi, sel_not_lo, coe_sum, sum_lo', sum_hi', ← EReal.coe_sub, exp_pick, ← EReal.coe_add]
  refine congrArg _ ?_
  by_cases h : l.val < 64
  · simp only [h, if_true, Finset.sum_const_zero, add_zero, zero_add, sum_halves]; rfl
  · simp only [h, if_false, Finset.sum_const_zero, zero_add, add_zero, sum_halves]; rfl

end pair

section host
variable {F : FTy → Type} [FloatOps F] [Named F]
variable (m : (ℓ : Loc nD τ sig) → Buf (Elt F) ℓ) (c : Dev nD)

/-! What the host lines before the call leave in the arrays the call reads. -/

set_option maxHeartbeats 4000000 in
theorem V_x : V m c main_v81 = shapeCast S256x40960 (wide (m (c, Proc.tc.devRef main_arg0)) (m (c, Proc.tc.devRef main_arg1)) (m (c, Proc.tc.devRef main_arg2)) (m (c, Proc.tc.devRef main_arg3))) shapeCasts_S4096x2560_S256x40960 := by
  unfold V
  after_reads_simp
  rfl
set_option maxHeartbeats 4000000 in
theorem V_o : V m c main_v83 = shapeCast S256x4096 (kO (m (c, Proc.tc.devRef main_arg0)) (m (c, Proc.tc.devRef main_arg1)) (m (c, Proc.tc.devRef main_arg2))) shapeCasts_S4096x256_S256x4096 := by
  unfold V
  after_reads_simp
  rfl
set_option maxHeartbeats 4000000 in
theorem V_w : V m c main_v84 = shapeCast S256x4096 (kW (m (c, Proc.tc.devRef main_arg0)) (m (c, Proc.tc.devRef main_arg1))) shapeCasts_S4096x256_S256x4096 := by
  unfold V
  after_reads_simp
  rfl
set_option maxHeartbeats 4000000 in
theorem V_d : V m c main_v82 = shapeCast S256x4096 (m (c, Proc.tc.devRef main_arg4)) shapeCasts_S4096x256_S256x4096 := by
  unfold V
  after_reads_simp
  rfl

/-! A window block is a part of its array. -/

theorem iblk_0 (t : Fin cfg0.N) (y : S128x256.Idx) : iblk m c 0 t y = V m c main_v81 (((cfg0.win 0).blk t).view.emb y) := rfl
theorem iblk_1 (t : Fin cfg0.N) (y : S128x256.Idx) : iblk m c 1 t y = V m c main_v81 (((cfg0.win 1).blk t).view.emb y) := rfl
theorem iblk_2 (t : Fin cfg0.N) (y : S128x256.Idx) : iblk m c 2 t y = V m c main_v81 (((cfg0.win 2).blk t).view.emb y) := rfl
theorem iblk_3 (t : Fin cfg0.N) (y : S128x256.Idx) : iblk m c 3 t y = V m c main_v81 (((cfg0.win 3).blk t).view.emb y) := rfl
theorem iblk_4 (t : Fin cfg0.N) (y : S128x256.Idx) : iblk m c 4 t y = V m c main_v82 (((cfg0.win 4).blk t).view.emb y) := rfl
theorem iblk_5 (t : Fin cfg0.N) (y : S128x256.Idx) : iblk m c 5 t y = V m c main_v82 (((cfg0.win 5).blk t).view.emb y) := rfl
theorem iblk_6 (t : Fin cfg0.N) (y : S128x256.Idx) : iblk m c 6 t y = V m c main_v83 (((cfg0.win 6).blk t).view.emb y) := rfl
theorem iblk_7 (t : Fin cfg0.N) (y : S128x256.Idx) : iblk m c 7 t y = V m c main_v83 (((cfg0.win 7).blk t).view.emb y) := rfl
theorem iblk_8 (t : Fin cfg0.N) (y : S128x256.Idx) : iblk m c 8 t y = V m c main_v84 (((cfg0.win 8).blk t).view.emb y) := rfl
theorem iblk_9 (t : Fin cfg0.N) (y : S128x256.Idx) : iblk m c 9 t y = V m c main_v84 (((cfg0.win 9).blk t).view.emb y) := rfl
end host

/-! Position `a` of residue `ρ` of the dilation, as a row of the whole arrays. -/

def at_ (a : ℕ) (ρ : ℕ) (h : a < 256 ∧ ρ < 16) : Fin 4096 := ⟨a * 16 + ρ, by omega⟩

theorem at_2560 {e : EltTy} (A : S4096x2560.Idx → Elt Ideal e) (a ρ : ℕ) (h : a < 256 ∧ ρ < 16) (z : Fin 2560) :
    shapeCast S256x40960 A shapeCasts_S4096x2560_S256x40960 (ix2 ⟨a, h.1⟩ ⟨ρ * 2560 + z.val, by omega⟩) = A (ix2 (at_ a ρ h) z) := by
  have e : ∀ (x : Fin 256) (y : Fin 40960), shapeCast S256x40960 A shapeCasts_S4096x2560_S256x40960 (ix2 x y)
      = A (ix2 ⟨x.val * 16 + y.val / 2560, by omega⟩ ⟨y.val % 2560, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 16 + (ρ * 2560 + z.val) / 2560 = a * 16 + ρ; omega
  · show (ρ * 2560 + z.val) % 2560 = z.val; omega

theorem at_256 {e : EltTy} (A : S4096x256.Idx → Elt Ideal e) (a ρ : ℕ) (h : a < 256 ∧ ρ < 16) (z : Fin 256) :
    shapeCast S256x4096 A shapeCasts_S4096x256_S256x4096 (ix2 ⟨a, h.1⟩ ⟨ρ * 256 + z.val, by omega⟩) = A (ix2 (at_ a ρ h) z) := by
  have e : ∀ (x : Fin 256) (y : Fin 4096), shapeCast S256x4096 A shapeCasts_S4096x256_S256x4096 (ix2 x y)
      = A (ix2 ⟨x.val * 16 + y.val / 256, by omega⟩ ⟨y.val % 256, by omega⟩) := fun x y => by
    pointwise
    all_goals (refine congrArg A (congrArg₂ ix2 (Fin.ext ?_) (Fin.ext ?_)) <;> simp <;> omega)
  rw [e]
  refine congrArg A (congrArg₂ ix2 (Fin.ext ?_) (Fin.ext ?_))
  · show a * 16 + (ρ * 256 + z.val) / 256 = a * 16 + ρ; omega
  · show (ρ * 256 + z.val) % 256 = z.val; omega

/-! The grid: point `t` is row block `t % 2` of residue `t / 2`. -/

theorem lt_t (t : Fin cfg0.N) : t.val < 32 := lt_of_lt_of_eq t.isLt N_0
theorem coord (t : Fin cfg0.N) : (grid0.coords t 1).val = t.val % 2 :=
  (by decide +kernel : ∀ t : Fin grid0.N, (grid0.coords t 1).val = t.val % 2) t
theorem idx : ∀ t : Fin cfg0.N, win0_0.index t = ![t.val % 2, t.val / 2 * 10 + 2]
    ∧ win0_1.index t = ![min (t.val % 2 + 1) 1, t.val / 2 * 10 + 2]
    ∧ win0_2.index t = ![t.val % 2, t.val / 2 * 10 + 5]
    ∧ win0_3.index t = ![t.val % 2, t.val / 2 * 10 + 8]
    ∧ win0_4.index t = ![t.val % 2, t.val / 2]
    ∧ win0_5.index t = ![min (t.val % 2 + 1) 1, t.val / 2]
    ∧ win0_6.index t = ![t.val % 2, t.val / 2]
    ∧ win0_7.index t = ![min (t.val % 2 + 1) 1, t.val / 2]
    ∧ win0_8.index t = ![t.val % 2, t.val / 2]
    ∧ win0_9.index t = ![min (t.val % 2 + 1) 1, t.val / 2]
    ∧ win0_10.index t = ![t.val % 2, t.val / 2]
    ∧ win0_11.index t = ![t.val % 2, t.val / 2] :=
  (by decide +kernel : ∀ t : Fin grid0.N, _)

/-- The rows of a tile's keys, of the queries of the block after, and of the block's own queries and those together. -/
def sq (t : Fin cfg0.N) (r : Fin 128) : Fin 4096 := at_ (t.val % 2 * 128 + r.val) (t.val / 2) (by have := lt_t t; omega)
def sn (t : Fin cfg0.N) (r : Fin 128) : Fin 4096 := at_ ((min (t.val % 2 + 1) 1) * 128 + r.val) (t.val / 2) (by have := lt_t t; omega)
def sa (t : Fin cfg0.N) (j : Fin 256) : Fin 4096 :=
  if h : j.val < 128 then sq t ⟨j.val, h⟩ else sn t ⟨j.val - 128, by omega⟩

/-- Which of the tile's queries see a key. -/
def ok (t : Fin cfg0.N) (r : Fin 256) (j : Fin 128) : Prop := j.val ≤ r.val ∧ r.val ≤ j.val + 128 ∧ t.val % 2 * 128 + r.val < 256
instance (t : Fin cfg0.N) (r : Fin 256) : DecidablePred (ok t r) := fun j => by unfold ok; infer_instance

theorem ok_word (t : Fin cfg0.N) (r j) : k0_pay3 (grid0.coords t) (ix2 r j) = BitVec.ofBool (decide (ok t r j)) := by
  pointwise [k0_pay3]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 256)))
      (word_at (t.val % 2) r.val) (word_at (t.val % 2) j.val)).trans ?_
  rw [word_ok _ _ _ (by omega) (by omega) (by omega) (by omega) (by omega) (by omega)]
  refine congrArg _ (decide_eq_decide.2 ?_)
  unfold ok
  omega

theorem sa_ok (t : Fin cfg0.N) (r j) (h : ok t r j) : (sa t r).val = (t.val % 2 * 128 + r.val) * 16 + t.val / 2 := by
  obtain ⟨h1, h2, h3⟩ := h
  unfold sa
  split
  · rfl
  · show ((min (t.val % 2 + 1) 1) * 128 + (r.val - 128)) * 16 + t.val / 2 = _; omega

theorem dil_head (p a : Fin 2) : dil (head 2 p a) = 16 := by revert p a; decide

theorem ok_sees (t : Fin cfg0.N) (p a r j) (h : ok t r j) : sees (head 2 p a) (sa t r) (sq t j) := by
  have h' := h
  obtain ⟨h1, h2, h3⟩ := h'
  exact sees_of _ _ _ 16 (t.val / 2) (t.val % 2 * 128 + r.val) (t.val % 2 * 128 + j.val) (dil_head p a) (sa_ok t r j h) rfl (by omega) (by omega)

theorem ok_inj (t : Fin cfg0.N) (j i r) (h : ok t i j) (h' : ok t r j) (e : sa t i = sa t r) : i = r := by
  have e' := congrArg Fin.val e
  rw [sa_ok t i j h, sa_ok t r j h'] at e'
  exact Fin.ext (by omega)

theorem ok_all (t : Fin cfg0.N) (p a j q) (h : sees (head 2 p a) q (sq t j)) : ∃ r, ok t r j ∧ sa t r = q := by
  obtain ⟨n, hn, e⟩ := sees_steps _ _ _ 16 (dil_head p a) (by decide) h
  have e' : q.val = (t.val % 2 * 128 + j.val) * 16 + t.val / 2 + n * 16 := e
  have ht := lt_t t
  have hq := q.isLt
  have hk : ok t ⟨j.val + n, by omega⟩ j := by
    refine ⟨?_, ?_, ?_⟩
    · show j.val ≤ j.val + n; omega
    · show j.val + n ≤ j.val + 128; omega
    · show t.val % 2 * 128 + (j.val + n) < 256; omega
  refine ⟨_, hk, Fin.ext ?_⟩
  rw [sa_ok t _ j hk]
  show (t.val % 2 * 128 + (j.val + n)) * 16 + t.val / 2 = q.val
  omega

section arrays
variable (m : (ℓ : Loc nD τ sig) → Buf (Elt Ideal) ℓ) (c : Dev nD) (X K V' : Wide) (D : Quarter)
  (hx : m ((c : Thread nD τ).loc main_arg0) = up X) (hk : m ((c : Thread nD τ).loc main_arg1) = up K)
  (hv : m ((c : Thread nD τ).loc main_arg2) = up V') (hd : m ((c : Thread nD τ).loc main_arg4) = up D)

include hx hk hv in
theorem tile_q1 (t : Fin cfg0.N) (r : Fin 128) (l : Fin 256) : iblk m c 0 t (ix2 r l) = ((X (ix2 (sq t r) ⟨2 * 256 + l.val, by omega⟩) * (1 / 8) : ℝ) : EReal) := by
  have ht := lt_t t
  have e : ((cfg0.win 0).blk t).view.emb (ix2 r l) = (ix2 ⟨t.val % 2 * 128 + r.val, by omega⟩ ⟨t.val / 2 * 2560 + (⟨(2 * 256 + l.val), by omega⟩ : Fin 2560).val, by show _ + ((2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_0, e, V_x, h0, h1, h2]
  exact (at_2560 (e := .bf16) (wide (F := Ideal) (up X) (up K) (up V') (m (c, Proc.tc.devRef main_arg3))) (t.val % 2 * 128 + r.val) (t.val / 2) (by omega) (⟨(2 * 256 + l.val), by omega⟩ : Fin 2560)).trans (wide_q X K V' _ _ (⟨2 * 256 + l.val, by omega⟩ : Fin 768))

include hx hk hv in
theorem tile_q2 (t : Fin cfg0.N) (r : Fin 128) (l : Fin 256) : iblk m c 1 t (ix2 r l) = ((X (ix2 (sn t r) ⟨2 * 256 + l.val, by omega⟩) * (1 / 8) : ℝ) : EReal) := by
  have ht := lt_t t
  have e : ((cfg0.win 1).blk t).view.emb (ix2 r l) = (ix2 ⟨(min (t.val % 2 + 1) 1) * 128 + r.val, by omega⟩ ⟨t.val / 2 * 2560 + (⟨(2 * 256 + l.val), by omega⟩ : Fin 2560).val, by show _ + ((2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_1, e, V_x, h0, h1, h2]
  exact (at_2560 (e := .bf16) (wide (F := Ideal) (up X) (up K) (up V') (m (c, Proc.tc.devRef main_arg3))) ((min (t.val % 2 + 1) 1) * 128 + r.val) (t.val / 2) (by omega) (⟨(2 * 256 + l.val), by omega⟩ : Fin 2560)).trans (wide_q X K V' _ _ (⟨2 * 256 + l.val, by omega⟩ : Fin 768))

include hx hk hv in
theorem tile_k (t : Fin cfg0.N) (r : Fin 128) (l : Fin 256) : iblk m c 2 t (ix2 r l) = ((K (ix2 (sq t r) ⟨2 * 256 + l.val, by omega⟩) : ℝ) : EReal) := by
  have ht := lt_t t
  have e : ((cfg0.win 2).blk t).view.emb (ix2 r l) = (ix2 ⟨t.val % 2 * 128 + r.val, by omega⟩ ⟨t.val / 2 * 2560 + (⟨768 + (2 * 256 + l.val), by omega⟩ : Fin 2560).val, by show _ + (768 + (2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_2, e, V_x, h0, h1, h2]
  exact (at_2560 (e := .bf16) (wide (F := Ideal) (up X) (up K) (up V') (m (c, Proc.tc.devRef main_arg3))) (t.val % 2 * 128 + r.val) (t.val / 2) (by omega) (⟨768 + (2 * 256 + l.val), by omega⟩ : Fin 2560)).trans (wide_k X K V' _ _ (⟨2 * 256 + l.val, by omega⟩ : Fin 768))

include hx hk hv in
theorem tile_v (t : Fin cfg0.N) (r : Fin 128) (l : Fin 256) : iblk m c 3 t (ix2 r l) = ((V' (ix2 (sq t r) ⟨2 * 256 + l.val, by omega⟩) : ℝ) : EReal) := by
  have ht := lt_t t
  have e : ((cfg0.win 3).blk t).view.emb (ix2 r l) = (ix2 ⟨t.val % 2 * 128 + r.val, by omega⟩ ⟨t.val / 2 * 2560 + (⟨1536 + (2 * 256 + l.val), by omega⟩ : Fin 2560).val, by show _ + (1536 + (2 * 256 + l.val)) < _; omega⟩ : S256x40960.Idx) := by
    blk_ext [idx t]
  have h0 : m (c, Proc.tc.devRef main_arg0) = up X := hx
  have h1 : m (c, Proc.tc.devRef main_arg1) = up K := hk
  have h2 : m (c, Proc.tc.devRef main_arg2) = up V' := hv
  rw [iblk_3, e, V_x, h0, h1, h2]
  exact (at_2560 (e := .bf16) (wide (F := Ideal) (up X) (up K) (up V') (m (c, Proc.tc.devRef main_arg3))) (t.val % 2 * 128 + r.val) (t.val / 2) (by omega) (⟨1536 + (2 * 256 + l.val), by omega⟩ : Fin 2560)).trans (wide_v X K V' _ _ (⟨2 * 256 + l.val, by omega⟩ : Fin 768))

omit hx hk hv hd in
theorem tile_d1_of (A : S4096x256.Idx → Elt Ideal .f32) (f : Fin 4096 → Fin 256 → ℝ) (hA : ∀ s l, A (ix2 s l) = ((f s l : ℝ) : EReal))
    (h : V m c main_v82 = shapeCast S256x4096 A shapeCasts_S4096x256_S256x4096) (t : Fin cfg0.N) (r : Fin 128) (l : Fin 256) : iblk m c 4 t (ix2 r l) = ((f (sq t r) l : ℝ) : EReal) := by
  have ht := lt_t t
  have e : ((cfg0.win 4).blk t).view.emb (ix2 r l) = (ix2 ⟨t.val % 2 * 128 + r.val, by omega⟩ ⟨t.val / 2 * 256 + l.val, by omega⟩ : S256x4096.Idx) := by
    blk_ext [idx t]
  rw [iblk_4, e, h]
  exact (at_256 A (t.val % 2 * 128 + r.val) (t.val / 2) (by omega) l).trans (hA _ _)

omit hx hk hv hd in
theorem tile_d2_of (A : S4096x256.Idx → Elt Ideal .f32) (f : Fin 4096 → Fin 256 → ℝ) (hA : ∀ s l, A (ix2 s l) = ((f s l : ℝ) : EReal))
    (h : V m c main_v82 = shapeCast S256x4096 A shapeCasts_S4096x256_S256x4096) (t : Fin cfg0.N) (r : Fin 128) (l : Fin 256) : iblk m c 5 t (ix2 r l) = ((f (sn t r) l : ℝ) : EReal) := by
  have ht := lt_t t
  have e : ((cfg0.win 5).blk t).view.emb (ix2 r l) = (ix2 ⟨(min (t.val % 2 + 1) 1) * 128 + r.val, by omega⟩ ⟨t.val / 2 * 256 + l.val, by omega⟩ : S256x4096.Idx) := by
    blk_ext [idx t]
  rw [iblk_5, e, h]
  exact (at_256 A ((min (t.val % 2 + 1) 1) * 128 + r.val) (t.val / 2) (by omega) l).trans (hA _ _)

omit hx hk hv hd in
theorem tile_o1_of (A : S4096x256.Idx → Elt Ideal .f32) (f : Fin 4096 → Fin 256 → ℝ) (hA : ∀ s l, A (ix2 s l) = ((f s l : ℝ) : EReal))
    (h : V m c main_v83 = shapeCast S256x4096 A shapeCasts_S4096x256_S256x4096) (t : Fin cfg0.N) (r : Fin 128) (l : Fin 256) : iblk m c 6 t (ix2 r l) = ((f (sq t r) l : ℝ) : EReal) := by
  have ht := lt_t t
  have e : ((cfg0.win 6).blk t).view.emb (ix2 r l) = (ix2 ⟨t.val % 2 * 128 + r.val, by omega⟩ ⟨t.val / 2 * 256 + l.val, by omega⟩ : S256x4096.Idx) := by
    blk_ext [idx t]
  rw [iblk_6, e, h]
  exact (at_256 A (t.val % 2 * 128 + r.val) (t.val / 2) (by omega) l).trans (hA _ _)

omit hx hk hv hd in
theorem tile_o2_of (A : S4096x256.Idx → Elt Ideal .f32) (f : Fin 4096 → Fin 256 → ℝ) (hA : ∀ s l, A (ix2 s l) = ((f s l : ℝ) : EReal))
    (h : V m c main_v83 = shapeCast S256x4096 A shapeCasts_S4096x256_S256x4096) (t : Fin cfg0.N) (r : Fin 128) (l : Fin 256) : iblk m c 7 t (ix2 r l) = ((f (sn t r) l : ℝ) : EReal) := by
  have ht := lt_t t
  have e : ((cfg0.win 7).blk t).view.emb (ix2 r l) = (ix2 ⟨(min (t.val % 2 + 1) 1) * 128 + r.val, by omega⟩ ⟨t.val / 2 * 256 + l.val, by omega⟩ : S256x4096.Idx) := by
    blk_ext [idx t]
  rw [iblk_7, e, h]
  exact (at_256 A ((min (t.val % 2 + 1) 1) * 128 + r.val) (t.val / 2) (by omega) l).trans (hA _ _)

omit hx hk hv hd in
theorem tile_w1_of (A : S4096x256.Idx → Elt Ideal .f32) (f : Fin 4096 → Fin 256 → ℝ) (hA : ∀ s l, A (ix2 s l) = ((f s l : ℝ) : EReal))
    (h : V m c main_v84 = shapeCast S256x4096 A shapeCasts_S4096x256_S256x4096) (t : Fin cfg0.N) (r : Fin 128) (l : Fin 256) : iblk m c 8 t (ix2 r l) = ((f (sq t r) l : ℝ) : EReal) := by
  have ht := lt_t t
  have e : ((cfg0.win 8).blk t).view.emb (ix2 r l) = (ix2 ⟨t.val % 2 * 128 + r.val, by omega⟩ ⟨t.val / 2 * 256 + l.val, by omega⟩ : S256x4096.Idx) := by
    blk_ext [idx t]
  rw [iblk_8, e, h]
  exact (at_256 A (t.val % 2 * 128 + r.val) (t.val / 2) (by omega) l).trans (hA _ _)

omit hx hk hv hd in
theorem tile_w2_of (A : S4096x256.Idx → Elt Ideal .f32) (f : Fin 4096 → Fin 256 → ℝ) (hA : ∀ s l, A (ix2 s l) = ((f s l : ℝ) : EReal))
    (h : V m c main_v84 = shapeCast S256x4096 A shapeCasts_S4096x256_S256x4096) (t : Fin cfg0.N) (r : Fin 128) (l : Fin 256) : iblk m c 9 t (ix2 r l) = ((f (sn t r) l : ℝ) : EReal) := by
  have ht := lt_t t
  have e : ((cfg0.win 9).blk t).view.emb (ix2 r l) = (ix2 ⟨(min (t.val % 2 + 1) 1) * 128 + r.val, by omega⟩ ⟨t.val / 2 * 256 + l.val, by omega⟩ : S256x4096.Idx) := by
    blk_ext [idx t]
  rw [iblk_9, e, h]
  exact (at_256 A ((min (t.val % 2 + 1) 1) * 128 + r.val) (t.val / 2) (by omega) l).trans (hA _ _)

include hd in
theorem D_at : V m c main_v82 = shapeCast S256x4096 (up D) shapeCasts_S4096x256_S256x4096 := by
  have h4 : m (c, Proc.tc.devRef main_arg4) = up D := hd
  exact (V_d m c).trans (by rw [h4])
include hx hk hv in
theorem O_at : V m c main_v83 = shapeCast S256x4096 (kO (F := Ideal) (up X) (up K) (up V')) shapeCasts_S4096x256_S256x4096 := by
  have h0 : m (c, Proc.tc.devRef main_arg0) = up X := hx
  have h1 : m (c, Proc.tc.devRef main_arg1) = up K := hk
  have h2 : m (c, Proc.tc.devRef main_arg2) = up V' := hv
  exact (V_o m c).trans (by rw [h0, h1, h2])
include hx hk in
theorem W_at : V m c main_v84 = shapeCast S256x4096 (kW (F := Ideal) (up X) (up K)) shapeCasts_S4096x256_S256x4096 := by
  have h0 : m (c, Proc.tc.devRef main_arg0) = up X := hx
  have h1 : m (c, Proc.tc.devRef main_arg1) = up K := hk
  exact (V_w m c).trans (by rw [h0, h1])

/-- The gradients of the group's keys and values, laid out by residue of the dilation. -/
def outK : FVec Ideal S256x4096 .f32 := fun y => ((gK X K V' D ⟨(y 0).val * 16 + (y 1).val / 256, by have h0 : (y 0).val < 256 := (y 0).isLt; have h1 : (y 1).val < 4096 := (y 1).isLt; omega⟩
  ⟨2 * 256 + (y 1).val % 256, by omega⟩ : ℝ) : EReal)
def outV : FVec Ideal S256x4096 .f32 := fun y => ((gV X K D ⟨(y 0).val * 16 + (y 1).val / 256, by have h0 : (y 0).val < 256 := (y 0).isLt; have h1 : (y 1).val < 4096 := (y 1).isLt; omega⟩
  ⟨2 * 256 + (y 1).val % 256, by omega⟩ : ℝ) : EReal)

theorem emb_k (t : Fin cfg0.N) (y : S128x256.Idx) : ((cfg0.win 10).blk t).view.emb y
    = (ix2 ⟨t.val % 2 * 128 + (y 0).val, by have := lt_t t; have h0 : (y 0).val < 128 := (y 0).isLt; omega⟩ ⟨t.val / 2 * 256 + (y 1).val, by have := lt_t t; have h1 : (y 1).val < 256 := (y 1).isLt; omega⟩ : S256x4096.Idx) := by
  rw [eq_ix2 y]; blk_ext [idx t]

theorem emb_v (t : Fin cfg0.N) (y : S128x256.Idx) : ((cfg0.win 11).blk t).view.emb y
    = (ix2 ⟨t.val % 2 * 128 + (y 0).val, by have := lt_t t; have h0 : (y 0).val < 128 := (y 0).isLt; omega⟩ ⟨t.val / 2 * 256 + (y 1).val, by have := lt_t t; have h1 : (y 1).val < 256 := (y 1).isLt; omega⟩ : S256x4096.Idx) := by
  rw [eq_ix2 y]; blk_ext [idx t]

section pieces
variable (t : Fin cfg0.N)

/-- Lanes from `o` on of a block whose rows hold `f`. -/
theorem lanes {e : EltTy} (x : S128x256.Idx → Elt Ideal e) (f : Fin 128 → Fin 256 → Elt Ideal e) (hf : ∀ r l, x (ix2 r l) = f r l) {o : ℕ} (p : Fin 2) (ho : o = p.val * 128) (inb) (r l : Fin 128) :
    View.ld x (Rect.unit (s := S128x256) ![0, o] S128x128.size inb) (ix2 r l) = f r (lcol p l) := by
  subst ho; exact (ld_cols x inb r l r.isLt (by omega)).trans (hf _ _)
theorem block {e : EltTy} (x : S128x256.Idx → Elt Ideal e) (f : Fin 128 → Fin 256 → Elt Ideal e) (hf : ∀ r l, x (ix2 r l) = f r l) (inb) (r : Fin 128) (l : Fin 256) :
    View.ld x (Rect.unit (s := S128x256) ![0, 0] S128x256.size inb) (ix2 r l) = f r l :=
  (ld_cols x inb r l r.isLt (by omega)).trans ((hf _ _).trans (congrArg (f r) (Fin.ext (Nat.zero_add _))))

theorem sa_lo (r : Fin 128) : sa t (lcol 0 r) = sq t r := by
  have h : (lcol 0 r).val < 128 := by show 0 * 128 + r.val < 128; omega
  unfold sa
  rw [dif_pos h]
  exact congrArg (sq t) (Fin.ext (by show 0 * 128 + r.val = r.val; omega))
theorem sa_hi (r : Fin 128) : sa t (lcol 1 r) = sn t r := by
  have h : ¬(lcol 1 r).val < 128 := by show ¬(1 * 128 + r.val < 128); omega
  unfold sa
  rw [dif_neg h]
  exact congrArg (sn t) (Fin.ext (by show 1 * 128 + r.val - 128 = r.val; omega))

/-- The tile's queries, and what is read at its queries' rows. -/
def qq (j l : Fin 256) : ℝ := X (ix2 (sa t j) ⟨2 * 256 + l.val, by omega⟩) * (1 / 8)
def rr (f : Fin 4096 → Fin 256 → ℝ) (j l : Fin 256) : ℝ := f (sa t j) l

theorem place_k (p : Fin 2) (r l : Fin 128) (y : S128x256.Idx) (h0 : (y 0).val = r.val) (h1 : (y 1).val = p.val * 128 + l.val) :
    ((gK X K V' D (sq t r) (col 2 p l) : ℝ) : EReal) = outK X K V' D (((cfg0.win 10).blk t).view.emb y) := by
  rw [emb_k]
  have ht := lt_t t
  refine congrArg _ (congrArg₂ (gK X K V' D) (Fin.ext ?_) (Fin.ext ?_))
  · show (t.val % 2 * 128 + r.val) * 16 + t.val / 2 = (t.val % 2 * 128 + (y 0).val) * 16 + (t.val / 2 * 256 + (y 1).val) / 256; omega
  · show 2 * 256 + (p.val * 128 + l.val) = 2 * 256 + (t.val / 2 * 256 + (y 1).val) % 256; omega

theorem place_v (p : Fin 2) (r l : Fin 128) (y : S128x256.Idx) (h0 : (y 0).val = r.val) (h1 : (y 1).val = p.val * 128 + l.val) :
    ((gV X K D (sq t r) (col 2 p l) : ℝ) : EReal) = outV X K D (((cfg0.win 11).blk t).view.emb y) := by
  rw [emb_v]
  have ht := lt_t t
  refine congrArg _ (congrArg₂ (gV X K D) (Fin.ext ?_) (Fin.ext ?_))
  · show (t.val % 2 * 128 + r.val) * 16 + t.val / 2 = (t.val % 2 * 128 + (y 0).val) * 16 + (t.val / 2 * 256 + (y 1).val) / 256; omega
  · show 2 * 256 + (p.val * 128 + l.val) = 2 * 256 + (t.val / 2 * 256 + (y 1).val) % 256; omega

include hx hk hv hd in
theorem piece_k0 (i0 i1 i2) (x : S128x128.Idx) (y : S128x256.Idx) (h0 : (y 0).val = (x 0).val) (h1 : (y 1).val = 0 * 128 + (x 1).val) :
    kLo (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 0] S128x128.size i1)) (View.ld (iblk m c 3 t) (Rect.unit (s := S128x256) ![0, 0] S128x128.size i2))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0))
      (View.ld (iblk m c 6 t) (Rect.unit (s := S128x256) ![0, 0] S128x256.size i0)) (View.ld (iblk m c 7 t) (Rect.unit (s := S128x256) ![0, 0] S128x256.size i0)) x = outK X K V' D (((cfg0.win 10).blk t).view.emb y) := by
  obtain ⟨x0, x1, rfl⟩ : ∃ a b, x = ix2 a b := ⟨x 0, x 1, eq_ix2 x⟩
  change _ = x0.val at h0
  change _ = _ + x1.val at h1
  refine (kLo_eq _ _ _ _ _ _ _ _ _ _ _ (ok t) (qq X t) (rr t (fun s l => D (ix2 s l))) (rr t (cm X K V')) (rr t (wl X K)) (tK K 2 0 (sq t)) (tK V' 2 0 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_o1_of m c (kO (F := Ideal) (up X) (up K) (up V')) (cm X K V') (kO_real X K V') (O_at m c X K V' hx hk hv) t) _ r l).trans (by rw [rr, sa_lo])) (fun r l => (block _ _ (tile_o2_of m c (kO (F := Ideal) (up X) (up K) (up V')) (cm X K V') (kO_real X K V') (O_at m c X K V' hx hk hv) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 0 rfl _) (lanes _ _ (tile_v m c X K V' hx hk hv t) 0 rfl _) x0 x1).trans ?_
  exact (congrArg (fun z : ℝ => (z : EReal)) (pair_k X K V' D 2 0 (sa t) (sq t) (ok t) (ok_sees t 0) (ok_inj t) (ok_all t 0) x0 x1)).trans (place_k X K V' D t 0 x0 x1 y h0 h1)

include hx hk hv hd in
theorem piece_v0 (i0 i1) (x : S128x128.Idx) (y : S128x256.Idx) (h0 : (y 0).val = (x 0).val) (h1 : (y 1).val = 0 * 128 + (x 1).val) :
    vLo (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 0] S128x128.size i1))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0)) x = outV X K D (((cfg0.win 11).blk t).view.emb y) := by
  obtain ⟨x0, x1, rfl⟩ : ∃ a b, x = ix2 a b := ⟨x 0, x 1, eq_ix2 x⟩
  change _ = x0.val at h0
  change _ = _ + x1.val at h1
  refine (vLo_eq _ _ _ _ _ _ _ _ (ok t) (qq X t) (rr t (fun s l => D (ix2 s l))) (rr t (wl X K)) (tK K 2 0 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 0 rfl _) x0 x1).trans ?_
  exact (congrArg (fun z : ℝ => (z : EReal)) (pair_v X K D 2 0 (sa t) (sq t) (ok t) (ok_sees t 0) (ok_inj t) (ok_all t 0) x0 x1)).trans (place_v X K D t 0 x0 x1 y h0 h1)

include hx hk hv hd in
theorem piece_k1 (i0 i1 i2) (x : S128x128.Idx) (y : S128x256.Idx) (h0 : (y 0).val = (x 0).val) (h1 : (y 1).val = 1 * 128 + (x 1).val) :
    kHi (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 128] S128x128.size i1)) (View.ld (iblk m c 3 t) (Rect.unit (s := S128x256) ![0, 128] S128x128.size i2))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0))
      (View.ld (iblk m c 6 t) (Rect.unit (s := S128x256) ![0, 0] S128x256.size i0)) (View.ld (iblk m c 7 t) (Rect.unit (s := S128x256) ![0, 0] S128x256.size i0)) x = outK X K V' D (((cfg0.win 10).blk t).view.emb y) := by
  obtain ⟨x0, x1, rfl⟩ : ∃ a b, x = ix2 a b := ⟨x 0, x 1, eq_ix2 x⟩
  change _ = x0.val at h0
  change _ = _ + x1.val at h1
  refine (kHi_eq _ _ _ _ _ _ _ _ _ _ _ (ok t) (qq X t) (rr t (fun s l => D (ix2 s l))) (rr t (cm X K V')) (rr t (wl X K)) (tK K 2 1 (sq t)) (tK V' 2 1 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_o1_of m c (kO (F := Ideal) (up X) (up K) (up V')) (cm X K V') (kO_real X K V') (O_at m c X K V' hx hk hv) t) _ r l).trans (by rw [rr, sa_lo])) (fun r l => (block _ _ (tile_o2_of m c (kO (F := Ideal) (up X) (up K) (up V')) (cm X K V') (kO_real X K V') (O_at m c X K V' hx hk hv) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 1 rfl _) (lanes _ _ (tile_v m c X K V' hx hk hv t) 1 rfl _) x0 x1).trans ?_
  exact (congrArg (fun z : ℝ => (z : EReal)) (pair_k X K V' D 2 1 (sa t) (sq t) (ok t) (ok_sees t 1) (ok_inj t) (ok_all t 1) x0 x1)).trans (place_k X K V' D t 1 x0 x1 y h0 h1)

include hx hk hv hd in
theorem piece_v1 (i0 i1) (x : S128x128.Idx) (y : S128x256.Idx) (h0 : (y 0).val = (x 0).val) (h1 : (y 1).val = 1 * 128 + (x 1).val) :
    vHi (k0_pay3 (grid0.coords t)) (View.ld (iblk m c 0 t) (Rect.unit (s := S128x256) ![0, 0] S128x256.size i0)) (View.ld (iblk m c 1 t) (Rect.unit (s := S128x256) ![0, 0] S128x256.size i0))
      (View.ld (iblk m c 2 t) (Rect.unit (s := S128x256) ![0, 128] S128x128.size i1))
      (View.ld (iblk m c 8 t) (Rect.unit (s := S128x256) ![0, 0] S128x256.size i0)) (View.ld (iblk m c 9 t) (Rect.unit (s := S128x256) ![0, 0] S128x256.size i0))
      (View.ld (iblk m c 4 t) (Rect.unit (s := S128x256) ![0, 0] S128x256.size i0)) (View.ld (iblk m c 5 t) (Rect.unit (s := S128x256) ![0, 0] S128x256.size i0)) x = outV X K D (((cfg0.win 11).blk t).view.emb y) := by
  obtain ⟨x0, x1, rfl⟩ : ∃ a b, x = ix2 a b := ⟨x 0, x 1, eq_ix2 x⟩
  change _ = x0.val at h0
  change _ = _ + x1.val at h1
  refine (vHi_eq _ _ _ _ _ _ _ _ (ok t) (qq X t) (rr t (fun s l => D (ix2 s l))) (rr t (wl X K)) (tK K 2 1 (sq t)) (ok_word t)
    (fun r l => (block _ _ (tile_q1 m c X K V' hx hk hv t) _ r l).trans (by rw [qq, sa_lo])) (fun r l => (block _ _ (tile_q2 m c X K V' hx hk hv t) _ r l).trans (by rw [qq, sa_hi]))
    (fun r l => (block _ _ (tile_d1_of m c (up D) (fun s l => D (ix2 s l)) (fun _ _ => rfl) (D_at m c D hd) t) _ r l).trans (by rw [rr, sa_lo])) (fun r l => (block _ _ (tile_d2_of m c (up D) (fun s l => D (ix2 s l)) (fun _ _ => rfl) (D_at m c D hd) t) _ r l).trans (by rw [rr, sa_hi]))
    (fun r l => (block _ _ (tile_w1_of m c (kW (F := Ideal) (up X) (up K)) (wl X K) (kW_real X K) (W_at m c X K hx hk) t) _ r l).trans (by rw [rr, sa_lo])) (fun r l => (block _ _ (tile_w2_of m c (kW (F := Ideal) (up X) (up K)) (wl X K) (kW_real X K) (W_at m c X K hx hk) t) _ r l).trans (by rw [rr, sa_hi]))
    (lanes _ _ (tile_k m c X K V' hx hk hv t) 1 rfl _) x0 x1).trans ?_
  exact (congrArg (fun z : ℝ => (z : EReal)) (pair_v X K D 2 1 (sa t) (sq t) (ok t) (ok_sees t 1) (ok_inj t) (ok_all t 1) x0 x1)).trans (place_v X K D t 1 x0 x1 y h0 h1)

end pieces

include hx hk hv hd in
theorem final_k : (dats m 0 c).arrAt 10 cfg0.N = outK X K V' D := by
  refine (dats m 0 c).arrAt_eq_of_covers 10 _ (by decide +kernel) fun t _ y => ?_
  blk_simp
  rw [after0_10]
  frame_out
  canon_tiles x h
  · exact piece_k1 m c X K V' D hx hk hv hd t _ _ _ x y h0 h1
  · exact piece_k0 m c X K V' D hx hk hv hd t _ _ _ x y h0 (h1.trans (by omega))

include hx hk hv hd in
theorem final_v : (dats m 0 c).arrAt 11 cfg0.N = outV X K D := by
  refine (dats m 0 c).arrAt_eq_of_covers 11 _ (by decide +kernel) fun t _ y => ?_
  blk_simp
  rw [after0_11]
  frame_out
  canon_tiles x h
  · exact piece_v1 m c X K V' D hx hk hv hd t _ _ x y h0 h1
  · exact piece_v0 m c X K V' D hx hk hv hd t _ _ x y h0 (h1.trans (by omega))
end arrays

end Cert.Band2DkvKernelIdeal.Hand

namespace Cert.Band2DkvReferenceIdeal.Hand
open Cert.Band2DkvReferenceIdeal Cert.Band2DkvReferenceIdeal.Read Cert.BandReal
open Cert.Band0DqReferenceIdeal.Hand (up whole_k whole_v)

theorem same_k {F : FTy → Type} [FloatOps F] [Named F] (x0 x1 x2 x3) : val_main_v133 (F := F) x0 x1 x2 x3 = Cert.Band0DqReferenceIdeal.Read.val_main_v133 (F := F) x0 x1 x2 x3 := rfl
theorem same_v {F : FTy → Type} [FloatOps F] [Named F] (x0 x1 x3) : val_main_v117 (F := F) x0 x1 x3 = Cert.Band0DqReferenceIdeal.Read.val_main_v117 (F := F) x0 x1 x3 := rfl

theorem ref_k (X K V' : Wide) (D : Quarter) : val_main_v136 (F := Ideal) (up X) (up K) (up V') (up D) = Cert.Band2DkvKernelIdeal.Hand.outK X K V' D := by
  funext y
  obtain ⟨a, b, rfl⟩ : ∃ a b, y = ix2 a b := ⟨y 0, y 1, eq_ix2 y⟩
  have e : ∀ (s : Fin 4096) (l : Fin 256), val_main_v135 (F := Ideal) (up X) (up K) (up V') (up D) (ix2 s l) = ((gK X K V' D s ⟨2 * 256 + l.val, by omega⟩ : ℝ) : EReal) := fun s l => by
    pointwise [val_main_v135]
    rw [same_k]
    exact whole_k X K V' D _ _
  pointwise [val_main_v136]
  exact e _ _

theorem ref_v (X K V' : Wide) (D : Quarter) : val_main_v138 (F := Ideal) (up X) (up K) (up D) = Cert.Band2DkvKernelIdeal.Hand.outV X K D := by
  funext y
  obtain ⟨a, b, rfl⟩ : ∃ a b, y = ix2 a b := ⟨y 0, y 1, eq_ix2 y⟩
  have e : ∀ (s : Fin 4096) (l : Fin 256), val_main_v137 (F := Ideal) (up X) (up K) (up D) (ix2 s l) = ((gV X K D s ⟨2 * 256 + l.val, by omega⟩ : ℝ) : EReal) := fun s l => by
    pointwise [val_main_v137]
    rw [same_v]
    exact whole_v X K D _ _
  pointwise [val_main_v138]
  exact e _ _

end Cert.Band2DkvReferenceIdeal.Hand

end
-- ==== Proof.MemRef.lean ====
/-

-/
module

public import proofs.«01_k».proof.Proof.Gen.MemKernelIdeal.Value
public import proofs.«01_k».proof.Proof.Gen.MemReferenceIdeal.Run
public import proofs.«01_k».proof.Proof.Gen.MemReferenceIdeal.Read
public import Idealize.ShloMosaic.Lib.Pipeline.ValueKit
public import Idealize.ShloMosaic.Lib.Pointwise
public import proofs.«01_k».proof.Proof.Reals
public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.MemReferenceIdeal.Hand

open Cert.MemReferenceIdeal Cert.MemReferenceIdeal.Read Cert.Reals Cert.AttnReal

def up {s : Shape} (x : s.Idx → ℝ) : FVec Ideal s .f32 := fun i => ((x i : ℝ) : EReal)

section math
variable (X D : S4096x256.Idx → ℝ) (KV : S256x512.Idx → ℝ)

/-- The scores, the gradient of the shares, the gradient of the scores. -/
def Sc (h : Fin 4) (s : Fin 4096) (m : Fin 256) : ℝ :=
  ∑ d : Fin 64, X (ix2 s ⟨h.val * 64 + d.val, by omega⟩) * (1 / 8) * KV (ix2 m ⟨h.val * 64 + d.val, by omega⟩)
def dP (h : Fin 4) (s : Fin 4096) (m : Fin 256) : ℝ :=
  ∑ d : Fin 64, D (ix2 s ⟨h.val * 64 + d.val, by omega⟩) * KV (ix2 m ⟨256 + (h.val * 64 + d.val), by omega⟩)
def dS (h : Fin 4) (s : Fin 4096) (m : Fin 256) : ℝ := ds (Sc X KV h s) (dP D KV h s) m

/-- What the attention gives: the shares times the values. -/
def att (s : Fin 4096) (l : Fin 256) : ℝ := ∑ m, KV (ix2 m ⟨256 + l.val, by omega⟩) * pr (Sc X KV ⟨l.val / 64, by omega⟩ s) m

/-- The gradients of the queries, of the keys and of the values. -/
def gQ (s : Fin 4096) (l : Fin 256) : ℝ := ∑ m, dS X D KV ⟨l.val / 64, by omega⟩ s m * KV (ix2 m ⟨l.val, by omega⟩)
def gK (k : Fin 256) (l : Fin 256) : ℝ := ∑ s, dS X D KV ⟨l.val / 64, by omega⟩ s k * (X (ix2 s l) * (1 / 8))
def gV (k : Fin 256) (l : Fin 256) : ℝ := ∑ s, pr (Sc X KV ⟨l.val / 64, by omega⟩ s) k * D (ix2 s l)

def outQ : FVec Ideal S4096x256 .f32 := fun j => ((gQ X D KV (j 0) (j 1) : ℝ) : EReal)
def outKV : FVec Ideal S256x512 .f32 := fun j =>
  if h : (j 1).val < 256 then ((gK X D KV (j 0) ⟨(j 1).val, h⟩ : ℝ) : EReal)
  else ((gV X D KV (j 0) ⟨(j 1).val - 256, by have := (j 1).isLt; change (j 1).val < 512 at this; omega⟩ : ℝ) : EReal)

theorem outKV_lo (j) (h : (j 1).val < 256) : outKV X D KV j = ((gK X D KV (j 0) ⟨(j 1).val, h⟩ : ℝ) : EReal) := dif_pos h
theorem outKV_hi (j) (h : ¬(j 1).val < 256) : outKV X D KV j
    = ((gV X D KV (j 0) ⟨(j 1).val - 256, by have := (j 1).isLt; change (j 1).val < 512 at this; omega⟩ : ℝ) : EReal) := dif_neg h

theorem r7 (h s m) : val_main_v7 (F := Ideal) (up X) (up KV) (ix3 h s m) = ((Sc X KV h s m : ℝ) : EReal) := by
  pointwise [val_main_v7, val_main_v2, val_main_v5, val_main_v1, val_main_v3, val_main_v0, val_main_cst, up]
  simp only [c_eighth, ← EReal.coe_mul, coe_sum]
  rfl

theorem r8 (h s) : val_main_v8 (F := Ideal) (up X) (up KV) (ix2 h s) = ((rowmax (Sc X KV h s) : ℝ) : EReal) := by
  pointwise [val_main_v8, val_main_cst_0]
  simp only [r7, c_bot, fold_max_coe]

theorem r14 (h s) : val_main_v14 (F := Ideal) (ix2 h s) = (⊥ : EReal) := by
  pointwise [val_main_v14, val_main_cst_2]
  exact c_bot

theorem r15 (h s) : val_main_v15 (F := Ideal) (up X) (up KV) (ix2 h s) = ((rowmax (Sc X KV h s) : ℝ) : EReal) := by
  rw [val_main_v15_apply, r14, r8]
  exact max_bot_left _

theorem r26 (h s m) : val_main_v26 (F := Ideal) (up X) (up KV) (ix3 h s m) = ((rowmax (Sc X KV h s) : ℝ) : EReal) := by
  pointwise [val_main_v26, val_main_v25]
  exact r15 ..

theorem r28 (h s m) : val_main_v28 (F := Ideal) (up X) (up KV) (ix3 h s m) = ((Real.exp (Sc X KV h s m - rowmax (Sc X KV h s)) : ℝ) : EReal) := by
  rw [val_main_v28_apply, val_main_v27_apply, r7, r26]
  rfl

theorem r30 (h s) (i : Fin 1) : val_main_v30 (F := Ideal) (up X) (up KV) (ix3 h s i) = ((∑ m, Real.exp (Sc X KV h s m - rowmax (Sc X KV h s)) : ℝ) : EReal) := by
  pointwise [val_main_v30, val_main_v29, val_main_cst_8]
  simp only [r28, coe_sum]

theorem r32 (h s m) : val_main_v32 (F := Ideal) (up X) (up KV) (ix3 h s m) = ((pr (Sc X KV h s) m : ℝ) : EReal) := by
  pointwise [val_main_v32, val_main_v31]
  simp only [r28, r30, div_sum_exp, pr_shift]

theorem r38 (s l) : val_main_v38 (F := Ideal) (up X) (up KV) (ix2 s l) = ((att X KV s l : ℝ) : EReal) := by
  pointwise [val_main_v38, val_main_v37, val_main_v36, val_main_v6, val_main_v4]
  simp only [r32, up, ← EReal.coe_mul, coe_sum]
  rfl

theorem r41 (h s m) : val_main_v41 (F := Ideal) (up KV) (up D) (ix3 h s m) = ((dP D KV h s m : ℝ) : EReal) := by
  pointwise [val_main_v41, val_main_v40, val_main_v39, val_main_v6, val_main_v4]
  simp only [up, ← EReal.coe_mul, coe_sum]
  rfl

theorem one_div_sq (z : ℝ) (h : z ≠ 0) : Ideal.div 1 ((z * z : ℝ) : EReal) = ((1 * (1 / (z * z)) : ℝ) : EReal) := by
  rw [Ideal.div_coe (mul_ne_zero h h), EReal.coe_mul, EReal.coe_one]

theorem r35 (h s) (i : Fin 1) : val_main_v35 (F := Ideal) (up X) (up KV) (ix3 h s i)
    = ((1 * (1 / ((∑ m, Real.exp (Sc X KV h s m - rowmax (Sc X KV h s))) * ∑ m, Real.exp (Sc X KV h s m - rowmax (Sc X KV h s)))) : ℝ) : EReal) := by
  have h34 : val_main_v34 (F := Ideal) (ix3 h s i) = (1 : EReal) := by pointwise [val_main_v34, val_main_cst_9]
  rw [val_main_v35_apply, val_main_v33_apply, r30, h34]
  exact one_div_sq _ (ne_of_gt (denom_pos _ _))

theorem r46 (h s m) : val_main_v46 (F := Ideal) (up X) (up KV) (up D) (ix3 h s m)
    = ((dP D KV h s m * (1 * (1 / ((∑ m, Real.exp (Sc X KV h s m - rowmax (Sc X KV h s))) * ∑ m, Real.exp (Sc X KV h s m - rowmax (Sc X KV h s)))))
      * Real.exp (Sc X KV h s m - rowmax (Sc X KV h s)) : ℝ) : EReal) := by
  have h44 : val_main_v44 (F := Ideal) (up X) (up KV) (ix3 h s m) = val_main_v35 (F := Ideal) (up X) (up KV) (ix3 h s 0) := by pointwise [val_main_v44]
  rw [val_main_v46_apply, val_main_v45_apply, r41, h44, r35, r28]
  show ((_ : ℝ) : EReal) * _ * _ = _
  rw [← EReal.coe_mul, ← EReal.coe_mul]

theorem r52 (h s) : val_main_v52 (F := Ideal) (up X) (up KV) (up D) (ix2 h s)
    = ((-∑ m, dP D KV h s m * (1 * (1 / ((∑ m, Real.exp (Sc X KV h s m - rowmax (Sc X KV h s))) * ∑ m, Real.exp (Sc X KV h s m - rowmax (Sc X KV h s)))))
      * Real.exp (Sc X KV h s m - rowmax (Sc X KV h s)) : ℝ) : EReal) := by
  pointwise [val_main_v52, val_main_v49, val_main_v48, val_main_v47, val_main_cst_10, val_main_cst_11]
  simp only [r46, coe_sum, ← EReal.coe_neg, Fin.sum_univ_one, one_mul]

theorem r51 (h s m) : val_main_v51 (F := Ideal) (up X) (up KV) (up D) (ix3 h s m)
    = ((dP D KV h s m * (1 / ∑ m, Real.exp (Sc X KV h s m - rowmax (Sc X KV h s))) : ℝ) : EReal) := by
  have h50 : val_main_v50 (F := Ideal) (up X) (up KV) (ix3 h s m) = val_main_v30 (F := Ideal) (up X) (up KV) (ix3 h s 0) := by pointwise [val_main_v50]
  rw [val_main_v51_apply, r41, h50, r30]
  exact div_sum_exp _ _ _

theorem r55 (h s m) : val_main_v55 (F := Ideal) (up X) (up KV) (up D) (ix3 h s m) = ((dS X D KV h s m : ℝ) : EReal) := by
  have h53 : val_main_v53 (F := Ideal) (up X) (up KV) (up D) (ix3 h s m) = val_main_v52 (F := Ideal) (up X) (up KV) (up D) (ix2 h s) := by
    pointwise [val_main_v53]
  rw [val_main_v55_apply, val_main_v54_apply, h53, r52, r51, r28]
  refine Eq.trans ?_ (congrArg (fun x : ℝ => (x : EReal)) (ds_plain (Sc X KV h s) (dP D KV h s) (rowmax (Sc X KV h s)) _ rfl m))
  show (((_ : ℝ) : EReal) + _) * _ = _
  rw [← EReal.coe_add, ← EReal.coe_mul]

theorem ref_q : val_main_v63 (F := Ideal) (up X) (up KV) (up D) = outQ X D KV := by
  funext j
  idx_vars j
  pointwise [val_main_v63, val_main_v59, val_main_v58, val_main_v5, val_main_v3]
  simp only [r55, up, ← EReal.coe_mul, coe_sum]
  rfl

theorem ref_kv : val_main_v62 (F := Ideal) (up X) (up KV) (up D) = outKV X D KV := by
  funext j
  idx_vars j
  pointwise [val_main_v62, val_main_v61, val_main_v60, val_main_v57, val_main_v56, val_main_v43, val_main_v42, val_main_v40, val_main_v39,
    val_main_v2, val_main_v1, val_main_v0, val_main_cst]
  simp only [r55, r32, c_eighth, up, ← EReal.coe_mul, coe_sum]
  refine dite_congr rfl (fun h => congrArg _ (Finset.sum_congr rfl fun s _ => ?_)) fun h => congrArg _ (Finset.sum_congr rfl fun s _ => ?_)
  · exact congrArg (fun i => dS X D KV _ s j0 * (X (ix2 s i) * (1 / 8))) (Fin.ext (by simp <;> omega))
  · rw [mul_comm]
    exact congrArg (fun i => pr _ j0 * D (ix2 s i)) (Fin.ext (by simp <;> omega))

/-! Two heads at a time: what a tile's sums are. -/

/-- A row's saved log of the denominator, repeated over its head's lanes. -/
def lse (s : Fin 4096) (l : Fin 256) : ℝ :=
  rowmax (Sc X KV ⟨l.val / 64, by omega⟩ s) + Real.log (∑ m, Real.exp (Sc X KV ⟨l.val / 64, by omega⟩ s m - rowmax (Sc X KV ⟨l.val / 64, by omega⟩ s)))

/-- Lane `l` of the pair `p` of heads. -/
def col (p : Fin 2) (l : Fin 128) : Fin 256 := ⟨128 * p.val + l.val, by omega⟩

theorem col_lane (p a : Fin 2) (d : Fin 64) : (col p (lane a d)).val = (2 * p.val + a.val) * 64 + d.val := by
  simp only [col, lane]; omega

variable {n : ℕ} (s : Fin n → Fin 4096) (p : Fin 2)

def tQ (r : Fin n) (l : Fin 128) : ℝ := X (ix2 (s r) (col p l)) * (1 / 8)
def tD (r : Fin n) (l : Fin 128) : ℝ := D (ix2 (s r) (col p l))
def tO (r : Fin n) (l : Fin 128) : ℝ := att X KV (s r) (col p l)
def tW (r : Fin n) (l : Fin 128) : ℝ := lse X KV (s r) (col p l)
def tK (k : Fin 256) (l : Fin 128) : ℝ := KV (ix2 k ⟨(col p l).val, by have := (col p l).isLt; omega⟩)
def tV (k : Fin 256) (l : Fin 128) : ℝ := KV (ix2 k ⟨256 + (col p l).val, by have := (col p l).isLt; omega⟩)

/-- Head `a` of the pair. -/
def head (a : Fin 2) : Fin 4 := ⟨2 * p.val + a.val, by omega⟩

theorem head_of (a : Fin 2) (d : Fin 64) (h : (col p (lane a d)).val / 64 < 4) : (⟨(col p (lane a d)).val / 64, h⟩ : Fin 4) = head p a :=
  Fin.ext (by show (col p (lane a d)).val / 64 = 2 * p.val + a.val; rw [col_lane]; omega)

theorem tp_eq (a : Fin 2) (r : Fin n) (k : Fin 256) : tp (tQ X s p) (tW X KV s p) (tK KV p) a r k = pr (Sc X KV (head p a) (s r)) k := by
  have e : (∑ d, tQ X s p r (lane a d) * tK KV p k (lane a d)) = Sc X KV (head p a) (s r) k :=
    Finset.sum_congr rfl fun d _ => by
      have h1 : col p (lane a d) = (⟨(head p a).val * 64 + d.val, by have := (head p a).isLt; omega⟩ : Fin 256) := Fin.ext (col_lane p a d)
      simp only [tQ, tK, h1]
  have w : tW X KV s p r (lane a 0) = rowmax (Sc X KV (head p a) (s r)) + Real.log (∑ m, Real.exp (Sc X KV (head p a) (s r) m - rowmax (Sc X KV (head p a) (s r)))) := by
    simp only [tW, lse, head_of]
  rw [tp, e, w]
  exact pr_saved _ _ _

theorem tds_eq (a : Fin 2) (r : Fin n) (k : Fin 256) :
    tds (tQ X s p) (tD D s p) (tO X KV s p) (tW X KV s p) (tK KV p) (tV KV p) a r k = dS X D KV (head p a) (s r) k := by
  have e : ∀ k, (∑ d, tD D s p r (lane a d) * tV KV p k (lane a d)) = dP D KV (head p a) (s r) k := fun k =>
    Finset.sum_congr rfl fun d _ => by
      have h1 : col p (lane a d) = (⟨(head p a).val * 64 + d.val, by have := (head p a).isLt; omega⟩ : Fin 256) := Fin.ext (col_lane p a d)
      simp only [tD, tV, h1]
  have o : (∑ d, tD D s p r (lane a d) * tO X KV s p r (lane a d)) = ∑ j, dP D KV (head p a) (s r) j * pr (Sc X KV (head p a) (s r)) j := by
    simp only [← e, tO, att, head_of, Finset.mul_sum, Finset.sum_mul]
    rw [Finset.sum_comm]
    exact Finset.sum_congr rfl fun j _ => Finset.sum_congr rfl fun d _ => by simp only [tV]; ring
  rw [tds, tp_eq, e, o]
  rfl

theorem head_col (l : Fin 128) (h : (col p l).val / 64 < 4) :
    (⟨(col p l).val / 64, h⟩ : Fin 4) = if l.val < 64 then head p 0 else head p 1 := by
  by_cases hl : l.val < 64
  · rw [if_pos hl]; exact Fin.ext (by simp [col, head]; omega)
  · rw [if_neg hl]; exact Fin.ext (by simp [col, head]; omega)

/-- A sum that takes its head from the lane. -/
theorem by_lane {ι : Type} [Fintype ι] (l : Fin 128) (f : Fin 4 → ι → ℝ) (h : (col p l).val / 64 < 4) :
    (if l.val < 64 then ∑ j, f (head p 0) j else ∑ j, f (head p 1) j) = ∑ j, f ⟨(col p l).val / 64, h⟩ j := by
  rw [head_col]; split <;> rfl

theorem pair_q (r : Fin n) (l : Fin 128) :
    (if l.val < 64 then ∑ j, tds (tQ X s p) (tD D s p) (tO X KV s p) (tW X KV s p) (tK KV p) (tV KV p) 0 r j * tK KV p j l
      else ∑ j, tds (tQ X s p) (tD D s p) (tO X KV s p) (tW X KV s p) (tK KV p) (tV KV p) 1 r j * tK KV p j l) = gQ X D KV (s r) (col p l) := by
  simp only [tds_eq]
  exact by_lane p l (fun h j => dS X D KV h (s r) j * tK KV p j l) _

theorem pair_k (k : Fin 256) (l : Fin 128) :
    (if l.val < 64 then ∑ r, tds (tQ X s p) (tD D s p) (tO X KV s p) (tW X KV s p) (tK KV p) (tV KV p) 0 r k * tQ X s p r l
      else ∑ r, tds (tQ X s p) (tD D s p) (tO X KV s p) (tW X KV s p) (tK KV p) (tV KV p) 1 r k * tQ X s p r l)
      = ∑ r, dS X D KV ⟨(col p l).val / 64, by omega⟩ (s r) k * (X (ix2 (s r) (col p l)) * (1 / 8)) := by
  simp only [tds_eq]
  exact by_lane p l (fun h r => dS X D KV h (s r) k * tQ X s p r l) _

theorem pair_v (k : Fin 256) (l : Fin 128) :
    (if l.val < 64 then ∑ r, tp (tQ X s p) (tW X KV s p) (tK KV p) 0 r k * tD D s p r l else ∑ r, tp (tQ X s p) (tW X KV s p) (tK KV p) 1 r k * tD D s p r l)
      = ∑ r, pr (Sc X KV ⟨(col p l).val / 64, by omega⟩ (s r)) k * D (ix2 (s r) (col p l)) := by
  simp only [tp_eq]
  exact by_lane p l (fun h r => pr (Sc X KV h (s r)) k * tD D s p r l) _

end math
end Cert.MemReferenceIdeal.Hand
-- ==== Proof.Mem.lean ====
/-
  The gradients of the attention to the memory: the kernel works on tiles of 512 rows and on pairs of heads, the plain lines on all at once.
-/
module

public import proofs.«01_k».proof.Proof.Gen.MemKernelIdeal.Value
public import proofs.«01_k».proof.Proof.Gen.MemReferenceIdeal.Run
public import proofs.«01_k».proof.Proof.Gen.MemReferenceIdeal.Read
public import Idealize.ShloMosaic.Lib.Pipeline.ValueKit
public import Idealize.ShloMosaic.Lib.Pointwise
public import proofs.«01_k».proof.Proof.Reals
public import proofs.«01_k».proof.Proof.AttnReal
public import proofs.«01_k».proof.Proof.MemRef

@[expose] public section

set_option maxRecDepth 16384

noncomputable section

open Idealize.ShloMosaic Idealize.ShloMosaic.TcCoe Idealize.SL.Sem
open Idealize.ShloMosaic.Pipeline (Dat)

namespace Cert.MemKernelIdeal.Hand

open Cert.MemKernelIdeal Cert.MemKernelIdeal.Gen Cert.Reals Cert.AttnReal

variable (m : (ℓ : Loc nD τ sig) → Buf (Elt Ideal) ℓ)

theorem mask10 (l : Fin 128) : k0_pay10 (ix2 0 l) = BitVec.ofBool (decide (l.val < 64)) := by revert l; decide +kernel
theorem mask18 (l : Fin 128) : k0_pay18 (ix2 0 l) = BitVec.ofBool (decide (l.val < 64)) := mask10 l
theorem mask28 (l : Fin 128) : k0_pay28 (ix2 0 l) = BitVec.ofBool (decide (64 ≤ l.val)) := by revert l; decide +kernel

section pair
variable (q k v : FVec Ideal S512x128 .bf16) (d o w : FVec Ideal S512x128 .f32) (k v : FVec Ideal S256x128 .bf16)

/-- One pair of heads' gradient of the queries. -/
def pdq : FVec Ideal S512x128 .f32 :=
  k0_pay35 (k0_pay6 k) (k0_pay7 v) (k0_pay13 (k0_pay9 d o) k0_pay10) (k0_pay14 d)
    (k0_pay25 (k0_pay6 k) (k0_pay7 v) (k0_pay12 (k0_pay9 d o) (FloatOps.ofBits FTy.f32 0#32) k0_pay11) (k0_pay14 d) k0_pay15 k0_pay18
      (k0_pay20 (k0_pay5 q) (k0_pay6 k) (k0_pay8 w)) k0_pay21 k0_pay22)
    k0_pay28 (k0_pay30 (k0_pay5 q) (k0_pay6 k)) (k0_pay31 (k0_pay8 w))

variable (Q D O W : Fin 512 → Fin 128 → ℝ) (K V : Fin 256 → Fin 128 → ℝ)
  (hq : ∀ r l, q (ix2 r l) = ((Q r l : ℝ) : EReal)) (hd : ∀ r l, d (ix2 r l) = ((D r l : ℝ) : EReal))
  (ho : ∀ r l, o (ix2 r l) = ((O r l : ℝ) : EReal)) (hw : ∀ r l, w (ix2 r l) = ((W r l : ℝ) : EReal))
  (hk : ∀ r l, k (ix2 r l) = ((K r l : ℝ) : EReal)) (hv : ∀ r l, v (ix2 r l) = ((V r l : ℝ) : EReal))
include hq hd ho hw hk hv

theorem pdq_eq (r l) : pdq q d o w k v (ix2 r l) = ((if l.val < 64 then ∑ j, tds Q D O W K V 0 r j * K j l else ∑ j, tds Q D O W K V 1 r j * K j l : ℝ) : EReal) := by
  pointwise [pdq, k0_pay35, k0_pay6, k0_pay7, k0_pay13, k0_pay9, k0_pay14, k0_pay25, k0_pay12, k0_pay11, k0_pay15, k0_pay20, k0_pay5, k0_pay8, k0_pay21, k0_pay22, k0_pay30, k0_pay31, k0_pay34, k0_pay33, k0_pay32, k0_pay29, k0_pay24, k0_pay23, k0_pay19]
  simp only [hq, hd, ho, hw, hk, hv, mask10, mask18, mask28, ← EReal.coe_mul, sel_lo, sel_hi, sel_not_lo, coe_sum, sum_lo', sum_hi', ← EReal.coe_sub, Ideal.exp_coe, ← EReal.coe_add]
  refine congrArg _ ?_
  by_cases h : l.val < 64
  · simp only [h, if_true, Finset.sum_const_zero, add_zero]; rfl
  · simp only [h, if_false, Finset.sum_const_zero, zero_add]; rfl

variable (acc : FVec Ideal S256x128 .f32)

/-- One pair of heads' share of the gradient of the keys, added to what is there. -/
def pdk : FVec Ideal S256x128 .f32 :=
  k0_pay36 (k0_pay7 v) (k0_pay13 (k0_pay9 d o) k0_pay10) (k0_pay14 d)
    (k0_pay26 (k0_pay7 v) (k0_pay12 (k0_pay9 d o) (FloatOps.ofBits FTy.f32 0#32) k0_pay11) (k0_pay14 d) k0_pay16 (k0_pay19 (k0_pay5 q))
      (k0_pay20 (k0_pay5 q) (k0_pay6 k) (k0_pay8 w)) k0_pay21 k0_pay22)
    k0_pay28 (k0_pay29 (k0_pay5 q)) (k0_pay30 (k0_pay5 q) (k0_pay6 k)) (k0_pay31 (k0_pay8 w)) acc

theorem pdk_eq (j l) : pdk q d o w k v acc (ix2 j l) = acc (ix2 j l)
    + ((if l.val < 64 then ∑ r, tds Q D O W K V 0 r j * Q r l else ∑ r, tds Q D O W K V 1 r j * Q r l : ℝ) : EReal) := by
  pointwise [pdk, k0_pay36, k0_pay6, k0_pay7, k0_pay13, k0_pay9, k0_pay14, k0_pay26, k0_pay12, k0_pay11, k0_pay16, k0_pay20, k0_pay5, k0_pay8, k0_pay21, k0_pay22, k0_pay30, k0_pay31, k0_pay34, k0_pay33, k0_pay32, k0_pay29, k0_pay24, k0_pay23, k0_pay19]
  simp only [hq, hd, ho, hw, hk, hv, mask10, mask18, mask28, ← EReal.coe_mul, sel_lo, sel_hi, sel_not_lo, coe_sum, sum_lo', sum_hi', ← EReal.coe_sub, Ideal.exp_coe, ← EReal.coe_add]
  refine congrArg _ (congrArg _ ?_)
  by_cases h : l.val < 64
  · simp only [h, if_true, Finset.sum_const_zero, add_zero]; rfl
  · simp only [h, if_false, Finset.sum_const_zero, zero_add]; rfl

/-- One pair of heads' share of the gradient of the values, added to what is there. -/
def pdv : FVec Ideal S256x128 .f32 :=
  k0_pay37 (k0_pay14 d) (k0_pay27 (k0_pay14 d) k0_pay17 (k0_pay20 (k0_pay5 q) (k0_pay6 k) (k0_pay8 w)) k0_pay21 k0_pay22)
    k0_pay28 (k0_pay30 (k0_pay5 q) (k0_pay6 k)) (k0_pay31 (k0_pay8 w)) acc

omit hq hd ho hw hk hv in
include hq hd hw hk in
theorem pdv_eq (j l) : pdv q d w k acc (ix2 j l) = acc (ix2 j l)
    + ((if l.val < 64 then ∑ r, tp Q W K 0 r j * D r l else ∑ r, tp Q W K 1 r j * D r l : ℝ) : EReal) := by
  pointwise [pdv, k0_pay37, k0_pay6, k0_pay14, k0_pay27, k0_pay17, k0_pay20, k0_pay5, k0_pay8, k0_pay21, k0_pay22, k0_pay30, k0_pay31, k0_pay33, k0_pay32, k0_pay29, k0_pay23, k0_pay19]
  simp only [hq, hd, hw, hk, mask18, mask28, ← EReal.coe_mul, sel_lo, sel_hi, sel_not_lo, coe_sum, sum_lo', sum_hi', ← EReal.coe_sub, Ideal.exp_coe, ← EReal.coe_add]
  refine congrArg _ (congrArg _ ?_)
  by_cases h : l.val < 64
  · simp only [h, if_true, Finset.sum_const_zero, add_zero]; rfl
  · simp only [h, if_false, Finset.sum_const_zero, zero_add]; rfl

end pair

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem lt_row (t : Fin cfg0.N) (r : Fin 512) : t.val * 512 + r.val < 4096 := by
  have h := lt_of_lt_of_eq t.isLt N_0; omega

/-! The saved log of the denominator, as the host lines before the call compute it. -/

section saved
variable {F : FTy → Type} [FloatOps F] (m : (ℓ : Loc nD τ sig) → Buf (Elt F) ℓ)
open Cert.MemReferenceIdeal.Read (val_main_v7 val_main_v8)

def kE (x0 : FVec F S4096x256 .f32) (x1 : FVec F S256x512 .f32) : FVec F S4x4096x256 .f32 :=
  Host.exp (subf (val_main_v7 x0 x1) (broadcastInDim S4x4096x256 ![0, 1, 2] bcast_S4x4096x1_S4x4096x256_0_1_2
    (broadcastInDim S4x4096x1 ![0, 1] bcast_S4x4096_S4x4096x1_0_1 (val_main_v8 x0 x1))))

def kL (x0 : FVec F S4096x256 .f32) (x1 : FVec F S256x512 .f32) : FVec F S4x4096 .f32 :=
  addf (val_main_v8 x0 x1) (Host.log (Host.reduceAdd (kE x0 x1) (constant S_ FTy.f32 0#32) reducesTo_S4x4096x256_S4x4096_d2 h_S_))

theorem V_lse (c : Dev nD) : V m c main_v32 = shapeCast S4096x256 (broadcastInDim S4096x4x64 ![0, 1] bcast_S4096x4_S4096x4x64_0_1
      (transpose S4096x4 [1, 0]
        (kL (m (c, Proc.tc.devRef main_arg0)) (m (c, Proc.tc.devRef main_arg1))) transposes_S4x4096_S4096x4_1_0)) shapeCasts_S4096x4x64_S4096x256 := by
  entry_read
  rfl

theorem iblk_l (c : Dev nD) (t : Fin cfg0.N) (y : S512x256.Idx) : iblk m c 4 t y = V m c main_v32 (((cfg0.win 4).blk t).view.emb y) := rfl

theorem kE_apply (x0 x1) (i : S4x4096x256.Idx) : kE (F := F) x0 x1 i = FloatOps.hostUnary .exp (FloatOps.subf (val_main_v7 x0 x1 i)
    (broadcastInDim S4x4096x256 ![0, 1, 2] bcast_S4x4096x1_S4x4096x256_0_1_2 (broadcastInDim S4x4096x1 ![0, 1] bcast_S4x4096_S4x4096x1_0_1 (val_main_v8 x0 x1)) i)) := rfl
theorem kL_apply (x0 x1) (i : S4x4096.Idx) : kL (F := F) x0 x1 i = FloatOps.addf (val_main_v8 x0 x1 i)
    (FloatOps.hostUnary .log (Host.reduceAdd (kE x0 x1) (constant S_ FTy.f32 0#32) reducesTo_S4x4096x256_S4x4096_d2 h_S_ i)) := rfl
end saved

section saved_real
open Cert.MemReferenceIdeal.Hand (up Sc r7 r8)
open Cert.MemReferenceIdeal.Read (val_main_v7 val_main_v8)
variable (X : S4096x256.Idx → ℝ) (KV : S256x512.Idx → ℝ)

theorem spread (L : FVec Ideal S4x4096 .f32) (h s k) : broadcastInDim S4x4096x256 ![0, 1, 2] bcast_S4x4096x1_S4x4096x256_0_1_2
    (broadcastInDim S4x4096x1 ![0, 1] bcast_S4x4096_S4x4096x1_0_1 L) (ix3 h s k) = L (ix2 h s) := by pointwise
theorem row_sum (L : FVec Ideal S4x4096x256 .f32) (h s) : Host.reduceAdd L (constant S_ FTy.f32 0#32) reducesTo_S4x4096x256_S4x4096_d2 h_S_ (ix2 h s)
    = ∑ k, L (ix3 h s k) := by pointwise

theorem kE_eq (h s k) : kE (F := Ideal) (up X) (up KV) (ix3 h s k) = ((Real.exp (Sc X KV h s k - rowmax (Sc X KV h s)) : ℝ) : EReal) := by
  rw [kE_apply, spread, r7, r8]
  rfl

theorem kL_eq (h s) : kL (F := Ideal) (up X) (up KV) (ix2 h s)
    = ((rowmax (Sc X KV h s) + Real.log (∑ k, Real.exp (Sc X KV h s k - rowmax (Sc X KV h s))) : ℝ) : EReal) := by
  rw [kL_apply, row_sum, r8]
  simp only [kE_eq, coe_sum]
  exact (congrArg (fun z => ((rowmax (Sc X KV h s) : ℝ) : EReal) + z) (log_sum_exp _ _)).trans (EReal.coe_add _ _).symm
end saved_real

section arrays
open Cert.MemReferenceIdeal.Hand (up Sc dP dS outKV_lo outKV_hi att gQ gK gV outQ outKV lse col tQ tD tO tW tK tV pair_q pair_k pair_v)

variable (c : Dev nD) (X D : S4096x256.Idx → ℝ) (KV : S256x512.Idx → ℝ)
  (hx : m ((c : Thread nD τ).loc main_arg0) = up X) (hkv : m ((c : Thread nD τ).loc main_arg1) = up KV)
  (hd : m ((c : Thread nD τ).loc main_arg2) = up D)

/-- Row `r` of tile `t`. -/
def row (t : Fin cfg0.N) (r : Fin 512) : Fin 4096 := ⟨t.val * 512 + r.val, lt_row t r⟩

include hx in
theorem tile_q (t : Fin cfg0.N) (r : Fin 512) (l : Fin 256) : iblk m c 0 t (ix2 r l) = ((X (ix2 (row t r) l) * (1 / 8) : ℝ) : EReal) := by
  have e : ((cfg0.win 0).blk t).view.emb (ix2 r l) = (ix2 (row t r) l : S4096x256.Idx) := by blk_ext [idx t, row]
  show V m c main_v33 (((cfg0.win 0).blk t).view.emb (ix2 r l)) = _
  entry_read
  rw [e]
  pointwise
  have h0 : m (c, Proc.tc.devRef main_arg0) = up X := hx
  simp only [h0, up, c_eighth, ← EReal.coe_mul]

include hkv in
theorem tile_kv (t : Fin cfg0.N) (k : Fin 256) (l : Fin 512) : iblk m c 1 t (ix2 k l) = ((KV (ix2 k l) : ℝ) : EReal) := by
  have e : ((cfg0.win 1).blk t).view.emb (ix2 k l) = (ix2 k l : S256x512.Idx) := by blk_ext [idx t]
  show V m c main_v34 (((cfg0.win 1).blk t).view.emb (ix2 k l)) = _
  entry_read
  rw [e]
  exact congrFun hkv _

include hd in
theorem tile_d (t : Fin cfg0.N) (r : Fin 512) (l : Fin 256) : iblk m c 2 t (ix2 r l) = ((D (ix2 (row t r) l) : ℝ) : EReal) := by
  refine Eq.trans ?_ (congrFun hd (ix2 (row t r) l))
  blk_point [iblk, V, idx t, row]

include hx hkv in
theorem tile_o (t : Fin cfg0.N) (r : Fin 512) (l : Fin 256) : iblk m c 3 t (ix2 r l) = ((att X KV (row t r) l : ℝ) : EReal) := by
  have e : ((cfg0.win 3).blk t).view.emb (ix2 r l) = (ix2 (row t r) l : S4096x256.Idx) := by blk_ext [idx t, row]
  show V m c main_v29 (((cfg0.win 3).blk t).view.emb (ix2 r l)) = _
  entry_read
  rw [e]
  have h0 : m (c, Proc.tc.devRef main_arg0) = up X := hx
  have h1 : m (c, Proc.tc.devRef main_arg1) = up KV := hkv
  rw [h0, h1]
  exact Cert.MemReferenceIdeal.Hand.r38 X KV (row t r) l

omit hx hkv hd in
theorem lse_reads (s : Fin 4096) (l : Fin 256) (L : FVec Ideal S4x4096 .f32) :
    shapeCast S4096x256 (broadcastInDim S4096x4x64 ![0, 1] bcast_S4096x4_S4096x4x64_0_1
      (transpose S4096x4 [1, 0] L transposes_S4x4096_S4096x4_1_0)) shapeCasts_S4096x4x64_S4096x256 (ix2 s l)
      = L (ix2 ⟨l.val / 64, by omega⟩ s) := by
  pointwise

include hx hkv in
theorem tile_l (t : Fin cfg0.N) (r : Fin 512) (l : Fin 256) : iblk m c 4 t (ix2 r l) = ((lse X KV (row t r) l : ℝ) : EReal) := by
  have e : ((cfg0.win 4).blk t).view.emb (ix2 r l) = (ix2 (row t r) l : S4096x256.Idx) := by blk_ext [idx t, row]
  rw [iblk_l, e, V_lse]
  have h0 : m (c, Proc.tc.devRef main_arg0) = up X := hx
  have h1 : m (c, Proc.tc.devRef main_arg1) = up KV := hkv
  rw [h0, h1]
  exact (lse_reads _ _ _).trans (kL_eq X KV _ _)

/-- A load of the lanes from `o` on. -/
theorem ld_cols {R C n k o : ℕ} {e : EltTy} (x : (⟨2, ![R, C]⟩ : Shape).Idx → Elt Ideal e) (inb) (i : Fin n) (l : Fin k) (hi : i.val < R) (h : o + l.val < C) :
    View.ld x (Rect.unit (s := ⟨2, ![R, C]⟩) ![0, o] ![n, k] inb) (ix2 i l) = x (ix2 ⟨i.val, hi⟩ ⟨o + l.val, h⟩) :=
  View.ld_unit_apply_of x _ _ _ _ _ fun a => match a with
    | ⟨0, _⟩ => (Nat.zero_add _).symm
    | ⟨1, _⟩ => rfl

abbrev L0 (t : Fin cfg0.N) (o : ℕ) (inb : ∀ a, (![0, o] : Fin 2 → ℕ) a + S512x128.size a ≤ S512x256.size a) : FVec Ideal S512x128 .bf16 :=
  View.ld (iblk m c 0 t) (Rect.unit (s := S512x256) ![0, o] S512x128.size inb)
abbrev L1 (t : Fin cfg0.N) (o : ℕ) (inb : ∀ a, (![0, o] : Fin 2 → ℕ) a + S256x128.size a ≤ S256x512.size a) : FVec Ideal S256x128 .bf16 :=
  View.ld (iblk m c 1 t) (Rect.unit (s := S256x512) ![0, o] S256x128.size inb)
abbrev L2 (t : Fin cfg0.N) (o : ℕ) (inb : ∀ a, (![0, o] : Fin 2 → ℕ) a + S512x128.size a ≤ S512x256.size a) : FVec Ideal S512x128 .f32 :=
  View.ld (iblk m c 2 t) (Rect.unit (s := S512x256) ![0, o] S512x128.size inb)
abbrev L3 (t : Fin cfg0.N) (o : ℕ) (inb : ∀ a, (![0, o] : Fin 2 → ℕ) a + S512x128.size a ≤ S512x256.size a) : FVec Ideal S512x128 .f32 :=
  View.ld (iblk m c 3 t) (Rect.unit (s := S512x256) ![0, o] S512x128.size inb)
abbrev L4 (t : Fin cfg0.N) (o : ℕ) (inb : ∀ a, (![0, o] : Fin 2 → ℕ) a + S512x128.size a ≤ S512x256.size a) : FVec Ideal S512x128 .f32 :=
  View.ld (iblk m c 4 t) (Rect.unit (s := S512x256) ![0, o] S512x128.size inb)

section step
variable (t : Fin cfg0.N)
/-- What one tile of rows adds to the gradients of the keys and of the values. -/
def stepKV (y : S256x512.Idx) : ℝ :=
  if h : (y 1).val < 256 then ∑ r, dS X D KV ⟨(y 1).val / 64, by omega⟩ (row t r) (y 0) * (X (ix2 (row t r) ⟨(y 1).val, h⟩) * (1 / 8))
  else ∑ r, pr (Sc X KV ⟨((y 1).val - 256) / 64, by have := (y 1).isLt; change (y 1).val < 512 at this; omega⟩ (row t r)) (y 0)
    * D (ix2 (row t r) ⟨(y 1).val - 256, by have := (y 1).isLt; change (y 1).val < 512 at this; omega⟩)
end step

section loads
variable (t : Fin cfg0.N) (p : Fin 2) {o : ℕ} (ho : o = 128 * p.val)

include hx ho in
theorem ld_q (inb) (r : Fin 512) (l : Fin 128) : L0 m c t o inb (ix2 r l) = ((tQ X (row t) p r l : ℝ) : EReal) := by
  subst ho; exact (ld_cols _ inb r l r.isLt (by omega)).trans (tile_q m c X hx t r (col p l))
include hkv ho in
theorem ld_k (inb) (k : Fin 256) (l : Fin 128) : L1 m c t o inb (ix2 k l) = ((tK KV p k l : ℝ) : EReal) := by
  subst ho; exact (ld_cols _ inb k l k.isLt (by omega)).trans (tile_kv m c KV hkv t k _)
include hkv ho in
theorem ld_v {o' : ℕ} (ho' : o' = 256 + o) (inb) (k : Fin 256) (l : Fin 128) : L1 m c t o' inb (ix2 k l) = ((tV KV p k l : ℝ) : EReal) := by
  subst ho; subst ho'
  refine (ld_cols _ inb k l k.isLt (by omega)).trans ((tile_kv m c KV hkv t k _).trans ?_)
  exact congrArg (fun i => ((KV (ix2 k i) : ℝ) : EReal)) (Fin.ext (Nat.add_assoc 256 (128 * p.val) l.val))
include hd ho in
theorem ld_d (inb) (r : Fin 512) (l : Fin 128) : L2 m c t o inb (ix2 r l) = ((tD D (row t) p r l : ℝ) : EReal) := by
  subst ho; exact (ld_cols _ inb r l r.isLt (by omega)).trans (tile_d m c D hd t r (col p l))
include hx hkv ho in
theorem ld_o (inb) (r : Fin 512) (l : Fin 128) : L3 m c t o inb (ix2 r l) = ((tO X KV (row t) p r l : ℝ) : EReal) := by
  subst ho; exact (ld_cols _ inb r l r.isLt (by omega)).trans (tile_o m c X KV hx hkv t r (col p l))
include hx hkv ho in
theorem ld_l (inb) (r : Fin 512) (l : Fin 128) : L4 m c t o inb (ix2 r l) = ((tW X KV (row t) p r l : ℝ) : EReal) := by
  subst ho; exact (ld_cols _ inb r l r.isLt (by omega)).trans (tile_l m c X KV hx hkv t r (col p l))

include hx hkv hd ho in
/-- One pair's piece of the gradient of the queries. -/
theorem piece_q (o' : ℕ) (ho' : o' = 256 + o) (i0 i1 i2 i3 i4 i5) (x : S512x128.Idx) (y : S512x256.Idx) (h0 : (y 0).val = (x 0).val) (h1 : (y 1).val = o + (x 1).val) :
    pdq (L0 m c t o i0) (L2 m c t o i1) (L3 m c t o i2) (L4 m c t o i3) (L1 m c t o i4) (L1 m c t o' i5) x = outQ X D KV (ix2 (row t (y 0)) (y 1)) := by
  obtain ⟨x0, x1, rfl⟩ : ∃ a b, x = ix2 a b := ⟨x 0, x 1, eq_ix2 x⟩
  change _ = x0.val at h0
  change _ = _ + x1.val at h1
  refine (pdq_eq _ _ _ _ _ _ _ _ _ _ _ _ (ld_q m c X hx t p ho _) (ld_d m c D hd t p ho _) (ld_o m c X KV hx hkv t p ho _)
    (ld_l m c X KV hx hkv t p ho _) (ld_k m c KV hkv t p ho _) (ld_v m c KV hkv t p ho ho' _) _ _).trans ?_
  rw [pair_q]
  have e0 : x0 = y 0 := Fin.ext h0.symm
  have e1 : col p x1 = y 1 := Fin.ext (by rw [h1, ho]; rfl)
  show ((gQ X D KV (row t x0) (col p x1) : ℝ) : EReal) = ((gQ X D KV (row t (y 0)) (y 1) : ℝ) : EReal)
  rw [e0, e1]

include hx hkv hd ho in
theorem piece_k (o' : ℕ) (ho' : o' = 256 + o) (i0 i1 i2 i3 i4 i5) (acc : FVec Ideal S256x128 .f32) (x : S256x128.Idx) (y : S256x512.Idx)
    (h0 : (y 0).val = (x 0).val) (h1 : (y 1).val = o + (x 1).val) :
    pdk (L0 m c t o i0) (L2 m c t o i1) (L3 m c t o i2) (L4 m c t o i3) (L1 m c t o i4) (L1 m c t o' i5) acc x = acc x + ((stepKV X D KV t y : ℝ) : EReal) := by
  obtain ⟨x0, x1, rfl⟩ : ∃ a b, x = ix2 a b := ⟨x 0, x 1, eq_ix2 x⟩
  change _ = x0.val at h0
  change _ = _ + x1.val at h1
  refine (pdk_eq _ _ _ _ _ _ _ _ _ _ _ _ (ld_q m c X hx t p ho _) (ld_d m c D hd t p ho _) (ld_o m c X KV hx hkv t p ho _)
    (ld_l m c X KV hx hkv t p ho _) (ld_k m c KV hkv t p ho _) (ld_v m c KV hkv t p ho ho' _) _ _ _).trans ?_
  rw [pair_k]
  have e0 : x0 = y 0 := Fin.ext h0.symm
  have e1 : (y 1).val = (col p x1).val := by rw [h1, ho]; rfl
  have hl := (col p x1).isLt
  refine congrArg _ (congrArg _ ?_)
  rw [stepKV, dif_pos (by omega)]
  simp only [e0, e1]

include hx hkv hd ho in
theorem piece_v (o' : ℕ) (ho' : o' = 256 + o) (i0 i1 i3 i4) (acc : FVec Ideal S256x128 .f32) (x : S256x128.Idx) (y : S256x512.Idx)
    (h0 : (y 0).val = (x 0).val) (h1 : (y 1).val = o' + (x 1).val) :
    pdv (L0 m c t o i0) (L2 m c t o i1) (L4 m c t o i3) (L1 m c t o i4) acc x = acc x + ((stepKV X D KV t y : ℝ) : EReal) := by
  obtain ⟨x0, x1, rfl⟩ : ∃ a b, x = ix2 a b := ⟨x 0, x 1, eq_ix2 x⟩
  change _ = x0.val at h0
  change _ = _ + x1.val at h1
  refine (pdv_eq _ _ _ _ _ _ _ _ (ld_q m c X hx t p ho _) (ld_d m c D hd t p ho _)
    (ld_l m c X KV hx hkv t p ho _) (ld_k m c KV hkv t p ho _) _ _ _).trans ?_
  rw [pair_v]
  have e0 : x0 = y 0 := Fin.ext h0.symm
  have e1 : (y 1).val - 256 = (col p x1).val := by rw [h1, ho', ho]; show _ = 128 * p.val + x1.val; omega
  refine congrArg _ (congrArg _ ?_)
  rw [stepKV, dif_neg (by omega)]
  simp only [e0, e1]

end loads

theorem emb_q (t : Fin cfg0.N) (y : S512x256.Idx) : ((cfg0.win 5).blk t).view.emb y = (ix2 (row t (y 0)) (y 1) : S4096x256.Idx) := by
  rw [eq_ix2 y]; blk_ext [idx t, row]

include hx hkv hd in
theorem final_q : (dats m 0 c).arrAt 5 cfg0.N = outQ X D KV := by
  refine (dats m 0 c).arrAt_eq_of_covers 5 _ (by decide +kernel) fun t _ y => ?_
  blk_simp
  rw [after0_5]
  by_cases h : t.val % 8 = 0
  · rw [outsAt0_A m c t h]; frame_out
    canon_tiles x h
    · exact (piece_q m c X D KV hx hkv hd t 1 rfl 384 rfl _ _ _ _ _ _ x y h0 h1).trans (congrArg (outQ X D KV) (emb_q t y).symm)
    · exact (piece_q m c X D KV hx hkv hd t 0 rfl 256 rfl _ _ _ _ _ _ x y h0 (h1.trans (Nat.zero_add _).symm)).trans (congrArg (outQ X D KV) (emb_q t y).symm)
  · rw [outsAt0_B m c t h]; frame_out
    canon_tiles x h
    · exact (piece_q m c X D KV hx hkv hd t 1 rfl 384 rfl _ _ _ _ _ _ x y h0 h1).trans (congrArg (outQ X D KV) (emb_q t y).symm)
    · exact (piece_q m c X D KV hx hkv hd t 0 rfl 256 rfl _ _ _ _ _ _ x y h0 (h1.trans (Nat.zero_add _).symm)).trans (congrArg (outQ X D KV) (emb_q t y).symm)

theorem read_zero {S : Shape} {e : EltTy} {κ : Kind} {sp : Space} (v : View sig κ sp S e) (L : List (View.Piece (Elt Ideal) S e)) (B : Rect S) (x : B.shape.Idx)
    (z : Elt Ideal e) (h : View.canon L (B.idx x) = z) : v.readCov L B.toLoadRect x = z := by
  rw [View.readCov_eq_canon']; exact h

theorem canon_zero (inb) (y : S256x512.Idx) :
    View.canon [(⟨Rect.unit (s := S256x512) ![0, 0] S256x512.size inb, k0_pay4 (F := Ideal)⟩ : View.Piece (Elt Ideal) S256x512 .f32)] y = (0 : EReal) := by
  rw [View.canon_cons_unit_lit _ _ _ (by decide)]
  pointwise [k0_pay4]

include hx hkv hd in
theorem first_kv (t : Fin cfg0.N) (h : t.val % 8 = 0) (j : S256x512.Idx) :
    (outsAt0 m c t.val t.isLt).2 j = (0 : EReal) + ((stepKV X D KV t j : ℝ) : EReal) := by
  rw [outsAt0_A m c t h]; frame_out
  refine canon_head [_] j _ [_, _, _, _] (View.cover_of_tiled _ ![256, 128] rfl j)
    (View.allAt_cons_unit _ _ _ _ _ ?_ (View.allAt_cons_unit _ _ _ _ _ ?_ (View.allAt_cons_unit _ _ _ _ _ ?_ (View.allAt_cons_unit _ _ _ _ _ ?_ (View.allAt_nil _ _)))))
  all_goals
    intro x hi
    have h0 : (j 0).val = (x 0).val := (hi 0).trans (Nat.zero_add _)
    have h1 := hi 1
    have hl : (x 1).val < 128 := (x 1).isLt
    clear hi
  · refine (piece_v m c X D KV hx hkv hd t 1 rfl 384 rfl _ _ _ _ _ x j h0 h1).trans (congrArg (· + _) (read_zero _ _ _ _ _ ?_))
    refine canon_skip _ _ _ _ _ _ _ 1 (Or.inr ?_) (canon_skip _ _ _ _ _ _ _ 1 (Or.inr ?_) (canon_skip _ _ _ _ _ _ _ 1 (Or.inr ?_) (canon_zero _ _)))
    · show 128 + 128 ≤ 384 + 1 * (x 1).val; omega
    · show 256 + 128 ≤ 384 + 1 * (x 1).val; omega
    · show 0 + 128 ≤ 384 + 1 * (x 1).val; omega
  · refine (piece_k m c X D KV hx hkv hd t 1 rfl 384 rfl _ _ _ _ _ _ _ x j h0 h1).trans (congrArg (· + _) (read_zero _ _ _ _ _ ?_))
    refine canon_skip _ _ _ _ _ _ _ 1 (Or.inl ?_) (canon_skip _ _ _ _ _ _ _ 1 (Or.inr ?_) (canon_zero _ _))
    · show 128 + 1 * (x 1).val < 256; omega
    · show 0 + 128 ≤ 128 + 1 * (x 1).val; omega
  · refine (piece_v m c X D KV hx hkv hd t 0 rfl 256 rfl _ _ _ _ _ x j h0 h1).trans (congrArg (· + _) (read_zero _ _ _ _ _ ?_))
    refine canon_skip _ _ _ _ _ _ _ 1 (Or.inr ?_) (canon_zero _ _)
    show 0 + 128 ≤ 256 + 1 * (x 1).val; omega
  · exact (piece_k m c X D KV hx hkv hd t 0 rfl 256 rfl _ _ _ _ _ _ _ x j h0 h1).trans (congrArg (· + _) (read_zero _ _ _ _ _ (canon_zero _ _)))

/-- A load of the lanes from `o` on of what the point before left. -/
theorem ld_at {o : ℕ} (v : FVec Ideal S256x512 .f32) (inb) (x : S256x128.Idx) (j : S256x512.Idx) (h0 : (j 0).val = (x 0).val) (h1 : (j 1).val = o + (x 1).val) :
    View.ld (Val := Elt Ideal) (e' := EltTy.f32) v (Rect.unit (s := S256x512) ![0, o] S256x128.size inb) x = v j :=
  View.ld_unit_apply_of (S := S256x512) (Val := Elt Ideal) (e := EltTy.f32) v _ _ _ _ _ fun a => match a with
    | ⟨0, _⟩ => h0.trans (Nat.zero_add _).symm
    | ⟨1, _⟩ => h1

include hx hkv hd in
theorem next_kv (t : Fin cfg0.N) (h : ¬t.val % 8 = 0) (j : S256x512.Idx) :
    (outsAt0 m c t.val t.isLt).2 j = (outsAt0 m c (t.val - 1) (Nat.lt_of_le_of_lt (Nat.sub_le _ _) t.isLt)).2 j + ((stepKV X D KV t j : ℝ) : EReal) := by
  rw [outsAt0_B m c t h]; frame_out
  canon_tiles x h
  · exact (piece_v m c X D KV hx hkv hd t 1 rfl 384 rfl _ _ _ _ _ x j h0 h1).trans (congrArg (· + _) (ld_at _ _ x j h0 h1))
  · exact (piece_k m c X D KV hx hkv hd t 1 rfl 384 rfl _ _ _ _ _ _ _ x j h0 h1).trans (congrArg (· + _) (ld_at _ _ x j h0 h1))
  · exact (piece_v m c X D KV hx hkv hd t 0 rfl 256 rfl _ _ _ _ _ x j h0 h1).trans (congrArg (· + _) (ld_at _ _ x j h0 h1))
  · have h1' : (j 1).val = 0 + (x 1).val := h1.trans (Nat.zero_add _).symm
    exact (piece_k m c X D KV hx hkv hd t 0 rfl 256 rfl _ _ _ _ _ _ _ x j h0 h1').trans (congrArg (· + _) (ld_at _ _ x j h0 h1'))

include hx hkv hd in
theorem final_kv : (dats m 0 c).arrAt 6 cfg0.N = outKV X D KV := by
  refine (dats m 0 c).arrAt_eq_of_after_last 6 t0_7 (by decide +kernel) _ fun j => ?_
  blk_simp
  rw [after0_6]
  refine (Pipeline.eq_sum_fin_of_reset_step_apply_last (fun n h => ((outsAt0 m c n h).2 : S256x512.Idx → EReal)) 8 (fun _ => 0) _
    (fun t h j => first_kv m c X D KV hx hkv hd t h j) (fun t h j => next_kv m c X D KV hx hkv hd t h j)
    (le_of_eq N_0) t0_7 rfl j).trans ((zero_add _).trans ?_)
  rw [coe_sum]
  by_cases h : (j 1).val < 256
  · rw [outKV_lo _ _ _ _ h]
    refine congrArg _ ?_
    refine (Finset.sum_congr rfl fun t _ => dif_pos h).trans ?_
    exact Fin.sum_mul_add_congr fun s k hl => rfl
  · rw [outKV_hi _ _ _ _ h]
    refine congrArg _ ?_
    refine (Finset.sum_congr rfl fun t _ => dif_neg h).trans ?_
    exact Fin.sum_mul_add_congr fun s k hl => rfl

end arrays
end Cert.MemKernelIdeal.Hand

end
-- ==== Proof.NormReal.lean ====
/-
  The gradient of a row's normalization, over the real numbers: the two ways to write it agree.
-/
module

public import proofs.«01_k».proof.Proof.Reals

@[expose] public section

noncomputable section

namespace Cert.NormReal

open Idealize.ShloMosaic Cert.Reals

/-- What keeps the variance away from zero: the number the programs print. -/
def eps : ℝ := 10995116 / 1099511627776

theorem c_eps : Ideal.ofBits .f32 0x3727C5AC#32 = ((eps : ℝ) : EReal) := by
  simp [Ideal.ofBits, Ideal.ieee, -EReal.coe_mul, eps]; norm_num

theorem eps_pos : 0 < eps := by unfold eps; norm_num

variable {n : Nat}

def mean (x : Fin n → ℝ) : ℝ := (∑ k, x k) / 1024
def cen (x : Fin n → ℝ) (l : Fin n) : ℝ := x l - mean x
def vare (x : Fin n → ℝ) : ℝ := mean (fun l => cen x l * cen x l) + eps
def rstd (x : Fin n → ℝ) : ℝ := (Real.sqrt (vare x))⁻¹
def hat (x : Fin n → ℝ) (l : Fin n) : ℝ := cen x l * rstd x

theorem vare_pos (x : Fin n → ℝ) : 0 < vare x :=
  add_pos_of_nonneg_of_pos (div_nonneg (Finset.sum_nonneg fun l _ => mul_self_nonneg _) (by norm_num)) eps_pos

/-- The gradient of the row at lane `l`; `e` is the cotangent times the scale. -/
def dr (e x : Fin n → ℝ) (l : Fin n) : ℝ := rstd x * (e l - mean e - hat x l * mean (fun k => e k * hat x k))

theorem coe_rstd (x : Fin n → ℝ) : Ideal.rsqrt ((vare x : ℝ) : EReal) = ((rstd x : ℝ) : EReal) := coe_rsqrt _ (vare_pos x)

/-- The gradient as the chain rule writes it, through the mean and the variance. -/
theorem chain (e x : Fin 1024 → ℝ) (l : Fin 1024) :
    e l * rstd x + (∑ k, cen x k * e k) * (-1 / 2 * (rstd x / vare x)) / 1024 * (2 * cen x l)
      + ((∑ k, -(e k * rstd x)) + ∑ k, -((∑ k, cen x k * e k) * (-1 / 2 * (rstd x / vare x)) / 1024 * (2 * cen x k))) / 1024 = dr e x l := by
  have h0 : ∑ k, cen x k = 0 := by
    unfold cen mean; rw [Finset.sum_sub_distrib]; simp; ring
  have hv : 1 / vare x = rstd x * rstd x := by
    unfold rstd; rw [← mul_inv, Real.mul_self_sqrt (vare_pos x).le, one_div]
  have h1 : ∑ k, -(e k * rstd x) = -((∑ k, e k) * rstd x) := by rw [Finset.sum_neg_distrib, Finset.sum_mul]
  have h2 : ∀ a : ℝ, ∑ k, -(a * (2 * cen x k)) = 0 := by
    intro a
    rw [Finset.sum_neg_distrib, ← Finset.mul_sum, ← Finset.mul_sum, h0]; ring
  have h3 : ∑ k, e k * hat x k = (∑ k, cen x k * e k) * rstd x := by
    rw [Finset.sum_mul]; exact Finset.sum_congr rfl fun k _ => by unfold hat; ring
  rw [h1, h2]
  unfold dr mean
  rw [h3]
  unfold hat
  rw [div_eq_mul_one_div (rstd x) (vare x), hv]
  ring

end Cert.NormReal
-- ==== Proof.FfnRef.lean ====
/-
  The gradient of a SwiGLU block and of the norm behind it as the plain lines write it, in real numbers.
-/
module

public import proofs.«01_k».proof.Proof.Gen.FfnReferenceIdeal.Run
public import proofs.«01_k».proof.Proof.Gen.FfnReferenceIdeal.Read
public import Idealize.ShloMosaic.Lib.Pipeline.ValueKit
public import Idealize.ShloMosaic.Lib.Pointwise
public import proofs.«01_k».proof.Proof.Reals
public import proofs.«01_k».proof.Proof.NormReal

@[expose] public section

set_option maxRecDepth 16384

noncomputable section

open Idealize.ShloMosaic Idealize.ShloMosaic.TcCoe Idealize.SL.Sem
open Idealize.ShloMosaic.Pipeline (Dat)

namespace Cert.FfnReferenceIdeal.Hand

open Cert.FfnReferenceIdeal Cert.FfnReferenceIdeal.Gen Cert.FfnReferenceIdeal.Read Cert.Reals Cert.NormReal

/-- An array of real numbers, as the programs hold it. -/
abbrev up {s : Shape} (f : s.Idx → ℝ) : FVec Ideal s .f32 := fun i => ((f i : ℝ) : EReal)

/-- The weight of the residual: the number the programs print. -/
def alpha : ℝ := 11863283 / 8388608

theorem c_alpha : Ideal.ofBits .f32 0x3FB504F3#32 = ((alpha : ℝ) : EReal) := by
  simp [Ideal.ofBits, Ideal.ieee, -EReal.coe_mul, alpha]; norm_num
theorem c_one : Ideal.ofBits .f32 0x3F800000#32 = ((1 : ℝ) : EReal) := by
  simp [Ideal.ofBits, Ideal.ieee, -EReal.coe_mul, -EReal.coe_one]; norm_num
theorem c_mhalf : Ideal.ofBits .f32 0xBF000000#32 = ((-1 / 2 : ℝ) : EReal) := by
  simp [Ideal.ofBits, Ideal.ieee, -EReal.coe_mul, -EReal.coe_neg]; norm_num

section real
variable (X : S4096x1024.Idx → ℝ) (W : S1024x5632.Idx → ℝ) (V : S2816x1024.Idx → ℝ) (G : S1024.Idx → ℝ) (D : S4096x1024.Idx → ℝ)

/-- The sigmoid. -/
def sg (x : ℝ) : ℝ := 1 / (1 + Real.exp (-x))
theorem one_exp_ne (x : ℝ) : 1 + Real.exp (-x) ≠ 0 := (add_pos one_pos (Real.exp_pos _)).ne'

/-- The first product, its two halves, the activation and the norm's input. -/
def lin (s : Fin 4096) (j : Fin 5632) : ℝ := ∑ k, X (ix2 s k) * W (ix2 k j)
def gt (s : Fin 4096) (l : Fin 2816) : ℝ := lin X W s ⟨l.val, by omega⟩
def ut (s : Fin 4096) (l : Fin 2816) : ℝ := lin X W s ⟨2816 + l.val, by omega⟩
def act (s : Fin 4096) (l : Fin 2816) : ℝ := gt X W s l * sg (gt X W s l) * ut X W s l
def inp (s : Fin 4096) (d : Fin 1024) : ℝ := alpha * X (ix2 s d) + 1 / 2 * ∑ l, act X W s l * V (ix2 l d)

/-- The gradients, from the norm's input back. -/
def drow (s : Fin 4096) (d : Fin 1024) : ℝ := dr (fun k => D (ix2 s k) * G (ix1 k)) (inp X W V s) d
def dy (s : Fin 4096) (d : Fin 1024) : ℝ := 1 / 2 * drow X W V G D s d
def da (s : Fin 4096) (l : Fin 2816) : ℝ := ∑ d, dy X W V G D s d * V (ix2 l d)
def dg (s : Fin 4096) (l : Fin 2816) : ℝ := da X W V G D s l * ut X W s l * (sg (gt X W s l) * (1 + gt X W s l * (1 - sg (gt X W s l))))
def du (s : Fin 4096) (l : Fin 2816) : ℝ := da X W V G D s l * (gt X W s l * sg (gt X W s l))
def dh (s : Fin 4096) (j : Fin 5632) : ℝ := if h : j.val < 2816 then dg X W V G D s ⟨j.val, h⟩ else du X W V G D s ⟨j.val - 2816, by omega⟩
def dx (s : Fin 4096) (d : Fin 1024) : ℝ := alpha * drow X W V G D s d + ∑ j, dh X W V G D s j * W (ix2 d j)

/-- The six results. -/
def outH : FVec Ideal S4096x5632 .bf16 := fun i => ((dh X W V G D (i 0) (i 1) : ℝ) : EReal)
def outA : FVec Ideal S4096x2816 .bf16 := fun i => ((act X W (i 0) (i 1) : ℝ) : EReal)
def outX : FVec Ideal S4096x1024 .f32 := fun i => ((dx X W V G D (i 0) (i 1) : ℝ) : EReal)
def outY : FVec Ideal S4096x1024 .bf16 := fun i => ((dy X W V G D (i 0) (i 1) : ℝ) : EReal)
def outG : FVec Ideal S1x1024 .f32 := fun i => ((∑ s : Fin 4096, D (ix2 s (i 1)) * hat (inp X W V s) (i 1) : ℝ) : EReal)
def outB : FVec Ideal S1x1024 .f32 := fun i => ((∑ s : Fin 4096, D (ix2 s (i 1)) : ℝ) : EReal)
end real

variable (X : S4096x1024.Idx → ℝ) (W : S1024x5632.Idx → ℝ) (V : S2816x1024.Idx → ℝ) (G : S1024.Idx → ℝ) (D : S4096x1024.Idx → ℝ)

theorem v3 (s j) : val_main_v3 (F := Ideal) (up X) (up W) (ix2 s j) = ((lin X W s j : ℝ) : EReal) := by
  pointwise [val_main_v3, val_main_v2, val_main_v0, val_main_cst]
  simp only [← EReal.coe_mul, coe_sum, add_zero]
  rfl

theorem v4 (s l) : val_main_v4 (F := Ideal) (up X) (up W) (ix2 s l) = ((gt X W s l : ℝ) : EReal) := by
  pointwise [val_main_v4]
  exact v3 X W s _
theorem v5 (s l) : val_main_v5 (F := Ideal) (up X) (up W) (ix2 s l) = ((ut X W s l : ℝ) : EReal) := by
  pointwise [val_main_v5]
  exact v3 X W s _

theorem v6_2 (s l) : val_main_v6_2 (F := Ideal) (up X) (up W) (ix2 s l) = ((sg (gt X W s l) : ℝ) : EReal) := by
  pointwise [val_main_v6_2, val_main_call0_v4, val_main_call0_cst_0, val_main_call0_v3, val_main_call0_v2, val_main_call0_cst, val_main_call0_v1, val_main_call0_v0]
  simp only [v4, ← EReal.coe_one, ← EReal.coe_neg, Ideal.exp_coe, ← EReal.coe_add, coe_div _ _ (one_exp_ne _)]
  rfl

theorem v6_1 (s l) : val_main_v6_1 (F := Ideal) (up X) (up W) (ix2 s l) = ((sg (gt X W s l) * (1 - sg (gt X W s l)) : ℝ) : EReal) := by
  pointwise [val_main_v6_1, val_main_call0_v7, val_main_call0_v6, val_main_call0_cst_1]
  simp only [v6_2, ← EReal.coe_one, ← EReal.coe_sub, ← EReal.coe_mul]

theorem v6_0 (s l) : val_main_v6_0 (F := Ideal) (up X) (up W) (ix2 s l) = ((gt X W s l * sg (gt X W s l) : ℝ) : EReal) := by
  pointwise [val_main_v6_0]
  simp only [v4, v6_2, ← EReal.coe_mul]

theorem v7 (s l) : val_main_v7 (F := Ideal) (up X) (up W) (ix2 s l) = ((act X W s l : ℝ) : EReal) := by
  pointwise [val_main_v7]
  simp only [v5, v6_0, ← EReal.coe_mul]
  rfl

theorem v14 (s d) : val_main_v14 (F := Ideal) (up X) (up W) (up V) (ix2 s d) = ((inp X W V s d : ℝ) : EReal) := by
  pointwise [val_main_v14, val_main_v13, val_main_v12, val_main_cst_2, val_main_v11, val_main_v10, val_main_cst_1, val_main_v9, val_main_v8, val_main_v1, val_main_cst_0]
  simp only [v7, c_alpha, c_half, coe_sum, ← EReal.coe_mul, add_zero, ← EReal.coe_add]
  rfl

/-! The norm. -/

theorem v20 (r l) : val_main_v20 (F := Ideal) (up X) (up W) (up V) (ix2 r l) = ((cen (inp X W V r) l : ℝ) : EReal) := by
  pointwise [val_main_v20, val_main_v19, val_main_v18, val_main_v17, val_main_cst_4, val_main_v16, val_main_v15, val_main_cst_3]
  simp only [v14, coe_sum, c_1024, coe_div _ _ (show (1024 : ℝ) ≠ 0 by norm_num), ← EReal.coe_sub]
  rfl

theorem v29 (r l) : val_main_v29 (F := Ideal) (up X) (up W) (up V) (ix2 r l) = ((cen (inp X W V r) l : ℝ) : EReal) := v20 X W V r l

theorem v31 (r) : val_main_v31 (F := Ideal) (up X) (up W) (up V) (ix2 r 0) = ((vare (inp X W V r) : ℝ) : EReal) := by
  pointwise [val_main_v31, val_main_v30, val_main_cst_8, val_main_v27, val_main_v26, val_main_cst_7, val_main_v25, val_main_v24, val_main_v21, val_main_cst_6]
  simp only [v20, coe_sum, c_1024, c_eps, coe_div _ _ (show (1024 : ℝ) ≠ 0 by norm_num), ← EReal.coe_mul, ← EReal.coe_add]
  rfl

theorem v32 (r) : val_main_v32 (F := Ideal) (up X) (up W) (up V) (ix2 r 0) = ((rstd (inp X W V r) : ℝ) : EReal) := by
  pointwise [val_main_v32]
  rw [v31]; exact coe_rstd _

theorem v35 (r) : val_main_v35 (F := Ideal) (up X) (up W) (up V) (ix2 r 0) = ((-1 / 2 * (rstd (inp X W V r) / vare (inp X W V r)) : ℝ) : EReal) := by
  pointwise [val_main_v35, val_main_v34, val_main_v33, val_main_cst_9]
  rw [v31, v32, c_mhalf, coe_div _ _ (vare_pos _).ne', ← EReal.coe_mul]

theorem v37 (r l) : val_main_v37 (F := Ideal) (up X) (up W) (up V) (ix2 r l) = ((hat (inp X W V r) l : ℝ) : EReal) := by
  pointwise [val_main_v37, val_main_v36]
  rw [v29, v32, ← EReal.coe_mul]; rfl

theorem v52 (r l) : val_main_v52 (F := Ideal) (up G) (up D) (ix2 r l) = ((D (ix2 r l) * G (ix1 l) : ℝ) : EReal) := by
  pointwise [val_main_v52, val_main_v51, val_main_v44, val_main_v38]
  rw [← EReal.coe_mul]

theorem v58 (r l) : val_main_v58 (F := Ideal) (up X) (up W) (up V) (up G) (up D) (ix2 r l) = ((D (ix2 r l) * G (ix1 l) * rstd (inp X W V r) : ℝ) : EReal) := by
  pointwise [val_main_v58, val_main_v57]
  rw [v52, v32, ← EReal.coe_mul]

theorem v67 (r l) : val_main_v67 (F := Ideal) (up X) (up W) (up V) (up G) (up D) (ix2 r l) = (((∑ k, cen (inp X W V r) k * (D (ix2 r k) * G (ix1 k)))
    * (-1 / 2 * (rstd (inp X W V r) / vare (inp X W V r))) / 1024 * (2 * cen (inp X W V r) l) : ℝ) : EReal) := by
  pointwise [val_main_v67, val_main_v66, val_main_v65, val_main_cst_17, val_main_v64, val_main_v63, val_main_cst_16, val_main_v59, val_main_v56, val_main_v55,
    val_main_cst_14, val_main_v54, val_main_v23, val_main_v22, val_main_cst_5]
  simp only [Fin.sum_univ_one, Fin.isValue, v20, v29, v52, v35, coe_sum, c_1024, c_two, coe_div _ _ (show (1024 : ℝ) ≠ 0 by norm_num), ← EReal.coe_mul]

theorem v77 (r l) : val_main_v77 (F := Ideal) (up X) (up W) (up V) (up G) (up D) (ix2 r l) = ((drow X W V G D r l : ℝ) : EReal) := by
  pointwise [val_main_v77, val_main_v76, val_main_v75, val_main_cst_20, val_main_v74, val_main_v73, val_main_cst_19, val_main_v72, val_main_v70, val_main_v69, val_main_cst_18,
    val_main_v68, val_main_v62, val_main_v61, val_main_cst_15, val_main_v60, val_main_v71]
  simp only [Fin.sum_univ_one, Fin.isValue, v58, v67, coe_sum, c_1024, coe_div _ _ (show (1024 : ℝ) ≠ 0 by norm_num), ← EReal.coe_mul, ← EReal.coe_add, ← EReal.coe_neg]
  exact congrArg _ (chain (fun k => D (ix2 r k) * G (ix1 k)) (inp X W V r) l)

/-! The block. -/

theorem v79 (r l) : val_main_v79 (F := Ideal) (up X) (up W) (up V) (up G) (up D) (ix2 r l) = ((dy X W V G D r l : ℝ) : EReal) := by
  pointwise [val_main_v79, val_main_v78, val_main_cst_21]
  rw [v77, c_half, ← EReal.coe_mul]; rfl

theorem v84 (r l) : val_main_v84 (F := Ideal) (up X) (up W) (up V) (up G) (up D) (ix2 r l) = ((da X W V G D r l : ℝ) : EReal) := by
  pointwise [val_main_v84]
  simp only [v79, coe_sum, ← EReal.coe_mul]
  rfl

theorem v85 (r l) : val_main_v85 (F := Ideal) (up X) (up W) (up V) (up G) (up D) (ix2 r l) = ((du X W V G D r l : ℝ) : EReal) := by
  pointwise [val_main_v85]
  rw [v84, v6_0, ← EReal.coe_mul, mul_comm]; rfl

theorem v87 (r l) : val_main_v87 (F := Ideal) (up X) (up W) (up V) (up G) (up D) (ix2 r l) = ((dg X W V G D r l : ℝ) : EReal) := by
  pointwise [val_main_v87, val_main_call1_v2, val_main_call1_v1, val_main_call1_v0, val_main_v86]
  simp only [v84, v4, v5, v6_1, v6_2, ← EReal.coe_mul, ← EReal.coe_add]
  refine congrArg _ ?_
  unfold dg; ring

theorem v88 (r j) : val_main_v88 (F := Ideal) (up X) (up W) (up V) (up G) (up D) (ix2 r j) = ((dh X W V G D r j : ℝ) : EReal) := by
  pointwise [val_main_v88]
  unfold dh
  by_cases h : j.val < 2816
  · rw [dif_pos h, dif_pos h]; exact v87 X W V G D r _
  · rw [dif_neg h, dif_neg h]; exact v85 X W V G D r _

theorem ref_h : val_main_v91 (F := Ideal) (up X) (up W) (up V) (up G) (up D) = outH X W V G D := by
  funext j
  obtain ⟨r, l, rfl⟩ : ∃ a b, j = ix2 a b := ⟨j 0, j 1, eq_ix2 j⟩
  exact (val_main_v91_apply _ _ _ _ _ _).trans (v88 X W V G D r l)
theorem ref_a : val_main_v92 (F := Ideal) (up X) (up W) = outA X W := by
  funext j
  obtain ⟨r, l, rfl⟩ : ∃ a b, j = ix2 a b := ⟨j 0, j 1, eq_ix2 j⟩
  exact (val_main_v92_apply _ _ _).trans (v7 X W r l)
theorem ref_y : val_main_v93 (F := Ideal) (up X) (up W) (up V) (up G) (up D) = outY X W V G D := by
  funext j
  obtain ⟨r, l, rfl⟩ : ∃ a b, j = ix2 a b := ⟨j 0, j 1, eq_ix2 j⟩
  exact (val_main_v93_apply _ _ _ _ _ _).trans (v79 X W V G D r l)
theorem ref_x : val_main_v90 (F := Ideal) (up X) (up W) (up V) (up G) (up D) = outX X W V G D := by
  funext j
  obtain ⟨r, d, rfl⟩ : ∃ a b, j = ix2 a b := ⟨j 0, j 1, eq_ix2 j⟩
  pointwise [val_main_v90, val_main_v89, val_main_v81, val_main_v80, val_main_cst_22]
  simp only [v77, v88, c_alpha, coe_sum, ← EReal.coe_mul, ← EReal.coe_add]
  rfl

theorem ref_g : val_main_v94 (F := Ideal) (up X) (up W) (up V) (up D) = outG X W V D := by
  funext j
  idx_vars j
  pointwise [val_main_v94, val_main_v53, val_main_cst_13, val_main_v50, val_main_v49, val_main_cst_12, val_main_v48, val_main_v44]
  simp only [Fin.sum_univ_one, Fin.isValue, v37, coe_sum, ← EReal.coe_mul]
  refine congrArg _ (Finset.sum_congr rfl fun r _ => mul_comm _ _)

theorem ref_b : val_main_v95 (F := Ideal) (up D) = outB D := by
  funext j
  idx_vars j
  pointwise [val_main_v95, val_main_v47, val_main_cst_11, val_main_v46, val_main_v45, val_main_cst_10]
  simp only [Fin.sum_univ_one, Fin.isValue, coe_sum]
  rfl

end Cert.FfnReferenceIdeal.Hand
-- ==== Proof.Ffn.lean ====
/-
  The gradient of a SwiGLU block and of the norm behind it: what the kernel leaves, tile by tile, in real numbers.
-/
module

public import proofs.«01_k».proof.Proof.Gen.FfnKernelIdeal.Value
public import proofs.«01_k».proof.Proof.Gen.FfnReferenceIdeal.Run
public import proofs.«01_k».proof.Proof.Gen.FfnReferenceIdeal.Read
public import Idealize.ShloMosaic.Lib.Pipeline.ValueKit
public import Idealize.ShloMosaic.Lib.Pointwise
public import proofs.«01_k».proof.Proof.Reals
public import proofs.«01_k».proof.Proof.NormReal
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnKernelIdeal.Hand

open Cert.FfnKernelIdeal Cert.FfnKernelIdeal.Gen Cert.Reals Cert.NormReal
open Cert.FfnReferenceIdeal.Hand (up alpha c_alpha sg one_exp_ne lin gt ut act inp drow dy da dg du dh dx outH outA outX outY outG outB)

section rows
variable (x d : FVec Ideal S256x1024 .f32) (g : FVec Ideal S1x1024 .f32) (X D : Fin 256 → Fin 1024 → ℝ) (G : Fin 1024 → ℝ)
  (hx : ∀ r l, x (ix2 r l) = ((X r l : ℝ) : EReal)) (hd : ∀ r l, d (ix2 r l) = ((D r l : ℝ) : EReal))
  (hg : ∀ l, g (ix2 0 l) = ((G l : ℝ) : EReal))

include hx in
theorem pay6 (r l) : k0_pay6 (F := Ideal) x (ix2 r l) = ((cen (X r) l : ℝ) : EReal) := by
  pointwise [k0_pay6]
  simp only [hx, coe_sum, c_1024, coe_div _ _ (show (1024 : ℝ) ≠ 0 by norm_num), ← EReal.coe_sub]
  rfl

include hx in
theorem pay7 (r) : k0_pay7 (F := Ideal) x (ix2 r 0) = ((rstd (X r) : ℝ) : EReal) := by
  pointwise [k0_pay7]
  simp only [pay6 x X hx, coe_sum, c_1024, c_eps, coe_div _ _ (show (1024 : ℝ) ≠ 0 by norm_num), ← EReal.coe_mul, ← EReal.coe_add]
  exact coe_rstd (X r)

include hx in
theorem pay8 (r l) : k0_pay8 (F := Ideal) x (ix2 r l) = ((hat (X r) l : ℝ) : EReal) := by
  pointwise [k0_pay8]
  simp only [pay6 x X hx, pay7 x X hx, ← EReal.coe_mul]
  rfl

include hx hd hg in
theorem pay11 (r l) : k0_pay11 (F := Ideal) (k0_pay9 d x g) (k0_pay10 x) (ix2 r l) = ((dr (fun k => D r k * G k) (X r) l : ℝ) : EReal) := by
  pointwise [k0_pay11, k0_pay9, k0_pay10]
  simp only [pay7 x X hx, pay8 x X hx, hd, hg, coe_sum, c_1024, coe_div _ _ (show (1024 : ℝ) ≠ 0 by norm_num), ← EReal.coe_mul, ← EReal.coe_sub]
  rfl

include hx hd hg in
theorem pay14 (r l) : k0_pay14 (F := Ideal) (k0_pay9 d x g) (k0_pay10 x) (ix2 r l) = ((1 / 2 * dr (fun k => D r k * G k) (X r) l : ℝ) : EReal) := by
  pointwise [k0_pay14]
  simp only [pay11 x d g X D G hx hd hg, c_half, ← EReal.coe_mul]

include hx hd hg in
theorem pay15 (r l) : k0_pay15 (F := Ideal) (k0_pay9 d x g) (k0_pay10 x) (ix2 r l) = ((alpha * dr (fun k => D r k * G k) (X r) l : ℝ) : EReal) := by
  pointwise [k0_pay15]
  simp only [pay11 x d g X D G hx hd hg, c_alpha, ← EReal.coe_mul]

include hx hd in
theorem pay12 (acc : FVec Ideal S1x1024 .f32) (j) : k0_pay12 (F := Ideal) d (k0_pay8 (F := Ideal) x) acc j
    = acc j + ((∑ r, D r (j 1) * hat (X r) (j 1) : ℝ) : EReal) := by
  idx_vars j
  pointwise [k0_pay12]
  simp only [pay8 x X hx, hd, coe_sum, ← EReal.coe_mul]

include hd in
theorem pay13 (acc : FVec Ideal S1x1024 .f32) (j) : k0_pay13 (F := Ideal) d acc j = acc j + ((∑ r, D r (j 1) : ℝ) : EReal) := by
  idx_vars j
  pointwise [k0_pay13]
  simp only [hd, coe_sum]

theorem pay4 (j) : k0_pay4 (F := Ideal) j = 0 := by pointwise [k0_pay4]
theorem pay5 (j) : k0_pay5 (F := Ideal) j = 0 := by pointwise [k0_pay5]
end rows

/-! One half of the hidden lanes: the second half is written with the same operations under other names. -/

section half
variable (y : FVec Ideal S256x1024 .bf16) (w : FVec Ideal S1x1408x1024 .bf16) (Y : Fin 256 → Fin 1024 → ℝ) (M : Fin 1408 → Fin 1024 → ℝ)
  (hy : ∀ r d, y (ix2 r d) = ((Y r d : ℝ) : EReal)) (hw : ∀ l d, w (ix3 0 l d) = ((M l d : ℝ) : EReal))

include hy hw in
theorem pay25 (r l) : k0_pay25 (F := Ideal) y w (ix2 r l) = ((∑ d, Y r d * M l d : ℝ) : EReal) := by
  pointwise [k0_pay25]
  simp only [hy, hw, coe_sum, ← EReal.coe_mul]

variable (a : FVec Ideal S256x1408 .f32) (p q : FVec Ideal S256x1408 .bf16) (A P Q : Fin 256 → Fin 1408 → ℝ)
  (ha : ∀ r l, a (ix2 r l) = ((A r l : ℝ) : EReal)) (hp : ∀ r l, p (ix2 r l) = ((P r l : ℝ) : EReal)) (hq : ∀ r l, q (ix2 r l) = ((Q r l : ℝ) : EReal))

include hp in
theorem pay17 (r l) : k0_pay17 (F := Ideal) p (ix2 r l) = ((P r l : ℝ) : EReal) := by
  pointwise [k0_pay17]; exact hp r l
include hq in
theorem pay18 (r l) : k0_pay18 (F := Ideal) q (ix2 r l) = ((Q r l : ℝ) : EReal) := by
  pointwise [k0_pay18]; exact hq r l
include hp in
theorem pay19 (r l) : k0_pay19 (F := Ideal) p (ix2 r l) = ((sg (P r l) : ℝ) : EReal) := by
  pointwise [k0_pay19]
  rw [pay17 p P hp]
  show Ideal.div 1 (1 + Ideal.exp (-((P r l : ℝ) : EReal))) = _
  simp only [← EReal.coe_one, ← EReal.coe_neg, Ideal.exp_coe, ← EReal.coe_add, coe_div _ _ (one_exp_ne _)]
  rfl
include hp in
theorem pay20 (r l) : k0_pay20 (F := Ideal) p (ix2 r l) = ((P r l * sg (P r l) : ℝ) : EReal) := by
  pointwise [k0_pay20]
  rw [pay17 p P hp, pay19 p P hp, ← EReal.coe_mul]
include hp hq in
theorem pay21 (r l) : k0_pay21 (F := Ideal) p q (ix2 r l) = ((P r l * sg (P r l) * Q r l : ℝ) : EReal) := by
  pointwise [k0_pay21]
  rw [pay20 p P hp, pay18 q Q hq, ← EReal.coe_mul]
include ha hp hq in
theorem pay22 (r l) : k0_pay22 (F := Ideal) a (k0_pay17 p) (k0_pay18 q) (k0_pay19 p) (ix2 r l)
    = ((A r l * Q r l * (sg (P r l) * (1 + P r l * (1 - sg (P r l)))) : ℝ) : EReal) := by
  pointwise [k0_pay22]
  simp only [pay17 p P hp, pay18 q Q hq, pay19 p P hp, ha, ← EReal.coe_one, ← EReal.coe_sub, ← EReal.coe_mul, ← EReal.coe_add]
include ha hp in
theorem pay23 (r l) : k0_pay23 (F := Ideal) a (k0_pay20 p) (ix2 r l) = ((A r l * (P r l * sg (P r l)) : ℝ) : EReal) := by
  pointwise [k0_pay23]
  rw [pay20 p P hp, ha, ← EReal.coe_mul]

variable (b : FVec Ideal S256x1024 .f32) (u v : FVec Ideal S1x1024x1408 .bf16) (B : Fin 256 → Fin 1024 → ℝ) (M1 M2 : Fin 1024 → Fin 1408 → ℝ)
  (hb : ∀ r d, b (ix2 r d) = ((B r d : ℝ) : EReal)) (hu : ∀ d l, u (ix3 0 d l) = ((M1 d l : ℝ) : EReal)) (hv : ∀ d l, v (ix3 0 d l) = ((M2 d l : ℝ) : EReal))

include ha hp hq hb hu hv in
theorem pay24 (r d) : k0_pay24 (F := Ideal) b a (k0_pay17 p) (k0_pay18 q) (k0_pay19 p) (k0_pay20 p) u v (ix2 r d)
    = ((B r d + (∑ l, A r l * Q r l * (sg (P r l) * (1 + P r l * (1 - sg (P r l)))) * M1 d l) + ∑ l, A r l * (P r l * sg (P r l)) * M2 d l : ℝ) : EReal) := by
  pointwise [k0_pay24]
  simp only [pay22 a p q A P Q ha hp hq, pay23 a p A P ha hp, hb, hu, hv, coe_sum, ← EReal.coe_mul, ← EReal.coe_add]
end half

theorem same1 (v98 v101 v104 v105) : k0_pay1 (F := Ideal) v98 v101 v104 v105 = k0_pay22 v98 v101 v104 v105 := rfl
theorem same2 (v98 v106) : k0_pay2 (F := Ideal) v98 v106 = k0_pay23 v98 v106 := rfl
theorem same3 (a b c d e f g h) : k0_pay3 (F := Ideal) a b c d e f g h = k0_pay24 a b c d e f g h := rfl
theorem same16 (a b c) : k0_pay16 (F := Ideal) a b c = k0_pay25 (k0_pay14 a b) c := rfl
theorem same26 (a) : k0_pay26 (F := Ideal) a = k0_pay17 a := rfl
theorem same27 (a) : k0_pay27 (F := Ideal) a = k0_pay18 a := rfl
theorem same28 (a) : k0_pay28 (F := Ideal) a = k0_pay19 a := rfl
theorem same29 (a) : k0_pay29 (F := Ideal) a = k0_pay20 a := rfl
theorem same30 (a b) : k0_pay30 (F := Ideal) a b = k0_pay21 a b := rfl

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0] ∧ win0_6.index t = ![0, 0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

theorem lt_row (t : Fin cfg0.N) (r : Fin 256) : t.val * 256 + r.val < 4096 := by
  have h := lt_of_lt_of_eq t.isLt N_0; omega

/-- Row `r` of tile `t`. -/
abbrev row (t : Fin cfg0.N) (r : Fin 256) : Fin 4096 := ⟨t.val * 256 + r.val, lt_row t r⟩

section saved
variable {F : FTy → Type} [FloatOps F] [Named F] (m : (ℓ : Loc nD τ sig) → Buf (Elt F) ℓ)

/-! The host lines before the call. -/

def kH (x : FVec F S4096x1024 .f32) (w : FVec F S1024x5632 .f32) : FVec F S4096x5632 .f32 := Host.dotGeneral dot_S4096x1024_S1024x5632_S4096x5632_1_0_0_1_n_n none x w
def kG (k : FVec F S4096x5632 .f32) : FVec F S4096x2816 .f32 := extractStridedSlice S4096x2816 ![0, 0] k slices_S4096x5632_S4096x2816_0_0
def kU (k : FVec F S4096x5632 .f32) : FVec F S4096x2816 .f32 := extractStridedSlice S4096x2816 ![0, 2816] k slices_S4096x5632_S4096x2816_0_2816
def kOne : FVec F S4096x2816 .f32 := broadcastInDim S4096x2816 ![] bcast_S_S4096x2816 (constant S_ .f32 0x3F800000#32)
def kS (g : FVec F S4096x2816 .f32) : FVec F S4096x2816 .f32 := mulf g (Host.divf kOne (addf kOne (Host.exp (Host.negf g))))
def kA (x : FVec F S4096x1024 .f32) (w : FVec F S1024x5632 .f32) : FVec F S4096x2816 .f32 := mulf (kS (kG (kH x w))) (kU (kH x w))
def kR (x : FVec F S4096x1024 .f32) (w : FVec F S1024x5632 .f32) (v : FVec F S2816x1024 .f32) : FVec F S4096x1024 .f32 :=
  addf (mulf (broadcastInDim S4096x1024 ![] bcast_S_S4096x1024 (constant S_ .f32 0x3FB504F3#32)) x)
    (mulf (broadcastInDim S4096x1024 ![] bcast_S_S4096x1024 (constant S_ .f32 0x3F000000#32)) (Host.dotGeneral dot_S4096x2816_S2816x1024_S4096x1024_1_0_0_1_n_n none (kA x w) v))

theorem V_r (c : Dev nD) : V m c main_v10 = kR (m (c, Proc.tc.devRef main_arg0)) (m (c, Proc.tc.devRef main_arg1)) (m (c, Proc.tc.devRef main_arg2)) := by
  unfold V
  simp only [hostOps0, hostOps0_1, hostOps0_2, List.flatten_cons, List.flatten_nil, List.cons_append, List.nil_append, List.append_nil]
  entry_read
  rfl
theorem V_g (c : Dev nD) : V m c main_v16 = truncf .bf16 (kG (kH (m (c, Proc.tc.devRef main_arg0)) (m (c, Proc.tc.devRef main_arg1)))) bitsLt_bf16_f32 := by
  unfold V
  simp only [hostOps0, hostOps0_1, hostOps0_2, List.flatten_cons, List.flatten_nil, List.cons_append, List.nil_append, List.append_nil]
  entry_read
  rfl
theorem V_u (c : Dev nD) : V m c main_v17 = truncf .bf16 (kU (kH (m (c, Proc.tc.devRef main_arg0)) (m (c, Proc.tc.devRef main_arg1)))) bitsLt_bf16_f32 := by
  unfold V
  simp only [hostOps0, hostOps0_1, hostOps0_2, List.flatten_cons, List.flatten_nil, List.cons_append, List.nil_append, List.append_nil]
  entry_read
  rfl
theorem V_w (c : Dev nD) : V m c main_v13 = truncf .bf16 (transpose S4x1024x1408 [1, 0, 2] (shapeCast S1024x4x1408 (m (c, Proc.tc.devRef main_arg1)) shapeCasts_S1024x5632_S1024x4x1408) transposes_S1024x4x1408_S4x1024x1408_1_0_2) bitsLt_bf16_f32 := by
  unfold V
  simp only [hostOps0, hostOps0_1, hostOps0_2, List.flatten_cons, List.flatten_nil, List.cons_append, List.nil_append, List.append_nil]
  entry_read
  rfl
theorem V_v (c : Dev nD) : V m c main_v15 = truncf .bf16 (shapeCast S2x1408x1024 (m (c, Proc.tc.devRef main_arg2)) shapeCasts_S2816x1024_S2x1408x1024) bitsLt_bf16_f32 := by
  unfold V
  simp only [hostOps0, hostOps0_1, hostOps0_2, List.flatten_cons, List.flatten_nil, List.cons_append, List.nil_append, List.append_nil]
  entry_read
  rfl
theorem V_gam (c : Dev nD) : V m c main_v18 = shapeCast S1x1024 (m (c, Proc.tc.devRef main_arg3)) shapeCasts_S1024_S1x1024 := by
  unfold V
  simp only [hostOps0, hostOps0_1, hostOps0_2, List.flatten_cons, List.flatten_nil, List.cons_append, List.nil_append, List.append_nil]
  entry_read
  rfl

theorem iblk_r (c : Dev nD) (t : Fin cfg0.N) (y : S256x1024.Idx) : iblk m c 1 t y = V m c main_v10 (((cfg0.win 1).blk t).view.emb y) := rfl
theorem iblk_gam (c : Dev nD) (t : Fin cfg0.N) (y : S1x1024.Idx) : iblk m c 2 t y = V m c main_v18 (((cfg0.win 2).blk t).view.emb y) := rfl
theorem iblk_g (c : Dev nD) (t : Fin cfg0.N) (y : S256x2816.Idx) : iblk m c 3 t y = V m c main_v16 (((cfg0.win 3).blk t).view.emb y) := rfl
theorem iblk_u (c : Dev nD) (t : Fin cfg0.N) (y : S256x2816.Idx) : iblk m c 4 t y = V m c main_v17 (((cfg0.win 4).blk t).view.emb y) := rfl
theorem iblk_w (c : Dev nD) (t : Fin cfg0.N) (y : S4x1024x1408.Idx) : iblk m c 5 t y = V m c main_v13 (((cfg0.win 5).blk t).view.emb y) := rfl
theorem iblk_v (c : Dev nD) (t : Fin cfg0.N) (y : S2x1408x1024.Idx) : iblk m c 6 t y = V m c main_v15 (((cfg0.win 6).blk t).view.emb y) := rfl
end saved

section host
variable (X : S4096x1024.Idx → ℝ) (W : S1024x5632.Idx → ℝ) (V : S2816x1024.Idx → ℝ)

theorem kH_eq (s j) : kH (F := Ideal) (up X) (up W) (ix2 s j) = ((lin X W s j : ℝ) : EReal) := by
  pointwise [kH]
  simp only [← EReal.coe_mul, coe_sum]
  rfl
theorem kG_eq (s l) : kG (F := Ideal) (kH (up X) (up W)) (ix2 s l) = ((gt X W s l : ℝ) : EReal) := by
  pointwise [kG]
  exact kH_eq X W s _
theorem kU_eq (s l) : kU (F := Ideal) (kH (up X) (up W)) (ix2 s l) = ((ut X W s l : ℝ) : EReal) := by
  pointwise [kU]
  exact kH_eq X W s _
theorem kA_eq (s l) : kA (F := Ideal) (up X) (up W) (ix2 s l) = ((act X W s l : ℝ) : EReal) := by
  pointwise [kA, kS, kOne]
  simp only [kG_eq, kU_eq, ← EReal.coe_one, ← EReal.coe_neg, Ideal.exp_coe, ← EReal.coe_add, coe_div _ _ (one_exp_ne _), ← EReal.coe_mul]
  rfl
theorem kR_eq (s d) : kR (F := Ideal) (up X) (up W) (up V) (ix2 s d) = ((inp X W V s d : ℝ) : EReal) := by
  pointwise [kR]
  simp only [kA_eq, c_alpha, c_half, coe_sum, ← EReal.coe_mul, ← EReal.coe_add]
  rfl
theorem kW_eq (q : Fin 4) (d : Fin 1024) (l : Fin 1408) (w : FVec Ideal S1024x5632 .f32) :
    truncf .bf16 (transpose S4x1024x1408 [1, 0, 2] (shapeCast S1024x4x1408 w shapeCasts_S1024x5632_S1024x4x1408) transposes_S1024x4x1408_S4x1024x1408_1_0_2) bitsLt_bf16_f32 (ix3 q d l)
      = w (ix2 d ⟨q.val * 1408 + l.val, by omega⟩) := by
  pointwise
theorem kV_eq (q : Fin 2) (l : Fin 1408) (d : Fin 1024) (v : FVec Ideal S2816x1024 .f32) :
    truncf .bf16 (shapeCast S2x1408x1024 v shapeCasts_S2816x1024_S2x1408x1024) bitsLt_bf16_f32 (ix3 q l d) = v (ix2 ⟨q.val * 1408 + l.val, by omega⟩ d) := by
  pointwise
end host

section arrays
variable (m : (ℓ : Loc nD τ sig) → Buf (Elt Ideal) ℓ) (c : Dev nD)
  (X : S4096x1024.Idx → ℝ) (W : S1024x5632.Idx → ℝ) (M : S2816x1024.Idx → ℝ) (G : S1024.Idx → ℝ) (D : S4096x1024.Idx → ℝ)
  (hX : m ((c : Thread nD τ).loc main_arg0) = up X) (hW : m ((c : Thread nD τ).loc main_arg1) = up W) (hM : m ((c : Thread nD τ).loc main_arg2) = up M)
  (hG : m ((c : Thread nD τ).loc main_arg3) = up G) (hD : m ((c : Thread nD τ).loc main_arg5) = up D)

include hD in
theorem tile_d (t : Fin cfg0.N) (r : Fin 256) (l : Fin 1024) : iblk m c 0 t (ix2 r l) = ((D (ix2 (row t r) l) : ℝ) : EReal) := by
  refine Eq.trans ?_ (congrFun hD (ix2 (row t r) l))
  blk_point [iblk, V, idx t, row]

include hX hW hM in
theorem tile_r (t : Fin cfg0.N) (r : Fin 256) (l : Fin 1024) : iblk m c 1 t (ix2 r l) = ((inp X W M (row t r) l : ℝ) : EReal) := by
  have e : ((cfg0.win 1).blk t).view.emb (ix2 r l) = (ix2 (row t r) l : S4096x1024.Idx) := by blk_ext [idx t, row]
  rw [iblk_r, e, V_r]
  have h0 : m (c, Proc.tc.devRef main_arg0) = up X := hX
  have h1 : m (c, Proc.tc.devRef main_arg1) = up W := hW
  have h2 : m (c, Proc.tc.devRef main_arg2) = up M := hM
  rw [h0, h1, h2]
  exact kR_eq X W M _ _

include hG in
theorem tile_gam (t : Fin cfg0.N) (l : Fin 1024) : iblk m c 2 t (ix2 0 l) = ((G (ix1 l) : ℝ) : EReal) := by
  have e : ((cfg0.win 2).blk t).view.emb (ix2 (0 : Fin 1) l) = (ix2 (0 : Fin 1) l : S1x1024.Idx) := by blk_ext [idx t]
  rw [iblk_gam, e, V_gam]
  have h0 : m (c, Proc.tc.devRef main_arg3) = up G := hG
  rw [h0]
  pointwise

include hX hW in
theorem tile_g (t : Fin cfg0.N) (r : Fin 256) (l : Fin 2816) : iblk m c 3 t (ix2 r l) = ((gt X W (row t r) l : ℝ) : EReal) := by
  have e : ((cfg0.win 3).blk t).view.emb (ix2 r l) = (ix2 (row t r) l : S4096x2816.Idx) := by blk_ext [idx t, row]
  rw [iblk_g, e, V_g]
  have h0 : m (c, Proc.tc.devRef main_arg0) = up X := hX
  have h1 : m (c, Proc.tc.devRef main_arg1) = up W := hW
  rw [h0, h1]
  exact kG_eq X W _ _

include hX hW in
theorem tile_u (t : Fin cfg0.N) (r : Fin 256) (l : Fin 2816) : iblk m c 4 t (ix2 r l) = ((ut X W (row t r) l : ℝ) : EReal) := by
  have e : ((cfg0.win 4).blk t).view.emb (ix2 r l) = (ix2 (row t r) l : S4096x2816.Idx) := by blk_ext [idx t, row]
  rw [iblk_u, e, V_u]
  have h0 : m (c, Proc.tc.devRef main_arg0) = up X := hX
  have h1 : m (c, Proc.tc.devRef main_arg1) = up W := hW
  rw [h0, h1]
  exact kU_eq X W _ _

include hW in
theorem tile_w (t : Fin cfg0.N) (q : Fin 4) (d : Fin 1024) (l : Fin 1408) : iblk m c 5 t (ix3 q d l) = ((W (ix2 d ⟨q.val * 1408 + l.val, by omega⟩) : ℝ) : EReal) := by
  have e : ((cfg0.win 5).blk t).view.emb (ix3 q d l) = (ix3 q d l : S4x1024x1408.Idx) := by blk_ext [idx t]
  rw [iblk_w, e, V_w]
  have h1 : m (c, Proc.tc.devRef main_arg1) = up W := hW
  rw [h1]
  exact kW_eq q d l _

include hM in
theorem tile_v (t : Fin cfg0.N) (q : Fin 2) (l : Fin 1408) (d : Fin 1024) : iblk m c 6 t (ix3 q l d) = ((M (ix2 ⟨q.val * 1408 + l.val, by omega⟩ d) : ℝ) : EReal) := by
  have e : ((cfg0.win 6).blk t).view.emb (ix3 q l d) = (ix3 q l d : S2x1408x1024.Idx) := by blk_ext [idx t]
  rw [iblk_v, e, V_v]
  have h1 : m (c, Proc.tc.devRef main_arg2) = up M := hM
  rw [h1]
  exact kV_eq q l d _

abbrev cutG (t : Fin cfg0.N) (o : ℕ) (inb : ∀ a, (![0, o] : Fin 2 → ℕ) a + S256x1408.size a ≤ S256x2816.size a) : FVec Ideal S256x1408 .bf16 :=
  View.ld (Val := Elt Ideal) (e' := EltTy.bf16) (iblk m c 3 t) (Rect.unit (s := S256x2816) ![0, o] S256x1408.size inb)
abbrev cutU (t : Fin cfg0.N) (o : ℕ) (inb : ∀ a, (![0, o] : Fin 2 → ℕ) a + S256x1408.size a ≤ S256x2816.size a) : FVec Ideal S256x1408 .bf16 :=
  View.ld (Val := Elt Ideal) (e' := EltTy.bf16) (iblk m c 4 t) (Rect.unit (s := S256x2816) ![0, o] S256x1408.size inb)
abbrev cutW (t : Fin cfg0.N) (q : ℕ) (inb : ∀ a, (![q, 0, 0] : Fin 3 → ℕ) a + S1x1024x1408.size a ≤ S4x1024x1408.size a) : FVec Ideal S1x1024x1408 .bf16 :=
  View.ld (Val := Elt Ideal) (e' := EltTy.bf16) (iblk m c 5 t) (Rect.unit (s := S4x1024x1408) ![q, 0, 0] S1x1024x1408.size inb)
abbrev cutV (t : Fin cfg0.N) (q : ℕ) (inb : ∀ a, (![q, 0, 0] : Fin 3 → ℕ) a + S1x1408x1024.size a ≤ S2x1408x1024.size a) : FVec Ideal S1x1408x1024 .bf16 :=
  View.ld (Val := Elt Ideal) (e' := EltTy.bf16) (iblk m c 6 t) (Rect.unit (s := S2x1408x1024) ![q, 0, 0] S1x1408x1024.size inb)

include hX hW in
theorem cutG_eq (t : Fin cfg0.N) (j : ℕ) (hj : j < 2) (o : ℕ) (ho : o = j * 1408) (inb) (r : Fin 256) (l : Fin 1408) :
    cutG m c t o inb (ix2 r l) = ((gt X W (row t r) ⟨j * 1408 + l.val, by omega⟩ : ℝ) : EReal) := by
  subst ho
  refine Eq.trans ?_ (tile_g m c X W hX hW t r ⟨j * 1408 + l.val, by omega⟩)
  exact View.ld_unit_apply_of (S := S256x2816) (Val := Elt Ideal) (e := EltTy.bf16) (iblk m c 3 t) _ _ _ _ _ fun a => match a with
    | ⟨0, _⟩ => (Nat.zero_add _).symm
    | ⟨1, _⟩ => rfl

include hX hW in
theorem cutU_eq (t : Fin cfg0.N) (j : ℕ) (hj : j < 2) (o : ℕ) (ho : o = j * 1408) (inb) (r : Fin 256) (l : Fin 1408) :
    cutU m c t o inb (ix2 r l) = ((ut X W (row t r) ⟨j * 1408 + l.val, by omega⟩ : ℝ) : EReal) := by
  subst ho
  refine Eq.trans ?_ (tile_u m c X W hX hW t r ⟨j * 1408 + l.val, by omega⟩)
  exact View.ld_unit_apply_of (S := S256x2816) (Val := Elt Ideal) (e := EltTy.bf16) (iblk m c 4 t) _ _ _ _ _ fun a => match a with
    | ⟨0, _⟩ => (Nat.zero_add _).symm
    | ⟨1, _⟩ => rfl

include hW in
theorem cutW_eq (t : Fin cfg0.N) (q : ℕ) (hq : q < 4) (inb) (d : Fin 1024) (l : Fin 1408) :
    cutW m c t q inb (ix3 0 d l) = ((W (ix2 d ⟨q * 1408 + l.val, by omega⟩) : ℝ) : EReal) := by
  refine Eq.trans ?_ (tile_w m c W hW t ⟨q, hq⟩ d l)
  exact View.ld_unit_apply_of (S := S4x1024x1408) (Val := Elt Ideal) (e := EltTy.bf16) (iblk m c 5 t) _ _ _ _ _ fun a => match a with
    | ⟨0, _⟩ => rfl
    | ⟨1, _⟩ => (Nat.zero_add _).symm
    | ⟨2, _⟩ => (Nat.zero_add _).symm

include hM in
theorem cutV_eq (t : Fin cfg0.N) (q : ℕ) (hq : q < 2) (inb) (l : Fin 1408) (d : Fin 1024) :
    cutV m c t q inb (ix3 0 l d) = ((M (ix2 ⟨q * 1408 + l.val, by omega⟩ d) : ℝ) : EReal) := by
  refine Eq.trans ?_ (tile_v m c M hM t ⟨q, hq⟩ l d)
  exact View.ld_unit_apply_of (S := S2x1408x1024) (Val := Elt Ideal) (e := EltTy.bf16) (iblk m c 6 t) _ _ _ _ _ fun a => match a with
    | ⟨0, _⟩ => rfl
    | ⟨1, _⟩ => (Nat.zero_add _).symm
    | ⟨2, _⟩ => (Nat.zero_add _).symm

include hX hW hM hG hD in
theorem tile_y (t : Fin cfg0.N) (r : Fin 256) (d : Fin 1024) : k0_pay14 (k0_pay9 (iblk m c 0 t) (iblk m c 1 t) (iblk m c 2 t)) (k0_pay10 (iblk m c 1 t)) (ix2 r d) = ((dy X W M G D (row t r) d : ℝ) : EReal) :=
  pay14 _ _ _ (fun r d => inp X W M (row t r) d) (fun r d => D (ix2 (row t r) d)) (fun d => G (ix1 d)) (tile_r m c X W M hX hW hM t) (tile_d m c D hD t) (tile_gam m c G hG t) r d

include hX hW hM hG hD in
theorem tile_s (t : Fin cfg0.N) (r : Fin 256) (d : Fin 1024) : k0_pay15 (k0_pay9 (iblk m c 0 t) (iblk m c 1 t) (iblk m c 2 t)) (k0_pay10 (iblk m c 1 t)) (ix2 r d) = ((alpha * drow X W M G D (row t r) d : ℝ) : EReal) :=
  pay15 _ _ _ (fun r d => inp X W M (row t r) d) (fun r d => D (ix2 (row t r) d)) (fun d => G (ix1 d)) (tile_r m c X W M hX hW hM t) (tile_d m c D hD t) (tile_gam m c G hG t) r d

include hX hW hM hG hD in
theorem tile_da0 (t : Fin cfg0.N) (r : Fin 256) (l : Fin 1408) : (k0_pay16 (k0_pay9 (iblk m c 0 t) (iblk m c 1 t) (iblk m c 2 t)) (k0_pay10 (iblk m c 1 t)) (cutV m c t 0 inb_S2x1408x1024_S1x1408x1024_0_0_0)) (ix2 r l) = ((da X W M G D (row t r) ⟨0 * 1408 + l.val, by omega⟩ : ℝ) : EReal) := by
  rw [same16]
  exact pay25 _ _ (fun r d => dy X W M G D (row t r) d) _ (tile_y m c X W M G D hX hW hM hG hD t) (cutV_eq m c M hM t 0 (by omega) _) r l

include hX hW hM hG hD in
theorem tile_da1 (t : Fin cfg0.N) (r : Fin 256) (l : Fin 1408) : (k0_pay25 (k0_pay14 (k0_pay9 (iblk m c 0 t) (iblk m c 1 t) (iblk m c 2 t)) (k0_pay10 (iblk m c 1 t))) (cutV m c t 1 inb_S2x1408x1024_S1x1408x1024_1_0_0)) (ix2 r l) = ((da X W M G D (row t r) ⟨1 * 1408 + l.val, by omega⟩ : ℝ) : EReal) :=
  pay25 _ _ (fun r d => dy X W M G D (row t r) d) _ (tile_y m c X W M G D hX hW hM hG hD t) (cutV_eq m c M hM t 1 (by omega) _) r l

include hX hW hM hG hD in
theorem tile_dg0 (t : Fin cfg0.N) (r : Fin 256) (l : Fin 1408) : k0_pay22 (k0_pay16 (k0_pay9 (iblk m c 0 t) (iblk m c 1 t) (iblk m c 2 t)) (k0_pay10 (iblk m c 1 t)) (cutV m c t 0 inb_S2x1408x1024_S1x1408x1024_0_0_0)) (k0_pay17 (cutG m c t 0 inb_S256x2816_S256x1408_0_0)) (k0_pay18 (cutU m c t 0 inb_S256x2816_S256x1408_0_0)) (k0_pay19 (cutG m c t 0 inb_S256x2816_S256x1408_0_0)) (ix2 r l) = ((dg X W M G D (row t r) ⟨0 * 1408 + l.val, by omega⟩ : ℝ) : EReal) :=
  pay22 _ _ _ (fun r l => da X W M G D (row t r) ⟨0 * 1408 + l.val, by omega⟩) (fun r l => gt X W (row t r) ⟨0 * 1408 + l.val, by omega⟩) (fun r l => ut X W (row t r) ⟨0 * 1408 + l.val, by omega⟩) (tile_da0 m c X W M G D hX hW hM hG hD t) (cutG_eq m c X W hX hW t 0 (by omega) 0 rfl _) (cutU_eq m c X W hX hW t 0 (by omega) 0 rfl _) r l

include hX hW hM hG hD in
theorem tile_dg1 (t : Fin cfg0.N) (r : Fin 256) (l : Fin 1408) : k0_pay1 (k0_pay25 (k0_pay14 (k0_pay9 (iblk m c 0 t) (iblk m c 1 t) (iblk m c 2 t)) (k0_pay10 (iblk m c 1 t))) (cutV m c t 1 inb_S2x1408x1024_S1x1408x1024_1_0_0)) (k0_pay26 (cutG m c t 1408 inb_S256x2816_S256x1408_0_1408)) (k0_pay27 (cutU m c t 1408 inb_S256x2816_S256x1408_0_1408)) (k0_pay28 (cutG m c t 1408 inb_S256x2816_S256x1408_0_1408)) (ix2 r l) = ((dg X W M G D (row t r) ⟨1 * 1408 + l.val, by omega⟩ : ℝ) : EReal) := by
  rw [same1, same26, same27, same28]
  exact pay22 _ _ _ (fun r l => da X W M G D (row t r) ⟨1 * 1408 + l.val, by omega⟩) (fun r l => gt X W (row t r) ⟨1 * 1408 + l.val, by omega⟩) (fun r l => ut X W (row t r) ⟨1 * 1408 + l.val, by omega⟩) (tile_da1 m c X W M G D hX hW hM hG hD t) (cutG_eq m c X W hX hW t 1 (by omega) 1408 rfl _) (cutU_eq m c X W hX hW t 1 (by omega) 1408 rfl _) r l

include hX hW hM hG hD in
theorem tile_du0 (t : Fin cfg0.N) (r : Fin 256) (l : Fin 1408) : k0_pay23 (k0_pay16 (k0_pay9 (iblk m c 0 t) (iblk m c 1 t) (iblk m c 2 t)) (k0_pay10 (iblk m c 1 t)) (cutV m c t 0 inb_S2x1408x1024_S1x1408x1024_0_0_0)) (k0_pay20 (cutG m c t 0 inb_S256x2816_S256x1408_0_0)) (ix2 r l) = ((du X W M G D (row t r) ⟨0 * 1408 + l.val, by omega⟩ : ℝ) : EReal) :=
  pay23 _ _ (fun r l => da X W M G D (row t r) ⟨0 * 1408 + l.val, by omega⟩) (fun r l => gt X W (row t r) ⟨0 * 1408 + l.val, by omega⟩) (tile_da0 m c X W M G D hX hW hM hG hD t) (cutG_eq m c X W hX hW t 0 (by omega) 0 rfl _) r l

include hX hW hM hG hD in
theorem tile_du1 (t : Fin cfg0.N) (r : Fin 256) (l : Fin 1408) : k0_pay2 (k0_pay25 (k0_pay14 (k0_pay9 (iblk m c 0 t) (iblk m c 1 t) (iblk m c 2 t)) (k0_pay10 (iblk m c 1 t))) (cutV m c t 1 inb_S2x1408x1024_S1x1408x1024_1_0_0)) (k0_pay29 (cutG m c t 1408 inb_S256x2816_S256x1408_0_1408)) (ix2 r l) = ((du X W M G D (row t r) ⟨1 * 1408 + l.val, by omega⟩ : ℝ) : EReal) := by
  rw [same2, same29]
  exact pay23 _ _ (fun r l => da X W M G D (row t r) ⟨1 * 1408 + l.val, by omega⟩) (fun r l => gt X W (row t r) ⟨1 * 1408 + l.val, by omega⟩) (tile_da1 m c X W M G D hX hW hM hG hD t) (cutG_eq m c X W hX hW t 1 (by omega) 1408 rfl _) r l

include hX hW in
theorem tile_act0 (t : Fin cfg0.N) (r : Fin 256) (l : Fin 1408) : k0_pay21 (F := Ideal) (cutG m c t 0 inb_S256x2816_S256x1408_0_0) (cutU m c t 0 inb_S256x2816_S256x1408_0_0) (ix2 r l) = ((act X W (row t r) ⟨0 * 1408 + l.val, by omega⟩ : ℝ) : EReal) :=
  pay21 _ _ (fun r l => gt X W (row t r) ⟨0 * 1408 + l.val, by omega⟩) (fun r l => ut X W (row t r) ⟨0 * 1408 + l.val, by omega⟩) (cutG_eq m c X W hX hW t 0 (by omega) 0 rfl _) (cutU_eq m c X W hX hW t 0 (by omega) 0 rfl _) r l

include hX hW in
theorem tile_act1 (t : Fin cfg0.N) (r : Fin 256) (l : Fin 1408) : k0_pay30 (F := Ideal) (cutG m c t 1408 inb_S256x2816_S256x1408_0_1408) (cutU m c t 1408 inb_S256x2816_S256x1408_0_1408) (ix2 r l) = ((act X W (row t r) ⟨1 * 1408 + l.val, by omega⟩ : ℝ) : EReal) := by
  rw [same30]
  exact pay21 _ _ (fun r l => gt X W (row t r) ⟨1 * 1408 + l.val, by omega⟩) (fun r l => ut X W (row t r) ⟨1 * 1408 + l.val, by omega⟩) (cutG_eq m c X W hX hW t 1 (by omega) 1408 rfl _) (cutU_eq m c X W hX hW t 1 (by omega) 1408 rfl _) r l

/-- The product with the first weights, in the four parts that a tile adds. -/
theorem four (s : Fin 4096) (d : Fin 1024) : dx X W M G D s d = ((alpha * drow X W M G D s d
      + (∑ l : Fin 1408, dg X W M G D s ⟨0 * 1408 + l.val, by omega⟩ * W (ix2 d ⟨0 * 1408 + l.val, by omega⟩)) + ∑ l : Fin 1408, du X W M G D s ⟨0 * 1408 + l.val, by omega⟩ * W (ix2 d ⟨2 * 1408 + l.val, by omega⟩))
      + (∑ l : Fin 1408, dg X W M G D s ⟨1 * 1408 + l.val, by omega⟩ * W (ix2 d ⟨1 * 1408 + l.val, by omega⟩)) + ∑ l : Fin 1408, du X W M G D s ⟨1 * 1408 + l.val, by omega⟩ * W (ix2 d ⟨3 * 1408 + l.val, by omega⟩)) := by
  have h : ∑ j : Fin 5632, dh X W M G D s j * W (ix2 d j) = ∑ q : Fin 4, ∑ l : Fin 1408, dh X W M G D s ⟨q.val * 1408 + l.val, by omega⟩ * W (ix2 d ⟨q.val * 1408 + l.val, by omega⟩) :=
    (Fin.sum_mul_add_congr (F := fun (q : Fin 4) (l : Fin 1408) => dh X W M G D s ⟨q.val * 1408 + l.val, by omega⟩ * W (ix2 d ⟨q.val * 1408 + l.val, by omega⟩)) fun q l hl => rfl).symm
  have h0 : ∀ l : Fin 1408, dh X W M G D s ⟨0 * 1408 + l.val, by omega⟩ = dg X W M G D s ⟨0 * 1408 + l.val, by omega⟩ := fun l => dif_pos (by show 0 * 1408 + l.val < 2816; omega)
  have h1 : ∀ l : Fin 1408, dh X W M G D s ⟨1 * 1408 + l.val, by omega⟩ = dg X W M G D s ⟨1 * 1408 + l.val, by omega⟩ := fun l => dif_pos (by show 1 * 1408 + l.val < 2816; omega)
  have h2 : ∀ l : Fin 1408, dh X W M G D s ⟨2 * 1408 + l.val, by omega⟩ = du X W M G D s ⟨0 * 1408 + l.val, by omega⟩ := fun l =>
    (dif_neg (by show ¬2 * 1408 + l.val < 2816; omega)).trans (congrArg _ (Fin.ext (by show 2 * 1408 + l.val - 2816 = 0 * 1408 + l.val; omega)))
  have h3 : ∀ l : Fin 1408, dh X W M G D s ⟨3 * 1408 + l.val, by omega⟩ = du X W M G D s ⟨1 * 1408 + l.val, by omega⟩ := fun l =>
    (dif_neg (by show ¬3 * 1408 + l.val < 2816; omega)).trans (congrArg _ (Fin.ext (by show 3 * 1408 + l.val - 2816 = 1 * 1408 + l.val; omega)))
  unfold dx
  rw [h, Fin.sum_univ_four]
  show alpha * drow X W M G D s d + ((∑ l : Fin 1408, dh X W M G D s ⟨0 * 1408 + l.val, _⟩ * _) + (∑ l : Fin 1408, dh X W M G D s ⟨1 * 1408 + l.val, _⟩ * _)
    + (∑ l : Fin 1408, dh X W M G D s ⟨2 * 1408 + l.val, _⟩ * _) + (∑ l : Fin 1408, dh X W M G D s ⟨3 * 1408 + l.val, _⟩ * _)) = _
  simp only [h0, h1, h2, h3]
  show alpha * drow X W M G D s d + ((∑ l : Fin 1408, dg X W M G D s ⟨0 * 1408 + l.val, by omega⟩ * W (ix2 d ⟨0 * 1408 + l.val, _⟩)) + (∑ l : Fin 1408, dg X W M G D s ⟨1 * 1408 + l.val, by omega⟩ * W (ix2 d ⟨1 * 1408 + l.val, _⟩))
    + (∑ l : Fin 1408, du X W M G D s ⟨0 * 1408 + l.val, by omega⟩ * W (ix2 d ⟨2 * 1408 + l.val, _⟩)) + (∑ l : Fin 1408, du X W M G D s ⟨1 * 1408 + l.val, by omega⟩ * W (ix2 d ⟨3 * 1408 + l.val, _⟩))) = _
  ring

include hX hW hM hG hD in
theorem tile_x (t : Fin cfg0.N) (r : Fin 256) (d : Fin 1024) :
    k0_pay3 (k0_pay24 (k0_pay15 (k0_pay9 (iblk m c 0 t) (iblk m c 1 t) (iblk m c 2 t)) (k0_pay10 (iblk m c 1 t))) (k0_pay16 (k0_pay9 (iblk m c 0 t) (iblk m c 1 t) (iblk m c 2 t)) (k0_pay10 (iblk m c 1 t)) (cutV m c t 0 inb_S2x1408x1024_S1x1408x1024_0_0_0)) (k0_pay17 (cutG m c t 0 inb_S256x2816_S256x1408_0_0)) (k0_pay18 (cutU m c t 0 inb_S256x2816_S256x1408_0_0)) (k0_pay19 (cutG m c t 0 inb_S256x2816_S256x1408_0_0)) (k0_pay20 (cutG m c t 0 inb_S256x2816_S256x1408_0_0)) (cutW m c t 0 inb_S4x1024x1408_S1x1024x1408_0_0_0) (cutW m c t 2 inb_S4x1024x1408_S1x1024x1408_2_0_0))
      (k0_pay25 (k0_pay14 (k0_pay9 (iblk m c 0 t) (iblk m c 1 t) (iblk m c 2 t)) (k0_pay10 (iblk m c 1 t))) (cutV m c t 1 inb_S2x1408x1024_S1x1408x1024_1_0_0)) (k0_pay26 (cutG m c t 1408 inb_S256x2816_S256x1408_0_1408)) (k0_pay27 (cutU m c t 1408 inb_S256x2816_S256x1408_0_1408)) (k0_pay28 (cutG m c t 1408 inb_S256x2816_S256x1408_0_1408)) (k0_pay29 (cutG m c t 1408 inb_S256x2816_S256x1408_0_1408)) (cutW m c t 1 inb_S4x1024x1408_S1x1024x1408_1_0_0) (cutW m c t 3 inb_S4x1024x1408_S1x1024x1408_3_0_0) (ix2 r d) = ((dx X W M G D (row t r) d : ℝ) : EReal) := by
  rw [same3, same26, same27, same28, same29, four]
  exact pay24 _ _ _ (fun r l => da X W M G D (row t r) ⟨1 * 1408 + l.val, by omega⟩) (fun r l => gt X W (row t r) ⟨1 * 1408 + l.val, by omega⟩) (fun r l => ut X W (row t r) ⟨1 * 1408 + l.val, by omega⟩) (tile_da1 m c X W M G D hX hW hM hG hD t) (cutG_eq m c X W hX hW t 1 (by omega) 1408 rfl _) (cutU_eq m c X W hX hW t 1 (by omega) 1408 rfl _) _ _ _ _ _ _
    (pay24 _ _ _ (fun r l => da X W M G D (row t r) ⟨0 * 1408 + l.val, by omega⟩) (fun r l => gt X W (row t r) ⟨0 * 1408 + l.val, by omega⟩) (fun r l => ut X W (row t r) ⟨0 * 1408 + l.val, by omega⟩) (tile_da0 m c X W M G D hX hW hM hG hD t) (cutG_eq m c X W hX hW t 0 (by omega) 0 rfl _) (cutU_eq m c X W hX hW t 0 (by omega) 0 rfl _) _ _ _ _ _ _ (tile_s m c X W M G D hX hW hM hG hD t) (cutW_eq m c W hW t 0 (by omega) _) (cutW_eq m c W hW t 2 (by omega) _)) (cutW_eq m c W hW t 1 (by omega) _) (cutW_eq m c W hW t 3 (by omega) _) r d

theorem emb_h (t : Fin cfg0.N) (y : S256x5632.Idx) : ((cfg0.win 7).blk t).view.emb y = (ix2 (row t (y 0)) (y 1) : S4096x5632.Idx) := by
  rw [eq_ix2 y]; blk_ext [idx t, row]
theorem emb_a (t : Fin cfg0.N) (y : S256x2816.Idx) : ((cfg0.win 8).blk t).view.emb y = (ix2 (row t (y 0)) (y 1) : S4096x2816.Idx) := by
  rw [eq_ix2 y]; blk_ext [idx t, row]
theorem emb_x (t : Fin cfg0.N) (y : S256x1024.Idx) : ((cfg0.win 9).blk t).view.emb y = (ix2 (row t (y 0)) (y 1) : S4096x1024.Idx) := by
  rw [eq_ix2 y]; blk_ext [idx t, row]
theorem emb_y (t : Fin cfg0.N) (y : S256x1024.Idx) : ((cfg0.win 10).blk t).view.emb y = (ix2 (row t (y 0)) (y 1) : S4096x1024.Idx) := by
  rw [eq_ix2 y]; blk_ext [idx t, row]

/-- A lane of the first gradient within its piece. -/
theorem dh_piece (s : Fin 4096) (j : Fin 5632) : (∀ k, (h : k < 2) → ∀ l : Fin 1408, j.val = k * 1408 + l.val → dh X W M G D s j = dg X W M G D s ⟨k * 1408 + l.val, by omega⟩)
    ∧ ∀ k, (h : k < 2) → ∀ l : Fin 1408, j.val = 2816 + (k * 1408 + l.val) → dh X W M G D s j = du X W M G D s ⟨k * 1408 + l.val, by omega⟩ := by
  refine ⟨fun k h l e => ?_, fun k h l e => ?_⟩
  · exact (dif_pos (by omega)).trans (congrArg (dg X W M G D s) (Fin.ext e))
  · exact (dif_neg (by omega)).trans (congrArg (du X W M G D s) (Fin.ext (by show j.val - 2816 = k * 1408 + l.val; omega)))

theorem piece_g (t : Fin cfg0.N) (k : ℕ) (hk : k < 2) (r : Fin 256) (l : Fin 1408) (y : S256x5632.Idx) (e0 : (y 0).val = r.val) (e1 : (y 1).val = k * 1408 + l.val) :
    ((dg X W M G D (row t r) ⟨k * 1408 + l.val, by omega⟩ : ℝ) : EReal) = outH X W M G D (ix2 (row t (y 0)) (y 1)) := by
  have e : r = y 0 := Fin.ext e0.symm
  rw [e]
  exact congrArg (fun x : ℝ => (x : EReal)) ((dh_piece X W M G D (row t (y 0)) (y 1)).1 k hk l e1).symm
theorem piece_u (t : Fin cfg0.N) (k : ℕ) (hk : k < 2) (r : Fin 256) (l : Fin 1408) (y : S256x5632.Idx) (e0 : (y 0).val = r.val) (e1 : (y 1).val = 2816 + (k * 1408 + l.val)) :
    ((du X W M G D (row t r) ⟨k * 1408 + l.val, by omega⟩ : ℝ) : EReal) = outH X W M G D (ix2 (row t (y 0)) (y 1)) := by
  have e : r = y 0 := Fin.ext e0.symm
  rw [e]
  exact congrArg (fun x : ℝ => (x : EReal)) ((dh_piece X W M G D (row t (y 0)) (y 1)).2 k hk l e1).symm
theorem piece_a (t : Fin cfg0.N) (k : ℕ) (hk : k < 2) (r : Fin 256) (l : Fin 1408) (y : S256x2816.Idx) (e0 : (y 0).val = r.val) (e1 : (y 1).val = k * 1408 + l.val) :
    ((act X W (row t r) ⟨k * 1408 + l.val, by omega⟩ : ℝ) : EReal) = outA X W (ix2 (row t (y 0)) (y 1)) := by
  have e : r = y 0 := Fin.ext e0.symm
  rw [e]
  exact congrArg (fun q => ((act X W (row t (y 0)) q : ℝ) : EReal)) (Fin.ext e1.symm)

include hX hW hM hG hD in
theorem final_h : (dats m 0 c).arrAt 7 cfg0.N = outH X W M G D := by
  refine (dats m 0 c).arrAt_eq_of_covers 7 _ (by decide +kernel) fun t _ y => ?_
  blk_simp
  rw [after0_7, emb_h]
  by_cases h : t.val % 16 = 0
  · rw [outsAt0_A m c t h]; frame_out
    canon_tiles x hx
    · rw [eq_ix2 x]
      exact (tile_du1 m c X W M G D hX hW hM hG hD t (x 0) (x 1)).trans (piece_u X W M G D t 1 (by omega) (x 0) (x 1) y (by omega) (by omega))
    · rw [eq_ix2 x]
      exact (tile_dg1 m c X W M G D hX hW hM hG hD t (x 0) (x 1)).trans (piece_g X W M G D t 1 (by omega) (x 0) (x 1) y (by omega) (by omega))
    · rw [eq_ix2 x]
      exact (tile_du0 m c X W M G D hX hW hM hG hD t (x 0) (x 1)).trans (piece_u X W M G D t 0 (by omega) (x 0) (x 1) y (by omega) (by omega))
    · rw [eq_ix2 x]
      exact (tile_dg0 m c X W M G D hX hW hM hG hD t (x 0) (x 1)).trans (piece_g X W M G D t 0 (by omega) (x 0) (x 1) y (by omega) (by omega))
  · rw [outsAt0_B m c t h]; frame_out
    canon_tiles x hx
    · rw [eq_ix2 x]
      exact (tile_du1 m c X W M G D hX hW hM hG hD t (x 0) (x 1)).trans (piece_u X W M G D t 1 (by omega) (x 0) (x 1) y (by omega) (by omega))
    · rw [eq_ix2 x]
      exact (tile_dg1 m c X W M G D hX hW hM hG hD t (x 0) (x 1)).trans (piece_g X W M G D t 1 (by omega) (x 0) (x 1) y (by omega) (by omega))
    · rw [eq_ix2 x]
      exact (tile_du0 m c X W M G D hX hW hM hG hD t (x 0) (x 1)).trans (piece_u X W M G D t 0 (by omega) (x 0) (x 1) y (by omega) (by omega))
    · rw [eq_ix2 x]
      exact (tile_dg0 m c X W M G D hX hW hM hG hD t (x 0) (x 1)).trans (piece_g X W M G D t 0 (by omega) (x 0) (x 1) y (by omega) (by omega))

include hX hW in
theorem final_a : (dats m 0 c).arrAt 8 cfg0.N = outA X W := by
  refine (dats m 0 c).arrAt_eq_of_covers 8 _ (by decide +kernel) fun t _ y => ?_
  blk_simp
  rw [after0_8, emb_a]
  by_cases h : t.val % 16 = 0
  · rw [outsAt0_A m c t h]; frame_out
    canon_tiles x hx
    · rw [eq_ix2 x]
      exact (tile_act1 m c X W hX hW t (x 0) (x 1)).trans (piece_a X W t 1 (by omega) (x 0) (x 1) y (by omega) (by omega))
    · rw [eq_ix2 x]
      exact (tile_act0 m c X W hX hW t (x 0) (x 1)).trans (piece_a X W t 0 (by omega) (x 0) (x 1) y (by omega) (by omega))
  · rw [outsAt0_B m c t h]; frame_out
    canon_tiles x hx
    · rw [eq_ix2 x]
      exact (tile_act1 m c X W hX hW t (x 0) (x 1)).trans (piece_a X W t 1 (by omega) (x 0) (x 1) y (by omega) (by omega))
    · rw [eq_ix2 x]
      exact (tile_act0 m c X W hX hW t (x 0) (x 1)).trans (piece_a X W t 0 (by omega) (x 0) (x 1) y (by omega) (by omega))

include hX hW hM hG hD in
theorem final_x : (dats m 0 c).arrAt 9 cfg0.N = outX X W M G D := by
  refine (dats m 0 c).arrAt_eq_of_covers 9 _ (by decide +kernel) fun t _ y => ?_
  blk_simp
  rw [after0_9, emb_x]
  have e : y = ix2 (y 0) (y 1) := eq_ix2 y
  by_cases h : t.val % 16 = 0
  · rw [outsAt0_A m c t h]; frame_out
    rw [e]
    exact tile_x m c X W M G D hX hW hM hG hD t _ _
  · rw [outsAt0_B m c t h]; frame_out
    rw [e]
    exact tile_x m c X W M G D hX hW hM hG hD t _ _

include hX hW hM hG hD in
theorem final_y : (dats m 0 c).arrAt 10 cfg0.N = outY X W M G D := by
  refine (dats m 0 c).arrAt_eq_of_covers 10 _ (by decide +kernel) fun t _ y => ?_
  blk_simp
  rw [after0_10, emb_y]
  have e : y = ix2 (y 0) (y 1) := eq_ix2 y
  by_cases h : t.val % 16 = 0
  · rw [outsAt0_A m c t h]; frame_out
    rw [e]
    exact tile_y m c X W M G D hX hW hM hG hD t _ _
  · rw [outsAt0_B m c t h]; frame_out
    rw [e]
    exact tile_y m c X W M G D hX hW hM hG hD t _ _

/-- What one tile adds to the gradients of the norm's scale and shift. -/
def partG (n : ℕ) (l : Fin 1024) : EReal := ((∑ r : Fin 256, D (ix2 ⟨n % 16 * 256 + r.val, by omega⟩ l) * hat (inp X W M ⟨n % 16 * 256 + r.val, by omega⟩) l : ℝ) : EReal)
def partB (n : ℕ) (l : Fin 1024) : EReal := ((∑ r : Fin 256, D (ix2 ⟨n % 16 * 256 + r.val, by omega⟩ l) : ℝ) : EReal)

theorem row_mod (t : Fin cfg0.N) (r : Fin 256) : (⟨t.val % 16 * 256 + r.val, by omega⟩ : Fin 4096) = row t r :=
  Fin.ext (by have h := lt_of_lt_of_eq t.isLt N_0; show t.val % 16 * 256 + r.val = t.val * 256 + r.val; omega)

include hX hW hM hD in
theorem add_g (t : Fin cfg0.N) (acc : FVec Ideal S1x1024 .f32) (j) : k0_pay12 (F := Ideal) (iblk m c 0 t) (k0_pay8 (F := Ideal) (iblk m c 1 t)) acc j = acc j + partG X W M D t.val (j 1) := by
  refine (pay12 _ _ (fun r d => inp X W M (row t r) d) (fun r d => D (ix2 (row t r) d)) (tile_r m c X W M hX hW hM t) (tile_d m c D hD t) acc j).trans ?_
  unfold partG
  simp only [row_mod]

include hD in
theorem add_b (t : Fin cfg0.N) (acc : FVec Ideal S1x1024 .f32) (j) : k0_pay13 (F := Ideal) (iblk m c 0 t) acc j = acc j + partB D t.val (j 1) := by
  refine (pay13 _ (fun r d => D (ix2 (row t r) d)) (tile_d m c D hD t) acc j).trans ?_
  unfold partB
  simp only [row_mod]

include hX hW hM hD in
theorem final_g : (dats m 0 c).arrAt 11 cfg0.N = outG X W M D := by
  refine (dats m 0 c).arrAt_eq_of_after_last 11 t0_15 (by decide +kernel) _ fun j => ?_
  blk_simp
  rw [after0_11]
  refine (Pipeline.eq_sum_fin_of_reset_step_apply_last (fun n h => ((outsAt0 m c n h).2.2.2.2.1 : S1x1024.Idx → EReal)) 16 (fun _ => 0)
    (fun n j => partG X W M D n (j 1))
    (fun t h j => by rw [outsAt0_A m c t h]; frame_out; rw [add_g m c X W M D hX hW hM hD, pay4])
    (fun t h j => by rw [outsAt0_B m c t h]; frame_out; rw [add_g m c X W M D hX hW hM hD])
    (le_of_eq N_0) t0_15 rfl j).trans ((zero_add _).trans ?_)
  unfold partG
  rw [coe_sum]
  refine congrArg _ ?_
  refine Fin.sum_mul_add_congr (F := fun (s : Fin 16) (r : Fin 256) => D (ix2 ⟨s.val % 16 * 256 + r.val, by omega⟩ (j 1)) * hat (inp X W M ⟨s.val % 16 * 256 + r.val, by omega⟩) (j 1)) fun s k hl => ?_
  have e : (⟨s.val % 16 * 256 + k.val, by omega⟩ : Fin 4096) = ⟨s.val * 256 + k.val, hl⟩ := Fin.ext (by show s.val % 16 * 256 + k.val = s.val * 256 + k.val; omega)
  rw [e]

include hD in
theorem final_b : (dats m 0 c).arrAt 12 cfg0.N = outB D := by
  refine (dats m 0 c).arrAt_eq_of_after_last 12 t0_15 (by decide +kernel) _ fun j => ?_
  blk_simp
  rw [after0_12]
  refine (Pipeline.eq_sum_fin_of_reset_step_apply_last (fun n h => ((outsAt0 m c n h).2.2.2.2.2 : S1x1024.Idx → EReal)) 16 (fun _ => 0)
    (fun n j => partB D n (j 1))
    (fun t h j => by rw [outsAt0_A m c t h]; frame_out; rw [add_b m c D hD, pay5])
    (fun t h j => by rw [outsAt0_B m c t h]; frame_out; rw [add_b m c D hD])
    (le_of_eq N_0) t0_15 rfl j).trans ((zero_add _).trans ?_)
  unfold partB
  rw [coe_sum]
  refine congrArg _ ?_
  refine Fin.sum_mul_add_congr (F := fun (s : Fin 16) (r : Fin 256) => D (ix2 ⟨s.val % 16 * 256 + r.val, by omega⟩ (j 1))) fun s k hl => ?_
  have e : (⟨s.val % 16 * 256 + k.val, by omega⟩ : Fin 4096) = ⟨s.val * 256 + k.val, hl⟩ := Fin.ext (by show s.val % 16 * 256 + k.val = s.val * 256 + k.val; omega)
  rw [e]

end arrays

end Cert.FfnKernelIdeal.Hand
-- ==== Proof.Ln.lean ====
/-
  The gradient of a mixing layer's norm: the kernel's tiles of 512 rows and the chain rule of the plain lines give the same real numbers.
-/
module

public import proofs.«01_k».proof.Proof.Gen.LnKernelIdeal.Value
public import proofs.«01_k».proof.Proof.Gen.LnReferenceIdeal.Run
public import proofs.«01_k».proof.Proof.Gen.LnReferenceIdeal.Read
public import Idealize.ShloMosaic.Lib.Pipeline.ValueKit
public import Idealize.ShloMosaic.Lib.Pointwise
public import proofs.«01_k».proof.Proof.Reals
public import proofs.«01_k».proof.Proof.NormReal

@[expose] public section

set_option maxRecDepth 16384

noncomputable section

open Idealize.ShloMosaic Idealize.ShloMosaic.TcCoe Idealize.SL.Sem
open Idealize.ShloMosaic.Pipeline (Dat)

namespace Cert.LnKernelIdeal.Hand

open Cert.LnKernelIdeal Cert.LnKernelIdeal.Gen Cert.Reals Cert.NormReal

variable (m : (ℓ : Loc nD τ sig) → Buf (Elt Ideal) ℓ)

section rows
variable (x d : FVec Ideal S512x1024 .f32) (g : FVec Ideal S1x1024 .f32) (X D : Fin 512 → Fin 1024 → ℝ) (G : Fin 1024 → ℝ)
  (hx : ∀ r l, x (ix2 r l) = ((X r l : ℝ) : EReal)) (hd : ∀ r l, d (ix2 r l) = ((D r l : ℝ) : EReal))
  (hg : ∀ l, g (ix2 0 l) = ((G l : ℝ) : EReal))

include hx in
theorem pay5 (r l) : k0_pay5 (F := Ideal) x (ix2 r l) = ((cen (X r) l : ℝ) : EReal) := by
  pointwise [k0_pay5]
  simp only [hx, coe_sum, c_1024, coe_div _ _ (show (1024 : ℝ) ≠ 0 by norm_num), ← EReal.coe_sub]
  rfl

include hx in
theorem pay6 (r) : k0_pay6 (F := Ideal) x (ix2 r 0) = ((rstd (X r) : ℝ) : EReal) := by
  pointwise [k0_pay6]
  simp only [pay5 x X hx, coe_sum, c_1024, c_eps, coe_div _ _ (show (1024 : ℝ) ≠ 0 by norm_num), ← EReal.coe_mul, ← EReal.coe_add]
  exact coe_rstd (X r)

include hx in
theorem pay7 (r l) : k0_pay7 (F := Ideal) x (ix2 r l) = ((hat (X r) l : ℝ) : EReal) := by
  pointwise [k0_pay7]
  simp only [pay5 x X hx, pay6 x X hx, ← EReal.coe_mul]
  rfl

include hx hd hg in
theorem pay8 (r l) : k0_pay8 (F := Ideal) d x g (ix2 r l) = ((dr (fun k => D r k * G k) (X r) l : ℝ) : EReal) := by
  pointwise [k0_pay8]
  simp only [pay7 x X hx, pay6 x X hx, hd, hg, coe_sum, c_1024, coe_div _ _ (show (1024 : ℝ) ≠ 0 by norm_num), ← EReal.coe_mul, ← EReal.coe_sub]
  rfl

include hx hd in
theorem pay1 (acc : FVec Ideal S1x1024 .f32) (j) : k0_pay1 (F := Ideal) d (k0_pay7 (F := Ideal) x) acc j
    = acc j + ((∑ r, D r (j 1) * hat (X r) (j 1) : ℝ) : EReal) := by
  idx_vars j
  pointwise [k0_pay1]
  simp only [pay7 x X hx, hd, coe_sum, ← EReal.coe_mul]

include hd in
theorem pay2 (acc : FVec Ideal S1x1024 .f32) (j) : k0_pay2 (F := Ideal) d acc j = acc j + ((∑ r, D r (j 1) : ℝ) : EReal) := by
  idx_vars j
  pointwise [k0_pay2]
  simp only [hd, coe_sum]

theorem pay3 (j) : k0_pay3 (F := Ideal) j = 0 := by pointwise [k0_pay3]
theorem pay4 (j) : k0_pay4 (F := Ideal) j = 0 := by pointwise [k0_pay4]

end rows

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

section arrays
variable (c : Dev nD) (D X : S4096x1024.Idx → ℝ) (G : S1024.Idx → ℝ)
  (hd : m ((c : Thread nD τ).loc main_arg0) = fun i => ((D i : ℝ) : EReal)) (hx : m ((c : Thread nD τ).loc main_arg1) = fun i => ((X i : ℝ) : EReal))
  (hg : m ((c : Thread nD τ).loc main_arg2) = fun i => ((G i : ℝ) : EReal))

/-- Row `r` of tile `t`, as a row of the whole array. -/
def row (Y : S4096x1024.Idx → ℝ) (r : Nat) (h : r < 4096) : Fin 1024 → ℝ := fun l => Y (ix2 ⟨r, h⟩ l)

theorem lt_row (t : Fin cfg0.N) (r : Fin 512) : t.val * 512 + r.val < 4096 := by
  have h := lt_of_lt_of_eq t.isLt N_0; omega

include hd in
theorem tile_d (t : Fin cfg0.N) (r : Fin 512) (l : Fin 1024) : iblk m c 0 t (ix2 r l) = ((row D _ (lt_row t r) l : ℝ) : EReal) := by
  refine Eq.trans ?_ (congrFun hd (ix2 ⟨t.val * 512 + r.val, lt_row t r⟩ l))
  blk_point [iblk, V, idx t]

include hx in
theorem tile_x (t : Fin cfg0.N) (r : Fin 512) (l : Fin 1024) : iblk m c 1 t (ix2 r l) = ((row X _ (lt_row t r) l : ℝ) : EReal) := by
  refine Eq.trans ?_ (congrFun hx (ix2 ⟨t.val * 512 + r.val, lt_row t r⟩ l))
  blk_point [iblk, V, idx t]

include hg in
theorem tile_g (t : Fin cfg0.N) (l : Fin 1024) : iblk m c 2 t (ix2 0 l) = ((G (ix1 l) : ℝ) : EReal) := by
  refine Eq.trans ?_ (congrFun hg (ix1 l))
  have e : ((cfg0.win 2).blk t).view.emb (ix2 (0 : Fin 1) l) = (ix2 (0 : Fin 1) l : S1x1024.Idx) := by blk_ext [idx t]
  show V m c main_v0 (((cfg0.win 2).blk t).view.emb (ix2 (0 : Fin 1) l)) = _
  entry_read
  rw [e]
  show shapeCast S1x1024 (m (c, Proc.tc.devRef main_arg2)) shapeCasts_S1024_S1x1024 (ix2 0 l) = _
  pointwise

/-- The three results. -/
def outR (D X : S4096x1024.Idx → ℝ) (G : S1024.Idx → ℝ) : FVec Ideal S4096x1024 .f32 :=
  fun j => ((dr (fun k => D (ix2 (j 0) k) * G (ix1 k)) (fun k => X (ix2 (j 0) k)) (j 1) : ℝ) : EReal)
def outG (D X : S4096x1024.Idx → ℝ) : FVec Ideal S1x1024 .f32 :=
  fun j => ((∑ r : Fin 4096, D (ix2 r (j 1)) * hat (fun k => X (ix2 r k)) (j 1) : ℝ) : EReal)
def outB (D : S4096x1024.Idx → ℝ) : FVec Ideal S1x1024 .f32 := fun j => ((∑ r : Fin 4096, D (ix2 r (j 1)) : ℝ) : EReal)

include hd hx hg in
theorem final_r : (dats m 0 c).arrAt 3 cfg0.N = outR D X G := by
  refine (dats m 0 c).arrAt_eq_of_covers 3 _ (by decide +kernel) fun t _ y => ?_
  blk_simp
  rw [after0_3]
  have key : ∀ y : S512x1024.Idx, k0_pay8 (F := Ideal) (iblk m c 0 t) (iblk m c 1 t) (iblk m c 2 t) y
      = outR D X G (((cfg0.win 3).blk t).view.emb y) := by
    intro y
    rw [eq_ix2 y]
    refine (pay8 _ _ _ _ _ _ (tile_x m c X hx t) (tile_d m c D hd t) (tile_g m c G hg t) _ _).trans ?_
    have e : ((cfg0.win 3).blk t).view.emb (ix2 (y 0) (y 1)) = (ix2 ⟨t.val * 512 + (y 0).val, lt_row t (y 0)⟩ (y 1) : S4096x1024.Idx) := by
      blk_ext [idx t]
    rw [e]; rfl
  by_cases h : t.val % 8 = 0
  · rw [outsAt0_A m c t h]; frame_out; exact key y
  · rw [outsAt0_B m c t h]; frame_out; exact key y

include hd hx in
theorem final_g : (dats m 0 c).arrAt 4 cfg0.N = outG D X := by
  refine (dats m 0 c).arrAt_eq_of_after_last 4 t0_7 (by decide +kernel) _ fun j => ?_
  blk_simp
  rw [after0_4]
  refine (Pipeline.eq_sum_fin_of_reset_step_apply_last (fun n h => ((outsAt0 m c n h).2.1 : S1x1024.Idx → EReal)) 8 (fun _ => 0) _
    (fun t h j => by rw [outsAt0_A m c t h]; frame_out; rw [pay1 _ _ _ _ (tile_x m c X hx t) (tile_d m c D hd t), pay3])
    (fun t h j => by rw [outsAt0_B m c t h]; frame_out; rw [pay1 _ _ _ _ (tile_x m c X hx t) (tile_d m c D hd t)])
    (le_of_eq N_0) t0_7 rfl j).trans ((zero_add _).trans ?_)
  rw [coe_sum]
  refine congrArg _ ?_
  exact Fin.sum_mul_add_congr fun s k hl => rfl

include hd in
theorem final_b : (dats m 0 c).arrAt 5 cfg0.N = outB D := by
  refine (dats m 0 c).arrAt_eq_of_after_last 5 t0_7 (by decide +kernel) _ fun j => ?_
  blk_simp
  rw [after0_5]
  refine (Pipeline.eq_sum_fin_of_reset_step_apply_last (fun n h => ((outsAt0 m c n h).2.2 : S1x1024.Idx → EReal)) 8 (fun _ => 0) _
    (fun t h j => by rw [outsAt0_A m c t h]; frame_out; rw [pay2 _ _ (tile_d m c D hd t), pay4])
    (fun t h j => by rw [outsAt0_B m c t h]; frame_out; rw [pay2 _ _ (tile_d m c D hd t)])
    (le_of_eq N_0) t0_7 rfl j).trans ((zero_add _).trans ?_)
  rw [coe_sum]
  refine congrArg _ ?_
  exact Fin.sum_mul_add_congr fun s k hl => rfl

end arrays

end Cert.LnKernelIdeal.Hand

namespace Cert.LnReferenceIdeal.Hand

open Cert.LnReferenceIdeal Cert.LnReferenceIdeal.Gen Cert.LnReferenceIdeal.Read Cert.Reals Cert.NormReal

variable (D X : S4096x1024.Idx → ℝ) (G : S1024.Idx → ℝ)

/-- An array of real numbers, as the programs hold it. -/
abbrev up {s : Shape} (f : s.Idx → ℝ) : FVec Ideal s .f32 := fun i => ((f i : ℝ) : EReal)

/-- Row `r` of the norm's input. -/
def rw_ (r : Fin 4096) : Fin 1024 → ℝ := fun k => X (ix2 r k)

theorem v5 (r l) : val_main_v5 (F := Ideal) (up X) (ix2 r l) = ((cen (rw_ X r) l : ℝ) : EReal) := by
  pointwise [val_main_v5, val_main_v4, val_main_v3, val_main_v2, val_main_cst_0, val_main_v1, val_main_v0, val_main_cst]
  simp only [coe_sum, c_1024, coe_div _ _ (show (1024 : ℝ) ≠ 0 by norm_num), ← EReal.coe_sub]
  rfl

theorem v14 (r l) : val_main_v14 (F := Ideal) (up X) (ix2 r l) = ((cen (rw_ X r) l : ℝ) : EReal) := v5 X r l

theorem v16 (r) : val_main_v16 (F := Ideal) (up X) (ix2 r 0) = ((vare (rw_ X r) : ℝ) : EReal) := by
  pointwise [val_main_v16, val_main_v15, val_main_cst_4, val_main_v12, val_main_v11, val_main_cst_3, val_main_v10, val_main_v9, val_main_v6, val_main_cst_2]
  simp only [v5, coe_sum, c_1024, c_eps, coe_div _ _ (show (1024 : ℝ) ≠ 0 by norm_num), ← EReal.coe_mul, ← EReal.coe_add]
  rfl

theorem v17 (r) : val_main_v17 (F := Ideal) (up X) (ix2 r 0) = ((rstd (rw_ X r) : ℝ) : EReal) := by
  pointwise [val_main_v17]
  rw [v16]; exact coe_rstd _

theorem c_mhalf : Ideal.ofBits .f32 0xBF000000#32 = ((-1 / 2 : ℝ) : EReal) := by
  simp [Ideal.ofBits, Ideal.ieee, -EReal.coe_mul, -EReal.coe_neg]; norm_num

theorem v20 (r) : val_main_v20 (F := Ideal) (up X) (ix2 r 0) = ((-1 / 2 * (rstd (rw_ X r) / vare (rw_ X r)) : ℝ) : EReal) := by
  pointwise [val_main_v20, val_main_v19, val_main_v18, val_main_cst_5]
  rw [v16, v17, c_mhalf, coe_div _ _ (vare_pos _).ne', ← EReal.coe_mul]

theorem v22 (r l) : val_main_v22 (F := Ideal) (up X) (ix2 r l) = ((hat (rw_ X r) l : ℝ) : EReal) := by
  pointwise [val_main_v22, val_main_v21]
  rw [v14, v17, ← EReal.coe_mul]; rfl

theorem v37 (r l) : val_main_v37 (F := Ideal) (up D) (up G) (ix2 r l) = ((D (ix2 r l) * G (ix1 l) : ℝ) : EReal) := by
  pointwise [val_main_v37, val_main_v36, val_main_v29, val_main_v23]
  rw [← EReal.coe_mul]

theorem v43 (r l) : val_main_v43 (F := Ideal) (up D) (up X) (up G) (ix2 r l) = ((D (ix2 r l) * G (ix1 l) * rstd (rw_ X r) : ℝ) : EReal) := by
  pointwise [val_main_v43, val_main_v42]
  rw [v37, v17, ← EReal.coe_mul]

theorem v52 (r l) : val_main_v52 (F := Ideal) (up D) (up X) (up G) (ix2 r l) = (((∑ k, cen (rw_ X r) k * (D (ix2 r k) * G (ix1 k)))
    * (-1 / 2 * (rstd (rw_ X r) / vare (rw_ X r))) / 1024 * (2 * cen (rw_ X r) l) : ℝ) : EReal) := by
  pointwise [val_main_v52, val_main_v51, val_main_v50, val_main_cst_13, val_main_v49, val_main_v48, val_main_cst_12, val_main_v44, val_main_v41, val_main_v40,
    val_main_cst_10, val_main_v39, val_main_v8, val_main_v7, val_main_cst_1]
  simp only [Fin.sum_univ_one, Fin.isValue, v5, v14, v37, v20, coe_sum, c_1024, c_two, coe_div _ _ (show (1024 : ℝ) ≠ 0 by norm_num), ← EReal.coe_mul]

theorem ref_r : val_main_v62 (F := Ideal) (up D) (up X) (up G) = Cert.LnKernelIdeal.Hand.outR D X G := by
  funext j
  idx_vars j
  pointwise [val_main_v62, val_main_v61, val_main_v60, val_main_cst_16, val_main_v59, val_main_v58, val_main_cst_15, val_main_v57, val_main_v55, val_main_v54,
    val_main_cst_14, val_main_v53, val_main_v47, val_main_v46, val_main_cst_11, val_main_v45, val_main_v56]
  simp only [Fin.sum_univ_one, Fin.isValue, v43, v52, coe_sum, c_1024, coe_div _ _ (show (1024 : ℝ) ≠ 0 by norm_num), ← EReal.coe_mul, ← EReal.coe_add, ← EReal.coe_neg]
  exact congrArg _ (chain (fun k => D (ix2 j0 k) * G (ix1 k)) (rw_ X j0) j1)

theorem ref_g : val_main_v63 (F := Ideal) (up D) (up X) = Cert.LnKernelIdeal.Hand.outG D X := by
  funext j
  idx_vars j
  pointwise [val_main_v63, val_main_v38, val_main_cst_9, val_main_v35, val_main_v34, val_main_cst_8, val_main_v33, val_main_v29]
  simp only [Fin.sum_univ_one, Fin.isValue, v22, coe_sum, ← EReal.coe_mul]
  refine congrArg _ (Finset.sum_congr rfl fun r _ => mul_comm _ _)

theorem ref_b : val_main_v64 (F := Ideal) (up D) = Cert.LnKernelIdeal.Hand.outB D := by
  funext j
  idx_vars j
  pointwise [val_main_v64, val_main_v32, val_main_cst_7, val_main_v31, val_main_v30, val_main_cst_6]
  simp only [Fin.sum_univ_one, Fin.isValue, coe_sum]
  rfl

end Cert.LnReferenceIdeal.Hand
-- ==== Proof.RopeRef.lean ====
/-
  The rotary gradient as the plain lines write it: each head's first eight lanes and the next eight are turned back by the position's angle.
-/
module

public import proofs.«01_k».proof.Proof.Gen.RopeReferenceIdeal.Read
public import Idealize.ShloMosaic.Lib.Pointwise
public import proofs.«01_k».proof.Proof.Reals

@[expose] public section

set_option maxRecDepth 16384

noncomputable section

open Idealize.ShloMosaic

namespace Cert.RopeReferenceIdeal.Hand
open Cert.RopeReferenceIdeal Cert.RopeReferenceIdeal.Read Cert.Reals

/-- A group's cotangents. -/
abbrev Arr := S4096x256.Idx → EReal

/-- The cosine of the angle of a position and a frequency, -/
abbrev cs (r : Fin 4096) (e : ℕ) : EReal := val_main_v14 (F := Ideal) (ix2 r ⟨e % 8, Nat.mod_lt _ (by decide)⟩)

/-- and its sine. -/
abbrev sn (r : Fin 4096) (e : ℕ) : EReal := val_main_v15 (F := Ideal) (ix2 r ⟨e % 8, Nat.mod_lt _ (by decide)⟩)

/-- An array's entry at a lane given as a number. -/
def tap (D : Arr) (r : Fin 4096) (w : ℕ) : EReal := D (ix2 r ⟨w % 256, Nat.mod_lt _ (by decide)⟩)

/-- A head's lane turned back. -/
def turn (D : Arr) (r : Fin 4096) (w : ℕ) : EReal :=
  if w % 64 < 8 then tap D r w * cs r w + tap D r (w + 8) * sn r w
  else if w % 64 < 16 then tap D r w * cs r w + -(tap D r (w - 8) * sn r w)
  else tap D r w

/-- One of three groups. -/
def pick (A B C : Arr) (g : ℕ) : Arr := if g = 0 then A else if g = 1 then B else C

theorem tap_eq (D : Arr) (r : Fin 4096) (w : ℕ) (a : Fin 256) (e : w = a.val) : tap D r w = D (ix2 r a) := by
  subst e
  exact congrArg (fun k => D (ix2 r k)) (Fin.ext (Nat.mod_eq_of_lt a.isLt))

/-- Three arrays set side by side, each with zeros elsewhere, and added. -/
theorem groups (A B C : Arr) (r : Fin 4096) (h : Fin 12) (e : Fin 64) :
    (((if p : 8 ≤ h.val ∧ h.val - 8 < 4 then C (ix2 r ⟨(h.val - 8) * 64 + e.val, by omega⟩) else 0)
      + if p : 4 ≤ h.val ∧ h.val - 4 < 4 then B (ix2 r ⟨(h.val - 4) * 64 + e.val, by omega⟩) else 0)
      + if p : h.val < 4 then A (ix2 r ⟨h.val * 64 + e.val, by omega⟩) else 0 : EReal)
    = tap (pick A B C (h.val / 4)) r (h.val % 4 * 64 + e.val) := by
  have hh := h.isLt
  have he := e.isLt
  by_cases h4 : h.val < 4
  · rw [dif_neg (by omega), dif_neg (by omega), dif_pos h4, add_zero, zero_add, pick, if_pos (by omega)]
    exact (tap_eq _ _ _ _ (by show _ = h.val * 64 + e.val; omega)).symm
  · by_cases h8 : h.val < 8
    · rw [dif_neg (by omega), dif_pos (by omega), dif_neg h4, add_zero, zero_add, pick, if_neg (by omega), if_pos (by omega)]
      exact (tap_eq _ _ _ _ (by show _ = (h.val - 4) * 64 + e.val; omega)).symm
    · rw [dif_pos (by omega), dif_neg (by omega), dif_neg h4, add_zero, add_zero, pick, if_neg (by omega), if_neg (by omega)]
      exact (tap_eq _ _ _ _ (by show _ = (h.val - 8) * 64 + e.val; omega)).symm

theorem group_k (x3 x4 x5 : Arr) (r : Fin 4096) (h : Fin 12) (e : Fin 64) :
    val_main_v94 (F := Ideal) x3 x4 x5 (ix3 r h e) = tap (pick x3 x4 x5 (h.val / 4)) r (h.val % 4 * 64 + e.val) := by
  pointwise [val_main_v94, val_main_v91, val_main_v93, val_main_v88, val_main_v90, val_main_v87, val_main_v89, val_main_v92, val_main_cst_9, val_main_cst_10, val_main_cst_11]
  exact groups _ _ _ r h e

theorem group_q (x0 x1 x2 : Arr) (r : Fin 4096) (h : Fin 12) (e : Fin 64) :
    val_main_v102 (F := Ideal) x0 x1 x2 (ix3 r h e) = tap (pick x0 x1 x2 (h.val / 4)) r (h.val % 4 * 64 + e.val) := by
  pointwise [val_main_v102, val_main_v99, val_main_v101, val_main_v96, val_main_v98, val_main_v95, val_main_v97, val_main_v100, val_main_cst_12, val_main_cst_13, val_main_cst_14]
  exact groups _ _ _ r h e

theorem group_v (x6 x7 x8 : Arr) (r : Fin 4096) (h : Fin 12) (e : Fin 64) :
    val_main_v86 (F := Ideal) x6 x7 x8 (ix3 r h e) = tap (pick x6 x7 x8 (h.val / 4)) r (h.val % 4 * 64 + e.val) := by
  pointwise [val_main_v86, val_main_v83, val_main_v85, val_main_v80, val_main_v82, val_main_v79, val_main_v81, val_main_v84, val_main_cst_6, val_main_cst_7, val_main_cst_8]
  exact groups _ _ _ r h e

/-- The factor of the queries. -/
abbrev eighth : EReal := Ideal.ofBits .f32 0x3E000000#32

theorem eighth_nonneg : (0 : EReal) ≤ eighth := by
  have e : eighth = (((1 : ℝ) / 8 : ℝ) : EReal) := by simp [eighth, Ideal.ofBits, Ideal.ieee, -EReal.coe_mul]; norm_num
  rw [e]; exact EReal.coe_nonneg.mpr (by norm_num)

theorem eighth_ne_top : eighth ≠ ⊤ := by
  have e : eighth = (((1 : ℝ) / 8 : ℝ) : EReal) := by simp [eighth, Ideal.ofBits, Ideal.ieee, -EReal.coe_mul]; norm_num
  rw [e]; exact EReal.coe_ne_top _

theorem scale_add (a b : EReal) : (a + b) * eighth = a * eighth + b * eighth :=
  EReal.right_distrib_of_nonneg_of_ne_top eighth_nonneg eighth_ne_top a b

/-- A head's three parts, each set in its own lanes with zeros elsewhere, and added. -/
theorem parts (D : Arr) (r : Fin 4096) (b : ℕ) (hb : b % 64 = 0) (e : Fin 64) (P Q R : EReal)
    (hP : 16 ≤ e.val → P = tap D r (b + e.val)) (hQ : 8 ≤ e.val → e.val < 16 → Q = tap D r (b + e.val) * cs r e.val + -(tap D r (b + e.val - 8) * sn r e.val))
    (hR : e.val < 8 → R = tap D r (b + e.val) * cs r e.val + tap D r (b + e.val + 8) * sn r e.val) :
    ((if 16 ≤ e.val ∧ e.val - 16 < 48 then P else 0) + (if 8 ≤ e.val ∧ e.val - 8 < 8 then Q else 0)) + (if e.val < 8 then R else 0) = turn D r (b + e.val) := by
  have he := e.isLt
  have hm : (b + e.val) % 64 = e.val := by omega
  have hc : cs r (b + e.val) = cs r e.val := congrArg (fun k => val_main_v14 (F := Ideal) (ix2 r k)) (Fin.ext (by show (b + e.val) % 8 = e.val % 8; omega))
  have hs : sn r (b + e.val) = sn r e.val := congrArg (fun k => val_main_v15 (F := Ideal) (ix2 r k)) (Fin.ext (by show (b + e.val) % 8 = e.val % 8; omega))
  unfold turn
  rw [hm, hc, hs]
  by_cases h8 : e.val < 8
  · rw [if_neg (by omega), if_neg (by omega), if_pos h8, if_pos h8, zero_add, zero_add, hR h8]
  · by_cases h16 : e.val < 16
    · rw [if_neg (by omega), if_pos (by omega), if_neg h8, if_neg h8, if_pos h16, zero_add, add_zero, hQ (by omega) h16]
    · rw [if_pos (by omega), if_neg (by omega), if_neg h8, if_neg h8, if_neg h16, add_zero, add_zero, hP (by omega)]

theorem cs_eq (r : Fin 4096) (w : ℕ) (a : Fin 8) (e : w % 8 = a.val) : val_main_v14 (F := Ideal) (ix2 r a) = cs r w :=
  congrArg (fun k => val_main_v14 (F := Ideal) (ix2 r k)) (Fin.ext e.symm)

theorem sn_eq (r : Fin 4096) (w : ℕ) (a : Fin 8) (e : w % 8 = a.val) : val_main_v15 (F := Ideal) (ix2 r a) = sn r w :=
  congrArg (fun k => val_main_v15 (F := Ideal) (ix2 r k)) (Fin.ext e.symm)

theorem back_k (x3 x4 x5 : Arr) (r : Fin 4096) (h : Fin 12) (e : Fin 64) :
    val_main_v121 (F := Ideal) x3 x4 x5 (ix3 r h e) = turn (pick x3 x4 x5 (h.val / 4)) r (h.val % 4 * 64 + e.val) := by
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v42, val_main_v41, val_main_cst_15, val_main_cst_16, val_main_cst_17]
  rw [← parts (pick x3 x4 x5 (h.val / 4)) r (h.val % 4 * 64) (by omega) e (tap (pick x3 x4 x5 (h.val / 4)) r (h.val % 4 * 64 + e.val))
    (tap (pick x3 x4 x5 (h.val / 4)) r (h.val % 4 * 64 + e.val) * cs r e.val + -(tap (pick x3 x4 x5 (h.val / 4)) r (h.val % 4 * 64 + e.val - 8) * sn r e.val))
    (tap (pick x3 x4 x5 (h.val / 4)) r (h.val % 4 * 64 + e.val) * cs r e.val + tap (pick x3 x4 x5 (h.val / 4)) r (h.val % 4 * 64 + e.val + 8) * sn r e.val)
    (fun _ => rfl) (fun _ _ => rfl) (fun _ => rfl)]
  have he := e.isLt
  refine congrArg₂ (· + ·) (congrArg₂ (· + ·) ?_ ?_) ?_
  · by_cases p : 16 ≤ e.val ∧ e.val - 16 < 48
    · rw [dif_pos p, if_pos p, group_k]
      exact congrArg (tap _ r) (by show _ + (16 + (e.val - 16)) = _; omega)
    · rw [dif_neg p, if_neg p]
  · by_cases p : 8 ≤ e.val ∧ e.val - 8 < 8
    · rw [dif_pos p, if_pos p, group_k, group_k, EReal.neg_mul]
      refine congrArg₂ (· + ·) (congrArg₂ (· * ·) (congrArg (tap _ r) ?_) (cs_eq r _ _ ?_)) (congrArg Neg.neg (congrArg₂ (· * ·) (congrArg (tap _ r) ?_) (sn_eq r _ _ ?_)))
      · show _ + (8 + (e.val - 8)) = _; omega
      · show e.val % 8 = e.val - 8; omega
      · show _ + (e.val - 8) = _; omega
      · show e.val % 8 = e.val - 8; omega
    · rw [dif_neg p, if_neg p]
  · by_cases p : e.val < 8
    · rw [dif_pos p, if_pos p, group_k, group_k, add_comm]
      refine congrArg₂ (· + ·) (congrArg₂ (· * ·) rfl (cs_eq r _ _ ?_)) (congrArg₂ (· * ·) (congrArg (tap _ r) ?_) (sn_eq r _ _ ?_))
      · show e.val % 8 = e.val; omega
      · show _ + (8 + e.val) = _; omega
      · show e.val % 8 = e.val; omega
    · rw [dif_neg p, if_neg p]

theorem scale_mul (a b : EReal) : a * eighth * b = a * b * eighth := by rw [mul_assoc, mul_comm eighth, ← mul_assoc]

theorem back_q (x0 x1 x2 : Arr) (r : Fin 4096) (h : Fin 12) (e : Fin 64) :
    val_main_v142 (F := Ideal) x0 x1 x2 (ix3 r h e) = turn (pick x0 x1 x2 (h.val / 4)) r (h.val % 4 * 64 + e.val) * eighth := by
  pointwise [val_main_v123, val_main_v122, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v23, val_main_v24, val_main_cst_18, val_main_cst_19, val_main_cst_20, val_main_cst_21]
  rw [← parts (pick x0 x1 x2 (h.val / 4)) r (h.val % 4 * 64) (by omega) e (tap (pick x0 x1 x2 (h.val / 4)) r (h.val % 4 * 64 + e.val))
    (tap (pick x0 x1 x2 (h.val / 4)) r (h.val % 4 * 64 + e.val) * cs r e.val + -(tap (pick x0 x1 x2 (h.val / 4)) r (h.val % 4 * 64 + e.val - 8) * sn r e.val))
    (tap (pick x0 x1 x2 (h.val / 4)) r (h.val % 4 * 64 + e.val) * cs r e.val + tap (pick x0 x1 x2 (h.val / 4)) r (h.val % 4 * 64 + e.val + 8) * sn r e.val)
    (fun _ => rfl) (fun _ _ => rfl) (fun _ => rfl), scale_add, scale_add]
  have he := e.isLt
  refine congrArg₂ (· + ·) (congrArg₂ (· + ·) ?_ ?_) ?_
  · by_cases p : 16 ≤ e.val ∧ e.val - 16 < 48
    · rw [dif_pos p, if_pos p, group_q]
      exact congrArg (fun n => tap _ r n * eighth) (by show _ + (16 + (e.val - 16)) = _; omega)
    · rw [dif_neg p, if_neg p, zero_mul]
  · by_cases p : 8 ≤ e.val ∧ e.val - 8 < 8
    · rw [dif_pos p, if_pos p, group_q, group_q, EReal.neg_mul, scale_add, EReal.neg_mul, scale_mul, scale_mul]
      refine congrArg₂ (· + ·) (congrArg (· * eighth) (congrArg₂ (· * ·) (congrArg (tap _ r) ?_) (cs_eq r _ _ ?_))) (congrArg Neg.neg (congrArg (· * eighth) (congrArg₂ (· * ·) (congrArg (tap _ r) ?_) (sn_eq r _ _ ?_))))
      · show _ + (8 + (e.val - 8)) = _; omega
      · show e.val % 8 = e.val - 8; omega
      · show _ + (e.val - 8) = _; omega
      · show e.val % 8 = e.val - 8; omega
    · rw [dif_neg p, if_neg p, zero_mul]
  · by_cases p : e.val < 8
    · rw [dif_pos p, if_pos p, group_q, group_q, add_comm, scale_add, scale_mul, scale_mul]
      refine congrArg₂ (· + ·) (congrArg (· * eighth) (congrArg₂ (· * ·) rfl (cs_eq r _ _ ?_))) (congrArg (· * eighth) (congrArg₂ (· * ·) (congrArg (tap _ r) ?_) (sn_eq r _ _ ?_)))
      · show e.val % 8 = e.val; omega
      · show _ + (8 + e.val) = _; omega
      · show e.val % 8 = e.val; omega
    · rw [dif_neg p, if_neg p, zero_mul]

/-- The assembled gradient: the queries' lanes, the keys', the values' and the memory queries'. -/
def res (x0 x1 x2 x3 x4 x5 x6 x7 x8 x9 : Arr) : S4096x2560.Idx → EReal := fun j =>
  if (j 1).val < 768 then turn (pick x0 x1 x2 ((j 1).val / 256)) (j 0) ((j 1).val % 256) * eighth
  else if (j 1).val < 1536 then turn (pick x3 x4 x5 (((j 1).val - 768) / 256)) (j 0) (((j 1).val - 768) % 256)
  else if (j 1).val < 2304 then tap (pick x6 x7 x8 (((j 1).val - 1536) / 256)) (j 0) (((j 1).val - 1536) % 256)
  else tap x9 (j 0) ((j 1).val - 2304) * eighth

theorem split_lane (l : ℕ) : l / 64 / 4 = l / 256 ∧ l / 64 % 4 * 64 + l % 64 = l % 256 := by omega

theorem whole (x0 x1 x2 x3 x4 x5 x6 x7 x8 x9 : Arr) (r : Fin 4096) (l : Fin 2560) :
    val_main_v152 (F := Ideal) x0 x1 x2 x3 x4 x5 x6 x7 x8 x9 (ix2 r l) = res x0 x1 x2 x3 x4 x5 x6 x7 x8 x9 (ix2 r l) := by
  pointwise [val_main_v152, val_main_v151, val_main_v150, val_main_v149, val_main_v148, val_main_v147, val_main_v146, val_main_v145, val_main_v144, val_main_v143, val_main_v78, val_main_v77, val_main_cst_22, val_main_cst_23, val_main_cst_24, val_main_cst_25, val_main_cst_5]
  have hl := l.isLt
  show _ = (if l.val < 768 then turn (pick x0 x1 x2 (l.val / 256)) r (l.val % 256) * eighth
    else if l.val < 1536 then turn (pick x3 x4 x5 ((l.val - 768) / 256)) r ((l.val - 768) % 256)
    else if l.val < 2304 then tap (pick x6 x7 x8 ((l.val - 1536) / 256)) r ((l.val - 1536) % 256)
    else tap x9 r (l.val - 2304) * eighth)
  by_cases h0 : l.val < 768
  · rw [dif_neg (by omega), dif_neg (by omega), dif_neg (by omega), dif_pos h0, if_pos h0, zero_add, zero_add, zero_add, back_q]
    simp only [(split_lane l.val).1, (split_lane l.val).2]
  · by_cases h1 : l.val < 1536
    · rw [dif_neg (by omega), dif_neg (by omega), dif_pos (by omega), dif_neg h0, if_neg h0, if_pos h1, zero_add, zero_add, add_zero, back_k]
      simp only [(split_lane (l.val - 768)).1, (split_lane (l.val - 768)).2]
    · by_cases h2 : l.val < 2304
      · rw [dif_neg (by omega), dif_pos (by omega), dif_neg (by omega), dif_neg h0, if_neg h0, if_neg h1, if_pos h2, zero_add, add_zero, add_zero, group_v]
        simp only [(split_lane (l.val - 1536)).1, (split_lane (l.val - 1536)).2]
      · rw [dif_pos (by omega), dif_neg (by omega), dif_neg (by omega), dif_neg h0, if_neg h0, if_neg h1, if_neg h2, add_zero, add_zero, add_zero]
        exact congrArg (· * eighth) (tap_eq x9 r (l.val - 2304) ⟨l.val - 2304, by omega⟩ rfl).symm

theorem ref_o (x0 x1 x2 x3 x4 x5 x6 x7 x8 x9 : Arr) :
    val_main_v153 (F := Ideal) x0 x1 x2 x3 x4 x5 x6 x7 x8 x9 = res x0 x1 x2 x3 x4 x5 x6 x7 x8 x9 := by
  funext j
  obtain ⟨r, l, rfl⟩ : ∃ r l, j = ix2 r l := ⟨j 0, j 1, eq_ix2 j⟩
  exact (val_main_v153_apply _ _ _ _ _ _ _ _ _ _ _).trans (whole _ _ _ _ _ _ _ _ _ _ r l)

end Cert.RopeReferenceIdeal.Hand
-- ==== Proof.Rope.lean ====
/-
  The rotary gradient in tiles of 512 rows: each head pair is turned back with three tables, one of them the cosines.
-/
module

public import proofs.«01_k».proof.Proof.Gen.RopeKernelIdeal.Value
public import proofs.«01_k».proof.Proof.Gen.RopeReferenceIdeal.Run
public import proofs.«01_k».proof.Proof.Gen.RopeReferenceIdeal.Read
public import Idealize.ShloMosaic.Lib.Pipeline.ValueKit
public import Idealize.ShloMosaic.Lib.Pointwise
public import proofs.«01_k».proof.Proof.Reals
public import proofs.«01_k».proof.Proof.RopeRef
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.RopeKernelIdeal.Hand

open Cert.RopeKernelIdeal Cert.RopeKernelIdeal.Gen Cert.Reals
open Cert.RopeReferenceIdeal.Hand (Arr cs sn tap turn pick eighth res tap_eq cs_eq sn_eq)

section tables
variable {F : FTy → Type} [FloatOps F]
variable (m : (ℓ : Loc nD τ sig) → Buf (Elt F) ℓ)

open Cert.RopeReferenceIdeal.Read (val_main_v14 val_main_v15)

abbrev two (x : FVec F S4096x64 .f32) : FVec F S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128

abbrev side (x y : FVec F S4096x8 .f32) (z : FVec F S4096x48 .f32) : FVec F S4096x64 .f32 :=
  concatenate S4096x64 1 [⟨S4096x8, x⟩, ⟨S4096x8, y⟩, ⟨S4096x48, z⟩] concatenates_S4096x8_S4096x8_S4096x48_S4096x64_d1

set_option maxHeartbeats 4000000 in
theorem V_c (c : Dev nD) : V m c main_v24 = two (side val_main_v14 val_main_v14 (broadcastInDim S4096x48 ![] bcast_S_S4096x48 (constant S_ .f32 0x3F800000#32))) := by
  unfold V
  after_reads_simp
  rfl

set_option maxHeartbeats 4000000 in
theorem V_a (c : Dev nD) : V m c main_v27 = two (side (Host.negf val_main_v15) (broadcastInDim S4096x8 ![] bcast_S_S4096x8 (constant S_ .f32 0x00000000#32)) (broadcastInDim S4096x48 ![] bcast_S_S4096x48 (constant S_ .f32 0x00000000#32))) := by
  unfold V
  after_reads_simp
  rfl

set_option maxHeartbeats 4000000 in
theorem V_b (c : Dev nD) : V m c main_v30 = two (side (broadcastInDim S4096x8 ![] bcast_S_S4096x8 (constant S_ .f32 0x00000000#32)) val_main_v15 (broadcastInDim S4096x48 ![] bcast_S_S4096x48 (constant S_ .f32 0x00000000#32))) := by
  unfold V
  after_reads_simp
  rfl
end tables

theorem two_at (x y : FVec Ideal S4096x8 .f32) (z : FVec Ideal S4096x48 .f32) (r : Fin 4096) (l : Fin 128) :
    two (side x y z) (ix2 r l) = if h : l.val % 64 < 8 then x (ix2 r ⟨l.val % 64, h⟩) else if h' : l.val % 64 - 8 < 8 then y (ix2 r ⟨l.val % 64 - 8, h'⟩) else z (ix2 r ⟨l.val % 64 - 8 - 8, by omega⟩) := by
  pointwise [two, side]

/-- A block turned back, as the kernel writes it. -/
abbrev rot (a b c x : FVec Ideal S512x128 .f32) : FVec Ideal S512x128 .f32 :=
  addf (mulf x a) (mulf (broadcast S512x128 (Scalar.ofBits (F := Ideal) .f32 0xBF800000#32))
    (addf (mulf (dynamicRotate 1 120#32 none x rotates_S512x128_d1) b) (mulf (dynamicRotate 1 8#32 none x rotates_S512x128_d1) c)))

theorem minus_one : Ideal.ofBits .f32 0xBF800000#32 = (-1 : EReal) := by
  have e : Ideal.ofBits .f32 0xBF800000#32 = ((-1 : ℝ) : EReal) := by simp [Ideal.ofBits, Ideal.ieee, -EReal.coe_mul, -EReal.coe_neg]; norm_num
  rw [e]; rfl

theorem rot_at (a b c x : FVec Ideal S512x128 .f32) (p : Fin 512) (q : Fin 128) : rot a b c x (ix2 p q)
    = x (ix2 p q) * a (ix2 p q) + -(x (ix2 p ⟨(q.val + 128 - 120) % 128, by omega⟩) * b (ix2 p q) + x (ix2 p ⟨(q.val + 128 - 8) % 128, by omega⟩) * c (ix2 p q)) := by
  pointwise [rot]
  rw [minus_one, neg_one_mul]

theorem pay4_at (v : FVec Ideal S512x128 .f32) (j : S512x128.Idx) : k0_pay4 v j = v j := by
  obtain ⟨p, q, rfl⟩ : ∃ p q, j = ix2 p q := ⟨j 0, j 1, eq_ix2 j⟩
  pointwise [k0_pay4]

variable (m : (ℓ : Loc nD τ sig) → Buf (Elt Ideal) ℓ) (c : Dev nD)

theorem lt8 (t : Fin cfg0.N) : t.val < 8 := lt_of_lt_of_eq t.isLt N_0

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The row of the whole array that a tile's row is. -/
def row (t : Fin cfg0.N) (p : Fin 512) : Fin 4096 := ⟨t.val * 512 + p.val, by have h8 := lt8 t; omega⟩

theorem tile_0 (t : Fin cfg0.N) (p : Fin 512) (w : Fin 256) : iblk m c 0 t (ix2 p w) = m (c, Proc.tc.devRef main_arg0) (ix2 (row t p) w) := by
  have e : ((cfg0.win 0).blk t).view.emb (ix2 p w) = (ix2 (row t p) w : S4096x256.Idx) := by blk_ext [idx t, row]
  exact (congrArg (V m c main_arg0) e).trans (congrFun (V_main_arg0 m c) _)

theorem tile_1 (t : Fin cfg0.N) (p : Fin 512) (w : Fin 256) : iblk m c 1 t (ix2 p w) = m (c, Proc.tc.devRef main_arg1) (ix2 (row t p) w) := by
  have e : ((cfg0.win 1).blk t).view.emb (ix2 p w) = (ix2 (row t p) w : S4096x256.Idx) := by blk_ext [idx t, row]
  exact (congrArg (V m c main_arg1) e).trans (congrFun (V_main_arg1 m c) _)

theorem tile_2 (t : Fin cfg0.N) (p : Fin 512) (w : Fin 256) : iblk m c 2 t (ix2 p w) = m (c, Proc.tc.devRef main_arg2) (ix2 (row t p) w) := by
  have e : ((cfg0.win 2).blk t).view.emb (ix2 p w) = (ix2 (row t p) w : S4096x256.Idx) := by blk_ext [idx t, row]
  exact (congrArg (V m c main_arg2) e).trans (congrFun (V_main_arg2 m c) _)

theorem tile_3 (t : Fin cfg0.N) (p : Fin 512) (w : Fin 256) : iblk m c 3 t (ix2 p w) = m (c, Proc.tc.devRef main_arg3) (ix2 (row t p) w) := by
  have e : ((cfg0.win 3).blk t).view.emb (ix2 p w) = (ix2 (row t p) w : S4096x256.Idx) := by blk_ext [idx t, row]
  exact (congrArg (V m c main_arg3) e).trans (congrFun (V_main_arg3 m c) _)

theorem tile_4 (t : Fin cfg0.N) (p : Fin 512) (w : Fin 256) : iblk m c 4 t (ix2 p w) = m (c, Proc.tc.devRef main_arg4) (ix2 (row t p) w) := by
  have e : ((cfg0.win 4).blk t).view.emb (ix2 p w) = (ix2 (row t p) w : S4096x256.Idx) := by blk_ext [idx t, row]
  exact (congrArg (V m c main_arg4) e).trans (congrFun (V_main_arg4 m c) _)

theorem tile_5 (t : Fin cfg0.N) (p : Fin 512) (w : Fin 256) : iblk m c 5 t (ix2 p w) = m (c, Proc.tc.devRef main_arg5) (ix2 (row t p) w) := by
  have e : ((cfg0.win 5).blk t).view.emb (ix2 p w) = (ix2 (row t p) w : S4096x256.Idx) := by blk_ext [idx t, row]
  exact (congrArg (V m c main_arg5) e).trans (congrFun (V_main_arg5 m c) _)

theorem tile_6 (t : Fin cfg0.N) (p : Fin 512) (w : Fin 256) : iblk m c 6 t (ix2 p w) = m (c, Proc.tc.devRef main_arg6) (ix2 (row t p) w) := by
  have e : ((cfg0.win 6).blk t).view.emb (ix2 p w) = (ix2 (row t p) w : S4096x256.Idx) := by blk_ext [idx t, row]
  exact (congrArg (V m c main_arg6) e).trans (congrFun (V_main_arg6 m c) _)

theorem tile_7 (t : Fin cfg0.N) (p : Fin 512) (w : Fin 256) : iblk m c 7 t (ix2 p w) = m (c, Proc.tc.devRef main_arg7) (ix2 (row t p) w) := by
  have e : ((cfg0.win 7).blk t).view.emb (ix2 p w) = (ix2 (row t p) w : S4096x256.Idx) := by blk_ext [idx t, row]
  exact (congrArg (V m c main_arg7) e).trans (congrFun (V_main_arg7 m c) _)

theorem tile_8 (t : Fin cfg0.N) (p : Fin 512) (w : Fin 256) : iblk m c 8 t (ix2 p w) = m (c, Proc.tc.devRef main_arg8) (ix2 (row t p) w) := by
  have e : ((cfg0.win 8).blk t).view.emb (ix2 p w) = (ix2 (row t p) w : S4096x256.Idx) := by blk_ext [idx t, row]
  exact (congrArg (V m c main_arg8) e).trans (congrFun (V_main_arg8 m c) _)

theorem tile_9 (t : Fin cfg0.N) (p : Fin 512) (w : Fin 256) : iblk m c 9 t (ix2 p w) = m (c, Proc.tc.devRef main_arg9) (ix2 (row t p) w) := by
  have e : ((cfg0.win 9).blk t).view.emb (ix2 p w) = (ix2 (row t p) w : S4096x256.Idx) := by blk_ext [idx t, row]
  exact (congrArg (V m c main_arg9) e).trans (congrFun (V_main_arg9 m c) _)

theorem table_c (t : Fin cfg0.N) (p : Fin 512) (q : Fin 128) : iblk m c 10 t (ix2 p q) = (if q.val % 64 < 16 then cs (row t p) q.val else 1 : EReal) := by
  have e : ((cfg0.win 10).blk t).view.emb (ix2 p q) = (ix2 (row t p) q : S4096x128.Idx) := by blk_ext [idx t, row]
  refine (congrArg (V m c main_v24) e).trans ((congrFun (V_c m c) _).trans ((two_at _ _ _ _ _).trans ?_))
  have hq := q.isLt
  by_cases h : q.val % 64 < 8
  · rw [dif_pos h, if_pos (by omega)]
    exact cs_eq _ _ _ (by show q.val % 8 = q.val % 64; omega)
  · by_cases h' : q.val % 64 - 8 < 8
    · rw [dif_neg h, dif_pos h', if_pos (by omega)]
      exact cs_eq _ _ _ (by show q.val % 8 = q.val % 64 - 8; omega)
    · rw [dif_neg h, dif_neg h', if_neg (by omega)]
      pointwise

theorem table_a (t : Fin cfg0.N) (p : Fin 512) (q : Fin 128) : iblk m c 11 t (ix2 p q) = (if q.val % 64 < 8 then -sn (row t p) q.val else 0 : EReal) := by
  have e : ((cfg0.win 11).blk t).view.emb (ix2 p q) = (ix2 (row t p) q : S4096x128.Idx) := by blk_ext [idx t, row]
  refine (congrArg (V m c main_v27) e).trans ((congrFun (V_a m c) _).trans ((two_at _ _ _ _ _).trans ?_))
  have hq := q.isLt
  by_cases h : q.val % 64 < 8
  · rw [dif_pos h, if_pos h]
    exact congrArg Neg.neg (sn_eq _ _ _ (by show q.val % 8 = q.val % 64; omega))
  · by_cases h' : q.val % 64 - 8 < 8
    · rw [dif_neg h, dif_pos h', if_neg h]
      pointwise
    · rw [dif_neg h, dif_neg h', if_neg h]
      pointwise

theorem table_b (t : Fin cfg0.N) (p : Fin 512) (q : Fin 128) : iblk m c 12 t (ix2 p q) = (if q.val % 64 < 8 then 0 else if q.val % 64 < 16 then sn (row t p) q.val else 0 : EReal) := by
  have e : ((cfg0.win 12).blk t).view.emb (ix2 p q) = (ix2 (row t p) q : S4096x128.Idx) := by blk_ext [idx t, row]
  refine (congrArg (V m c main_v30) e).trans ((congrFun (V_b m c) _).trans ((two_at _ _ _ _ _).trans ?_))
  have hq := q.isLt
  by_cases h : q.val % 64 < 8
  · rw [dif_pos h, if_pos h]
    pointwise
  · by_cases h' : q.val % 64 - 8 < 8
    · rw [dif_neg h, dif_pos h', if_neg h, if_pos (by omega)]
      exact sn_eq _ _ _ (by show q.val % 8 = q.val % 64 - 8; omega)
    · rw [dif_neg h, dif_neg h', if_neg h, if_neg (by omega)]
      pointwise

/-- A group's half, as the kernel loads it. -/
abbrev half (X : FVec Ideal S512x256 .f32) (o : ℕ) (inb : ∀ a, (![0, o] : Fin 2 → ℕ) a + S512x128.size a ≤ S512x256.size a) : FVec Ideal S512x128 .f32 :=
  View.ld (Val := Elt Ideal) (e' := EltTy.f32) X (Rect.unit (s := S512x256) ![0, o] S512x128.size inb)

theorem half_at (X : FVec Ideal S512x256 .f32) (o : ℕ) (ho : o + 128 ≤ 256) (inb) (p : Fin 512) (q : Fin 128) : half X o inb (ix2 p q) = X (ix2 p ⟨o + q.val, by omega⟩) :=
  View.ld_unit_apply_of (S := S512x256) (Val := Elt Ideal) (e := EltTy.f32) X _ _ _ _ _ fun a => match a with
    | ⟨0, _⟩ => (Nat.zero_add _).symm
    | ⟨1, _⟩ => rfl

section piece
variable (t : Fin cfg0.N) (X : FVec Ideal S512x256 .f32) (D : Arr) (hX : ∀ p w, X (ix2 p w) = D (ix2 (row t p) w)) (o : ℕ) (ho : o = 0 ∨ o = 128)

include hX ho in
theorem half_tap (inb) (p : Fin 512) (q : Fin 128) : half X o inb (ix2 p q) = tap D (row t p) (o + q.val) := by
  have hb : o + 128 ≤ 256 := by omega
  rw [half_at X o hb, hX]
  exact (tap_eq D _ _ _ rfl).symm

include hX ho in
theorem rot_half (inb) (p : Fin 512) (q : Fin 128) :
    rot (k0_pay4 (iblk m c 10 t)) (k0_pay5 (iblk m c 11 t)) (k0_pay6 (iblk m c 12 t)) (half X o inb) (ix2 p q) = turn D (row t p) (o + q.val) := by
  have hq := q.isLt
  rw [rot_at]
  rw [half_tap t X D hX o ho, half_tap t X D hX o ho, half_tap t X D hX o ho, pay4_at]
  have e5 : k0_pay5 (iblk m c 11 t) (ix2 p q) = _ := (pay4_at (iblk m c 11 t) (ix2 p q)).trans (table_a m c t p q)
  have e6 : k0_pay6 (iblk m c 12 t) (ix2 p q) = _ := (pay4_at (iblk m c 12 t) (ix2 p q)).trans (table_b m c t p q)
  rw [e5, e6, table_c]
  unfold turn
  have hm : (o + q.val) % 64 = q.val % 64 := by omega
  have hc : cs (row t p) (o + q.val) = cs (row t p) q.val := (cs_eq _ _ _ (by show (o + q.val) % 8 = q.val % 8; omega)).symm
  have hs : sn (row t p) (o + q.val) = sn (row t p) q.val := (sn_eq _ _ _ (by show (o + q.val) % 8 = q.val % 8; omega)).symm
  rw [hm, hc, hs]
  by_cases h8 : q.val % 64 < 8
  · rw [if_pos (by omega), if_pos h8, if_pos h8, if_pos h8, mul_zero, add_zero, mul_neg, neg_neg]
    refine congrArg (fun w => _ + tap D (row t p) w * _) ?_
    show o + (q.val + 128 - 120) % 128 = _
    omega
  · by_cases h16 : q.val % 64 < 16
    · rw [if_pos h16, if_neg h8, if_neg h8, if_pos h16, if_neg h8, if_pos h16, mul_zero, zero_add]
      refine congrArg (fun w => _ + -(tap D (row t p) w * _)) ?_
      show o + (q.val + 128 - 8) % 128 = _
      omega
    · rw [if_neg h16, if_neg h8, if_neg h8, if_neg h16, if_neg h8, if_neg h16, mul_zero, mul_zero, add_zero, neg_zero, add_zero, mul_one]

end piece

/-- What the gradient's array ends as. -/
def out : S4096x2560.Idx → EReal :=
  res (m (c, Proc.tc.devRef main_arg0)) (m (c, Proc.tc.devRef main_arg1)) (m (c, Proc.tc.devRef main_arg2)) (m (c, Proc.tc.devRef main_arg3)) (m (c, Proc.tc.devRef main_arg4))
    (m (c, Proc.tc.devRef main_arg5)) (m (c, Proc.tc.devRef main_arg6)) (m (c, Proc.tc.devRef main_arg7)) (m (c, Proc.tc.devRef main_arg8)) (m (c, Proc.tc.devRef main_arg9))

section lanes
variable (t : Fin cfg0.N) (X : FVec Ideal S512x256 .f32) (g o : ℕ) (hg : g < 3) (ho : o = 0 ∨ o = 128) (y : S512x2560.Idx) (x : S512x128.Idx) (h0 : (y 0).val = (x 0).val)

include hg ho h0 in
theorem piece_q (inb) (hX : ∀ p w, X (ix2 p w) = pick (m (c, Proc.tc.devRef main_arg0)) (m (c, Proc.tc.devRef main_arg1)) (m (c, Proc.tc.devRef main_arg2)) g (ix2 (row t p) w))
    (h1 : (y 1).val = g * 256 + o + (x 1).val) :
    truncf .bf16 (mulf (rot (k0_pay4 (iblk m c 10 t)) (k0_pay5 (iblk m c 11 t)) (k0_pay6 (iblk m c 12 t)) (half X o inb)) (broadcast S512x128 (Scalar.ofBits (F := Ideal) .f32 0x3E000000#32))) bitsLt_bf16_f32 x
      = out m c (ix2 (row t (y 0)) (y 1)) := by
  have hx : (x 1).val < 128 := (x 1).isLt
  have e0 : row t (y 0) = row t (x 0) := congrArg (row t) (Fin.ext h0)
  refine ((congrArg (fun z => rot (k0_pay4 (iblk m c 10 t)) (k0_pay5 (iblk m c 11 t)) (k0_pay6 (iblk m c 12 t)) (half X o inb) z * eighth) (eq_ix2 x)).trans
    (congrArg (· * eighth) (rot_half m c t X _ hX o ho inb (x 0) (x 1)))).trans ?_
  show _ = (if (y 1).val < 768 then _ else _)
  rw [if_pos (by omega)]
  show _ = turn (pick _ _ _ ((y 1).val / 256)) (row t (y 0)) ((y 1).val % 256) * eighth
  rw [e0, show (y 1).val / 256 = g by omega, show (y 1).val % 256 = o + (x 1).val by omega]

include hg ho h0 in
theorem piece_k (inb) (hX : ∀ p w, X (ix2 p w) = pick (m (c, Proc.tc.devRef main_arg3)) (m (c, Proc.tc.devRef main_arg4)) (m (c, Proc.tc.devRef main_arg5)) g (ix2 (row t p) w))
    (h1 : (y 1).val = 768 + g * 256 + o + (x 1).val) :
    truncf .bf16 (rot (k0_pay4 (iblk m c 10 t)) (k0_pay5 (iblk m c 11 t)) (k0_pay6 (iblk m c 12 t)) (half X o inb)) bitsLt_bf16_f32 x = out m c (ix2 (row t (y 0)) (y 1)) := by
  have hx : (x 1).val < 128 := (x 1).isLt
  have e0 : row t (y 0) = row t (x 0) := congrArg (row t) (Fin.ext h0)
  refine ((congrArg (fun z => rot (k0_pay4 (iblk m c 10 t)) (k0_pay5 (iblk m c 11 t)) (k0_pay6 (iblk m c 12 t)) (half X o inb) z) (eq_ix2 x)).trans
    (rot_half m c t X _ hX o ho inb (x 0) (x 1))).trans ?_
  show _ = (if (y 1).val < 768 then _ else if (y 1).val < 1536 then _ else _)
  rw [if_neg (by omega), if_pos (by omega)]
  show _ = turn (pick _ _ _ (((y 1).val - 768) / 256)) (row t (y 0)) (((y 1).val - 768) % 256)
  rw [e0, show ((y 1).val - 768) / 256 = g by omega, show ((y 1).val - 768) % 256 = o + (x 1).val by omega]

include hg ho h0 in
theorem piece_v (inb) (hX : ∀ p w, X (ix2 p w) = pick (m (c, Proc.tc.devRef main_arg6)) (m (c, Proc.tc.devRef main_arg7)) (m (c, Proc.tc.devRef main_arg8)) g (ix2 (row t p) w))
    (h1 : (y 1).val = 1536 + g * 256 + o + (x 1).val) :
    truncf .bf16 (half X o inb) bitsLt_bf16_f32 x = out m c (ix2 (row t (y 0)) (y 1)) := by
  have hx : (x 1).val < 128 := (x 1).isLt
  have e0 : row t (y 0) = row t (x 0) := congrArg (row t) (Fin.ext h0)
  refine ((congrArg (fun z => half X o inb z) (eq_ix2 x)).trans (half_tap t X _ hX o ho inb (x 0) (x 1))).trans ?_
  show _ = (if (y 1).val < 768 then _ else if (y 1).val < 1536 then _ else if (y 1).val < 2304 then _ else _)
  rw [if_neg (by omega), if_neg (by omega), if_pos (by omega)]
  show _ = tap (pick _ _ _ (((y 1).val - 1536) / 256)) (row t (y 0)) (((y 1).val - 1536) % 256)
  rw [e0, show ((y 1).val - 1536) / 256 = g by omega, show ((y 1).val - 1536) % 256 = o + (x 1).val by omega]
end lanes

theorem piece_m (t : Fin cfg0.N) (y : S512x2560.Idx) (x : S512x256.Idx) (h0 : (y 0).val = (x 0).val) (h1 : (y 1).val = 2304 + (x 1).val) :
    k0_pay3 (iblk m c 9 t) x = out m c (ix2 (row t (y 0)) (y 1)) := by
  have e0 : row t (y 0) = row t (x 0) := congrArg (row t) (Fin.ext h0)
  have e9 : iblk m c 9 t x = m (c, Proc.tc.devRef main_arg9) (ix2 (row t (x 0)) (x 1)) := (congrArg (iblk m c 9 t) (eq_ix2 x)).trans (tile_9 m c t (x 0) (x 1))
  refine (congrArg (fun z : EReal => z * eighth) e9).trans ?_
  show _ = (if (y 1).val < 768 then _ else if (y 1).val < 1536 then _ else if (y 1).val < 2304 then _ else _)
  rw [if_neg (by omega), if_neg (by omega), if_neg (by omega)]
  show _ = tap _ (row t (y 0)) ((y 1).val - 2304) * eighth
  rw [e0]
  exact congrArg (· * eighth) (tap_eq _ _ _ _ (by omega)).symm

theorem emb_o (t : Fin cfg0.N) (y : S512x2560.Idx) : ((cfg0.win 13).blk t).view.emb y = (ix2 (row t (y 0)) (y 1) : S4096x2560.Idx) := by blk_ext [idx t, row]

set_option maxHeartbeats 4000000 in
theorem final_o : (dats m 0 c).arrAt 13 cfg0.N = out m c := by
  refine (dats m 0 c).arrAt_eq_of_covers 13 _ (by decide +kernel) fun t _ y => ?_
  blk_simp
  rw [after0_13, emb_o]
  unfold outsAt0
  frame_out
  canon_tiles x hx using (View.cover_of_tiledBy _ ![512, 128] (by sl_kernel_rfl) y)
  · exact piece_m m c t y x (by omega) (by omega)
  · exact piece_v m c t (iblk m c 8 t) 2 128 (by decide) (by decide) y x (by omega) _ (tile_8 m c t) (by omega)
  · exact piece_k m c t (iblk m c 5 t) 2 128 (by decide) (by decide) y x (by omega) _ (tile_5 m c t) (by omega)
  · exact piece_q m c t (iblk m c 2 t) 2 128 (by decide) (by decide) y x (by omega) _ (tile_2 m c t) (by omega)
  · exact piece_v m c t (iblk m c 8 t) 2 0 (by decide) (by decide) y x (by omega) _ (tile_8 m c t) (by omega)
  · exact piece_k m c t (iblk m c 5 t) 2 0 (by decide) (by decide) y x (by omega) _ (tile_5 m c t) (by omega)
  · exact piece_q m c t (iblk m c 2 t) 2 0 (by decide) (by decide) y x (by omega) _ (tile_2 m c t) (by omega)
  · exact piece_v m c t (iblk m c 7 t) 1 128 (by decide) (by decide) y x (by omega) _ (tile_7 m c t) (by omega)
  · exact piece_k m c t (iblk m c 4 t) 1 128 (by decide) (by decide) y x (by omega) _ (tile_4 m c t) (by omega)
  · exact piece_q m c t (iblk m c 1 t) 1 128 (by decide) (by decide) y x (by omega) _ (tile_1 m c t) (by omega)
  · exact piece_v m c t (iblk m c 7 t) 1 0 (by decide) (by decide) y x (by omega) _ (tile_7 m c t) (by omega)
  · exact piece_k m c t (iblk m c 4 t) 1 0 (by decide) (by decide) y x (by omega) _ (tile_4 m c t) (by omega)
  · exact piece_q m c t (iblk m c 1 t) 1 0 (by decide) (by decide) y x (by omega) _ (tile_1 m c t) (by omega)
  · exact piece_v m c t (iblk m c 6 t) 0 128 (by decide) (by decide) y x (by omega) _ (tile_6 m c t) (by omega)
  · exact piece_k m c t (iblk m c 3 t) 0 128 (by decide) (by decide) y x (by omega) _ (tile_3 m c t) (by omega)
  · exact piece_q m c t (iblk m c 0 t) 0 128 (by decide) (by decide) y x (by omega) _ (tile_0 m c t) (by omega)
  · exact piece_v m c t (iblk m c 6 t) 0 0 (by decide) (by decide) y x (by omega) _ (tile_6 m c t) (by omega)
  · exact piece_k m c t (iblk m c 3 t) 0 0 (by decide) (by decide) y x (by omega) _ (tile_3 m c t) (by omega)
  · exact piece_q m c t (iblk m c 0 t) 0 0 (by decide) (by decide) y x (by omega) _ (tile_0 m c t) (by omega)

end Cert.RopeKernelIdeal.Hand
-- ==== Proof.Loss.lean ====
module

public import proofs.«01_k».proof.Proof.Gen.LossKernelIdeal.Value
public import proofs.«01_k».proof.Proof.Gen.LossReferenceIdeal.Run
public import proofs.«01_k».proof.Proof.Gen.LossReferenceIdeal.Read
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.LossKernelIdeal.Hand

open Cert.LossKernelIdeal Cert.LossKernelIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- The gradient of one element: the difference times 2⁻¹⁰. -/
def dy (y t : FVec Ideal S4096x1024 .f32) : FVec Ideal S4096x1024 .f32 :=
  fun j => (y j - t j) * Ideal.ofBits .f32 0x3A800000#32

theorem final_dy (c : Dev nD) : (dats m 0 c).arrAt 2 cfg0.N
    = dy (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 8 = 0
  · rw [outsAt0_A m c t h]; frame_out
    pointwise [k0_pay3, k0_pay2, dy]
    blk_point [iblk, V, idx t]
  · rw [outsAt0_B m c t h]; frame_out
    pointwise [k0_pay3, k0_pay2, dy]
    blk_point [iblk, V, idx t]

theorem hzero (j) : k0_pay1 (F := Ideal) j = 0 := by pointwise [k0_pay1]

theorem hpay (x0 x1 : FVec Ideal S512x1024 .f32) (acc : FVec Ideal S1x1 .f32) (j) :
    k0_pay4 (F := Ideal) x0 x1 acc j = acc j + Ideal.ofBits .f32 0x3F000000#32 * ∑ r : Fin 512,
      (∑ l : Fin 1024, (x0 (ValueIdx.ix2 r l) - x1 (ValueIdx.ix2 r l)) * (x0 (ValueIdx.ix2 r l) - x1 (ValueIdx.ix2 r l))) * Ideal.ofBits .f32 0x3A800000#32 := by
  idx_vars j
  pointwise [k0_pay4, k0_pay2]
  rfl

/-- Half the mean square of one row's differences, at row `r` of the whole array. -/
def rowLoss (y t : FVec Ideal S4096x1024 .f32) (r : Fin 4096) : EReal :=
  (∑ l : Fin 1024, (y (ValueIdx.ix2 r l) - t (ValueIdx.ix2 r l)) * (y (ValueIdx.ix2 r l) - t (ValueIdx.ix2 r l)))
    * Ideal.ofBits .f32 0x3A800000#32

/-- What one tile of 512 rows adds to the loss. -/
def tileLoss (y t : FVec Ideal S4096x1024 .f32) (n : Nat) (h : n < 8) : EReal :=
  Ideal.ofBits .f32 0x3F000000#32 * ∑ r : Fin 512, rowLoss y t ⟨n * 512 + r.val, by omega⟩

/-- The loss: the tiles' parts added up. -/
def loss (y t : FVec Ideal S4096x1024 .f32) : FVec Ideal S1x1 .f32 := fun _ => ∑ n : Fin 8, tileLoss y t n.val n.isLt

theorem final_loss (c : Dev nD) : (dats m 0 c).arrAt 3 cfg0.N
    = loss (m ((c : Thread nD τ).loc main_arg0)) (m ((c : Thread nD τ).loc main_arg1)) := by
  refine (dats m 0 c).arrAt_eq_of_after_last 3 t0_7 (by decide +kernel) _ fun j => ?_
  blk_simp
  rw [after0_3]
  refine (Pipeline.eq_sum_fin_of_reset_step_apply_last (fun n h => ((outsAt0 m c n h).2 : S1x1.Idx → EReal)) 8 (fun _ => 0) _
    (fun t h j => by rw [outsAt0_A m c t h]; frame_out; rw [hpay, hzero]) (fun t h j => by rw [outsAt0_B m c t h]; frame_out; rw [hpay])
    (le_of_eq N_0) t0_7 rfl j).trans ((zero_add _).trans ?_)
  refine Finset.sum_congr rfl fun n _ => ?_
  unfold tileLoss rowLoss
  refine congrArg (_ * ·) (Finset.sum_congr rfl fun r _ => congrArg (· * _) (Finset.sum_congr rfl fun l _ => ?_))
  blk_point [iblk, V, idx _]

end Cert.LossKernelIdeal.Hand

namespace Cert.LossReferenceIdeal.Hand

open Cert.LossReferenceIdeal Cert.LossReferenceIdeal.Gen Cert.LossReferenceIdeal.Read Cert.Reals

theorem ref_dy (y t : FVec Ideal S4096x1024 .f32) : val_main_v14 (F := Ideal) y t = Cert.LossKernelIdeal.Hand.dy y t := by
  funext j
  rw [val_main_v14_apply, val_main_v13_apply, val_main_v12_apply, val_main_v10_apply, val_main_v11_apply, val_main_v9_apply,
    val_main_v3_apply, val_main_v2_apply, val_main_v0_apply]
  simp only [val_main_cst_apply, val_main_cst_4_apply, val_main_cst_5_apply, val_main_cst_6_apply]
  show Ideal.div (Ideal.ofBits .f32 0x3F000000#32 * Ideal.ofBits .f32 0x3F800000#32) (Ideal.ofBits .f32 0x44800000#32)
    * (Ideal.ofBits .f32 0x40000000#32 * (y j - t j)) = (y j - t j) * Ideal.ofBits .f32 0x3A800000#32
  rw [c_half, c_1024, c_two, c_inv1024, Ideal.ofBits_one_f32, mul_one, coe_div _ _ (by norm_num), ← mul_assoc, ← EReal.coe_mul, mul_comm]
  norm_num

theorem ref_loss (y t : FVec Ideal S4096x1024 .f32) (j) : val_main_v15 (F := Ideal) y t j
    = Ideal.ofBits .f32 0x3F000000#32 * ∑ r : Fin 4096, Cert.LossKernelIdeal.Hand.rowLoss y t r := by
  idx_vars j
  pointwise [val_main_v15, val_main_v8, val_main_cst_3, val_main_v7, val_main_cst_2, val_main_v6, val_main_v5, val_main_cst_1, val_main_v4, val_main_cst_0,
    val_main_v1, val_main_v0]
  refine congrArg (_ * ·) (Finset.sum_congr rfl fun r _ => ?_)
  unfold Cert.LossKernelIdeal.Hand.rowLoss
  rw [c_1024, c_inv1024, Ideal.div_coe (by norm_num)]
  rfl

/-- A square is not negative. -/
theorem row_nonneg (y t : FVec Ideal S4096x1024 .f32) (r : Fin 4096) : 0 ≤ Cert.LossKernelIdeal.Hand.rowLoss y t r := by
  unfold Cert.LossKernelIdeal.Hand.rowLoss
  refine mul_nonneg (Finset.sum_nonneg fun l _ => mul_self_nonneg' _) ?_
  rw [c_inv1024]; exact EReal.coe_nonneg.2 (by norm_num)

/-- The tiles' losses are the loss of all rows. -/
theorem loss_eq (y t : FVec Ideal S4096x1024 .f32) : val_main_v15 (F := Ideal) y t = Cert.LossKernelIdeal.Hand.loss y t := by
  funext j
  rw [ref_loss]
  unfold Cert.LossKernelIdeal.Hand.loss Cert.LossKernelIdeal.Hand.tileLoss
  simp only [← mul_sum_nonneg _ _ _ fun k => row_nonneg y t _]
  rw [← mul_sum_nonneg _ _ _ fun k => Finset.sum_nonneg fun i _ => row_nonneg y t _]
  refine congrArg (_ * ·) (Eq.symm ?_)
  exact Fin.sum_mul_add_congr fun s k hl => rfl

end Cert.LossReferenceIdeal.Hand
-- ==== Proof.MemFwd.lean ====
/-
  The forward call of the attention to the memory: a softmax by tiles of 512 rows and pairs of heads, with the log of its denominator.
-/
module

public import proofs.«01_k».proof.Proof.Gen.MemFwdKernelIdeal.Value
public import proofs.«01_k».proof.Proof.Gen.MemFwdReferenceIdeal.Run
public import proofs.«01_k».proof.Proof.Gen.MemFwdReferenceIdeal.Read
public import Idealize.ShloMosaic.Lib.Pipeline.ValueKit
public import Idealize.ShloMosaic.Lib.Pointwise
public import proofs.«01_k».proof.Proof.Reals
public import proofs.«01_k».proof.Proof.AttnReal
public import proofs.«01_k».proof.Proof.Mem
public import proofs.«01_k».proof.Proof.BandTile

@[expose] public section

set_option maxRecDepth 16384

noncomputable section

open Idealize.ShloMosaic Idealize.ShloMosaic.TcCoe Idealize.SL.Sem
open Idealize.ShloMosaic.Pipeline (Dat)

namespace Cert.MemFwdKernelIdeal.Hand

open Cert.MemFwdKernelIdeal Cert.MemFwdKernelIdeal.Gen Cert.Reals Cert.AttnReal
open Cert.BandTile (width rem_lane lane_lo)

theorem mask6 (l : Fin 128) : k0_pay6 (ix2 0 l) = BitVec.ofBool (decide (l.val < 64)) := by revert l; decide +kernel
theorem mask15 (l : Fin 128) : k0_pay15 (ix2 0 l) = BitVec.ofBool (decide (64 ≤ l.val)) := by revert l; decide +kernel

theorem pick (l : ℕ) (x y : ℝ) : Scalar.select (BitVec.ofBool (decide (l < 64))) (x : EReal) (y : EReal) = ((if l < 64 then x else y : ℝ) : EReal) := by
  by_cases h : l < 64 <;> simp [h, Scalar.select]

theorem share_sum {n : ℕ} [NeZero n] (s v : Fin n → ℝ) (a : ℝ) :
    (∑ j, Real.exp (s j - a) * v j) * (1 / ∑ j, Real.exp (s j - a)) = ∑ j, pr s j * v j := by
  rw [Finset.sum_mul]
  exact Finset.sum_congr rfl fun j _ => by rw [← pr_shift s a j]; ring

section pair
variable (q : FVec Ideal S512x128 .bf16) (k v : FVec Ideal S256x128 .bf16)

/-- One pair of heads' output and log of the denominator. -/
def po : FVec Ideal S512x128 .f32 :=
  k0_pay22 (k0_pay13 (k0_pay4 v) (k0_pay5 (F := Ideal)) k0_pay6 (k0_pay10 q k) (k0_pay11 q k) (k0_pay12 (F := Ideal)))
    (k0_pay19 (k0_pay2 q) (k0_pay3 k)) (k0_pay20 (k0_pay2 q) (k0_pay3 k)) (k0_pay21 (k0_pay4 v))
def plse : FVec Ideal S512x128 .f32 :=
  k0_pay23 (k0_pay14 (k0_pay8 q k) (k0_pay10 q k)) (k0_pay17 (k0_pay2 q) (k0_pay3 k)) (k0_pay19 (k0_pay2 q) (k0_pay3 k))

variable (Q : Fin 512 → Fin 128 → ℝ) (K V : Fin 256 → Fin 128 → ℝ)
/-- The scores of one of the two heads. -/
def sc (a : Fin 2) (r : Fin 512) (j : Fin 256) : ℝ := ∑ d, Q r (lane a d) * K j (lane a d)
/-- A row's log of the denominator. -/
def lz {n : ℕ} (s : Fin n → ℝ) : ℝ := rowmax s + Real.log (∑ j, Real.exp (s j - rowmax s))

variable (hq : ∀ r l, q (ix2 r l) = ((Q r l : ℝ) : EReal)) (hk : ∀ r l, k (ix2 r l) = ((K r l : ℝ) : EReal)) (hv : ∀ r l, v (ix2 r l) = ((V r l : ℝ) : EReal))
include hq hk

theorem p7 (r j) : k0_pay7 (F := Ideal) q k (ix2 r j) = ((sc Q K 0 r j : ℝ) : EReal) := by
  pointwise [k0_pay7, k0_pay2, k0_pay3]
  simp only [hq, hk, mask6, ← EReal.coe_mul, sel_lo, coe_sum, ite_mul, zero_mul, sum_lo']
  rfl
theorem p8 (r) : k0_pay8 (F := Ideal) q k (ix2 r 0) = ((rowmax (sc Q K 0 r) : ℝ) : EReal) := by
  pointwise [k0_pay8]
  simp only [p7 q k Q K hq hk, c_bot, fold_max_coe]
theorem p9 (r j) : k0_pay9 (F := Ideal) q k (ix2 r j) = ((Real.exp (sc Q K 0 r j - rowmax (sc Q K 0 r)) : ℝ) : EReal) := by
  pointwise [k0_pay9]
  simp only [p7 q k Q K hq hk, p8 q k Q K hq hk, ← EReal.coe_sub, Ideal.exp_coe]
theorem p10 (r) : k0_pay10 (F := Ideal) q k (ix2 r 0) = ((∑ j, Real.exp (sc Q K 0 r j - rowmax (sc Q K 0 r)) : ℝ) : EReal) := by
  pointwise [k0_pay10]
  simp only [p9 q k Q K hq hk, coe_sum]
theorem p16 (r j) : k0_pay16 (F := Ideal) (k0_pay2 q) (k0_pay3 k) (ix2 r j) = ((sc Q K 1 r j : ℝ) : EReal) := by
  pointwise [k0_pay16, k0_pay2, k0_pay3]
  simp only [hq, hk, mask15, ← EReal.coe_mul, sel_hi, coe_sum, ite_mul, zero_mul, sum_hi']
  rfl
theorem p17 (r) : k0_pay17 (F := Ideal) (k0_pay2 q) (k0_pay3 k) (ix2 r 0) = ((rowmax (sc Q K 1 r) : ℝ) : EReal) := by
  pointwise [k0_pay17]
  simp only [p16 q k Q K hq hk, c_bot, fold_max_coe]
theorem p18 (r j) : k0_pay18 (F := Ideal) (k0_pay2 q) (k0_pay3 k) (ix2 r j) = ((Real.exp (sc Q K 1 r j - rowmax (sc Q K 1 r)) : ℝ) : EReal) := by
  pointwise [k0_pay18]
  simp only [p16 q k Q K hq hk, p17 q k Q K hq hk, ← EReal.coe_sub, Ideal.exp_coe]
theorem p19 (r) : k0_pay19 (F := Ideal) (k0_pay2 q) (k0_pay3 k) (ix2 r 0) = ((∑ j, Real.exp (sc Q K 1 r j - rowmax (sc Q K 1 r)) : ℝ) : EReal) := by
  pointwise [k0_pay19]
  simp only [p18 q k Q K hq hk, coe_sum]

theorem plse_eq (r l) : plse q k (ix2 r l) = ((if l.val < 64 then lz (sc Q K 0 r) else lz (sc Q K 1 r) : ℝ) : EReal) := by
  pointwise [plse, k0_pay23, k0_pay14]
  simp only [p8 q k Q K hq hk, p10 q k Q K hq hk, p17 q k Q K hq hk, p19 q k Q K hq hk, log_sum_exp, ← EReal.coe_add]
  rw [width, rem_lane, lane_lo]
  exact pick _ _ _

include hv
theorem po_eq (r l) : po q k v (ix2 r l) = ((if l.val < 64 then ∑ j, pr (sc Q K 0 r) j * V j l else ∑ j, pr (sc Q K 1 r) j * V j l : ℝ) : EReal) := by
  pointwise [po, k0_pay22, k0_pay13, k0_pay11, k0_pay20, k0_pay21, k0_pay4, k0_pay5, k0_pay12]
  simp only [p9 q k Q K hq hk, p10 q k Q K hq hk, p18 q k Q K hq hk, p19 q k Q K hq hk, hv, mask6, mask15, sel_lo, sel_hi, ← EReal.coe_mul, coe_sum, div_sum_exp, ← EReal.coe_add]
  refine congrArg _ ?_
  by_cases h : l.val < 64
  · simp only [h, if_true, mul_zero, Finset.sum_const_zero, zero_mul, add_zero, share_sum]
  · simp only [h, if_false, mul_zero, Finset.sum_const_zero, zero_mul, zero_add, share_sum]
end pair

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem lt_row (t : Fin cfg0.N) (r : Fin 512) : t.val * 512 + r.val < 4096 := by
  have h := lt_of_lt_of_eq t.isLt N_0; omega

/-- Row `r` of tile `t`. -/
def row (t : Fin cfg0.N) (r : Fin 512) : Fin 4096 := ⟨t.val * 512 + r.val, lt_row t r⟩

section arrays
open Cert.MemReferenceIdeal.Hand (up Sc att lse col tQ tK tV head head_col by_lane col_lane)

variable (m : (ℓ : Loc nD τ sig) → Buf (Elt Ideal) ℓ) (c : Dev nD) (X : S4096x256.Idx → ℝ) (KV : S256x512.Idx → ℝ)
  (hx : m ((c : Thread nD τ).loc main_arg0) = up X) (hkv : m ((c : Thread nD τ).loc main_arg1) = up KV)

theorem sc_eq {p : Fin 2} (a : Fin 2) (s : Fin 512 → Fin 4096) (r : Fin 512) (k : Fin 256) : sc (tQ X s p) (tK KV p) a r k = Sc X KV (head p a) (s r) k :=
  Finset.sum_congr rfl fun d _ => by
    have h1 : col p (lane a d) = (⟨(head p a).val * 64 + d.val, by have := (head p a).isLt; omega⟩ : Fin 256) := Fin.ext (col_lane p a d)
    simp only [tQ, tK, h1]

theorem pair_o (p : Fin 2) (s : Fin 512 → Fin 4096) (r : Fin 512) (l : Fin 128) :
    (if l.val < 64 then ∑ j, pr (sc (tQ X s p) (tK KV p) 0 r) j * tV KV p j l else ∑ j, pr (sc (tQ X s p) (tK KV p) 1 r) j * tV KV p j l) = att X KV (s r) (col p l) := by
  have e : ∀ a, sc (tQ X s p) (tK KV p) a r = Sc X KV (head p a) (s r) := fun a => funext fun k => sc_eq X KV a s r k
  rw [e, e]
  refine (by_lane p l (fun h j => pr (Sc X KV h (s r)) j * tV KV p j l) (by omega)).trans ?_
  exact Finset.sum_congr rfl fun j _ => mul_comm _ _

theorem pair_l (p : Fin 2) (s : Fin 512 → Fin 4096) (r : Fin 512) (l : Fin 128) :
    (if l.val < 64 then lz (sc (tQ X s p) (tK KV p) 0 r) else lz (sc (tQ X s p) (tK KV p) 1 r)) = lse X KV (s r) (col p l) := by
  have e : ∀ a, sc (tQ X s p) (tK KV p) a r = Sc X KV (head p a) (s r) := fun a => funext fun k => sc_eq X KV a s r k
  rw [e, e, lse, head_col]
  split <;> rfl

include hx in
theorem tile_q (t : Fin cfg0.N) (r : Fin 512) (l : Fin 256) : iblk m c 0 t (ix2 r l) = ((X (ix2 (row t r) l) * (1 / 8) : ℝ) : EReal) := by
  have e : ((cfg0.win 0).blk t).view.emb (ix2 r l) = (ix2 (row t r) l : S4096x256.Idx) := by blk_ext [idx t, row]
  show V m c main_v2 (((cfg0.win 0).blk t).view.emb (ix2 r l)) = _
  entry_read
  rw [e]
  pointwise
  have h0 : m (c, Proc.tc.devRef main_arg0) = up X := hx
  simp only [h0, up, c_eighth, ← EReal.coe_mul]

include hkv in
theorem tile_kv (t : Fin cfg0.N) (k : Fin 256) (l : Fin 512) : iblk m c 1 t (ix2 k l) = ((KV (ix2 k l) : ℝ) : EReal) := by
  have e : ((cfg0.win 1).blk t).view.emb (ix2 k l) = (ix2 k l : S256x512.Idx) := by blk_ext [idx t]
  show V m c main_v3 (((cfg0.win 1).blk t).view.emb (ix2 k l)) = _
  entry_read
  rw [e]
  exact congrFun hkv _

abbrev L0 (t : Fin cfg0.N) (o : ℕ) (inb : ∀ a, (![0, o] : Fin 2 → ℕ) a + S512x128.size a ≤ S512x256.size a) : FVec Ideal S512x128 .bf16 :=
  View.ld (iblk m c 0 t) (Rect.unit (s := S512x256) ![0, o] S512x128.size inb)
abbrev L1 (t : Fin cfg0.N) (o : ℕ) (inb : ∀ a, (![0, o] : Fin 2 → ℕ) a + S256x128.size a ≤ S256x512.size a) : FVec Ideal S256x128 .bf16 :=
  View.ld (iblk m c 1 t) (Rect.unit (s := S256x512) ![0, o] S256x128.size inb)

section loads
open Cert.MemKernelIdeal.Hand (ld_cols)
variable (t : Fin cfg0.N) (p : Fin 2) {o : ℕ} (ho : o = 128 * p.val)

include hx ho in
theorem ld_q (inb) (r : Fin 512) (l : Fin 128) : L0 m c t o inb (ix2 r l) = ((tQ X (row t) p r l : ℝ) : EReal) := by
  subst ho; exact (ld_cols _ inb r l r.isLt (by omega)).trans (tile_q m c X hx t r (col p l))
include hkv ho in
theorem ld_k (inb) (k : Fin 256) (l : Fin 128) : L1 m c t o inb (ix2 k l) = ((tK KV p k l : ℝ) : EReal) := by
  subst ho; exact (ld_cols _ inb k l k.isLt (by omega)).trans (tile_kv m c KV hkv t k _)
include hkv ho in
theorem ld_v {o' : ℕ} (ho' : o' = 256 + o) (inb) (k : Fin 256) (l : Fin 128) : L1 m c t o' inb (ix2 k l) = ((tV KV p k l : ℝ) : EReal) := by
  subst ho; subst ho'
  refine (ld_cols _ inb k l k.isLt (by omega)).trans ((tile_kv m c KV hkv t k _).trans ?_)
  exact congrArg (fun i => ((KV (ix2 k i) : ℝ) : EReal)) (Fin.ext (Nat.add_assoc 256 (128 * p.val) l.val))

/-- The output and the log of the denominator, whole. -/
def outO : FVec Ideal S4096x256 .f32 := fun j => ((att X KV (j 0) (j 1) : ℝ) : EReal)
def outL : FVec Ideal S4096x256 .f32 := fun j => ((lse X KV (j 0) (j 1) : ℝ) : EReal)

include hx hkv ho in
theorem piece_o (o' : ℕ) (ho' : o' = 256 + o) (i0 i1 i2) (x : S512x128.Idx) (y : S512x256.Idx) (h0 : (y 0).val = (x 0).val) (h1 : (y 1).val = o + (x 1).val) :
    po (L0 m c t o i0) (L1 m c t o i1) (L1 m c t o' i2) x = outO X KV (ix2 (row t (y 0)) (y 1)) := by
  obtain ⟨x0, x1, rfl⟩ : ∃ a b, x = ix2 a b := ⟨x 0, x 1, eq_ix2 x⟩
  change _ = x0.val at h0
  change _ = _ + x1.val at h1
  refine (po_eq _ _ _ _ _ _ (ld_q m c X hx t p ho _) (ld_k m c KV hkv t p ho _) (ld_v m c KV hkv t p ho ho' _) _ _).trans ?_
  rw [pair_o]
  have e0 : x0 = y 0 := Fin.ext h0.symm
  have e1 : col p x1 = y 1 := Fin.ext (by rw [h1, ho]; rfl)
  show ((att X KV (row t x0) (col p x1) : ℝ) : EReal) = ((att X KV (row t (y 0)) (y 1) : ℝ) : EReal)
  rw [e0, e1]

include hx hkv ho in
theorem piece_l (i0 i1) (x : S512x128.Idx) (y : S512x256.Idx) (h0 : (y 0).val = (x 0).val) (h1 : (y 1).val = o + (x 1).val) :
    plse (L0 m c t o i0) (L1 m c t o i1) x = outL X KV (ix2 (row t (y 0)) (y 1)) := by
  obtain ⟨x0, x1, rfl⟩ : ∃ a b, x = ix2 a b := ⟨x 0, x 1, eq_ix2 x⟩
  change _ = x0.val at h0
  change _ = _ + x1.val at h1
  refine (plse_eq _ _ _ _ (ld_q m c X hx t p ho _) (ld_k m c KV hkv t p ho _) _ _).trans ?_
  rw [pair_l]
  have e0 : x0 = y 0 := Fin.ext h0.symm
  have e1 : col p x1 = y 1 := Fin.ext (by rw [h1, ho]; rfl)
  show ((lse X KV (row t x0) (col p x1) : ℝ) : EReal) = ((lse X KV (row t (y 0)) (y 1) : ℝ) : EReal)
  rw [e0, e1]
end loads

theorem emb_o (t : Fin cfg0.N) (y : S512x256.Idx) : ((cfg0.win 2).blk t).view.emb y = (ix2 (row t (y 0)) (y 1) : S4096x256.Idx) := by
  rw [eq_ix2 y]; blk_ext [idx t, row]
theorem emb_l (t : Fin cfg0.N) (y : S512x256.Idx) : ((cfg0.win 3).blk t).view.emb y = (ix2 (row t (y 0)) (y 1) : S4096x256.Idx) := by
  rw [eq_ix2 y]; blk_ext [idx t, row]

include hx hkv in
theorem final_o : (dats m 0 c).arrAt 2 cfg0.N = outO X KV := by
  refine (dats m 0 c).arrAt_eq_of_covers 2 _ (by decide +kernel) fun t _ y => ?_
  blk_simp
  rw [after0_2]; unfold_out out0_2
  canon_tiles x h
  · exact (piece_o m c X KV hx hkv t 1 rfl 384 rfl _ _ _ x y h0 h1).trans (congrArg (outO X KV) (emb_o t y).symm)
  · exact (piece_o m c X KV hx hkv t 0 rfl 256 rfl _ _ _ x y h0 (h1.trans (Nat.zero_add _).symm)).trans (congrArg (outO X KV) (emb_o t y).symm)

include hx hkv in
theorem final_l : (dats m 0 c).arrAt 3 cfg0.N = outL X KV := by
  refine (dats m 0 c).arrAt_eq_of_covers 3 _ (by decide +kernel) fun t _ y => ?_
  blk_simp
  rw [after0_3]; unfold_out out0_3
  canon_tiles x h
  · exact (piece_l m c X KV hx hkv t 1 rfl _ _ x y h0 h1).trans (congrArg (outL X KV) (emb_l t y).symm)
  · exact (piece_l m c X KV hx hkv t 0 rfl _ _ x y h0 (h1.trans (Nat.zero_add _).symm)).trans (congrArg (outL X KV) (emb_l t y).symm)

end arrays
end Cert.MemFwdKernelIdeal.Hand

namespace Cert.MemFwdReferenceIdeal.Hand

open Cert.MemFwdReferenceIdeal Cert.MemFwdReferenceIdeal.Read
open Cert.MemFwdKernelIdeal.Hand (outO outL)
open Cert.MemReferenceIdeal.Hand (up)

section same
variable {F : FTy → Type} [FloatOps F]
/-- The forward lines are those whose gradient the backward call takes. -/
theorem same_o (x0 : FVec F S4096x256 .f32) (x1 : FVec F S256x512 .f32) : val_main_v37 x0 x1 = Cert.MemReferenceIdeal.Read.val_main_v38 x0 x1 := rfl
theorem same_l (x0 : FVec F S4096x256 .f32) (x1 : FVec F S256x512 .f32) : val_main_v15 x0 x1 = Cert.MemKernelIdeal.Hand.kL x0 x1 := rfl
end same

variable (X : S4096x256.Idx → ℝ) (KV : S256x512.Idx → ℝ)

theorem ref_o : val_main_v37 (F := Ideal) (up X) (up KV) = outO X KV := by
  rw [same_o]
  funext j
  idx_vars j
  exact Cert.MemReferenceIdeal.Hand.r38 X KV j0 j1

theorem ref_l : val_main_v40 (F := Ideal) (up X) (up KV) = outL X KV := by
  funext j
  idx_vars j
  pointwise [val_main_v40, val_main_v39, val_main_v38]
  rw [same_l]
  exact Cert.MemKernelIdeal.Hand.kL_eq X KV _ _

end Cert.MemFwdReferenceIdeal.Hand

end
-- ==== Proof.Combine.lean ====
/-
  The forward call that mixes the three groups of dilations: a softmax over the three saved logs of the denominators, and the log of its own.
-/
module

public import proofs.«01_k».proof.Proof.Gen.CombineKernelIdeal.Value
public import proofs.«01_k».proof.Proof.Gen.CombineReferenceIdeal.Run
public import proofs.«01_k».proof.Proof.Gen.CombineReferenceIdeal.Read
public import Idealize.ShloMosaic.Lib.Pipeline.ValueKit
public import Idealize.ShloMosaic.Lib.Pointwise
public import proofs.«01_k».proof.Proof.Reals
public import proofs.«01_k».proof.Proof.AttnReal
public import proofs.«01_k».proof.Proof.Mem

@[expose] public section

set_option maxRecDepth 16384

noncomputable section

open Idealize.ShloMosaic Idealize.ShloMosaic.TcCoe Idealize.SL.Sem
open Idealize.ShloMosaic.Pipeline (Dat)

namespace Cert.CombineReal

open Cert.Reals Cert.AttnReal Cert.CombineKernelIdeal

def up {s : Shape} (x : s.Idx → ℝ) : FVec Ideal s .f32 := fun i => ((x i : ℝ) : EReal)

/-- The log of the sum of the exponentials, and that it may be computed from any shift. -/
def lsum {n : ℕ} (s : Fin n → ℝ) : ℝ := Real.log (∑ j, Real.exp (s j))
theorem lsum_shift {n : ℕ} [NeZero n] (s : Fin n → ℝ) (a : ℝ) : a + Real.log (∑ j, Real.exp (s j - a)) = lsum s := by
  have h := (denom_pos s 0).ne'
  simp only [sub_zero] at h
  rw [denom, Real.log_mul h (Real.exp_pos _).ne', Real.log_exp, lsum]
  ring

section
variable (O0 O1 O2 : S4096x256.Idx → ℝ) (L0 L1 L2 : S4096x4.Idx → ℝ)
/-- The three groups' outputs and logs of the denominators at one place. -/
def og (s : Fin 4096) (l : Fin 256) : Fin 3 → ℝ := ![O0 (ix2 s l), O1 (ix2 s l), O2 (ix2 s l)]
def lg (s : Fin 4096) (a : Fin 4) : Fin 3 → ℝ := ![L0 (ix2 s a), L1 (ix2 s a), L2 (ix2 s a)]
def mix (s : Fin 4096) (l : Fin 256) : ℝ := ∑ g, pr (lg L0 L1 L2 s ⟨l.val / 64, by omega⟩) g * og O0 O1 O2 s l g
def outO : FVec Ideal S4096x256 .f32 := fun j => ((mix O0 O1 O2 L0 L1 L2 (j 0) (j 1) : ℝ) : EReal)
def outL : FVec Ideal S4096x256 .f32 := fun j => ((lsum (lg L0 L1 L2 (j 0) ⟨(j 1).val / 64, by have h : (j 1).val < 256 := (j 1).isLt; omega⟩) : ℝ) : EReal)
end

theorem max_real (a b : ℝ) : max ((a : ℝ) : EReal) ((b : ℝ) : EReal) = ((max a b : ℝ) : EReal) := by
  rcases le_total a b with h | h
  · rw [max_eq_right h, max_eq_right (EReal.coe_le_coe_iff.2 h)]
  · rw [max_eq_left h, max_eq_left (EReal.coe_le_coe_iff.2 h)]

end Cert.CombineReal

namespace Cert.CombineKernelIdeal.Hand

open Cert.CombineKernelIdeal Cert.CombineKernelIdeal.Gen Cert.Reals Cert.AttnReal Cert.CombineReal

section tile
variable (l0 l1 l2 o0 o1 o2 : FVec Ideal S512x256 .f32) (A B : Fin 3 → ℝ) (j : S512x256.Idx)
  (h0 : l0 j = ((A 0 : ℝ) : EReal)) (h1 : l1 j = ((A 1 : ℝ) : EReal)) (h2 : l2 j = ((A 2 : ℝ) : EReal))
  (g0 : o0 j = ((B 0 : ℝ) : EReal)) (g1 : o1 j = ((B 1 : ℝ) : EReal)) (g2 : o2 j = ((B 2 : ℝ) : EReal))
include h0 h1 h2

def m3 : ℝ := max (max (A 0) (A 1)) (A 2)
theorem p4 : k0_pay4 (F := Ideal) l0 l1 l2 j = ((m3 A : ℝ) : EReal) := by
  pointwise [k0_pay4, k0_pay1, k0_pay2, k0_pay3]
  rw [h0, h1, h2]
  exact (congrArg (fun z => max z ((A 2 : ℝ) : EReal)) (max_real _ _)).trans (max_real _ _)
theorem p8 : k0_pay8 (F := Ideal) l0 l1 l2 j = ((∑ g, Real.exp (A g - m3 A) : ℝ) : EReal) := by
  pointwise [k0_pay8, k0_pay5, k0_pay6, k0_pay7, k0_pay1, k0_pay2, k0_pay3]
  rw [p4 l0 l1 l2 A j h0 h1 h2, h0, h1, h2]
  simp only [← EReal.coe_sub, Ideal.exp_coe, ← EReal.coe_add, Fin.sum_univ_three]
theorem pL : k0_pay10 (F := Ideal) l0 l1 l2 j = ((lsum A : ℝ) : EReal) := by
  pointwise [k0_pay10]
  rw [p4 l0 l1 l2 A j h0 h1 h2, p8 l0 l1 l2 A j h0 h1 h2, log_sum_exp, ← EReal.coe_add, lsum_shift]
include g0 g1 g2
theorem pO : k0_pay9 (F := Ideal) l0 l1 l2 o0 o1 o2 j = ((∑ g, pr A g * B g : ℝ) : EReal) := by
  pointwise [k0_pay9, k0_pay5, k0_pay6, k0_pay7, k0_pay1, k0_pay2, k0_pay3]
  rw [p4 l0 l1 l2 A j h0 h1 h2, p8 l0 l1 l2 A j h0 h1 h2, h0, h1, h2, g0, g1, g2]
  simp only [← EReal.coe_sub, Ideal.exp_coe, ← EReal.coe_mul, ← EReal.coe_add, div_sum_exp]
  refine congrArg _ ?_
  simp only [← pr_shift A (m3 A), Fin.sum_univ_three]
  ring
end tile

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`. -/
def row (t : Fin cfg0.N) (r : Fin 512) : Fin 4096 := ⟨t.val * 512 + r.val, by have h := lt_of_lt_of_eq t.isLt N_0; omega⟩

section arrays
variable (m : (ℓ : Loc nD τ sig) → Buf (Elt Ideal) ℓ) (c : Dev nD) (O0 O1 O2 : S4096x256.Idx → ℝ) (L0 L1 L2 : S4096x4.Idx → ℝ)
  (g0 : m ((c : Thread nD τ).loc main_arg0) = up O0) (g1 : m ((c : Thread nD τ).loc main_arg1) = up O1) (g2 : m ((c : Thread nD τ).loc main_arg2) = up O2)
  (k0 : m ((c : Thread nD τ).loc main_arg3) = up L0) (k1 : m ((c : Thread nD τ).loc main_arg4) = up L1) (k2 : m ((c : Thread nD τ).loc main_arg5) = up L2)

include g0 in
theorem tile_0 (t : Fin cfg0.N) (r : Fin 512) (l : Fin 256) : iblk m c 0 t (ix2 r l) = ((O0 (ix2 (row t r) l) : ℝ) : EReal) := by
  have e : ((cfg0.win 0).blk t).view.emb (ix2 r l) = (ix2 (row t r) l : S4096x256.Idx) := by blk_ext [idx t, row]
  show V m c main_arg0 (((cfg0.win 0).blk t).view.emb (ix2 r l)) = _
  entry_read
  rw [e]
  exact congrFun g0 _

include g1 in
theorem tile_1 (t : Fin cfg0.N) (r : Fin 512) (l : Fin 256) : iblk m c 1 t (ix2 r l) = ((O1 (ix2 (row t r) l) : ℝ) : EReal) := by
  have e : ((cfg0.win 1).blk t).view.emb (ix2 r l) = (ix2 (row t r) l : S4096x256.Idx) := by blk_ext [idx t, row]
  show V m c main_arg1 (((cfg0.win 1).blk t).view.emb (ix2 r l)) = _
  entry_read
  rw [e]
  exact congrFun g1 _

include g2 in
theorem tile_2 (t : Fin cfg0.N) (r : Fin 512) (l : Fin 256) : iblk m c 2 t (ix2 r l) = ((O2 (ix2 (row t r) l) : ℝ) : EReal) := by
  have e : ((cfg0.win 2).blk t).view.emb (ix2 r l) = (ix2 (row t r) l : S4096x256.Idx) := by blk_ext [idx t, row]
  show V m c main_arg2 (((cfg0.win 2).blk t).view.emb (ix2 r l)) = _
  entry_read
  rw [e]
  exact congrFun g2 _

include k0 in
theorem tile_3 (t : Fin cfg0.N) (r : Fin 512) (l : Fin 256) : iblk m c 3 t (ix2 r l) = ((L0 (ix2 (row t r) ⟨l.val / 64, by omega⟩) : ℝ) : EReal) := by
  have e : ((cfg0.win 3).blk t).view.emb (ix2 r l) = (ix2 (row t r) l : S4096x256.Idx) := by blk_ext [idx t, row]
  show V m c main_v1 (((cfg0.win 3).blk t).view.emb (ix2 r l)) = _
  entry_read
  rw [e]
  pointwise
  exact congrFun k0 _

include k1 in
theorem tile_4 (t : Fin cfg0.N) (r : Fin 512) (l : Fin 256) : iblk m c 4 t (ix2 r l) = ((L1 (ix2 (row t r) ⟨l.val / 64, by omega⟩) : ℝ) : EReal) := by
  have e : ((cfg0.win 4).blk t).view.emb (ix2 r l) = (ix2 (row t r) l : S4096x256.Idx) := by blk_ext [idx t, row]
  show V m c main_v3 (((cfg0.win 4).blk t).view.emb (ix2 r l)) = _
  entry_read
  rw [e]
  pointwise
  exact congrFun k1 _

include k2 in
theorem tile_5 (t : Fin cfg0.N) (r : Fin 512) (l : Fin 256) : iblk m c 5 t (ix2 r l) = ((L2 (ix2 (row t r) ⟨l.val / 64, by omega⟩) : ℝ) : EReal) := by
  have e : ((cfg0.win 5).blk t).view.emb (ix2 r l) = (ix2 (row t r) l : S4096x256.Idx) := by blk_ext [idx t, row]
  show V m c main_v5 (((cfg0.win 5).blk t).view.emb (ix2 r l)) = _
  entry_read
  rw [e]
  pointwise
  exact congrFun k2 _

theorem emb_o (t : Fin cfg0.N) (y : S512x256.Idx) : ((cfg0.win 6).blk t).view.emb y = (ix2 (row t (y 0)) (y 1) : S4096x256.Idx) := by
  rw [eq_ix2 y]; blk_ext [idx t, row]
theorem emb_l (t : Fin cfg0.N) (y : S512x256.Idx) : ((cfg0.win 7).blk t).view.emb y = (ix2 (row t (y 0)) (y 1) : S4096x256.Idx) := by
  rw [eq_ix2 y]; blk_ext [idx t, row]

/-- The whole block of a window. -/
theorem block {e : EltTy} (x : S512x256.Idx → Elt Ideal e) (inb) (r : Fin 512) (l : Fin 256) :
    View.ld x (Rect.unit (s := S512x256) ![0, 0] S512x256.size inb) (ix2 r l) = x (ix2 r l) :=
  (Cert.MemKernelIdeal.Hand.ld_cols x inb r l r.isLt (by omega)).trans (congrArg (fun z => x (ix2 r z)) (Fin.ext (Nat.zero_add _)))

include g0 g1 g2 k0 k1 k2 in
theorem final_o : (dats m 0 c).arrAt 6 cfg0.N = outO O0 O1 O2 L0 L1 L2 := by
  refine (dats m 0 c).arrAt_eq_of_covers 6 _ (by decide +kernel) fun t _ y => ?_
  blk_simp
  rw [after0_6]; unfold out0_6
  canon_tiles x h
  obtain ⟨r, l, rfl⟩ : ∃ a b, x = ix2 a b := ⟨x 0, x 1, eq_ix2 x⟩
  change (y 0).val = r.val at h0
  change (y 1).val = l.val at h1
  refine (pO _ _ _ _ _ _ (lg L0 L1 L2 (row t r) ⟨l.val / 64, by omega⟩) (og O0 O1 O2 (row t r) l) (ix2 r l)
    ((block _ _ r l).trans (tile_3 m c L0 k0 t r l)) ((block _ _ r l).trans (tile_4 m c L1 k1 t r l)) ((block _ _ r l).trans (tile_5 m c L2 k2 t r l))
    ((block _ _ r l).trans (tile_0 m c O0 g0 t r l)) ((block _ _ r l).trans (tile_1 m c O1 g1 t r l)) ((block _ _ r l).trans (tile_2 m c O2 g2 t r l))).trans ?_
  refine Eq.trans ?_ (congrArg (outO O0 O1 O2 L0 L1 L2) (emb_o t y).symm)
  have e0 : y 0 = r := Fin.ext h0
  have e1 : y 1 = l := Fin.ext h1
  rw [e0, e1]
  rfl

include k0 k1 k2 in
theorem final_l : (dats m 0 c).arrAt 7 cfg0.N = outL L0 L1 L2 := by
  refine (dats m 0 c).arrAt_eq_of_covers 7 _ (by decide +kernel) fun t _ y => ?_
  blk_simp
  rw [after0_7]; unfold out0_7
  canon_tiles x h
  obtain ⟨r, l, rfl⟩ : ∃ a b, x = ix2 a b := ⟨x 0, x 1, eq_ix2 x⟩
  change (y 0).val = r.val at h0
  change (y 1).val = l.val at h1
  refine (pL _ _ _ (lg L0 L1 L2 (row t r) ⟨l.val / 64, by omega⟩) (ix2 r l)
    ((block _ _ r l).trans (tile_3 m c L0 k0 t r l)) ((block _ _ r l).trans (tile_4 m c L1 k1 t r l)) ((block _ _ r l).trans (tile_5 m c L2 k2 t r l))).trans ?_
  refine Eq.trans ?_ (congrArg (outL L0 L1 L2) (emb_l t y).symm)
  have e0 : y 0 = r := Fin.ext h0
  have e1 : y 1 = l := Fin.ext h1
  rw [e0, e1]
  rfl

end arrays
end Cert.CombineKernelIdeal.Hand

namespace Cert.CombineReferenceIdeal.Hand

open Cert.CombineReferenceIdeal Cert.CombineReferenceIdeal.Read Cert.Reals Cert.AttnReal Cert.CombineReal

variable (O0 O1 O2 : S4096x256.Idx → ℝ) (L0 L1 L2 : S4096x4.Idx → ℝ)

theorem r3 (g : Fin 3) (s a) : val_main_v3 (F := Ideal) (up L0) (up L1) (up L2) (ix3 g s a) = ((lg L0 L1 L2 s a g : ℝ) : EReal) := by
  fin_cases g <;> (pointwise [val_main_v3, val_main_v0, val_main_v1, val_main_v2]; rfl)

theorem r21 (g : Fin 3) (s a d) : val_main_v21 (F := Ideal) (up O0) (up O1) (up O2) (ix4 g s a d) = ((og O0 O1 O2 s ⟨a.val * 64 + d.val, by omega⟩ g : ℝ) : EReal) := by
  fin_cases g <;> (pointwise [val_main_v21, val_main_v15, val_main_v16, val_main_v17, val_main_v18, val_main_v19, val_main_v20]; rfl)

theorem r22 (s a) : val_main_v22 (F := Ideal) (up L0) (up L1) (up L2) (ix2 s a) = ((rowmax (lg L0 L1 L2 s a) : ℝ) : EReal) := by
  pointwise [val_main_v22, val_main_cst_2]
  simp only [r3, c_bot, fold_max_coe]

theorem r6 (s a) : val_main_v6 (F := Ideal) (up L0) (up L1) (up L2) (ix2 s a) = ((rowmax (lg L0 L1 L2 s a) : ℝ) : EReal) := by
  have h5 : val_main_v5 (F := Ideal) (ix2 s a) = ⊥ := by
    pointwise [val_main_v5, val_main_cst_0]
    exact c_bot
  have h4 : val_main_v4 (F := Ideal) (up L0) (up L1) (up L2) (ix2 s a) = ((rowmax (lg L0 L1 L2 s a) : ℝ) : EReal) := r22 L0 L1 L2 s a
  rw [val_main_v6_apply, h5, h4]
  exact max_bot_left _

theorem r10 (g : Fin 3) (s a) : val_main_v10 (F := Ideal) (up L0) (up L1) (up L2) (ix3 g s a) = ((Real.exp (lg L0 L1 L2 s a g - rowmax (lg L0 L1 L2 s a)) : ℝ) : EReal) := by
  have h8 : val_main_v8 (F := Ideal) (up L0) (up L1) (up L2) (ix3 g s a) = ((rowmax (lg L0 L1 L2 s a) : ℝ) : EReal) := by
    pointwise [val_main_v8, val_main_v7]
    exact r6 L0 L1 L2 s a
  rw [val_main_v10_apply, val_main_v9_apply, r3, h8]
  rfl

theorem r26 (g : Fin 3) (s a) : val_main_v26 (F := Ideal) (up L0) (up L1) (up L2) (ix3 g s a) = ((Real.exp (lg L0 L1 L2 s a g - rowmax (lg L0 L1 L2 s a)) : ℝ) : EReal) := by
  have h24 : val_main_v24 (F := Ideal) (up L0) (up L1) (up L2) (ix3 g s a) = ((rowmax (lg L0 L1 L2 s a) : ℝ) : EReal) := by
    pointwise [val_main_v24, val_main_v23]
    exact r22 L0 L1 L2 s a
  rw [val_main_v26_apply, val_main_v25_apply, r3, h24]
  rfl

theorem r29 (s a) : val_main_v29 (F := Ideal) (up L0) (up L1) (up L2) (ix2 s a) = ((lsum (lg L0 L1 L2 s a) : ℝ) : EReal) := by
  have h27 : val_main_v27 (F := Ideal) (up L0) (up L1) (up L2) (ix2 s a) = ((∑ g, Real.exp (lg L0 L1 L2 s a g - rowmax (lg L0 L1 L2 s a)) : ℝ) : EReal) := by
    pointwise [val_main_v27, val_main_cst_3]
    simp only [r26, coe_sum]
  rw [val_main_v29_apply, val_main_v28_apply, r22, h27]
  refine (congrArg (fun z => ((rowmax (lg L0 L1 L2 s a) : ℝ) : EReal) + z) (log_sum_exp _ _)).trans ((EReal.coe_add _ _).symm.trans (congrArg _ ?_))
  exact lsum_shift _ _

theorem r14 (g : Fin 3) (s a) : val_main_v14 (F := Ideal) (up L0) (up L1) (up L2) (ix3 g s a) = ((pr (lg L0 L1 L2 s a) g : ℝ) : EReal) := by
  have h13 : val_main_v13 (F := Ideal) (up L0) (up L1) (up L2) (ix3 g s a) = ((∑ g, Real.exp (lg L0 L1 L2 s a g - rowmax (lg L0 L1 L2 s a)) : ℝ) : EReal) := by
    pointwise [val_main_v13, val_main_v12, val_main_v11, val_main_cst_1]
    simp only [r10, coe_sum]
  rw [val_main_v14_apply, r10, h13]
  refine (div_sum_exp _ _ _).trans (congrArg _ ?_)
  exact pr_shift _ _ _

theorem r33 (s a d) : val_main_v33 (F := Ideal) (up O0) (up O1) (up O2) (up L0) (up L1) (up L2) (ix3 s a d)
    = ((∑ g, pr (lg L0 L1 L2 s a) g * og O0 O1 O2 s ⟨a.val * 64 + d.val, by omega⟩ g : ℝ) : EReal) := by
  pointwise [val_main_v33, val_main_v32, val_main_v31, val_main_v30, val_main_cst_4]
  simp only [r14, r21, ← EReal.coe_mul, coe_sum]

theorem ref_o : val_main_v34 (F := Ideal) (up O0) (up O1) (up O2) (up L0) (up L1) (up L2) = outO O0 O1 O2 L0 L1 L2 := by
  funext y
  obtain ⟨s, l, rfl⟩ : ∃ a b, y = ix2 a b := ⟨y 0, y 1, eq_ix2 y⟩
  pointwise [val_main_v34]
  refine (r33 O0 O1 O2 L0 L1 L2 s ⟨l.val / 64, by omega⟩ ⟨l.val % 64, by omega⟩).trans (congrArg (fun z : ℝ => (z : EReal)) ?_)
  refine Finset.sum_congr rfl fun g _ => congrArg (fun z => _ * og O0 O1 O2 s z g) (Fin.ext ?_)
  show l.val / 64 * 64 + l.val % 64 = l.val; omega

theorem ref_l : val_main_v36 (F := Ideal) (up L0) (up L1) (up L2) = outL L0 L1 L2 := by
  funext y
  obtain ⟨s, l, rfl⟩ : ∃ a b, y = ix2 a b := ⟨y 0, y 1, eq_ix2 y⟩
  pointwise [val_main_v36, val_main_v35]
  exact r29 L0 L1 L2 s ⟨l.val / 64, by omega⟩

end Cert.CombineReferenceIdeal.Hand

end
-- ==== Proof.BandFwdTile.lean ====
/-
  One tile of the dilated attention's forward call: what it computes from its masked scores, and how that is the whole array's.
-/
module

public import proofs.«01_k».proof.Proof.Gen.Band0FwdKernelIdeal.Value
public import proofs.«01_k».proof.Proof.Gen.Band0FwdReferenceIdeal.Run
public import proofs.«01_k».proof.Proof.Gen.Band0FwdReferenceIdeal.Read
public import Idealize.ShloMosaic.Lib.Pipeline.ValueKit
public import Idealize.ShloMosaic.Lib.Pointwise
public import proofs.«01_k».proof.Proof.Reals
public import proofs.«01_k».proof.Proof.MaskReal
public import proofs.«01_k».proof.Proof.BandTile
public import proofs.«01_k».proof.Proof.BandSaved

@[expose] public section

set_option maxRecDepth 16384

noncomputable section

open Idealize.ShloMosaic Idealize.ShloMosaic.TcCoe Idealize.SL.Sem
open Idealize.ShloMosaic.Pipeline (Dat)

namespace Cert.BandFwdTile

open Cert.Band0FwdKernelIdeal Cert.Band0FwdKernelIdeal.Gen Cert.Reals Cert.AttnReal Cert.MaskReal Cert.BandReal Cert.BandTile

/-! The steps of one head, and of a pair, as the call writes them. -/

section generic
variable {F : FTy → Type} [FloatOps F] [Named F]

def score (z : F .f32) (ok : IVec S128x256 1) (w : IVec S1x128 1) (q : FVec F S128x128 .bf16) (k : FVec F S256x128 .bf16) : FVec F S128x256 .f32 :=
  select ok (matmul dot_S128x128_S256x128_S128x256_1_1_0_0_n_n none
    (select (broadcastTo S128x128 (shapeCast S1x128 w shapeCasts_S1x128_S1x128) broadcasts_S1x128_S128x128) q (broadcast S128x128 (Scalar.ofBits .bf16 0x0000#16)))
    k (constant S128x256 .f32 0x00000000#32)) (broadcast S128x256 z)
def top (S : FVec F S128x256 .f32) : FVec F S128x1 .f32 :=
  shapeCast S128x1 (multiReduction .maximumf [1] S128 S 0xFF800000#32 reduces_S128x256_S128 (.inl rfl) rfl) shapeCasts_S128_S128x1
def wts (S : FVec F S128x256 .f32) : FVec F S128x256 .f32 := exp (subf S (broadcastTo S128x256 (top S) broadcasts_S128x1_S128x256))
def tot (S : FVec F S128x256 .f32) : FVec F S128x1 .f32 :=
  shapeCast S128x1 (multiReduction .add [1] S128 (wts S) 0x00000000#32 reduces_S128x256_S128 (.inl rfl) rfl) shapeCasts_S128_S128x1
def logs (S : FVec F S128x256 .f32) : FVec F S128x1 .f32 := addf (top S) (log (tot S))
def one (w : IVec S1x128 1) (v : FVec F S256x128 .bf16) (S : FVec F S128x256 .f32) : FVec F S128x128 .f32 :=
  divf (matmul dot_S128x256_S256x128_S128x128_1_0_0_1_n_n none (truncf .bf16 (wts S) bitsLt_bf16_f32)
    (select (broadcastTo S256x128 (shapeCast S1x128 w shapeCasts_S1x128_S1x128) broadcasts_S1x128_S256x128) v (broadcast S256x128 (Scalar.ofBits .bf16 0x0000#16)))
    (constant S128x128 .f32 0x00000000#32)) (broadcastTo S128x128 (tot S) broadcasts_S128x1_S128x128)
def both (w w' : IVec S1x128 1) (v : FVec F S256x128 .bf16) (S S' : FVec F S128x256 .f32) : FVec F S128x128 .f32 :=
  addf (addf (broadcast S128x128 (Scalar.ofBits .f32 0x00000000#32)) (one w v S)) (one w' v S')
def bothL (w : IVec S1x128 1) (S S' : FVec F S128x256 .f32) : FVec F S128x128 .f32 :=
  select (broadcastTo S128x128 (shapeCast S1x128 w shapeCasts_S1x128_S1x128) broadcasts_S1x128_S128x128)
    (broadcastTo S128x128 (shapeCast S128x1 (logs S) shapeCasts_S128x1_S128x1) broadcasts_S128x1_S128x128)
    (broadcastTo S128x128 (shapeCast S128x1 (logs S') shapeCasts_S128x1_S128x1) broadcasts_S128x1_S128x128)
def keys (k1 k2 : FVec F S128x256 .bf16) : FVec F S256x256 .bf16 :=
  concatenate S256x256 0 [⟨S128x256, shapeCast S128x256 k1 shapeCasts_S128x256_S128x256⟩, ⟨S128x256, shapeCast S128x256 k2 shapeCasts_S128x256_S128x256⟩] concatenates_S128x256_S128x256_S256x256_d0
/-- The lanes of a pair of heads in two blocks of rows, and the words telling the two heads' lanes apart. -/
def half0 (x y : FVec F S128x256 .bf16) : FVec F S256x128 .bf16 := extractStridedSlice S256x128 ![0, 0] (keys x y) slices_S256x256_o0_0_S256x128
def half1 (x y : FVec F S128x256 .bf16) : FVec F S256x128 .bf16 := extractStridedSlice S256x128 ![0, 128] (keys x y) slices_S256x256_o0_128_S256x128
def lane128 (q : FVec F S128x128 .bf16) : FVec F S128x128 .bf16 := shapeCast S128x128 q shapeCasts_S128x128_S128x128
def wl : IVec S1x128 1 := k0_pay9 (iota .tc S1x128 32 [1] iota_S1x128_d1_w32) (Scalar.select (Scalar.cmpi .eq 128#32 0#32) 1#32 128#32)
def wh : IVec S1x128 1 := k0_pay17 (Scalar.select (Scalar.cmpi .eq 128#32 0#32) 1#32 128#32) k0_pay16
/-- The output and the log of the denominator of one tile. -/
def tileO (z : F .f32) (ok : IVec S128x256 1) (q : FVec F S128x128 .bf16) (k v : FVec F S256x128 .bf16) : FVec F S128x128 .f32 :=
  both wl wh v (score z ok wl (lane128 q) k) (score z ok wh (lane128 q) k)
def tileL (z : F .f32) (ok : IVec S128x256 1) (q : FVec F S128x128 .bf16) (k : FVec F S256x128 .bf16) : FVec F S128x128 .f32 :=
  bothL wl (score z ok wl (lane128 q) k) (score z ok wh (lane128 q) k)
end generic

theorem wl_eq (l) : wl (ix2 0 l) = BitVec.ofBool (decide (l.val < 64)) := by revert l; decide +kernel
theorem wh_eq (l) : wh (ix2 0 l) = BitVec.ofBool (decide (64 ≤ l.val)) := by revert l; decide +kernel

section halves
variable (x y : FVec Ideal S128x256 .bf16) (A : Fin 256 → Fin 256 → ℝ)
  (hx : ∀ (c : Fin 128) (l : Fin 256), x (ix2 c l) = ((A (lcol 0 c) l : ℝ) : EReal)) (hy : ∀ (c : Fin 128) (l : Fin 256), y (ix2 c l) = ((A (lcol 1 c) l : ℝ) : EReal))
include hx hy
theorem keys_eq (j l) : keys (F := Ideal) x y (ix2 j l) = ((A j l : ℝ) : EReal) := by
  pointwise [keys]
  split
  · rw [hx]; refine congrArg _ (congrArg (A · l) (Fin.ext ?_)); show 0 * 128 + j.val = j.val; omega
  · rw [hy]; refine congrArg _ (congrArg (A · l) (Fin.ext ?_)); show 1 * 128 + (j.val - 128) = j.val; omega
theorem half0_eq (j l) : half0 (F := Ideal) x y (ix2 j l) = ((A j (lcol 0 l) : ℝ) : EReal) := by
  pointwise [half0]
  refine (keys_eq x y A hx hy _ _).trans (congrArg _ (congrArg (A j) (Fin.ext ?_))); show l.val = 0 * 128 + l.val; omega
theorem half1_eq (j l) : half1 (F := Ideal) x y (ix2 j l) = ((A j (lcol 1 l) : ℝ) : EReal) := by
  pointwise [half1]
  refine (keys_eq x y A hx hy _ _).trans (congrArg _ (congrArg (A j) (Fin.ext ?_))); show 128 + l.val = 1 * 128 + l.val; omega
end halves

/-- The log of the denominator over the keys that are seen. -/
def mlse {n : ℕ} (b : Fin n → Prop) [DecidablePred b] (s : Fin n → ℝ) : ℝ := Real.log (∑ j, mw b s 0 j)

theorem mlse_shift {n : ℕ} (b : Fin n → Prop) [DecidablePred b] (s : Fin n → ℝ) (h : ∃ k, b k) (a : ℝ) :
    a + Real.log (∑ j, mw b s a j) = mlse b s := by
  have e : ∑ j, mw b s a j = (∑ j, mw b s 0 j) * Real.exp (-a) := by
    rw [Finset.sum_mul]; exact Finset.sum_congr rfl fun j _ => mw_shift b s a j
  rw [e, Real.log_mul (mdenom_pos b s h 0).ne' (Real.exp_pos _).ne', Real.log_exp, mlse]; ring

theorem pick (l : ℕ) (x y : ℝ) : Scalar.select (BitVec.ofBool (decide (l < 64))) (x : EReal) (y : EReal) = ((if l < 64 then x else y : ℝ) : EReal) := by
  by_cases h : l < 64 <;> simp [h, Scalar.select]

theorem msc_select {n : ℕ} (b : Fin n → Prop) [DecidablePred b] (s : Fin n → ℝ) (j : Fin n) :
    Scalar.select (BitVec.ofBool (decide (b j))) ((s j : ℝ) : EReal) (⊥ : EReal) = msc b s j := by
  unfold msc
  by_cases h : b j <;> simp [h, Scalar.select]

section tile
variable (b : Fin 128 → Fin 256 → Prop) [∀ r, DecidablePred (b r)] (wl wh : IVec S1x128 1)
  (hl : ∀ l, wl (ix2 0 l) = BitVec.ofBool (decide (l.val < 64))) (hh : ∀ l, wh (ix2 0 l) = BitVec.ofBool (decide (64 ≤ l.val)))

/-- The scores of one of the two heads. -/
def sc (Q : Fin 128 → Fin 128 → ℝ) (K : Fin 256 → Fin 128 → ℝ) (a : Fin 2) (r : Fin 128) (j : Fin 256) : ℝ := ∑ d, Q r (lane a d) * K j (lane a d)

section scores
variable (ok : IVec S128x256 1) (q : FVec Ideal S128x128 .bf16) (k : FVec Ideal S256x128 .bf16) (Q : Fin 128 → Fin 128 → ℝ) (K : Fin 256 → Fin 128 → ℝ)
  (hok : ∀ r c, ok (ix2 r c) = BitVec.ofBool (decide (b r c)))
  (hq : ∀ r l, q (ix2 r l) = ((Q r l : ℝ) : EReal)) (hk : ∀ r l, k (ix2 r l) = ((K r l : ℝ) : EReal))
include hok hq hk
include hl in
theorem score_lo (r j) : score (F := Ideal) (⊥ : EReal) ok wl q k (ix2 r j) = msc (b r) (sc Q K 0 r) j := by
  pointwise [score]
  simp only [hq, hk, hl, hok, ← EReal.coe_mul, sel_lo, coe_sum, ite_mul, zero_mul, sum_lo']
  exact msc_select (b r) (sc Q K 0 r) j
include hh in
theorem score_hi (r j) : score (F := Ideal) (⊥ : EReal) ok wh q k (ix2 r j) = msc (b r) (sc Q K 1 r) j := by
  pointwise [score]
  simp only [hq, hk, hh, hok, ← EReal.coe_mul, sel_hi, coe_sum, ite_mul, zero_mul, sum_hi']
  exact msc_select (b r) (sc Q K 1 r) j
end scores

variable (he : ∀ r, ∃ j, b r j)

section head
variable (S : FVec Ideal S128x256 .f32) (s : Fin 128 → Fin 256 → ℝ) (hS : ∀ r j, S (ix2 r j) = msc (b r) (s r) j)
include hS he
theorem top_eq (r) : top (F := Ideal) S (ix2 r 0) = ((mmax (b r) (s r) : ℝ) : EReal) := by
  pointwise [top]
  simp only [hS, c_bot]
  exact mfold_max _ _ (he r)
theorem wts_eq (r j) : wts (F := Ideal) S (ix2 r j) = ((mw (b r) (s r) (mmax (b r) (s r)) j : ℝ) : EReal) := by
  pointwise [wts]
  simp only [hS, top_eq b he S s hS, exp_msc]
theorem tot_eq (r) : tot (F := Ideal) S (ix2 r 0) = ((∑ j, mw (b r) (s r) (mmax (b r) (s r)) j : ℝ) : EReal) := by
  pointwise [tot]
  simp only [wts_eq b he S s hS, coe_sum]
theorem logs_eq (r) : logs (F := Ideal) S (ix2 r 0) = ((mlse (b r) (s r) : ℝ) : EReal) := by
  pointwise [logs]
  rw [top_eq b he S s hS, tot_eq b he S s hS, log_mdenom _ _ (he r), ← EReal.coe_add, mlse_shift _ _ (he r)]

variable (v : FVec Ideal S256x128 .bf16) (V : Fin 256 → Fin 128 → ℝ) (hv : ∀ r l, v (ix2 r l) = ((V r l : ℝ) : EReal))
include hv
theorem share (r) (f : Fin 256 → ℝ) (a : ℝ) : (∑ j, mw (b r) (s r) a j * f j) * (1 / ∑ j, mw (b r) (s r) a j) = ∑ j, mpr (b r) (s r) j * f j := by
  rw [Finset.sum_mul]
  exact Finset.sum_congr rfl fun j _ => by rw [← mpr_shift (b r) (s r) (he r) a j]; ring
include hl in
theorem one_lo (r l) : one (F := Ideal) wl v S (ix2 r l) = ((if l.val < 64 then ∑ j, mpr (b r) (s r) j * V j l else 0 : ℝ) : EReal) := by
  pointwise [one]
  simp only [wts_eq b he S s hS, tot_eq b he S s hS, hv, hl, sel_lo, ← EReal.coe_mul, coe_sum, div_mdenom _ _ (he r)]
  refine congrArg _ ?_
  by_cases h : l.val < 64
  · simp only [h, if_true]; exact share b he S s hS v V hv r _ _
  · simp only [h, if_false, Finset.sum_const_zero, zero_mul]
include hh in
theorem one_hi (r l) : one (F := Ideal) wh v S (ix2 r l) = ((if l.val < 64 then 0 else ∑ j, mpr (b r) (s r) j * V j l : ℝ) : EReal) := by
  pointwise [one]
  simp only [wts_eq b he S s hS, tot_eq b he S s hS, hv, hh, sel_hi, ← EReal.coe_mul, coe_sum, div_mdenom _ _ (he r)]
  refine congrArg _ ?_
  by_cases h : l.val < 64
  · simp only [h, if_true, Finset.sum_const_zero, zero_mul]
  · simp only [h, if_false]; exact share b he S s hS v V hv r _ _
end head

section pair
variable (ok : IVec S128x256 1) (q : FVec Ideal S128x128 .bf16) (k v : FVec Ideal S256x128 .bf16) (Q : Fin 128 → Fin 128 → ℝ) (K V : Fin 256 → Fin 128 → ℝ)
  (hok : ∀ r c, ok (ix2 r c) = BitVec.ofBool (decide (b r c)))
  (hq : ∀ r l, q (ix2 r l) = ((Q r l : ℝ) : EReal)) (hk : ∀ r l, k (ix2 r l) = ((K r l : ℝ) : EReal)) (hv : ∀ r l, v (ix2 r l) = ((V r l : ℝ) : EReal))
include he hl hh hok hq hk
theorem bothL_eq (r l) : bothL (F := Ideal) wl (score (⊥ : EReal) ok wl q k) (score (⊥ : EReal) ok wh q k) (ix2 r l)
    = ((if l.val < 64 then mlse (b r) (sc Q K 0 r) else mlse (b r) (sc Q K 1 r) : ℝ) : EReal) := by
  pointwise [bothL]
  rw [logs_eq b he _ _ (score_lo b wl hl ok q k Q K hok hq hk), logs_eq b he _ _ (score_hi b wh hh ok q k Q K hok hq hk), hl]
  exact pick _ _ _
include hv
theorem both_eq (r l) : both (F := Ideal) wl wh v (score (⊥ : EReal) ok wl q k) (score (⊥ : EReal) ok wh q k) (ix2 r l)
    = ((if l.val < 64 then ∑ j, mpr (b r) (sc Q K 0 r) j * V j l else ∑ j, mpr (b r) (sc Q K 1 r) j * V j l : ℝ) : EReal) := by
  pointwise [both]
  rw [one_lo b wl hl he _ _ (score_lo b wl hl ok q k Q K hok hq hk) v V hv, one_hi b wh hh he _ _ (score_hi b wh hh ok q k Q K hok hq hk) v V hv, ← EReal.coe_add]
  refine congrArg _ ?_
  by_cases h : l.val < 64 <;> simp only [h, if_true, if_false, add_zero, zero_add]
end pair
end tile

/-! The tile against the whole arrays. -/

section whole
variable (X K V : Wide) (g : Fin 3) (p : Fin 2) (s : Fin 128 → Fin 4096) (u : Fin 256 → Fin 4096)
  (b : Fin 128 → Fin 256 → Prop) [∀ r, DecidablePred (b r)] (hb : ∀ a r j, b r j → sees (head g p a) (s r) (u j))
  (hi : ∀ r i j, b r i → b r j → u i = u j → i = j) (hs : ∀ a r k, sees (head g p a) (s r) k → ∃ j, b r j ∧ u j = k)

/-- What the lane of a head gives, and its log of the denominator. -/
def oW (q : Fin 4096) (l : Fin 768) : ℝ := ∑ k, P X K (hd l) q k * V (ix2 k l)
def lW (q : Fin 4096) (l : Fin 768) : ℝ := lse X K (hd l) q

include hs in
theorem exists_seen (r) : ∃ j, b r j := by
  obtain ⟨k, hk⟩ := sees_self (head g p 0) (s r)
  obtain ⟨j, hj, _⟩ := hs 0 r k hk
  exact ⟨j, hj⟩

theorem sc_eq (a r j) : sc (tQ X g p s) (tK K g p u) a r j = Sc X K (head g p a) (s r) (u j) :=
  Finset.sum_congr rfl fun d _ => by simp only [tQ, tK, col_lane]

include hb in
theorem mw_eq (a r j) : mw (b r) (sc (tQ X g p s) (tK K g p u) a r) 0 j
    = if b r j then mw (sees (head g p a) (s r)) (Sc X K (head g p a) (s r)) 0 (u j) else 0 := by
  unfold mw
  by_cases h : b r j
  · rw [if_pos h, if_pos h, if_pos (hb a r j h), sc_eq]
  · rw [if_neg h, if_neg h]

include hb hi hs
theorem denom_eq (a r) : ∑ j, mw (b r) (sc (tQ X g p s) (tK K g p u) a r) 0 j = ∑ k, mw (sees (head g p a) (s r)) (Sc X K (head g p a) (s r)) 0 k := by
  simp only [mw_eq X K g p s u b hb]
  exact sum_tile u (b r) (fun k => mw (sees (head g p a) (s r)) (Sc X K (head g p a) (s r)) 0 k) (hi r)
    (fun k hk => hs a r k (by by_contra h; exact hk (by rw [mw, if_neg h])))

theorem mpr_eq (a r j) : mpr (b r) (sc (tQ X g p s) (tK K g p u) a r) j = if b r j then P X K (head g p a) (s r) (u j) else 0 := by
  rw [mpr, denom_eq X K g p s u b hb hi hs, mw_eq X K g p s u b hb]
  by_cases h : b r j
  · rw [if_pos h, if_pos h]; rfl
  · rw [if_neg h, if_neg h, zero_div]

theorem pair_o (r : Fin 128) (l : Fin 128) :
    (if l.val < 64 then ∑ j, mpr (b r) (sc (tQ X g p s) (tK K g p u) 0 r) j * tK V g p u j l else ∑ j, mpr (b r) (sc (tQ X g p s) (tK K g p u) 1 r) j * tK V g p u j l)
      = oW X K V (s r) (col g p l) := by
  simp only [mpr_eq X K g p s u b hb hi hs, ite_mul, zero_mul, oW, hd_col]
  have key : ∀ a : Fin 2, ∑ j, (if b r j then P X K (head g p a) (s r) (u j) * tK V g p u j l else 0)
      = ∑ k, P X K (head g p a) (s r) k * V (ix2 k (col g p l)) := fun a =>
    sum_tile u (b r) (fun k => P X K (head g p a) (s r) k * V (ix2 k (col g p l))) (hi r)
      (fun k hk => hs a r k (by by_contra h; exact hk (by rw [P_out X K _ _ _ h, zero_mul])))
  rw [key 0, key 1]
  split <;> rfl

theorem pair_l (r : Fin 128) (l : Fin 128) :
    (if l.val < 64 then mlse (b r) (sc (tQ X g p s) (tK K g p u) 0 r) else mlse (b r) (sc (tQ X g p s) (tK K g p u) 1 r)) = lW X K (s r) (col g p l) := by
  have key : ∀ a : Fin 2, mlse (b r) (sc (tQ X g p s) (tK K g p u) a r) = lse X K (head g p a) (s r) := fun a => by
    rw [mlse, denom_eq X K g p s u b hb hi hs]
    exact (mlse_shift (sees (head g p a) (s r)) (Sc X K (head g p a) (s r)) (sees_self _ _) (mx X K (head g p a) (s r))).symm
  rw [key 0, key 1, lW, hd_col]
  split <;> rfl

section values
variable (ok : IVec S128x256 1) (q : FVec Ideal S128x128 .bf16) (k v : FVec Ideal S256x128 .bf16) (hok : ∀ r c, ok (ix2 r c) = BitVec.ofBool (decide (b r c)))
  (hq : ∀ r l, q (ix2 r l) = ((tQ X g p s r l : ℝ) : EReal)) (hk : ∀ r l, k (ix2 r l) = ((tK K g p u r l : ℝ) : EReal))
  (hv : ∀ r l, v (ix2 r l) = ((tK V g p u r l : ℝ) : EReal))
include hok hq hk
omit hb hi hs in
theorem lane128_eq (r l) : lane128 (F := Ideal) q (ix2 r l) = ((tQ X g p s r l : ℝ) : EReal) := by
  pointwise [lane128]
  exact hq r l
theorem tileL_eq (r l) : tileL (F := Ideal) (⊥ : EReal) ok q k (ix2 r l) = ((lW X K (s r) (col g p l) : ℝ) : EReal) :=
  (bothL_eq b wl wh wl_eq wh_eq (exists_seen g p s u b hs) ok (lane128 q) k _ _ hok (lane128_eq X K g p s u b ok q k hok hq hk) hk r l).trans
    (congrArg (fun z : ℝ => (z : EReal)) (pair_l X K g p s u b hb hi hs r l))
include hv
theorem tileO_eq (r l) : tileO (F := Ideal) (⊥ : EReal) ok q k v (ix2 r l) = ((oW X K V (s r) (col g p l) : ℝ) : EReal) :=
  (both_eq b wl wh wl_eq wh_eq (exists_seen g p s u b hs) ok (lane128 q) k v _ _ _ hok (lane128_eq X K g p s u b ok q k hok hq hk) hk hv r l).trans
    (congrArg (fun z : ℝ => (z : EReal)) (pair_o X K V g p s u b hb hi hs r l))
end values
end whole

end Cert.BandFwdTile

namespace Cert.Band0FwdReferenceIdeal.Hand
open Cert.Band0FwdReferenceIdeal Cert.Band0FwdReferenceIdeal.Read Cert.Reals Cert.AttnReal Cert.MaskReal Cert.BandReal Cert.BandFwdTile
open Cert.Band0DqReferenceIdeal.Hand (up r33)

variable (X K V : Wide)

theorem s33 {F : FTy → Type} [FloatOps F] [Named F] (x0 x1) : val_main_v33 (F := F) x0 x1 = Cert.Band0DqReferenceIdeal.Read.val_main_v33_0 (F := F) x0 x1 := rfl
theorem r41 (h q) : val_main_v41 (F := Ideal) (up X) (up K) (ix2 h q) = ((lse X K h q : ℝ) : EReal) :=
  (congrFun (rfl : val_main_v41 (F := Ideal) (up X) (up K) = Cert.Band0DqReferenceIdeal.Read.val_main_v46 (F := Ideal) (up X) (up K)) (ix2 h q)).trans (Cert.Band0DqReferenceIdeal.Hand.r46 X K h q)
theorem r48 (q h d) : val_main_v48 (F := Ideal) (up X) (up K) (up V) (ix3 q h d) = ((att X K V h q d : ℝ) : EReal) :=
  (congrFun (rfl : val_main_v48 (F := Ideal) (up X) (up K) (up V) = Cert.Band0DqReferenceIdeal.Read.val_main_v53 (F := Ideal) (up X) (up K) (up V)) (ix3 q h d)).trans (Cert.Band0DqReferenceIdeal.Hand.r53 X K V q h d)

theorem whole_o (s : Fin 4096) (l : Fin 768) : val_main_v52 (F := Ideal) (up X) (up K) (up V) (ix2 s l) = ((oW X K V s l : ℝ) : EReal) := by
  pointwise [val_main_v52]
  refine (r48 X K V _ _ _).trans (congrArg _ ?_)
  have e : hl (hd l) ⟨l.val % 64, by omega⟩ = l := Fin.ext (by show l.val / 64 * 64 + l.val % 64 = l.val; omega)
  show ∑ k, V (ix2 k (hl (hd l) ⟨l.val % 64, _⟩)) * P X K (hd l) s k = _
  rw [e]
  exact Finset.sum_congr rfl fun k _ => mul_comm _ _
theorem whole_l (s : Fin 4096) (l : Fin 768) : val_main_v51 (F := Ideal) (up X) (up K) (ix2 s l) = ((lW X K s l : ℝ) : EReal) := by
  pointwise [val_main_v51, val_main_v50, val_main_v49]
  exact r41 X K _ _

end Cert.Band0FwdReferenceIdeal.Hand

end
-- ==== Proof.Band0Fwd.lean ====
/-
  The forward call of the dilated attention's group of dilation 1: its tiles put together.
-/
module

public import proofs.«01_k».proof.Proof.Gen.Band0FwdKernelIdeal.Value
public import proofs.«01_k».proof.Proof.Gen.Band0FwdReferenceIdeal.Run
public import proofs.«01_k».proof.Proof.Gen.Band0FwdReferenceIdeal.Read
public import Idealize.ShloMosaic.Lib.Pipeline.ValueKit
public import Idealize.ShloMosaic.Lib.Pointwise
public import proofs.«01_k».proof.Proof.Reals
public import proofs.«01_k».proof.Proof.BandFwdTile
public import proofs.«01_k».proof.Proof.Band0Dq

@[expose] public section

set_option maxRecDepth 16384

noncomputable section

open Idealize.ShloMosaic Idealize.ShloMosaic.TcCoe Idealize.SL.Sem
open Idealize.ShloMosaic.Pipeline (Dat)

namespace Cert.Band0FwdKernelIdeal.Hand

open Cert.Band0FwdKernelIdeal Cert.Band0FwdKernelIdeal.Gen Cert.Reals Cert.AttnReal Cert.BandReal Cert.BandTile Cert.BandHost Cert.BandFwdTile
open Cert.Band0DqReferenceIdeal.Hand (up)
open Cert.Band0DqKernelIdeal.Hand (at_2560 sq sp su ok su_ok ok_sees ok_inj ok_all su_lo su_hi kk lanes block)

section generic
variable {F : FTy → Type} [FloatOps F] [Named F] (o : IVec S128x256 1) (q : FVec F S128x128 .bf16) (k1 k2 v1 v2 : FVec F S128x256 .bf16)
/-- The first pair of heads and the second: what the call writes of the output and of the log of the denominator. -/
def o0 : FVec F S128x128 .f32 :=
  k0_pay22 o (k0_pay5 q) (k0_pay6 k1 k2) (k0_pay7 v1 v2) (k0_pay14 o (k0_pay5 q) (k0_pay6 k1 k2) (k0_pay7 v1 v2) (k0_pay8 (F := F)) (iota .tc S1x128 32 [1] iota_S1x128_d1_w32) (Scalar.select (Scalar.cmpi .eq 128#32 0#32) 1#32 128#32)) (Scalar.select (Scalar.cmpi .eq 128#32 0#32) 1#32 128#32) k0_pay16
def o1 : FVec F S128x128 .f32 :=
  k0_pay47 o (k0_pay25 q) (k0_pay26 (k0_pay3 k1 k2)) (k0_pay27 (k0_pay4 v1 v2)) (k0_pay37 o (k0_pay25 q) (k0_pay26 (k0_pay3 k1 k2)) (k0_pay27 (k0_pay4 v1 v2)) (k0_pay28 (F := F)) (Scalar.select (Scalar.cmpi .eq 128#32 0#32) 1#32 128#32) k0_pay29 k0_pay30 k0_pay31) k0_pay39 k0_pay40 k0_pay41
def l0 : FVec F S128x128 .f32 :=
  k0_pay24 (k0_pay15 o (k0_pay5 q) (k0_pay6 k1 k2) (iota .tc S1x128 32 [1] iota_S1x128_d1_w32) (Scalar.select (Scalar.cmpi .eq 128#32 0#32) 1#32 128#32)) (k0_pay23 o (k0_pay5 q) (k0_pay6 k1 k2) (Scalar.select (Scalar.cmpi .eq 128#32 0#32) 1#32 128#32) k0_pay16) (iota .tc S1x128 32 [1] iota_S1x128_d1_w32) 128#32 (Scalar.cmpi .eq 128#32 0#32)
def l1 : FVec F S128x128 .f32 :=
  k0_pay1 (k0_pay38 o (k0_pay25 q) (k0_pay26 (k0_pay3 k1 k2)) (Scalar.select (Scalar.cmpi .eq 128#32 0#32) 1#32 128#32) k0_pay29 k0_pay30 k0_pay31) (k0_pay48 o (k0_pay25 q) (k0_pay26 (k0_pay3 k1 k2)) k0_pay39 k0_pay40 k0_pay41) (Scalar.select (Scalar.cmpi .eq 128#32 0#32) 1#32 128#32) k0_pay49 k0_pay50 k0_pay51 k0_pay52
theorem o0_tile : o0 o q k1 k2 v1 v2 = tileO (Named.named κ "mask" 0xF149F2CA#32) o q (half0 k1 k2) (half0 v1 v2) := rfl
theorem o1_tile : o1 o q k1 k2 v1 v2 = tileO (Named.named κ "mask" 0xF149F2CA#32) o q (half1 k1 k2) (half1 v1 v2) := rfl
theorem l0_tile : l0 o q k1 k2 = tileL (Named.named κ "mask" 0xF149F2CA#32) o q (half0 k1 k2) := rfl
theorem l1_tile : l1 o q k1 k2 = tileL (Named.named κ "mask" 0xF149F2CA#32) o q (half1 k1 k2) := rfl
end generic

section host
variable {F : FTy → Type} [FloatOps F] [Named F]
variable (m : (ℓ : Loc nD τ sig) → Buf (Elt F) ℓ) (c : Dev nD)

set_option maxHeartbeats 4000000 in
/-- What the host lines before the call leave in the array the call reads. -/
theorem V_x : V m c main_v5 = (wide (m (c, Proc.tc.devRef main_arg0)) (m (c, Proc.tc.devRef main_arg1)) (m (c, Proc.tc.devRef main_arg2)) (m (c, Proc.tc.devRef main_arg3))) := by
  unfold V
  after_reads_simp
  rfl
theorem iblk_0 (t : Fin cfg0.N) (y : S128x256.Idx) : iblk m c 0 t y = V m c main_v5 (((cfg0.win 0).blk t).view.emb y) := rfl
theorem iblk_1 (t : Fin cfg0.N) (y : S128x256.Idx) : iblk m c 1 t y = V m c main_v5 (((cfg0.win 1).blk t).view.emb y) := rfl
theorem iblk_2 (t : Fin cfg0.N) (y : S128x256.Idx) : iblk m c 2 t y = V m c main_v5 (((cfg0.win 2).blk t).view.emb y) := rfl
theorem iblk_3 (t : Fin cfg0.N) (y : S128x256.Idx) : iblk m c 3 t y = V m c main_v5 (((cfg0.win 3).blk t).view.emb y) := rfl
theorem iblk_4 (t : Fin cfg0.N) (y : S128x256.Idx) : iblk m c 4 t y = V m c main_v5 (((cfg0.win 4).blk t).view.emb y) := rfl
end host

/-! The grid: point `t` is row block `t % 32` of residue `t / 32`, as in the gradient of the queries. -/

theorem lt_t (t : Fin cfg0.N) : t.val < 32 := lt_of_lt_of_eq t.isLt N_0
def tt (t : Fin cfg0.N) : Fin Cert.Band0DqKernelIdeal.cfg0.N := ⟨t.val, lt_of_lt_of_eq (lt_t t) Cert.Band0DqKernelIdeal.Gen.N_0.symm⟩
theorem coord (t : Fin cfg0.N) : (grid0.coords t 1).val = t.val % 32 :=
  (by decide +kernel : ∀ t : Fin grid0.N, (grid0.coords t 1).val = t.val % 32) t
theorem idx : ∀ t : Fin cfg0.N, win0_0.index t = ![t.val % 32, t.val / 32 * 10 + 0] ∧ win0_1.index t = ![t.val % 32 - 1, t.val / 32 * 10 + 3]
    ∧ win0_2.index t = ![t.val % 32, t.val / 32 * 10 + 3] ∧ win0_3.index t = ![t.val % 32 - 1, t.val / 32 * 10 + 6]
    ∧ win0_4.index t = ![t.val % 32, t.val / 32 * 10 + 6] ∧ win0_5.index t = ![t.val % 32, t.val / 32] ∧ win0_6.index t = ![t.val % 32, t.val / 32] :=
  (by decide +kernel : ∀ t : Fin grid0.N, _)

theorem ok_word (t : Fin cfg0.N) (r j) : k0_pay2 (grid0.coords t) (ix2 r j) = BitVec.ofBool (decide (ok (tt t) r j)) := by
  pointwise [k0_pay2]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 4096)))
      (word_at (t.val % 32) r.val) (word_before (t.val % 32) j.val)).trans ?_
  rw [word_ok _ _ _ (by omega) (by omega) (by omega) (by omega) (by omega) (by omega)]
  refine congrArg _ (decide_eq_decide.2 ?_)
  show _ ↔ 128 ≤ t.val % 32 * 128 + j.val ∧ r.val ≤ j.val ∧ j.val ≤ r.val + 128
  omega

section arrays
variable (m : (ℓ : Loc nD τ sig) → Buf (Elt Ideal) ℓ) (c : Dev nD) (X K V' : Wide)
  (hx : m ((c : Thread nD τ).loc main_arg0) = up X) (hk : m ((c : Thread nD τ).loc main_arg1) = up K)
  (hv : m ((c : Thread nD τ).loc main_arg2) = up V')

include hx hk hv in
/-- The array the call reads, by position and residue. -/
theorem read (a ρ : ℕ) (h : a < 4096 ∧ ρ < 1) (z : Fin 2560) : V m c main_v5 (ix2 ⟨a, h.1⟩ ⟨ρ * 2560 + z.val, by omega⟩ : S4096x2560.Idx)
    = wide (F := Ideal) (up X) (up K) (up V') (m (c, Proc.tc.devRef main_arg3)) (ix2 (Cert.Band0DqKernelIdeal.Hand.at_ a ρ h) z) := by
  have h0 : m (c, Proc.tc.devRef main_arg0) = up X := hx
  have h1 : m (c, Proc.tc.devRef main_arg1) = up K := hk
  have h2 : m (c, Proc.tc.devRef main_arg2) = up V' := hv
  rw [V_x, h0, h1, h2]
  exact at_2560 (e := .bf16) (wide (F := Ideal) (up X) (up K) (up V') (m (c, Proc.tc.devRef main_arg3))) a ρ h z

include hx hk hv
theorem tile_q (t : Fin cfg0.N) (r : Fin 128) (l : Fin 256) : iblk m c 0 t (ix2 r l) = ((X (ix2 (sq (tt t) r) ⟨0 * 256 + l.val, by omega⟩) * (1 / 8) : ℝ) : EReal) := by
  have ht := lt_t t
  have e : ((cfg0.win 0).blk t).view.emb (ix2 r l) = (ix2 ⟨t.val % 32 * 128 + r.val, by omega⟩ ⟨t.val / 32 * 2560 + (⟨(0 * 256 + l.val), by omega⟩ : Fin 2560).val, by show _ + ((0 * 256 + l.val)) < _; omega⟩ : S4096x2560.Idx) := by
    blk_ext [idx t]
  rw [iblk_0, e]
  exact (read m c X K V' hx hk hv (t.val % 32 * 128 + r.val) (t.val / 32) (by omega) ⟨(0 * 256 + l.val), by omega⟩).trans (wide_q X K V' _ _ (⟨0 * 256 + l.val, by omega⟩ : Fin 768))
theorem tile_k1 (t : Fin cfg0.N) (r : Fin 128) (l : Fin 256) : iblk m c 1 t (ix2 r l) = ((K (ix2 (sp (tt t) r) ⟨0 * 256 + l.val, by omega⟩) : ℝ) : EReal) := by
  have ht := lt_t t
  have e : ((cfg0.win 1).blk t).view.emb (ix2 r l) = (ix2 ⟨(t.val % 32 - 1) * 128 + r.val, by omega⟩ ⟨t.val / 32 * 2560 + (⟨768 + (0 * 256 + l.val), by omega⟩ : Fin 2560).val, by show _ + (768 + (0 * 256 + l.val)) < _; omega⟩ : S4096x2560.Idx) := by
    blk_ext [idx t]
  rw [iblk_1, e]
  exact (read m c X K V' hx hk hv ((t.val % 32 - 1) * 128 + r.val) (t.val / 32) (by omega) ⟨768 + (0 * 256 + l.val), by omega⟩).trans (wide_k X K V' _ _ (⟨0 * 256 + l.val, by omega⟩ : Fin 768))
theorem tile_k2 (t : Fin cfg0.N) (r : Fin 128) (l : Fin 256) : iblk m c 2 t (ix2 r l) = ((K (ix2 (sq (tt t) r) ⟨0 * 256 + l.val, by omega⟩) : ℝ) : EReal) := by
  have ht := lt_t t
  have e : ((cfg0.win 2).blk t).view.emb (ix2 r l) = (ix2 ⟨t.val % 32 * 128 + r.val, by omega⟩ ⟨t.val / 32 * 2560 + (⟨768 + (0 * 256 + l.val), by omega⟩ : Fin 2560).val, by show _ + (768 + (0 * 256 + l.val)) < _; omega⟩ : S4096x2560.Idx) := by
    blk_ext [idx t]
  rw [iblk_2, e]
  exact (read m c X K V' hx hk hv (t.val % 32 * 128 + r.val) (t.val / 32) (by omega) ⟨768 + (0 * 256 + l.val), by omega⟩).trans (wide_k X K V' _ _ (⟨0 * 256 + l.val, by omega⟩ : Fin 768))
theorem tile_v1 (t : Fin cfg0.N) (r : Fin 128) (l : Fin 256) : iblk m c 3 t (ix2 r l) = ((V' (ix2 (sp (tt t) r) ⟨0 * 256 + l.val, by omega⟩) : ℝ) : EReal) := by
  have ht := lt_t t
  have e : ((cfg0.win 3).blk t).view.emb (ix2 r l) = (ix2 ⟨(t.val % 32 - 1) * 128 + r.val, by omega⟩ ⟨t.val / 32 * 2560 + (⟨1536 + (0 * 256 + l.val), by omega⟩ : Fin 2560).val, by show _ + (1536 + (0 * 256 + l.val)) < _; omega⟩ : S4096x2560.Idx) := by
    blk_ext [idx t]
  rw [iblk_3, e]
  exact (read m c X K V' hx hk hv ((t.val % 32 - 1) * 128 + r.val) (t.val / 32) (by omega) ⟨1536 + (0 * 256 + l.val), by omega⟩).trans (wide_v X K V' _ _ (⟨0 * 256 + l.val, by omega⟩ : Fin 768))
theorem tile_v2 (t : Fin cfg0.N) (r : Fin 128) (l : Fin 256) : iblk m c 4 t (ix2 r l) = ((V' (ix2 (sq (tt t) r) ⟨0 * 256 + l.val, by omega⟩) : ℝ) : EReal) := by
  have ht := lt_t t
  have e : ((cfg0.win 4).blk t).view.emb (ix2 r l) = (ix2 ⟨t.val % 32 * 128 + r.val, by omega⟩ ⟨t.val / 32 * 2560 + (⟨1536 + (0 * 256 + l.val), by omega⟩ : Fin 2560).val, by show _ + (1536 + (0 * 256 + l.val)) < _; omega⟩ : S4096x2560.Idx) := by
    blk_ext [idx t]
  rw [iblk_4, e]
  exact (read m c X K V' hx hk hv (t.val % 32 * 128 + r.val) (t.val / 32) (by omega) ⟨1536 + (0 * 256 + l.val), by omega⟩).trans (wide_v X K V' _ _ (⟨0 * 256 + l.val, by omega⟩ : Fin 768))
omit hx hk hv

/-- A row's lanes of a result, laid out by residue of the dilation: the output and the log of the denominator. -/
def out (f : Fin 4096 → Fin 768 → ℝ) : FVec Ideal S4096x256 .f32 := fun y => ((f ⟨(y 0).val * 1 + (y 1).val / 256, by have h0 : (y 0).val < 4096 := (y 0).isLt; have h1 : (y 1).val < 256 := (y 1).isLt; omega⟩
  ⟨0 * 256 + (y 1).val % 256, by omega⟩ : ℝ) : EReal)

theorem place (f : Fin 4096 → Fin 768 → ℝ) (t : Fin cfg0.N) (p : Fin 2) (r l : Fin 128) (z : S4096x256.Idx) (y : S128x256.Idx)
    (hz : z = (ix2 ⟨t.val % 32 * 128 + (y 0).val, by have := lt_t t; have h0 : (y 0).val < 128 := (y 0).isLt; omega⟩ ⟨t.val / 32 * 256 + (y 1).val, by have := lt_t t; have h1 : (y 1).val < 256 := (y 1).isLt; omega⟩ : S4096x256.Idx))
    (h0 : (y 0).val = r.val) (h1 : (y 1).val = p.val * 128 + l.val) : ((f (sq (tt t) r) (col 0 p l) : ℝ) : EReal) = out f z := by
  subst hz
  have ht := lt_t t
  refine congrArg _ (congrArg₂ f (Fin.ext ?_) (Fin.ext ?_))
  · show (t.val % 32 * 128 + r.val) * 1 + t.val / 32 = (t.val % 32 * 128 + (y 0).val) * 1 + (t.val / 32 * 256 + (y 1).val) / 256; omega
  · show 0 * 256 + (p.val * 128 + l.val) = 0 * 256 + (t.val / 32 * 256 + (y 1).val) % 256; omega
theorem emb_5 (t : Fin cfg0.N) (y : S128x256.Idx) : ((cfg0.win 5).blk t).view.emb y
    = (ix2 ⟨t.val % 32 * 128 + (y 0).val, by have := lt_t t; have h0 : (y 0).val < 128 := (y 0).isLt; omega⟩ ⟨t.val / 32 * 256 + (y 1).val, by have := lt_t t; have h1 : (y 1).val < 256 := (y 1).isLt; omega⟩ : S4096x256.Idx) := by
  rw [eq_ix2 y]; blk_ext [idx t]
theorem emb_6 (t : Fin cfg0.N) (y : S128x256.Idx) : ((cfg0.win 6).blk t).view.emb y
    = (ix2 ⟨t.val % 32 * 128 + (y 0).val, by have := lt_t t; have h0 : (y 0).val < 128 := (y 0).isLt; omega⟩ ⟨t.val / 32 * 256 + (y 1).val, by have := lt_t t; have h1 : (y 1).val < 256 := (y 1).isLt; omega⟩ : S4096x256.Idx) := by
  rw [eq_ix2 y]; blk_ext [idx t]

section pieces
variable (t : Fin cfg0.N)
include hx hk hv
theorem khalf0 (j) (r : Fin 256) (l : Fin 128) : half0 (F := Ideal) (View.ld (iblk m c 1 t) (Rect.unit (s := S128x256) ![0, 0] S128x256.size j)) (View.ld (iblk m c 2 t) (Rect.unit (s := S128x256) ![0, 0] S128x256.size j)) (ix2 r l) = ((tK K 0 0 (su (tt t)) r l : ℝ) : EReal) :=
  half0_eq _ _ (kk (tt t) K) (fun r l => (block _ _ (tile_k1 m c X K V' hx hk hv t) _ r l).trans (by rw [kk, su_lo]))
    (fun r l => (block _ _ (tile_k2 m c X K V' hx hk hv t) _ r l).trans (by rw [kk, su_hi])) r l
theorem vhalf0 (j) (r : Fin 256) (l : Fin 128) : half0 (F := Ideal) (View.ld (iblk m c 3 t) (Rect.unit (s := S128x256) ![0, 0] S128x256.size j)) (View.ld (iblk m c 4 t) (Rect.unit (s := S128x256) ![0, 0] S128x256.size j)) (ix2 r l) = ((tK V' 0 0 (su (tt t)) r l : ℝ) : EReal) :=
  half0_eq _ _ (kk (tt t) V') (fun r l => (block _ _ (tile_v1 m c X K V' hx hk hv t) _ r l).trans (by rw [kk, su_lo]))
    (fun r l => (block _ _ (tile_v2 m c X K V' hx hk hv t) _ r l).trans (by rw [kk, su_hi])) r l
theorem piece_o0 (i j) (x : S128x128.Idx) (y : S128x256.Idx) (h0 : (y 0).val = (x 0).val) (h1 : (y 1).val = 0 * 128 + (x 1).val) :
    o0 (F := Ideal) (k0_pay2 (grid0.coords t)) (View.ld (iblk m c 0 t) (Rect.unit (s := S128x256) ![0, 0] S128x128.size i))
      (View.ld (iblk m c 1 t) (Rect.unit (s := S128x256) ![0, 0] S128x256.size j)) (View.ld (iblk m c 2 t) (Rect.unit (s := S128x256) ![0, 0] S128x256.size j)) (View.ld (iblk m c 3 t) (Rect.unit (s := S128x256) ![0, 0] S128x256.size j)) (View.ld (iblk m c 4 t) (Rect.unit (s := S128x256) ![0, 0] S128x256.size j)) x = out (oW X K V') (((cfg0.win 5).blk t).view.emb y) := by
  obtain ⟨x0, x1, rfl⟩ : ∃ a b, x = ix2 a b := ⟨x 0, x 1, eq_ix2 x⟩
  refine (congrFun (o0_tile (F := Ideal) _ _ _ _ _ _) (ix2 x0 x1)).trans ((tileO_eq X K V' 0 0 (sq (tt t)) (su (tt t)) (ok (tt t)) (ok_sees (tt t) 0) (ok_inj (tt t)) (ok_all (tt t) 0) _ _ _ _ (ok_word t)
    (lanes _ _ (tile_q m c X K V' hx hk hv t) 0 rfl _) (khalf0 m c X K V' hx hk hv t _) (vhalf0 m c X K V' hx hk hv t _) x0 x1).trans
    (place (oW X K V') t 0 x0 x1 _ y (emb_5 t y) h0 h1))
theorem piece_l0 (i j) (x : S128x128.Idx) (y : S128x256.Idx) (h0 : (y 0).val = (x 0).val) (h1 : (y 1).val = 0 * 128 + (x 1).val) :
    l0 (F := Ideal) (k0_pay2 (grid0.coords t)) (View.ld (iblk m c 0 t) (Rect.unit (s := S128x256) ![0, 0] S128x128.size i))
      (View.ld (iblk m c 1 t) (Rect.unit (s := S128x256) ![0, 0] S128x256.size j)) (View.ld (iblk m c 2 t) (Rect.unit (s := S128x256) ![0, 0] S128x256.size j)) x = out (lW X K) (((cfg0.win 6).blk t).view.emb y) := by
  obtain ⟨x0, x1, rfl⟩ : ∃ a b, x = ix2 a b := ⟨x 0, x 1, eq_ix2 x⟩
  refine (congrFun (l0_tile (F := Ideal) _ _ _ _) (ix2 x0 x1)).trans ((tileL_eq X K 0 0 (sq (tt t)) (su (tt t)) (ok (tt t)) (ok_sees (tt t) 0) (ok_inj (tt t)) (ok_all (tt t) 0) _ _ _ (ok_word t)
    (lanes _ _ (tile_q m c X K V' hx hk hv t) 0 rfl _) (khalf0 m c X K V' hx hk hv t _) x0 x1).trans
    (place (lW X K) t 0 x0 x1 _ y (emb_6 t y) h0 h1))
theorem khalf1 (j) (r : Fin 256) (l : Fin 128) : half1 (F := Ideal) (View.ld (iblk m c 1 t) (Rect.unit (s := S128x256) ![0, 0] S128x256.size j)) (View.ld (iblk m c 2 t) (Rect.unit (s := S128x256) ![0, 0] S128x256.size j)) (ix2 r l) = ((tK K 0 1 (su (tt t)) r l : ℝ) : EReal) :=
  half1_eq _ _ (kk (tt t) K) (fun r l => (block _ _ (tile_k1 m c X K V' hx hk hv t) _ r l).trans (by rw [kk, su_lo]))
    (fun r l => (block _ _ (tile_k2 m c X K V' hx hk hv t) _ r l).trans (by rw [kk, su_hi])) r l
theorem vhalf1 (j) (r : Fin 256) (l : Fin 128) : half1 (F := Ideal) (View.ld (iblk m c 3 t) (Rect.unit (s := S128x256) ![0, 0] S128x256.size j)) (View.ld (iblk m c 4 t) (Rect.unit (s := S128x256) ![0, 0] S128x256.size j)) (ix2 r l) = ((tK V' 0 1 (su (tt t)) r l : ℝ) : EReal) :=
  half1_eq _ _ (kk (tt t) V') (fun r l => (block _ _ (tile_v1 m c X K V' hx hk hv t) _ r l).trans (by rw [kk, su_lo]))
    (fun r l => (block _ _ (tile_v2 m c X K V' hx hk hv t) _ r l).trans (by rw [kk, su_hi])) r l
theorem piece_o1 (i j) (x : S128x128.Idx) (y : S128x256.Idx) (h0 : (y 0).val = (x 0).val) (h1 : (y 1).val = 1 * 128 + (x 1).val) :
    o1 (F := Ideal) (k0_pay2 (grid0.coords t)) (View.ld (iblk m c 0 t) (Rect.unit (s := S128x256) ![0, 128] S128x128.size i))
      (View.ld (iblk m c 1 t) (Rect.unit (s := S128x256) ![0, 0] S128x256.size j)) (View.ld (iblk m c 2 t) (Rect.unit (s := S128x256) ![0, 0] S128x256.size j)) (View.ld (iblk m c 3 t) (Rect.unit (s := S128x256) ![0, 0] S128x256.size j)) (View.ld (iblk m c 4 t) (Rect.unit (s := S128x256) ![0, 0] S128x256.size j)) x = out (oW X K V') (((cfg0.win 5).blk t).view.emb y) := by
  obtain ⟨x0, x1, rfl⟩ : ∃ a b, x = ix2 a b := ⟨x 0, x 1, eq_ix2 x⟩
  refine (congrFun (o1_tile (F := Ideal) _ _ _ _ _ _) (ix2 x0 x1)).trans ((tileO_eq X K V' 0 1 (sq (tt t)) (su (tt t)) (ok (tt t)) (ok_sees (tt t) 1) (ok_inj (tt t)) (ok_all (tt t) 1) _ _ _ _ (ok_word t)
    (lanes _ _ (tile_q m c X K V' hx hk hv t) 1 rfl _) (khalf1 m c X K V' hx hk hv t _) (vhalf1 m c X K V' hx hk hv t _) x0 x1).trans
    (place (oW X K V') t 1 x0 x1 _ y (emb_5 t y) h0 h1))
theorem piece_l1 (i j) (x : S128x128.Idx) (y : S128x256.Idx) (h0 : (y 0).val = (x 0).val) (h1 : (y 1).val = 1 * 128 + (x 1).val) :
    l1 (F := Ideal) (k0_pay2 (grid0.coords t)) (View.ld (iblk m c 0 t) (Rect.unit (s := S128x256) ![0, 128] S128x128.size i))
      (View.ld (iblk m c 1 t) (Rect.unit (s := S128x256) ![0, 0] S128x256.size j)) (View.ld (iblk m c 2 t) (Rect.unit (s := S128x256) ![0, 0] S128x256.size j)) x = out (lW X K) (((cfg0.win 6).blk t).view.emb y) := by
  obtain ⟨x0, x1, rfl⟩ : ∃ a b, x = ix2 a b := ⟨x 0, x 1, eq_ix2 x⟩
  refine (congrFun (l1_tile (F := Ideal) _ _ _ _) (ix2 x0 x1)).trans ((tileL_eq X K 0 1 (sq (tt t)) (su (tt t)) (ok (tt t)) (ok_sees (tt t) 1) (ok_inj (tt t)) (ok_all (tt t) 1) _ _ _ (ok_word t)
    (lanes _ _ (tile_q m c X K V' hx hk hv t) 1 rfl _) (khalf1 m c X K V' hx hk hv t _) x0 x1).trans
    (place (lW X K) t 1 x0 x1 _ y (emb_6 t y) h0 h1))
end pieces

include hx hk hv
theorem final_o : (dats m 0 c).arrAt 5 cfg0.N = out (oW X K V') := by
  refine (dats m 0 c).arrAt_eq_of_covers 5 _ (by decide +kernel) fun t _ y => ?_
  blk_simp
  rw [after0_5]
  unfold_out out0_5
  canon_tiles x h
  · exact piece_o1 m c X K V' hx hk hv t _ _ x y h0 h1
  · exact piece_o0 m c X K V' hx hk hv t _ _ x y h0 (h1.trans (by omega))
theorem final_l : (dats m 0 c).arrAt 6 cfg0.N = out (lW X K) := by
  refine (dats m 0 c).arrAt_eq_of_covers 6 _ (by decide +kernel) fun t _ y => ?_
  blk_simp
  rw [after0_6]
  unfold_out out0_6
  canon_tiles x h
  · exact piece_l1 m c X K V' hx hk hv t _ _ x y h0 h1
  · exact piece_l0 m c X K V' hx hk hv t _ _ x y h0 (h1.trans (by omega))
end arrays

end Cert.Band0FwdKernelIdeal.Hand

namespace Cert.Band0FwdReferenceIdeal.Hand
open Cert.Band0FwdReferenceIdeal Cert.Band0FwdReferenceIdeal.Read Cert.BandReal Cert.BandFwdTile
open Cert.Band0DqReferenceIdeal.Hand (up)

variable (X K V' : Wide)
theorem ref_o : val_main_v53 (F := Ideal) (up X) (up K) (up V') = Cert.Band0FwdKernelIdeal.Hand.out (oW X K V') := by
  funext y
  obtain ⟨a, b, rfl⟩ : ∃ a b, y = ix2 a b := ⟨y 0, y 1, eq_ix2 y⟩
  have e : ∀ (s : Fin 4096) (l : Fin 256), val_main_v53 (F := Ideal) (up X) (up K) (up V') (ix2 s l) = ((oW X K V' s ⟨0 * 256 + l.val, by omega⟩ : ℝ) : EReal) := fun s l => by
    pointwise [val_main_v53]
    exact Cert.Band0FwdReferenceIdeal.Hand.whole_o X K V' _ _
  refine (e a b).trans (congrArg _ (congrArg₂ (oW X K V') (Fin.ext ?_) (Fin.ext ?_)))
  · show a.val = a.val * 1 + b.val / 256; omega
  · show 0 * 256 + b.val = 0 * 256 + b.val % 256; omega
theorem ref_l : val_main_v54 (F := Ideal) (up X) (up K) = Cert.Band0FwdKernelIdeal.Hand.out (lW X K) := by
  funext y
  obtain ⟨a, b, rfl⟩ : ∃ a b, y = ix2 a b := ⟨y 0, y 1, eq_ix2 y⟩
  have e : ∀ (s : Fin 4096) (l : Fin 256), val_main_v54 (F := Ideal) (up X) (up K) (ix2 s l) = ((lW X K s ⟨0 * 256 + l.val, by omega⟩ : ℝ) : EReal) := fun s l => by
    pointwise [val_main_v54]
    exact Cert.Band0FwdReferenceIdeal.Hand.whole_l X K _ _
  refine (e a b).trans (congrArg _ (congrArg₂ (lW X K) (Fin.ext ?_) (Fin.ext ?_)))
  · show a.val = a.val * 1 + b.val / 256; omega
  · show 0 * 256 + b.val = 0 * 256 + b.val % 256; omega

end Cert.Band0FwdReferenceIdeal.Hand

end
-- ==== Proof.Band1Fwd.lean ====
/-
  The forward call of the dilated attention's group of dilation 4: its tiles put together.
-/
module

public import proofs.«01_k».proof.Proof.Gen.Band1FwdKernelIdeal.Value
public import proofs.«01_k».proof.Proof.Gen.Band1FwdReferenceIdeal.Run
public import proofs.«01_k».proof.Proof.Gen.Band1FwdReferenceIdeal.Read
public import Idealize.ShloMosaic.Lib.Pipeline.ValueKit
public import Idealize.ShloMosaic.Lib.Pointwise
public import proofs.«01_k».proof.Proof.Reals
public import proofs.«01_k».proof.Proof.BandFwdTile
public import proofs.«01_k».proof.Proof.Band1Dq

@[expose] public section

set_option maxRecDepth 16384

noncomputable section

open Idealize.ShloMosaic Idealize.ShloMosaic.TcCoe Idealize.SL.Sem
open Idealize.ShloMosaic.Pipeline (Dat)

namespace Cert.Band1FwdKernelIdeal.Hand

open Cert.Band1FwdKernelIdeal Cert.Band1FwdKernelIdeal.Gen Cert.Reals Cert.AttnReal Cert.BandReal Cert.BandTile Cert.BandHost Cert.BandFwdTile
open Cert.Band0DqReferenceIdeal.Hand (up)
open Cert.Band1DqKernelIdeal.Hand (at_2560 sq sp su ok su_ok ok_sees ok_inj ok_all su_lo su_hi kk lanes block)

section generic
variable {F : FTy → Type} [FloatOps F] [Named F] (o : IVec S128x256 1) (q : FVec F S128x128 .bf16) (k1 k2 v1 v2 : FVec F S128x256 .bf16)
/-- The first pair of heads and the second: what the call writes of the output and of the log of the denominator. -/
def o0 : FVec F S128x128 .f32 :=
  k0_pay22 o (k0_pay5 q) (k0_pay6 k1 k2) (k0_pay7 v1 v2) (k0_pay14 o (k0_pay5 q) (k0_pay6 k1 k2) (k0_pay7 v1 v2) (k0_pay8 (F := F)) (iota .tc S1x128 32 [1] iota_S1x128_d1_w32) (Scalar.select (Scalar.cmpi .eq 128#32 0#32) 1#32 128#32)) (Scalar.select (Scalar.cmpi .eq 128#32 0#32) 1#32 128#32) k0_pay16
def o1 : FVec F S128x128 .f32 :=
  k0_pay47 o (k0_pay25 q) (k0_pay26 (k0_pay3 k1 k2)) (k0_pay27 (k0_pay4 v1 v2)) (k0_pay37 o (k0_pay25 q) (k0_pay26 (k0_pay3 k1 k2)) (k0_pay27 (k0_pay4 v1 v2)) (k0_pay28 (F := F)) (Scalar.select (Scalar.cmpi .eq 128#32 0#32) 1#32 128#32) k0_pay29 k0_pay30 k0_pay31) k0_pay39 k0_pay40 k0_pay41
def l0 : FVec F S128x128 .f32 :=
  k0_pay24 (k0_pay15 o (k0_pay5 q) (k0_pay6 k1 k2) (iota .tc S1x128 32 [1] iota_S1x128_d1_w32) (Scalar.select (Scalar.cmpi .eq 128#32 0#32) 1#32 128#32)) (k0_pay23 o (k0_pay5 q) (k0_pay6 k1 k2) (Scalar.select (Scalar.cmpi .eq 128#32 0#32) 1#32 128#32) k0_pay16) (iota .tc S1x128 32 [1] iota_S1x128_d1_w32) 128#32 (Scalar.cmpi .eq 128#32 0#32)
def l1 : FVec F S128x128 .f32 :=
  k0_pay1 (k0_pay38 o (k0_pay25 q) (k0_pay26 (k0_pay3 k1 k2)) (Scalar.select (Scalar.cmpi .eq 128#32 0#32) 1#32 128#32) k0_pay29 k0_pay30 k0_pay31) (k0_pay48 o (k0_pay25 q) (k0_pay26 (k0_pay3 k1 k2)) k0_pay39 k0_pay40 k0_pay41) (Scalar.select (Scalar.cmpi .eq 128#32 0#32) 1#32 128#32) k0_pay49 k0_pay50 k0_pay51 k0_pay52
theorem o0_tile : o0 o q k1 k2 v1 v2 = tileO (Named.named κ "mask" 0xF149F2CA#32) o q (half0 k1 k2) (half0 v1 v2) := rfl
theorem o1_tile : o1 o q k1 k2 v1 v2 = tileO (Named.named κ "mask" 0xF149F2CA#32) o q (half1 k1 k2) (half1 v1 v2) := rfl
theorem l0_tile : l0 o q k1 k2 = tileL (Named.named κ "mask" 0xF149F2CA#32) o q (half0 k1 k2) := rfl
theorem l1_tile : l1 o q k1 k2 = tileL (Named.named κ "mask" 0xF149F2CA#32) o q (half1 k1 k2) := rfl
end generic

section host
variable {F : FTy → Type} [FloatOps F] [Named F]
variable (m : (ℓ : Loc nD τ sig) → Buf (Elt F) ℓ) (c : Dev nD)

set_option maxHeartbeats 4000000 in
/-- What the host lines before the call leave in the array the call reads. -/
theorem V_x : V m c main_v6 = shapeCast S1024x10240 (wide (m (c, Proc.tc.devRef main_arg0)) (m (c, Proc.tc.devRef main_arg1)) (m (c, Proc.tc.devRef main_arg2)) (m (c, Proc.tc.devRef main_arg3))) shapeCasts_S4096x2560_S1024x10240 := by
  unfold V
  after_reads_simp
  rfl
theorem iblk_0 (t : Fin cfg0.N) (y : S128x256.Idx) : iblk m c 0 t y = V m c main_v6 (((cfg0.win 0).blk t).view.emb y) := rfl
theorem iblk_1 (t : Fin cfg0.N) (y : S128x256.Idx) : iblk m c 1 t y = V m c main_v6 (((cfg0.win 1).blk t).view.emb y) := rfl
theorem iblk_2 (t : Fin cfg0.N) (y : S128x256.Idx) : iblk m c 2 t y = V m c main_v6 (((cfg0.win 2).blk t).view.emb y) := rfl
theorem iblk_3 (t : Fin cfg0.N) (y : S128x256.Idx) : iblk m c 3 t y = V m c main_v6 (((cfg0.win 3).blk t).view.emb y) := rfl
theorem iblk_4 (t : Fin cfg0.N) (y : S128x256.Idx) : iblk m c 4 t y = V m c main_v6 (((cfg0.win 4).blk t).view.emb y) := rfl
end host

/-! The grid: point `t` is row block `t % 8` of residue `t / 8`, as in the gradient of the queries. -/

theorem lt_t (t : Fin cfg0.N) : t.val < 32 := lt_of_lt_of_eq t.isLt N_0
def tt (t : Fin cfg0.N) : Fin Cert.Band1DqKernelIdeal.cfg0.N := ⟨t.val, lt_of_lt_of_eq (lt_t t) Cert.Band1DqKernelIdeal.Gen.N_0.symm⟩
theorem coord (t : Fin cfg0.N) : (grid0.coords t 1).val = t.val % 8 :=
  (by decide +kernel : ∀ t : Fin grid0.N, (grid0.coords t 1).val = t.val % 8) t
theorem idx : ∀ t : Fin cfg0.N, win0_0.index t = ![t.val % 8, t.val / 8 * 10 + 1] ∧ win0_1.index t = ![t.val % 8 - 1, t.val / 8 * 10 + 4]
    ∧ win0_2.index t = ![t.val % 8, t.val / 8 * 10 + 4] ∧ win0_3.index t = ![t.val % 8 - 1, t.val / 8 * 10 + 7]
    ∧ win0_4.index t = ![t.val % 8, t.val / 8 * 10 + 7] ∧ win0_5.index t = ![t.val % 8, t.val / 8] ∧ win0_6.index t = ![t.val % 8, t.val / 8] :=
  (by decide +kernel : ∀ t : Fin grid0.N, _)

theorem ok_word (t : Fin cfg0.N) (r j) : k0_pay2 (grid0.coords t) (ix2 r j) = BitVec.ofBool (decide (ok (tt t) r j)) := by
  pointwise [k0_pay2]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 1024)))
      (word_at (t.val % 8) r.val) (word_before (t.val % 8) j.val)).trans ?_
  rw [word_ok _ _ _ (by omega) (by omega) (by omega) (by omega) (by omega) (by omega)]
  refine congrArg _ (decide_eq_decide.2 ?_)
  show _ ↔ 128 ≤ t.val % 8 * 128 + j.val ∧ r.val ≤ j.val ∧ j.val ≤ r.val + 128
  omega

section arrays
variable (m : (ℓ : Loc nD τ sig) → Buf (Elt Ideal) ℓ) (c : Dev nD) (X K V' : Wide)
  (hx : m ((c : Thread nD τ).loc main_arg0) = up X) (hk : m ((c : Thread nD τ).loc main_arg1) = up K)
  (hv : m ((c : Thread nD τ).loc main_arg2) = up V')

include hx hk hv in
/-- The array the call reads, by position and residue. -/
theorem read (a ρ : ℕ) (h : a < 1024 ∧ ρ < 4) (z : Fin 2560) : V m c main_v6 (ix2 ⟨a, h.1⟩ ⟨ρ * 2560 + z.val, by omega⟩ : S1024x10240.Idx)
    = wide (F := Ideal) (up X) (up K) (up V') (m (c, Proc.tc.devRef main_arg3)) (ix2 (Cert.Band1DqKernelIdeal.Hand.at_ a ρ h) z) := by
  have h0 : m (c, Proc.tc.devRef main_arg0) = up X := hx
  have h1 : m (c, Proc.tc.devRef main_arg1) = up K := hk
  have h2 : m (c, Proc.tc.devRef main_arg2) = up V' := hv
  rw [V_x, h0, h1, h2]
  exact at_2560 (e := .bf16) (wide (F := Ideal) (up X) (up K) (up V') (m (c, Proc.tc.devRef main_arg3))) a ρ h z

include hx hk hv
theorem tile_q (t : Fin cfg0.N) (r : Fin 128) (l : Fin 256) : iblk m c 0 t (ix2 r l) = ((X (ix2 (sq (tt t) r) ⟨1 * 256 + l.val, by omega⟩) * (1 / 8) : ℝ) : EReal) := by
  have ht := lt_t t
  have e : ((cfg0.win 0).blk t).view.emb (ix2 r l) = (ix2 ⟨t.val % 8 * 128 + r.val, by omega⟩ ⟨t.val / 8 * 2560 + (⟨(1 * 256 + l.val), by omega⟩ : Fin 2560).val, by show _ + ((1 * 256 + l.val)) < _; omega⟩ : S1024x10240.Idx) := by
    blk_ext [idx t]
  rw [iblk_0, e]
  exact (read m c X K V' hx hk hv (t.val % 8 * 128 + r.val) (t.val / 8) (by omega) ⟨(1 * 256 + l.val), by omega⟩).trans (wide_q X K V' _ _ (⟨1 * 256 + l.val, by omega⟩ : Fin 768))
theorem tile_k1 (t : Fin cfg0.N) (r : Fin 128) (l : Fin 256) : iblk m c 1 t (ix2 r l) = ((K (ix2 (sp (tt t) r) ⟨1 * 256 + l.val, by omega⟩) : ℝ) : EReal) := by
  have ht := lt_t t
  have e : ((cfg0.win 1).blk t).view.emb (ix2 r l) = (ix2 ⟨(t.val % 8 - 1) * 128 + r.val, by omega⟩ ⟨t.val / 8 * 2560 + (⟨768 + (1 * 256 + l.val), by omega⟩ : Fin 2560).val, by show _ + (768 + (1 * 256 + l.val)) < _; omega⟩ : S1024x10240.Idx) := by
    blk_ext [idx t]
  rw [iblk_1, e]
  exact (read m c X K V' hx hk hv ((t.val % 8 - 1) * 128 + r.val) (t.val / 8) (by omega) ⟨768 + (1 * 256 + l.val), by omega⟩).trans (wide_k X K V' _ _ (⟨1 * 256 + l.val, by omega⟩ : Fin 768))
theorem tile_k2 (t : Fin cfg0.N) (r : Fin 128) (l : Fin 256) : iblk m c 2 t (ix2 r l) = ((K (ix2 (sq (tt t) r) ⟨1 * 256 + l.val, by omega⟩) : ℝ) : EReal) := by
  have ht := lt_t t
  have e : ((cfg0.win 2).blk t).view.emb (ix2 r l) = (ix2 ⟨t.val % 8 * 128 + r.val, by omega⟩ ⟨t.val / 8 * 2560 + (⟨768 + (1 * 256 + l.val), by omega⟩ : Fin 2560).val, by show _ + (768 + (1 * 256 + l.val)) < _; omega⟩ : S1024x10240.Idx) := by
    blk_ext [idx t]
  rw [iblk_2, e]
  exact (read m c X K V' hx hk hv (t.val % 8 * 128 + r.val) (t.val / 8) (by omega) ⟨768 + (1 * 256 + l.val), by omega⟩).trans (wide_k X K V' _ _ (⟨1 * 256 + l.val, by omega⟩ : Fin 768))
theorem tile_v1 (t : Fin cfg0.N) (r : Fin 128) (l : Fin 256) : iblk m c 3 t (ix2 r l) = ((V' (ix2 (sp (tt t) r) ⟨1 * 256 + l.val, by omega⟩) : ℝ) : EReal) := by
  have ht := lt_t t
  have e : ((cfg0.win 3).blk t).view.emb (ix2 r l) = (ix2 ⟨(t.val % 8 - 1) * 128 + r.val, by omega⟩ ⟨t.val / 8 * 2560 + (⟨1536 + (1 * 256 + l.val), by omega⟩ : Fin 2560).val, by show _ + (1536 + (1 * 256 + l.val)) < _; omega⟩ : S1024x10240.Idx) := by
    blk_ext [idx t]
  rw [iblk_3, e]
  exact (read m c X K V' hx hk hv ((t.val % 8 - 1) * 128 + r.val) (t.val / 8) (by omega) ⟨1536 + (1 * 256 + l.val), by omega⟩).trans (wide_v X K V' _ _ (⟨1 * 256 + l.val, by omega⟩ : Fin 768))
theorem tile_v2 (t : Fin cfg0.N) (r : Fin 128) (l : Fin 256) : iblk m c 4 t (ix2 r l) = ((V' (ix2 (sq (tt t) r) ⟨1 * 256 + l.val, by omega⟩) : ℝ) : EReal) := by
  have ht := lt_t t
  have e : ((cfg0.win 4).blk t).view.emb (ix2 r l) = (ix2 ⟨t.val % 8 * 128 + r.val, by omega⟩ ⟨t.val / 8 * 2560 + (⟨1536 + (1 * 256 + l.val), by omega⟩ : Fin 2560).val, by show _ + (1536 + (1 * 256 + l.val)) < _; omega⟩ : S1024x10240.Idx) := by
    blk_ext [idx t]
  rw [iblk_4, e]
  exact (read m c X K V' hx hk hv (t.val % 8 * 128 + r.val) (t.val / 8) (by omega) ⟨1536 + (1 * 256 + l.val), by omega⟩).trans (wide_v X K V' _ _ (⟨1 * 256 + l.val, by omega⟩ : Fin 768))
omit hx hk hv

/-- A row's lanes of a result, laid out by residue of the dilation: the output and the log of the denominator. -/
def out (f : Fin 4096 → Fin 768 → ℝ) : FVec Ideal S1024x1024 .f32 := fun y => ((f ⟨(y 0).val * 4 + (y 1).val / 256, by have h0 : (y 0).val < 1024 := (y 0).isLt; have h1 : (y 1).val < 1024 := (y 1).isLt; omega⟩
  ⟨1 * 256 + (y 1).val % 256, by omega⟩ : ℝ) : EReal)

theorem place (f : Fin 4096 → Fin 768 → ℝ) (t : Fin cfg0.N) (p : Fin 2) (r l : Fin 128) (z : S1024x1024.Idx) (y : S128x256.Idx)
    (hz : z = (ix2 ⟨t.val % 8 * 128 + (y 0).val, by have := lt_t t; have h0 : (y 0).val < 128 := (y 0).isLt; omega⟩ ⟨t.val / 8 * 256 + (y 1).val, by have := lt_t t; have h1 : (y 1).val < 256 := (y 1).isLt; omega⟩ : S1024x1024.Idx))
    (h0 : (y 0).val = r.val) (h1 : (y 1).val = p.val * 128 + l.val) : ((f (sq (tt t) r) (col 1 p l) : ℝ) : EReal) = out f z := by
  subst hz
  have ht := lt_t t
  refine congrArg _ (congrArg₂ f (Fin.ext ?_) (Fin.ext ?_))
  · show (t.val % 8 * 128 + r.val) * 4 + t.val / 8 = (t.val % 8 * 128 + (y 0).val) * 4 + (t.val / 8 * 256 + (y 1).val) / 256; omega
  · show 1 * 256 + (p.val * 128 + l.val) = 1 * 256 + (t.val / 8 * 256 + (y 1).val) % 256; omega
theorem emb_5 (t : Fin cfg0.N) (y : S128x256.Idx) : ((cfg0.win 5).blk t).view.emb y
    = (ix2 ⟨t.val % 8 * 128 + (y 0).val, by have := lt_t t; have h0 : (y 0).val < 128 := (y 0).isLt; omega⟩ ⟨t.val / 8 * 256 + (y 1).val, by have := lt_t t; have h1 : (y 1).val < 256 := (y 1).isLt; omega⟩ : S1024x1024.Idx) := by
  rw [eq_ix2 y]; blk_ext [idx t]
theorem emb_6 (t : Fin cfg0.N) (y : S128x256.Idx) : ((cfg0.win 6).blk t).view.emb y
    = (ix2 ⟨t.val % 8 * 128 + (y 0).val, by have := lt_t t; have h0 : (y 0).val < 128 := (y 0).isLt; omega⟩ ⟨t.val / 8 * 256 + (y 1).val, by have := lt_t t; have h1 : (y 1).val < 256 := (y 1).isLt; omega⟩ : S1024x1024.Idx) := by
  rw [eq_ix2 y]; blk_ext [idx t]

section pieces
variable (t : Fin cfg0.N)
include hx hk hv
theorem khalf0 (j) (r : Fin 256) (l : Fin 128) : half0 (F := Ideal) (View.ld (iblk m c 1 t) (Rect.unit (s := S128x256) ![0, 0] S128x256.size j)) (View.ld (iblk m c 2 t) (Rect.unit (s := S128x256) ![0, 0] S128x256.size j)) (ix2 r l) = ((tK K 1 0 (su (tt t)) r l : ℝ) : EReal) :=
  half0_eq _ _ (kk (tt t) K) (fun r l => (block _ _ (tile_k1 m c X K V' hx hk hv t) _ r l).trans (by rw [kk, su_lo]))
    (fun r l => (block _ _ (tile_k2 m c X K V' hx hk hv t) _ r l).trans (by rw [kk, su_hi])) r l
theorem vhalf0 (j) (r : Fin 256) (l : Fin 128) : half0 (F := Ideal) (View.ld (iblk m c 3 t) (Rect.unit (s := S128x256) ![0, 0] S128x256.size j)) (View.ld (iblk m c 4 t) (Rect.unit (s := S128x256) ![0, 0] S128x256.size j)) (ix2 r l) = ((tK V' 1 0 (su (tt t)) r l : ℝ) : EReal) :=
  half0_eq _ _ (kk (tt t) V') (fun r l => (block _ _ (tile_v1 m c X K V' hx hk hv t) _ r l).trans (by rw [kk, su_lo]))
    (fun r l => (block _ _ (tile_v2 m c X K V' hx hk hv t) _ r l).trans (by rw [kk, su_hi])) r l
theorem piece_o0 (i j) (x : S128x128.Idx) (y : S128x256.Idx) (h0 : (y 0).val = (x 0).val) (h1 : (y 1).val = 0 * 128 + (x 1).val) :
    o0 (F := Ideal) (k0_pay2 (grid0.coords t)) (View.ld (iblk m c 0 t) (Rect.unit (s := S128x256) ![0, 0] S128x128.size i))
      (View.ld (iblk m c 1 t) (Rect.unit (s := S128x256) ![0, 0] S128x256.size j)) (View.ld (iblk m c 2 t) (Rect.unit (s := S128x256) ![0, 0] S128x256.size j)) (View.ld (iblk m c 3 t) (Rect.unit (s := S128x256) ![0, 0] S128x256.size j)) (View.ld (iblk m c 4 t) (Rect.unit (s := S128x256) ![0, 0] S128x256.size j)) x = out (oW X K V') (((cfg0.win 5).blk t).view.emb y) := by
  obtain ⟨x0, x1, rfl⟩ : ∃ a b, x = ix2 a b := ⟨x 0, x 1, eq_ix2 x⟩
  refine (congrFun (o0_tile (F := Ideal) _ _ _ _ _ _) (ix2 x0 x1)).trans ((tileO_eq X K V' 1 0 (sq (tt t)) (su (tt t)) (ok (tt t)) (ok_sees (tt t) 0) (ok_inj (tt t)) (ok_all (tt t) 0) _ _ _ _ (ok_word t)
    (lanes _ _ (tile_q m c X K V' hx hk hv t) 0 rfl _) (khalf0 m c X K V' hx hk hv t _) (vhalf0 m c X K V' hx hk hv t _) x0 x1).trans
    (place (oW X K V') t 0 x0 x1 _ y (emb_5 t y) h0 h1))
theorem piece_l0 (i j) (x : S128x128.Idx) (y : S128x256.Idx) (h0 : (y 0).val = (x 0).val) (h1 : (y 1).val = 0 * 128 + (x 1).val) :
    l0 (F := Ideal) (k0_pay2 (grid0.coords t)) (View.ld (iblk m c 0 t) (Rect.unit (s := S128x256) ![0, 0] S128x128.size i))
      (View.ld (iblk m c 1 t) (Rect.unit (s := S128x256) ![0, 0] S128x256.size j)) (View.ld (iblk m c 2 t) (Rect.unit (s := S128x256) ![0, 0] S128x256.size j)) x = out (lW X K) (((cfg0.win 6).blk t).view.emb y) := by
  obtain ⟨x0, x1, rfl⟩ : ∃ a b, x = ix2 a b := ⟨x 0, x 1, eq_ix2 x⟩
  refine (congrFun (l0_tile (F := Ideal) _ _ _ _) (ix2 x0 x1)).trans ((tileL_eq X K 1 0 (sq (tt t)) (su (tt t)) (ok (tt t)) (ok_sees (tt t) 0) (ok_inj (tt t)) (ok_all (tt t) 0) _ _ _ (ok_word t)
    (lanes _ _ (tile_q m c X K V' hx hk hv t) 0 rfl _) (khalf0 m c X K V' hx hk hv t _) x0 x1).trans
    (place (lW X K) t 0 x0 x1 _ y (emb_6 t y) h0 h1))
theorem khalf1 (j) (r : Fin 256) (l : Fin 128) : half1 (F := Ideal) (View.ld (iblk m c 1 t) (Rect.unit (s := S128x256) ![0, 0] S128x256.size j)) (View.ld (iblk m c 2 t) (Rect.unit (s := S128x256) ![0, 0] S128x256.size j)) (ix2 r l) = ((tK K 1 1 (su (tt t)) r l : ℝ) : EReal) :=
  half1_eq _ _ (kk (tt t) K) (fun r l => (block _ _ (tile_k1 m c X K V' hx hk hv t) _ r l).trans (by rw [kk, su_lo]))
    (fun r l => (block _ _ (tile_k2 m c X K V' hx hk hv t) _ r l).trans (by rw [kk, su_hi])) r l
theorem vhalf1 (j) (r : Fin 256) (l : Fin 128) : half1 (F := Ideal) (View.ld (iblk m c 3 t) (Rect.unit (s := S128x256) ![0, 0] S128x256.size j)) (View.ld (iblk m c 4 t) (Rect.unit (s := S128x256) ![0, 0] S128x256.size j)) (ix2 r l) = ((tK V' 1 1 (su (tt t)) r l : ℝ) : EReal) :=
  half1_eq _ _ (kk (tt t) V') (fun r l => (block _ _ (tile_v1 m c X K V' hx hk hv t) _ r l).trans (by rw [kk, su_lo]))
    (fun r l => (block _ _ (tile_v2 m c X K V' hx hk hv t) _ r l).trans (by rw [kk, su_hi])) r l
theorem piece_o1 (i j) (x : S128x128.Idx) (y : S128x256.Idx) (h0 : (y 0).val = (x 0).val) (h1 : (y 1).val = 1 * 128 + (x 1).val) :
    o1 (F := Ideal) (k0_pay2 (grid0.coords t)) (View.ld (iblk m c 0 t) (Rect.unit (s := S128x256) ![0, 128] S128x128.size i))
      (View.ld (iblk m c 1 t) (Rect.unit (s := S128x256) ![0, 0] S128x256.size j)) (View.ld (iblk m c 2 t) (Rect.unit (s := S128x256) ![0, 0] S128x256.size j)) (View.ld (iblk m c 3 t) (Rect.unit (s := S128x256) ![0, 0] S128x256.size j)) (View.ld (iblk m c 4 t) (Rect.unit (s := S128x256) ![0, 0] S128x256.size j)) x = out (oW X K V') (((cfg0.win 5).blk t).view.emb y) := by
  obtain ⟨x0, x1, rfl⟩ : ∃ a b, x = ix2 a b := ⟨x 0, x 1, eq_ix2 x⟩
  refine (congrFun (o1_tile (F := Ideal) _ _ _ _ _ _) (ix2 x0 x1)).trans ((tileO_eq X K V' 1 1 (sq (tt t)) (su (tt t)) (ok (tt t)) (ok_sees (tt t) 1) (ok_inj (tt t)) (ok_all (tt t) 1) _ _ _ _ (ok_word t)
    (lanes _ _ (tile_q m c X K V' hx hk hv t) 1 rfl _) (khalf1 m c X K V' hx hk hv t _) (vhalf1 m c X K V' hx hk hv t _) x0 x1).trans
    (place (oW X K V') t 1 x0 x1 _ y (emb_5 t y) h0 h1))
theorem piece_l1 (i j) (x : S128x128.Idx) (y : S128x256.Idx) (h0 : (y 0).val = (x 0).val) (h1 : (y 1).val = 1 * 128 + (x 1).val) :
    l1 (F := Ideal) (k0_pay2 (grid0.coords t)) (View.ld (iblk m c 0 t) (Rect.unit (s := S128x256) ![0, 128] S128x128.size i))
      (View.ld (iblk m c 1 t) (Rect.unit (s := S128x256) ![0, 0] S128x256.size j)) (View.ld (iblk m c 2 t) (Rect.unit (s := S128x256) ![0, 0] S128x256.size j)) x = out (lW X K) (((cfg0.win 6).blk t).view.emb y) := by
  obtain ⟨x0, x1, rfl⟩ : ∃ a b, x = ix2 a b := ⟨x 0, x 1, eq_ix2 x⟩
  refine (congrFun (l1_tile (F := Ideal) _ _ _ _) (ix2 x0 x1)).trans ((tileL_eq X K 1 1 (sq (tt t)) (su (tt t)) (ok (tt t)) (ok_sees (tt t) 1) (ok_inj (tt t)) (ok_all (tt t) 1) _ _ _ (ok_word t)
    (lanes _ _ (tile_q m c X K V' hx hk hv t) 1 rfl _) (khalf1 m c X K V' hx hk hv t _) x0 x1).trans
    (place (lW X K) t 1 x0 x1 _ y (emb_6 t y) h0 h1))
end pieces

include hx hk hv
theorem final_o : (dats m 0 c).arrAt 5 cfg0.N = out (oW X K V') := by
  refine (dats m 0 c).arrAt_eq_of_covers 5 _ (by decide +kernel) fun t _ y => ?_
  blk_simp
  rw [after0_5]
  unfold_out out0_5
  canon_tiles x h
  · exact piece_o1 m c X K V' hx hk hv t _ _ x y h0 h1
  · exact piece_o0 m c X K V' hx hk hv t _ _ x y h0 (h1.trans (by omega))
theorem final_l : (dats m 0 c).arrAt 6 cfg0.N = out (lW X K) := by
  refine (dats m 0 c).arrAt_eq_of_covers 6 _ (by decide +kernel) fun t _ y => ?_
  blk_simp
  rw [after0_6]
  unfold_out out0_6
  canon_tiles x h
  · exact piece_l1 m c X K V' hx hk hv t _ _ x y h0 h1
  · exact piece_l0 m c X K V' hx hk hv t _ _ x y h0 (h1.trans (by omega))
end arrays

end Cert.Band1FwdKernelIdeal.Hand

namespace Cert.Band1FwdReferenceIdeal.Hand
open Cert.Band1FwdReferenceIdeal Cert.Band1FwdReferenceIdeal.Read Cert.BandReal Cert.BandFwdTile
open Cert.Band0DqReferenceIdeal.Hand (up)

variable (X K V' : Wide)
theorem same_o : val_main_v52 (F := Ideal) (up X) (up K) (up V') = Cert.Band0FwdReferenceIdeal.Read.val_main_v52 (F := Ideal) (up X) (up K) (up V') := rfl
theorem ref_o : val_main_v54 (F := Ideal) (up X) (up K) (up V') = Cert.Band1FwdKernelIdeal.Hand.out (oW X K V') := by
  funext y
  obtain ⟨a, b, rfl⟩ : ∃ a b, y = ix2 a b := ⟨y 0, y 1, eq_ix2 y⟩
  have e : ∀ (s : Fin 4096) (l : Fin 256), val_main_v53 (F := Ideal) (up X) (up K) (up V') (ix2 s l) = ((oW X K V' s ⟨1 * 256 + l.val, by omega⟩ : ℝ) : EReal) := fun s l => by
    pointwise [val_main_v53]
    rw [same_o]
    exact Cert.Band0FwdReferenceIdeal.Hand.whole_o X K V' _ _
  pointwise [val_main_v54]
  exact e _ _
theorem same_l : val_main_v51 (F := Ideal) (up X) (up K) = Cert.Band0FwdReferenceIdeal.Read.val_main_v51 (F := Ideal) (up X) (up K) := rfl
theorem ref_l : val_main_v56 (F := Ideal) (up X) (up K) = Cert.Band1FwdKernelIdeal.Hand.out (lW X K) := by
  funext y
  obtain ⟨a, b, rfl⟩ : ∃ a b, y = ix2 a b := ⟨y 0, y 1, eq_ix2 y⟩
  have e : ∀ (s : Fin 4096) (l : Fin 256), val_main_v55 (F := Ideal) (up X) (up K) (ix2 s l) = ((lW X K s ⟨1 * 256 + l.val, by omega⟩ : ℝ) : EReal) := fun s l => by
    pointwise [val_main_v55]
    rw [same_l]
    exact Cert.Band0FwdReferenceIdeal.Hand.whole_l X K _ _
  pointwise [val_main_v56]
  exact e _ _

end Cert.Band1FwdReferenceIdeal.Hand

end
-- ==== Proof.Band2Fwd.lean ====
/-
  The forward call of the dilated attention's group of dilation 16: its tiles put together.
-/
module

public import proofs.«01_k».proof.Proof.Gen.Band2FwdKernelIdeal.Value
public import proofs.«01_k».proof.Proof.Gen.Band2FwdReferenceIdeal.Run
public import proofs.«01_k».proof.Proof.Gen.Band2FwdReferenceIdeal.Read
public import Idealize.ShloMosaic.Lib.Pipeline.ValueKit
public import Idealize.ShloMosaic.Lib.Pointwise
public import proofs.«01_k».proof.Proof.Reals
public import proofs.«01_k».proof.Proof.BandFwdTile
public import proofs.«01_k».proof.Proof.Band2Dq

@[expose] public section

set_option maxRecDepth 16384

noncomputable section

open Idealize.ShloMosaic Idealize.ShloMosaic.TcCoe Idealize.SL.Sem
open Idealize.ShloMosaic.Pipeline (Dat)

namespace Cert.Band2FwdKernelIdeal.Hand

open Cert.Band2FwdKernelIdeal Cert.Band2FwdKernelIdeal.Gen Cert.Reals Cert.AttnReal Cert.BandReal Cert.BandTile Cert.BandHost Cert.BandFwdTile
open Cert.Band0DqReferenceIdeal.Hand (up)
open Cert.Band2DqKernelIdeal.Hand (at_2560 sq sp su ok su_ok ok_sees ok_inj ok_all su_lo su_hi kk lanes block)

section generic
variable {F : FTy → Type} [FloatOps F] [Named F] (o : IVec S128x256 1) (q : FVec F S128x128 .bf16) (k1 k2 v1 v2 : FVec F S128x256 .bf16)
/-- The first pair of heads and the second: what the call writes of the output and of the log of the denominator. -/
def o0 : FVec F S128x128 .f32 :=
  k0_pay22 o (k0_pay5 q) (k0_pay6 k1 k2) (k0_pay7 v1 v2) (k0_pay14 o (k0_pay5 q) (k0_pay6 k1 k2) (k0_pay7 v1 v2) (k0_pay8 (F := F)) (iota .tc S1x128 32 [1] iota_S1x128_d1_w32) (Scalar.select (Scalar.cmpi .eq 128#32 0#32) 1#32 128#32)) (Scalar.select (Scalar.cmpi .eq 128#32 0#32) 1#32 128#32) k0_pay16
def o1 : FVec F S128x128 .f32 :=
  k0_pay47 o (k0_pay25 q) (k0_pay26 (k0_pay3 k1 k2)) (k0_pay27 (k0_pay4 v1 v2)) (k0_pay37 o (k0_pay25 q) (k0_pay26 (k0_pay3 k1 k2)) (k0_pay27 (k0_pay4 v1 v2)) (k0_pay28 (F := F)) (Scalar.select (Scalar.cmpi .eq 128#32 0#32) 1#32 128#32) k0_pay29 k0_pay30 k0_pay31) k0_pay39 k0_pay40 k0_pay41
def l0 : FVec F S128x128 .f32 :=
  k0_pay24 (k0_pay15 o (k0_pay5 q) (k0_pay6 k1 k2) (iota .tc S1x128 32 [1] iota_S1x128_d1_w32) (Scalar.select (Scalar.cmpi .eq 128#32 0#32) 1#32 128#32)) (k0_pay23 o (k0_pay5 q) (k0_pay6 k1 k2) (Scalar.select (Scalar.cmpi .eq 128#32 0#32) 1#32 128#32) k0_pay16) (iota .tc S1x128 32 [1] iota_S1x128_d1_w32) 128#32 (Scalar.cmpi .eq 128#32 0#32)
def l1 : FVec F S128x128 .f32 :=
  k0_pay1 (k0_pay38 o (k0_pay25 q) (k0_pay26 (k0_pay3 k1 k2)) (Scalar.select (Scalar.cmpi .eq 128#32 0#32) 1#32 128#32) k0_pay29 k0_pay30 k0_pay31) (k0_pay48 o (k0_pay25 q) (k0_pay26 (k0_pay3 k1 k2)) k0_pay39 k0_pay40 k0_pay41) (Scalar.select (Scalar.cmpi .eq 128#32 0#32) 1#32 128#32) k0_pay49 k0_pay50 k0_pay51 k0_pay52
theorem o0_tile : o0 o q k1 k2 v1 v2 = tileO (Named.named κ "mask" 0xF149F2CA#32) o q (half0 k1 k2) (half0 v1 v2) := rfl
theorem o1_tile : o1 o q k1 k2 v1 v2 = tileO (Named.named κ "mask" 0xF149F2CA#32) o q (half1 k1 k2) (half1 v1 v2) := rfl
theorem l0_tile : l0 o q k1 k2 = tileL (Named.named κ "mask" 0xF149F2CA#32) o q (half0 k1 k2) := rfl
theorem l1_tile : l1 o q k1 k2 = tileL (Named.named κ "mask" 0xF149F2CA#32) o q (half1 k1 k2) := rfl
end generic

section host
variable {F : FTy → Type} [FloatOps F] [Named F]
variable (m : (ℓ : Loc nD τ sig) → Buf (Elt F) ℓ) (c : Dev nD)

set_option maxHeartbeats 4000000 in
/-- What the host lines before the call leave in the array the call reads. -/
theorem V_x : V m c main_v6 = shapeCast S256x40960 (wide (m (c, Proc.tc.devRef main_arg0)) (m (c, Proc.tc.devRef main_arg1)) (m (c, Proc.tc.devRef main_arg2)) (m (c, Proc.tc.devRef main_arg3))) shapeCasts_S4096x2560_S256x40960 := by
  unfold V
  after_reads_simp
  rfl
theorem iblk_0 (t : Fin cfg0.N) (y : S128x256.Idx) : iblk m c 0 t y = V m c main_v6 (((cfg0.win 0).blk t).view.emb y) := rfl
theorem iblk_1 (t : Fin cfg0.N) (y : S128x256.Idx) : iblk m c 1 t y = V m c main_v6 (((cfg0.win 1).blk t).view.emb y) := rfl
theorem iblk_2 (t : Fin cfg0.N) (y : S128x256.Idx) : iblk m c 2 t y = V m c main_v6 (((cfg0.win 2).blk t).view.emb y) := rfl
theorem iblk_3 (t : Fin cfg0.N) (y : S128x256.Idx) : iblk m c 3 t y = V m c main_v6 (((cfg0.win 3).blk t).view.emb y) := rfl
theorem iblk_4 (t : Fin cfg0.N) (y : S128x256.Idx) : iblk m c 4 t y = V m c main_v6 (((cfg0.win 4).blk t).view.emb y) := rfl
end host

/-! The grid: point `t` is row block `t % 2` of residue `t / 2`, as in the gradient of the queries. -/

theorem lt_t (t : Fin cfg0.N) : t.val < 32 := lt_of_lt_of_eq t.isLt N_0
def tt (t : Fin cfg0.N) : Fin Cert.Band2DqKernelIdeal.cfg0.N := ⟨t.val, lt_of_lt_of_eq (lt_t t) Cert.Band2DqKernelIdeal.Gen.N_0.symm⟩
theorem coord (t : Fin cfg0.N) : (grid0.coords t 1).val = t.val % 2 :=
  (by decide +kernel : ∀ t : Fin grid0.N, (grid0.coords t 1).val = t.val % 2) t
theorem idx : ∀ t : Fin cfg0.N, win0_0.index t = ![t.val % 2, t.val / 2 * 10 + 2] ∧ win0_1.index t = ![t.val % 2 - 1, t.val / 2 * 10 + 5]
    ∧ win0_2.index t = ![t.val % 2, t.val / 2 * 10 + 5] ∧ win0_3.index t = ![t.val % 2 - 1, t.val / 2 * 10 + 8]
    ∧ win0_4.index t = ![t.val % 2, t.val / 2 * 10 + 8] ∧ win0_5.index t = ![t.val % 2, t.val / 2] ∧ win0_6.index t = ![t.val % 2, t.val / 2] :=
  (by decide +kernel : ∀ t : Fin grid0.N, _)

theorem ok_word (t : Fin cfg0.N) (r j) : k0_pay2 (grid0.coords t) (ix2 r j) = BitVec.ofBool (decide (ok (tt t) r j)) := by
  pointwise [k0_pay2]
  rw [coord]
  have ht := lt_t t
  refine (congrArg₂ (fun a b => IntOp.andi (IntOp.andi (IntOp.andi (IntOp.cmpi CmpIPredicate.sge b 0#32) (IntOp.cmpi CmpIPredicate.sle b a))
      (IntOp.cmpi CmpIPredicate.sle (IntOp.subi a b) 128#32)) (IntOp.cmpi CmpIPredicate.slt a (BitVec.ofInt 32 256)))
      (word_at (t.val % 2) r.val) (word_before (t.val % 2) j.val)).trans ?_
  rw [word_ok _ _ _ (by omega) (by omega) (by omega) (by omega) (by omega) (by omega)]
  refine congrArg _ (decide_eq_decide.2 ?_)
  show _ ↔ 128 ≤ t.val % 2 * 128 + j.val ∧ r.val ≤ j.val ∧ j.val ≤ r.val + 128
  omega

section arrays
variable (m : (ℓ : Loc nD τ sig) → Buf (Elt Ideal) ℓ) (c : Dev nD) (X K V' : Wide)
  (hx : m ((c : Thread nD τ).loc main_arg0) = up X) (hk : m ((c : Thread nD τ).loc main_arg1) = up K)
  (hv : m ((c : Thread nD τ).loc main_arg2) = up V')

include hx hk hv in
/-- The array the call reads, by position and residue. -/
theorem read (a ρ : ℕ) (h : a < 256 ∧ ρ < 16) (z : Fin 2560) : V m c main_v6 (ix2 ⟨a, h.1⟩ ⟨ρ * 2560 + z.val, by omega⟩ : S256x40960.Idx)
    = wide (F := Ideal) (up X) (up K) (up V') (m (c, Proc.tc.devRef main_arg3)) (ix2 (Cert.Band2DqKernelIdeal.Hand.at_ a ρ h) z) := by
  have h0 : m (c, Proc.tc.devRef main_arg0) = up X := hx
  have h1 : m (c, Proc.tc.devRef main_arg1) = up K := hk
  have h2 : m (c, Proc.tc.devRef main_arg2) = up V' := hv
  rw [V_x, h0, h1, h2]
  exact at_2560 (e := .bf16) (wide (F := Ideal) (up X) (up K) (up V') (m (c, Proc.tc.devRef main_arg3))) a ρ h z

include hx hk hv
theorem tile_q (t : Fin cfg0.N) (r : Fin 128) (l : Fin 256) : iblk m c 0 t (ix2 r l) = ((X (ix2 (sq (tt t) r) ⟨2 * 256 + l.val, by omega⟩) * (1 / 8) : ℝ) : EReal) := by
  have ht := lt_t t
  have e : ((cfg0.win 0).blk t).view.emb (ix2 r l) = (ix2 ⟨t.val % 2 * 128 + r.val, by omega⟩ ⟨t.val / 2 * 2560 + (⟨(2 * 256 + l.val), by omega⟩ : Fin 2560).val, by show _ + ((2 * 256 + l.val)) < _; omega⟩ : S256x40960.Idx) := by
    blk_ext [idx t]
  rw [iblk_0, e]
  exact (read m c X K V' hx hk hv (t.val % 2 * 128 + r.val) (t.val / 2) (by omega) ⟨(2 * 256 + l.val), by omega⟩).trans (wide_q X K V' _ _ (⟨2 * 256 + l.val, by omega⟩ : Fin 768))
theorem tile_k1 (t : Fin cfg0.N) (r : Fin 128) (l : Fin 256) : iblk m c 1 t (ix2 r l) = ((K (ix2 (sp (tt t) r) ⟨2 * 256 + l.val, by omega⟩) : ℝ) : EReal) := by
  have ht := lt_t t
  have e : ((cfg0.win 1).blk t).view.emb (ix2 r l) = (ix2 ⟨(t.val % 2 - 1) * 128 + r.val, by omega⟩ ⟨t.val / 2 * 2560 + (⟨768 + (2 * 256 + l.val), by omega⟩ : Fin 2560).val, by show _ + (768 + (2 * 256 + l.val)) < _; omega⟩ : S256x40960.Idx) := by
    blk_ext [idx t]
  rw [iblk_1, e]
  exact (read m c X K V' hx hk hv ((t.val % 2 - 1) * 128 + r.val) (t.val / 2) (by omega) ⟨768 + (2 * 256 + l.val), by omega⟩).trans (wide_k X K V' _ _ (⟨2 * 256 + l.val, by omega⟩ : Fin 768))
theorem tile_k2 (t : Fin cfg0.N) (r : Fin 128) (l : Fin 256) : iblk m c 2 t (ix2 r l) = ((K (ix2 (sq (tt t) r) ⟨2 * 256 + l.val, by omega⟩) : ℝ) : EReal) := by
  have ht := lt_t t
  have e : ((cfg0.win 2).blk t).view.emb (ix2 r l) = (ix2 ⟨t.val % 2 * 128 + r.val, by omega⟩ ⟨t.val / 2 * 2560 + (⟨768 + (2 * 256 + l.val), by omega⟩ : Fin 2560).val, by show _ + (768 + (2 * 256 + l.val)) < _; omega⟩ : S256x40960.Idx) := by
    blk_ext [idx t]
  rw [iblk_2, e]
  exact (read m c X K V' hx hk hv (t.val % 2 * 128 + r.val) (t.val / 2) (by omega) ⟨768 + (2 * 256 + l.val), by omega⟩).trans (wide_k X K V' _ _ (⟨2 * 256 + l.val, by omega⟩ : Fin 768))
theorem tile_v1 (t : Fin cfg0.N) (r : Fin 128) (l : Fin 256) : iblk m c 3 t (ix2 r l) = ((V' (ix2 (sp (tt t) r) ⟨2 * 256 + l.val, by omega⟩) : ℝ) : EReal) := by
  have ht := lt_t t
  have e : ((cfg0.win 3).blk t).view.emb (ix2 r l) = (ix2 ⟨(t.val % 2 - 1) * 128 + r.val, by omega⟩ ⟨t.val / 2 * 2560 + (⟨1536 + (2 * 256 + l.val), by omega⟩ : Fin 2560).val, by show _ + (1536 + (2 * 256 + l.val)) < _; omega⟩ : S256x40960.Idx) := by
    blk_ext [idx t]
  rw [iblk_3, e]
  exact (read m c X K V' hx hk hv ((t.val % 2 - 1) * 128 + r.val) (t.val / 2) (by omega) ⟨1536 + (2 * 256 + l.val), by omega⟩).trans (wide_v X K V' _ _ (⟨2 * 256 + l.val, by omega⟩ : Fin 768))
theorem tile_v2 (t : Fin cfg0.N) (r : Fin 128) (l : Fin 256) : iblk m c 4 t (ix2 r l) = ((V' (ix2 (sq (tt t) r) ⟨2 * 256 + l.val, by omega⟩) : ℝ) : EReal) := by
  have ht := lt_t t
  have e : ((cfg0.win 4).blk t).view.emb (ix2 r l) = (ix2 ⟨t.val % 2 * 128 + r.val, by omega⟩ ⟨t.val / 2 * 2560 + (⟨1536 + (2 * 256 + l.val), by omega⟩ : Fin 2560).val, by show _ + (1536 + (2 * 256 + l.val)) < _; omega⟩ : S256x40960.Idx) := by
    blk_ext [idx t]
  rw [iblk_4, e]
  exact (read m c X K V' hx hk hv (t.val % 2 * 128 + r.val) (t.val / 2) (by omega) ⟨1536 + (2 * 256 + l.val), by omega⟩).trans (wide_v X K V' _ _ (⟨2 * 256 + l.val, by omega⟩ : Fin 768))
omit hx hk hv

/-- A row's lanes of a result, laid out by residue of the dilation: the output and the log of the denominator. -/
def out (f : Fin 4096 → Fin 768 → ℝ) : FVec Ideal S256x4096 .f32 := fun y => ((f ⟨(y 0).val * 16 + (y 1).val / 256, by have h0 : (y 0).val < 256 := (y 0).isLt; have h1 : (y 1).val < 4096 := (y 1).isLt; omega⟩
  ⟨2 * 256 + (y 1).val % 256, by omega⟩ : ℝ) : EReal)

theorem place (f : Fin 4096 → Fin 768 → ℝ) (t : Fin cfg0.N) (p : Fin 2) (r l : Fin 128) (z : S256x4096.Idx) (y : S128x256.Idx)
    (hz : z = (ix2 ⟨t.val % 2 * 128 + (y 0).val, by have := lt_t t; have h0 : (y 0).val < 128 := (y 0).isLt; omega⟩ ⟨t.val / 2 * 256 + (y 1).val, by have := lt_t t; have h1 : (y 1).val < 256 := (y 1).isLt; omega⟩ : S256x4096.Idx))
    (h0 : (y 0).val = r.val) (h1 : (y 1).val = p.val * 128 + l.val) : ((f (sq (tt t) r) (col 2 p l) : ℝ) : EReal) = out f z := by
  subst hz
  have ht := lt_t t
  refine congrArg _ (congrArg₂ f (Fin.ext ?_) (Fin.ext ?_))
  · show (t.val % 2 * 128 + r.val) * 16 + t.val / 2 = (t.val % 2 * 128 + (y 0).val) * 16 + (t.val / 2 * 256 + (y 1).val) / 256; omega
  · show 2 * 256 + (p.val * 128 + l.val) = 2 * 256 + (t.val / 2 * 256 + (y 1).val) % 256; omega
theorem emb_5 (t : Fin cfg0.N) (y : S128x256.Idx) : ((cfg0.win 5).blk t).view.emb y
    = (ix2 ⟨t.val % 2 * 128 + (y 0).val, by have := lt_t t; have h0 : (y 0).val < 128 := (y 0).isLt; omega⟩ ⟨t.val / 2 * 256 + (y 1).val, by have := lt_t t; have h1 : (y 1).val < 256 := (y 1).isLt; omega⟩ : S256x4096.Idx) := by
  rw [eq_ix2 y]; blk_ext [idx t]
theorem emb_6 (t : Fin cfg0.N) (y : S128x256.Idx) : ((cfg0.win 6).blk t).view.emb y
    = (ix2 ⟨t.val % 2 * 128 + (y 0).val, by have := lt_t t; have h0 : (y 0).val < 128 := (y 0).isLt; omega⟩ ⟨t.val / 2 * 256 + (y 1).val, by have := lt_t t; have h1 : (y 1).val < 256 := (y 1).isLt; omega⟩ : S256x4096.Idx) := by
  rw [eq_ix2 y]; blk_ext [idx t]

section pieces
variable (t : Fin cfg0.N)
include hx hk hv
theorem khalf0 (j) (r : Fin 256) (l : Fin 128) : half0 (F := Ideal) (View.ld (iblk m c 1 t) (Rect.unit (s := S128x256) ![0, 0] S128x256.size j)) (View.ld (iblk m c 2 t) (Rect.unit (s := S128x256) ![0, 0] S128x256.size j)) (ix2 r l) = ((tK K 2 0 (su (tt t)) r l : ℝ) : EReal) :=
  half0_eq _ _ (kk (tt t) K) (fun r l => (block _ _ (tile_k1 m c X K V' hx hk hv t) _ r l).trans (by rw [kk, su_lo]))
    (fun r l => (block _ _ (tile_k2 m c X K V' hx hk hv t) _ r l).trans (by rw [kk, su_hi])) r l
theorem vhalf0 (j) (r : Fin 256) (l : Fin 128) : half0 (F := Ideal) (View.ld (iblk m c 3 t) (Rect.unit (s := S128x256) ![0, 0] S128x256.size j)) (View.ld (iblk m c 4 t) (Rect.unit (s := S128x256) ![0, 0] S128x256.size j)) (ix2 r l) = ((tK V' 2 0 (su (tt t)) r l : ℝ) : EReal) :=
  half0_eq _ _ (kk (tt t) V') (fun r l => (block _ _ (tile_v1 m c X K V' hx hk hv t) _ r l).trans (by rw [kk, su_lo]))
    (fun r l => (block _ _ (tile_v2 m c X K V' hx hk hv t) _ r l).trans (by rw [kk, su_hi])) r l
theorem piece_o0 (i j) (x : S128x128.Idx) (y : S128x256.Idx) (h0 : (y 0).val = (x 0).val) (h1 : (y 1).val = 0 * 128 + (x 1).val) :
    o0 (F := Ideal) (k0_pay2 (grid0.coords t)) (View.ld (iblk m c 0 t) (Rect.unit (s := S128x256) ![0, 0] S128x128.size i))
      (View.ld (iblk m c 1 t) (Rect.unit (s := S128x256) ![0, 0] S128x256.size j)) (View.ld (iblk m c 2 t) (Rect.unit (s := S128x256) ![0, 0] S128x256.size j)) (View.ld (iblk m c 3 t) (Rect.unit (s := S128x256) ![0, 0] S128x256.size j)) (View.ld (iblk m c 4 t) (Rect.unit (s := S128x256) ![0, 0] S128x256.size j)) x = out (oW X K V') (((cfg0.win 5).blk t).view.emb y) := by
  obtain ⟨x0, x1, rfl⟩ : ∃ a b, x = ix2 a b := ⟨x 0, x 1, eq_ix2 x⟩
  refine (congrFun (o0_tile (F := Ideal) _ _ _ _ _ _) (ix2 x0 x1)).trans ((tileO_eq X K V' 2 0 (sq (tt t)) (su (tt t)) (ok (tt t)) (ok_sees (tt t) 0) (ok_inj (tt t)) (ok_all (tt t) 0) _ _ _ _ (ok_word t)
    (lanes _ _ (tile_q m c X K V' hx hk hv t) 0 rfl _) (khalf0 m c X K V' hx hk hv t _) (vhalf0 m c X K V' hx hk hv t _) x0 x1).trans
    (place (oW X K V') t 0 x0 x1 _ y (emb_5 t y) h0 h1))
theorem piece_l0 (i j) (x : S128x128.Idx) (y : S128x256.Idx) (h0 : (y 0).val = (x 0).val) (h1 : (y 1).val = 0 * 128 + (x 1).val) :
    l0 (F := Ideal) (k0_pay2 (grid0.coords t)) (View.ld (iblk m c 0 t) (Rect.unit (s := S128x256) ![0, 0] S128x128.size i))
      (View.ld (iblk m c 1 t) (Rect.unit (s := S128x256) ![0, 0] S128x256.size j)) (View.ld (iblk m c 2 t) (Rect.unit (s := S128x256) ![0, 0] S128x256.size j)) x = out (lW X K) (((cfg0.win 6).blk t).view.emb y) := by
  obtain ⟨x0, x1, rfl⟩ : ∃ a b, x = ix2 a b := ⟨x 0, x 1, eq_ix2 x⟩
  refine (congrFun (l0_tile (F := Ideal) _ _ _ _) (ix2 x0 x1)).trans ((tileL_eq X K 2 0 (sq (tt t)) (su (tt t)) (ok (tt t)) (ok_sees (tt t) 0) (ok_inj (tt t)) (ok_all (tt t) 0) _ _ _ (ok_word t)
    (lanes _ _ (tile_q m c X K V' hx hk hv t) 0 rfl _) (khalf0 m c X K V' hx hk hv t _) x0 x1).trans
    (place (lW X K) t 0 x0 x1 _ y (emb_6 t y) h0 h1))
theorem khalf1 (j) (r : Fin 256) (l : Fin 128) : half1 (F := Ideal) (View.ld (iblk m c 1 t) (Rect.unit (s := S128x256) ![0, 0] S128x256.size j)) (View.ld (iblk m c 2 t) (Rect.unit (s := S128x256) ![0, 0] S128x256.size j)) (ix2 r l) = ((tK K 2 1 (su (tt t)) r l : ℝ) : EReal) :=
  half1_eq _ _ (kk (tt t) K) (fun r l => (block _ _ (tile_k1 m c X K V' hx hk hv t) _ r l).trans (by rw [kk, su_lo]))
    (fun r l => (block _ _ (tile_k2 m c X K V' hx hk hv t) _ r l).trans (by rw [kk, su_hi])) r l
theorem vhalf1 (j) (r : Fin 256) (l : Fin 128) : half1 (F := Ideal) (View.ld (iblk m c 3 t) (Rect.unit (s := S128x256) ![0, 0] S128x256.size j)) (View.ld (iblk m c 4 t) (Rect.unit (s := S128x256) ![0, 0] S128x256.size j)) (ix2 r l) = ((tK V' 2 1 (su (tt t)) r l : ℝ) : EReal) :=
  half1_eq _ _ (kk (tt t) V') (fun r l => (block _ _ (tile_v1 m c X K V' hx hk hv t) _ r l).trans (by rw [kk, su_lo]))
    (fun r l => (block _ _ (tile_v2 m c X K V' hx hk hv t) _ r l).trans (by rw [kk, su_hi])) r l
theorem piece_o1 (i j) (x : S128x128.Idx) (y : S128x256.Idx) (h0 : (y 0).val = (x 0).val) (h1 : (y 1).val = 1 * 128 + (x 1).val) :
    o1 (F := Ideal) (k0_pay2 (grid0.coords t)) (View.ld (iblk m c 0 t) (Rect.unit (s := S128x256) ![0, 128] S128x128.size i))
      (View.ld (iblk m c 1 t) (Rect.unit (s := S128x256) ![0, 0] S128x256.size j)) (View.ld (iblk m c 2 t) (Rect.unit (s := S128x256) ![0, 0] S128x256.size j)) (View.ld (iblk m c 3 t) (Rect.unit (s := S128x256) ![0, 0] S128x256.size j)) (View.ld (iblk m c 4 t) (Rect.unit (s := S128x256) ![0, 0] S128x256.size j)) x = out (oW X K V') (((cfg0.win 5).blk t).view.emb y) := by
  obtain ⟨x0, x1, rfl⟩ : ∃ a b, x = ix2 a b := ⟨x 0, x 1, eq_ix2 x⟩
  refine (congrFun (o1_tile (F := Ideal) _ _ _ _ _ _) (ix2 x0 x1)).trans ((tileO_eq X K V' 2 1 (sq (tt t)) (su (tt t)) (ok (tt t)) (ok_sees (tt t) 1) (ok_inj (tt t)) (ok_all (tt t) 1) _ _ _ _ (ok_word t)
    (lanes _ _ (tile_q m c X K V' hx hk hv t) 1 rfl _) (khalf1 m c X K V' hx hk hv t _) (vhalf1 m c X K V' hx hk hv t _) x0 x1).trans
    (place (oW X K V') t 1 x0 x1 _ y (emb_5 t y) h0 h1))
theorem piece_l1 (i j) (x : S128x128.Idx) (y : S128x256.Idx) (h0 : (y 0).val = (x 0).val) (h1 : (y 1).val = 1 * 128 + (x 1).val) :
    l1 (F := Ideal) (k0_pay2 (grid0.coords t)) (View.ld (iblk m c 0 t) (Rect.unit (s := S128x256) ![0, 128] S128x128.size i))
      (View.ld (iblk m c 1 t) (Rect.unit (s := S128x256) ![0, 0] S128x256.size j)) (View.ld (iblk m c 2 t) (Rect.unit (s := S128x256) ![0, 0] S128x256.size j)) x = out (lW X K) (((cfg0.win 6).blk t).view.emb y) := by
  obtain ⟨x0, x1, rfl⟩ : ∃ a b, x = ix2 a b := ⟨x 0, x 1, eq_ix2 x⟩
  refine (congrFun (l1_tile (F := Ideal) _ _ _ _) (ix2 x0 x1)).trans ((tileL_eq X K 2 1 (sq (tt t)) (su (tt t)) (ok (tt t)) (ok_sees (tt t) 1) (ok_inj (tt t)) (ok_all (tt t) 1) _ _ _ (ok_word t)
    (lanes _ _ (tile_q m c X K V' hx hk hv t) 1 rfl _) (khalf1 m c X K V' hx hk hv t _) x0 x1).trans
    (place (lW X K) t 1 x0 x1 _ y (emb_6 t y) h0 h1))
end pieces

include hx hk hv
theorem final_o : (dats m 0 c).arrAt 5 cfg0.N = out (oW X K V') := by
  refine (dats m 0 c).arrAt_eq_of_covers 5 _ (by decide +kernel) fun t _ y => ?_
  blk_simp
  rw [after0_5]
  unfold_out out0_5
  canon_tiles x h
  · exact piece_o1 m c X K V' hx hk hv t _ _ x y h0 h1
  · exact piece_o0 m c X K V' hx hk hv t _ _ x y h0 (h1.trans (by omega))
theorem final_l : (dats m 0 c).arrAt 6 cfg0.N = out (lW X K) := by
  refine (dats m 0 c).arrAt_eq_of_covers 6 _ (by decide +kernel) fun t _ y => ?_
  blk_simp
  rw [after0_6]
  unfold_out out0_6
  canon_tiles x h
  · exact piece_l1 m c X K V' hx hk hv t _ _ x y h0 h1
  · exact piece_l0 m c X K V' hx hk hv t _ _ x y h0 (h1.trans (by omega))
end arrays

end Cert.Band2FwdKernelIdeal.Hand

namespace Cert.Band2FwdReferenceIdeal.Hand
open Cert.Band2FwdReferenceIdeal Cert.Band2FwdReferenceIdeal.Read Cert.BandReal Cert.BandFwdTile
open Cert.Band0DqReferenceIdeal.Hand (up)

variable (X K V' : Wide)
theorem same_o : val_main_v52 (F := Ideal) (up X) (up K) (up V') = Cert.Band0FwdReferenceIdeal.Read.val_main_v52 (F := Ideal) (up X) (up K) (up V') := rfl
theorem ref_o : val_main_v54 (F := Ideal) (up X) (up K) (up V') = Cert.Band2FwdKernelIdeal.Hand.out (oW X K V') := by
  funext y
  obtain ⟨a, b, rfl⟩ : ∃ a b, y = ix2 a b := ⟨y 0, y 1, eq_ix2 y⟩
  have e : ∀ (s : Fin 4096) (l : Fin 256), val_main_v53 (F := Ideal) (up X) (up K) (up V') (ix2 s l) = ((oW X K V' s ⟨2 * 256 + l.val, by omega⟩ : ℝ) : EReal) := fun s l => by
    pointwise [val_main_v53]
    rw [same_o]
    exact Cert.Band0FwdReferenceIdeal.Hand.whole_o X K V' _ _
  pointwise [val_main_v54]
  exact e _ _
theorem same_l : val_main_v51 (F := Ideal) (up X) (up K) = Cert.Band0FwdReferenceIdeal.Read.val_main_v51 (F := Ideal) (up X) (up K) := rfl
theorem ref_l : val_main_v56 (F := Ideal) (up X) (up K) = Cert.Band2FwdKernelIdeal.Hand.out (lW X K) := by
  funext y
  obtain ⟨a, b, rfl⟩ : ∃ a b, y = ix2 a b := ⟨y 0, y 1, eq_ix2 y⟩
  have e : ∀ (s : Fin 4096) (l : Fin 256), val_main_v55 (F := Ideal) (up X) (up K) (ix2 s l) = ((lW X K s ⟨2 * 256 + l.val, by omega⟩ : ℝ) : EReal) := fun s l => by
    pointwise [val_main_v55]
    rw [same_l]
    exact Cert.Band0FwdReferenceIdeal.Hand.whole_l X K _ _
  pointwise [val_main_v56]
  exact e _ _

end Cert.Band2FwdReferenceIdeal.Hand

end
-- ==== Proof.FfnFwd.lean ====
/-
  A SwiGLU block and the norm behind it: what the kernel leaves, tile by tile, and what the reference computes.
-/
module

public import proofs.«01_k».proof.Proof.Gen.FfnFwdKernelIdeal.Value
public import proofs.«01_k».proof.Proof.Gen.FfnFwdReferenceIdeal.Run
public import proofs.«01_k».proof.Proof.Gen.FfnFwdReferenceIdeal.Read
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnFwdReferenceIdeal.Hand

open Cert.FfnFwdReferenceIdeal Cert.FfnFwdReferenceIdeal.Read

/-- The logistic function. -/
def sgm (z : EReal) : EReal := Ideal.div 1 (1 + Ideal.exp (-z))

/-- A row without its mean. -/
def cen (r : Fin 1024 → EReal) (l : Fin 1024) : EReal := r l - Ideal.div (∑ k, r k) (Ideal.ofBits .f32 0x44800000#32)
/-- A row's reciprocal standard deviation. -/
def rstd (r : Fin 1024 → EReal) : EReal := Ideal.rsqrt (Ideal.div (∑ k, cen r k * cen r k) (Ideal.ofBits .f32 0x44800000#32) + Ideal.ofBits .f32 0x3727C5AC#32)

section spec
variable (x : S4096x1024.Idx → EReal) (w : S1024x5632.Idx → EReal) (v : S2816x1024.Idx → EReal) (g b : S1024.Idx → EReal)

/-- The first product. -/
def lin (s : Fin 4096) (j : Fin 5632) : EReal := ∑ k, x (ix2 s k) * w (ix2 k j)
def gt (s : Fin 4096) (l : Fin 2816) : EReal := lin x w s ⟨l.val, by omega⟩
def ut (s : Fin 4096) (l : Fin 2816) : EReal := lin x w s ⟨2816 + l.val, by omega⟩
/-- The gated lane. -/
def act (s : Fin 4096) (l : Fin 2816) : EReal := gt x w s l * sgm (gt x w s l) * ut x w s l
/-- What goes into the norm. -/
def inp (s : Fin 4096) (d : Fin 1024) : EReal :=
  Ideal.ofBits .f32 0x3FB504F3#32 * x (ix2 s d) + Ideal.ofBits .f32 0x3F000000#32 * ∑ l, act x w s l * v (ix2 l d)
def nrm (s : Fin 4096) (d : Fin 1024) : EReal := cen (inp x w v s) d * rstd (inp x w v s) * g (ix1 d) + b (ix1 d)

def outG : S4096x2816.Idx → EReal := fun i => gt x w (i 0) (i 1)
def outU : S4096x2816.Idx → EReal := fun i => ut x w (i 0) (i 1)
def outR : S4096x1024.Idx → EReal := fun i => inp x w v (i 0) (i 1)
def outY : S4096x1024.Idx → EReal := fun i => nrm x w v g b (i 0) (i 1)
end spec

section reference
variable (x : FVec Ideal S4096x1024 .f32) (w : FVec Ideal S1024x5632 .f32) (v : FVec Ideal S2816x1024 .f32) (g b : FVec Ideal S1024 .f32)

theorem v0 (s j) : val_main_v0 (F := Ideal) x w (ix2 s j) = lin x w s j := by
  pointwise [val_main_v0]
  rfl
theorem v1 (s l) : val_main_v1 (F := Ideal) x w (ix2 s l) = gt x w s l := by
  pointwise [val_main_v1]
  exact v0 x w s _
theorem v2 (s l) : val_main_v2 (F := Ideal) x w (ix2 s l) = ut x w s l := by
  pointwise [val_main_v2]
  exact v0 x w s _
theorem v6 (s l) : val_main_v6 (F := Ideal) x w (ix2 s l) = act x w s l := by
  pointwise [val_main_v6, val_main_v5, val_main_call0_v5, val_main_call0_v4, val_main_call0_cst_0, val_main_call0_v3, val_main_call0_v2, val_main_call0_cst, val_main_call0_v1, val_main_call0_v0]
  simp only [v1, v2]
  rfl
theorem v10 (s d) : val_main_v10 (F := Ideal) x w v (ix2 s d) = inp x w v s d := by
  pointwise [val_main_v10, val_main_v9, val_main_v8, val_main_cst_0, val_main_v7, val_main_v4, val_main_v3, val_main_cst]
  simp only [v6]
  rfl
theorem v16 (s d) : val_main_v16 (F := Ideal) x w v (ix2 s d) = cen (inp x w v s) d := by
  pointwise [val_main_v16, val_main_v15, val_main_v14, val_main_v13, val_main_cst_2, val_main_v12, val_main_v11, val_main_cst_1]
  simp only [v10]
  rfl
theorem v23 (s d) : val_main_v23 (F := Ideal) x w v (ix2 s d) = cen (inp x w v s) d := v16 x w v s d
theorem v26 (s) : val_main_v26 (F := Ideal) x w v (ix2 s 0) = rstd (inp x w v s) := by
  pointwise [val_main_v26, val_main_v25, val_main_v24, val_main_cst_5, val_main_v21, val_main_v20, val_main_cst_4, val_main_v19, val_main_v18, val_main_cst_3, val_main_v17]
  simp only [v16]
  rfl
theorem v34 (s d) : val_main_v34 (F := Ideal) x w v g b (ix2 s d) = nrm x w v g b s d := by
  pointwise [val_main_v34, val_main_v33, val_main_v32, val_main_v31, val_main_v30, val_main_v29, val_main_v28, val_main_v27]
  simp only [v23, v26]
  rfl

theorem v35 (s l) : val_main_v35 (F := Ideal) x w (ix2 s l) = gt x w s l := by
  pointwise [val_main_v35]
  exact v1 x w s l
theorem v36 (s l) : val_main_v36 (F := Ideal) x w (ix2 s l) = ut x w s l := by
  pointwise [val_main_v36]
  exact v2 x w s l
theorem v37 (s d) : val_main_v37 (F := Ideal) x w v g b (ix2 s d) = nrm x w v g b s d := by
  pointwise [val_main_v37]
  exact v34 x w v g b s d

theorem ref_g : val_main_v35 (F := Ideal) x w = outG x w :=
  funext fun i => (congrArg (val_main_v35 (F := Ideal) x w) (eq_ix2 i)).trans (v35 x w (i 0) (i 1))
theorem ref_u : val_main_v36 (F := Ideal) x w = outU x w :=
  funext fun i => (congrArg (val_main_v36 (F := Ideal) x w) (eq_ix2 i)).trans (v36 x w (i 0) (i 1))
theorem ref_r : val_main_v10 (F := Ideal) x w v = outR x w v :=
  funext fun i => (congrArg (val_main_v10 (F := Ideal) x w v) (eq_ix2 i)).trans (v10 x w v (i 0) (i 1))
theorem ref_y : val_main_v34 (F := Ideal) x w v g b = outY x w v g b :=
  funext fun i => (congrArg (val_main_v34 (F := Ideal) x w v g b) (eq_ix2 i)).trans (v34 x w v g b (i 0) (i 1))
theorem ref_yb : val_main_v37 (F := Ideal) x w v g b = outY x w v g b :=
  funext fun i => (congrArg (val_main_v37 (F := Ideal) x w v g b) (eq_ix2 i)).trans (v37 x w v g b (i 0) (i 1))
end reference

end Cert.FfnFwdReferenceIdeal.Hand

namespace Cert.FfnFwdKernelIdeal.Hand

open Cert.FfnFwdKernelIdeal Cert.FfnFwdKernelIdeal.Gen
open Cert.FfnFwdReferenceIdeal.Hand (sgm cen rstd lin gt ut act inp nrm outG outU outR outY)

/-- A sum over the lanes, in two halves. -/
theorem sum_two (f : Fin 2816 → EReal) : ∑ l, f l = (∑ l : Fin 1408, f ⟨0 * 1408 + l.val, by omega⟩) + ∑ l : Fin 1408, f ⟨1 * 1408 + l.val, by omega⟩ := by
  have h : ∑ j : Fin 2816, f j = ∑ q : Fin 2, ∑ l : Fin 1408, f ⟨q.val * 1408 + l.val, by omega⟩ :=
    (Fin.sum_mul_add_congr (F := fun (q : Fin 2) (l : Fin 1408) => f ⟨q.val * 1408 + l.val, by omega⟩) fun q l hl => rfl).symm
  rw [h, Fin.sum_univ_two]
  rfl

section rows
variable (x : FVec Ideal S256x1024 .f32) (X : Fin 256 → Fin 1024 → EReal) (hx : ∀ r k, x (ix2 r k) = X r k)

include hx in
theorem pay4 (w : FVec Ideal S1x1024x1408 .bf16) (W : Fin 1024 → Fin 1408 → EReal) (hw : ∀ k l, w (ix3 0 k l) = W k l) (r l) :
    k0_pay4 (F := Ideal) x w (ix2 r l) = ∑ k, X r k * W k l := by
  pointwise [k0_pay4, k0_pay3]
  simp only [hx, hw]

theorem same5 (w) : k0_pay5 (F := Ideal) x w = k0_pay4 x w := rfl
theorem same9 (w) : k0_pay9 (F := Ideal) x w = k0_pay4 x w := rfl
theorem same10 (w) : k0_pay10 (F := Ideal) x w = k0_pay4 x w := rfl
theorem pay6 (w r l) : k0_pay6 (F := Ideal) x w (ix2 r l) = k0_pay4 x w (ix2 r l) := by pointwise [k0_pay6]
theorem pay7 (w r l) : k0_pay7 (F := Ideal) x w (ix2 r l) = k0_pay4 x w (ix2 r l) := by
  rw [← same5]; pointwise [k0_pay7]
theorem pay11 (w r l) : k0_pay11 (F := Ideal) x w (ix2 r l) = k0_pay4 x w (ix2 r l) := by
  rw [← same9]; pointwise [k0_pay11]
theorem pay12 (a : FVec Ideal S256x1408 .f32) (r l) : k0_pay12 (F := Ideal) a (ix2 r l) = a (ix2 r l) := by pointwise [k0_pay12]

variable (w0 w1 w2 w3 : FVec Ideal S1x1024x1408 .bf16) (u0 u1 : FVec Ideal S1x1408x1024 .bf16)
  (P0 P1 Q0 Q1 : Fin 256 → Fin 1408 → EReal) (V0 V1 : Fin 1408 → Fin 1024 → EReal)
  (h0 : ∀ r l, k0_pay4 (F := Ideal) x w0 (ix2 r l) = P0 r l) (h1 : ∀ r l, k0_pay4 (F := Ideal) x w1 (ix2 r l) = P1 r l)
  (h2 : ∀ r l, k0_pay4 (F := Ideal) x w2 (ix2 r l) = Q0 r l) (h3 : ∀ r l, k0_pay4 (F := Ideal) x w3 (ix2 r l) = Q1 r l)
  (hu0 : ∀ l d, u0 (ix3 0 l d) = V0 l d) (hu1 : ∀ l d, u1 (ix3 0 l d) = V1 l d)

include h0 h2 hu0 in
theorem pay8 (r d) : k0_pay8 (F := Ideal) x w0 w2 u0 (ix2 r d) = ∑ l, P0 r l * sgm (P0 r l) * Q0 r l * V0 l d := by
  pointwise [k0_pay8]
  simp only [same5, h0, h2, hu0]
  rfl

include hx h0 h1 h2 h3 hu0 hu1 in
theorem pay13 (r d) : k0_pay13 (F := Ideal) x (k0_pay8 x w0 w2 u0) (k0_pay9 x w1) (k0_pay10 x w3) u1 (ix2 r d)
    = Ideal.ofBits .f32 0x3FB504F3#32 * X r d + Ideal.ofBits .f32 0x3F000000#32 * ((∑ l, P0 r l * sgm (P0 r l) * Q0 r l * V0 l d) + ∑ l, P1 r l * sgm (P1 r l) * Q1 r l * V1 l d) := by
  pointwise [k0_pay13]
  simp only [pay8 x w0 w2 u0 P0 Q0 V0 h0 h2 hu0, same9, same10, h1, h3, hu1, hx]
  rfl
end rows

section norm
variable (x : FVec Ideal S256x1024 .f32) (y : FVec Ideal S256x1024 .f32) (p q : FVec Ideal S256x1408 .f32) (u : FVec Ideal S1x1408x1024 .bf16)
  (g b : FVec Ideal S1x1024 .f32) (R : Fin 256 → Fin 1024 → EReal) (G B : Fin 1024 → EReal)
  (hr : ∀ r d, k0_pay13 (F := Ideal) x y p q u (ix2 r d) = R r d) (hg : ∀ d, g (ix2 0 d) = G d) (hb : ∀ d, b (ix2 0 d) = B d)

include hr in
theorem pay15 (r d) : k0_pay15 (F := Ideal) x y p q u (ix2 r d) = cen (R r) d * rstd (R r) := by
  pointwise [k0_pay15]
  simp only [hr]
  rfl

include hr hg hb in
theorem pay1 (r d) : k0_pay1 (F := Ideal) (k0_pay14 b) (k0_pay15 x y p q u) (k0_pay16 g) (ix2 r d) = cen (R r) d * rstd (R r) * G d + B d := by
  pointwise [k0_pay1, k0_pay14, k0_pay16]
  rw [pay15 x y p q u R hr, hg, hb]

include hr hg hb in
theorem pay2 (r d) : k0_pay2 (F := Ideal) (k0_pay14 b) (k0_pay15 x y p q u) (k0_pay16 g) (ix2 r d) = cen (R r) d * rstd (R r) * G d + B d := by
  pointwise [k0_pay2]
  exact pay1 x y p q u g b R G B hr hg hb r d
end norm

theorem idx : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem lt_row (t : Fin cfg0.N) (r : Fin 256) : t.val * 256 + r.val < 4096 := by
  have h := lt_of_lt_of_eq t.isLt N_0; omega

/-- Row `r` of tile `t`. -/
abbrev row (t : Fin cfg0.N) (r : Fin 256) : Fin 4096 := ⟨t.val * 256 + r.val, lt_row t r⟩

section arrays
variable (m : (ℓ : Loc nD τ sig) → Buf (Elt Ideal) ℓ) (c : Dev nD)

abbrev aX : S4096x1024.Idx → EReal := m ((c : Thread nD τ).loc main_arg0)
abbrev aW : S1024x5632.Idx → EReal := m ((c : Thread nD τ).loc main_arg1)
abbrev aV : S2816x1024.Idx → EReal := m ((c : Thread nD τ).loc main_arg2)
abbrev aG : S1024.Idx → EReal := m ((c : Thread nD τ).loc main_arg3)
abbrev aB : S1024.Idx → EReal := m ((c : Thread nD τ).loc main_arg4)

theorem V_w : V m c main_v2 = truncf (F := Ideal) .bf16 (transpose S4x1024x1408 [1, 0, 2] (shapeCast S1024x4x1408 (m (c, Proc.tc.devRef main_arg1)) shapeCasts_S1024x5632_S1024x4x1408) transposes_S1024x4x1408_S4x1024x1408_1_0_2) bitsLt_bf16_f32 := by
  unfold V
  simp only [hostOps0, List.flatten_cons, List.flatten_nil, List.cons_append, List.nil_append, List.append_nil]
  entry_read
  rfl
theorem V_v : V m c main_v4 = truncf (F := Ideal) .bf16 (shapeCast S2x1408x1024 (m (c, Proc.tc.devRef main_arg2)) shapeCasts_S2816x1024_S2x1408x1024) bitsLt_bf16_f32 := by
  unfold V
  simp only [hostOps0, List.flatten_cons, List.flatten_nil, List.cons_append, List.nil_append, List.append_nil]
  entry_read
  rfl
theorem V_g : V m c main_v5 = shapeCast S1x1024 (m (c, Proc.tc.devRef main_arg3)) shapeCasts_S1024_S1x1024 := by
  unfold V
  simp only [hostOps0, List.flatten_cons, List.flatten_nil, List.cons_append, List.nil_append, List.append_nil]
  entry_read
  rfl
theorem V_b : V m c main_v6 = shapeCast S1x1024 (m (c, Proc.tc.devRef main_arg4)) shapeCasts_S1024_S1x1024 := by
  unfold V
  simp only [hostOps0, List.flatten_cons, List.flatten_nil, List.cons_append, List.nil_append, List.append_nil]
  entry_read
  rfl

theorem iblk_w (t : Fin cfg0.N) (y : S4x1024x1408.Idx) : iblk m c 1 t y = V m c main_v2 (((cfg0.win 1).blk t).view.emb y) := rfl
theorem iblk_v (t : Fin cfg0.N) (y : S2x1408x1024.Idx) : iblk m c 2 t y = V m c main_v4 (((cfg0.win 2).blk t).view.emb y) := rfl
theorem iblk_g (t : Fin cfg0.N) (y : S1x1024.Idx) : iblk m c 3 t y = V m c main_v5 (((cfg0.win 3).blk t).view.emb y) := rfl
theorem iblk_b (t : Fin cfg0.N) (y : S1x1024.Idx) : iblk m c 4 t y = V m c main_v6 (((cfg0.win 4).blk t).view.emb y) := rfl

theorem kW_eq (q : Fin 4) (d : Fin 1024) (l : Fin 1408) (w : FVec Ideal S1024x5632 .f32) :
    truncf .bf16 (transpose S4x1024x1408 [1, 0, 2] (shapeCast S1024x4x1408 w shapeCasts_S1024x5632_S1024x4x1408) transposes_S1024x4x1408_S4x1024x1408_1_0_2) bitsLt_bf16_f32 (ix3 q d l)
      = w (ix2 d ⟨q.val * 1408 + l.val, by omega⟩) := by
  pointwise
theorem kV_eq (q : Fin 2) (l : Fin 1408) (d : Fin 1024) (v : FVec Ideal S2816x1024 .f32) :
    truncf .bf16 (shapeCast S2x1408x1024 v shapeCasts_S2816x1024_S2x1408x1024) bitsLt_bf16_f32 (ix3 q l d) = v (ix2 ⟨q.val * 1408 + l.val, by omega⟩ d) := by
  pointwise

theorem tile_x (t : Fin cfg0.N) (r : Fin 256) (k : Fin 1024) : iblk m c 0 t (ix2 r k) = aX m c (ix2 (row t r) k) := by
  blk_point [iblk, V, idx t, row]
theorem tile_w (t : Fin cfg0.N) (q : Fin 4) (d : Fin 1024) (l : Fin 1408) : iblk m c 1 t (ix3 q d l) = aW m c (ix2 d ⟨q.val * 1408 + l.val, by omega⟩) := by
  have e : ((cfg0.win 1).blk t).view.emb (ix3 q d l) = (ix3 q d l : S4x1024x1408.Idx) := by blk_ext [idx t]
  rw [iblk_w, e, V_w]
  exact kW_eq q d l _
theorem tile_v (t : Fin cfg0.N) (q : Fin 2) (l : Fin 1408) (d : Fin 1024) : iblk m c 2 t (ix3 q l d) = aV m c (ix2 ⟨q.val * 1408 + l.val, by omega⟩ d) := by
  have e : ((cfg0.win 2).blk t).view.emb (ix3 q l d) = (ix3 q l d : S2x1408x1024.Idx) := by blk_ext [idx t]
  rw [iblk_v, e, V_v]
  exact kV_eq q l d _
theorem row_eq (l : Fin 1024) (g : FVec Ideal S1024 .f32) : shapeCast S1x1024 g shapeCasts_S1024_S1x1024 (ix2 (0 : Fin 1) l) = g (ix1 l) := by
  pointwise
theorem tile_g (t : Fin cfg0.N) (l : Fin 1024) : iblk m c 3 t (ix2 0 l) = aG m c (ix1 l) := by
  have e : ((cfg0.win 3).blk t).view.emb (ix2 (0 : Fin 1) l) = (ix2 (0 : Fin 1) l : S1x1024.Idx) := by blk_ext [idx t]
  rw [iblk_g, e, V_g]
  exact row_eq l _
theorem tile_b (t : Fin cfg0.N) (l : Fin 1024) : iblk m c 4 t (ix2 0 l) = aB m c (ix1 l) := by
  have e : ((cfg0.win 4).blk t).view.emb (ix2 (0 : Fin 1) l) = (ix2 (0 : Fin 1) l : S1x1024.Idx) := by blk_ext [idx t]
  rw [iblk_b, e, V_b]
  exact row_eq l _

abbrev cutW (t : Fin cfg0.N) (q : ℕ) (inb : ∀ a, (![q, 0, 0] : Fin 3 → ℕ) a + S1x1024x1408.size a ≤ S4x1024x1408.size a) : FVec Ideal S1x1024x1408 .bf16 :=
  View.ld (Val := Elt Ideal) (e' := EltTy.bf16) (iblk m c 1 t) (Rect.unit (s := S4x1024x1408) ![q, 0, 0] S1x1024x1408.size inb)
abbrev cutV (t : Fin cfg0.N) (q : ℕ) (inb : ∀ a, (![q, 0, 0] : Fin 3 → ℕ) a + S1x1408x1024.size a ≤ S2x1408x1024.size a) : FVec Ideal S1x1408x1024 .bf16 :=
  View.ld (Val := Elt Ideal) (e' := EltTy.bf16) (iblk m c 2 t) (Rect.unit (s := S2x1408x1024) ![q, 0, 0] S1x1408x1024.size inb)

theorem cutW_eq (t : Fin cfg0.N) (q : ℕ) (hq : q < 4) (inb) (d : Fin 1024) (l : Fin 1408) :
    cutW m c t q inb (ix3 0 d l) = aW m c (ix2 d ⟨q * 1408 + l.val, by omega⟩) := by
  refine Eq.trans ?_ (tile_w m c t ⟨q, hq⟩ d l)
  exact View.ld_unit_apply_of (S := S4x1024x1408) (Val := Elt Ideal) (e := EltTy.bf16) (iblk m c 1 t) _ _ _ _ _ fun a => match a with
    | ⟨0, _⟩ => rfl
    | ⟨1, _⟩ => (Nat.zero_add _).symm
    | ⟨2, _⟩ => (Nat.zero_add _).symm
theorem cutV_eq (t : Fin cfg0.N) (q : ℕ) (hq : q < 2) (inb) (l : Fin 1408) (d : Fin 1024) :
    cutV m c t q inb (ix3 0 l d) = aV m c (ix2 ⟨q * 1408 + l.val, by omega⟩ d) := by
  refine Eq.trans ?_ (tile_v m c t ⟨q, hq⟩ l d)
  exact View.ld_unit_apply_of (S := S2x1408x1024) (Val := Elt Ideal) (e := EltTy.bf16) (iblk m c 2 t) _ _ _ _ _ fun a => match a with
    | ⟨0, _⟩ => rfl
    | ⟨1, _⟩ => (Nat.zero_add _).symm
    | ⟨2, _⟩ => (Nat.zero_add _).symm

theorem tile_lin (t : Fin cfg0.N) (q : ℕ) (hq : q < 4) (inb) (r : Fin 256) (l : Fin 1408) :
    k0_pay4 (F := Ideal) (iblk m c 0 t) (cutW m c t q inb) (ix2 r l) = lin (aX m c) (aW m c) (row t r) ⟨q * 1408 + l.val, by omega⟩ :=
  pay4 _ (fun r k => aX m c (ix2 (row t r) k)) (tile_x m c t) _ (fun d l => aW m c (ix2 d ⟨q * 1408 + l.val, by omega⟩)) (cutW_eq m c t q hq inb) r l

theorem tile_gt (t : Fin cfg0.N) (j : ℕ) (hj : j < 2) (inb) (r : Fin 256) (l : Fin 1408) :
    k0_pay4 (F := Ideal) (iblk m c 0 t) (cutW m c t j inb) (ix2 r l) = gt (aX m c) (aW m c) (row t r) ⟨j * 1408 + l.val, by omega⟩ :=
  tile_lin m c t j (by omega) inb r l
theorem tile_ut (t : Fin cfg0.N) (j : ℕ) (hj : j < 2) (q : ℕ) (hq : q = 2 + j) (inb) (r : Fin 256) (l : Fin 1408) :
    k0_pay4 (F := Ideal) (iblk m c 0 t) (cutW m c t q inb) (ix2 r l) = ut (aX m c) (aW m c) (row t r) ⟨j * 1408 + l.val, by omega⟩ :=
  (tile_lin m c t q (by omega) inb r l).trans (congrArg (lin (aX m c) (aW m c) (row t r)) (Fin.ext (by show q * 1408 + l.val = 2816 + (j * 1408 + l.val); omega)))

theorem tile_r (t : Fin cfg0.N) (i0 i1 i2 i3 j0 j1) (r : Fin 256) (d : Fin 1024) :
    k0_pay13 (F := Ideal) (iblk m c 0 t) (k0_pay8 (iblk m c 0 t) (cutW m c t 0 i0) (cutW m c t 2 i2) (cutV m c t 0 j0)) (k0_pay9 (iblk m c 0 t) (cutW m c t 1 i1)) (k0_pay10 (iblk m c 0 t) (cutW m c t 3 i3)) (cutV m c t 1 j1) (ix2 r d)
      = inp (aX m c) (aW m c) (aV m c) (row t r) d := by
  unfold inp
  rw [sum_two]
  exact pay13 _ (fun r k => aX m c (ix2 (row t r) k)) (tile_x m c t) _ _ _ _ _ _ _ _ _ _ _ _
    (tile_gt m c t 0 (by omega) i0) (tile_gt m c t 1 (by omega) i1) (tile_ut m c t 0 (by omega) 2 rfl i2) (tile_ut m c t 1 (by omega) 3 rfl i3)
    (cutV_eq m c t 0 (by omega) j0) (cutV_eq m c t 1 (by omega) j1) r d

theorem emb_5 (t : Fin cfg0.N) (y : S256x2816.Idx) : ((cfg0.win 5).blk t).view.emb y = (ix2 (row t (y 0)) (y 1) : S4096x2816.Idx) := by
  rw [eq_ix2 y]; blk_ext [idx t, row]
theorem emb_6 (t : Fin cfg0.N) (y : S256x2816.Idx) : ((cfg0.win 6).blk t).view.emb y = (ix2 (row t (y 0)) (y 1) : S4096x2816.Idx) := by
  rw [eq_ix2 y]; blk_ext [idx t, row]
theorem emb_7 (t : Fin cfg0.N) (y : S256x1024.Idx) : ((cfg0.win 7).blk t).view.emb y = (ix2 (row t (y 0)) (y 1) : S4096x1024.Idx) := by
  rw [eq_ix2 y]; blk_ext [idx t, row]
theorem emb_8 (t : Fin cfg0.N) (y : S256x1024.Idx) : ((cfg0.win 8).blk t).view.emb y = (ix2 (row t (y 0)) (y 1) : S4096x1024.Idx) := by
  rw [eq_ix2 y]; blk_ext [idx t, row]
theorem emb_9 (t : Fin cfg0.N) (y : S256x1024.Idx) : ((cfg0.win 9).blk t).view.emb y = (ix2 (row t (y 0)) (y 1) : S4096x1024.Idx) := by
  rw [eq_ix2 y]; blk_ext [idx t, row]

theorem piece (f : Fin 4096 → Fin 2816 → EReal) (t : Fin cfg0.N) (k : ℕ) (hk : k < 2) (r : Fin 256) (l : Fin 1408) (y : S256x2816.Idx) (e0 : (y 0).val = r.val) (e1 : (y 1).val = k * 1408 + l.val) :
    f (row t r) ⟨k * 1408 + l.val, by omega⟩ = f (row t (y 0)) (y 1) := by
  have e : r = y 0 := Fin.ext e0.symm
  rw [e]
  exact congrArg (f (row t (y 0))) (Fin.ext e1.symm)

theorem final_g : (dats m 0 c).arrAt 5 cfg0.N = outG (aX m c) (aW m c) := by
  refine (dats m 0 c).arrAt_eq_of_covers 5 _ (by decide +kernel) fun t _ y => ?_
  blk_simp
  rw [after0_5, emb_5]
  unfold_out out0_5
  frame_out
  canon_tiles x hx
  · rw [eq_ix2 x]
    exact (pay11 _ _ _ _).trans ((tile_gt m c t 1 (by omega) _ (x 0) (x 1)).trans (piece (gt (aX m c) (aW m c)) t 1 (by omega) (x 0) (x 1) y (by omega) (by omega)))
  · rw [eq_ix2 x]
    exact (pay6 _ _ _ _).trans ((tile_gt m c t 0 (by omega) _ (x 0) (x 1)).trans (piece (gt (aX m c) (aW m c)) t 0 (by omega) (x 0) (x 1) y (by omega) (by omega)))

theorem final_u : (dats m 0 c).arrAt 6 cfg0.N = outU (aX m c) (aW m c) := by
  refine (dats m 0 c).arrAt_eq_of_covers 6 _ (by decide +kernel) fun t _ y => ?_
  blk_simp
  rw [after0_6, emb_6]
  unfold_out out0_6
  frame_out
  canon_tiles x hx
  · rw [eq_ix2 x]
    exact (pay12 _ _ _).trans ((congrFun (same10 _ _) _).trans ((tile_ut m c t 1 (by omega) 3 rfl _ (x 0) (x 1)).trans (piece (ut (aX m c) (aW m c)) t 1 (by omega) (x 0) (x 1) y (by omega) (by omega))))
  · rw [eq_ix2 x]
    exact (pay7 _ _ _ _).trans ((tile_ut m c t 0 (by omega) 2 rfl _ (x 0) (x 1)).trans (piece (ut (aX m c) (aW m c)) t 0 (by omega) (x 0) (x 1) y (by omega) (by omega)))

theorem final_r : (dats m 0 c).arrAt 7 cfg0.N = outR (aX m c) (aW m c) (aV m c) := by
  refine (dats m 0 c).arrAt_eq_of_covers 7 _ (by decide +kernel) fun t _ y => ?_
  blk_simp
  rw [after0_7, emb_7]
  have e : y = ix2 (y 0) (y 1) := eq_ix2 y
  unfold_out out0_7
  frame_out
  rw [e]
  exact tile_r m c t _ _ _ _ _ _ _ _

theorem final_y : (dats m 0 c).arrAt 8 cfg0.N = outY (aX m c) (aW m c) (aV m c) (aG m c) (aB m c) := by
  refine (dats m 0 c).arrAt_eq_of_covers 8 _ (by decide +kernel) fun t _ y => ?_
  blk_simp
  rw [after0_8, emb_8]
  have e : y = ix2 (y 0) (y 1) := eq_ix2 y
  unfold_out out0_8
  frame_out
  rw [e]
  exact pay1 _ _ _ _ _ _ _ (fun r d => inp (aX m c) (aW m c) (aV m c) (row t r) d) (fun d => aG m c (ix1 d)) (fun d => aB m c (ix1 d)) (tile_r m c t _ _ _ _ _ _) (tile_g m c t) (tile_b m c t) _ _

theorem final_yb : (dats m 0 c).arrAt 9 cfg0.N = outY (aX m c) (aW m c) (aV m c) (aG m c) (aB m c) := by
  refine (dats m 0 c).arrAt_eq_of_covers 9 _ (by decide +kernel) fun t _ y => ?_
  blk_simp
  rw [after0_9, emb_9]
  have e : y = ix2 (y 0) (y 1) := eq_ix2 y
  unfold_out out0_9
  frame_out
  rw [e]
  exact pay2 _ _ _ _ _ _ _ (fun r d => inp (aX m c) (aW m c) (aV m c) (row t r) d) (fun d => aG m c (ix1 d)) (fun d => aB m c (ix1 d)) (tile_r m c t _ _ _ _ _ _) (tile_g m c t) (tile_b m c t) _ _

end arrays

end Cert.FfnFwdKernelIdeal.Hand
-- ==== Proof.AOut.lean ====
/-
  The product that ends the dilated mixer, with the norm behind it: what the kernel leaves, and what the reference computes.
-/
module

public import proofs.«01_k».proof.Proof.Gen.AOutKernelIdeal.Value
public import proofs.«01_k».proof.Proof.Gen.AOutReferenceIdeal.Run
public import proofs.«01_k».proof.Proof.Gen.AOutReferenceIdeal.Read
public import Idealize.ShloMosaic.Lib.Pipeline.ValueKit
public import Idealize.ShloMosaic.Lib.Pointwise
public import proofs.«01_k».proof.Proof.Reals
public import proofs.«01_k».proof.Proof.FfnFwd

@[expose] public section

set_option maxRecDepth 16384

noncomputable section

open Idealize.ShloMosaic Idealize.ShloMosaic.TcCoe Idealize.SL.Sem
open Idealize.ShloMosaic.Pipeline (Dat)

namespace Cert.AOutReferenceIdeal.Hand

open Cert.AOutReferenceIdeal Cert.AOutReferenceIdeal.Read
open Cert.FfnFwdReferenceIdeal.Hand (cen rstd)

section spec
variable (a : S4096x512.Idx → EReal) (w : S512x1024.Idx → EReal) (x : S4096x1024.Idx → EReal) (g b : S1024.Idx → EReal)

/-- What goes into the norm. -/
def inp (s : Fin 4096) (d : Fin 1024) : EReal := Ideal.ofBits .f32 0x3FB504F3#32 * x (ix2 s d) + ∑ k, a (ix2 s k) * w (ix2 k d)
def nrm (s : Fin 4096) (d : Fin 1024) : EReal := cen (inp a w x s) d * rstd (inp a w x s) * g (ix1 d) + b (ix1 d)

def outR : S4096x1024.Idx → EReal := fun i => inp a w x (i 0) (i 1)
def outY : S4096x1024.Idx → EReal := fun i => nrm a w x g b (i 0) (i 1)
end spec

section reference
variable (a : FVec Ideal S4096x512 .f32) (w : FVec Ideal S512x1024 .f32) (x : FVec Ideal S4096x1024 .f32) (g b : FVec Ideal S1024 .f32)

theorem v3 (s d) : val_main_v3 (F := Ideal) a w x (ix2 s d) = inp a w x s d := by
  pointwise [val_main_v3, val_main_v2, val_main_v1, val_main_v0, val_main_cst]
  rfl
theorem v9 (s d) : val_main_v9 (F := Ideal) a w x (ix2 s d) = cen (inp a w x s) d := by
  pointwise [val_main_v9, val_main_v8, val_main_v7, val_main_v6, val_main_cst_1, val_main_v5, val_main_v4, val_main_cst_0]
  simp only [v3]
  rfl
theorem v16 (s d) : val_main_v16 (F := Ideal) a w x (ix2 s d) = cen (inp a w x s) d := v9 a w x s d
theorem v19 (s) : val_main_v19 (F := Ideal) a w x (ix2 s 0) = rstd (inp a w x s) := by
  pointwise [val_main_v19, val_main_v18, val_main_v17, val_main_cst_4, val_main_v14, val_main_v13, val_main_cst_3, val_main_v12, val_main_v11, val_main_cst_2, val_main_v10]
  simp only [v9]
  rfl
theorem v27 (s d) : val_main_v27 (F := Ideal) a w x g b (ix2 s d) = nrm a w x g b s d := by
  pointwise [val_main_v27, val_main_v26, val_main_v25, val_main_v24, val_main_v23, val_main_v22, val_main_v21, val_main_v20]
  simp only [v16, v19]
  rfl
theorem v28 (s d) : val_main_v28 (F := Ideal) a w x g b (ix2 s d) = nrm a w x g b s d := by
  pointwise [val_main_v28]
  exact v27 a w x g b s d

theorem ref_r : val_main_v3 (F := Ideal) a w x = outR a w x :=
  funext fun i => (congrArg (val_main_v3 (F := Ideal) a w x) (eq_ix2 i)).trans (v3 a w x (i 0) (i 1))
theorem ref_y : val_main_v27 (F := Ideal) a w x g b = outY a w x g b :=
  funext fun i => (congrArg (val_main_v27 (F := Ideal) a w x g b) (eq_ix2 i)).trans (v27 a w x g b (i 0) (i 1))
theorem ref_yb : val_main_v28 (F := Ideal) a w x g b = outY a w x g b :=
  funext fun i => (congrArg (val_main_v28 (F := Ideal) a w x g b) (eq_ix2 i)).trans (v28 a w x g b (i 0) (i 1))
end reference

end Cert.AOutReferenceIdeal.Hand

namespace Cert.AOutKernelIdeal.Hand

open Cert.AOutKernelIdeal Cert.AOutKernelIdeal.Gen
open Cert.FfnFwdReferenceIdeal.Hand (cen rstd)
open Cert.AOutReferenceIdeal.Hand (inp nrm outR outY)

section rows
variable (a : FVec Ideal S512x512 .f32) (w : FVec Ideal S512x1024 .bf16) (x : FVec Ideal S512x1024 .f32) (g b : FVec Ideal S1x1024 .f32)
  (A : Fin 512 → Fin 512 → EReal) (W : Fin 512 → Fin 1024 → EReal) (X : Fin 512 → Fin 1024 → EReal) (G B : Fin 1024 → EReal)
  (ha : ∀ r k, a (ix2 r k) = A r k) (hw : ∀ k d, w (ix2 k d) = W k d) (hx : ∀ r d, x (ix2 r d) = X r d)
  (hg : ∀ d, g (ix2 0 d) = G d) (hb : ∀ d, b (ix2 0 d) = B d)

include ha hw hx in
theorem pay1 (r d) : k0_pay1 (F := Ideal) a w x (ix2 r d) = Ideal.ofBits .f32 0x3FB504F3#32 * X r d + ∑ k, A r k * W k d := by
  pointwise [k0_pay1]
  simp only [ha, hw, hx]
  exact add_comm _ _

variable (R : Fin 512 → Fin 1024 → EReal) (hr : ∀ r d, k0_pay1 (F := Ideal) a w x (ix2 r d) = R r d)

include hr hg hb in
theorem pay2 (r d) : k0_pay2 (F := Ideal) a w x g b (ix2 r d) = cen (R r) d * rstd (R r) * G d + B d := by
  pointwise [k0_pay2]
  simp only [hr, hg, hb]
  rfl

include hr hg hb in
theorem pay3 (r d) : k0_pay3 (F := Ideal) a w x g b (ix2 r d) = cen (R r) d * rstd (R r) * G d + B d := by
  pointwise [k0_pay3]
  exact pay2 a w x g b G B hg hb R hr r d
end rows

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem lt_row (t : Fin cfg0.N) (r : Fin 512) : t.val * 512 + r.val < 4096 := by
  have h := lt_of_lt_of_eq t.isLt N_0; omega

/-- Row `r` of tile `t`. -/
abbrev row (t : Fin cfg0.N) (r : Fin 512) : Fin 4096 := ⟨t.val * 512 + r.val, lt_row t r⟩

section arrays
variable (m : (ℓ : Loc nD τ sig) → Buf (Elt Ideal) ℓ) (c : Dev nD)

abbrev aA : S4096x512.Idx → EReal := m ((c : Thread nD τ).loc main_arg0)
abbrev aW : S512x1024.Idx → EReal := m ((c : Thread nD τ).loc main_arg1)
abbrev aX : S4096x1024.Idx → EReal := m ((c : Thread nD τ).loc main_arg2)
abbrev aG : S1024.Idx → EReal := m ((c : Thread nD τ).loc main_arg3)
abbrev aB : S1024.Idx → EReal := m ((c : Thread nD τ).loc main_arg4)

theorem V_w : V m c main_v0 = truncf (F := Ideal) .bf16 (m (c, Proc.tc.devRef main_arg1)) bitsLt_bf16_f32 := by
  unfold V
  simp only [hostOps0, List.flatten_cons, List.flatten_nil, List.cons_append, List.nil_append, List.append_nil]
  entry_read
  rfl
theorem V_g : V m c main_v1 = shapeCast S1x1024 (m (c, Proc.tc.devRef main_arg3)) shapeCasts_S1024_S1x1024 := by
  unfold V
  simp only [hostOps0, List.flatten_cons, List.flatten_nil, List.cons_append, List.nil_append, List.append_nil]
  entry_read
  rfl
theorem V_b : V m c main_v2 = shapeCast S1x1024 (m (c, Proc.tc.devRef main_arg4)) shapeCasts_S1024_S1x1024 := by
  unfold V
  simp only [hostOps0, List.flatten_cons, List.flatten_nil, List.cons_append, List.nil_append, List.append_nil]
  entry_read
  rfl

theorem iblk_w (t : Fin cfg0.N) (y : S512x1024.Idx) : iblk m c 1 t y = V m c main_v0 (((cfg0.win 1).blk t).view.emb y) := rfl
theorem iblk_g (t : Fin cfg0.N) (y : S1x1024.Idx) : iblk m c 3 t y = V m c main_v1 (((cfg0.win 3).blk t).view.emb y) := rfl
theorem iblk_b (t : Fin cfg0.N) (y : S1x1024.Idx) : iblk m c 4 t y = V m c main_v2 (((cfg0.win 4).blk t).view.emb y) := rfl

theorem kW_eq (k : Fin 512) (d : Fin 1024) (w : FVec Ideal S512x1024 .f32) : truncf .bf16 w bitsLt_bf16_f32 (ix2 k d) = w (ix2 k d) := by
  pointwise
theorem row_eq (l : Fin 1024) (g : FVec Ideal S1024 .f32) : shapeCast S1x1024 g shapeCasts_S1024_S1x1024 (ix2 (0 : Fin 1) l) = g (ix1 l) := by
  pointwise

theorem tile_a (t : Fin cfg0.N) (r : Fin 512) (k : Fin 512) : iblk m c 0 t (ix2 r k) = aA m c (ix2 (row t r) k) := by
  blk_point [iblk, V, idx t, row]
theorem tile_w (t : Fin cfg0.N) (k : Fin 512) (d : Fin 1024) : iblk m c 1 t (ix2 k d) = aW m c (ix2 k d) := by
  have e : ((cfg0.win 1).blk t).view.emb (ix2 k d) = (ix2 k d : S512x1024.Idx) := by blk_ext [idx t]
  rw [iblk_w, e, V_w]
  exact kW_eq k d _
theorem tile_x (t : Fin cfg0.N) (r : Fin 512) (d : Fin 1024) : iblk m c 2 t (ix2 r d) = aX m c (ix2 (row t r) d) := by
  blk_point [iblk, V, idx t, row]
theorem tile_g (t : Fin cfg0.N) (l : Fin 1024) : iblk m c 3 t (ix2 0 l) = aG m c (ix1 l) := by
  have e : ((cfg0.win 3).blk t).view.emb (ix2 (0 : Fin 1) l) = (ix2 (0 : Fin 1) l : S1x1024.Idx) := by blk_ext [idx t]
  rw [iblk_g, e, V_g]
  exact row_eq l _
theorem tile_b (t : Fin cfg0.N) (l : Fin 1024) : iblk m c 4 t (ix2 0 l) = aB m c (ix1 l) := by
  have e : ((cfg0.win 4).blk t).view.emb (ix2 (0 : Fin 1) l) = (ix2 (0 : Fin 1) l : S1x1024.Idx) := by blk_ext [idx t]
  rw [iblk_b, e, V_b]
  exact row_eq l _

theorem tile_r (t : Fin cfg0.N) (r : Fin 512) (d : Fin 1024) :
    k0_pay1 (F := Ideal) (iblk m c 0 t) (iblk m c 1 t) (iblk m c 2 t) (ix2 r d) = inp (aA m c) (aW m c) (aX m c) (row t r) d :=
  pay1 _ _ _ (fun r k => aA m c (ix2 (row t r) k)) (fun k d => aW m c (ix2 k d)) (fun r d => aX m c (ix2 (row t r) d)) (tile_a m c t) (tile_w m c t) (tile_x m c t) r d

theorem emb_5 (t : Fin cfg0.N) (y : S512x1024.Idx) : ((cfg0.win 5).blk t).view.emb y = (ix2 (row t (y 0)) (y 1) : S4096x1024.Idx) := by
  rw [eq_ix2 y]; blk_ext [idx t, row]
theorem emb_6 (t : Fin cfg0.N) (y : S512x1024.Idx) : ((cfg0.win 6).blk t).view.emb y = (ix2 (row t (y 0)) (y 1) : S4096x1024.Idx) := by
  rw [eq_ix2 y]; blk_ext [idx t, row]
theorem emb_7 (t : Fin cfg0.N) (y : S512x1024.Idx) : ((cfg0.win 7).blk t).view.emb y = (ix2 (row t (y 0)) (y 1) : S4096x1024.Idx) := by
  rw [eq_ix2 y]; blk_ext [idx t, row]

theorem final_r : (dats m 0 c).arrAt 5 cfg0.N = outR (aA m c) (aW m c) (aX m c) := by
  refine (dats m 0 c).arrAt_eq_of_covers 5 _ (by decide +kernel) fun t _ y => ?_
  blk_simp
  rw [after0_5, emb_5]
  have e : y = ix2 (y 0) (y 1) := eq_ix2 y
  unfold outsAt0
  frame_out
  rw [e]
  exact tile_r m c t _ _

theorem final_y : (dats m 0 c).arrAt 6 cfg0.N = outY (aA m c) (aW m c) (aX m c) (aG m c) (aB m c) := by
  refine (dats m 0 c).arrAt_eq_of_covers 6 _ (by decide +kernel) fun t _ y => ?_
  blk_simp
  rw [after0_6, emb_6]
  have e : y = ix2 (y 0) (y 1) := eq_ix2 y
  unfold outsAt0
  frame_out
  rw [e]
  exact pay2 _ _ _ _ _ (fun d => aG m c (ix1 d)) (fun d => aB m c (ix1 d)) (tile_g m c t) (tile_b m c t) (fun r d => inp (aA m c) (aW m c) (aX m c) (row t r) d) (tile_r m c t) _ _

theorem final_yb : (dats m 0 c).arrAt 7 cfg0.N = outY (aA m c) (aW m c) (aX m c) (aG m c) (aB m c) := by
  refine (dats m 0 c).arrAt_eq_of_covers 7 _ (by decide +kernel) fun t _ y => ?_
  blk_simp
  rw [after0_7, emb_7]
  have e : y = ix2 (y 0) (y 1) := eq_ix2 y
  unfold outsAt0
  frame_out
  rw [e]
  exact pay3 _ _ _ _ _ (fun d => aG m c (ix1 d)) (fun d => aB m c (ix1 d)) (tile_g m c t) (tile_b m c t) (fun r d => inp (aA m c) (aW m c) (aX m c) (row t r) d) (tile_r m c t) _ _

end arrays

end Cert.AOutKernelIdeal.Hand
-- ==== Proof.BOut.lean ====
/-
  The product that ends the forgetting mixer, with the norm behind it: what the kernel leaves, and what the reference computes.
-/
module

public import proofs.«01_k».proof.Proof.Gen.BOutKernelIdeal.Value
public import proofs.«01_k».proof.Proof.Gen.BOutReferenceIdeal.Run
public import proofs.«01_k».proof.Proof.Gen.BOutReferenceIdeal.Read
public import Idealize.ShloMosaic.Lib.Pipeline.ValueKit
public import Idealize.ShloMosaic.Lib.Pointwise
public import proofs.«01_k».proof.Proof.Reals
public import proofs.«01_k».proof.Proof.FfnFwd

@[expose] public section

set_option maxRecDepth 16384

noncomputable section

open Idealize.ShloMosaic Idealize.ShloMosaic.TcCoe Idealize.SL.Sem
open Idealize.ShloMosaic.Pipeline (Dat)

namespace Cert.BOutReferenceIdeal.Hand

open Cert.BOutReferenceIdeal Cert.BOutReferenceIdeal.Read
open Cert.FfnFwdReferenceIdeal.Hand (cen rstd)

section spec
variable (a : S4096x1024.Idx → EReal) (w : S1024x1024.Idx → EReal) (x : S4096x1024.Idx → EReal) (g b : S1024.Idx → EReal)

/-- What goes into the norm. -/
def inp (s : Fin 4096) (d : Fin 1024) : EReal := Ideal.ofBits .f32 0x3FB504F3#32 * x (ix2 s d) + ∑ k, a (ix2 s k) * w (ix2 k d)
def nrm (s : Fin 4096) (d : Fin 1024) : EReal := cen (inp a w x s) d * rstd (inp a w x s) * g (ix1 d) + b (ix1 d)

def outR : S4096x1024.Idx → EReal := fun i => inp a w x (i 0) (i 1)
def outY : S4096x1024.Idx → EReal := fun i => nrm a w x g b (i 0) (i 1)
end spec

section reference
variable (a : FVec Ideal S4096x1024 .f32) (w : FVec Ideal S1024x1024 .f32) (x : FVec Ideal S4096x1024 .f32) (g b : FVec Ideal S1024 .f32)

theorem v3 (s d) : val_main_v3 (F := Ideal) a w x (ix2 s d) = inp a w x s d := by
  pointwise [val_main_v3, val_main_v2, val_main_v1, val_main_v0, val_main_cst]
  rfl
theorem v9 (s d) : val_main_v9 (F := Ideal) a w x (ix2 s d) = cen (inp a w x s) d := by
  pointwise [val_main_v9, val_main_v8, val_main_v7, val_main_v6, val_main_cst_1, val_main_v5, val_main_v4, val_main_cst_0]
  simp only [v3]
  rfl
theorem v16 (s d) : val_main_v16 (F := Ideal) a w x (ix2 s d) = cen (inp a w x s) d := v9 a w x s d
theorem v19 (s) : val_main_v19 (F := Ideal) a w x (ix2 s 0) = rstd (inp a w x s) := by
  pointwise [val_main_v19, val_main_v18, val_main_v17, val_main_cst_4, val_main_v14, val_main_v13, val_main_cst_3, val_main_v12, val_main_v11, val_main_cst_2, val_main_v10]
  simp only [v9]
  rfl
theorem v27 (s d) : val_main_v27 (F := Ideal) a w x g b (ix2 s d) = nrm a w x g b s d := by
  pointwise [val_main_v27, val_main_v26, val_main_v25, val_main_v24, val_main_v23, val_main_v22, val_main_v21, val_main_v20]
  simp only [v16, v19]
  rfl
theorem v28 (s d) : val_main_v28 (F := Ideal) a w x g b (ix2 s d) = nrm a w x g b s d := by
  pointwise [val_main_v28]
  exact v27 a w x g b s d

theorem ref_r : val_main_v3 (F := Ideal) a w x = outR a w x :=
  funext fun i => (congrArg (val_main_v3 (F := Ideal) a w x) (eq_ix2 i)).trans (v3 a w x (i 0) (i 1))
theorem ref_y : val_main_v27 (F := Ideal) a w x g b = outY a w x g b :=
  funext fun i => (congrArg (val_main_v27 (F := Ideal) a w x g b) (eq_ix2 i)).trans (v27 a w x g b (i 0) (i 1))
theorem ref_yb : val_main_v28 (F := Ideal) a w x g b = outY a w x g b :=
  funext fun i => (congrArg (val_main_v28 (F := Ideal) a w x g b) (eq_ix2 i)).trans (v28 a w x g b (i 0) (i 1))
end reference

end Cert.BOutReferenceIdeal.Hand

namespace Cert.BOutKernelIdeal.Hand

open Cert.BOutKernelIdeal Cert.BOutKernelIdeal.Gen
open Cert.FfnFwdReferenceIdeal.Hand (cen rstd)
open Cert.BOutReferenceIdeal.Hand (inp nrm outR outY)

section rows
variable (a : FVec Ideal S512x1024 .f32) (w : FVec Ideal S1024x1024 .bf16) (x : FVec Ideal S512x1024 .f32) (g b : FVec Ideal S1x1024 .f32)
  (A : Fin 512 → Fin 1024 → EReal) (W : Fin 1024 → Fin 1024 → EReal) (X : Fin 512 → Fin 1024 → EReal) (G B : Fin 1024 → EReal)
  (ha : ∀ r k, a (ix2 r k) = A r k) (hw : ∀ k d, w (ix2 k d) = W k d) (hx : ∀ r d, x (ix2 r d) = X r d)
  (hg : ∀ d, g (ix2 0 d) = G d) (hb : ∀ d, b (ix2 0 d) = B d)

include ha hw hx in
theorem pay1 (r d) : k0_pay1 (F := Ideal) a w x (ix2 r d) = Ideal.ofBits .f32 0x3FB504F3#32 * X r d + ∑ k, A r k * W k d := by
  pointwise [k0_pay1]
  simp only [ha, hw, hx]
  exact add_comm _ _

variable (R : Fin 512 → Fin 1024 → EReal) (hr : ∀ r d, k0_pay1 (F := Ideal) a w x (ix2 r d) = R r d)

include hr hg hb in
theorem pay2 (r d) : k0_pay2 (F := Ideal) a w x g b (ix2 r d) = cen (R r) d * rstd (R r) * G d + B d := by
  pointwise [k0_pay2]
  simp only [hr, hg, hb]
  rfl

include hr hg hb in
theorem pay3 (r d) : k0_pay3 (F := Ideal) a w x g b (ix2 r d) = cen (R r) d * rstd (R r) * G d + B d := by
  pointwise [k0_pay3]
  exact pay2 a w x g b G B hg hb R hr r d
end rows

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem lt_row (t : Fin cfg0.N) (r : Fin 512) : t.val * 512 + r.val < 4096 := by
  have h := lt_of_lt_of_eq t.isLt N_0; omega

/-- Row `r` of tile `t`. -/
abbrev row (t : Fin cfg0.N) (r : Fin 512) : Fin 4096 := ⟨t.val * 512 + r.val, lt_row t r⟩

section arrays
variable (m : (ℓ : Loc nD τ sig) → Buf (Elt Ideal) ℓ) (c : Dev nD)

abbrev aA : S4096x1024.Idx → EReal := m ((c : Thread nD τ).loc main_arg0)
abbrev aW : S1024x1024.Idx → EReal := m ((c : Thread nD τ).loc main_arg1)
abbrev aX : S4096x1024.Idx → EReal := m ((c : Thread nD τ).loc main_arg2)
abbrev aG : S1024.Idx → EReal := m ((c : Thread nD τ).loc main_arg3)
abbrev aB : S1024.Idx → EReal := m ((c : Thread nD τ).loc main_arg4)

theorem V_w : V m c main_v0 = truncf (F := Ideal) .bf16 (m (c, Proc.tc.devRef main_arg1)) bitsLt_bf16_f32 := by
  unfold V
  simp only [hostOps0, List.flatten_cons, List.flatten_nil, List.cons_append, List.nil_append, List.append_nil]
  entry_read
  rfl
theorem V_g : V m c main_v1 = shapeCast S1x1024 (m (c, Proc.tc.devRef main_arg3)) shapeCasts_S1024_S1x1024 := by
  unfold V
  simp only [hostOps0, List.flatten_cons, List.flatten_nil, List.cons_append, List.nil_append, List.append_nil]
  entry_read
  rfl
theorem V_b : V m c main_v2 = shapeCast S1x1024 (m (c, Proc.tc.devRef main_arg4)) shapeCasts_S1024_S1x1024 := by
  unfold V
  simp only [hostOps0, List.flatten_cons, List.flatten_nil, List.cons_append, List.nil_append, List.append_nil]
  entry_read
  rfl

theorem iblk_w (t : Fin cfg0.N) (y : S1024x1024.Idx) : iblk m c 1 t y = V m c main_v0 (((cfg0.win 1).blk t).view.emb y) := rfl
theorem iblk_g (t : Fin cfg0.N) (y : S1x1024.Idx) : iblk m c 3 t y = V m c main_v1 (((cfg0.win 3).blk t).view.emb y) := rfl
theorem iblk_b (t : Fin cfg0.N) (y : S1x1024.Idx) : iblk m c 4 t y = V m c main_v2 (((cfg0.win 4).blk t).view.emb y) := rfl

theorem kW_eq (k : Fin 1024) (d : Fin 1024) (w : FVec Ideal S1024x1024 .f32) : truncf .bf16 w bitsLt_bf16_f32 (ix2 k d) = w (ix2 k d) := by
  pointwise
theorem row_eq (l : Fin 1024) (g : FVec Ideal S1024 .f32) : shapeCast S1x1024 g shapeCasts_S1024_S1x1024 (ix2 (0 : Fin 1) l) = g (ix1 l) := by
  pointwise

theorem tile_a (t : Fin cfg0.N) (r : Fin 512) (k : Fin 1024) : iblk m c 0 t (ix2 r k) = aA m c (ix2 (row t r) k) := by
  blk_point [iblk, V, idx t, row]
theorem tile_w (t : Fin cfg0.N) (k : Fin 1024) (d : Fin 1024) : iblk m c 1 t (ix2 k d) = aW m c (ix2 k d) := by
  have e : ((cfg0.win 1).blk t).view.emb (ix2 k d) = (ix2 k d : S1024x1024.Idx) := by blk_ext [idx t]
  rw [iblk_w, e, V_w]
  exact kW_eq k d _
theorem tile_x (t : Fin cfg0.N) (r : Fin 512) (d : Fin 1024) : iblk m c 2 t (ix2 r d) = aX m c (ix2 (row t r) d) := by
  blk_point [iblk, V, idx t, row]
theorem tile_g (t : Fin cfg0.N) (l : Fin 1024) : iblk m c 3 t (ix2 0 l) = aG m c (ix1 l) := by
  have e : ((cfg0.win 3).blk t).view.emb (ix2 (0 : Fin 1) l) = (ix2 (0 : Fin 1) l : S1x1024.Idx) := by blk_ext [idx t]
  rw [iblk_g, e, V_g]
  exact row_eq l _
theorem tile_b (t : Fin cfg0.N) (l : Fin 1024) : iblk m c 4 t (ix2 0 l) = aB m c (ix1 l) := by
  have e : ((cfg0.win 4).blk t).view.emb (ix2 (0 : Fin 1) l) = (ix2 (0 : Fin 1) l : S1x1024.Idx) := by blk_ext [idx t]
  rw [iblk_b, e, V_b]
  exact row_eq l _

theorem tile_r (t : Fin cfg0.N) (r : Fin 512) (d : Fin 1024) :
    k0_pay1 (F := Ideal) (iblk m c 0 t) (iblk m c 1 t) (iblk m c 2 t) (ix2 r d) = inp (aA m c) (aW m c) (aX m c) (row t r) d :=
  pay1 _ _ _ (fun r k => aA m c (ix2 (row t r) k)) (fun k d => aW m c (ix2 k d)) (fun r d => aX m c (ix2 (row t r) d)) (tile_a m c t) (tile_w m c t) (tile_x m c t) r d

theorem emb_5 (t : Fin cfg0.N) (y : S512x1024.Idx) : ((cfg0.win 5).blk t).view.emb y = (ix2 (row t (y 0)) (y 1) : S4096x1024.Idx) := by
  rw [eq_ix2 y]; blk_ext [idx t, row]
theorem emb_6 (t : Fin cfg0.N) (y : S512x1024.Idx) : ((cfg0.win 6).blk t).view.emb y = (ix2 (row t (y 0)) (y 1) : S4096x1024.Idx) := by
  rw [eq_ix2 y]; blk_ext [idx t, row]
theorem emb_7 (t : Fin cfg0.N) (y : S512x1024.Idx) : ((cfg0.win 7).blk t).view.emb y = (ix2 (row t (y 0)) (y 1) : S4096x1024.Idx) := by
  rw [eq_ix2 y]; blk_ext [idx t, row]

theorem final_r : (dats m 0 c).arrAt 5 cfg0.N = outR (aA m c) (aW m c) (aX m c) := by
  refine (dats m 0 c).arrAt_eq_of_covers 5 _ (by decide +kernel) fun t _ y => ?_
  blk_simp
  rw [after0_5, emb_5]
  have e : y = ix2 (y 0) (y 1) := eq_ix2 y
  unfold outsAt0
  frame_out
  rw [e]
  exact tile_r m c t _ _

theorem final_y : (dats m 0 c).arrAt 6 cfg0.N = outY (aA m c) (aW m c) (aX m c) (aG m c) (aB m c) := by
  refine (dats m 0 c).arrAt_eq_of_covers 6 _ (by decide +kernel) fun t _ y => ?_
  blk_simp
  rw [after0_6, emb_6]
  have e : y = ix2 (y 0) (y 1) := eq_ix2 y
  unfold outsAt0
  frame_out
  rw [e]
  exact pay2 _ _ _ _ _ (fun d => aG m c (ix1 d)) (fun d => aB m c (ix1 d)) (tile_g m c t) (tile_b m c t) (fun r d => inp (aA m c) (aW m c) (aX m c) (row t r) d) (tile_r m c t) _ _

theorem final_yb : (dats m 0 c).arrAt 7 cfg0.N = outY (aA m c) (aW m c) (aX m c) (aG m c) (aB m c) := by
  refine (dats m 0 c).arrAt_eq_of_covers 7 _ (by decide +kernel) fun t _ y => ?_
  blk_simp
  rw [after0_7, emb_7]
  have e : y = ix2 (y 0) (y 1) := eq_ix2 y
  unfold outsAt0
  frame_out
  rw [e]
  exact pay3 _ _ _ _ _ (fun d => aG m c (ix1 d)) (fun d => aB m c (ix1 d)) (tile_g m c t) (tile_b m c t) (fun r d => inp (aA m c) (aW m c) (aX m c) (row t r) d) (tile_r m c t) _ _

end arrays

end Cert.BOutKernelIdeal.Hand
-- ==== Proof.lean ====
/-
  The claims: for each call the frames of the kernel, of its idealization and of the reference, the rewrites the idealization made,
  and, where it is claimed, that both programs end with the same results.  The work is in the modules imported from `Proof/`.
-/
module

public import proofs.«01_k».proof.Defs
public import proofs.«01_k».proof.Proof.Fox
public import proofs.«01_k».proof.Proof.Gen.FoxKernel.Frame
public import proofs.«01_k».proof.Proof.Gen.FoxKernelIdeal.Frame
public import proofs.«01_k».proof.Proof.Gen.FoxReferenceIdeal.Run
public import proofs.«01_k».proof.Proof.Gate
public import proofs.«01_k».proof.Proof.Gen.GateKernel.Frame
public import proofs.«01_k».proof.Proof.Gen.GateKernelIdeal.Frame
public import proofs.«01_k».proof.Proof.Gen.GateReferenceIdeal.Run
public import proofs.«01_k».proof.Proof.Band0Dq
public import proofs.«01_k».proof.Proof.Gen.Band0DqKernel.Frame
public import proofs.«01_k».proof.Proof.Gen.Band0DqKernelIdeal.Frame
public import proofs.«01_k».proof.Proof.Gen.Band0DqReferenceIdeal.Run
public import proofs.«01_k».proof.Proof.Band0Dkv
public import proofs.«01_k».proof.Proof.Gen.Band0DkvKernel.Frame
public import proofs.«01_k».proof.Proof.Gen.Band0DkvKernelIdeal.Frame
public import proofs.«01_k».proof.Proof.Gen.Band0DkvReferenceIdeal.Run
public import proofs.«01_k».proof.Proof.Band1Dq
public import proofs.«01_k».proof.Proof.Gen.Band1DqKernel.Frame
public import proofs.«01_k».proof.Proof.Gen.Band1DqKernelIdeal.Frame
public import proofs.«01_k».proof.Proof.Gen.Band1DqReferenceIdeal.Run
public import proofs.«01_k».proof.Proof.Band1Dkv
public import proofs.«01_k».proof.Proof.Gen.Band1DkvKernel.Frame
public import proofs.«01_k».proof.Proof.Gen.Band1DkvKernelIdeal.Frame
public import proofs.«01_k».proof.Proof.Gen.Band1DkvReferenceIdeal.Run
public import proofs.«01_k».proof.Proof.Band2Dq
public import proofs.«01_k».proof.Proof.Gen.Band2DqKernel.Frame
public import proofs.«01_k».proof.Proof.Gen.Band2DqKernelIdeal.Frame
public import proofs.«01_k».proof.Proof.Gen.Band2DqReferenceIdeal.Run
public import proofs.«01_k».proof.Proof.Band2Dkv
public import proofs.«01_k».proof.Proof.Gen.Band2DkvKernel.Frame
public import proofs.«01_k».proof.Proof.Gen.Band2DkvKernelIdeal.Frame
public import proofs.«01_k».proof.Proof.Gen.Band2DkvReferenceIdeal.Run
public import proofs.«01_k».proof.Proof.Mem
public import proofs.«01_k».proof.Proof.Gen.MemKernel.Frame
public import proofs.«01_k».proof.Proof.Gen.MemKernelIdeal.Frame
public import proofs.«01_k».proof.Proof.Gen.MemReferenceIdeal.Run
public import proofs.«01_k».proof.Proof.Ffn
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Ln
public import proofs.«01_k».proof.Proof.Gen.LnKernel.Frame
public import proofs.«01_k».proof.Proof.Gen.LnKernelIdeal.Frame
public import proofs.«01_k».proof.Proof.Gen.LnReferenceIdeal.Run
public import proofs.«01_k».proof.Proof.Rope
public import proofs.«01_k».proof.Proof.Gen.RopeKernel.Frame
public import proofs.«01_k».proof.Proof.Gen.RopeKernelIdeal.Frame
public import proofs.«01_k».proof.Proof.Gen.RopeReferenceIdeal.Run
public import proofs.«01_k».proof.Proof.Loss
public import proofs.«01_k».proof.Proof.Gen.LossKernel.Frame
public import proofs.«01_k».proof.Proof.Gen.LossKernelIdeal.Frame
public import proofs.«01_k».proof.Proof.Gen.LossReferenceIdeal.Run
public import proofs.«01_k».proof.Proof.MemFwd
public import proofs.«01_k».proof.Proof.Gen.MemFwdKernel.Frame
public import proofs.«01_k».proof.Proof.Gen.MemFwdKernelIdeal.Frame
public import proofs.«01_k».proof.Proof.Gen.MemFwdReferenceIdeal.Run
public import proofs.«01_k».proof.Proof.Combine
public import proofs.«01_k».proof.Proof.Gen.CombineKernel.Frame
public import proofs.«01_k».proof.Proof.Gen.CombineKernelIdeal.Frame
public import proofs.«01_k».proof.Proof.Gen.CombineReferenceIdeal.Run
public import proofs.«01_k».proof.Proof.Band0Fwd
public import proofs.«01_k».proof.Proof.Gen.Band0FwdKernel.Frame
public import proofs.«01_k».proof.Proof.Gen.Band0FwdKernelIdeal.Frame
public import proofs.«01_k».proof.Proof.Gen.Band0FwdReferenceIdeal.Run
public import proofs.«01_k».proof.Proof.Band1Fwd
public import proofs.«01_k».proof.Proof.Gen.Band1FwdKernel.Frame
public import proofs.«01_k».proof.Proof.Gen.Band1FwdKernelIdeal.Frame
public import proofs.«01_k».proof.Proof.Gen.Band1FwdReferenceIdeal.Run
public import proofs.«01_k».proof.Proof.Band2Fwd
public import proofs.«01_k».proof.Proof.Gen.Band2FwdKernel.Frame
public import proofs.«01_k».proof.Proof.Gen.Band2FwdKernelIdeal.Frame
public import proofs.«01_k».proof.Proof.Gen.Band2FwdReferenceIdeal.Run
public import proofs.«01_k».proof.Proof.FfnFwd
public import proofs.«01_k».proof.Proof.Gen.FfnFwdKernel.Frame
public import proofs.«01_k».proof.Proof.Gen.FfnFwdKernelIdeal.Frame
public import proofs.«01_k».proof.Proof.Gen.FfnFwdReferenceIdeal.Run
public import proofs.«01_k».proof.Proof.AOut
public import proofs.«01_k».proof.Proof.Gen.AOutKernel.Frame
public import proofs.«01_k».proof.Proof.Gen.AOutKernelIdeal.Frame
public import proofs.«01_k».proof.Proof.Gen.AOutReferenceIdeal.Run
public import proofs.«01_k».proof.Proof.BOut
public import proofs.«01_k».proof.Proof.Gen.BOutKernel.Frame
public import proofs.«01_k».proof.Proof.Gen.BOutKernelIdeal.Frame
public import proofs.«01_k».proof.Proof.Gen.BOutReferenceIdeal.Run
public import proofs.«01_k».proof.Proof.Gen.Pre_fox_finite
public import proofs.«01_k».proof.Proof.Gen.Pre_gate_finite
public import proofs.«01_k».proof.Proof.Gen.Pre_band_finite
public import proofs.«01_k».proof.Proof.Gen.Pre_mem_finite
public import proofs.«01_k».proof.Proof.Gen.Pre_ffn_finite
public import proofs.«01_k».proof.Proof.Gen.Pre_ln_finite
public import proofs.«01_k».proof.Proof.Gen.Pre_memfwd_finite
public import proofs.«01_k».proof.Proof.Gen.Pre_combine_finite
public import proofs.«01_k».proof.Proof.Gen.Pre_bandfwd_finite
public import proofs.«01_k».proof.Proof.Gen.On_decay_lanes
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

namespace FoxClaims

theorem frame_k : Cert.quiescent_FoxKernel := fun m ρ _ => Cert.FoxKernel.Gen.frame m ρ
theorem frame_i : Cert.quiescent_FoxKernelIdeal := fun m ρ _ => Cert.FoxKernelIdeal.Gen.frame m ρ
theorem frame_r : Cert.quiescent_FoxReferenceIdeal := fun m ρ _ =>
  (θ_run Cert.FoxReferenceIdeal.defs _ _).mono (fun r h => ⟨fun c => (h c).2.2.2.2, sem_eq_zero_of_no_sems (by decide) r.2⟩)
    (Cert.FoxReferenceIdeal.Value.run (F := Ideal) m ρ)
theorem preserves : Cert.preserves_FoxKernel_FoxKernelIdeal :=
  IdealRules.named_const.statement Cert.FoxKernelIdeal.κ "mask" .f32 0xF149F2CA#32 ⊥ rfl

/-- What the precondition says: the queries, keys, values, gates and the cotangent hold real numbers. -/
theorem finite [Cert.Pre_fox_finite.Facts] (x0 x1 x2 x3 x4) (h : Cert.Pre_fox_finite.fn (F := Ideal) x0 x1 x2 x3 x4 = fun _ => 1#1) :
    ∃ X K V L D, x0 = Cert.FoxReferenceIdeal.Hand.up X ∧ x1 = Cert.FoxReferenceIdeal.Hand.up K ∧ x2 = Cert.FoxReferenceIdeal.Hand.up V
      ∧ x3 = Cert.FoxReferenceIdeal.Hand.up L ∧ x4 = Cert.FoxReferenceIdeal.Hand.up D := by
  obtain ⟨h03, h4⟩ := Cert.Reals.and_one _ _ (congrFun h default)
  obtain ⟨h02, h3⟩ := Cert.Reals.and_one _ _ h03
  obtain ⟨h01, h2⟩ := Cert.Reals.and_one _ _ h02
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨L, e3⟩ := Cert.Reals.finite_array _ _ _ _ _ h3
  obtain ⟨D, e4⟩ := Cert.Reals.finite_array _ _ _ _ _ h4
  exact ⟨X, K, V, L, D, e0, e1, e2, e3, e4⟩

/-- The third result is compared in the lanes that carry the decay. -/
theorem lanes [Cert.On_decay_lanes.Facts] (x0 x1 x2 x3 x4) (k : Fin 4096) (l : Fin 768) (h : (Cert.On_decay_lanes.fn (F := Ideal) x0 x1 x2 x3 x4).2.2.1 (ix2 k l) = 1#1) :
    l.val % 64 = 3 := by
  have e : (Cert.On_decay_lanes.fn (F := Ideal) x0 x1 x2 x3 x4).2.2.1 (ix2 k l) = IntOp.cmpi .eq (Cert.FoxKernelIdeal.Hand.lanes (ix2 0 l)) 3#32 := rfl
  rw [e, Cert.FoxKernelIdeal.Hand.lanes_eq] at h
  exact (by decide +kernel : ∀ l : Fin 768, IntOp.cmpi .eq (BitVec.ofNat 32 (l.val % 64)) 3#32 = 1#1 → l.val % 64 = 3) l h

theorem algebraic [Cert.Pre_fox_finite.Facts] [Cert.On_decay_lanes.Facts] : Cert.algebraic_FoxKernelIdeal_FoxReferenceIdeal_on_decay_lanes_pre_fox_finite := by
  intro m ρ m' ρ' hpre hag
  choose X K V L D hx hk hv hl hd using fun c => finite _ _ _ _ _ (hpre c)
  choose C hC using fun c => Cert.FoxReferenceIdeal.Hand.running_real (L c)
  refine ⟨fun c => Cert.FoxReferenceIdeal.Hand.outOf (Cert.FoxReferenceIdeal.Hand.gK (X c) (K c) (V c) (D c) (C c)),
    fun c => Cert.FoxReferenceIdeal.Hand.outOf (Cert.FoxReferenceIdeal.Hand.gV (X c) (K c) (D c) (C c)),
    fun c => Cert.FoxReferenceIdeal.Hand.outOf (Cert.FoxReferenceIdeal.Hand.gC (X c) (K c) (V c) (D c) (C c)),
    fun c => Cert.FoxReferenceIdeal.Hand.outOf (Cert.FoxReferenceIdeal.Hand.gQ (X c) (K c) (V c) (D c) (C c)),
    (θ_run _ _ _).mono (fun _ h c => ⟨fun i _ => congrFun ((h c).1.trans (Cert.FoxKernelIdeal.Hand.final_k _ _ _ _ _ m c _ (hC c) (hx c) (hk c) (hv c) (hl c) (hd c))) i,
      fun i _ => congrFun ((h c).2.1.trans (Cert.FoxKernelIdeal.Hand.final_v _ _ _ _ m c _ (hC c) (hx c) (hk c) (hl c) (hd c))) i,
      fun i hi => (congrFun ((h c).2.2.1.trans (Cert.FoxKernelIdeal.Hand.final_a _ _ _ _ _ m c _ (hC c) (hx c) (hk c) (hv c) (hl c) (hd c))) i).trans ?_,
      fun i _ => congrFun ((h c).2.2.2.1.trans (Cert.FoxKernelIdeal.Hand.final_q _ _ _ _ _ m c _ (hC c) (hx c) (hk c) (hv c) (hl c) (hd c))) i,
      (h c).2.2.2.2⟩) (Cert.FoxKernelIdeal.Hand.run_blocks (F := Ideal) m ρ),
    (θ_run _ _ _).mono (fun _ h c => ⟨fun i _ => congrFun ((h c).1.trans ?_) i, fun i _ => congrFun ((h c).2.1.trans ?_) i,
      fun i _ => congrFun ((h c).2.2.1.trans ?_) i, fun i _ => congrFun ((h c).2.2.2.1.trans ?_) i, (h c).2.2.2.2⟩) (Cert.FoxReferenceIdeal.Value.run (F := Ideal) m' ρ')⟩
  · obtain ⟨k, l, rfl⟩ : ∃ a b, i = ix2 a b := ⟨i 0, i 1, eq_ix2 i⟩
    exact congrArg (fun x : ℝ => (x : EReal)) (Cert.FoxKernelIdeal.Hand.gA_eq _ _ _ _ _ k l (lanes _ _ _ _ _ k l hi))
  · rw [Cert.FoxReferenceIdeal.Read.val_main_v85_eq, (hag c).1, (hag c).2.1, (hag c).2.2.1, (hag c).2.2.2.1, (hag c).2.2.2.2, hx c, hk c, hv c, hl c, hd c]
    exact Cert.FoxReferenceIdeal.Hand.ref_k _ _ _ _ _ _ (hC c)
  · rw [Cert.FoxReferenceIdeal.Read.val_main_v58_eq, (hag c).1, (hag c).2.1, (hag c).2.2.2.1, (hag c).2.2.2.2, hx c, hk c, hl c, hd c]
    exact Cert.FoxReferenceIdeal.Hand.ref_v _ _ _ _ _ (hC c)
  · rw [Cert.FoxReferenceIdeal.Read.val_main_v89_eq, (hag c).1, (hag c).2.1, (hag c).2.2.1, (hag c).2.2.2.1, (hag c).2.2.2.2, hx c, hk c, hv c, hl c, hd c]
    exact Cert.FoxReferenceIdeal.Hand.ref_c _ _ _ _ _ _ (hC c)
  · rw [Cert.FoxReferenceIdeal.Read.val_main_v86_eq, (hag c).1, (hag c).2.1, (hag c).2.2.1, (hag c).2.2.2.1, (hag c).2.2.2.2, hx c, hk c, hv c, hl c, hd c]
    exact Cert.FoxReferenceIdeal.Hand.ref_q _ _ _ _ _ _ (hC c)

end FoxClaims

namespace GateClaims

theorem frame_k : Cert.quiescent_GateKernel := fun m ρ _ => Cert.GateKernel.Gen.frame m ρ
theorem frame_i : Cert.quiescent_GateKernelIdeal := fun m ρ _ => Cert.GateKernelIdeal.Gen.frame m ρ
theorem frame_r : Cert.quiescent_GateReferenceIdeal := fun m ρ _ =>
  (θ_run Cert.GateReferenceIdeal.defs _ _).mono (fun r h => ⟨fun c => (h c).2.2, sem_eq_zero_of_no_sems (by decide) r.2⟩)
    (Cert.GateReferenceIdeal.Value.run (F := Ideal) m ρ)
theorem preserves : Cert.preserves_GateKernel_GateKernelIdeal := trivial

/-- What the precondition says: the key cotangents, the gate's logits and its bias hold real numbers. -/
theorem finite [Cert.Pre_gate_finite.Facts] (x0 x1 x2 x3 x4 x5 x6) (h : Cert.Pre_gate_finite.fn (F := Ideal) x0 x1 x2 x3 x4 x5 x6 = fun _ => 1#1) :
    ∃ A f b, x4 = Cert.GateReferenceIdeal.Hand.up A ∧ x5 = Cert.GateReferenceIdeal.Hand.up f ∧ x6 = Cert.GateReferenceIdeal.Hand.up b := by
  obtain ⟨h01, h2⟩ := Cert.Reals.and_one _ _ (congrFun h default)
  obtain ⟨h0, h1⟩ := Cert.Reals.and_one _ _ h01
  obtain ⟨A, e0⟩ := Cert.Reals.finite_array _ _ _ _ _ h0
  obtain ⟨f, e1⟩ := Cert.Reals.finite_array _ _ _ _ _ h1
  obtain ⟨b, e2⟩ := Cert.Reals.finite_array _ _ _ _ _ h2
  exact ⟨A, f, b, e0, e1, e2⟩

theorem algebraic [Cert.Pre_gate_finite.Facts] : Cert.algebraic_GateKernelIdeal_GateReferenceIdeal_pre_gate_finite := by
  intro m ρ m' ρ' hpre hag
  choose A f b hA hf hb using fun c => finite _ _ _ _ _ _ _ (hpre c)
  refine ⟨fun c => Cert.GateKernelIdeal.Hand.res m c (A c) (f c) (b c), fun c => Cert.GateReferenceIdeal.Hand.outB (A c) (f c) (b c),
    (θ_run _ _ _).mono (fun _ h c => ⟨(h c).1.trans (Cert.GateKernelIdeal.Hand.final_o m c _ _ _ (hA c) (hf c) (hb c)),
      (h c).2.1.trans (Cert.GateKernelIdeal.Hand.final_b m c _ _ _ (hA c) (hf c) (hb c)),
      (h c).2.2⟩) (Cert.GateKernelIdeal.Value.run_blocks (F := Ideal) m ρ),
    (θ_run _ _ _).mono (fun _ h c => ⟨(h c).1.trans ?_, (h c).2.1.trans ?_, (h c).2.2⟩) (Cert.GateReferenceIdeal.Value.run (F := Ideal) m' ρ')⟩
  · rw [Cert.GateReferenceIdeal.Read.val_main_v26_eq, (hag c).1, (hag c).2.1, (hag c).2.2.1, (hag c).2.2.2.1, (hag c).2.2.2.2.1, (hag c).2.2.2.2.2.1, (hag c).2.2.2.2.2.2, hA c, hf c, hb c]
    exact Cert.GateReferenceIdeal.Hand.ref_o _ _ _ _ _ _ _
  · rw [Cert.GateReferenceIdeal.Read.val_main_v29_eq, (hag c).2.2.2.2.1, (hag c).2.2.2.2.2.1, (hag c).2.2.2.2.2.2, hA c, hf c, hb c]
    exact Cert.GateReferenceIdeal.Hand.ref_b _ _ _

end GateClaims

namespace Band0DqClaims

theorem frame_k : Cert.quiescent_Band0DqKernel := fun m ρ _ => Cert.Band0DqKernel.Gen.frame m ρ
theorem frame_i : Cert.quiescent_Band0DqKernelIdeal := fun m ρ _ => Cert.Band0DqKernelIdeal.Gen.frame m ρ
theorem frame_r : Cert.quiescent_Band0DqReferenceIdeal := fun m ρ _ =>
  (θ_run Cert.Band0DqReferenceIdeal.defs _ _).mono (fun r h => ⟨fun c => (h c).2, sem_eq_zero_of_no_sems (by decide) r.2⟩)
    (Cert.Band0DqReferenceIdeal.Value.run (F := Ideal) m ρ)
theorem preserves : Cert.preserves_Band0DqKernel_Band0DqKernelIdeal :=
  IdealRules.named_const.statement Cert.Band0DqKernelIdeal.κ "mask" .f32 0xF149F2CA#32 ⊥ rfl

open Cert.Band0DqReferenceIdeal.Hand (up)

/-- What the precondition says: the queries, the keys, the values and the cotangent hold real numbers. -/
theorem finite [Cert.Pre_band_finite.Facts] (x0 x1 x2 x3 x4) (h : Cert.Pre_band_finite.fn (F := Ideal) x0 x1 x2 x3 x4 = fun _ => 1#1) :
    ∃ X K V D, x0 = up X ∧ x1 = up K ∧ x2 = up V ∧ x4 = up D := by
  obtain ⟨h012, h3⟩ := Cert.Reals.and_one _ _ (congrFun h default)
  obtain ⟨h01, h2⟩ := Cert.Reals.and_one _ _ h012
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨D, e3⟩ := Cert.Reals.finite_array _ _ _ _ _ h3
  exact ⟨X, K, V, D, e0, e1, e2, e3⟩

theorem algebraic [Cert.Pre_band_finite.Facts] : Cert.algebraic_Band0DqKernelIdeal_Band0DqReferenceIdeal_pre_band_finite := by
  intro m ρ m' ρ' hpre hag
  choose X K V D hX hK hV hD using fun c => finite _ _ _ _ _ (hpre c)
  refine ⟨fun c => Cert.Band0DqKernelIdeal.Hand.outQ (X c) (K c) (V c) (D c),
    (θ_run _ _ _).mono (fun _ h c => ⟨(h c).1.trans (Cert.Band0DqKernelIdeal.Hand.final_q m c _ _ _ _ (hX c) (hK c) (hV c) (hD c)), (h c).2⟩)
      (Cert.Band0DqKernelIdeal.Value.run_blocks (F := Ideal) m ρ),
    (θ_run _ _ _).mono (fun _ h c => ⟨(h c).1.trans ?_, (h c).2⟩) (Cert.Band0DqReferenceIdeal.Value.run (F := Ideal) m' ρ')⟩
  rw [Cert.Band0DqReferenceIdeal.Read.val_main_v135_eq]
  exact (congr (congr (congr (congrArg (Cert.Band0DqReferenceIdeal.Read.val_main_v135 (F := Ideal)) ((hag c).1.trans (hX c))) ((hag c).2.1.trans (hK c)))
    ((hag c).2.2.1.trans (hV c))) ((hag c).2.2.2.2.trans (hD c))).trans (Cert.Band0DqReferenceIdeal.Hand.ref _ _ _ _)

end Band0DqClaims

namespace Band0DkvClaims

theorem frame_k : Cert.quiescent_Band0DkvKernel := fun m ρ _ => Cert.Band0DkvKernel.Gen.frame m ρ
theorem frame_i : Cert.quiescent_Band0DkvKernelIdeal := fun m ρ _ => Cert.Band0DkvKernelIdeal.Gen.frame m ρ
theorem frame_r : Cert.quiescent_Band0DkvReferenceIdeal := fun m ρ _ =>
  (θ_run Cert.Band0DkvReferenceIdeal.defs _ _).mono (fun r h => ⟨fun c => (h c).2.2, sem_eq_zero_of_no_sems (by decide) r.2⟩)
    (Cert.Band0DkvReferenceIdeal.Value.run (F := Ideal) m ρ)
theorem preserves : Cert.preserves_Band0DkvKernel_Band0DkvKernelIdeal :=
  IdealRules.named_const.statement Cert.Band0DkvKernelIdeal.κ "mask" .f32 0xF149F2CA#32 ⊥ rfl

open Cert.Band0DqReferenceIdeal.Hand (up)

/-- What the precondition says: the queries, the keys, the values and the cotangent hold real numbers. -/
theorem finite [Cert.Pre_band_finite.Facts] (x0 x1 x2 x3 x4) (h : Cert.Pre_band_finite.fn (F := Ideal) x0 x1 x2 x3 x4 = fun _ => 1#1) :
    ∃ X K V D, x0 = up X ∧ x1 = up K ∧ x2 = up V ∧ x4 = up D := by
  obtain ⟨h012, h3⟩ := Cert.Reals.and_one _ _ (congrFun h default)
  obtain ⟨h01, h2⟩ := Cert.Reals.and_one _ _ h012
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨D, e3⟩ := Cert.Reals.finite_array _ _ _ _ _ h3
  exact ⟨X, K, V, D, e0, e1, e2, e3⟩

theorem algebraic [Cert.Pre_band_finite.Facts] : Cert.algebraic_Band0DkvKernelIdeal_Band0DkvReferenceIdeal_pre_band_finite := by
  intro m ρ m' ρ' hpre hag
  choose X K V D hX hK hV hD using fun c => finite _ _ _ _ _ (hpre c)
  refine ⟨fun c => Cert.Band0DkvKernelIdeal.Hand.outK (X c) (K c) (V c) (D c), fun c => Cert.Band0DkvKernelIdeal.Hand.outV (X c) (K c) (D c),
    (θ_run _ _ _).mono (fun _ h c => ⟨(h c).1.trans (Cert.Band0DkvKernelIdeal.Hand.final_k m c _ _ _ _ (hX c) (hK c) (hV c) (hD c)),
      (h c).2.1.trans (Cert.Band0DkvKernelIdeal.Hand.final_v m c _ _ _ _ (hX c) (hK c) (hV c) (hD c)), (h c).2.2⟩) (Cert.Band0DkvKernelIdeal.Value.run_blocks (F := Ideal) m ρ),
    (θ_run _ _ _).mono (fun _ h c => ⟨(h c).1.trans ?_, (h c).2.1.trans ?_, (h c).2.2⟩) (Cert.Band0DkvReferenceIdeal.Value.run (F := Ideal) m' ρ')⟩
  · rw [Cert.Band0DkvReferenceIdeal.Read.val_main_v135_eq]
    exact (congr (congr (congr (congrArg (Cert.Band0DkvReferenceIdeal.Read.val_main_v135 (F := Ideal)) ((hag c).1.trans (hX c))) ((hag c).2.1.trans (hK c)))
      ((hag c).2.2.1.trans (hV c))) ((hag c).2.2.2.2.trans (hD c))).trans (Cert.Band0DkvReferenceIdeal.Hand.ref_k _ _ _ _)
  · rw [Cert.Band0DkvReferenceIdeal.Read.val_main_v136_eq]
    exact (congr (congr (congrArg (Cert.Band0DkvReferenceIdeal.Read.val_main_v136 (F := Ideal)) ((hag c).1.trans (hX c))) ((hag c).2.1.trans (hK c)))
      ((hag c).2.2.2.2.trans (hD c))).trans (Cert.Band0DkvReferenceIdeal.Hand.ref_v _ _ (V c) _)

end Band0DkvClaims

namespace Band1DqClaims

theorem frame_k : Cert.quiescent_Band1DqKernel := fun m ρ _ => Cert.Band1DqKernel.Gen.frame m ρ
theorem frame_i : Cert.quiescent_Band1DqKernelIdeal := fun m ρ _ => Cert.Band1DqKernelIdeal.Gen.frame m ρ
theorem frame_r : Cert.quiescent_Band1DqReferenceIdeal := fun m ρ _ =>
  (θ_run Cert.Band1DqReferenceIdeal.defs _ _).mono (fun r h => ⟨fun c => (h c).2, sem_eq_zero_of_no_sems (by decide) r.2⟩)
    (Cert.Band1DqReferenceIdeal.Value.run (F := Ideal) m ρ)
theorem preserves : Cert.preserves_Band1DqKernel_Band1DqKernelIdeal :=
  IdealRules.named_const.statement Cert.Band1DqKernelIdeal.κ "mask" .f32 0xF149F2CA#32 ⊥ rfl

open Cert.Band0DqReferenceIdeal.Hand (up)

/-- What the precondition says: the queries, the keys, the values and the cotangent hold real numbers. -/
theorem finite [Cert.Pre_band_finite.Facts] (x0 x1 x2 x3 x4) (h : Cert.Pre_band_finite.fn (F := Ideal) x0 x1 x2 x3 x4 = fun _ => 1#1) :
    ∃ X K V D, x0 = up X ∧ x1 = up K ∧ x2 = up V ∧ x4 = up D := by
  obtain ⟨h012, h3⟩ := Cert.Reals.and_one _ _ (congrFun h default)
  obtain ⟨h01, h2⟩ := Cert.Reals.and_one _ _ h012
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨D, e3⟩ := Cert.Reals.finite_array _ _ _ _ _ h3
  exact ⟨X, K, V, D, e0, e1, e2, e3⟩

theorem algebraic [Cert.Pre_band_finite.Facts] : Cert.algebraic_Band1DqKernelIdeal_Band1DqReferenceIdeal_pre_band_finite := by
  intro m ρ m' ρ' hpre hag
  choose X K V D hX hK hV hD using fun c => finite _ _ _ _ _ (hpre c)
  refine ⟨fun c => Cert.Band1DqKernelIdeal.Hand.outQ (X c) (K c) (V c) (D c),
    (θ_run _ _ _).mono (fun _ h c => ⟨(h c).1.trans (Cert.Band1DqKernelIdeal.Hand.final_q m c _ _ _ _ (hX c) (hK c) (hV c) (hD c)), (h c).2⟩)
      (Cert.Band1DqKernelIdeal.Value.run_blocks (F := Ideal) m ρ),
    (θ_run _ _ _).mono (fun _ h c => ⟨(h c).1.trans ?_, (h c).2⟩) (Cert.Band1DqReferenceIdeal.Value.run (F := Ideal) m' ρ')⟩
  rw [Cert.Band1DqReferenceIdeal.Read.val_main_v136_eq]
  exact (congr (congr (congr (congrArg (Cert.Band1DqReferenceIdeal.Read.val_main_v136 (F := Ideal)) ((hag c).1.trans (hX c))) ((hag c).2.1.trans (hK c)))
    ((hag c).2.2.1.trans (hV c))) ((hag c).2.2.2.2.trans (hD c))).trans (Cert.Band1DqReferenceIdeal.Hand.ref _ _ _ _)

end Band1DqClaims

namespace Band1DkvClaims

theorem frame_k : Cert.quiescent_Band1DkvKernel := fun m ρ _ => Cert.Band1DkvKernel.Gen.frame m ρ
theorem frame_i : Cert.quiescent_Band1DkvKernelIdeal := fun m ρ _ => Cert.Band1DkvKernelIdeal.Gen.frame m ρ
theorem frame_r : Cert.quiescent_Band1DkvReferenceIdeal := fun m ρ _ =>
  (θ_run Cert.Band1DkvReferenceIdeal.defs _ _).mono (fun r h => ⟨fun c => (h c).2.2, sem_eq_zero_of_no_sems (by decide) r.2⟩)
    (Cert.Band1DkvReferenceIdeal.Value.run (F := Ideal) m ρ)
theorem preserves : Cert.preserves_Band1DkvKernel_Band1DkvKernelIdeal :=
  IdealRules.named_const.statement Cert.Band1DkvKernelIdeal.κ "mask" .f32 0xF149F2CA#32 ⊥ rfl

open Cert.Band0DqReferenceIdeal.Hand (up)

/-- What the precondition says: the queries, the keys, the values and the cotangent hold real numbers. -/
theorem finite [Cert.Pre_band_finite.Facts] (x0 x1 x2 x3 x4) (h : Cert.Pre_band_finite.fn (F := Ideal) x0 x1 x2 x3 x4 = fun _ => 1#1) :
    ∃ X K V D, x0 = up X ∧ x1 = up K ∧ x2 = up V ∧ x4 = up D := by
  obtain ⟨h012, h3⟩ := Cert.Reals.and_one _ _ (congrFun h default)
  obtain ⟨h01, h2⟩ := Cert.Reals.and_one _ _ h012
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨D, e3⟩ := Cert.Reals.finite_array _ _ _ _ _ h3
  exact ⟨X, K, V, D, e0, e1, e2, e3⟩

theorem algebraic [Cert.Pre_band_finite.Facts] : Cert.algebraic_Band1DkvKernelIdeal_Band1DkvReferenceIdeal_pre_band_finite := by
  intro m ρ m' ρ' hpre hag
  choose X K V D hX hK hV hD using fun c => finite _ _ _ _ _ (hpre c)
  refine ⟨fun c => Cert.Band1DkvKernelIdeal.Hand.outK (X c) (K c) (V c) (D c), fun c => Cert.Band1DkvKernelIdeal.Hand.outV (X c) (K c) (D c),
    (θ_run _ _ _).mono (fun _ h c => ⟨(h c).1.trans (Cert.Band1DkvKernelIdeal.Hand.final_k m c _ _ _ _ (hX c) (hK c) (hV c) (hD c)),
      (h c).2.1.trans (Cert.Band1DkvKernelIdeal.Hand.final_v m c _ _ _ _ (hX c) (hK c) (hV c) (hD c)), (h c).2.2⟩) (Cert.Band1DkvKernelIdeal.Value.run_blocks (F := Ideal) m ρ),
    (θ_run _ _ _).mono (fun _ h c => ⟨(h c).1.trans ?_, (h c).2.1.trans ?_, (h c).2.2⟩) (Cert.Band1DkvReferenceIdeal.Value.run (F := Ideal) m' ρ')⟩
  · rw [Cert.Band1DkvReferenceIdeal.Read.val_main_v136_eq]
    exact (congr (congr (congr (congrArg (Cert.Band1DkvReferenceIdeal.Read.val_main_v136 (F := Ideal)) ((hag c).1.trans (hX c))) ((hag c).2.1.trans (hK c)))
      ((hag c).2.2.1.trans (hV c))) ((hag c).2.2.2.2.trans (hD c))).trans (Cert.Band1DkvReferenceIdeal.Hand.ref_k _ _ _ _)
  · rw [Cert.Band1DkvReferenceIdeal.Read.val_main_v138_eq]
    exact (congr (congr (congrArg (Cert.Band1DkvReferenceIdeal.Read.val_main_v138 (F := Ideal)) ((hag c).1.trans (hX c))) ((hag c).2.1.trans (hK c)))
      ((hag c).2.2.2.2.trans (hD c))).trans (Cert.Band1DkvReferenceIdeal.Hand.ref_v _ _ (V c) _)

end Band1DkvClaims

namespace Band2DqClaims

theorem frame_k : Cert.quiescent_Band2DqKernel := fun m ρ _ => Cert.Band2DqKernel.Gen.frame m ρ
theorem frame_i : Cert.quiescent_Band2DqKernelIdeal := fun m ρ _ => Cert.Band2DqKernelIdeal.Gen.frame m ρ
theorem frame_r : Cert.quiescent_Band2DqReferenceIdeal := fun m ρ _ =>
  (θ_run Cert.Band2DqReferenceIdeal.defs _ _).mono (fun r h => ⟨fun c => (h c).2, sem_eq_zero_of_no_sems (by decide) r.2⟩)
    (Cert.Band2DqReferenceIdeal.Value.run (F := Ideal) m ρ)
theorem preserves : Cert.preserves_Band2DqKernel_Band2DqKernelIdeal :=
  IdealRules.named_const.statement Cert.Band2DqKernelIdeal.κ "mask" .f32 0xF149F2CA#32 ⊥ rfl

open Cert.Band0DqReferenceIdeal.Hand (up)

/-- What the precondition says: the queries, the keys, the values and the cotangent hold real numbers. -/
theorem finite [Cert.Pre_band_finite.Facts] (x0 x1 x2 x3 x4) (h : Cert.Pre_band_finite.fn (F := Ideal) x0 x1 x2 x3 x4 = fun _ => 1#1) :
    ∃ X K V D, x0 = up X ∧ x1 = up K ∧ x2 = up V ∧ x4 = up D := by
  obtain ⟨h012, h3⟩ := Cert.Reals.and_one _ _ (congrFun h default)
  obtain ⟨h01, h2⟩ := Cert.Reals.and_one _ _ h012
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨D, e3⟩ := Cert.Reals.finite_array _ _ _ _ _ h3
  exact ⟨X, K, V, D, e0, e1, e2, e3⟩

theorem algebraic [Cert.Pre_band_finite.Facts] : Cert.algebraic_Band2DqKernelIdeal_Band2DqReferenceIdeal_pre_band_finite := by
  intro m ρ m' ρ' hpre hag
  choose X K V D hX hK hV hD using fun c => finite _ _ _ _ _ (hpre c)
  refine ⟨fun c => Cert.Band2DqKernelIdeal.Hand.outQ (X c) (K c) (V c) (D c),
    (θ_run _ _ _).mono (fun _ h c => ⟨(h c).1.trans (Cert.Band2DqKernelIdeal.Hand.final_q m c _ _ _ _ (hX c) (hK c) (hV c) (hD c)), (h c).2⟩)
      (Cert.Band2DqKernelIdeal.Value.run_blocks (F := Ideal) m ρ),
    (θ_run _ _ _).mono (fun _ h c => ⟨(h c).1.trans ?_, (h c).2⟩) (Cert.Band2DqReferenceIdeal.Value.run (F := Ideal) m' ρ')⟩
  rw [Cert.Band2DqReferenceIdeal.Read.val_main_v136_eq]
  exact (congr (congr (congr (congrArg (Cert.Band2DqReferenceIdeal.Read.val_main_v136 (F := Ideal)) ((hag c).1.trans (hX c))) ((hag c).2.1.trans (hK c)))
    ((hag c).2.2.1.trans (hV c))) ((hag c).2.2.2.2.trans (hD c))).trans (Cert.Band2DqReferenceIdeal.Hand.ref _ _ _ _)

end Band2DqClaims

namespace Band2DkvClaims

theorem frame_k : Cert.quiescent_Band2DkvKernel := fun m ρ _ => Cert.Band2DkvKernel.Gen.frame m ρ
theorem frame_i : Cert.quiescent_Band2DkvKernelIdeal := fun m ρ _ => Cert.Band2DkvKernelIdeal.Gen.frame m ρ
theorem frame_r : Cert.quiescent_Band2DkvReferenceIdeal := fun m ρ _ =>
  (θ_run Cert.Band2DkvReferenceIdeal.defs _ _).mono (fun r h => ⟨fun c => (h c).2.2, sem_eq_zero_of_no_sems (by decide) r.2⟩)
    (Cert.Band2DkvReferenceIdeal.Value.run (F := Ideal) m ρ)
theorem preserves : Cert.preserves_Band2DkvKernel_Band2DkvKernelIdeal :=
  IdealRules.named_const.statement Cert.Band2DkvKernelIdeal.κ "mask" .f32 0xF149F2CA#32 ⊥ rfl

open Cert.Band0DqReferenceIdeal.Hand (up)

/-- What the precondition says: the queries, the keys, the values and the cotangent hold real numbers. -/
theorem finite [Cert.Pre_band_finite.Facts] (x0 x1 x2 x3 x4) (h : Cert.Pre_band_finite.fn (F := Ideal) x0 x1 x2 x3 x4 = fun _ => 1#1) :
    ∃ X K V D, x0 = up X ∧ x1 = up K ∧ x2 = up V ∧ x4 = up D := by
  obtain ⟨h012, h3⟩ := Cert.Reals.and_one _ _ (congrFun h default)
  obtain ⟨h01, h2⟩ := Cert.Reals.and_one _ _ h012
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  obtain ⟨D, e3⟩ := Cert.Reals.finite_array _ _ _ _ _ h3
  exact ⟨X, K, V, D, e0, e1, e2, e3⟩

theorem algebraic [Cert.Pre_band_finite.Facts] : Cert.algebraic_Band2DkvKernelIdeal_Band2DkvReferenceIdeal_pre_band_finite := by
  intro m ρ m' ρ' hpre hag
  choose X K V D hX hK hV hD using fun c => finite _ _ _ _ _ (hpre c)
  refine ⟨fun c => Cert.Band2DkvKernelIdeal.Hand.outK (X c) (K c) (V c) (D c), fun c => Cert.Band2DkvKernelIdeal.Hand.outV (X c) (K c) (D c),
    (θ_run _ _ _).mono (fun _ h c => ⟨(h c).1.trans (Cert.Band2DkvKernelIdeal.Hand.final_k m c _ _ _ _ (hX c) (hK c) (hV c) (hD c)),
      (h c).2.1.trans (Cert.Band2DkvKernelIdeal.Hand.final_v m c _ _ _ _ (hX c) (hK c) (hV c) (hD c)), (h c).2.2⟩) (Cert.Band2DkvKernelIdeal.Value.run_blocks (F := Ideal) m ρ),
    (θ_run _ _ _).mono (fun _ h c => ⟨(h c).1.trans ?_, (h c).2.1.trans ?_, (h c).2.2⟩) (Cert.Band2DkvReferenceIdeal.Value.run (F := Ideal) m' ρ')⟩
  · rw [Cert.Band2DkvReferenceIdeal.Read.val_main_v136_eq]
    exact (congr (congr (congr (congrArg (Cert.Band2DkvReferenceIdeal.Read.val_main_v136 (F := Ideal)) ((hag c).1.trans (hX c))) ((hag c).2.1.trans (hK c)))
      ((hag c).2.2.1.trans (hV c))) ((hag c).2.2.2.2.trans (hD c))).trans (Cert.Band2DkvReferenceIdeal.Hand.ref_k _ _ _ _)
  · rw [Cert.Band2DkvReferenceIdeal.Read.val_main_v138_eq]
    exact (congr (congr (congrArg (Cert.Band2DkvReferenceIdeal.Read.val_main_v138 (F := Ideal)) ((hag c).1.trans (hX c))) ((hag c).2.1.trans (hK c)))
      ((hag c).2.2.2.2.trans (hD c))).trans (Cert.Band2DkvReferenceIdeal.Hand.ref_v _ _ (V c) _)

end Band2DkvClaims

namespace MemClaims

theorem frame_k : Cert.quiescent_MemKernel := fun m ρ _ => Cert.MemKernel.Gen.frame m ρ
theorem frame_i : Cert.quiescent_MemKernelIdeal := fun m ρ _ => Cert.MemKernelIdeal.Gen.frame m ρ
theorem frame_r : Cert.quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)
theorem preserves : Cert.preserves_MemKernel_MemKernelIdeal := trivial

/-- What the precondition says: the queries, the keys and values and the cotangent hold real numbers. -/
theorem finite [Cert.Pre_mem_finite.Facts] (x0 x1 x2) (h : Cert.Pre_mem_finite.fn (F := Ideal) x0 x1 x2 = fun _ => 1#1) :
    ∃ X KV D, x0 = Cert.MemReferenceIdeal.Hand.up X ∧ x1 = Cert.MemReferenceIdeal.Hand.up KV ∧ x2 = Cert.MemReferenceIdeal.Hand.up D := by
  obtain ⟨h01, h2⟩ := Cert.Reals.and_one _ _ (congrFun h default)
  obtain ⟨h0, h1⟩ := Cert.Reals.and_one _ _ h01
  obtain ⟨X, e0⟩ := Cert.Reals.finite_array _ _ _ _ _ h0
  obtain ⟨KV, e1⟩ := Cert.Reals.finite_array _ _ _ _ _ h1
  obtain ⟨D, e2⟩ := Cert.Reals.finite_array _ _ _ _ _ h2
  exact ⟨X, KV, D, e0, e1, e2⟩

theorem algebraic [Cert.Pre_mem_finite.Facts] : Cert.algebraic_MemKernelIdeal_MemReferenceIdeal_pre_mem_finite := by
  intro m ρ m' ρ' hpre hag
  choose X KV D hx hk hd using fun c => finite _ _ _ (hpre c)
  refine ⟨fun c => Cert.MemReferenceIdeal.Hand.outQ (X c) (D c) (KV c), fun c => Cert.MemReferenceIdeal.Hand.outKV (X c) (D c) (KV c),
    (θ_run _ _ _).mono (fun _ h c => ⟨(h c).1.trans (Cert.MemKernelIdeal.Hand.final_q m c _ _ _ (hx c) (hk c) (hd c)),
      (h c).2.1.trans (Cert.MemKernelIdeal.Hand.final_kv m c _ _ _ (hx c) (hk c) (hd c)),
      (h c).2.2⟩) (Cert.MemKernelIdeal.Value.run_blocks (F := Ideal) m ρ),
    (θ_run _ _ _).mono (fun _ h c => ⟨(h c).1.trans ?_, (h c).2.1.trans ?_, (h c).2.2⟩) (Cert.MemReferenceIdeal.Value.run (F := Ideal) m' ρ')⟩
  · rw [Cert.MemReferenceIdeal.Read.val_main_v63_eq, (hag c).1, (hag c).2.1, (hag c).2.2, hx c, hk c, hd c]; exact Cert.MemReferenceIdeal.Hand.ref_q _ _ _
  · rw [Cert.MemReferenceIdeal.Read.val_main_v62_eq, (hag c).1, (hag c).2.1, (hag c).2.2, hx c, hk c, hd c]; exact Cert.MemReferenceIdeal.Hand.ref_kv _ _ _

end MemClaims

namespace FfnClaims

theorem frame_k : Cert.quiescent_FfnKernel := fun m ρ _ => Cert.FfnKernel.Gen.frame m ρ
theorem frame_i : Cert.quiescent_FfnKernelIdeal := fun m ρ _ => Cert.FfnKernelIdeal.Gen.frame m ρ
theorem frame_r : Cert.quiescent_FfnReferenceIdeal := fun m ρ _ =>
  (θ_run Cert.FfnReferenceIdeal.defs _ _).mono (fun r h => ⟨fun c => (h c).2.2.2.2.2.2, sem_eq_zero_of_no_sems (by decide) r.2⟩)
    (Cert.FfnReferenceIdeal.Value.run (F := Ideal) m ρ)
theorem preserves : Cert.preserves_FfnKernel_FfnKernelIdeal := trivial

open Cert.FfnReferenceIdeal.Hand (up outH outA outX outY outG outB)

/-- What the precondition says: the block's input, its two weights, its norm's weight and the cotangent hold real numbers. -/
theorem finite [Cert.Pre_ffn_finite.Facts] (x0 x1 x2 x3 x4 x5) (h : Cert.Pre_ffn_finite.fn (F := Ideal) x0 x1 x2 x3 x4 x5 = fun _ => 1#1) :
    ∃ X W V G D, x0 = up X ∧ x1 = up W ∧ x2 = up V ∧ x3 = up G ∧ x5 = up D := by
  obtain ⟨h0123, h4⟩ := Cert.Reals.and_one _ _ (congrFun h default)
  obtain ⟨h012, h3⟩ := Cert.Reals.and_one _ _ h0123
  obtain ⟨h01, h2⟩ := Cert.Reals.and_one _ _ h012
  obtain ⟨h0, h1⟩ := Cert.Reals.and_one _ _ h01
  obtain ⟨X, e0⟩ := Cert.Reals.finite_array _ _ _ _ _ h0
  obtain ⟨W, e1⟩ := Cert.Reals.finite_array _ _ _ _ _ h1
  obtain ⟨V, e2⟩ := Cert.Reals.finite_array _ _ _ _ _ h2
  obtain ⟨G, e3⟩ := Cert.Reals.finite_array _ _ _ _ _ h3
  obtain ⟨D, e4⟩ := Cert.Reals.finite_array _ _ _ _ _ h4
  exact ⟨X, W, V, G, D, e0, e1, e2, e3, e4⟩

theorem algebraic [Cert.Pre_ffn_finite.Facts] : Cert.algebraic_FfnKernelIdeal_FfnReferenceIdeal_pre_ffn_finite := by
  intro m ρ m' ρ' hpre hag
  choose X W V G D hX hW hV hG hD using fun c => finite _ _ _ _ _ _ (hpre c)
  refine ⟨fun c => outH (X c) (W c) (V c) (G c) (D c), fun c => outA (X c) (W c), fun c => outX (X c) (W c) (V c) (G c) (D c),
    fun c => outY (X c) (W c) (V c) (G c) (D c), fun c => outG (X c) (W c) (V c) (D c), fun c => outB (D c),
    (θ_run _ _ _).mono (fun _ h c => ⟨(h c).1.trans (Cert.FfnKernelIdeal.Hand.final_h m c _ _ _ _ _ (hX c) (hW c) (hV c) (hG c) (hD c)),
      (h c).2.1.trans (Cert.FfnKernelIdeal.Hand.final_a m c _ _ (hX c) (hW c)),
      (h c).2.2.1.trans (Cert.FfnKernelIdeal.Hand.final_x m c _ _ _ _ _ (hX c) (hW c) (hV c) (hG c) (hD c)),
      (h c).2.2.2.1.trans (Cert.FfnKernelIdeal.Hand.final_y m c _ _ _ _ _ (hX c) (hW c) (hV c) (hG c) (hD c)),
      (h c).2.2.2.2.1.trans (Cert.FfnKernelIdeal.Hand.final_g m c _ _ _ _ (hX c) (hW c) (hV c) (hD c)),
      (h c).2.2.2.2.2.1.trans (Cert.FfnKernelIdeal.Hand.final_b m c _ (hD c)),
      (h c).2.2.2.2.2.2⟩) (Cert.FfnKernelIdeal.Value.run_blocks (F := Ideal) m ρ),
    (θ_run _ _ _).mono (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.FfnReferenceIdeal.Value.run (F := Ideal) m' ρ')⟩
  · rw [Cert.FfnReferenceIdeal.Read.val_main_v91_eq]
    exact (congr (congr (congr (congr (congrArg (Cert.FfnReferenceIdeal.Read.val_main_v91 (F := Ideal)) ((hag c).1.trans (hX c))) ((hag c).2.1.trans (hW c)))
      ((hag c).2.2.1.trans (hV c))) ((hag c).2.2.2.1.trans (hG c))) ((hag c).2.2.2.2.2.trans (hD c))).trans (Cert.FfnReferenceIdeal.Hand.ref_h _ _ _ _ _)
  · rw [Cert.FfnReferenceIdeal.Read.val_main_v92_eq]
    exact (congr (congrArg (Cert.FfnReferenceIdeal.Read.val_main_v92 (F := Ideal)) ((hag c).1.trans (hX c))) ((hag c).2.1.trans (hW c))).trans (Cert.FfnReferenceIdeal.Hand.ref_a _ _)
  · rw [Cert.FfnReferenceIdeal.Read.val_main_v90_eq]
    exact (congr (congr (congr (congr (congrArg (Cert.FfnReferenceIdeal.Read.val_main_v90 (F := Ideal)) ((hag c).1.trans (hX c))) ((hag c).2.1.trans (hW c)))
      ((hag c).2.2.1.trans (hV c))) ((hag c).2.2.2.1.trans (hG c))) ((hag c).2.2.2.2.2.trans (hD c))).trans (Cert.FfnReferenceIdeal.Hand.ref_x _ _ _ _ _)
  · rw [Cert.FfnReferenceIdeal.Read.val_main_v93_eq]
    exact (congr (congr (congr (congr (congrArg (Cert.FfnReferenceIdeal.Read.val_main_v93 (F := Ideal)) ((hag c).1.trans (hX c))) ((hag c).2.1.trans (hW c)))
      ((hag c).2.2.1.trans (hV c))) ((hag c).2.2.2.1.trans (hG c))) ((hag c).2.2.2.2.2.trans (hD c))).trans (Cert.FfnReferenceIdeal.Hand.ref_y _ _ _ _ _)
  · rw [Cert.FfnReferenceIdeal.Read.val_main_v94_eq]
    exact (congr (congr (congr (congrArg (Cert.FfnReferenceIdeal.Read.val_main_v94 (F := Ideal)) ((hag c).1.trans (hX c))) ((hag c).2.1.trans (hW c)))
      ((hag c).2.2.1.trans (hV c))) ((hag c).2.2.2.2.2.trans (hD c))).trans (Cert.FfnReferenceIdeal.Hand.ref_g _ _ _ _)
  · rw [Cert.FfnReferenceIdeal.Read.val_main_v95_eq]
    exact (congrArg (Cert.FfnReferenceIdeal.Read.val_main_v95 (F := Ideal)) ((hag c).2.2.2.2.2.trans (hD c))).trans (Cert.FfnReferenceIdeal.Hand.ref_b _)

end FfnClaims

namespace LnClaims

theorem frame_k : Cert.quiescent_LnKernel := fun m ρ _ => Cert.LnKernel.Gen.frame m ρ
theorem frame_i : Cert.quiescent_LnKernelIdeal := fun m ρ _ => Cert.LnKernelIdeal.Gen.frame m ρ
theorem frame_r : Cert.quiescent_LnReferenceIdeal := fun m ρ _ =>
  (θ_run Cert.LnReferenceIdeal.defs _ _).mono (fun r h => ⟨fun c => (h c).2.2.2, sem_eq_zero_of_no_sems (by decide) r.2⟩)
    (Cert.LnReferenceIdeal.Value.run (F := Ideal) m ρ)
theorem preserves : Cert.preserves_LnKernel_LnKernelIdeal := trivial

/-- What the precondition says: the cotangent, the rows and the scale hold real numbers. -/
theorem finite [Cert.Pre_ln_finite.Facts] (x0 x1 x2 x3) (h : Cert.Pre_ln_finite.fn (F := Ideal) x0 x1 x2 x3 = fun _ => 1#1) :
    ∃ D X G, x0 = Cert.LnReferenceIdeal.Hand.up D ∧ x1 = Cert.LnReferenceIdeal.Hand.up X ∧ x2 = Cert.LnReferenceIdeal.Hand.up G := by
  obtain ⟨h01, h2⟩ := Cert.Reals.and_one _ _ (congrFun h default)
  obtain ⟨h0, h1⟩ := Cert.Reals.and_one _ _ h01
  obtain ⟨D, e0⟩ := Cert.Reals.finite_array _ _ _ _ _ h0
  obtain ⟨X, e1⟩ := Cert.Reals.finite_array _ _ _ _ _ h1
  obtain ⟨G, e2⟩ := Cert.Reals.finite_array _ _ _ _ _ h2
  exact ⟨D, X, G, e0, e1, e2⟩

theorem algebraic [Cert.Pre_ln_finite.Facts] : Cert.algebraic_LnKernelIdeal_LnReferenceIdeal_pre_ln_finite := by
  intro m ρ m' ρ' hpre hag
  choose D X G hd hx hg using fun c => finite _ _ _ _ (hpre c)
  refine ⟨fun c => Cert.LnKernelIdeal.Hand.outR (D c) (X c) (G c), fun c => Cert.LnKernelIdeal.Hand.outG (D c) (X c),
    fun c => Cert.LnKernelIdeal.Hand.outB (D c), (θ_run _ _ _).mono (fun _ h c => ⟨(h c).1.trans (Cert.LnKernelIdeal.Hand.final_r m c _ _ _ (hd c) (hx c) (hg c)),
      (h c).2.1.trans (Cert.LnKernelIdeal.Hand.final_g m c _ _ (hd c) (hx c)), (h c).2.2.1.trans (Cert.LnKernelIdeal.Hand.final_b m c _ (hd c)),
      (h c).2.2.2⟩) (Cert.LnKernelIdeal.Value.run_blocks (F := Ideal) m ρ),
    (θ_run _ _ _).mono (fun _ h c => ⟨(h c).1.trans ?_, (h c).2.1.trans ?_, (h c).2.2.1.trans ?_, (h c).2.2.2⟩)
      (Cert.LnReferenceIdeal.Value.run (F := Ideal) m' ρ')⟩
  · rw [Cert.LnReferenceIdeal.Read.val_main_v62_eq, (hag c).1, (hag c).2.1, (hag c).2.2.1, hd c, hx c, hg c]; exact Cert.LnReferenceIdeal.Hand.ref_r _ _ _
  · rw [(hag c).1, (hag c).2.1, hd c, hx c]; exact Cert.LnReferenceIdeal.Hand.ref_g _ _
  · rw [(hag c).1, hd c]; exact Cert.LnReferenceIdeal.Hand.ref_b _

end LnClaims

namespace RopeClaims

theorem frame_k : Cert.quiescent_RopeKernel := fun m ρ _ => Cert.RopeKernel.Gen.frame m ρ
theorem frame_i : Cert.quiescent_RopeKernelIdeal := fun m ρ _ => Cert.RopeKernelIdeal.Gen.frame m ρ
theorem frame_r : Cert.quiescent_RopeReferenceIdeal := fun m ρ _ =>
  (θ_run Cert.RopeReferenceIdeal.defs _ _).mono (fun r h => ⟨fun c => (h c).2, sem_eq_zero_of_no_sems (by decide) r.2⟩)
    (Cert.RopeReferenceIdeal.Value.run (F := Ideal) m ρ)
theorem preserves : Cert.preserves_RopeKernel_RopeKernelIdeal := trivial

theorem algebraic : Cert.algebraic_RopeKernelIdeal_RopeReferenceIdeal := by
  intro m ρ m' ρ' _ hag
  refine ⟨fun c => Cert.RopeKernelIdeal.Hand.out m c,
    (θ_run _ _ _).mono (fun _ h c => ⟨(h c).1.trans (Cert.RopeKernelIdeal.Hand.final_o m c), (h c).2⟩) (Cert.RopeKernelIdeal.Value.run_blocks (F := Ideal) m ρ),
    (θ_run _ _ _).mono (fun _ h c => ⟨(h c).1.trans ?_, (h c).2⟩) (Cert.RopeReferenceIdeal.Value.run (F := Ideal) m' ρ')⟩
  refine (Cert.RopeReferenceIdeal.Read.val_main_v153_eq _).trans ?_
  exact (congr (congr (congr (congr (congr (congr (congr (congr (congr (congrArg (Cert.RopeReferenceIdeal.Read.val_main_v153 (F := Ideal)) ((hag c).1)) ((hag c).2.1)) ((hag c).2.2.1)) ((hag c).2.2.2.1)) ((hag c).2.2.2.2.1)) ((hag c).2.2.2.2.2.1)) ((hag c).2.2.2.2.2.2.1)) ((hag c).2.2.2.2.2.2.2.1)) ((hag c).2.2.2.2.2.2.2.2.1)) ((hag c).2.2.2.2.2.2.2.2.2)).trans (Cert.RopeReferenceIdeal.Hand.ref_o _ _ _ _ _ _ _ _ _ _)

end RopeClaims

namespace LossClaims

theorem frame_k : Cert.quiescent_LossKernel := fun m ρ _ => Cert.LossKernel.Gen.frame m ρ
theorem frame_i : Cert.quiescent_LossKernelIdeal := fun m ρ _ => Cert.LossKernelIdeal.Gen.frame m ρ
theorem frame_r : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)
theorem preserves : Cert.preserves_LossKernel_LossKernelIdeal := trivial

theorem algebraic : Cert.algebraic_LossKernelIdeal_LossReferenceIdeal := by
  intro m ρ m' ρ' _ hag
  refine ⟨_, _, (θ_run _ _ _).mono (fun _ h c => ⟨(h c).1.trans (Cert.LossKernelIdeal.Hand.final_dy m c),
      (h c).2.1.trans (Cert.LossKernelIdeal.Hand.final_loss m c), (h c).2.2⟩) (Cert.LossKernelIdeal.Value.run_blocks (F := Ideal) m ρ),
    (θ_run _ _ _).mono (fun _ h c => ⟨(h c).1.trans ?_, (h c).2.1.trans ?_, (h c).2.2⟩) (Cert.LossReferenceIdeal.Value.run (F := Ideal) m' ρ')⟩
  · rw [(hag c).1, (hag c).2]; exact Cert.LossReferenceIdeal.Hand.ref_dy _ _
  · rw [(hag c).1, (hag c).2]; exact Cert.LossReferenceIdeal.Hand.loss_eq _ _

end LossClaims

namespace MemFwdClaims

theorem frame_k : Cert.quiescent_MemFwdKernel := fun m ρ _ => Cert.MemFwdKernel.Gen.frame m ρ
theorem frame_i : Cert.quiescent_MemFwdKernelIdeal := fun m ρ _ => Cert.MemFwdKernelIdeal.Gen.frame m ρ
theorem frame_r : Cert.quiescent_MemFwdReferenceIdeal := fun m ρ _ =>
  (θ_run Cert.MemFwdReferenceIdeal.defs _ _).mono (fun r h => ⟨fun c => (h c).2.2, sem_eq_zero_of_no_sems (by decide) r.2⟩)
    (Cert.MemFwdReferenceIdeal.Value.run (F := Ideal) m ρ)
theorem preserves : Cert.preserves_MemFwdKernel_MemFwdKernelIdeal := trivial

/-- What the precondition says: the queries and the keys and values hold real numbers. -/
theorem finite [Cert.Pre_memfwd_finite.Facts] (x0 x1) (h : Cert.Pre_memfwd_finite.fn (F := Ideal) x0 x1 = fun _ => 1#1) :
    ∃ X KV, x0 = Cert.MemReferenceIdeal.Hand.up X ∧ x1 = Cert.MemReferenceIdeal.Hand.up KV := by
  obtain ⟨h0, h1⟩ := Cert.Reals.and_one _ _ (congrFun h default)
  obtain ⟨X, e0⟩ := Cert.Reals.finite_array _ _ _ _ _ h0
  obtain ⟨KV, e1⟩ := Cert.Reals.finite_array _ _ _ _ _ h1
  exact ⟨X, KV, e0, e1⟩

theorem algebraic [Cert.Pre_memfwd_finite.Facts] : Cert.algebraic_MemFwdKernelIdeal_MemFwdReferenceIdeal_pre_memfwd_finite := by
  intro m ρ m' ρ' hpre hag
  choose X KV hx hk using fun c => finite _ _ (hpre c)
  refine ⟨fun c => Cert.MemFwdKernelIdeal.Hand.outO (X c) (KV c), fun c => Cert.MemFwdKernelIdeal.Hand.outL (X c) (KV c),
    (θ_run _ _ _).mono (fun _ h c => ⟨(h c).1.trans (Cert.MemFwdKernelIdeal.Hand.final_o m c _ _ (hx c) (hk c)),
      (h c).2.1.trans (Cert.MemFwdKernelIdeal.Hand.final_l m c _ _ (hx c) (hk c)),
      (h c).2.2⟩) (Cert.MemFwdKernelIdeal.Value.run_blocks (F := Ideal) m ρ),
    (θ_run _ _ _).mono (fun _ h c => ⟨(h c).1.trans ?_, (h c).2.1.trans ?_, (h c).2.2⟩) (Cert.MemFwdReferenceIdeal.Value.run (F := Ideal) m' ρ')⟩
  · rw [Cert.MemFwdReferenceIdeal.Read.val_main_v37_eq, (hag c).1, (hag c).2, hx c, hk c]; exact Cert.MemFwdReferenceIdeal.Hand.ref_o _ _
  · rw [Cert.MemFwdReferenceIdeal.Read.val_main_v40_eq, (hag c).1, (hag c).2, hx c, hk c]; exact Cert.MemFwdReferenceIdeal.Hand.ref_l _ _

end MemFwdClaims

namespace CombineClaims

theorem frame_k : Cert.quiescent_CombineKernel := fun m ρ _ => Cert.CombineKernel.Gen.frame m ρ
theorem frame_i : Cert.quiescent_CombineKernelIdeal := fun m ρ _ => Cert.CombineKernelIdeal.Gen.frame m ρ
theorem frame_r : Cert.quiescent_CombineReferenceIdeal := fun m ρ _ =>
  (θ_run Cert.CombineReferenceIdeal.defs _ _).mono (fun r h => ⟨fun c => (h c).2.2, sem_eq_zero_of_no_sems (by decide) r.2⟩)
    (Cert.CombineReferenceIdeal.Value.run (F := Ideal) m ρ)
theorem preserves : Cert.preserves_CombineKernel_CombineKernelIdeal := trivial

/-- What the precondition says: the groups' outputs and logs of denominators hold real numbers. -/
theorem finite [Cert.Pre_combine_finite.Facts] (x0 x1 x2 x3 x4 x5) (h : Cert.Pre_combine_finite.fn (F := Ideal) x0 x1 x2 x3 x4 x5 = fun _ => 1#1) :
    ∃ A B C D E G, x0 = Cert.CombineReal.up A ∧ x1 = Cert.CombineReal.up B ∧ x2 = Cert.CombineReal.up C
      ∧ x3 = Cert.CombineReal.up D ∧ x4 = Cert.CombineReal.up E ∧ x5 = Cert.CombineReal.up G := by
  obtain ⟨h, h5⟩ := Cert.Reals.and_one _ _ (congrFun h default)
  obtain ⟨h, h4⟩ := Cert.Reals.and_one _ _ h
  obtain ⟨h, h3⟩ := Cert.Reals.and_one _ _ h
  obtain ⟨h, h2⟩ := Cert.Reals.and_one _ _ h
  obtain ⟨h0, h1⟩ := Cert.Reals.and_one _ _ h
  obtain ⟨A, e0⟩ := Cert.Reals.finite_array _ _ _ _ _ h0
  obtain ⟨B, e1⟩ := Cert.Reals.finite_array _ _ _ _ _ h1
  obtain ⟨C, e2⟩ := Cert.Reals.finite_array _ _ _ _ _ h2
  obtain ⟨D, e3⟩ := Cert.Reals.finite_array _ _ _ _ _ h3
  obtain ⟨E, e4⟩ := Cert.Reals.finite_array _ _ _ _ _ h4
  obtain ⟨G, e5⟩ := Cert.Reals.finite_array _ _ _ _ _ h5
  exact ⟨A, B, C, D, E, G, e0, e1, e2, e3, e4, e5⟩

theorem algebraic [Cert.Pre_combine_finite.Facts] : Cert.algebraic_CombineKernelIdeal_CombineReferenceIdeal_pre_combine_finite := by
  intro m ρ m' ρ' hpre hag
  choose A B C D E G a b c' d e g using fun c => finite _ _ _ _ _ _ (hpre c)
  refine ⟨fun c => Cert.CombineReal.outO (A c) (B c) (C c) (D c) (E c) (G c), fun c => Cert.CombineReal.outL (D c) (E c) (G c),
    (θ_run _ _ _).mono (fun _ h c => ⟨(h c).1.trans (Cert.CombineKernelIdeal.Hand.final_o m c _ _ _ _ _ _ (a c) (b c) (c' c) (d c) (e c) (g c)),
      (h c).2.1.trans (Cert.CombineKernelIdeal.Hand.final_l m c _ _ _ (d c) (e c) (g c)),
      (h c).2.2⟩) (Cert.CombineKernelIdeal.Value.run_blocks (F := Ideal) m ρ),
    (θ_run _ _ _).mono (fun _ h c => ⟨(h c).1.trans ?_, (h c).2.1.trans ?_, (h c).2.2⟩) (Cert.CombineReferenceIdeal.Value.run (F := Ideal) m' ρ')⟩
  · rw [Cert.CombineReferenceIdeal.Read.val_main_v34_eq, (hag c).1, (hag c).2.1, (hag c).2.2.1, (hag c).2.2.2.1, (hag c).2.2.2.2.1, (hag c).2.2.2.2.2,
      a c, b c, c' c, d c, e c, g c]
    exact Cert.CombineReferenceIdeal.Hand.ref_o _ _ _ _ _ _
  · rw [Cert.CombineReferenceIdeal.Read.val_main_v36_eq, (hag c).2.2.2.1, (hag c).2.2.2.2.1, (hag c).2.2.2.2.2, d c, e c, g c]
    exact Cert.CombineReferenceIdeal.Hand.ref_l _ _ _

end CombineClaims

namespace Band0FwdClaims

theorem frame_k : Cert.quiescent_Band0FwdKernel := fun m ρ _ => Cert.Band0FwdKernel.Gen.frame m ρ
theorem frame_i : Cert.quiescent_Band0FwdKernelIdeal := fun m ρ _ => Cert.Band0FwdKernelIdeal.Gen.frame m ρ
theorem frame_r : Cert.quiescent_Band0FwdReferenceIdeal := fun m ρ _ =>
  (θ_run Cert.Band0FwdReferenceIdeal.defs _ _).mono (fun r h => ⟨fun c => (h c).2.2, sem_eq_zero_of_no_sems (by decide) r.2⟩)
    (Cert.Band0FwdReferenceIdeal.Value.run (F := Ideal) m ρ)
theorem preserves : Cert.preserves_Band0FwdKernel_Band0FwdKernelIdeal :=
  IdealRules.named_const.statement Cert.Band0FwdKernelIdeal.κ "mask" .f32 0xF149F2CA#32 ⊥ rfl

open Cert.Band0DqReferenceIdeal.Hand (up)

/-- What the precondition says: the queries, the keys and the values hold real numbers. -/
theorem finite [Cert.Pre_bandfwd_finite.Facts] (x0 x1 x2 x3) (h : Cert.Pre_bandfwd_finite.fn (F := Ideal) x0 x1 x2 x3 = fun _ => 1#1) :
    ∃ X K V, x0 = up X ∧ x1 = up K ∧ x2 = up V := by
  obtain ⟨h01, h2⟩ := Cert.Reals.and_one _ _ (congrFun h default)
  obtain ⟨h0, h1⟩ := Cert.Reals.and_one _ _ h01
  obtain ⟨X, e0⟩ := Cert.Reals.finite_array _ _ _ _ _ h0
  obtain ⟨K, e1⟩ := Cert.Reals.finite_array _ _ _ _ _ h1
  obtain ⟨V, e2⟩ := Cert.Reals.finite_array _ _ _ _ _ h2
  exact ⟨X, K, V, e0, e1, e2⟩

theorem algebraic [Cert.Pre_bandfwd_finite.Facts] : Cert.algebraic_Band0FwdKernelIdeal_Band0FwdReferenceIdeal_pre_bandfwd_finite := by
  intro m ρ m' ρ' hpre hag
  choose X K V hX hK hV using fun c => finite _ _ _ _ (hpre c)
  refine ⟨fun c => Cert.Band0FwdKernelIdeal.Hand.out (Cert.BandFwdTile.oW (X c) (K c) (V c)), fun c => Cert.Band0FwdKernelIdeal.Hand.out (Cert.BandFwdTile.lW (X c) (K c)),
    (θ_run _ _ _).mono (fun _ h c => ⟨(h c).1.trans (Cert.Band0FwdKernelIdeal.Hand.final_o m c _ _ _ (hX c) (hK c) (hV c)),
      (h c).2.1.trans (Cert.Band0FwdKernelIdeal.Hand.final_l m c _ _ _ (hX c) (hK c) (hV c)), (h c).2.2⟩) (Cert.Band0FwdKernelIdeal.Value.run_blocks (F := Ideal) m ρ),
    (θ_run _ _ _).mono (fun _ h c => ⟨(h c).1.trans ?_, (h c).2.1.trans ?_, (h c).2.2⟩) (Cert.Band0FwdReferenceIdeal.Value.run (F := Ideal) m' ρ')⟩
  · rw [Cert.Band0FwdReferenceIdeal.Read.val_main_v53_eq]
    exact (congr (congr (congrArg (Cert.Band0FwdReferenceIdeal.Read.val_main_v53 (F := Ideal)) ((hag c).1.trans (hX c))) ((hag c).2.1.trans (hK c))) ((hag c).2.2.1.trans (hV c))).trans
      (Cert.Band0FwdReferenceIdeal.Hand.ref_o _ _ _)
  · rw [Cert.Band0FwdReferenceIdeal.Read.val_main_v54_eq]
    exact (congr (congrArg (Cert.Band0FwdReferenceIdeal.Read.val_main_v54 (F := Ideal)) ((hag c).1.trans (hX c))) ((hag c).2.1.trans (hK c))).trans (Cert.Band0FwdReferenceIdeal.Hand.ref_l _ _)

end Band0FwdClaims

namespace Band1FwdClaims

theorem frame_k : Cert.quiescent_Band1FwdKernel := fun m ρ _ => Cert.Band1FwdKernel.Gen.frame m ρ
theorem frame_i : Cert.quiescent_Band1FwdKernelIdeal := fun m ρ _ => Cert.Band1FwdKernelIdeal.Gen.frame m ρ
theorem frame_r : Cert.quiescent_Band1FwdReferenceIdeal := fun m ρ _ =>
  (θ_run Cert.Band1FwdReferenceIdeal.defs _ _).mono (fun r h => ⟨fun c => (h c).2.2, sem_eq_zero_of_no_sems (by decide) r.2⟩)
    (Cert.Band1FwdReferenceIdeal.Value.run (F := Ideal) m ρ)
theorem preserves : Cert.preserves_Band1FwdKernel_Band1FwdKernelIdeal :=
  IdealRules.named_const.statement Cert.Band1FwdKernelIdeal.κ "mask" .f32 0xF149F2CA#32 ⊥ rfl

theorem algebraic [Cert.Pre_bandfwd_finite.Facts] : Cert.algebraic_Band1FwdKernelIdeal_Band1FwdReferenceIdeal_pre_bandfwd_finite := by
  intro m ρ m' ρ' hpre hag
  choose X K V hX hK hV using fun c => Cert.Proof.Band0FwdClaims.finite _ _ _ _ (hpre c)
  refine ⟨fun c => Cert.Band1FwdKernelIdeal.Hand.out (Cert.BandFwdTile.oW (X c) (K c) (V c)), fun c => Cert.Band1FwdKernelIdeal.Hand.out (Cert.BandFwdTile.lW (X c) (K c)),
    (θ_run _ _ _).mono (fun _ h c => ⟨(h c).1.trans (Cert.Band1FwdKernelIdeal.Hand.final_o m c _ _ _ (hX c) (hK c) (hV c)),
      (h c).2.1.trans (Cert.Band1FwdKernelIdeal.Hand.final_l m c _ _ _ (hX c) (hK c) (hV c)), (h c).2.2⟩) (Cert.Band1FwdKernelIdeal.Value.run_blocks (F := Ideal) m ρ),
    (θ_run _ _ _).mono (fun _ h c => ⟨(h c).1.trans ?_, (h c).2.1.trans ?_, (h c).2.2⟩) (Cert.Band1FwdReferenceIdeal.Value.run (F := Ideal) m' ρ')⟩
  · rw [Cert.Band1FwdReferenceIdeal.Read.val_main_v54_eq]
    exact (congr (congr (congrArg (Cert.Band1FwdReferenceIdeal.Read.val_main_v54 (F := Ideal)) ((hag c).1.trans (hX c))) ((hag c).2.1.trans (hK c))) ((hag c).2.2.1.trans (hV c))).trans
      (Cert.Band1FwdReferenceIdeal.Hand.ref_o _ _ _)
  · rw [Cert.Band1FwdReferenceIdeal.Read.val_main_v56_eq]
    exact (congr (congrArg (Cert.Band1FwdReferenceIdeal.Read.val_main_v56 (F := Ideal)) ((hag c).1.trans (hX c))) ((hag c).2.1.trans (hK c))).trans (Cert.Band1FwdReferenceIdeal.Hand.ref_l _ _)

end Band1FwdClaims

namespace Band2FwdClaims

theorem frame_k : Cert.quiescent_Band2FwdKernel := fun m ρ _ => Cert.Band2FwdKernel.Gen.frame m ρ
theorem frame_i : Cert.quiescent_Band2FwdKernelIdeal := fun m ρ _ => Cert.Band2FwdKernelIdeal.Gen.frame m ρ
theorem frame_r : Cert.quiescent_Band2FwdReferenceIdeal := fun m ρ _ =>
  (θ_run Cert.Band2FwdReferenceIdeal.defs _ _).mono (fun r h => ⟨fun c => (h c).2.2, sem_eq_zero_of_no_sems (by decide) r.2⟩)
    (Cert.Band2FwdReferenceIdeal.Value.run (F := Ideal) m ρ)
theorem preserves : Cert.preserves_Band2FwdKernel_Band2FwdKernelIdeal :=
  IdealRules.named_const.statement Cert.Band2FwdKernelIdeal.κ "mask" .f32 0xF149F2CA#32 ⊥ rfl

theorem algebraic [Cert.Pre_bandfwd_finite.Facts] : Cert.algebraic_Band2FwdKernelIdeal_Band2FwdReferenceIdeal_pre_bandfwd_finite := by
  intro m ρ m' ρ' hpre hag
  choose X K V hX hK hV using fun c => Cert.Proof.Band0FwdClaims.finite _ _ _ _ (hpre c)
  refine ⟨fun c => Cert.Band2FwdKernelIdeal.Hand.out (Cert.BandFwdTile.oW (X c) (K c) (V c)), fun c => Cert.Band2FwdKernelIdeal.Hand.out (Cert.BandFwdTile.lW (X c) (K c)),
    (θ_run _ _ _).mono (fun _ h c => ⟨(h c).1.trans (Cert.Band2FwdKernelIdeal.Hand.final_o m c _ _ _ (hX c) (hK c) (hV c)),
      (h c).2.1.trans (Cert.Band2FwdKernelIdeal.Hand.final_l m c _ _ _ (hX c) (hK c) (hV c)), (h c).2.2⟩) (Cert.Band2FwdKernelIdeal.Value.run_blocks (F := Ideal) m ρ),
    (θ_run _ _ _).mono (fun _ h c => ⟨(h c).1.trans ?_, (h c).2.1.trans ?_, (h c).2.2⟩) (Cert.Band2FwdReferenceIdeal.Value.run (F := Ideal) m' ρ')⟩
  · rw [Cert.Band2FwdReferenceIdeal.Read.val_main_v54_eq]
    exact (congr (congr (congrArg (Cert.Band2FwdReferenceIdeal.Read.val_main_v54 (F := Ideal)) ((hag c).1.trans (hX c))) ((hag c).2.1.trans (hK c))) ((hag c).2.2.1.trans (hV c))).trans
      (Cert.Band2FwdReferenceIdeal.Hand.ref_o _ _ _)
  · rw [Cert.Band2FwdReferenceIdeal.Read.val_main_v56_eq]
    exact (congr (congrArg (Cert.Band2FwdReferenceIdeal.Read.val_main_v56 (F := Ideal)) ((hag c).1.trans (hX c))) ((hag c).2.1.trans (hK c))).trans (Cert.Band2FwdReferenceIdeal.Hand.ref_l _ _)

end Band2FwdClaims

namespace FfnFwdClaims

theorem frame_k : Cert.quiescent_FfnFwdKernel := fun m ρ _ => Cert.FfnFwdKernel.Gen.frame m ρ
theorem frame_i : Cert.quiescent_FfnFwdKernelIdeal := fun m ρ _ => Cert.FfnFwdKernelIdeal.Gen.frame m ρ
theorem frame_r : Cert.quiescent_FfnFwdReferenceIdeal := fun m ρ _ =>
  (θ_run Cert.FfnFwdReferenceIdeal.defs _ _).mono (fun r h => ⟨fun c => (h c).2.2.2.2.2, sem_eq_zero_of_no_sems (by decide) r.2⟩)
    (Cert.FfnFwdReferenceIdeal.Value.run (F := Ideal) m ρ)
theorem preserves : Cert.preserves_FfnFwdKernel_FfnFwdKernelIdeal := trivial

theorem algebraic : Cert.algebraic_FfnFwdKernelIdeal_FfnFwdReferenceIdeal := by
  intro m ρ m' ρ' _ hag
  refine ⟨_, _, _, _, _, (θ_run _ _ _).mono (fun _ h c => ⟨(h c).1.trans (Cert.FfnFwdKernelIdeal.Hand.final_g m c),
      (h c).2.1.trans (Cert.FfnFwdKernelIdeal.Hand.final_u m c), (h c).2.2.1.trans (Cert.FfnFwdKernelIdeal.Hand.final_r m c),
      (h c).2.2.2.1.trans (Cert.FfnFwdKernelIdeal.Hand.final_y m c), (h c).2.2.2.2.1.trans (Cert.FfnFwdKernelIdeal.Hand.final_yb m c), (h c).2.2.2.2.2⟩) (Cert.FfnFwdKernelIdeal.Value.run_blocks (F := Ideal) m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2⟩) (Cert.FfnFwdReferenceIdeal.Value.run (F := Ideal) m' ρ')⟩
  · rw [Cert.FfnFwdReferenceIdeal.Read.val_main_v35_eq, (hag c).1, (hag c).2.1]; exact Cert.FfnFwdReferenceIdeal.Hand.ref_g _ _
  · rw [Cert.FfnFwdReferenceIdeal.Read.val_main_v36_eq, (hag c).1, (hag c).2.1]; exact Cert.FfnFwdReferenceIdeal.Hand.ref_u _ _
  · rw [Cert.FfnFwdReferenceIdeal.Read.val_main_v10_eq, (hag c).1, (hag c).2.1, (hag c).2.2.1]; exact Cert.FfnFwdReferenceIdeal.Hand.ref_r _ _ _
  · rw [Cert.FfnFwdReferenceIdeal.Read.val_main_v34_eq, (hag c).1, (hag c).2.1, (hag c).2.2.1, (hag c).2.2.2.1, (hag c).2.2.2.2]; exact Cert.FfnFwdReferenceIdeal.Hand.ref_y _ _ _ _ _
  · rw [Cert.FfnFwdReferenceIdeal.Read.val_main_v37_eq, (hag c).1, (hag c).2.1, (hag c).2.2.1, (hag c).2.2.2.1, (hag c).2.2.2.2]; exact Cert.FfnFwdReferenceIdeal.Hand.ref_yb _ _ _ _ _

end FfnFwdClaims

namespace AOutClaims

theorem frame_k : Cert.quiescent_AOutKernel := fun m ρ _ => Cert.AOutKernel.Gen.frame m ρ
theorem frame_i : Cert.quiescent_AOutKernelIdeal := fun m ρ _ => Cert.AOutKernelIdeal.Gen.frame m ρ
theorem frame_r : Cert.quiescent_AOutReferenceIdeal := fun m ρ _ =>
  (θ_run Cert.AOutReferenceIdeal.defs _ _).mono (fun r h => ⟨fun c => (h c).2.2.2, sem_eq_zero_of_no_sems (by decide) r.2⟩)
    (Cert.AOutReferenceIdeal.Value.run (F := Ideal) m ρ)
theorem preserves : Cert.preserves_AOutKernel_AOutKernelIdeal := trivial

theorem algebraic : Cert.algebraic_AOutKernelIdeal_AOutReferenceIdeal := by
  intro m ρ m' ρ' _ hag
  refine ⟨_, _, _, (θ_run _ _ _).mono (fun _ h c => ⟨(h c).1.trans (Cert.AOutKernelIdeal.Hand.final_r m c),
      (h c).2.1.trans (Cert.AOutKernelIdeal.Hand.final_y m c), (h c).2.2.1.trans (Cert.AOutKernelIdeal.Hand.final_yb m c), (h c).2.2.2⟩) (Cert.AOutKernelIdeal.Value.run_blocks (F := Ideal) m ρ),
    (θ_run _ _ _).mono (fun _ h c => ⟨(h c).1.trans ?_, (h c).2.1.trans ?_, (h c).2.2.1.trans ?_, (h c).2.2.2⟩) (Cert.AOutReferenceIdeal.Value.run (F := Ideal) m' ρ')⟩
  · rw [Cert.AOutReferenceIdeal.Read.val_main_v3_eq, (hag c).1, (hag c).2.1, (hag c).2.2.1]; exact Cert.AOutReferenceIdeal.Hand.ref_r _ _ _
  · rw [Cert.AOutReferenceIdeal.Read.val_main_v27_eq, (hag c).1, (hag c).2.1, (hag c).2.2.1, (hag c).2.2.2.1, (hag c).2.2.2.2]; exact Cert.AOutReferenceIdeal.Hand.ref_y _ _ _ _ _
  · rw [Cert.AOutReferenceIdeal.Read.val_main_v28_eq, (hag c).1, (hag c).2.1, (hag c).2.2.1, (hag c).2.2.2.1, (hag c).2.2.2.2]; exact Cert.AOutReferenceIdeal.Hand.ref_yb _ _ _ _ _

end AOutClaims

namespace BOutClaims

theorem frame_k : Cert.quiescent_BOutKernel := fun m ρ _ => Cert.BOutKernel.Gen.frame m ρ
theorem frame_i : Cert.quiescent_BOutKernelIdeal := fun m ρ _ => Cert.BOutKernelIdeal.Gen.frame m ρ
theorem frame_r : Cert.quiescent_BOutReferenceIdeal := fun m ρ _ =>
  (θ_run Cert.BOutReferenceIdeal.defs _ _).mono (fun r h => ⟨fun c => (h c).2.2.2, sem_eq_zero_of_no_sems (by decide) r.2⟩)
    (Cert.BOutReferenceIdeal.Value.run (F := Ideal) m ρ)
theorem preserves : Cert.preserves_BOutKernel_BOutKernelIdeal := trivial

theorem algebraic : Cert.algebraic_BOutKernelIdeal_BOutReferenceIdeal := by
  intro m ρ m' ρ' _ hag
  refine ⟨_, _, _, (θ_run _ _ _).mono (fun _ h c => ⟨(h c).1.trans (Cert.BOutKernelIdeal.Hand.final_r m c),
      (h c).2.1.trans (Cert.BOutKernelIdeal.Hand.final_y m c), (h c).2.2.1.trans (Cert.BOutKernelIdeal.Hand.final_yb m c), (h c).2.2.2⟩) (Cert.BOutKernelIdeal.Value.run_blocks (F := Ideal) m ρ),
    (θ_run _ _ _).mono (fun _ h c => ⟨(h c).1.trans ?_, (h c).2.1.trans ?_, (h c).2.2.1.trans ?_, (h c).2.2.2⟩) (Cert.BOutReferenceIdeal.Value.run (F := Ideal) m' ρ')⟩
  · rw [Cert.BOutReferenceIdeal.Read.val_main_v3_eq, (hag c).1, (hag c).2.1, (hag c).2.2.1]; exact Cert.BOutReferenceIdeal.Hand.ref_r _ _ _
  · rw [Cert.BOutReferenceIdeal.Read.val_main_v27_eq, (hag c).1, (hag c).2.1, (hag c).2.2.1, (hag c).2.2.2.1, (hag c).2.2.2.2]; exact Cert.BOutReferenceIdeal.Hand.ref_y _ _ _ _ _
  · rw [Cert.BOutReferenceIdeal.Read.val_main_v28_eq, (hag c).1, (hag c).2.1, (hag c).2.2.1, (hag c).2.2.2.1, (hag c).2.2.2.2]; exact Cert.BOutReferenceIdeal.Hand.ref_yb _ _ _ _ _

end BOutClaims

theorem claim : Cert.Claim :=
  ⟨Cert.FoxKernel.Gen.facts,
    Cert.FoxKernelIdeal.Gen.facts,
    Cert.FoxReferenceIdeal.Gen.facts,
    Cert.GateKernel.Gen.facts,
    Cert.GateKernelIdeal.Gen.facts,
    Cert.GateReferenceIdeal.Gen.facts,
    Cert.Band0DqKernel.Gen.facts,
    Cert.Band0DqKernelIdeal.Gen.facts,
    Cert.Band0DqReferenceIdeal.Gen.facts,
    Cert.Band0DkvKernel.Gen.facts,
    Cert.Band0DkvKernelIdeal.Gen.facts,
    Cert.Band0DkvReferenceIdeal.Gen.facts,
    Cert.Band1DqKernel.Gen.facts,
    Cert.Band1DqKernelIdeal.Gen.facts,
    Cert.Band1DqReferenceIdeal.Gen.facts,
    Cert.Band1DkvKernel.Gen.facts,
    Cert.Band1DkvKernelIdeal.Gen.facts,
    Cert.Band1DkvReferenceIdeal.Gen.facts,
    Cert.Band2DqKernel.Gen.facts,
    Cert.Band2DqKernelIdeal.Gen.facts,
    Cert.Band2DqReferenceIdeal.Gen.facts,
    Cert.Band2DkvKernel.Gen.facts,
    Cert.Band2DkvKernelIdeal.Gen.facts,
    Cert.Band2DkvReferenceIdeal.Gen.facts,
    Cert.MemKernel.Gen.facts,
    Cert.MemKernelIdeal.Gen.facts,
    Cert.MemReferenceIdeal.Gen.facts,
    Cert.FfnKernel.Gen.facts,
    Cert.FfnKernelIdeal.Gen.facts,
    Cert.FfnReferenceIdeal.Gen.facts,
    Cert.LnKernel.Gen.facts,
    Cert.LnKernelIdeal.Gen.facts,
    Cert.LnReferenceIdeal.Gen.facts,
    Cert.RopeKernel.Gen.facts,
    Cert.RopeKernelIdeal.Gen.facts,
    Cert.RopeReferenceIdeal.Gen.facts,
    Cert.LossKernel.Gen.facts,
    Cert.LossKernelIdeal.Gen.facts,
    Cert.LossReferenceIdeal.Gen.facts,
    Cert.MemFwdKernel.Gen.facts,
    Cert.MemFwdKernelIdeal.Gen.facts,
    Cert.MemFwdReferenceIdeal.Gen.facts,
    Cert.CombineKernel.Gen.facts,
    Cert.CombineKernelIdeal.Gen.facts,
    Cert.CombineReferenceIdeal.Gen.facts,
    Cert.Band0FwdKernel.Gen.facts,
    Cert.Band0FwdKernelIdeal.Gen.facts,
    Cert.Band0FwdReferenceIdeal.Gen.facts,
    Cert.Band1FwdKernel.Gen.facts,
    Cert.Band1FwdKernelIdeal.Gen.facts,
    Cert.Band1FwdReferenceIdeal.Gen.facts,
    Cert.Band2FwdKernel.Gen.facts,
    Cert.Band2FwdKernelIdeal.Gen.facts,
    Cert.Band2FwdReferenceIdeal.Gen.facts,
    Cert.FfnFwdKernel.Gen.facts,
    Cert.FfnFwdKernelIdeal.Gen.facts,
    Cert.FfnFwdReferenceIdeal.Gen.facts,
    Cert.AOutKernel.Gen.facts,
    Cert.AOutKernelIdeal.Gen.facts,
    Cert.AOutReferenceIdeal.Gen.facts,
    Cert.BOutKernel.Gen.facts,
    Cert.BOutKernelIdeal.Gen.facts,
    Cert.BOutReferenceIdeal.Gen.facts,
    Cert.Pre_fox_finite.Gen.facts,
    Cert.Pre_gate_finite.Gen.facts,
    Cert.Pre_band_finite.Gen.facts,
    Cert.Pre_mem_finite.Gen.facts,
    Cert.Pre_ffn_finite.Gen.facts,
    Cert.Pre_ln_finite.Gen.facts,
    Cert.Pre_memfwd_finite.Gen.facts,
    Cert.Pre_combine_finite.Gen.facts,
    Cert.Pre_bandfwd_finite.Gen.facts,
    Cert.On_decay_lanes.Gen.facts,
    FoxClaims.frame_k,
    FoxClaims.frame_i,
    (fun m ρ _ => FoxClaims.frame_i m ρ trivial),
    FoxClaims.frame_r,
    (fun m ρ _ => FoxClaims.frame_r m ρ trivial),
    GateClaims.frame_k,
    GateClaims.frame_i,
    (fun m ρ _ => GateClaims.frame_i m ρ trivial),
    GateClaims.frame_r,
    (fun m ρ _ => GateClaims.frame_r m ρ trivial),
    Band0DqClaims.frame_k,
    Band0DqClaims.frame_i,
    (fun m ρ _ => Band0DqClaims.frame_i m ρ trivial),
    Band0DqClaims.frame_r,
    (fun m ρ _ => Band0DqClaims.frame_r m ρ trivial),
    Band0DkvClaims.frame_k,
    Band0DkvClaims.frame_i,
    (fun m ρ _ => Band0DkvClaims.frame_i m ρ trivial),
    Band0DkvClaims.frame_r,
    (fun m ρ _ => Band0DkvClaims.frame_r m ρ trivial),
    Band1DqClaims.frame_k,
    Band1DqClaims.frame_i,
    (fun m ρ _ => Band1DqClaims.frame_i m ρ trivial),
    Band1DqClaims.frame_r,
    (fun m ρ _ => Band1DqClaims.frame_r m ρ trivial),
    Band1DkvClaims.frame_k,
    Band1DkvClaims.frame_i,
    (fun m ρ _ => Band1DkvClaims.frame_i m ρ trivial),
    Band1DkvClaims.frame_r,
    (fun m ρ _ => Band1DkvClaims.frame_r m ρ trivial),
    Band2DqClaims.frame_k,
    Band2DqClaims.frame_i,
    (fun m ρ _ => Band2DqClaims.frame_i m ρ trivial),
    Band2DqClaims.frame_r,
    (fun m ρ _ => Band2DqClaims.frame_r m ρ trivial),
    Band2DkvClaims.frame_k,
    Band2DkvClaims.frame_i,
    (fun m ρ _ => Band2DkvClaims.frame_i m ρ trivial),
    Band2DkvClaims.frame_r,
    (fun m ρ _ => Band2DkvClaims.frame_r m ρ trivial),
    MemClaims.frame_k,
    MemClaims.frame_i,
    (fun m ρ _ => MemClaims.frame_i m ρ trivial),
    MemClaims.frame_r,
    (fun m ρ _ => MemClaims.frame_r m ρ trivial),
    FfnClaims.frame_k,
    FfnClaims.frame_i,
    (fun m ρ _ => FfnClaims.frame_i m ρ trivial),
    FfnClaims.frame_r,
    (fun m ρ _ => FfnClaims.frame_r m ρ trivial),
    LnClaims.frame_k,
    LnClaims.frame_i,
    (fun m ρ _ => LnClaims.frame_i m ρ trivial),
    LnClaims.frame_r,
    (fun m ρ _ => LnClaims.frame_r m ρ trivial),
    RopeClaims.frame_k,
    RopeClaims.frame_i,
    RopeClaims.frame_r,
    LossClaims.frame_k,
    LossClaims.frame_i,
    LossClaims.frame_r,
    MemFwdClaims.frame_k,
    MemFwdClaims.frame_i,
    (fun m ρ _ => MemFwdClaims.frame_i m ρ trivial),
    MemFwdClaims.frame_r,
    (fun m ρ _ => MemFwdClaims.frame_r m ρ trivial),
    CombineClaims.frame_k,
    CombineClaims.frame_i,
    (fun m ρ _ => CombineClaims.frame_i m ρ trivial),
    CombineClaims.frame_r,
    (fun m ρ _ => CombineClaims.frame_r m ρ trivial),
    Band0FwdClaims.frame_k,
    Band0FwdClaims.frame_i,
    (fun m ρ _ => Band0FwdClaims.frame_i m ρ trivial),
    Band0FwdClaims.frame_r,
    (fun m ρ _ => Band0FwdClaims.frame_r m ρ trivial),
    Band1FwdClaims.frame_k,
    Band1FwdClaims.frame_i,
    (fun m ρ _ => Band1FwdClaims.frame_i m ρ trivial),
    Band1FwdClaims.frame_r,
    (fun m ρ _ => Band1FwdClaims.frame_r m ρ trivial),
    Band2FwdClaims.frame_k,
    Band2FwdClaims.frame_i,
    (fun m ρ _ => Band2FwdClaims.frame_i m ρ trivial),
    Band2FwdClaims.frame_r,
    (fun m ρ _ => Band2FwdClaims.frame_r m ρ trivial),
    FfnFwdClaims.frame_k,
    FfnFwdClaims.frame_i,
    FfnFwdClaims.frame_r,
    AOutClaims.frame_k,
    AOutClaims.frame_i,
    AOutClaims.frame_r,
    BOutClaims.frame_k,
    BOutClaims.frame_i,
    BOutClaims.frame_r,
    FoxClaims.preserves,
    FoxClaims.algebraic,
    GateClaims.preserves,
    GateClaims.algebraic,
    Band0DqClaims.preserves,
    Band0DqClaims.algebraic,
    Band0DkvClaims.preserves,
    Band0DkvClaims.algebraic,
    Band1DqClaims.preserves,
    Band1DqClaims.algebraic,
    Band1DkvClaims.preserves,
    Band1DkvClaims.algebraic,
    Band2DqClaims.preserves,
    Band2DqClaims.algebraic,
    Band2DkvClaims.preserves,
    Band2DkvClaims.algebraic,
    MemClaims.preserves,
    MemClaims.algebraic,
    FfnClaims.preserves,
    FfnClaims.algebraic,
    LnClaims.preserves,
    LnClaims.algebraic,
    RopeClaims.preserves,
    RopeClaims.algebraic,
    LossClaims.preserves,
    LossClaims.algebraic,
    MemFwdClaims.preserves,
    MemFwdClaims.algebraic,
    CombineClaims.preserves,
    CombineClaims.algebraic,
    Band0FwdClaims.preserves,
    Band0FwdClaims.algebraic,
    Band1FwdClaims.preserves,
    Band1FwdClaims.algebraic,
    Band2FwdClaims.preserves,
    Band2FwdClaims.algebraic,
    FfnFwdClaims.preserves,
    FfnFwdClaims.algebraic,
    AOutClaims.preserves,
    AOutClaims.algebraic,
    BOutClaims.preserves,
    BOutClaims.algebraic⟩

end Cert.Proof

end
